-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DxFfn (m : (ℓ : Loc Cert.DxFfn.nD Cert.DxFfn.τ Cert.DxFfn.sig) → Buf (Elt Bits) ℓ) : Prop :=
  True

def Pre_DxFfnIdeal (m : (ℓ : Loc Cert.DxFfnIdeal.nD Cert.DxFfnIdeal.τ Cert.DxFfnIdeal.sig) → Buf (Elt Ideal) ℓ) : Prop :=
  True

def Pre_DxFfnRefIdeal (m : (ℓ : Loc Cert.DxFfnRefIdeal.nD Cert.DxFfnRefIdeal.τ Cert.DxFfnRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInRefIdeal (m : (ℓ : Loc Cert.MixerInRefIdeal.nD Cert.MixerInRefIdeal.τ Cert.MixerInRefIdeal.sig) → Buf (Elt Ideal) ℓ) : Prop :=
  True

def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuIdeal_finite_ffn_up [hPre_finite_ffn_up : Cert.Pre_finite_ffn_up.Facts] (m : (ℓ : Loc Cert.FfnGuIdeal.nD Cert.FfnGuIdeal.τ Cert.FfnGuIdeal.sig) → Buf (Elt Ideal) ℓ) : Prop :=
  ∀ c : Dev Cert.FfnGuIdeal.nD,
    (Cert.Pre_finite_ffn_up.fn (F := Ideal) (m ((c.tc : Thread Cert.FfnGuIdeal.nD Cert.FfnGuIdeal.τ).loc Cert.FfnGuIdeal.main_arg0)) (m ((c.tc : Thread Cert.FfnGuIdeal.nD Cert.FfnGuIdeal.τ).loc Cert.FfnGuIdeal.main_arg1)) (m ((c.tc : Thread Cert.FfnGuIdeal.nD Cert.FfnGuIdeal.τ).loc Cert.FfnGuIdeal.main_arg2))).1 = (fun _ => 1#1)
    ∧ (Cert.Pre_finite_ffn_up.fn (F := Ideal) (m ((c.tc : Thread Cert.FfnGuIdeal.nD Cert.FfnGuIdeal.τ).loc Cert.FfnGuIdeal.main_arg0)) (m ((c.tc : Thread Cert.FfnGuIdeal.nD Cert.FfnGuIdeal.τ).loc Cert.FfnGuIdeal.main_arg1)) (m ((c.tc : Thread Cert.FfnGuIdeal.nD Cert.FfnGuIdeal.τ).loc Cert.FfnGuIdeal.main_arg2))).2 = (fun _ => 1#1)

def Pre_FfnGuRefIdeal (m : (ℓ : Loc Cert.FfnGuRefIdeal.nD Cert.FfnGuRefIdeal.τ Cert.FfnGuRefIdeal.sig) → Buf (Elt Ideal) ℓ) : Prop :=
  True

def Pre_FfnGuRefIdeal_finite_ffn_up [hPre_finite_ffn_up : Cert.Pre_finite_ffn_up.Facts] (m : (ℓ : Loc Cert.FfnGuRefIdeal.nD Cert.FfnGuRefIdeal.τ Cert.FfnGuRefIdeal.sig) → Buf (Elt Ideal) ℓ) : Prop :=
  ∀ c : Dev Cert.FfnGuRefIdeal.nD,
    (Cert.Pre_finite_ffn_up.fn (F := Ideal) (m ((c.tc : Thread Cert.FfnGuRefIdeal.nD Cert.FfnGuRefIdeal.τ).loc Cert.FfnGuRefIdeal.main_arg0)) (m ((c.tc : Thread Cert.FfnGuRefIdeal.nD Cert.FfnGuRefIdeal.τ).loc Cert.FfnGuRefIdeal.main_arg1)) (m ((c.tc : Thread Cert.FfnGuRefIdeal.nD Cert.FfnGuRefIdeal.τ).loc Cert.FfnGuRefIdeal.main_arg2))).1 = (fun _ => 1#1)
    ∧ (Cert.Pre_finite_ffn_up.fn (F := Ideal) (m ((c.tc : Thread Cert.FfnGuRefIdeal.nD Cert.FfnGuRefIdeal.τ).loc Cert.FfnGuRefIdeal.main_arg0)) (m ((c.tc : Thread Cert.FfnGuRefIdeal.nD Cert.FfnGuRefIdeal.τ).loc Cert.FfnGuRefIdeal.main_arg1)) (m ((c.tc : Thread Cert.FfnGuRefIdeal.nD Cert.FfnGuRefIdeal.τ).loc Cert.FfnGuRefIdeal.main_arg2))).2 = (fun _ => 1#1)

def Pre_FfnBwdA (m : (ℓ : Loc Cert.FfnBwdA.nD Cert.FfnBwdA.τ Cert.FfnBwdA.sig) → Buf (Elt Bits) ℓ) : Prop :=
  True

def Pre_FfnBwdAIdeal (m : (ℓ : Loc Cert.FfnBwdAIdeal.nD Cert.FfnBwdAIdeal.τ Cert.FfnBwdAIdeal.sig) → Buf (Elt Ideal) ℓ) : Prop :=
  True

def Pre_FfnBwdARefIdeal (m : (ℓ : Loc Cert.FfnBwdARefIdeal.nD Cert.FfnBwdARefIdeal.τ Cert.FfnBwdARefIdeal.sig) → Buf (Elt Ideal) ℓ) : Prop :=
  True

def Pre_MmNorm (m : (ℓ : Loc Cert.MmNorm.nD Cert.MmNorm.τ Cert.MmNorm.sig) → Buf (Elt Bits) ℓ) : Prop :=
  True

def Pre_MmNormIdeal (m : (ℓ : Loc Cert.MmNormIdeal.nD Cert.MmNormIdeal.τ Cert.MmNormIdeal.sig) → Buf (Elt Ideal) ℓ) : Prop :=
  True

def Pre_MmNormRefIdeal (m : (ℓ : Loc Cert.MmNormRefIdeal.nD Cert.MmNormRefIdeal.τ Cert.MmNormRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DxMixer (m : (ℓ : Loc Cert.DxMixer.nD Cert.DxMixer.τ Cert.DxMixer.sig) → Buf (Elt Bits) ℓ) : Prop :=
  True

def Pre_DxMixerIdeal (m : (ℓ : Loc Cert.DxMixerIdeal.nD Cert.DxMixerIdeal.τ Cert.DxMixerIdeal.sig) → Buf (Elt Ideal) ℓ) : Prop :=
  True

def Pre_DxMixerRefIdeal (m : (ℓ : Loc Cert.DxMixerRefIdeal.nD Cert.DxMixerRefIdeal.τ Cert.DxMixerRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_MixerY (m : (ℓ : Loc Cert.MixerY.nD Cert.MixerY.τ Cert.MixerY.sig) → Buf (Elt Bits) ℓ) : Prop :=
  True

def Pre_MixerYIdeal (m : (ℓ : Loc Cert.MixerYIdeal.nD Cert.MixerYIdeal.τ Cert.MixerYIdeal.sig) → Buf (Elt Ideal) ℓ) : Prop :=
  True

def Pre_MixerYRefIdeal (m : (ℓ : Loc Cert.MixerYRefIdeal.nD Cert.MixerYRefIdeal.τ Cert.MixerYRefIdeal.sig) → Buf (Elt Ideal) ℓ) : Prop :=
  True

def Pre_MixerBwdY (m : (ℓ : Loc Cert.MixerBwdY.nD Cert.MixerBwdY.τ Cert.MixerBwdY.sig) → Buf (Elt Bits) ℓ) : Prop :=
  True

def Pre_MixerBwdYIdeal (m : (ℓ : Loc Cert.MixerBwdYIdeal.nD Cert.MixerBwdYIdeal.τ Cert.MixerBwdYIdeal.sig) → Buf (Elt Ideal) ℓ) : Prop :=
  True

def Pre_MixerBwdYRefIdeal (m : (ℓ : Loc Cert.MixerBwdYRefIdeal.nD Cert.MixerBwdYRefIdeal.τ Cert.MixerBwdYRefIdeal.sig) → Buf (Elt Ideal) ℓ) : Prop :=
  True

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossRefIdeal (m : (ℓ : Loc Cert.PleLossRefIdeal.nD Cert.PleLossRefIdeal.τ Cert.PleLossRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_DxFfn [hDxFfn : Cert.DxFfn.Facts] : Prop :=
  ∀ (m : (ℓ : Loc Cert.DxFfn.nD Cert.DxFfn.τ Cert.DxFfn.sig) → Buf (Elt Bits) ℓ) (g : Dev Cert.DxFfn.nD → PrngReg), Pre_DxFfn m →
    θ_run (Cert.DxFfn.defs (F := Bits)) (onTc (τ := Cert.DxFfn.τ) (Cert.DxFfn.main (F := Bits))) ⟨m, fun _ => 0, g⟩ (fun r => (∀ c : Dev Cert.DxFfn.nD,
      r.2.mem ((c.tc : Thread Cert.DxFfn.nD Cert.DxFfn.τ).loc Cert.DxFfn.main_arg0) = m ((c.tc : Thread Cert.DxFfn.nD Cert.DxFfn.τ).loc Cert.DxFfn.main_arg0)
      ∧ r.2.mem ((c.tc : Thread Cert.DxFfn.nD Cert.DxFfn.τ).loc Cert.DxFfn.main_arg1) = m ((c.tc : Thread Cert.DxFfn.nD Cert.DxFfn.τ).loc Cert.DxFfn.main_arg1)
      ∧ r.2.mem ((c.tc : Thread Cert.DxFfn.nD Cert.DxFfn.τ).loc Cert.DxFfn.main_arg2) = m ((c.tc : Thread Cert.DxFfn.nD Cert.DxFfn.τ).loc Cert.DxFfn.main_arg2)
      ∧ r.2.mem ((c.tc : Thread Cert.DxFfn.nD Cert.DxFfn.τ).loc Cert.DxFfn.main_arg3) = m ((c.tc : Thread Cert.DxFfn.nD Cert.DxFfn.τ).loc Cert.DxFfn.main_arg3)
      ∧ r.2.mem ((c.tc : Thread Cert.DxFfn.nD Cert.DxFfn.τ).loc Cert.DxFfn.main_arg4) = m ((c.tc : Thread Cert.DxFfn.nD Cert.DxFfn.τ).loc Cert.DxFfn.main_arg4)
      ∧ r.2.mem ((c.tc : Thread Cert.DxFfn.nD Cert.DxFfn.τ).loc Cert.DxFfn.main_arg5) = m ((c.tc : Thread Cert.DxFfn.nD Cert.DxFfn.τ).loc Cert.DxFfn.main_arg5)
      ∧ r.2.mem ((c.tc : Thread Cert.DxFfn.nD Cert.DxFfn.τ).loc Cert.DxFfn.main_arg6) = m ((c.tc : Thread Cert.DxFfn.nD Cert.DxFfn.τ).loc Cert.DxFfn.main_arg6))
      ∧ r.2.sem = fun _ => 0)

def quiescent_DxFfnIdeal [hDxFfnIdeal : Cert.DxFfnIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg), Pre_DxFfnIdeal m →
    θ_run (Cert.DxFfnIdeal.defs (F := Ideal)) (onTc (τ := Cert.DxFfnIdeal.τ) (Cert.DxFfnIdeal.main (F := Ideal))) ⟨m, fun _ => 0, g⟩ (fun r => (∀ c : Dev Cert.DxFfnIdeal.nD,
      r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
      ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
      ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
      ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3)
      ∧ r.2.mem ((c.tc : Thread Cert.DxFfnIdeal.nD Cert.DxFfnIdeal.τ).loc Cert.DxFfnIdeal.main_arg4) = m ((c.tc : Thread Cert.DxFfnIdeal.nD Cert.DxFfnIdeal.τ).loc Cert.DxFfnIdeal.main_arg4)
      ∧ r.2.mem ((c.tc : Thread Cert.DxFfnIdeal.nD Cert.DxFfnIdeal.τ).loc Cert.DxFfnIdeal.main_arg5) = m ((c.tc : Thread Cert.DxFfnIdeal.nD Cert.DxFfnIdeal.τ).loc Cert.DxFfnIdeal.main_arg5)
      ∧ r.2.mem ((c.tc : Thread Cert.DxFfnIdeal.nD Cert.DxFfnIdeal.τ).loc Cert.DxFfnIdeal.main_arg6) = m ((c.tc : Thread Cert.DxFfnIdeal.nD Cert.DxFfnIdeal.τ).loc Cert.DxFfnIdeal.main_arg6))
      ∧ r.2.sem = fun _ => 0)

def quiescent_DxFfnRefIdeal [hDxFfnRefIdeal : Cert.DxFfnRefIdeal.Facts] : Prop :=
  ∀ (m : (ℓ : Loc Cert.DxFfnRefIdeal.nD Cert.DxFfnRefIdeal.τ Cert.DxFfnRefIdeal.sig) → Buf (Elt Ideal) ℓ) (g : Dev Cert.DxFfnRefIdeal.nD → PrngReg), Pre_DxFfnRefIdeal m →
    θ_run (Cert.DxFfnRefIdeal.defs (F := Ideal)) (onTc (τ := Cert.DxFfnRefIdeal.τ) (Cert.DxFfnRefIdeal.main (F := Ideal))) ⟨m, fun _ => 0, g⟩ (fun r => (∀ c : Dev Cert.DxFfnRefIdeal.nD,
      r.2.mem ((c.tc : Thread Cert.DxFfnRefIdeal.nD Cert.DxFfnRefIdeal.τ).loc Cert.DxFfnRefIdeal.main_arg0) = m ((c.tc : Thread Cert.DxFfnRefIdeal.nD Cert.DxFfnRefIdeal.τ).loc Cert.DxFfnRefIdeal.main_arg0)
      ∧ r.2.mem ((c.tc : Thread Cert.DxFfnRefIdeal.nD Cert.DxFfnRefIdeal.τ).loc Cert.DxFfnRefIdeal.main_arg1) = m ((c.tc : Thread Cert.DxFfnRefIdeal.nD Cert.DxFfnRefIdeal.τ).loc Cert.DxFfnRefIdeal.main_arg1)
      ∧ r.2.mem ((c.tc : Thread Cert.DxFfnRefIdeal.nD Cert.DxFfnRefIdeal.τ).loc Cert.DxFfnRefIdeal.main_arg2) = m ((c.tc : Thread Cert.DxFfnRefIdeal.nD Cert.DxFfnRefIdeal.τ).loc Cert.DxFfnRefIdeal.main_arg2)
      ∧ r.2.mem ((c.tc : Thread Cert.DxFfnRefIdeal.nD Cert.DxFfnRefIdeal.τ).loc Cert.DxFfnRefIdeal.main_arg3) = m ((c.tc : Thread Cert.DxFfnRefIdeal.nD Cert.DxFfnRefIdeal.τ).loc Cert.DxFfnRefIdeal.main_arg3)
      ∧ r.2.mem ((c.tc : Thread Cert.DxFfnRefIdeal.nD Cert.DxFfnRefIdeal.τ).loc Cert.DxFfnRefIdeal.main_arg4) = m ((c.tc : Thread Cert.DxFfnRefIdeal.nD Cert.DxFfnRefIdeal.τ).loc Cert.DxFfnRefIdeal.main_arg4)
      ∧ r.2.mem ((c.tc : Thread Cert.DxFfnRefIdeal.nD Cert.DxFfnRefIdeal.τ).loc Cert.DxFfnRefIdeal.main_arg5) = m ((c.tc : Thread Cert.DxFfnRefIdeal.nD Cert.DxFfnRefIdeal.τ).loc Cert.DxFfnRefIdeal.main_arg5)
      ∧ r.2.mem ((c.tc : Thread Cert.DxFfnRefIdeal.nD Cert.DxFfnRefIdeal.τ).loc Cert.DxFfnRefIdeal.main_arg6) = m ((c.tc : Thread Cert.DxFfnRefIdeal.nD Cert.DxFfnRefIdeal.τ).loc Cert.DxFfnRefIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ r.2.sem = fun _ => 0)

def quiescent_MixerInRefIdeal [hMixerInRefIdeal : Cert.MixerInRefIdeal.Facts] : Prop :=
  ∀ (m : (ℓ : Loc Cert.MixerInRefIdeal.nD Cert.MixerInRefIdeal.τ Cert.MixerInRefIdeal.sig) → Buf (Elt Ideal) ℓ) (g : Dev Cert.MixerInRefIdeal.nD → PrngReg), Pre_MixerInRefIdeal m →
    θ_run (Cert.MixerInRefIdeal.defs (F := Ideal)) (onTc (τ := Cert.MixerInRefIdeal.τ) (Cert.MixerInRefIdeal.main (F := Ideal))) ⟨m, fun _ => 0, g⟩ (fun r => (∀ c : Dev Cert.MixerInRefIdeal.nD,
      r.2.mem ((c.tc : Thread Cert.MixerInRefIdeal.nD Cert.MixerInRefIdeal.τ).loc Cert.MixerInRefIdeal.main_arg0) = m ((c.tc : Thread Cert.MixerInRefIdeal.nD Cert.MixerInRefIdeal.τ).loc Cert.MixerInRefIdeal.main_arg0)
      ∧ r.2.mem ((c.tc : Thread Cert.MixerInRefIdeal.nD Cert.MixerInRefIdeal.τ).loc Cert.MixerInRefIdeal.main_arg1) = m ((c.tc : Thread Cert.MixerInRefIdeal.nD Cert.MixerInRefIdeal.τ).loc Cert.MixerInRefIdeal.main_arg1))
      ∧ r.2.sem = fun _ => 0)

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1)
      ∧ r.2.mem ((c.tc : Thread Cert.FfnGu.nD Cert.FfnGu.τ).loc Cert.FfnGu.main_arg2) = m ((c.tc : Thread Cert.FfnGu.nD Cert.FfnGu.τ).loc Cert.FfnGu.main_arg2))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
      ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ r.2.sem = fun _ => 0)

def quiescent_FfnGuIdeal_pre_finite_ffn_up [hFfnGuIdeal : Cert.FfnGuIdeal.Facts] [hPre_finite_ffn_up : Cert.Pre_finite_ffn_up.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal_finite_ffn_up m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
      ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ r.2.sem = fun _ => 0)

def quiescent_FfnGuRefIdeal [hFfnGuRefIdeal : Cert.FfnGuRefIdeal.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1)
      ∧ r.2.mem ((c.tc : Thread Cert.FfnGuRefIdeal.nD Cert.FfnGuRefIdeal.τ).loc Cert.FfnGuRefIdeal.main_arg2) = m ((c.tc : Thread Cert.FfnGuRefIdeal.nD Cert.FfnGuRefIdeal.τ).loc Cert.FfnGuRefIdeal.main_arg2))
      ∧ r.2.sem = fun _ => 0)

def quiescent_FfnGuRefIdeal_pre_finite_ffn_up [hFfnGuRefIdeal : Cert.FfnGuRefIdeal.Facts] [hPre_finite_ffn_up : Cert.Pre_finite_ffn_up.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal_finite_ffn_up m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1)
      ∧ r.2.mem ((c.tc : Thread Cert.FfnGuRefIdeal.nD Cert.FfnGuRefIdeal.τ).loc Cert.FfnGuRefIdeal.main_arg2) = m ((c.tc : Thread Cert.FfnGuRefIdeal.nD Cert.FfnGuRefIdeal.τ).loc Cert.FfnGuRefIdeal.main_arg2))
      ∧ r.2.sem = fun _ => 0)

def quiescent_FfnBwdA [hFfnBwdA : Cert.FfnBwdA.Facts] : Prop :=
  ∀ (m : (ℓ : Loc Cert.FfnBwdA.nD Cert.FfnBwdA.τ Cert.FfnBwdA.sig) → Buf (Elt Bits) ℓ) (g : Dev Cert.FfnBwdA.nD → PrngReg), Pre_FfnBwdA m →
    θ_run (Cert.FfnBwdA.defs (F := Bits)) (onTc (τ := Cert.FfnBwdA.τ) (Cert.FfnBwdA.main (F := Bits))) ⟨m, fun _ => 0, g⟩ (fun r => (∀ c : Dev Cert.FfnBwdA.nD,
      r.2.mem ((c.tc : Thread Cert.FfnBwdA.nD Cert.FfnBwdA.τ).loc Cert.FfnBwdA.main_arg0) = m ((c.tc : Thread Cert.FfnBwdA.nD Cert.FfnBwdA.τ).loc Cert.FfnBwdA.main_arg0)
      ∧ r.2.mem ((c.tc : Thread Cert.FfnBwdA.nD Cert.FfnBwdA.τ).loc Cert.FfnBwdA.main_arg1) = m ((c.tc : Thread Cert.FfnBwdA.nD Cert.FfnBwdA.τ).loc Cert.FfnBwdA.main_arg1)
      ∧ r.2.mem ((c.tc : Thread Cert.FfnBwdA.nD Cert.FfnBwdA.τ).loc Cert.FfnBwdA.main_arg2) = m ((c.tc : Thread Cert.FfnBwdA.nD Cert.FfnBwdA.τ).loc Cert.FfnBwdA.main_arg2)
      ∧ r.2.mem ((c.tc : Thread Cert.FfnBwdA.nD Cert.FfnBwdA.τ).loc Cert.FfnBwdA.main_arg3) = m ((c.tc : Thread Cert.FfnBwdA.nD Cert.FfnBwdA.τ).loc Cert.FfnBwdA.main_arg3)
      ∧ r.2.mem ((c.tc : Thread Cert.FfnBwdA.nD Cert.FfnBwdA.τ).loc Cert.FfnBwdA.main_arg4) = m ((c.tc : Thread Cert.FfnBwdA.nD Cert.FfnBwdA.τ).loc Cert.FfnBwdA.main_arg4)
      ∧ r.2.mem ((c.tc : Thread Cert.FfnBwdA.nD Cert.FfnBwdA.τ).loc Cert.FfnBwdA.main_arg5) = m ((c.tc : Thread Cert.FfnBwdA.nD Cert.FfnBwdA.τ).loc Cert.FfnBwdA.main_arg5))
      ∧ r.2.sem = fun _ => 0)

def quiescent_FfnBwdAIdeal [hFfnBwdAIdeal : Cert.FfnBwdAIdeal.Facts] : Prop :=
  ∀ (m : (ℓ : Loc Cert.FfnBwdAIdeal.nD Cert.FfnBwdAIdeal.τ Cert.FfnBwdAIdeal.sig) → Buf (Elt Ideal) ℓ) (g : Dev Cert.FfnBwdAIdeal.nD → PrngReg), Pre_FfnBwdAIdeal m →
    θ_run (Cert.FfnBwdAIdeal.defs (F := Ideal)) (onTc (τ := Cert.FfnBwdAIdeal.τ) (Cert.FfnBwdAIdeal.main (F := Ideal))) ⟨m, fun _ => 0, g⟩ (fun r => (∀ c : Dev Cert.FfnBwdAIdeal.nD,
      r.2.mem ((c.tc : Thread Cert.FfnBwdAIdeal.nD Cert.FfnBwdAIdeal.τ).loc Cert.FfnBwdAIdeal.main_arg0) = m ((c.tc : Thread Cert.FfnBwdAIdeal.nD Cert.FfnBwdAIdeal.τ).loc Cert.FfnBwdAIdeal.main_arg0)
      ∧ r.2.mem ((c.tc : Thread Cert.FfnBwdAIdeal.nD Cert.FfnBwdAIdeal.τ).loc Cert.FfnBwdAIdeal.main_arg1) = m ((c.tc : Thread Cert.FfnBwdAIdeal.nD Cert.FfnBwdAIdeal.τ).loc Cert.FfnBwdAIdeal.main_arg1)
      ∧ r.2.mem ((c.tc : Thread Cert.FfnBwdAIdeal.nD Cert.FfnBwdAIdeal.τ).loc Cert.FfnBwdAIdeal.main_arg2) = m ((c.tc : Thread Cert.FfnBwdAIdeal.nD Cert.FfnBwdAIdeal.τ).loc Cert.FfnBwdAIdeal.main_arg2)
      ∧ r.2.mem ((c.tc : Thread Cert.FfnBwdAIdeal.nD Cert.FfnBwdAIdeal.τ).loc Cert.FfnBwdAIdeal.main_arg3) = m ((c.tc : Thread Cert.FfnBwdAIdeal.nD Cert.FfnBwdAIdeal.τ).loc Cert.FfnBwdAIdeal.main_arg3)
      ∧ r.2.mem ((c.tc : Thread Cert.FfnBwdAIdeal.nD Cert.FfnBwdAIdeal.τ).loc Cert.FfnBwdAIdeal.main_arg4) = m ((c.tc : Thread Cert.FfnBwdAIdeal.nD Cert.FfnBwdAIdeal.τ).loc Cert.FfnBwdAIdeal.main_arg4)
      ∧ r.2.mem ((c.tc : Thread Cert.FfnBwdAIdeal.nD Cert.FfnBwdAIdeal.τ).loc Cert.FfnBwdAIdeal.main_arg5) = m ((c.tc : Thread Cert.FfnBwdAIdeal.nD Cert.FfnBwdAIdeal.τ).loc Cert.FfnBwdAIdeal.main_arg5))
      ∧ r.2.sem = fun _ => 0)

def quiescent_FfnBwdARefIdeal [hFfnBwdARefIdeal : Cert.FfnBwdARefIdeal.Facts] : Prop :=
  ∀ (m : (ℓ : Loc Cert.FfnBwdARefIdeal.nD Cert.FfnBwdARefIdeal.τ Cert.FfnBwdARefIdeal.sig) → Buf (Elt Ideal) ℓ) (g : Dev Cert.FfnBwdARefIdeal.nD → PrngReg), Pre_FfnBwdARefIdeal m →
    θ_run (Cert.FfnBwdARefIdeal.defs (F := Ideal)) (onTc (τ := Cert.FfnBwdARefIdeal.τ) (Cert.FfnBwdARefIdeal.main (F := Ideal))) ⟨m, fun _ => 0, g⟩ (fun r => (∀ c : Dev Cert.FfnBwdARefIdeal.nD,
      r.2.mem ((c.tc : Thread Cert.FfnBwdARefIdeal.nD Cert.FfnBwdARefIdeal.τ).loc Cert.FfnBwdARefIdeal.main_arg0) = m ((c.tc : Thread Cert.FfnBwdARefIdeal.nD Cert.FfnBwdARefIdeal.τ).loc Cert.FfnBwdARefIdeal.main_arg0)
      ∧ r.2.mem ((c.tc : Thread Cert.FfnBwdARefIdeal.nD Cert.FfnBwdARefIdeal.τ).loc Cert.FfnBwdARefIdeal.main_arg1) = m ((c.tc : Thread Cert.FfnBwdARefIdeal.nD Cert.FfnBwdARefIdeal.τ).loc Cert.FfnBwdARefIdeal.main_arg1)
      ∧ r.2.mem ((c.tc : Thread Cert.FfnBwdARefIdeal.nD Cert.FfnBwdARefIdeal.τ).loc Cert.FfnBwdARefIdeal.main_arg2) = m ((c.tc : Thread Cert.FfnBwdARefIdeal.nD Cert.FfnBwdARefIdeal.τ).loc Cert.FfnBwdARefIdeal.main_arg2)
      ∧ r.2.mem ((c.tc : Thread Cert.FfnBwdARefIdeal.nD Cert.FfnBwdARefIdeal.τ).loc Cert.FfnBwdARefIdeal.main_arg3) = m ((c.tc : Thread Cert.FfnBwdARefIdeal.nD Cert.FfnBwdARefIdeal.τ).loc Cert.FfnBwdARefIdeal.main_arg3)
      ∧ r.2.mem ((c.tc : Thread Cert.FfnBwdARefIdeal.nD Cert.FfnBwdARefIdeal.τ).loc Cert.FfnBwdARefIdeal.main_arg4) = m ((c.tc : Thread Cert.FfnBwdARefIdeal.nD Cert.FfnBwdARefIdeal.τ).loc Cert.FfnBwdARefIdeal.main_arg4)
      ∧ r.2.mem ((c.tc : Thread Cert.FfnBwdARefIdeal.nD Cert.FfnBwdARefIdeal.τ).loc Cert.FfnBwdARefIdeal.main_arg5) = m ((c.tc : Thread Cert.FfnBwdARefIdeal.nD Cert.FfnBwdARefIdeal.τ).loc Cert.FfnBwdARefIdeal.main_arg5))
      ∧ r.2.sem = fun _ => 0)

def quiescent_MmNorm [hMmNorm : Cert.MmNorm.Facts] : Prop :=
  ∀ (m : (ℓ : Loc Cert.MmNorm.nD Cert.MmNorm.τ Cert.MmNorm.sig) → Buf (Elt Bits) ℓ) (g : Dev Cert.MmNorm.nD → PrngReg), Pre_MmNorm m →
    θ_run (Cert.MmNorm.defs (F := Bits)) (onTc (τ := Cert.MmNorm.τ) (Cert.MmNorm.main (F := Bits))) ⟨m, fun _ => 0, g⟩ (fun r => (∀ c : Dev Cert.MmNorm.nD,
      r.2.mem ((c.tc : Thread Cert.MmNorm.nD Cert.MmNorm.τ).loc Cert.MmNorm.main_arg0) = m ((c.tc : Thread Cert.MmNorm.nD Cert.MmNorm.τ).loc Cert.MmNorm.main_arg0)
      ∧ r.2.mem ((c.tc : Thread Cert.MmNorm.nD Cert.MmNorm.τ).loc Cert.MmNorm.main_arg1) = m ((c.tc : Thread Cert.MmNorm.nD Cert.MmNorm.τ).loc Cert.MmNorm.main_arg1)
      ∧ r.2.mem ((c.tc : Thread Cert.MmNorm.nD Cert.MmNorm.τ).loc Cert.MmNorm.main_arg2) = m ((c.tc : Thread Cert.MmNorm.nD Cert.MmNorm.τ).loc Cert.MmNorm.main_arg2)
      ∧ r.2.mem ((c.tc : Thread Cert.MmNorm.nD Cert.MmNorm.τ).loc Cert.MmNorm.main_arg3) = m ((c.tc : Thread Cert.MmNorm.nD Cert.MmNorm.τ).loc Cert.MmNorm.main_arg3)
      ∧ r.2.mem ((c.tc : Thread Cert.MmNorm.nD Cert.MmNorm.τ).loc Cert.MmNorm.main_arg4) = m ((c.tc : Thread Cert.MmNorm.nD Cert.MmNorm.τ).loc Cert.MmNorm.main_arg4))
      ∧ r.2.sem = fun _ => 0)

def quiescent_MmNormIdeal [hMmNormIdeal : Cert.MmNormIdeal.Facts] : Prop :=
  ∀ (m : (ℓ : Loc Cert.MmNormIdeal.nD Cert.MmNormIdeal.τ Cert.MmNormIdeal.sig) → Buf (Elt Ideal) ℓ) (g : Dev Cert.MmNormIdeal.nD → PrngReg), Pre_MmNormIdeal m →
    θ_run (Cert.MmNormIdeal.defs (F := Ideal)) (onTc (τ := Cert.MmNormIdeal.τ) (Cert.MmNormIdeal.main (F := Ideal))) ⟨m, fun _ => 0, g⟩ (fun r => (∀ c : Dev Cert.MmNormIdeal.nD,
      r.2.mem ((c.tc : Thread Cert.MmNormIdeal.nD Cert.MmNormIdeal.τ).loc Cert.MmNormIdeal.main_arg0) = m ((c.tc : Thread Cert.MmNormIdeal.nD Cert.MmNormIdeal.τ).loc Cert.MmNormIdeal.main_arg0)
      ∧ r.2.mem ((c.tc : Thread Cert.MmNormIdeal.nD Cert.MmNormIdeal.τ).loc Cert.MmNormIdeal.main_arg1) = m ((c.tc : Thread Cert.MmNormIdeal.nD Cert.MmNormIdeal.τ).loc Cert.MmNormIdeal.main_arg1)
      ∧ r.2.mem ((c.tc : Thread Cert.MmNormIdeal.nD Cert.MmNormIdeal.τ).loc Cert.MmNormIdeal.main_arg2) = m ((c.tc : Thread Cert.MmNormIdeal.nD Cert.MmNormIdeal.τ).loc Cert.MmNormIdeal.main_arg2)
      ∧ r.2.mem ((c.tc : Thread Cert.MmNormIdeal.nD Cert.MmNormIdeal.τ).loc Cert.MmNormIdeal.main_arg3) = m ((c.tc : Thread Cert.MmNormIdeal.nD Cert.MmNormIdeal.τ).loc Cert.MmNormIdeal.main_arg3)
      ∧ r.2.mem ((c.tc : Thread Cert.MmNormIdeal.nD Cert.MmNormIdeal.τ).loc Cert.MmNormIdeal.main_arg4) = m ((c.tc : Thread Cert.MmNormIdeal.nD Cert.MmNormIdeal.τ).loc Cert.MmNormIdeal.main_arg4))
      ∧ r.2.sem = fun _ => 0)

def quiescent_MmNormRefIdeal [hMmNormRefIdeal : Cert.MmNormRefIdeal.Facts] : Prop :=
  ∀ (m : (ℓ : Loc Cert.MmNormRefIdeal.nD Cert.MmNormRefIdeal.τ Cert.MmNormRefIdeal.sig) → Buf (Elt Ideal) ℓ) (g : Dev Cert.MmNormRefIdeal.nD → PrngReg), Pre_MmNormRefIdeal m →
    θ_run (Cert.MmNormRefIdeal.defs (F := Ideal)) (onTc (τ := Cert.MmNormRefIdeal.τ) (Cert.MmNormRefIdeal.main (F := Ideal))) ⟨m, fun _ => 0, g⟩ (fun r => (∀ c : Dev Cert.MmNormRefIdeal.nD,
      r.2.mem ((c.tc : Thread Cert.MmNormRefIdeal.nD Cert.MmNormRefIdeal.τ).loc Cert.MmNormRefIdeal.main_arg0) = m ((c.tc : Thread Cert.MmNormRefIdeal.nD Cert.MmNormRefIdeal.τ).loc Cert.MmNormRefIdeal.main_arg0)
      ∧ r.2.mem ((c.tc : Thread Cert.MmNormRefIdeal.nD Cert.MmNormRefIdeal.τ).loc Cert.MmNormRefIdeal.main_arg1) = m ((c.tc : Thread Cert.MmNormRefIdeal.nD Cert.MmNormRefIdeal.τ).loc Cert.MmNormRefIdeal.main_arg1)
      ∧ r.2.mem ((c.tc : Thread Cert.MmNormRefIdeal.nD Cert.MmNormRefIdeal.τ).loc Cert.MmNormRefIdeal.main_arg2) = m ((c.tc : Thread Cert.MmNormRefIdeal.nD Cert.MmNormRefIdeal.τ).loc Cert.MmNormRefIdeal.main_arg2)
      ∧ r.2.mem ((c.tc : Thread Cert.MmNormRefIdeal.nD Cert.MmNormRefIdeal.τ).loc Cert.MmNormRefIdeal.main_arg3) = m ((c.tc : Thread Cert.MmNormRefIdeal.nD Cert.MmNormRefIdeal.τ).loc Cert.MmNormRefIdeal.main_arg3)
      ∧ r.2.mem ((c.tc : Thread Cert.MmNormRefIdeal.nD Cert.MmNormRefIdeal.τ).loc Cert.MmNormRefIdeal.main_arg4) = m ((c.tc : Thread Cert.MmNormRefIdeal.nD Cert.MmNormRefIdeal.τ).loc Cert.MmNormRefIdeal.main_arg4))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DxMixer [hDxMixer : Cert.DxMixer.Facts] : Prop :=
  ∀ (m : (ℓ : Loc Cert.DxMixer.nD Cert.DxMixer.τ Cert.DxMixer.sig) → Buf (Elt Bits) ℓ) (g : Dev Cert.DxMixer.nD → PrngReg), Pre_DxMixer m →
    θ_run (Cert.DxMixer.defs (F := Bits)) (onTc (τ := Cert.DxMixer.τ) (Cert.DxMixer.main (F := Bits))) ⟨m, fun _ => 0, g⟩ (fun r => (∀ c : Dev Cert.DxMixer.nD,
      r.2.mem ((c.tc : Thread Cert.DxMixer.nD Cert.DxMixer.τ).loc Cert.DxMixer.main_arg0) = m ((c.tc : Thread Cert.DxMixer.nD Cert.DxMixer.τ).loc Cert.DxMixer.main_arg0)
      ∧ r.2.mem ((c.tc : Thread Cert.DxMixer.nD Cert.DxMixer.τ).loc Cert.DxMixer.main_arg1) = m ((c.tc : Thread Cert.DxMixer.nD Cert.DxMixer.τ).loc Cert.DxMixer.main_arg1)
      ∧ r.2.mem ((c.tc : Thread Cert.DxMixer.nD Cert.DxMixer.τ).loc Cert.DxMixer.main_arg2) = m ((c.tc : Thread Cert.DxMixer.nD Cert.DxMixer.τ).loc Cert.DxMixer.main_arg2)
      ∧ r.2.mem ((c.tc : Thread Cert.DxMixer.nD Cert.DxMixer.τ).loc Cert.DxMixer.main_arg3) = m ((c.tc : Thread Cert.DxMixer.nD Cert.DxMixer.τ).loc Cert.DxMixer.main_arg3)
      ∧ r.2.mem ((c.tc : Thread Cert.DxMixer.nD Cert.DxMixer.τ).loc Cert.DxMixer.main_arg4) = m ((c.tc : Thread Cert.DxMixer.nD Cert.DxMixer.τ).loc Cert.DxMixer.main_arg4))
      ∧ r.2.sem = fun _ => 0)

def quiescent_DxMixerIdeal [hDxMixerIdeal : Cert.DxMixerIdeal.Facts] : Prop :=
  ∀ (m : (ℓ : Loc Cert.DxMixerIdeal.nD Cert.DxMixerIdeal.τ Cert.DxMixerIdeal.sig) → Buf (Elt Ideal) ℓ) (g : Dev Cert.DxMixerIdeal.nD → PrngReg), Pre_DxMixerIdeal m →
    θ_run (Cert.DxMixerIdeal.defs (F := Ideal)) (onTc (τ := Cert.DxMixerIdeal.τ) (Cert.DxMixerIdeal.main (F := Ideal))) ⟨m, fun _ => 0, g⟩ (fun r => (∀ c : Dev Cert.DxMixerIdeal.nD,
      r.2.mem ((c.tc : Thread Cert.DxMixerIdeal.nD Cert.DxMixerIdeal.τ).loc Cert.DxMixerIdeal.main_arg0) = m ((c.tc : Thread Cert.DxMixerIdeal.nD Cert.DxMixerIdeal.τ).loc Cert.DxMixerIdeal.main_arg0)
      ∧ r.2.mem ((c.tc : Thread Cert.DxMixerIdeal.nD Cert.DxMixerIdeal.τ).loc Cert.DxMixerIdeal.main_arg1) = m ((c.tc : Thread Cert.DxMixerIdeal.nD Cert.DxMixerIdeal.τ).loc Cert.DxMixerIdeal.main_arg1)
      ∧ r.2.mem ((c.tc : Thread Cert.DxMixerIdeal.nD Cert.DxMixerIdeal.τ).loc Cert.DxMixerIdeal.main_arg2) = m ((c.tc : Thread Cert.DxMixerIdeal.nD Cert.DxMixerIdeal.τ).loc Cert.DxMixerIdeal.main_arg2)
      ∧ r.2.mem ((c.tc : Thread Cert.DxMixerIdeal.nD Cert.DxMixerIdeal.τ).loc Cert.DxMixerIdeal.main_arg3) = m ((c.tc : Thread Cert.DxMixerIdeal.nD Cert.DxMixerIdeal.τ).loc Cert.DxMixerIdeal.main_arg3)
      ∧ r.2.mem ((c.tc : Thread Cert.DxMixerIdeal.nD Cert.DxMixerIdeal.τ).loc Cert.DxMixerIdeal.main_arg4) = m ((c.tc : Thread Cert.DxMixerIdeal.nD Cert.DxMixerIdeal.τ).loc Cert.DxMixerIdeal.main_arg4))
      ∧ r.2.sem = fun _ => 0)

def quiescent_DxMixerRefIdeal [hDxMixerRefIdeal : Cert.DxMixerRefIdeal.Facts] : Prop :=
  ∀ (m : (ℓ : Loc Cert.DxMixerRefIdeal.nD Cert.DxMixerRefIdeal.τ Cert.DxMixerRefIdeal.sig) → Buf (Elt Ideal) ℓ) (g : Dev Cert.DxMixerRefIdeal.nD → PrngReg), Pre_DxMixerRefIdeal m →
    θ_run (Cert.DxMixerRefIdeal.defs (F := Ideal)) (onTc (τ := Cert.DxMixerRefIdeal.τ) (Cert.DxMixerRefIdeal.main (F := Ideal))) ⟨m, fun _ => 0, g⟩ (fun r => (∀ c : Dev Cert.DxMixerRefIdeal.nD,
      r.2.mem ((c.tc : Thread Cert.DxMixerRefIdeal.nD Cert.DxMixerRefIdeal.τ).loc Cert.DxMixerRefIdeal.main_arg0) = m ((c.tc : Thread Cert.DxMixerRefIdeal.nD Cert.DxMixerRefIdeal.τ).loc Cert.DxMixerRefIdeal.main_arg0)
      ∧ r.2.mem ((c.tc : Thread Cert.DxMixerRefIdeal.nD Cert.DxMixerRefIdeal.τ).loc Cert.DxMixerRefIdeal.main_arg1) = m ((c.tc : Thread Cert.DxMixerRefIdeal.nD Cert.DxMixerRefIdeal.τ).loc Cert.DxMixerRefIdeal.main_arg1)
      ∧ r.2.mem ((c.tc : Thread Cert.DxMixerRefIdeal.nD Cert.DxMixerRefIdeal.τ).loc Cert.DxMixerRefIdeal.main_arg2) = m ((c.tc : Thread Cert.DxMixerRefIdeal.nD Cert.DxMixerRefIdeal.τ).loc Cert.DxMixerRefIdeal.main_arg2)
      ∧ r.2.mem ((c.tc : Thread Cert.DxMixerRefIdeal.nD Cert.DxMixerRefIdeal.τ).loc Cert.DxMixerRefIdeal.main_arg3) = m ((c.tc : Thread Cert.DxMixerRefIdeal.nD Cert.DxMixerRefIdeal.τ).loc Cert.DxMixerRefIdeal.main_arg3)
      ∧ r.2.mem ((c.tc : Thread Cert.DxMixerRefIdeal.nD Cert.DxMixerRefIdeal.τ).loc Cert.DxMixerRefIdeal.main_arg4) = m ((c.tc : Thread Cert.DxMixerRefIdeal.nD Cert.DxMixerRefIdeal.τ).loc Cert.DxMixerRefIdeal.main_arg4))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4))
      ∧ r.2.sem = fun _ => 0)

def quiescent_MixerY [hMixerY : Cert.MixerY.Facts] : Prop :=
  ∀ (m : (ℓ : Loc Cert.MixerY.nD Cert.MixerY.τ Cert.MixerY.sig) → Buf (Elt Bits) ℓ) (g : Dev Cert.MixerY.nD → PrngReg), Pre_MixerY m →
    θ_run (Cert.MixerY.defs (F := Bits)) (onTc (τ := Cert.MixerY.τ) (Cert.MixerY.main (F := Bits))) ⟨m, fun _ => 0, g⟩ (fun r => (∀ c : Dev Cert.MixerY.nD,
      r.2.mem ((c.tc : Thread Cert.MixerY.nD Cert.MixerY.τ).loc Cert.MixerY.main_arg0) = m ((c.tc : Thread Cert.MixerY.nD Cert.MixerY.τ).loc Cert.MixerY.main_arg0)
      ∧ r.2.mem ((c.tc : Thread Cert.MixerY.nD Cert.MixerY.τ).loc Cert.MixerY.main_arg1) = m ((c.tc : Thread Cert.MixerY.nD Cert.MixerY.τ).loc Cert.MixerY.main_arg1)
      ∧ r.2.mem ((c.tc : Thread Cert.MixerY.nD Cert.MixerY.τ).loc Cert.MixerY.main_arg2) = m ((c.tc : Thread Cert.MixerY.nD Cert.MixerY.τ).loc Cert.MixerY.main_arg2)
      ∧ r.2.mem ((c.tc : Thread Cert.MixerY.nD Cert.MixerY.τ).loc Cert.MixerY.main_arg3) = m ((c.tc : Thread Cert.MixerY.nD Cert.MixerY.τ).loc Cert.MixerY.main_arg3)
      ∧ r.2.mem ((c.tc : Thread Cert.MixerY.nD Cert.MixerY.τ).loc Cert.MixerY.main_arg4) = m ((c.tc : Thread Cert.MixerY.nD Cert.MixerY.τ).loc Cert.MixerY.main_arg4))
      ∧ r.2.sem = fun _ => 0)

def quiescent_MixerYIdeal [hMixerYIdeal : Cert.MixerYIdeal.Facts] : Prop :=
  ∀ (m : (ℓ : Loc Cert.MixerYIdeal.nD Cert.MixerYIdeal.τ Cert.MixerYIdeal.sig) → Buf (Elt Ideal) ℓ) (g : Dev Cert.MixerYIdeal.nD → PrngReg), Pre_MixerYIdeal m →
    θ_run (Cert.MixerYIdeal.defs (F := Ideal)) (onTc (τ := Cert.MixerYIdeal.τ) (Cert.MixerYIdeal.main (F := Ideal))) ⟨m, fun _ => 0, g⟩ (fun r => (∀ c : Dev Cert.MixerYIdeal.nD,
      r.2.mem ((c.tc : Thread Cert.MixerYIdeal.nD Cert.MixerYIdeal.τ).loc Cert.MixerYIdeal.main_arg0) = m ((c.tc : Thread Cert.MixerYIdeal.nD Cert.MixerYIdeal.τ).loc Cert.MixerYIdeal.main_arg0)
      ∧ r.2.mem ((c.tc : Thread Cert.MixerYIdeal.nD Cert.MixerYIdeal.τ).loc Cert.MixerYIdeal.main_arg1) = m ((c.tc : Thread Cert.MixerYIdeal.nD Cert.MixerYIdeal.τ).loc Cert.MixerYIdeal.main_arg1)
      ∧ r.2.mem ((c.tc : Thread Cert.MixerYIdeal.nD Cert.MixerYIdeal.τ).loc Cert.MixerYIdeal.main_arg2) = m ((c.tc : Thread Cert.MixerYIdeal.nD Cert.MixerYIdeal.τ).loc Cert.MixerYIdeal.main_arg2)
      ∧ r.2.mem ((c.tc : Thread Cert.MixerYIdeal.nD Cert.MixerYIdeal.τ).loc Cert.MixerYIdeal.main_arg3) = m ((c.tc : Thread Cert.MixerYIdeal.nD Cert.MixerYIdeal.τ).loc Cert.MixerYIdeal.main_arg3)
      ∧ r.2.mem ((c.tc : Thread Cert.MixerYIdeal.nD Cert.MixerYIdeal.τ).loc Cert.MixerYIdeal.main_arg4) = m ((c.tc : Thread Cert.MixerYIdeal.nD Cert.MixerYIdeal.τ).loc Cert.MixerYIdeal.main_arg4))
      ∧ r.2.sem = fun _ => 0)

def quiescent_MixerYRefIdeal [hMixerYRefIdeal : Cert.MixerYRefIdeal.Facts] : Prop :=
  ∀ (m : (ℓ : Loc Cert.MixerYRefIdeal.nD Cert.MixerYRefIdeal.τ Cert.MixerYRefIdeal.sig) → Buf (Elt Ideal) ℓ) (g : Dev Cert.MixerYRefIdeal.nD → PrngReg), Pre_MixerYRefIdeal m →
    θ_run (Cert.MixerYRefIdeal.defs (F := Ideal)) (onTc (τ := Cert.MixerYRefIdeal.τ) (Cert.MixerYRefIdeal.main (F := Ideal))) ⟨m, fun _ => 0, g⟩ (fun r => (∀ c : Dev Cert.MixerYRefIdeal.nD,
      r.2.mem ((c.tc : Thread Cert.MixerYRefIdeal.nD Cert.MixerYRefIdeal.τ).loc Cert.MixerYRefIdeal.main_arg0) = m ((c.tc : Thread Cert.MixerYRefIdeal.nD Cert.MixerYRefIdeal.τ).loc Cert.MixerYRefIdeal.main_arg0)
      ∧ r.2.mem ((c.tc : Thread Cert.MixerYRefIdeal.nD Cert.MixerYRefIdeal.τ).loc Cert.MixerYRefIdeal.main_arg1) = m ((c.tc : Thread Cert.MixerYRefIdeal.nD Cert.MixerYRefIdeal.τ).loc Cert.MixerYRefIdeal.main_arg1)
      ∧ r.2.mem ((c.tc : Thread Cert.MixerYRefIdeal.nD Cert.MixerYRefIdeal.τ).loc Cert.MixerYRefIdeal.main_arg2) = m ((c.tc : Thread Cert.MixerYRefIdeal.nD Cert.MixerYRefIdeal.τ).loc Cert.MixerYRefIdeal.main_arg2)
      ∧ r.2.mem ((c.tc : Thread Cert.MixerYRefIdeal.nD Cert.MixerYRefIdeal.τ).loc Cert.MixerYRefIdeal.main_arg3) = m ((c.tc : Thread Cert.MixerYRefIdeal.nD Cert.MixerYRefIdeal.τ).loc Cert.MixerYRefIdeal.main_arg3)
      ∧ r.2.mem ((c.tc : Thread Cert.MixerYRefIdeal.nD Cert.MixerYRefIdeal.τ).loc Cert.MixerYRefIdeal.main_arg4) = m ((c.tc : Thread Cert.MixerYRefIdeal.nD Cert.MixerYRefIdeal.τ).loc Cert.MixerYRefIdeal.main_arg4))
      ∧ r.2.sem = fun _ => 0)

def quiescent_MixerBwdY [hMixerBwdY : Cert.MixerBwdY.Facts] : Prop :=
  ∀ (m : (ℓ : Loc Cert.MixerBwdY.nD Cert.MixerBwdY.τ Cert.MixerBwdY.sig) → Buf (Elt Bits) ℓ) (g : Dev Cert.MixerBwdY.nD → PrngReg), Pre_MixerBwdY m →
    θ_run (Cert.MixerBwdY.defs (F := Bits)) (onTc (τ := Cert.MixerBwdY.τ) (Cert.MixerBwdY.main (F := Bits))) ⟨m, fun _ => 0, g⟩ (fun r => (∀ c : Dev Cert.MixerBwdY.nD,
      r.2.mem ((c.tc : Thread Cert.MixerBwdY.nD Cert.MixerBwdY.τ).loc Cert.MixerBwdY.main_arg0) = m ((c.tc : Thread Cert.MixerBwdY.nD Cert.MixerBwdY.τ).loc Cert.MixerBwdY.main_arg0)
      ∧ r.2.mem ((c.tc : Thread Cert.MixerBwdY.nD Cert.MixerBwdY.τ).loc Cert.MixerBwdY.main_arg1) = m ((c.tc : Thread Cert.MixerBwdY.nD Cert.MixerBwdY.τ).loc Cert.MixerBwdY.main_arg1)
      ∧ r.2.mem ((c.tc : Thread Cert.MixerBwdY.nD Cert.MixerBwdY.τ).loc Cert.MixerBwdY.main_arg2) = m ((c.tc : Thread Cert.MixerBwdY.nD Cert.MixerBwdY.τ).loc Cert.MixerBwdY.main_arg2)
      ∧ r.2.mem ((c.tc : Thread Cert.MixerBwdY.nD Cert.MixerBwdY.τ).loc Cert.MixerBwdY.main_arg3) = m ((c.tc : Thread Cert.MixerBwdY.nD Cert.MixerBwdY.τ).loc Cert.MixerBwdY.main_arg3)
      ∧ r.2.mem ((c.tc : Thread Cert.MixerBwdY.nD Cert.MixerBwdY.τ).loc Cert.MixerBwdY.main_arg4) = m ((c.tc : Thread Cert.MixerBwdY.nD Cert.MixerBwdY.τ).loc Cert.MixerBwdY.main_arg4)
      ∧ r.2.mem ((c.tc : Thread Cert.MixerBwdY.nD Cert.MixerBwdY.τ).loc Cert.MixerBwdY.main_arg5) = m ((c.tc : Thread Cert.MixerBwdY.nD Cert.MixerBwdY.τ).loc Cert.MixerBwdY.main_arg5)
      ∧ r.2.mem ((c.tc : Thread Cert.MixerBwdY.nD Cert.MixerBwdY.τ).loc Cert.MixerBwdY.main_arg6) = m ((c.tc : Thread Cert.MixerBwdY.nD Cert.MixerBwdY.τ).loc Cert.MixerBwdY.main_arg6)
      ∧ r.2.mem ((c.tc : Thread Cert.MixerBwdY.nD Cert.MixerBwdY.τ).loc Cert.MixerBwdY.main_arg7) = m ((c.tc : Thread Cert.MixerBwdY.nD Cert.MixerBwdY.τ).loc Cert.MixerBwdY.main_arg7)
      ∧ r.2.mem ((c.tc : Thread Cert.MixerBwdY.nD Cert.MixerBwdY.τ).loc Cert.MixerBwdY.main_arg8) = m ((c.tc : Thread Cert.MixerBwdY.nD Cert.MixerBwdY.τ).loc Cert.MixerBwdY.main_arg8))
      ∧ r.2.sem = fun _ => 0)

def quiescent_MixerBwdYIdeal [hMixerBwdYIdeal : Cert.MixerBwdYIdeal.Facts] : Prop :=
  ∀ (m : (ℓ : Loc Cert.MixerBwdYIdeal.nD Cert.MixerBwdYIdeal.τ Cert.MixerBwdYIdeal.sig) → Buf (Elt Ideal) ℓ) (g : Dev Cert.MixerBwdYIdeal.nD → PrngReg), Pre_MixerBwdYIdeal m →
    θ_run (Cert.MixerBwdYIdeal.defs (F := Ideal)) (onTc (τ := Cert.MixerBwdYIdeal.τ) (Cert.MixerBwdYIdeal.main (F := Ideal))) ⟨m, fun _ => 0, g⟩ (fun r => (∀ c : Dev Cert.MixerBwdYIdeal.nD,
      r.2.mem ((c.tc : Thread Cert.MixerBwdYIdeal.nD Cert.MixerBwdYIdeal.τ).loc Cert.MixerBwdYIdeal.main_arg0) = m ((c.tc : Thread Cert.MixerBwdYIdeal.nD Cert.MixerBwdYIdeal.τ).loc Cert.MixerBwdYIdeal.main_arg0)
      ∧ r.2.mem ((c.tc : Thread Cert.MixerBwdYIdeal.nD Cert.MixerBwdYIdeal.τ).loc Cert.MixerBwdYIdeal.main_arg1) = m ((c.tc : Thread Cert.MixerBwdYIdeal.nD Cert.MixerBwdYIdeal.τ).loc Cert.MixerBwdYIdeal.main_arg1)
      ∧ r.2.mem ((c.tc : Thread Cert.MixerBwdYIdeal.nD Cert.MixerBwdYIdeal.τ).loc Cert.MixerBwdYIdeal.main_arg2) = m ((c.tc : Thread Cert.MixerBwdYIdeal.nD Cert.MixerBwdYIdeal.τ).loc Cert.MixerBwdYIdeal.main_arg2)
      ∧ r.2.mem ((c.tc : Thread Cert.MixerBwdYIdeal.nD Cert.MixerBwdYIdeal.τ).loc Cert.MixerBwdYIdeal.main_arg3) = m ((c.tc : Thread Cert.MixerBwdYIdeal.nD Cert.MixerBwdYIdeal.τ).loc Cert.MixerBwdYIdeal.main_arg3)
      ∧ r.2.mem ((c.tc : Thread Cert.MixerBwdYIdeal.nD Cert.MixerBwdYIdeal.τ).loc Cert.MixerBwdYIdeal.main_arg4) = m ((c.tc : Thread Cert.MixerBwdYIdeal.nD Cert.MixerBwdYIdeal.τ).loc Cert.MixerBwdYIdeal.main_arg4)
      ∧ r.2.mem ((c.tc : Thread Cert.MixerBwdYIdeal.nD Cert.MixerBwdYIdeal.τ).loc Cert.MixerBwdYIdeal.main_arg5) = m ((c.tc : Thread Cert.MixerBwdYIdeal.nD Cert.MixerBwdYIdeal.τ).loc Cert.MixerBwdYIdeal.main_arg5)
      ∧ r.2.mem ((c.tc : Thread Cert.MixerBwdYIdeal.nD Cert.MixerBwdYIdeal.τ).loc Cert.MixerBwdYIdeal.main_arg6) = m ((c.tc : Thread Cert.MixerBwdYIdeal.nD Cert.MixerBwdYIdeal.τ).loc Cert.MixerBwdYIdeal.main_arg6)
      ∧ r.2.mem ((c.tc : Thread Cert.MixerBwdYIdeal.nD Cert.MixerBwdYIdeal.τ).loc Cert.MixerBwdYIdeal.main_arg7) = m ((c.tc : Thread Cert.MixerBwdYIdeal.nD Cert.MixerBwdYIdeal.τ).loc Cert.MixerBwdYIdeal.main_arg7)
      ∧ r.2.mem ((c.tc : Thread Cert.MixerBwdYIdeal.nD Cert.MixerBwdYIdeal.τ).loc Cert.MixerBwdYIdeal.main_arg8) = m ((c.tc : Thread Cert.MixerBwdYIdeal.nD Cert.MixerBwdYIdeal.τ).loc Cert.MixerBwdYIdeal.main_arg8))
      ∧ r.2.sem = fun _ => 0)

def quiescent_MixerBwdYRefIdeal [hMixerBwdYRefIdeal : Cert.MixerBwdYRefIdeal.Facts] : Prop :=
  ∀ (m : (ℓ : Loc Cert.MixerBwdYRefIdeal.nD Cert.MixerBwdYRefIdeal.τ Cert.MixerBwdYRefIdeal.sig) → Buf (Elt Ideal) ℓ) (g : Dev Cert.MixerBwdYRefIdeal.nD → PrngReg), Pre_MixerBwdYRefIdeal m →
    θ_run (Cert.MixerBwdYRefIdeal.defs (F := Ideal)) (onTc (τ := Cert.MixerBwdYRefIdeal.τ) (Cert.MixerBwdYRefIdeal.main (F := Ideal))) ⟨m, fun _ => 0, g⟩ (fun r => (∀ c : Dev Cert.MixerBwdYRefIdeal.nD,
      r.2.mem ((c.tc : Thread Cert.MixerBwdYRefIdeal.nD Cert.MixerBwdYRefIdeal.τ).loc Cert.MixerBwdYRefIdeal.main_arg0) = m ((c.tc : Thread Cert.MixerBwdYRefIdeal.nD Cert.MixerBwdYRefIdeal.τ).loc Cert.MixerBwdYRefIdeal.main_arg0)
      ∧ r.2.mem ((c.tc : Thread Cert.MixerBwdYRefIdeal.nD Cert.MixerBwdYRefIdeal.τ).loc Cert.MixerBwdYRefIdeal.main_arg1) = m ((c.tc : Thread Cert.MixerBwdYRefIdeal.nD Cert.MixerBwdYRefIdeal.τ).loc Cert.MixerBwdYRefIdeal.main_arg1)
      ∧ r.2.mem ((c.tc : Thread Cert.MixerBwdYRefIdeal.nD Cert.MixerBwdYRefIdeal.τ).loc Cert.MixerBwdYRefIdeal.main_arg2) = m ((c.tc : Thread Cert.MixerBwdYRefIdeal.nD Cert.MixerBwdYRefIdeal.τ).loc Cert.MixerBwdYRefIdeal.main_arg2)
      ∧ r.2.mem ((c.tc : Thread Cert.MixerBwdYRefIdeal.nD Cert.MixerBwdYRefIdeal.τ).loc Cert.MixerBwdYRefIdeal.main_arg3) = m ((c.tc : Thread Cert.MixerBwdYRefIdeal.nD Cert.MixerBwdYRefIdeal.τ).loc Cert.MixerBwdYRefIdeal.main_arg3)
      ∧ r.2.mem ((c.tc : Thread Cert.MixerBwdYRefIdeal.nD Cert.MixerBwdYRefIdeal.τ).loc Cert.MixerBwdYRefIdeal.main_arg4) = m ((c.tc : Thread Cert.MixerBwdYRefIdeal.nD Cert.MixerBwdYRefIdeal.τ).loc Cert.MixerBwdYRefIdeal.main_arg4)
      ∧ r.2.mem ((c.tc : Thread Cert.MixerBwdYRefIdeal.nD Cert.MixerBwdYRefIdeal.τ).loc Cert.MixerBwdYRefIdeal.main_arg5) = m ((c.tc : Thread Cert.MixerBwdYRefIdeal.nD Cert.MixerBwdYRefIdeal.τ).loc Cert.MixerBwdYRefIdeal.main_arg5)
      ∧ r.2.mem ((c.tc : Thread Cert.MixerBwdYRefIdeal.nD Cert.MixerBwdYRefIdeal.τ).loc Cert.MixerBwdYRefIdeal.main_arg6) = m ((c.tc : Thread Cert.MixerBwdYRefIdeal.nD Cert.MixerBwdYRefIdeal.τ).loc Cert.MixerBwdYRefIdeal.main_arg6)
      ∧ r.2.mem ((c.tc : Thread Cert.MixerBwdYRefIdeal.nD Cert.MixerBwdYRefIdeal.τ).loc Cert.MixerBwdYRefIdeal.main_arg7) = m ((c.tc : Thread Cert.MixerBwdYRefIdeal.nD Cert.MixerBwdYRefIdeal.τ).loc Cert.MixerBwdYRefIdeal.main_arg7)
      ∧ r.2.mem ((c.tc : Thread Cert.MixerBwdYRefIdeal.nD Cert.MixerBwdYRefIdeal.τ).loc Cert.MixerBwdYRefIdeal.main_arg8) = m ((c.tc : Thread Cert.MixerBwdYRefIdeal.nD Cert.MixerBwdYRefIdeal.τ).loc Cert.MixerBwdYRefIdeal.main_arg8))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5)
      ∧ r.2.mem ((c.tc : Thread Cert.PleLoss.nD Cert.PleLoss.τ).loc Cert.PleLoss.main_arg6) = m ((c.tc : Thread Cert.PleLoss.nD Cert.PleLoss.τ).loc Cert.PleLoss.main_arg6)
      ∧ r.2.mem ((c.tc : Thread Cert.PleLoss.nD Cert.PleLoss.τ).loc Cert.PleLoss.main_arg7) = m ((c.tc : Thread Cert.PleLoss.nD Cert.PleLoss.τ).loc Cert.PleLoss.main_arg7))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5)
      ∧ r.2.mem ((c.tc : Thread Cert.PleLossIdeal.nD Cert.PleLossIdeal.τ).loc Cert.PleLossIdeal.main_arg6) = m ((c.tc : Thread Cert.PleLossIdeal.nD Cert.PleLossIdeal.τ).loc Cert.PleLossIdeal.main_arg6)
      ∧ r.2.mem ((c.tc : Thread Cert.PleLossIdeal.nD Cert.PleLossIdeal.τ).loc Cert.PleLossIdeal.main_arg7) = m ((c.tc : Thread Cert.PleLossIdeal.nD Cert.PleLossIdeal.τ).loc Cert.PleLossIdeal.main_arg7))
      ∧ r.2.sem = fun _ => 0)

def quiescent_PleLossRefIdeal [hPleLossRefIdeal : Cert.PleLossRefIdeal.Facts] : Prop :=
  ∀ (m : (ℓ : Loc Cert.PleLossRefIdeal.nD Cert.PleLossRefIdeal.τ Cert.PleLossRefIdeal.sig) → Buf (Elt Ideal) ℓ) (g : Dev Cert.PleLossRefIdeal.nD → PrngReg), Pre_PleLossRefIdeal m →
    θ_run (Cert.PleLossRefIdeal.defs (F := Ideal)) (onTc (τ := Cert.PleLossRefIdeal.τ) (Cert.PleLossRefIdeal.main (F := Ideal))) ⟨m, fun _ => 0, g⟩ (fun r => (∀ c : Dev Cert.PleLossRefIdeal.nD,
      r.2.mem ((c.tc : Thread Cert.PleLossRefIdeal.nD Cert.PleLossRefIdeal.τ).loc Cert.PleLossRefIdeal.main_arg0) = m ((c.tc : Thread Cert.PleLossRefIdeal.nD Cert.PleLossRefIdeal.τ).loc Cert.PleLossRefIdeal.main_arg0)
      ∧ r.2.mem ((c.tc : Thread Cert.PleLossRefIdeal.nD Cert.PleLossRefIdeal.τ).loc Cert.PleLossRefIdeal.main_arg1) = m ((c.tc : Thread Cert.PleLossRefIdeal.nD Cert.PleLossRefIdeal.τ).loc Cert.PleLossRefIdeal.main_arg1)
      ∧ r.2.mem ((c.tc : Thread Cert.PleLossRefIdeal.nD Cert.PleLossRefIdeal.τ).loc Cert.PleLossRefIdeal.main_arg2) = m ((c.tc : Thread Cert.PleLossRefIdeal.nD Cert.PleLossRefIdeal.τ).loc Cert.PleLossRefIdeal.main_arg2)
      ∧ r.2.mem ((c.tc : Thread Cert.PleLossRefIdeal.nD Cert.PleLossRefIdeal.τ).loc Cert.PleLossRefIdeal.main_arg3) = m ((c.tc : Thread Cert.PleLossRefIdeal.nD Cert.PleLossRefIdeal.τ).loc Cert.PleLossRefIdeal.main_arg3)
      ∧ r.2.mem ((c.tc : Thread Cert.PleLossRefIdeal.nD Cert.PleLossRefIdeal.τ).loc Cert.PleLossRefIdeal.main_arg4) = m ((c.tc : Thread Cert.PleLossRefIdeal.nD Cert.PleLossRefIdeal.τ).loc Cert.PleLossRefIdeal.main_arg4)
      ∧ r.2.mem ((c.tc : Thread Cert.PleLossRefIdeal.nD Cert.PleLossRefIdeal.τ).loc Cert.PleLossRefIdeal.main_arg5) = m ((c.tc : Thread Cert.PleLossRefIdeal.nD Cert.PleLossRefIdeal.τ).loc Cert.PleLossRefIdeal.main_arg5)
      ∧ r.2.mem ((c.tc : Thread Cert.PleLossRefIdeal.nD Cert.PleLossRefIdeal.τ).loc Cert.PleLossRefIdeal.main_arg6) = m ((c.tc : Thread Cert.PleLossRefIdeal.nD Cert.PleLossRefIdeal.τ).loc Cert.PleLossRefIdeal.main_arg6)
      ∧ r.2.mem ((c.tc : Thread Cert.PleLossRefIdeal.nD Cert.PleLossRefIdeal.τ).loc Cert.PleLossRefIdeal.main_arg7) = m ((c.tc : Thread Cert.PleLossRefIdeal.nD Cert.PleLossRefIdeal.τ).loc Cert.PleLossRefIdeal.main_arg7))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1))
      ∧ r.2.sem = fun _ => 0)

def preserves_Kernel_KernelIdeal : Prop :=
  IdealRules.named_const.Statement Cert.KernelIdeal.κ "gelu_kc" .f32 0x3D122279#32 ((80338380498831 / 2251799813685248 : ℝ) : EReal)
  ∧ IdealRules.named_const.Statement Cert.KernelIdeal.κ "gelu_3kc" .f32 0x3DDB33B6#32 ((241015141496493 / 2251799813685248 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v9) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def preserves_DxFfn_DxFfnIdeal : Prop :=
  True

def algebraic_DxFfnIdeal_DxFfnRefIdeal [hDxFfnIdeal : Cert.DxFfnIdeal.Facts] [hDxFfnRefIdeal : Cert.DxFfnRefIdeal.Facts] : Prop :=
  ∀ (m : (ℓ : Loc Cert.DxFfnIdeal.nD Cert.DxFfnIdeal.τ Cert.DxFfnIdeal.sig) → Buf (Elt Ideal) ℓ) (g : Dev Cert.DxFfnIdeal.nD → PrngReg)
    (m' : (ℓ : Loc Cert.DxFfnRefIdeal.nD Cert.DxFfnRefIdeal.τ Cert.DxFfnRefIdeal.sig) → Buf (Elt Ideal) ℓ) (g' : Dev Cert.DxFfnRefIdeal.nD → PrngReg), Pre_DxFfnIdeal m →
    (∀ c : Dev Cert.DxFfnIdeal.nD,
      m' ((c.tc : Thread Cert.DxFfnRefIdeal.nD Cert.DxFfnRefIdeal.τ).loc Cert.DxFfnRefIdeal.main_arg0) = m ((c.tc : Thread Cert.DxFfnIdeal.nD Cert.DxFfnIdeal.τ).loc Cert.DxFfnIdeal.main_arg0)
      ∧ m' ((c.tc : Thread Cert.DxFfnRefIdeal.nD Cert.DxFfnRefIdeal.τ).loc Cert.DxFfnRefIdeal.main_arg1) = m ((c.tc : Thread Cert.DxFfnIdeal.nD Cert.DxFfnIdeal.τ).loc Cert.DxFfnIdeal.main_arg1)
      ∧ m' ((c.tc : Thread Cert.DxFfnRefIdeal.nD Cert.DxFfnRefIdeal.τ).loc Cert.DxFfnRefIdeal.main_arg2) = m ((c.tc : Thread Cert.DxFfnIdeal.nD Cert.DxFfnIdeal.τ).loc Cert.DxFfnIdeal.main_arg2)
      ∧ m' ((c.tc : Thread Cert.DxFfnRefIdeal.nD Cert.DxFfnRefIdeal.τ).loc Cert.DxFfnRefIdeal.main_arg3) = m ((c.tc : Thread Cert.DxFfnIdeal.nD Cert.DxFfnIdeal.τ).loc Cert.DxFfnIdeal.main_arg3)
      ∧ m' ((c.tc : Thread Cert.DxFfnRefIdeal.nD Cert.DxFfnRefIdeal.τ).loc Cert.DxFfnRefIdeal.main_arg4) = m ((c.tc : Thread Cert.DxFfnIdeal.nD Cert.DxFfnIdeal.τ).loc Cert.DxFfnIdeal.main_arg4)
      ∧ m' ((c.tc : Thread Cert.DxFfnRefIdeal.nD Cert.DxFfnRefIdeal.τ).loc Cert.DxFfnRefIdeal.main_arg5) = m ((c.tc : Thread Cert.DxFfnIdeal.nD Cert.DxFfnIdeal.τ).loc Cert.DxFfnIdeal.main_arg5)
      ∧ m' ((c.tc : Thread Cert.DxFfnRefIdeal.nD Cert.DxFfnRefIdeal.τ).loc Cert.DxFfnRefIdeal.main_arg6) = m ((c.tc : Thread Cert.DxFfnIdeal.nD Cert.DxFfnIdeal.τ).loc Cert.DxFfnIdeal.main_arg6)) →
    ∃ (v0 : (c : Dev Cert.DxFfnIdeal.nD) → Buf (Elt Ideal) ((c.tc : Thread Cert.DxFfnIdeal.nD Cert.DxFfnIdeal.τ).loc Cert.DxFfnIdeal.main_v0_0)) (v1 : (c : Dev Cert.DxFfnIdeal.nD) → Buf (Elt Ideal) ((c.tc : Thread Cert.DxFfnIdeal.nD Cert.DxFfnIdeal.τ).loc Cert.DxFfnIdeal.main_v0_1)),
      θ_run (Cert.DxFfnIdeal.defs (F := Ideal)) (onTc (τ := Cert.DxFfnIdeal.τ) (Cert.DxFfnIdeal.main (F := Ideal))) ⟨m, fun _ => 0, g⟩ (fun r => ∀ c : Dev Cert.DxFfnIdeal.nD,
          r.2.mem ((c.tc : Thread Cert.DxFfnIdeal.nD Cert.DxFfnIdeal.τ).loc Cert.DxFfnIdeal.main_v0_0) = v0 c
          ∧ r.2.mem ((c.tc : Thread Cert.DxFfnIdeal.nD Cert.DxFfnIdeal.τ).loc Cert.DxFfnIdeal.main_v0_1) = v1 c
          ∧ r.2.mem ((c.tc : Thread Cert.DxFfnIdeal.nD Cert.DxFfnIdeal.τ).loc Cert.DxFfnIdeal.main_arg0) = m ((c.tc : Thread Cert.DxFfnIdeal.nD Cert.DxFfnIdeal.τ).loc Cert.DxFfnIdeal.main_arg0)
          ∧ r.2.mem ((c.tc : Thread Cert.DxFfnIdeal.nD Cert.DxFfnIdeal.τ).loc Cert.DxFfnIdeal.main_arg1) = m ((c.tc : Thread Cert.DxFfnIdeal.nD Cert.DxFfnIdeal.τ).loc Cert.DxFfnIdeal.main_arg1)
          ∧ r.2.mem ((c.tc : Thread Cert.DxFfnIdeal.nD Cert.DxFfnIdeal.τ).loc Cert.DxFfnIdeal.main_arg2) = m ((c.tc : Thread Cert.DxFfnIdeal.nD Cert.DxFfnIdeal.τ).loc Cert.DxFfnIdeal.main_arg2)
          ∧ r.2.mem ((c.tc : Thread Cert.DxFfnIdeal.nD Cert.DxFfnIdeal.τ).loc Cert.DxFfnIdeal.main_arg3) = m ((c.tc : Thread Cert.DxFfnIdeal.nD Cert.DxFfnIdeal.τ).loc Cert.DxFfnIdeal.main_arg3)
          ∧ r.2.mem ((c.tc : Thread Cert.DxFfnIdeal.nD Cert.DxFfnIdeal.τ).loc Cert.DxFfnIdeal.main_arg4) = m ((c.tc : Thread Cert.DxFfnIdeal.nD Cert.DxFfnIdeal.τ).loc Cert.DxFfnIdeal.main_arg4)
          ∧ r.2.mem ((c.tc : Thread Cert.DxFfnIdeal.nD Cert.DxFfnIdeal.τ).loc Cert.DxFfnIdeal.main_arg5) = m ((c.tc : Thread Cert.DxFfnIdeal.nD Cert.DxFfnIdeal.τ).loc Cert.DxFfnIdeal.main_arg5)
          ∧ r.2.mem ((c.tc : Thread Cert.DxFfnIdeal.nD Cert.DxFfnIdeal.τ).loc Cert.DxFfnIdeal.main_arg6) = m ((c.tc : Thread Cert.DxFfnIdeal.nD Cert.DxFfnIdeal.τ).loc Cert.DxFfnIdeal.main_arg6))
      ∧ θ_run (Cert.DxFfnRefIdeal.defs (F := Ideal)) (onTc (τ := Cert.DxFfnRefIdeal.τ) (Cert.DxFfnRefIdeal.main (F := Ideal))) ⟨m', fun _ => 0, g'⟩ (fun r => ∀ c : Dev Cert.DxFfnRefIdeal.nD,
          r.2.mem ((c.tc : Thread Cert.DxFfnRefIdeal.nD Cert.DxFfnRefIdeal.τ).loc Cert.DxFfnRefIdeal.main_v51) = v0 c
          ∧ r.2.mem ((c.tc : Thread Cert.DxFfnRefIdeal.nD Cert.DxFfnRefIdeal.τ).loc Cert.DxFfnRefIdeal.main_v34) = v1 c
          ∧ r.2.mem ((c.tc : Thread Cert.DxFfnRefIdeal.nD Cert.DxFfnRefIdeal.τ).loc Cert.DxFfnRefIdeal.main_arg0) = m' ((c.tc : Thread Cert.DxFfnRefIdeal.nD Cert.DxFfnRefIdeal.τ).loc Cert.DxFfnRefIdeal.main_arg0)
          ∧ r.2.mem ((c.tc : Thread Cert.DxFfnRefIdeal.nD Cert.DxFfnRefIdeal.τ).loc Cert.DxFfnRefIdeal.main_arg1) = m' ((c.tc : Thread Cert.DxFfnRefIdeal.nD Cert.DxFfnRefIdeal.τ).loc Cert.DxFfnRefIdeal.main_arg1)
          ∧ r.2.mem ((c.tc : Thread Cert.DxFfnRefIdeal.nD Cert.DxFfnRefIdeal.τ).loc Cert.DxFfnRefIdeal.main_arg2) = m' ((c.tc : Thread Cert.DxFfnRefIdeal.nD Cert.DxFfnRefIdeal.τ).loc Cert.DxFfnRefIdeal.main_arg2)
          ∧ r.2.mem ((c.tc : Thread Cert.DxFfnRefIdeal.nD Cert.DxFfnRefIdeal.τ).loc Cert.DxFfnRefIdeal.main_arg3) = m' ((c.tc : Thread Cert.DxFfnRefIdeal.nD Cert.DxFfnRefIdeal.τ).loc Cert.DxFfnRefIdeal.main_arg3)
          ∧ r.2.mem ((c.tc : Thread Cert.DxFfnRefIdeal.nD Cert.DxFfnRefIdeal.τ).loc Cert.DxFfnRefIdeal.main_arg4) = m' ((c.tc : Thread Cert.DxFfnRefIdeal.nD Cert.DxFfnRefIdeal.τ).loc Cert.DxFfnRefIdeal.main_arg4)
          ∧ r.2.mem ((c.tc : Thread Cert.DxFfnRefIdeal.nD Cert.DxFfnRefIdeal.τ).loc Cert.DxFfnRefIdeal.main_arg5) = m' ((c.tc : Thread Cert.DxFfnRefIdeal.nD Cert.DxFfnRefIdeal.τ).loc Cert.DxFfnRefIdeal.main_arg5)
          ∧ r.2.mem ((c.tc : Thread Cert.DxFfnRefIdeal.nD Cert.DxFfnRefIdeal.τ).loc Cert.DxFfnRefIdeal.main_arg6) = m' ((c.tc : Thread Cert.DxFfnRefIdeal.nD Cert.DxFfnRefIdeal.τ).loc Cert.DxFfnRefIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v19) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_MixerIn_MixerInIdeal : Prop :=
  True

def algebraic_MixerInIdeal_MixerInRefIdeal [hMixerInIdeal : Cert.MixerInIdeal.Facts] [hMixerInRefIdeal : Cert.MixerInRefIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInRefIdeal.nD Cert.MixerInRefIdeal.τ Cert.MixerInRefIdeal.sig) → Buf (Elt Ideal) ℓ) (g' : Dev Cert.MixerInRefIdeal.nD → PrngReg), Pre_MixerInIdeal m →
    (∀ c : Dev Cert.MixerInIdeal.nD,
      m' ((c.tc : Thread Cert.MixerInRefIdeal.nD Cert.MixerInRefIdeal.τ).loc Cert.MixerInRefIdeal.main_arg0) = m ((c.tc : Thread Cert.MixerInIdeal.nD Cert.MixerInIdeal.τ).loc Cert.MixerInIdeal.main_arg0)
      ∧ m' ((c.tc : Thread Cert.MixerInRefIdeal.nD Cert.MixerInRefIdeal.τ).loc Cert.MixerInRefIdeal.main_arg1) = m ((c.tc : Thread Cert.MixerInIdeal.nD Cert.MixerInIdeal.τ).loc Cert.MixerInIdeal.main_arg1)) →
    ∃ (v0 : (c : Dev Cert.MixerInIdeal.nD) → Buf (Elt Ideal) ((c.tc : Thread Cert.MixerInIdeal.nD Cert.MixerInIdeal.τ).loc Cert.MixerInIdeal.main_v0)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v0) = v0 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ θ_run (Cert.MixerInRefIdeal.defs (F := Ideal)) (onTc (τ := Cert.MixerInRefIdeal.τ) (Cert.MixerInRefIdeal.main (F := Ideal))) ⟨m', fun _ => 0, g'⟩ (fun r => ∀ c : Dev Cert.MixerInRefIdeal.nD,
          r.2.mem ((c.tc : Thread Cert.MixerInRefIdeal.nD Cert.MixerInRefIdeal.τ).loc Cert.MixerInRefIdeal.main_v5) = v0 c
          ∧ r.2.mem ((c.tc : Thread Cert.MixerInRefIdeal.nD Cert.MixerInRefIdeal.τ).loc Cert.MixerInRefIdeal.main_arg0) = m' ((c.tc : Thread Cert.MixerInRefIdeal.nD Cert.MixerInRefIdeal.τ).loc Cert.MixerInRefIdeal.main_arg0)
          ∧ r.2.mem ((c.tc : Thread Cert.MixerInRefIdeal.nD Cert.MixerInRefIdeal.τ).loc Cert.MixerInRefIdeal.main_arg1) = m' ((c.tc : Thread Cert.MixerInRefIdeal.nD Cert.MixerInRefIdeal.τ).loc Cert.MixerInRefIdeal.main_arg1))

def preserves_FfnGu_FfnGuIdeal : Prop :=
  True

def algebraic_FfnGuIdeal_FfnGuRefIdeal_pre_finite_ffn_up [hFfnGuIdeal : Cert.FfnGuIdeal.Facts] [hFfnGuRefIdeal : Cert.FfnGuRefIdeal.Facts] [hPre_finite_ffn_up : Cert.Pre_finite_ffn_up.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuRefIdeal.nD Cert.FfnGuRefIdeal.τ Cert.FfnGuRefIdeal.sig) → Buf (Elt Ideal) ℓ) (g' : Dev Cert.FfnGuRefIdeal.nD → PrngReg), Pre_FfnGuIdeal_finite_ffn_up m →
    (∀ c : Dev Cert.FfnGuIdeal.nD,
      m' ((c.tc : Thread Cert.FfnGuRefIdeal.nD Cert.FfnGuRefIdeal.τ).loc Cert.FfnGuRefIdeal.main_arg0) = m ((c.tc : Thread Cert.FfnGuIdeal.nD Cert.FfnGuIdeal.τ).loc Cert.FfnGuIdeal.main_arg0)
      ∧ m' ((c.tc : Thread Cert.FfnGuRefIdeal.nD Cert.FfnGuRefIdeal.τ).loc Cert.FfnGuRefIdeal.main_arg1) = m ((c.tc : Thread Cert.FfnGuIdeal.nD Cert.FfnGuIdeal.τ).loc Cert.FfnGuIdeal.main_arg1)
      ∧ m' ((c.tc : Thread Cert.FfnGuRefIdeal.nD Cert.FfnGuRefIdeal.τ).loc Cert.FfnGuRefIdeal.main_arg2) = m ((c.tc : Thread Cert.FfnGuIdeal.nD Cert.FfnGuIdeal.τ).loc Cert.FfnGuIdeal.main_arg2)) →
    ∃ (v0 : (c : Dev Cert.FfnGuIdeal.nD) → Buf (Elt Ideal) ((c.tc : Thread Cert.FfnGuIdeal.nD Cert.FfnGuIdeal.τ).loc Cert.FfnGuIdeal.main_v0_0)) (v1 : (c : Dev Cert.FfnGuIdeal.nD) → Buf (Elt Ideal) ((c.tc : Thread Cert.FfnGuIdeal.nD Cert.FfnGuIdeal.τ).loc Cert.FfnGuIdeal.main_v0_1)) (v2 : (c : Dev Cert.FfnGuIdeal.nD) → Buf (Elt Ideal) ((c.tc : Thread Cert.FfnGuIdeal.nD Cert.FfnGuIdeal.τ).loc Cert.FfnGuIdeal.main_v0_2)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v0_0) = v0 c
          ∧ r.2.mem ((c.tc : Thread Cert.FfnGuIdeal.nD Cert.FfnGuIdeal.τ).loc Cert.FfnGuIdeal.main_v0_1) = v1 c
          ∧ r.2.mem ((c.tc : Thread Cert.FfnGuIdeal.nD Cert.FfnGuIdeal.τ).loc Cert.FfnGuIdeal.main_v0_2) = v2 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
          ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ θ_run (Cert.FfnGuRefIdeal.defs (F := Ideal)) (onTc (τ := Cert.FfnGuRefIdeal.τ) (Cert.FfnGuRefIdeal.main (F := Ideal))) ⟨m', fun _ => 0, g'⟩ (fun r => ∀ c : Dev Cert.FfnGuRefIdeal.nD,
          r.2.mem ((c.tc : Thread Cert.FfnGuRefIdeal.nD Cert.FfnGuRefIdeal.τ).loc Cert.FfnGuRefIdeal.main_v13) = v0 c
          ∧ r.2.mem ((c.tc : Thread Cert.FfnGuRefIdeal.nD Cert.FfnGuRefIdeal.τ).loc Cert.FfnGuRefIdeal.main_v16) = v1 c
          ∧ r.2.mem ((c.tc : Thread Cert.FfnGuRefIdeal.nD Cert.FfnGuRefIdeal.τ).loc Cert.FfnGuRefIdeal.main_v20) = v2 c
          ∧ r.2.mem ((c.tc : Thread Cert.FfnGuRefIdeal.nD Cert.FfnGuRefIdeal.τ).loc Cert.FfnGuRefIdeal.main_arg0) = m' ((c.tc : Thread Cert.FfnGuRefIdeal.nD Cert.FfnGuRefIdeal.τ).loc Cert.FfnGuRefIdeal.main_arg0)
          ∧ r.2.mem ((c.tc : Thread Cert.FfnGuRefIdeal.nD Cert.FfnGuRefIdeal.τ).loc Cert.FfnGuRefIdeal.main_arg1) = m' ((c.tc : Thread Cert.FfnGuRefIdeal.nD Cert.FfnGuRefIdeal.τ).loc Cert.FfnGuRefIdeal.main_arg1)
          ∧ r.2.mem ((c.tc : Thread Cert.FfnGuRefIdeal.nD Cert.FfnGuRefIdeal.τ).loc Cert.FfnGuRefIdeal.main_arg2) = m' ((c.tc : Thread Cert.FfnGuRefIdeal.nD Cert.FfnGuRefIdeal.τ).loc Cert.FfnGuRefIdeal.main_arg2))

def preserves_FfnBwdA_FfnBwdAIdeal : Prop :=
  True

def algebraic_FfnBwdAIdeal_FfnBwdARefIdeal [hFfnBwdAIdeal : Cert.FfnBwdAIdeal.Facts] [hFfnBwdARefIdeal : Cert.FfnBwdARefIdeal.Facts] : Prop :=
  ∀ (m : (ℓ : Loc Cert.FfnBwdAIdeal.nD Cert.FfnBwdAIdeal.τ Cert.FfnBwdAIdeal.sig) → Buf (Elt Ideal) ℓ) (g : Dev Cert.FfnBwdAIdeal.nD → PrngReg)
    (m' : (ℓ : Loc Cert.FfnBwdARefIdeal.nD Cert.FfnBwdARefIdeal.τ Cert.FfnBwdARefIdeal.sig) → Buf (Elt Ideal) ℓ) (g' : Dev Cert.FfnBwdARefIdeal.nD → PrngReg), Pre_FfnBwdAIdeal m →
    (∀ c : Dev Cert.FfnBwdAIdeal.nD,
      m' ((c.tc : Thread Cert.FfnBwdARefIdeal.nD Cert.FfnBwdARefIdeal.τ).loc Cert.FfnBwdARefIdeal.main_arg0) = m ((c.tc : Thread Cert.FfnBwdAIdeal.nD Cert.FfnBwdAIdeal.τ).loc Cert.FfnBwdAIdeal.main_arg0)
      ∧ m' ((c.tc : Thread Cert.FfnBwdARefIdeal.nD Cert.FfnBwdARefIdeal.τ).loc Cert.FfnBwdARefIdeal.main_arg1) = m ((c.tc : Thread Cert.FfnBwdAIdeal.nD Cert.FfnBwdAIdeal.τ).loc Cert.FfnBwdAIdeal.main_arg1)
      ∧ m' ((c.tc : Thread Cert.FfnBwdARefIdeal.nD Cert.FfnBwdARefIdeal.τ).loc Cert.FfnBwdARefIdeal.main_arg2) = m ((c.tc : Thread Cert.FfnBwdAIdeal.nD Cert.FfnBwdAIdeal.τ).loc Cert.FfnBwdAIdeal.main_arg2)
      ∧ m' ((c.tc : Thread Cert.FfnBwdARefIdeal.nD Cert.FfnBwdARefIdeal.τ).loc Cert.FfnBwdARefIdeal.main_arg3) = m ((c.tc : Thread Cert.FfnBwdAIdeal.nD Cert.FfnBwdAIdeal.τ).loc Cert.FfnBwdAIdeal.main_arg3)
      ∧ m' ((c.tc : Thread Cert.FfnBwdARefIdeal.nD Cert.FfnBwdARefIdeal.τ).loc Cert.FfnBwdARefIdeal.main_arg4) = m ((c.tc : Thread Cert.FfnBwdAIdeal.nD Cert.FfnBwdAIdeal.τ).loc Cert.FfnBwdAIdeal.main_arg4)
      ∧ m' ((c.tc : Thread Cert.FfnBwdARefIdeal.nD Cert.FfnBwdARefIdeal.τ).loc Cert.FfnBwdARefIdeal.main_arg5) = m ((c.tc : Thread Cert.FfnBwdAIdeal.nD Cert.FfnBwdAIdeal.τ).loc Cert.FfnBwdAIdeal.main_arg5)) →
    ∃ (v0 : (c : Dev Cert.FfnBwdAIdeal.nD) → Buf (Elt Ideal) ((c.tc : Thread Cert.FfnBwdAIdeal.nD Cert.FfnBwdAIdeal.τ).loc Cert.FfnBwdAIdeal.main_v0_0)) (v1 : (c : Dev Cert.FfnBwdAIdeal.nD) → Buf (Elt Ideal) ((c.tc : Thread Cert.FfnBwdAIdeal.nD Cert.FfnBwdAIdeal.τ).loc Cert.FfnBwdAIdeal.main_v0_1)) (v2 : (c : Dev Cert.FfnBwdAIdeal.nD) → Buf (Elt Ideal) ((c.tc : Thread Cert.FfnBwdAIdeal.nD Cert.FfnBwdAIdeal.τ).loc Cert.FfnBwdAIdeal.main_v0_2)) (v3 : (c : Dev Cert.FfnBwdAIdeal.nD) → Buf (Elt Ideal) ((c.tc : Thread Cert.FfnBwdAIdeal.nD Cert.FfnBwdAIdeal.τ).loc Cert.FfnBwdAIdeal.main_v0_3)),
      θ_run (Cert.FfnBwdAIdeal.defs (F := Ideal)) (onTc (τ := Cert.FfnBwdAIdeal.τ) (Cert.FfnBwdAIdeal.main (F := Ideal))) ⟨m, fun _ => 0, g⟩ (fun r => ∀ c : Dev Cert.FfnBwdAIdeal.nD,
          r.2.mem ((c.tc : Thread Cert.FfnBwdAIdeal.nD Cert.FfnBwdAIdeal.τ).loc Cert.FfnBwdAIdeal.main_v0_0) = v0 c
          ∧ r.2.mem ((c.tc : Thread Cert.FfnBwdAIdeal.nD Cert.FfnBwdAIdeal.τ).loc Cert.FfnBwdAIdeal.main_v0_1) = v1 c
          ∧ r.2.mem ((c.tc : Thread Cert.FfnBwdAIdeal.nD Cert.FfnBwdAIdeal.τ).loc Cert.FfnBwdAIdeal.main_v0_2) = v2 c
          ∧ r.2.mem ((c.tc : Thread Cert.FfnBwdAIdeal.nD Cert.FfnBwdAIdeal.τ).loc Cert.FfnBwdAIdeal.main_v0_3) = v3 c
          ∧ r.2.mem ((c.tc : Thread Cert.FfnBwdAIdeal.nD Cert.FfnBwdAIdeal.τ).loc Cert.FfnBwdAIdeal.main_arg0) = m ((c.tc : Thread Cert.FfnBwdAIdeal.nD Cert.FfnBwdAIdeal.τ).loc Cert.FfnBwdAIdeal.main_arg0)
          ∧ r.2.mem ((c.tc : Thread Cert.FfnBwdAIdeal.nD Cert.FfnBwdAIdeal.τ).loc Cert.FfnBwdAIdeal.main_arg1) = m ((c.tc : Thread Cert.FfnBwdAIdeal.nD Cert.FfnBwdAIdeal.τ).loc Cert.FfnBwdAIdeal.main_arg1)
          ∧ r.2.mem ((c.tc : Thread Cert.FfnBwdAIdeal.nD Cert.FfnBwdAIdeal.τ).loc Cert.FfnBwdAIdeal.main_arg2) = m ((c.tc : Thread Cert.FfnBwdAIdeal.nD Cert.FfnBwdAIdeal.τ).loc Cert.FfnBwdAIdeal.main_arg2)
          ∧ r.2.mem ((c.tc : Thread Cert.FfnBwdAIdeal.nD Cert.FfnBwdAIdeal.τ).loc Cert.FfnBwdAIdeal.main_arg3) = m ((c.tc : Thread Cert.FfnBwdAIdeal.nD Cert.FfnBwdAIdeal.τ).loc Cert.FfnBwdAIdeal.main_arg3)
          ∧ r.2.mem ((c.tc : Thread Cert.FfnBwdAIdeal.nD Cert.FfnBwdAIdeal.τ).loc Cert.FfnBwdAIdeal.main_arg4) = m ((c.tc : Thread Cert.FfnBwdAIdeal.nD Cert.FfnBwdAIdeal.τ).loc Cert.FfnBwdAIdeal.main_arg4)
          ∧ r.2.mem ((c.tc : Thread Cert.FfnBwdAIdeal.nD Cert.FfnBwdAIdeal.τ).loc Cert.FfnBwdAIdeal.main_arg5) = m ((c.tc : Thread Cert.FfnBwdAIdeal.nD Cert.FfnBwdAIdeal.τ).loc Cert.FfnBwdAIdeal.main_arg5))
      ∧ θ_run (Cert.FfnBwdARefIdeal.defs (F := Ideal)) (onTc (τ := Cert.FfnBwdARefIdeal.τ) (Cert.FfnBwdARefIdeal.main (F := Ideal))) ⟨m', fun _ => 0, g'⟩ (fun r => ∀ c : Dev Cert.FfnBwdARefIdeal.nD,
          r.2.mem ((c.tc : Thread Cert.FfnBwdARefIdeal.nD Cert.FfnBwdARefIdeal.τ).loc Cert.FfnBwdARefIdeal.main_v44) = v0 c
          ∧ r.2.mem ((c.tc : Thread Cert.FfnBwdARefIdeal.nD Cert.FfnBwdARefIdeal.τ).loc Cert.FfnBwdARefIdeal.main_v51) = v1 c
          ∧ r.2.mem ((c.tc : Thread Cert.FfnBwdARefIdeal.nD Cert.FfnBwdARefIdeal.τ).loc Cert.FfnBwdARefIdeal.main_v58) = v2 c
          ∧ r.2.mem ((c.tc : Thread Cert.FfnBwdARefIdeal.nD Cert.FfnBwdARefIdeal.τ).loc Cert.FfnBwdARefIdeal.main_v22) = v3 c
          ∧ r.2.mem ((c.tc : Thread Cert.FfnBwdARefIdeal.nD Cert.FfnBwdARefIdeal.τ).loc Cert.FfnBwdARefIdeal.main_arg0) = m' ((c.tc : Thread Cert.FfnBwdARefIdeal.nD Cert.FfnBwdARefIdeal.τ).loc Cert.FfnBwdARefIdeal.main_arg0)
          ∧ r.2.mem ((c.tc : Thread Cert.FfnBwdARefIdeal.nD Cert.FfnBwdARefIdeal.τ).loc Cert.FfnBwdARefIdeal.main_arg1) = m' ((c.tc : Thread Cert.FfnBwdARefIdeal.nD Cert.FfnBwdARefIdeal.τ).loc Cert.FfnBwdARefIdeal.main_arg1)
          ∧ r.2.mem ((c.tc : Thread Cert.FfnBwdARefIdeal.nD Cert.FfnBwdARefIdeal.τ).loc Cert.FfnBwdARefIdeal.main_arg2) = m' ((c.tc : Thread Cert.FfnBwdARefIdeal.nD Cert.FfnBwdARefIdeal.τ).loc Cert.FfnBwdARefIdeal.main_arg2)
          ∧ r.2.mem ((c.tc : Thread Cert.FfnBwdARefIdeal.nD Cert.FfnBwdARefIdeal.τ).loc Cert.FfnBwdARefIdeal.main_arg3) = m' ((c.tc : Thread Cert.FfnBwdARefIdeal.nD Cert.FfnBwdARefIdeal.τ).loc Cert.FfnBwdARefIdeal.main_arg3)
          ∧ r.2.mem ((c.tc : Thread Cert.FfnBwdARefIdeal.nD Cert.FfnBwdARefIdeal.τ).loc Cert.FfnBwdARefIdeal.main_arg4) = m' ((c.tc : Thread Cert.FfnBwdARefIdeal.nD Cert.FfnBwdARefIdeal.τ).loc Cert.FfnBwdARefIdeal.main_arg4)
          ∧ r.2.mem ((c.tc : Thread Cert.FfnBwdARefIdeal.nD Cert.FfnBwdARefIdeal.τ).loc Cert.FfnBwdARefIdeal.main_arg5) = m' ((c.tc : Thread Cert.FfnBwdARefIdeal.nD Cert.FfnBwdARefIdeal.τ).loc Cert.FfnBwdARefIdeal.main_arg5))

def preserves_MmNorm_MmNormIdeal : Prop :=
  True

def algebraic_MmNormIdeal_MmNormRefIdeal [hMmNormIdeal : Cert.MmNormIdeal.Facts] [hMmNormRefIdeal : Cert.MmNormRefIdeal.Facts] : Prop :=
  ∀ (m : (ℓ : Loc Cert.MmNormIdeal.nD Cert.MmNormIdeal.τ Cert.MmNormIdeal.sig) → Buf (Elt Ideal) ℓ) (g : Dev Cert.MmNormIdeal.nD → PrngReg)
    (m' : (ℓ : Loc Cert.MmNormRefIdeal.nD Cert.MmNormRefIdeal.τ Cert.MmNormRefIdeal.sig) → Buf (Elt Ideal) ℓ) (g' : Dev Cert.MmNormRefIdeal.nD → PrngReg), Pre_MmNormIdeal m →
    (∀ c : Dev Cert.MmNormIdeal.nD,
      m' ((c.tc : Thread Cert.MmNormRefIdeal.nD Cert.MmNormRefIdeal.τ).loc Cert.MmNormRefIdeal.main_arg0) = m ((c.tc : Thread Cert.MmNormIdeal.nD Cert.MmNormIdeal.τ).loc Cert.MmNormIdeal.main_arg0)
      ∧ m' ((c.tc : Thread Cert.MmNormRefIdeal.nD Cert.MmNormRefIdeal.τ).loc Cert.MmNormRefIdeal.main_arg1) = m ((c.tc : Thread Cert.MmNormIdeal.nD Cert.MmNormIdeal.τ).loc Cert.MmNormIdeal.main_arg1)
      ∧ m' ((c.tc : Thread Cert.MmNormRefIdeal.nD Cert.MmNormRefIdeal.τ).loc Cert.MmNormRefIdeal.main_arg2) = m ((c.tc : Thread Cert.MmNormIdeal.nD Cert.MmNormIdeal.τ).loc Cert.MmNormIdeal.main_arg2)
      ∧ m' ((c.tc : Thread Cert.MmNormRefIdeal.nD Cert.MmNormRefIdeal.τ).loc Cert.MmNormRefIdeal.main_arg3) = m ((c.tc : Thread Cert.MmNormIdeal.nD Cert.MmNormIdeal.τ).loc Cert.MmNormIdeal.main_arg3)
      ∧ m' ((c.tc : Thread Cert.MmNormRefIdeal.nD Cert.MmNormRefIdeal.τ).loc Cert.MmNormRefIdeal.main_arg4) = m ((c.tc : Thread Cert.MmNormIdeal.nD Cert.MmNormIdeal.τ).loc Cert.MmNormIdeal.main_arg4)) →
    ∃ (v0 : (c : Dev Cert.MmNormIdeal.nD) → Buf (Elt Ideal) ((c.tc : Thread Cert.MmNormIdeal.nD Cert.MmNormIdeal.τ).loc Cert.MmNormIdeal.main_v0_0)) (v1 : (c : Dev Cert.MmNormIdeal.nD) → Buf (Elt Ideal) ((c.tc : Thread Cert.MmNormIdeal.nD Cert.MmNormIdeal.τ).loc Cert.MmNormIdeal.main_v0_1)) (v2 : (c : Dev Cert.MmNormIdeal.nD) → Buf (Elt Ideal) ((c.tc : Thread Cert.MmNormIdeal.nD Cert.MmNormIdeal.τ).loc Cert.MmNormIdeal.main_v0_2)),
      θ_run (Cert.MmNormIdeal.defs (F := Ideal)) (onTc (τ := Cert.MmNormIdeal.τ) (Cert.MmNormIdeal.main (F := Ideal))) ⟨m, fun _ => 0, g⟩ (fun r => ∀ c : Dev Cert.MmNormIdeal.nD,
          r.2.mem ((c.tc : Thread Cert.MmNormIdeal.nD Cert.MmNormIdeal.τ).loc Cert.MmNormIdeal.main_v0_0) = v0 c
          ∧ r.2.mem ((c.tc : Thread Cert.MmNormIdeal.nD Cert.MmNormIdeal.τ).loc Cert.MmNormIdeal.main_v0_1) = v1 c
          ∧ r.2.mem ((c.tc : Thread Cert.MmNormIdeal.nD Cert.MmNormIdeal.τ).loc Cert.MmNormIdeal.main_v0_2) = v2 c
          ∧ r.2.mem ((c.tc : Thread Cert.MmNormIdeal.nD Cert.MmNormIdeal.τ).loc Cert.MmNormIdeal.main_arg0) = m ((c.tc : Thread Cert.MmNormIdeal.nD Cert.MmNormIdeal.τ).loc Cert.MmNormIdeal.main_arg0)
          ∧ r.2.mem ((c.tc : Thread Cert.MmNormIdeal.nD Cert.MmNormIdeal.τ).loc Cert.MmNormIdeal.main_arg1) = m ((c.tc : Thread Cert.MmNormIdeal.nD Cert.MmNormIdeal.τ).loc Cert.MmNormIdeal.main_arg1)
          ∧ r.2.mem ((c.tc : Thread Cert.MmNormIdeal.nD Cert.MmNormIdeal.τ).loc Cert.MmNormIdeal.main_arg2) = m ((c.tc : Thread Cert.MmNormIdeal.nD Cert.MmNormIdeal.τ).loc Cert.MmNormIdeal.main_arg2)
          ∧ r.2.mem ((c.tc : Thread Cert.MmNormIdeal.nD Cert.MmNormIdeal.τ).loc Cert.MmNormIdeal.main_arg3) = m ((c.tc : Thread Cert.MmNormIdeal.nD Cert.MmNormIdeal.τ).loc Cert.MmNormIdeal.main_arg3)
          ∧ r.2.mem ((c.tc : Thread Cert.MmNormIdeal.nD Cert.MmNormIdeal.τ).loc Cert.MmNormIdeal.main_arg4) = m ((c.tc : Thread Cert.MmNormIdeal.nD Cert.MmNormIdeal.τ).loc Cert.MmNormIdeal.main_arg4))
      ∧ θ_run (Cert.MmNormRefIdeal.defs (F := Ideal)) (onTc (τ := Cert.MmNormRefIdeal.τ) (Cert.MmNormRefIdeal.main (F := Ideal))) ⟨m', fun _ => 0, g'⟩ (fun r => ∀ c : Dev Cert.MmNormRefIdeal.nD,
          r.2.mem ((c.tc : Thread Cert.MmNormRefIdeal.nD Cert.MmNormRefIdeal.τ).loc Cert.MmNormRefIdeal.main_v21) = v0 c
          ∧ r.2.mem ((c.tc : Thread Cert.MmNormRefIdeal.nD Cert.MmNormRefIdeal.τ).loc Cert.MmNormRefIdeal.main_v20) = v1 c
          ∧ r.2.mem ((c.tc : Thread Cert.MmNormRefIdeal.nD Cert.MmNormRefIdeal.τ).loc Cert.MmNormRefIdeal.main_v34) = v2 c
          ∧ r.2.mem ((c.tc : Thread Cert.MmNormRefIdeal.nD Cert.MmNormRefIdeal.τ).loc Cert.MmNormRefIdeal.main_arg0) = m' ((c.tc : Thread Cert.MmNormRefIdeal.nD Cert.MmNormRefIdeal.τ).loc Cert.MmNormRefIdeal.main_arg0)
          ∧ r.2.mem ((c.tc : Thread Cert.MmNormRefIdeal.nD Cert.MmNormRefIdeal.τ).loc Cert.MmNormRefIdeal.main_arg1) = m' ((c.tc : Thread Cert.MmNormRefIdeal.nD Cert.MmNormRefIdeal.τ).loc Cert.MmNormRefIdeal.main_arg1)
          ∧ r.2.mem ((c.tc : Thread Cert.MmNormRefIdeal.nD Cert.MmNormRefIdeal.τ).loc Cert.MmNormRefIdeal.main_arg2) = m' ((c.tc : Thread Cert.MmNormRefIdeal.nD Cert.MmNormRefIdeal.τ).loc Cert.MmNormRefIdeal.main_arg2)
          ∧ r.2.mem ((c.tc : Thread Cert.MmNormRefIdeal.nD Cert.MmNormRefIdeal.τ).loc Cert.MmNormRefIdeal.main_arg3) = m' ((c.tc : Thread Cert.MmNormRefIdeal.nD Cert.MmNormRefIdeal.τ).loc Cert.MmNormRefIdeal.main_arg3)
          ∧ r.2.mem ((c.tc : Thread Cert.MmNormRefIdeal.nD Cert.MmNormRefIdeal.τ).loc Cert.MmNormRefIdeal.main_arg4) = m' ((c.tc : Thread Cert.MmNormRefIdeal.nD Cert.MmNormRefIdeal.τ).loc Cert.MmNormRefIdeal.main_arg4))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v7) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DxMixer_DxMixerIdeal : Prop :=
  True

def algebraic_DxMixerIdeal_DxMixerRefIdeal [hDxMixerIdeal : Cert.DxMixerIdeal.Facts] [hDxMixerRefIdeal : Cert.DxMixerRefIdeal.Facts] : Prop :=
  ∀ (m : (ℓ : Loc Cert.DxMixerIdeal.nD Cert.DxMixerIdeal.τ Cert.DxMixerIdeal.sig) → Buf (Elt Ideal) ℓ) (g : Dev Cert.DxMixerIdeal.nD → PrngReg)
    (m' : (ℓ : Loc Cert.DxMixerRefIdeal.nD Cert.DxMixerRefIdeal.τ Cert.DxMixerRefIdeal.sig) → Buf (Elt Ideal) ℓ) (g' : Dev Cert.DxMixerRefIdeal.nD → PrngReg), Pre_DxMixerIdeal m →
    (∀ c : Dev Cert.DxMixerIdeal.nD,
      m' ((c.tc : Thread Cert.DxMixerRefIdeal.nD Cert.DxMixerRefIdeal.τ).loc Cert.DxMixerRefIdeal.main_arg0) = m ((c.tc : Thread Cert.DxMixerIdeal.nD Cert.DxMixerIdeal.τ).loc Cert.DxMixerIdeal.main_arg0)
      ∧ m' ((c.tc : Thread Cert.DxMixerRefIdeal.nD Cert.DxMixerRefIdeal.τ).loc Cert.DxMixerRefIdeal.main_arg1) = m ((c.tc : Thread Cert.DxMixerIdeal.nD Cert.DxMixerIdeal.τ).loc Cert.DxMixerIdeal.main_arg1)
      ∧ m' ((c.tc : Thread Cert.DxMixerRefIdeal.nD Cert.DxMixerRefIdeal.τ).loc Cert.DxMixerRefIdeal.main_arg2) = m ((c.tc : Thread Cert.DxMixerIdeal.nD Cert.DxMixerIdeal.τ).loc Cert.DxMixerIdeal.main_arg2)
      ∧ m' ((c.tc : Thread Cert.DxMixerRefIdeal.nD Cert.DxMixerRefIdeal.τ).loc Cert.DxMixerRefIdeal.main_arg3) = m ((c.tc : Thread Cert.DxMixerIdeal.nD Cert.DxMixerIdeal.τ).loc Cert.DxMixerIdeal.main_arg3)
      ∧ m' ((c.tc : Thread Cert.DxMixerRefIdeal.nD Cert.DxMixerRefIdeal.τ).loc Cert.DxMixerRefIdeal.main_arg4) = m ((c.tc : Thread Cert.DxMixerIdeal.nD Cert.DxMixerIdeal.τ).loc Cert.DxMixerIdeal.main_arg4)) →
    ∃ (v0 : (c : Dev Cert.DxMixerIdeal.nD) → Buf (Elt Ideal) ((c.tc : Thread Cert.DxMixerIdeal.nD Cert.DxMixerIdeal.τ).loc Cert.DxMixerIdeal.main_v0_0)) (v1 : (c : Dev Cert.DxMixerIdeal.nD) → Buf (Elt Ideal) ((c.tc : Thread Cert.DxMixerIdeal.nD Cert.DxMixerIdeal.τ).loc Cert.DxMixerIdeal.main_v0_1)),
      θ_run (Cert.DxMixerIdeal.defs (F := Ideal)) (onTc (τ := Cert.DxMixerIdeal.τ) (Cert.DxMixerIdeal.main (F := Ideal))) ⟨m, fun _ => 0, g⟩ (fun r => ∀ c : Dev Cert.DxMixerIdeal.nD,
          r.2.mem ((c.tc : Thread Cert.DxMixerIdeal.nD Cert.DxMixerIdeal.τ).loc Cert.DxMixerIdeal.main_v0_0) = v0 c
          ∧ r.2.mem ((c.tc : Thread Cert.DxMixerIdeal.nD Cert.DxMixerIdeal.τ).loc Cert.DxMixerIdeal.main_v0_1) = v1 c
          ∧ r.2.mem ((c.tc : Thread Cert.DxMixerIdeal.nD Cert.DxMixerIdeal.τ).loc Cert.DxMixerIdeal.main_arg0) = m ((c.tc : Thread Cert.DxMixerIdeal.nD Cert.DxMixerIdeal.τ).loc Cert.DxMixerIdeal.main_arg0)
          ∧ r.2.mem ((c.tc : Thread Cert.DxMixerIdeal.nD Cert.DxMixerIdeal.τ).loc Cert.DxMixerIdeal.main_arg1) = m ((c.tc : Thread Cert.DxMixerIdeal.nD Cert.DxMixerIdeal.τ).loc Cert.DxMixerIdeal.main_arg1)
          ∧ r.2.mem ((c.tc : Thread Cert.DxMixerIdeal.nD Cert.DxMixerIdeal.τ).loc Cert.DxMixerIdeal.main_arg2) = m ((c.tc : Thread Cert.DxMixerIdeal.nD Cert.DxMixerIdeal.τ).loc Cert.DxMixerIdeal.main_arg2)
          ∧ r.2.mem ((c.tc : Thread Cert.DxMixerIdeal.nD Cert.DxMixerIdeal.τ).loc Cert.DxMixerIdeal.main_arg3) = m ((c.tc : Thread Cert.DxMixerIdeal.nD Cert.DxMixerIdeal.τ).loc Cert.DxMixerIdeal.main_arg3)
          ∧ r.2.mem ((c.tc : Thread Cert.DxMixerIdeal.nD Cert.DxMixerIdeal.τ).loc Cert.DxMixerIdeal.main_arg4) = m ((c.tc : Thread Cert.DxMixerIdeal.nD Cert.DxMixerIdeal.τ).loc Cert.DxMixerIdeal.main_arg4))
      ∧ θ_run (Cert.DxMixerRefIdeal.defs (F := Ideal)) (onTc (τ := Cert.DxMixerRefIdeal.τ) (Cert.DxMixerRefIdeal.main (F := Ideal))) ⟨m', fun _ => 0, g'⟩ (fun r => ∀ c : Dev Cert.DxMixerRefIdeal.nD,
          r.2.mem ((c.tc : Thread Cert.DxMixerRefIdeal.nD Cert.DxMixerRefIdeal.τ).loc Cert.DxMixerRefIdeal.main_v51) = v0 c
          ∧ r.2.mem ((c.tc : Thread Cert.DxMixerRefIdeal.nD Cert.DxMixerRefIdeal.τ).loc Cert.DxMixerRefIdeal.main_v34) = v1 c
          ∧ r.2.mem ((c.tc : Thread Cert.DxMixerRefIdeal.nD Cert.DxMixerRefIdeal.τ).loc Cert.DxMixerRefIdeal.main_arg0) = m' ((c.tc : Thread Cert.DxMixerRefIdeal.nD Cert.DxMixerRefIdeal.τ).loc Cert.DxMixerRefIdeal.main_arg0)
          ∧ r.2.mem ((c.tc : Thread Cert.DxMixerRefIdeal.nD Cert.DxMixerRefIdeal.τ).loc Cert.DxMixerRefIdeal.main_arg1) = m' ((c.tc : Thread Cert.DxMixerRefIdeal.nD Cert.DxMixerRefIdeal.τ).loc Cert.DxMixerRefIdeal.main_arg1)
          ∧ r.2.mem ((c.tc : Thread Cert.DxMixerRefIdeal.nD Cert.DxMixerRefIdeal.τ).loc Cert.DxMixerRefIdeal.main_arg2) = m' ((c.tc : Thread Cert.DxMixerRefIdeal.nD Cert.DxMixerRefIdeal.τ).loc Cert.DxMixerRefIdeal.main_arg2)
          ∧ r.2.mem ((c.tc : Thread Cert.DxMixerRefIdeal.nD Cert.DxMixerRefIdeal.τ).loc Cert.DxMixerRefIdeal.main_arg3) = m' ((c.tc : Thread Cert.DxMixerRefIdeal.nD Cert.DxMixerRefIdeal.τ).loc Cert.DxMixerRefIdeal.main_arg3)
          ∧ r.2.mem ((c.tc : Thread Cert.DxMixerRefIdeal.nD Cert.DxMixerRefIdeal.τ).loc Cert.DxMixerRefIdeal.main_arg4) = m' ((c.tc : Thread Cert.DxMixerRefIdeal.nD Cert.DxMixerRefIdeal.τ).loc Cert.DxMixerRefIdeal.main_arg4))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)
      ∧ m' ((c.tc : Thread Cert.MixerOutRefIdeal.nD Cert.MixerOutRefIdeal.τ).loc Cert.MixerOutRefIdeal.main_arg4) = m ((c.tc : Thread Cert.MixerOutIdeal.nD Cert.MixerOutIdeal.τ).loc Cert.MixerOutIdeal.main_arg4)) →
    ∃ (v0 : (c : Dev Cert.MixerOutIdeal.nD) → Buf (Elt Ideal) ((c.tc : Thread Cert.MixerOutIdeal.nD Cert.MixerOutIdeal.τ).loc Cert.MixerOutIdeal.main_v2_0)) (v1 : (c : Dev Cert.MixerOutIdeal.nD) → Buf (Elt Ideal) ((c.tc : Thread Cert.MixerOutIdeal.nD Cert.MixerOutIdeal.τ).loc Cert.MixerOutIdeal.main_v2_1)) (v2 : (c : Dev Cert.MixerOutIdeal.nD) → Buf (Elt Ideal) ((c.tc : Thread Cert.MixerOutIdeal.nD Cert.MixerOutIdeal.τ).loc Cert.MixerOutIdeal.main_v2_2)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v2_0) = v0 c
          ∧ r.2.mem ((c.tc : Thread Cert.MixerOutIdeal.nD Cert.MixerOutIdeal.τ).loc Cert.MixerOutIdeal.main_v2_1) = v1 c
          ∧ r.2.mem ((c.tc : Thread Cert.MixerOutIdeal.nD Cert.MixerOutIdeal.τ).loc Cert.MixerOutIdeal.main_v2_2) = v2 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v16) = v0 c
          ∧ r.2.mem ((c.tc : Thread Cert.MixerOutRefIdeal.nD Cert.MixerOutRefIdeal.τ).loc Cert.MixerOutRefIdeal.main_v15) = v1 c
          ∧ r.2.mem ((c.tc : Thread Cert.MixerOutRefIdeal.nD Cert.MixerOutRefIdeal.τ).loc Cert.MixerOutRefIdeal.main_v29) = v2 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3)
          ∧ r.2.mem ((c.tc : Thread Cert.MixerOutRefIdeal.nD Cert.MixerOutRefIdeal.τ).loc Cert.MixerOutRefIdeal.main_arg4) = m' ((c.tc : Thread Cert.MixerOutRefIdeal.nD Cert.MixerOutRefIdeal.τ).loc Cert.MixerOutRefIdeal.main_arg4))

def preserves_MixerY_MixerYIdeal : Prop :=
  True

def algebraic_MixerYIdeal_MixerYRefIdeal [hMixerYIdeal : Cert.MixerYIdeal.Facts] [hMixerYRefIdeal : Cert.MixerYRefIdeal.Facts] : Prop :=
  ∀ (m : (ℓ : Loc Cert.MixerYIdeal.nD Cert.MixerYIdeal.τ Cert.MixerYIdeal.sig) → Buf (Elt Ideal) ℓ) (g : Dev Cert.MixerYIdeal.nD → PrngReg)
    (m' : (ℓ : Loc Cert.MixerYRefIdeal.nD Cert.MixerYRefIdeal.τ Cert.MixerYRefIdeal.sig) → Buf (Elt Ideal) ℓ) (g' : Dev Cert.MixerYRefIdeal.nD → PrngReg), Pre_MixerYIdeal m →
    (∀ c : Dev Cert.MixerYIdeal.nD,
      m' ((c.tc : Thread Cert.MixerYRefIdeal.nD Cert.MixerYRefIdeal.τ).loc Cert.MixerYRefIdeal.main_arg0) = m ((c.tc : Thread Cert.MixerYIdeal.nD Cert.MixerYIdeal.τ).loc Cert.MixerYIdeal.main_arg0)
      ∧ m' ((c.tc : Thread Cert.MixerYRefIdeal.nD Cert.MixerYRefIdeal.τ).loc Cert.MixerYRefIdeal.main_arg1) = m ((c.tc : Thread Cert.MixerYIdeal.nD Cert.MixerYIdeal.τ).loc Cert.MixerYIdeal.main_arg1)
      ∧ m' ((c.tc : Thread Cert.MixerYRefIdeal.nD Cert.MixerYRefIdeal.τ).loc Cert.MixerYRefIdeal.main_arg2) = m ((c.tc : Thread Cert.MixerYIdeal.nD Cert.MixerYIdeal.τ).loc Cert.MixerYIdeal.main_arg2)
      ∧ m' ((c.tc : Thread Cert.MixerYRefIdeal.nD Cert.MixerYRefIdeal.τ).loc Cert.MixerYRefIdeal.main_arg3) = m ((c.tc : Thread Cert.MixerYIdeal.nD Cert.MixerYIdeal.τ).loc Cert.MixerYIdeal.main_arg3)
      ∧ m' ((c.tc : Thread Cert.MixerYRefIdeal.nD Cert.MixerYRefIdeal.τ).loc Cert.MixerYRefIdeal.main_arg4) = m ((c.tc : Thread Cert.MixerYIdeal.nD Cert.MixerYIdeal.τ).loc Cert.MixerYIdeal.main_arg4)) →
    ∃ (v0 : (c : Dev Cert.MixerYIdeal.nD) → Buf (Elt Ideal) ((c.tc : Thread Cert.MixerYIdeal.nD Cert.MixerYIdeal.τ).loc Cert.MixerYIdeal.main_v0_0)) (v1 : (c : Dev Cert.MixerYIdeal.nD) → Buf (Elt Ideal) ((c.tc : Thread Cert.MixerYIdeal.nD Cert.MixerYIdeal.τ).loc Cert.MixerYIdeal.main_v0_1)) (v2 : (c : Dev Cert.MixerYIdeal.nD) → Buf (Elt Ideal) ((c.tc : Thread Cert.MixerYIdeal.nD Cert.MixerYIdeal.τ).loc Cert.MixerYIdeal.main_v0_2)),
      θ_run (Cert.MixerYIdeal.defs (F := Ideal)) (onTc (τ := Cert.MixerYIdeal.τ) (Cert.MixerYIdeal.main (F := Ideal))) ⟨m, fun _ => 0, g⟩ (fun r => ∀ c : Dev Cert.MixerYIdeal.nD,
          r.2.mem ((c.tc : Thread Cert.MixerYIdeal.nD Cert.MixerYIdeal.τ).loc Cert.MixerYIdeal.main_v0_0) = v0 c
          ∧ r.2.mem ((c.tc : Thread Cert.MixerYIdeal.nD Cert.MixerYIdeal.τ).loc Cert.MixerYIdeal.main_v0_1) = v1 c
          ∧ r.2.mem ((c.tc : Thread Cert.MixerYIdeal.nD Cert.MixerYIdeal.τ).loc Cert.MixerYIdeal.main_v0_2) = v2 c
          ∧ r.2.mem ((c.tc : Thread Cert.MixerYIdeal.nD Cert.MixerYIdeal.τ).loc Cert.MixerYIdeal.main_arg0) = m ((c.tc : Thread Cert.MixerYIdeal.nD Cert.MixerYIdeal.τ).loc Cert.MixerYIdeal.main_arg0)
          ∧ r.2.mem ((c.tc : Thread Cert.MixerYIdeal.nD Cert.MixerYIdeal.τ).loc Cert.MixerYIdeal.main_arg1) = m ((c.tc : Thread Cert.MixerYIdeal.nD Cert.MixerYIdeal.τ).loc Cert.MixerYIdeal.main_arg1)
          ∧ r.2.mem ((c.tc : Thread Cert.MixerYIdeal.nD Cert.MixerYIdeal.τ).loc Cert.MixerYIdeal.main_arg2) = m ((c.tc : Thread Cert.MixerYIdeal.nD Cert.MixerYIdeal.τ).loc Cert.MixerYIdeal.main_arg2)
          ∧ r.2.mem ((c.tc : Thread Cert.MixerYIdeal.nD Cert.MixerYIdeal.τ).loc Cert.MixerYIdeal.main_arg3) = m ((c.tc : Thread Cert.MixerYIdeal.nD Cert.MixerYIdeal.τ).loc Cert.MixerYIdeal.main_arg3)
          ∧ r.2.mem ((c.tc : Thread Cert.MixerYIdeal.nD Cert.MixerYIdeal.τ).loc Cert.MixerYIdeal.main_arg4) = m ((c.tc : Thread Cert.MixerYIdeal.nD Cert.MixerYIdeal.τ).loc Cert.MixerYIdeal.main_arg4))
      ∧ θ_run (Cert.MixerYRefIdeal.defs (F := Ideal)) (onTc (τ := Cert.MixerYRefIdeal.τ) (Cert.MixerYRefIdeal.main (F := Ideal))) ⟨m', fun _ => 0, g'⟩ (fun r => ∀ c : Dev Cert.MixerYRefIdeal.nD,
          r.2.mem ((c.tc : Thread Cert.MixerYRefIdeal.nD Cert.MixerYRefIdeal.τ).loc Cert.MixerYRefIdeal.main_v25) = v0 c
          ∧ r.2.mem ((c.tc : Thread Cert.MixerYRefIdeal.nD Cert.MixerYRefIdeal.τ).loc Cert.MixerYRefIdeal.main_v26) = v1 c
          ∧ r.2.mem ((c.tc : Thread Cert.MixerYRefIdeal.nD Cert.MixerYRefIdeal.τ).loc Cert.MixerYRefIdeal.main_v27) = v2 c
          ∧ r.2.mem ((c.tc : Thread Cert.MixerYRefIdeal.nD Cert.MixerYRefIdeal.τ).loc Cert.MixerYRefIdeal.main_arg0) = m' ((c.tc : Thread Cert.MixerYRefIdeal.nD Cert.MixerYRefIdeal.τ).loc Cert.MixerYRefIdeal.main_arg0)
          ∧ r.2.mem ((c.tc : Thread Cert.MixerYRefIdeal.nD Cert.MixerYRefIdeal.τ).loc Cert.MixerYRefIdeal.main_arg1) = m' ((c.tc : Thread Cert.MixerYRefIdeal.nD Cert.MixerYRefIdeal.τ).loc Cert.MixerYRefIdeal.main_arg1)
          ∧ r.2.mem ((c.tc : Thread Cert.MixerYRefIdeal.nD Cert.MixerYRefIdeal.τ).loc Cert.MixerYRefIdeal.main_arg2) = m' ((c.tc : Thread Cert.MixerYRefIdeal.nD Cert.MixerYRefIdeal.τ).loc Cert.MixerYRefIdeal.main_arg2)
          ∧ r.2.mem ((c.tc : Thread Cert.MixerYRefIdeal.nD Cert.MixerYRefIdeal.τ).loc Cert.MixerYRefIdeal.main_arg3) = m' ((c.tc : Thread Cert.MixerYRefIdeal.nD Cert.MixerYRefIdeal.τ).loc Cert.MixerYRefIdeal.main_arg3)
          ∧ r.2.mem ((c.tc : Thread Cert.MixerYRefIdeal.nD Cert.MixerYRefIdeal.τ).loc Cert.MixerYRefIdeal.main_arg4) = m' ((c.tc : Thread Cert.MixerYRefIdeal.nD Cert.MixerYRefIdeal.τ).loc Cert.MixerYRefIdeal.main_arg4))

def preserves_MixerBwdY_MixerBwdYIdeal : Prop :=
  True

def algebraic_MixerBwdYIdeal_MixerBwdYRefIdeal [hMixerBwdYIdeal : Cert.MixerBwdYIdeal.Facts] [hMixerBwdYRefIdeal : Cert.MixerBwdYRefIdeal.Facts] : Prop :=
  ∀ (m : (ℓ : Loc Cert.MixerBwdYIdeal.nD Cert.MixerBwdYIdeal.τ Cert.MixerBwdYIdeal.sig) → Buf (Elt Ideal) ℓ) (g : Dev Cert.MixerBwdYIdeal.nD → PrngReg)
    (m' : (ℓ : Loc Cert.MixerBwdYRefIdeal.nD Cert.MixerBwdYRefIdeal.τ Cert.MixerBwdYRefIdeal.sig) → Buf (Elt Ideal) ℓ) (g' : Dev Cert.MixerBwdYRefIdeal.nD → PrngReg), Pre_MixerBwdYIdeal m →
    (∀ c : Dev Cert.MixerBwdYIdeal.nD,
      m' ((c.tc : Thread Cert.MixerBwdYRefIdeal.nD Cert.MixerBwdYRefIdeal.τ).loc Cert.MixerBwdYRefIdeal.main_arg0) = m ((c.tc : Thread Cert.MixerBwdYIdeal.nD Cert.MixerBwdYIdeal.τ).loc Cert.MixerBwdYIdeal.main_arg0)
      ∧ m' ((c.tc : Thread Cert.MixerBwdYRefIdeal.nD Cert.MixerBwdYRefIdeal.τ).loc Cert.MixerBwdYRefIdeal.main_arg1) = m ((c.tc : Thread Cert.MixerBwdYIdeal.nD Cert.MixerBwdYIdeal.τ).loc Cert.MixerBwdYIdeal.main_arg1)
      ∧ m' ((c.tc : Thread Cert.MixerBwdYRefIdeal.nD Cert.MixerBwdYRefIdeal.τ).loc Cert.MixerBwdYRefIdeal.main_arg2) = m ((c.tc : Thread Cert.MixerBwdYIdeal.nD Cert.MixerBwdYIdeal.τ).loc Cert.MixerBwdYIdeal.main_arg2)
      ∧ m' ((c.tc : Thread Cert.MixerBwdYRefIdeal.nD Cert.MixerBwdYRefIdeal.τ).loc Cert.MixerBwdYRefIdeal.main_arg3) = m ((c.tc : Thread Cert.MixerBwdYIdeal.nD Cert.MixerBwdYIdeal.τ).loc Cert.MixerBwdYIdeal.main_arg3)
      ∧ m' ((c.tc : Thread Cert.MixerBwdYRefIdeal.nD Cert.MixerBwdYRefIdeal.τ).loc Cert.MixerBwdYRefIdeal.main_arg4) = m ((c.tc : Thread Cert.MixerBwdYIdeal.nD Cert.MixerBwdYIdeal.τ).loc Cert.MixerBwdYIdeal.main_arg4)
      ∧ m' ((c.tc : Thread Cert.MixerBwdYRefIdeal.nD Cert.MixerBwdYRefIdeal.τ).loc Cert.MixerBwdYRefIdeal.main_arg5) = m ((c.tc : Thread Cert.MixerBwdYIdeal.nD Cert.MixerBwdYIdeal.τ).loc Cert.MixerBwdYIdeal.main_arg5)
      ∧ m' ((c.tc : Thread Cert.MixerBwdYRefIdeal.nD Cert.MixerBwdYRefIdeal.τ).loc Cert.MixerBwdYRefIdeal.main_arg6) = m ((c.tc : Thread Cert.MixerBwdYIdeal.nD Cert.MixerBwdYIdeal.τ).loc Cert.MixerBwdYIdeal.main_arg6)
      ∧ m' ((c.tc : Thread Cert.MixerBwdYRefIdeal.nD Cert.MixerBwdYRefIdeal.τ).loc Cert.MixerBwdYRefIdeal.main_arg7) = m ((c.tc : Thread Cert.MixerBwdYIdeal.nD Cert.MixerBwdYIdeal.τ).loc Cert.MixerBwdYIdeal.main_arg7)
      ∧ m' ((c.tc : Thread Cert.MixerBwdYRefIdeal.nD Cert.MixerBwdYRefIdeal.τ).loc Cert.MixerBwdYRefIdeal.main_arg8) = m ((c.tc : Thread Cert.MixerBwdYIdeal.nD Cert.MixerBwdYIdeal.τ).loc Cert.MixerBwdYIdeal.main_arg8)) →
    ∃ (v0 : (c : Dev Cert.MixerBwdYIdeal.nD) → Buf (Elt Ideal) ((c.tc : Thread Cert.MixerBwdYIdeal.nD Cert.MixerBwdYIdeal.τ).loc Cert.MixerBwdYIdeal.main_v0_0)) (v1 : (c : Dev Cert.MixerBwdYIdeal.nD) → Buf (Elt Ideal) ((c.tc : Thread Cert.MixerBwdYIdeal.nD Cert.MixerBwdYIdeal.τ).loc Cert.MixerBwdYIdeal.main_v0_1)) (v2 : (c : Dev Cert.MixerBwdYIdeal.nD) → Buf (Elt Ideal) ((c.tc : Thread Cert.MixerBwdYIdeal.nD Cert.MixerBwdYIdeal.τ).loc Cert.MixerBwdYIdeal.main_v0_2)) (v3 : (c : Dev Cert.MixerBwdYIdeal.nD) → Buf (Elt Ideal) ((c.tc : Thread Cert.MixerBwdYIdeal.nD Cert.MixerBwdYIdeal.τ).loc Cert.MixerBwdYIdeal.main_v0_4)) (v4 : (c : Dev Cert.MixerBwdYIdeal.nD) → Buf (Elt Ideal) ((c.tc : Thread Cert.MixerBwdYIdeal.nD Cert.MixerBwdYIdeal.τ).loc Cert.MixerBwdYIdeal.main_v0_5)) (v5 : (c : Dev Cert.MixerBwdYIdeal.nD) → Buf (Elt Ideal) ((c.tc : Thread Cert.MixerBwdYIdeal.nD Cert.MixerBwdYIdeal.τ).loc Cert.MixerBwdYIdeal.main_v0_6)),
      θ_run (Cert.MixerBwdYIdeal.defs (F := Ideal)) (onTc (τ := Cert.MixerBwdYIdeal.τ) (Cert.MixerBwdYIdeal.main (F := Ideal))) ⟨m, fun _ => 0, g⟩ (fun r => ∀ c : Dev Cert.MixerBwdYIdeal.nD,
          r.2.mem ((c.tc : Thread Cert.MixerBwdYIdeal.nD Cert.MixerBwdYIdeal.τ).loc Cert.MixerBwdYIdeal.main_v0_0) = v0 c
          ∧ r.2.mem ((c.tc : Thread Cert.MixerBwdYIdeal.nD Cert.MixerBwdYIdeal.τ).loc Cert.MixerBwdYIdeal.main_v0_1) = v1 c
          ∧ r.2.mem ((c.tc : Thread Cert.MixerBwdYIdeal.nD Cert.MixerBwdYIdeal.τ).loc Cert.MixerBwdYIdeal.main_v0_2) = v2 c
          ∧ r.2.mem ((c.tc : Thread Cert.MixerBwdYIdeal.nD Cert.MixerBwdYIdeal.τ).loc Cert.MixerBwdYIdeal.main_v0_4) = v3 c
          ∧ r.2.mem ((c.tc : Thread Cert.MixerBwdYIdeal.nD Cert.MixerBwdYIdeal.τ).loc Cert.MixerBwdYIdeal.main_v0_5) = v4 c
          ∧ r.2.mem ((c.tc : Thread Cert.MixerBwdYIdeal.nD Cert.MixerBwdYIdeal.τ).loc Cert.MixerBwdYIdeal.main_v0_6) = v5 c
          ∧ r.2.mem ((c.tc : Thread Cert.MixerBwdYIdeal.nD Cert.MixerBwdYIdeal.τ).loc Cert.MixerBwdYIdeal.main_arg0) = m ((c.tc : Thread Cert.MixerBwdYIdeal.nD Cert.MixerBwdYIdeal.τ).loc Cert.MixerBwdYIdeal.main_arg0)
          ∧ r.2.mem ((c.tc : Thread Cert.MixerBwdYIdeal.nD Cert.MixerBwdYIdeal.τ).loc Cert.MixerBwdYIdeal.main_arg1) = m ((c.tc : Thread Cert.MixerBwdYIdeal.nD Cert.MixerBwdYIdeal.τ).loc Cert.MixerBwdYIdeal.main_arg1)
          ∧ r.2.mem ((c.tc : Thread Cert.MixerBwdYIdeal.nD Cert.MixerBwdYIdeal.τ).loc Cert.MixerBwdYIdeal.main_arg2) = m ((c.tc : Thread Cert.MixerBwdYIdeal.nD Cert.MixerBwdYIdeal.τ).loc Cert.MixerBwdYIdeal.main_arg2)
          ∧ r.2.mem ((c.tc : Thread Cert.MixerBwdYIdeal.nD Cert.MixerBwdYIdeal.τ).loc Cert.MixerBwdYIdeal.main_arg3) = m ((c.tc : Thread Cert.MixerBwdYIdeal.nD Cert.MixerBwdYIdeal.τ).loc Cert.MixerBwdYIdeal.main_arg3)
          ∧ r.2.mem ((c.tc : Thread Cert.MixerBwdYIdeal.nD Cert.MixerBwdYIdeal.τ).loc Cert.MixerBwdYIdeal.main_arg4) = m ((c.tc : Thread Cert.MixerBwdYIdeal.nD Cert.MixerBwdYIdeal.τ).loc Cert.MixerBwdYIdeal.main_arg4)
          ∧ r.2.mem ((c.tc : Thread Cert.MixerBwdYIdeal.nD Cert.MixerBwdYIdeal.τ).loc Cert.MixerBwdYIdeal.main_arg5) = m ((c.tc : Thread Cert.MixerBwdYIdeal.nD Cert.MixerBwdYIdeal.τ).loc Cert.MixerBwdYIdeal.main_arg5)
          ∧ r.2.mem ((c.tc : Thread Cert.MixerBwdYIdeal.nD Cert.MixerBwdYIdeal.τ).loc Cert.MixerBwdYIdeal.main_arg6) = m ((c.tc : Thread Cert.MixerBwdYIdeal.nD Cert.MixerBwdYIdeal.τ).loc Cert.MixerBwdYIdeal.main_arg6)
          ∧ r.2.mem ((c.tc : Thread Cert.MixerBwdYIdeal.nD Cert.MixerBwdYIdeal.τ).loc Cert.MixerBwdYIdeal.main_arg7) = m ((c.tc : Thread Cert.MixerBwdYIdeal.nD Cert.MixerBwdYIdeal.τ).loc Cert.MixerBwdYIdeal.main_arg7)
          ∧ r.2.mem ((c.tc : Thread Cert.MixerBwdYIdeal.nD Cert.MixerBwdYIdeal.τ).loc Cert.MixerBwdYIdeal.main_arg8) = m ((c.tc : Thread Cert.MixerBwdYIdeal.nD Cert.MixerBwdYIdeal.τ).loc Cert.MixerBwdYIdeal.main_arg8))
      ∧ θ_run (Cert.MixerBwdYRefIdeal.defs (F := Ideal)) (onTc (τ := Cert.MixerBwdYRefIdeal.τ) (Cert.MixerBwdYRefIdeal.main (F := Ideal))) ⟨m', fun _ => 0, g'⟩ (fun r => ∀ c : Dev Cert.MixerBwdYRefIdeal.nD,
          r.2.mem ((c.tc : Thread Cert.MixerBwdYRefIdeal.nD Cert.MixerBwdYRefIdeal.τ).loc Cert.MixerBwdYRefIdeal.main_v68) = v0 c
          ∧ r.2.mem ((c.tc : Thread Cert.MixerBwdYRefIdeal.nD Cert.MixerBwdYRefIdeal.τ).loc Cert.MixerBwdYRefIdeal.main_v69) = v1 c
          ∧ r.2.mem ((c.tc : Thread Cert.MixerBwdYRefIdeal.nD Cert.MixerBwdYRefIdeal.τ).loc Cert.MixerBwdYRefIdeal.main_v70) = v2 c
          ∧ r.2.mem ((c.tc : Thread Cert.MixerBwdYRefIdeal.nD Cert.MixerBwdYRefIdeal.τ).loc Cert.MixerBwdYRefIdeal.main_v71) = v3 c
          ∧ r.2.mem ((c.tc : Thread Cert.MixerBwdYRefIdeal.nD Cert.MixerBwdYRefIdeal.τ).loc Cert.MixerBwdYRefIdeal.main_v72) = v4 c
          ∧ r.2.mem ((c.tc : Thread Cert.MixerBwdYRefIdeal.nD Cert.MixerBwdYRefIdeal.τ).loc Cert.MixerBwdYRefIdeal.main_v18) = v5 c
          ∧ r.2.mem ((c.tc : Thread Cert.MixerBwdYRefIdeal.nD Cert.MixerBwdYRefIdeal.τ).loc Cert.MixerBwdYRefIdeal.main_arg0) = m' ((c.tc : Thread Cert.MixerBwdYRefIdeal.nD Cert.MixerBwdYRefIdeal.τ).loc Cert.MixerBwdYRefIdeal.main_arg0)
          ∧ r.2.mem ((c.tc : Thread Cert.MixerBwdYRefIdeal.nD Cert.MixerBwdYRefIdeal.τ).loc Cert.MixerBwdYRefIdeal.main_arg1) = m' ((c.tc : Thread Cert.MixerBwdYRefIdeal.nD Cert.MixerBwdYRefIdeal.τ).loc Cert.MixerBwdYRefIdeal.main_arg1)
          ∧ r.2.mem ((c.tc : Thread Cert.MixerBwdYRefIdeal.nD Cert.MixerBwdYRefIdeal.τ).loc Cert.MixerBwdYRefIdeal.main_arg2) = m' ((c.tc : Thread Cert.MixerBwdYRefIdeal.nD Cert.MixerBwdYRefIdeal.τ).loc Cert.MixerBwdYRefIdeal.main_arg2)
          ∧ r.2.mem ((c.tc : Thread Cert.MixerBwdYRefIdeal.nD Cert.MixerBwdYRefIdeal.τ).loc Cert.MixerBwdYRefIdeal.main_arg3) = m' ((c.tc : Thread Cert.MixerBwdYRefIdeal.nD Cert.MixerBwdYRefIdeal.τ).loc Cert.MixerBwdYRefIdeal.main_arg3)
          ∧ r.2.mem ((c.tc : Thread Cert.MixerBwdYRefIdeal.nD Cert.MixerBwdYRefIdeal.τ).loc Cert.MixerBwdYRefIdeal.main_arg4) = m' ((c.tc : Thread Cert.MixerBwdYRefIdeal.nD Cert.MixerBwdYRefIdeal.τ).loc Cert.MixerBwdYRefIdeal.main_arg4)
          ∧ r.2.mem ((c.tc : Thread Cert.MixerBwdYRefIdeal.nD Cert.MixerBwdYRefIdeal.τ).loc Cert.MixerBwdYRefIdeal.main_arg5) = m' ((c.tc : Thread Cert.MixerBwdYRefIdeal.nD Cert.MixerBwdYRefIdeal.τ).loc Cert.MixerBwdYRefIdeal.main_arg5)
          ∧ r.2.mem ((c.tc : Thread Cert.MixerBwdYRefIdeal.nD Cert.MixerBwdYRefIdeal.τ).loc Cert.MixerBwdYRefIdeal.main_arg6) = m' ((c.tc : Thread Cert.MixerBwdYRefIdeal.nD Cert.MixerBwdYRefIdeal.τ).loc Cert.MixerBwdYRefIdeal.main_arg6)
          ∧ r.2.mem ((c.tc : Thread Cert.MixerBwdYRefIdeal.nD Cert.MixerBwdYRefIdeal.τ).loc Cert.MixerBwdYRefIdeal.main_arg7) = m' ((c.tc : Thread Cert.MixerBwdYRefIdeal.nD Cert.MixerBwdYRefIdeal.τ).loc Cert.MixerBwdYRefIdeal.main_arg7)
          ∧ r.2.mem ((c.tc : Thread Cert.MixerBwdYRefIdeal.nD Cert.MixerBwdYRefIdeal.τ).loc Cert.MixerBwdYRefIdeal.main_arg8) = m' ((c.tc : Thread Cert.MixerBwdYRefIdeal.nD Cert.MixerBwdYRefIdeal.τ).loc Cert.MixerBwdYRefIdeal.main_arg8))

def preserves_PleLoss_PleLossIdeal : Prop :=
  True

def algebraic_PleLossIdeal_PleLossRefIdeal [hPleLossIdeal : Cert.PleLossIdeal.Facts] [hPleLossRefIdeal : Cert.PleLossRefIdeal.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossRefIdeal.nD Cert.PleLossRefIdeal.τ Cert.PleLossRefIdeal.sig) → Buf (Elt Ideal) ℓ) (g' : Dev Cert.PleLossRefIdeal.nD → PrngReg), Pre_PleLossIdeal m →
    (∀ c : Dev Cert.PleLossIdeal.nD,
      m' ((c.tc : Thread Cert.PleLossRefIdeal.nD Cert.PleLossRefIdeal.τ).loc Cert.PleLossRefIdeal.main_arg0) = m ((c.tc : Thread Cert.PleLossIdeal.nD Cert.PleLossIdeal.τ).loc Cert.PleLossIdeal.main_arg0)
      ∧ m' ((c.tc : Thread Cert.PleLossRefIdeal.nD Cert.PleLossRefIdeal.τ).loc Cert.PleLossRefIdeal.main_arg1) = m ((c.tc : Thread Cert.PleLossIdeal.nD Cert.PleLossIdeal.τ).loc Cert.PleLossIdeal.main_arg1)
      ∧ m' ((c.tc : Thread Cert.PleLossRefIdeal.nD Cert.PleLossRefIdeal.τ).loc Cert.PleLossRefIdeal.main_arg2) = m ((c.tc : Thread Cert.PleLossIdeal.nD Cert.PleLossIdeal.τ).loc Cert.PleLossIdeal.main_arg2)
      ∧ m' ((c.tc : Thread Cert.PleLossRefIdeal.nD Cert.PleLossRefIdeal.τ).loc Cert.PleLossRefIdeal.main_arg3) = m ((c.tc : Thread Cert.PleLossIdeal.nD Cert.PleLossIdeal.τ).loc Cert.PleLossIdeal.main_arg3)
      ∧ m' ((c.tc : Thread Cert.PleLossRefIdeal.nD Cert.PleLossRefIdeal.τ).loc Cert.PleLossRefIdeal.main_arg4) = m ((c.tc : Thread Cert.PleLossIdeal.nD Cert.PleLossIdeal.τ).loc Cert.PleLossIdeal.main_arg4)
      ∧ m' ((c.tc : Thread Cert.PleLossRefIdeal.nD Cert.PleLossRefIdeal.τ).loc Cert.PleLossRefIdeal.main_arg5) = m ((c.tc : Thread Cert.PleLossIdeal.nD Cert.PleLossIdeal.τ).loc Cert.PleLossIdeal.main_arg5)
      ∧ m' ((c.tc : Thread Cert.PleLossRefIdeal.nD Cert.PleLossRefIdeal.τ).loc Cert.PleLossRefIdeal.main_arg6) = m ((c.tc : Thread Cert.PleLossIdeal.nD Cert.PleLossIdeal.τ).loc Cert.PleLossIdeal.main_arg6)
      ∧ m' ((c.tc : Thread Cert.PleLossRefIdeal.nD Cert.PleLossRefIdeal.τ).loc Cert.PleLossRefIdeal.main_arg7) = m ((c.tc : Thread Cert.PleLossIdeal.nD Cert.PleLossIdeal.τ).loc Cert.PleLossIdeal.main_arg7)) →
    ∃ (v0 : (c : Dev Cert.PleLossIdeal.nD) → Buf (Elt Ideal) ((c.tc : Thread Cert.PleLossIdeal.nD Cert.PleLossIdeal.τ).loc Cert.PleLossIdeal.main_v0_0)) (v1 : (c : Dev Cert.PleLossIdeal.nD) → Buf (Elt Ideal) ((c.tc : Thread Cert.PleLossIdeal.nD Cert.PleLossIdeal.τ).loc Cert.PleLossIdeal.main_v0_1)) (v2 : (c : Dev Cert.PleLossIdeal.nD) → Buf (Elt Ideal) ((c.tc : Thread Cert.PleLossIdeal.nD Cert.PleLossIdeal.τ).loc Cert.PleLossIdeal.main_v0_2)) (v3 : (c : Dev Cert.PleLossIdeal.nD) → Buf (Elt Ideal) ((c.tc : Thread Cert.PleLossIdeal.nD Cert.PleLossIdeal.τ).loc Cert.PleLossIdeal.main_v0_3)) (v4 : (c : Dev Cert.PleLossIdeal.nD) → Buf (Elt Ideal) ((c.tc : Thread Cert.PleLossIdeal.nD Cert.PleLossIdeal.τ).loc Cert.PleLossIdeal.main_v0_4)) (v5 : (c : Dev Cert.PleLossIdeal.nD) → Buf (Elt Ideal) ((c.tc : Thread Cert.PleLossIdeal.nD Cert.PleLossIdeal.τ).loc Cert.PleLossIdeal.main_v0_5)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v0_0) = v0 c
          ∧ r.2.mem ((c.tc : Thread Cert.PleLossIdeal.nD Cert.PleLossIdeal.τ).loc Cert.PleLossIdeal.main_v0_1) = v1 c
          ∧ r.2.mem ((c.tc : Thread Cert.PleLossIdeal.nD Cert.PleLossIdeal.τ).loc Cert.PleLossIdeal.main_v0_2) = v2 c
          ∧ r.2.mem ((c.tc : Thread Cert.PleLossIdeal.nD Cert.PleLossIdeal.τ).loc Cert.PleLossIdeal.main_v0_3) = v3 c
          ∧ r.2.mem ((c.tc : Thread Cert.PleLossIdeal.nD Cert.PleLossIdeal.τ).loc Cert.PleLossIdeal.main_v0_4) = v4 c
          ∧ r.2.mem ((c.tc : Thread Cert.PleLossIdeal.nD Cert.PleLossIdeal.τ).loc Cert.PleLossIdeal.main_v0_5) = v5 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5)
          ∧ r.2.mem ((c.tc : Thread Cert.PleLossIdeal.nD Cert.PleLossIdeal.τ).loc Cert.PleLossIdeal.main_arg6) = m ((c.tc : Thread Cert.PleLossIdeal.nD Cert.PleLossIdeal.τ).loc Cert.PleLossIdeal.main_arg6)
          ∧ r.2.mem ((c.tc : Thread Cert.PleLossIdeal.nD Cert.PleLossIdeal.τ).loc Cert.PleLossIdeal.main_arg7) = m ((c.tc : Thread Cert.PleLossIdeal.nD Cert.PleLossIdeal.τ).loc Cert.PleLossIdeal.main_arg7))
      ∧ θ_run (Cert.PleLossRefIdeal.defs (F := Ideal)) (onTc (τ := Cert.PleLossRefIdeal.τ) (Cert.PleLossRefIdeal.main (F := Ideal))) ⟨m', fun _ => 0, g'⟩ (fun r => ∀ c : Dev Cert.PleLossRefIdeal.nD,
          r.2.mem ((c.tc : Thread Cert.PleLossRefIdeal.nD Cert.PleLossRefIdeal.τ).loc Cert.PleLossRefIdeal.main_v105) = v0 c
          ∧ r.2.mem ((c.tc : Thread Cert.PleLossRefIdeal.nD Cert.PleLossRefIdeal.τ).loc Cert.PleLossRefIdeal.main_v106) = v1 c
          ∧ r.2.mem ((c.tc : Thread Cert.PleLossRefIdeal.nD Cert.PleLossRefIdeal.τ).loc Cert.PleLossRefIdeal.main_v107) = v2 c
          ∧ r.2.mem ((c.tc : Thread Cert.PleLossRefIdeal.nD Cert.PleLossRefIdeal.τ).loc Cert.PleLossRefIdeal.main_v49) = v3 c
          ∧ r.2.mem ((c.tc : Thread Cert.PleLossRefIdeal.nD Cert.PleLossRefIdeal.τ).loc Cert.PleLossRefIdeal.main_v88) = v4 c
          ∧ r.2.mem ((c.tc : Thread Cert.PleLossRefIdeal.nD Cert.PleLossRefIdeal.τ).loc Cert.PleLossRefIdeal.main_v108) = v5 c
          ∧ r.2.mem ((c.tc : Thread Cert.PleLossRefIdeal.nD Cert.PleLossRefIdeal.τ).loc Cert.PleLossRefIdeal.main_arg0) = m' ((c.tc : Thread Cert.PleLossRefIdeal.nD Cert.PleLossRefIdeal.τ).loc Cert.PleLossRefIdeal.main_arg0)
          ∧ r.2.mem ((c.tc : Thread Cert.PleLossRefIdeal.nD Cert.PleLossRefIdeal.τ).loc Cert.PleLossRefIdeal.main_arg1) = m' ((c.tc : Thread Cert.PleLossRefIdeal.nD Cert.PleLossRefIdeal.τ).loc Cert.PleLossRefIdeal.main_arg1)
          ∧ r.2.mem ((c.tc : Thread Cert.PleLossRefIdeal.nD Cert.PleLossRefIdeal.τ).loc Cert.PleLossRefIdeal.main_arg2) = m' ((c.tc : Thread Cert.PleLossRefIdeal.nD Cert.PleLossRefIdeal.τ).loc Cert.PleLossRefIdeal.main_arg2)
          ∧ r.2.mem ((c.tc : Thread Cert.PleLossRefIdeal.nD Cert.PleLossRefIdeal.τ).loc Cert.PleLossRefIdeal.main_arg3) = m' ((c.tc : Thread Cert.PleLossRefIdeal.nD Cert.PleLossRefIdeal.τ).loc Cert.PleLossRefIdeal.main_arg3)
          ∧ r.2.mem ((c.tc : Thread Cert.PleLossRefIdeal.nD Cert.PleLossRefIdeal.τ).loc Cert.PleLossRefIdeal.main_arg4) = m' ((c.tc : Thread Cert.PleLossRefIdeal.nD Cert.PleLossRefIdeal.τ).loc Cert.PleLossRefIdeal.main_arg4)
          ∧ r.2.mem ((c.tc : Thread Cert.PleLossRefIdeal.nD Cert.PleLossRefIdeal.τ).loc Cert.PleLossRefIdeal.main_arg5) = m' ((c.tc : Thread Cert.PleLossRefIdeal.nD Cert.PleLossRefIdeal.τ).loc Cert.PleLossRefIdeal.main_arg5)
          ∧ r.2.mem ((c.tc : Thread Cert.PleLossRefIdeal.nD Cert.PleLossRefIdeal.τ).loc Cert.PleLossRefIdeal.main_arg6) = m' ((c.tc : Thread Cert.PleLossRefIdeal.nD Cert.PleLossRefIdeal.τ).loc Cert.PleLossRefIdeal.main_arg6)
          ∧ r.2.mem ((c.tc : Thread Cert.PleLossRefIdeal.nD Cert.PleLossRefIdeal.τ).loc Cert.PleLossRefIdeal.main_arg7) = m' ((c.tc : Thread Cert.PleLossRefIdeal.nD Cert.PleLossRefIdeal.τ).loc Cert.PleLossRefIdeal.main_arg7))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v0)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v0) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v8) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1))

def Claim : Prop :=
  ∃ (hKernel : Cert.Kernel.Facts) (hKernelIdeal : Cert.KernelIdeal.Facts) (hReferenceIdeal : Cert.ReferenceIdeal.Facts) (hDwFfn : Cert.DwFfn.Facts) (hDwFfnIdeal : Cert.DwFfnIdeal.Facts) (hDwFfnRefIdeal : Cert.DwFfnRefIdeal.Facts) (hDxFfn : Cert.DxFfn.Facts) (hDxFfnIdeal : Cert.DxFfnIdeal.Facts) (hDxFfnRefIdeal : Cert.DxFfnRefIdeal.Facts) (hDwIn : Cert.DwIn.Facts) (hDwInIdeal : Cert.DwInIdeal.Facts) (hDwInRefIdeal : Cert.DwInRefIdeal.Facts) (hMixerIn : Cert.MixerIn.Facts) (hMixerInIdeal : Cert.MixerInIdeal.Facts) (hMixerInRefIdeal : Cert.MixerInRefIdeal.Facts) (hFfnGu : Cert.FfnGu.Facts) (hFfnGuIdeal : Cert.FfnGuIdeal.Facts) (hFfnGuRefIdeal : Cert.FfnGuRefIdeal.Facts) (hFfnBwdA : Cert.FfnBwdA.Facts) (hFfnBwdAIdeal : Cert.FfnBwdAIdeal.Facts) (hFfnBwdARefIdeal : Cert.FfnBwdARefIdeal.Facts) (hMmNorm : Cert.MmNorm.Facts) (hMmNormIdeal : Cert.MmNormIdeal.Facts) (hMmNormRefIdeal : Cert.MmNormRefIdeal.Facts) (hDwSq : Cert.DwSq.Facts) (hDwSqIdeal : Cert.DwSqIdeal.Facts) (hDwSqRefIdeal : Cert.DwSqRefIdeal.Facts) (hDxMixer : Cert.DxMixer.Facts) (hDxMixerIdeal : Cert.DxMixerIdeal.Facts) (hDxMixerRefIdeal : Cert.DxMixerRefIdeal.Facts) (hMixerOut : Cert.MixerOut.Facts) (hMixerOutIdeal : Cert.MixerOutIdeal.Facts) (hMixerOutRefIdeal : Cert.MixerOutRefIdeal.Facts) (hMixerY : Cert.MixerY.Facts) (hMixerYIdeal : Cert.MixerYIdeal.Facts) (hMixerYRefIdeal : Cert.MixerYRefIdeal.Facts) (hMixerBwdY : Cert.MixerBwdY.Facts) (hMixerBwdYIdeal : Cert.MixerBwdYIdeal.Facts) (hMixerBwdYRefIdeal : Cert.MixerBwdYRefIdeal.Facts) (hPleLoss : Cert.PleLoss.Facts) (hPleLossIdeal : Cert.PleLossIdeal.Facts) (hPleLossRefIdeal : Cert.PleLossRefIdeal.Facts) (hDwPle : Cert.DwPle.Facts) (hDwPleIdeal : Cert.DwPleIdeal.Facts) (hDwPleRefIdeal : Cert.DwPleRefIdeal.Facts) (hPre_finite_inputs : Cert.Pre_finite_inputs.Facts) (hPre_finite_ffn_up : Cert.Pre_finite_ffn_up.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DxFfn (hDxFfn := hDxFfn)
    ∧ quiescent_DxFfnIdeal (hDxFfnIdeal := hDxFfnIdeal)
    ∧ quiescent_DxFfnRefIdeal (hDxFfnRefIdeal := hDxFfnRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MixerIn (hMixerIn := hMixerIn)
    ∧ quiescent_MixerInIdeal (hMixerInIdeal := hMixerInIdeal)
    ∧ quiescent_MixerInRefIdeal (hMixerInRefIdeal := hMixerInRefIdeal)
    ∧ quiescent_FfnGu (hFfnGu := hFfnGu)
    ∧ quiescent_FfnGuIdeal (hFfnGuIdeal := hFfnGuIdeal)
    ∧ quiescent_FfnGuIdeal_pre_finite_ffn_up (hFfnGuIdeal := hFfnGuIdeal) (hPre_finite_ffn_up := hPre_finite_ffn_up)
    ∧ quiescent_FfnGuRefIdeal (hFfnGuRefIdeal := hFfnGuRefIdeal)
    ∧ quiescent_FfnGuRefIdeal_pre_finite_ffn_up (hFfnGuRefIdeal := hFfnGuRefIdeal) (hPre_finite_ffn_up := hPre_finite_ffn_up)
    ∧ quiescent_FfnBwdA (hFfnBwdA := hFfnBwdA)
    ∧ quiescent_FfnBwdAIdeal (hFfnBwdAIdeal := hFfnBwdAIdeal)
    ∧ quiescent_FfnBwdARefIdeal (hFfnBwdARefIdeal := hFfnBwdARefIdeal)
    ∧ quiescent_MmNorm (hMmNorm := hMmNorm)
    ∧ quiescent_MmNormIdeal (hMmNormIdeal := hMmNormIdeal)
    ∧ quiescent_MmNormRefIdeal (hMmNormRefIdeal := hMmNormRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DxMixer (hDxMixer := hDxMixer)
    ∧ quiescent_DxMixerIdeal (hDxMixerIdeal := hDxMixerIdeal)
    ∧ quiescent_DxMixerRefIdeal (hDxMixerRefIdeal := hDxMixerRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_MixerY (hMixerY := hMixerY)
    ∧ quiescent_MixerYIdeal (hMixerYIdeal := hMixerYIdeal)
    ∧ quiescent_MixerYRefIdeal (hMixerYRefIdeal := hMixerYRefIdeal)
    ∧ quiescent_MixerBwdY (hMixerBwdY := hMixerBwdY)
    ∧ quiescent_MixerBwdYIdeal (hMixerBwdYIdeal := hMixerBwdYIdeal)
    ∧ quiescent_MixerBwdYRefIdeal (hMixerBwdYRefIdeal := hMixerBwdYRefIdeal)
    ∧ quiescent_PleLoss (hPleLoss := hPleLoss)
    ∧ quiescent_PleLossIdeal (hPleLossIdeal := hPleLossIdeal)
    ∧ quiescent_PleLossRefIdeal (hPleLossRefIdeal := hPleLossRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_DwFfn_DwFfnIdeal
    ∧ algebraic_DwFfnIdeal_DwFfnRefIdeal (hDwFfnIdeal := hDwFfnIdeal) (hDwFfnRefIdeal := hDwFfnRefIdeal)
    ∧ preserves_DxFfn_DxFfnIdeal
    ∧ algebraic_DxFfnIdeal_DxFfnRefIdeal (hDxFfnIdeal := hDxFfnIdeal) (hDxFfnRefIdeal := hDxFfnRefIdeal)
    ∧ preserves_DwIn_DwInIdeal
    ∧ algebraic_DwInIdeal_DwInRefIdeal (hDwInIdeal := hDwInIdeal) (hDwInRefIdeal := hDwInRefIdeal)
    ∧ preserves_MixerIn_MixerInIdeal
    ∧ algebraic_MixerInIdeal_MixerInRefIdeal (hMixerInIdeal := hMixerInIdeal) (hMixerInRefIdeal := hMixerInRefIdeal)
    ∧ preserves_FfnGu_FfnGuIdeal
    ∧ algebraic_FfnGuIdeal_FfnGuRefIdeal_pre_finite_ffn_up (hFfnGuIdeal := hFfnGuIdeal) (hFfnGuRefIdeal := hFfnGuRefIdeal) (hPre_finite_ffn_up := hPre_finite_ffn_up)
    ∧ preserves_FfnBwdA_FfnBwdAIdeal
    ∧ algebraic_FfnBwdAIdeal_FfnBwdARefIdeal (hFfnBwdAIdeal := hFfnBwdAIdeal) (hFfnBwdARefIdeal := hFfnBwdARefIdeal)
    ∧ preserves_MmNorm_MmNormIdeal
    ∧ algebraic_MmNormIdeal_MmNormRefIdeal (hMmNormIdeal := hMmNormIdeal) (hMmNormRefIdeal := hMmNormRefIdeal)
    ∧ preserves_DwSq_DwSqIdeal
    ∧ algebraic_DwSqIdeal_DwSqRefIdeal (hDwSqIdeal := hDwSqIdeal) (hDwSqRefIdeal := hDwSqRefIdeal)
    ∧ preserves_DxMixer_DxMixerIdeal
    ∧ algebraic_DxMixerIdeal_DxMixerRefIdeal (hDxMixerIdeal := hDxMixerIdeal) (hDxMixerRefIdeal := hDxMixerRefIdeal)
    ∧ preserves_MixerOut_MixerOutIdeal
    ∧ algebraic_MixerOutIdeal_MixerOutRefIdeal (hMixerOutIdeal := hMixerOutIdeal) (hMixerOutRefIdeal := hMixerOutRefIdeal)
    ∧ preserves_MixerY_MixerYIdeal
    ∧ algebraic_MixerYIdeal_MixerYRefIdeal (hMixerYIdeal := hMixerYIdeal) (hMixerYRefIdeal := hMixerYRefIdeal)
    ∧ preserves_MixerBwdY_MixerBwdYIdeal
    ∧ algebraic_MixerBwdYIdeal_MixerBwdYRefIdeal (hMixerBwdYIdeal := hMixerBwdYIdeal) (hMixerBwdYRefIdeal := hMixerBwdYRefIdeal)
    ∧ preserves_PleLoss_PleLossIdeal
    ∧ algebraic_PleLossIdeal_PleLossRefIdeal (hPleLossIdeal := hPleLossIdeal) (hPleLossRefIdeal := hPleLossRefIdeal)
    ∧ preserves_DwPle_DwPleIdeal
    ∧ algebraic_DwPleIdeal_DwPleRefIdeal (hDwPleIdeal := hDwPleIdeal) (hDwPleRefIdeal := hDwPleRefIdeal)
-- ==== Pre_finite_ffn_up.lean ====
abbrev S4096x1024 : Shape := ⟨2, ![4096, 1024]⟩
abbrev S4x704x1024 : Shape := ⟨3, ![4, 704, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)

variable [Facts]

def fn {F : FTy → Type} [FloatOps F] (main_arg0 : FVec F S4096x1024 .bf16) (main_arg1 : FVec F S4x704x1024 .bf16) (main_arg2 : FVec F S4x704x1024 .bf16) : IVec S4096x1024 1 × IVec S4x704x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x704x1024 .f32 := (extf .f32 · bitsLt_bf16_f32) main_arg2
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  (main_v3, main_v7)
-- ==== Pre_finite_inputs.lean ====
abbrev S4096x5120 : Shape := ⟨2, ![4096, 5120]⟩
abbrev S4096x1024 : Shape := ⟨2, ![4096, 1024]⟩
abbrev S5x4096x1024 : Shape := ⟨3, ![5, 4096, 1024]⟩
abbrev S1x1024 : Shape := ⟨2, ![1, 1024]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S4096x5120 .bf16) (main_arg1 : FVec F S4096x1024 .bf16) (main_arg2 : FVec F S5x4096x1024 .bf16) (main_arg3 : FVec F S1x1024 .f32) (main_arg4 : FVec F S4x128x128 .f32) (main_arg5 : FVec F S4x128 .f32) : IVec S4096x5120 1 × IVec S4096x1024 1 × IVec S1x1024 1 × IVec S4x128x128 1 × IVec S4x128 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S1x1024 .f32 := Host.absf main_arg3
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S4x128x128 .f32 := Host.absf main_arg4
  let main_cst_2 : FVec F S_ .f32 := constant S_ .f32 0x7F800000#32
  let main_v12 : FVec F S4x128x128 .f32 := broadcastInDim S4x128x128 ![] bcast_S_S4x128x128 main_cst_2
  let main_v13 : IVec S4x128x128 1 := cmpf .olt main_v11 main_v12
  let main_v14 : FVec F S4x128 .f32 := Host.absf main_arg5
  let main_cst_3 : FVec F S_ .f32 := constant S_ .f32 0x7F800000#32
  let main_v15 : FVec F S4x128 .f32 := broadcastInDim S4x128 ![] bcast_S_S4x128 main_cst_3
  let main_v16 : IVec S4x128 1 := cmpf .olt main_v14 main_v15
  (main_v3, main_v7, main_v10, main_v13, main_v16)
-- ==== Kernel.lean ====
abbrev S4096x5120 : Shape := ⟨2, ![4096, 5120]⟩
abbrev S4096x1024 : Shape := ⟨2, ![4096, 1024]⟩
abbrev S5x4096x1024 : Shape := ⟨3, ![5, 4096, 1024]⟩
abbrev S1x1024 : Shape := ⟨2, ![1, 1024]⟩
abbrev S4x128x128 : Shape := ⟨3, ![4, 128, 128]⟩
abbrev S4x128 : Shape := ⟨2, ![4, 128]⟩
abbrev S4x128x1 : Shape := ⟨3, ![4, 128, 1]⟩
abbrev S256x1024 : Shape := ⟨2, ![256, 1024]⟩
abbrev S2x256x1024 : Shape := ⟨3, ![2, 256, 1024]⟩
abbrev S128x1024 : Shape := ⟨2, ![128, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S1x128x256 : Shape := ⟨3, ![1, 128, 256]⟩
abbrev S1024 : Shape := ⟨1, ![1024]⟩
abbrev S1x256x1024 : Shape := ⟨3, ![1, 256, 1024]⟩
abbrev S128 : Shape := ⟨1, ![128]⟩

abbrev nBuf : Space → Nat
  | .hbm => 11
  | .vmem => 16
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S5x4096x1024, .bf16⟩
  | .hbm, ⟨3, _⟩ => ⟨S1x1024, .f32⟩
  | .hbm, ⟨4, _⟩ => ⟨S4x128x128, .f32⟩
  | .hbm, ⟨5, _⟩ => ⟨S4x128, .f32⟩
  | .hbm, ⟨6, _⟩ => ⟨S4x128x1, .f32⟩
  | .hbm, ⟨7, _⟩ => ⟨S5x4096x1024, .bf16⟩
  | .hbm, ⟨8, _⟩ => ⟨S4x128x128, .f32⟩
  | .hbm, ⟨9, _⟩ => ⟨S4x128x128, .f32⟩
  | .hbm, ⟨10, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S4x128x128, .f32⟩
  | .local _ .vmem, ⟨8, _⟩ => ⟨S4x128x1, .f32⟩
  | .local _ .vmem, ⟨9, _⟩ => ⟨S2x256x1024, .bf16⟩
  | .local _ .vmem, ⟨10, _⟩ => ⟨S2x256x1024, .bf16⟩
  | .local _ .vmem, ⟨11, _⟩ => ⟨S4x128x128, .f32⟩
  | .local _ .vmem, ⟨12, _⟩ => ⟨S4x128x128, .f32⟩
  | .local _ .vmem, ⟨13, _⟩ => ⟨S1x1024, .f32⟩
  | .local _ .vmem, ⟨14, _⟩ => ⟨S256x1024, .f32⟩
  | .local _ .vmem, ⟨15, _⟩ => ⟨S128x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v386 : BitVec 1 := Scalar.cmpi .eq arg0 c15_i32
  let v387 : BitVec 32 := Scalar.extui v386
  let c0_i32_189 : BitVec 32 := 0#32
  let v388 : BitVec 1 := Scalar.cmpi .ne v387 c0_i32_189
  v388

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== ReferenceIdeal.lean ====
abbrev S4096x5120 : Shape := ⟨2, ![4096, 5120]⟩
abbrev S4096x1024 : Shape := ⟨2, ![4096, 1024]⟩
abbrev S5x4096x1024 : Shape := ⟨3, ![5, 4096, 1024]⟩
abbrev S1x1024 : Shape := ⟨2, ![1, 1024]⟩
abbrev S4x128x128 : Shape := ⟨3, ![4, 128, 128]⟩
abbrev S4x128 : Shape := ⟨2, ![4, 128]⟩
abbrev S_ : Shape := ⟨0, ![]⟩
abbrev S4096 : Shape := ⟨1, ![4096]⟩
abbrev S4096x1 : Shape := ⟨2, ![4096, 1]⟩
abbrev S32x128x4x256 : Shape := ⟨4, ![32, 128, 4, 256]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S128x4x1 : Shape := ⟨3, ![128, 4, 1]⟩
abbrev S1x128x4x1 : Shape := ⟨4, ![1, 128, 4, 1]⟩
abbrev S1024 : Shape := ⟨1, ![1024]⟩
abbrev S1x4096x1024 : Shape := ⟨3, ![1, 4096, 1024]⟩
abbrev S4x128x1 : Shape := ⟨3, ![4, 128, 1]⟩

abbrev nBuf : Space → Nat
  | .hbm => 223
  | .vmem => 0
  | .smem => 0
  | _ => 0

abbrev hbmTy0_0 (i : Nat) : BufTy := match i % 128 with
  | 0 => ⟨S4096x5120, .bf16⟩
  | 1 => ⟨S4096x1024, .bf16⟩
  | 2 => ⟨S5x4096x1024, .bf16⟩
  | 3 => ⟨S1x1024, .f32⟩
  | 4 => ⟨S4x128x128, .f32⟩
  | 5 => ⟨S4x128, .f32⟩
  | 6 => ⟨S4096x5120, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S4096x1024, .f32⟩
  | 91 => ⟨S4096x1024, .f32⟩
  | 92 => ⟨S32x128x4x256, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S1x128x128, .i1⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S_, .f32⟩
  | 111 => ⟨S4x128x128, .f32⟩
  | 112 => ⟨S4x32x256x128, .f32⟩
  | 113 => ⟨S32x128x4x256, .f32⟩
  | 114 => ⟨S128x4, .f32⟩
  | 115 => ⟨S128x4x1, .f32⟩
  | 116 => ⟨S1x128x4x1, .f32⟩
  | 117 => ⟨S32x128x4x256, .f32⟩
  | 118 => ⟨S32x128x4x256, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S32x128x4x256, .f32⟩
  | 125 => ⟨S_, .f32⟩
  | 126 => ⟨S128x4, .f32⟩
  | 127 => ⟨S1x128x4x1, .f32⟩
  | _ => ⟨S4096x5120, .bf16⟩

abbrev hbmTy0_1 (i : Nat) : BufTy := match i % 128 with
  | 0 => ⟨S_, .f32⟩
  | 1 => ⟨S128x4, .f32⟩
  | 2 => ⟨S128x4x1, .f32⟩
  | 3 => ⟨S_, .f32⟩
  | 4 => ⟨S128x4, .f32⟩
  | 5 => ⟨S4x128, .f32⟩
  | 6 => ⟨S4x32x256x128, .f32⟩
  | 7 => ⟨S4x128x128, .f32⟩
  | 8 => ⟨S4x32x256x128, .f32⟩
  | 9 => ⟨S32x128x4x256, .f32⟩
  | 10 => ⟨S_, .f32⟩
  | 11 => ⟨S4x128x128, .f32⟩
  | 12 => ⟨S4x128x128, .f32⟩
  | 13 => ⟨S4096x1024, .f32⟩
  | 14 => ⟨S4096x1024, .f32⟩
  | 15 => ⟨S_, .f32⟩
  | 16 => ⟨S1024, .f32⟩
  | 17 => ⟨S1x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S4096x1024, .f32⟩
  | 25 => ⟨S4096x1024, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S5x4096x1024, .i32⟩
  | 79 => ⟨S_, .i32⟩
  | 80 => ⟨S5x4096x1024, .i32⟩
  | 81 => ⟨S5x4096x1024, .i1⟩
  | 82 => ⟨S4096x1024, .bf16⟩
  | 83 => ⟨S1x4096x1024, .bf16⟩
  | 84 => ⟨S_, .i32⟩
  | 85 => ⟨S5x4096x1024, .i32⟩
  | 86 => ⟨S5x4096x1024, .i1⟩
  | 87 => ⟨S4096x1024, .bf16⟩
  | 88 => ⟨S1x4096x1024, .bf16⟩
  | 89 => ⟨S5x4096x1024, .bf16⟩
  | 90 => ⟨S5x4096x1024, .bf16⟩
  | 91 => ⟨S5x4096x1024, .bf16⟩
  | 92 => ⟨S5x4096x1024, .bf16⟩
  | 93 => ⟨S4x128x1, .f32⟩
  | 94 => ⟨S4x128x128, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c : Ref sig .tc := ⟨.hbm, 93, rfl⟩
abbrev main_v67 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_c_0 : Ref sig .tc := ⟨.hbm, 101, rfl⟩
abbrev main_call0_v5 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_call1_v0 : Ref sig .tc := ⟨.hbm, 106, rfl⟩
abbrev main_v70_1 : Ref sig .tc := ⟨.hbm, 107, rfl⟩
abbrev main_call1_v2 : Ref sig .tc := ⟨.hbm, 108, rfl⟩
abbrev main_v70_0 : Ref sig .tc := ⟨.hbm, 109, rfl⟩
abbrev main_call1_cst : Ref sig .tc := ⟨.hbm, 110, rfl⟩
abbrev main_v70_2 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_cst_21 : Ref sig .tc := ⟨.hbm, 128, rfl⟩
abbrev main_v86 : Ref sig .tc := ⟨.hbm, 129, rfl⟩
abbrev main_v87 : Ref sig .tc := ⟨.hbm, 130, rfl⟩
abbrev main_cst_22 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call2_cst : Ref sig .tc := ⟨.hbm, 138, rfl⟩
abbrev main_call2_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_25 : Ref sig .tc := ⟨.hbm, 155, rfl⟩
abbrev main_v107 : Ref sig .tc := ⟨.hbm, 156, rfl⟩
abbrev main_v108 : Ref sig .tc := ⟨.hbm, 157, rfl⟩
abbrev main_cst_26 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_cst_28 : Ref sig .tc := ⟨.hbm, 169, rfl⟩
abbrev main_v118 : Ref sig .tc := ⟨.hbm, 170, rfl⟩
abbrev main_v119 : Ref sig .tc := ⟨.hbm, 171, rfl⟩
abbrev main_cst_29 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_30 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_31 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_32 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_33 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_34 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_35 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_c_36 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_37 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_call3_v0 : Ref sig .tc := ⟨.hbm, 217, rfl⟩
abbrev main_v156 : Ref sig .tc := ⟨.hbm, 218, rfl⟩
abbrev main_call4_v0 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩

abbrev nD : Nat := 1
abbrev τ : Topo := Topo.v7x

variable {F : FTy → Type} [FloatOps F]
-- ==== DwFfn.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S8x128 : Shape := ⟨2, ![8, 128]⟩
abbrev S4096x704 : Shape := ⟨2, ![4096, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S8x128, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwFfnRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4096x4x704, .bf16⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DxFfn.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x256x704 : Shape := ⟨3, ![4, 256, 704]⟩
abbrev S256x1024 : Shape := ⟨2, ![256, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x256x704, .bf16⟩
  | .local _ .vmem, ⟨3, _⟩ => ⟨S4x256x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxFfnRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .bf16⟩
  | .hbm, ⟨8, _⟩ => ⟨S1024x2816, .bf16⟩
  | .hbm, ⟨9, _⟩ => ⟨S1024x2816, .f32⟩
  | .hbm, ⟨10, _⟩ => ⟨S2816x1024, .bf16⟩
  | .hbm, ⟨11, _⟩ => ⟨S1024x2816, .bf16⟩
  | .hbm, ⟨12, _⟩ => ⟨S1024x2816, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2816, .f32⟩
  | .hbm, ⟨33, _⟩ => ⟨S4096x2816, .f32⟩
  | .hbm, ⟨34, _⟩ => ⟨S4096x4x704, .bf16⟩
  | .hbm, ⟨35, _⟩ => ⟨S4096x2816, .bf16⟩
  | .hbm, ⟨36, _⟩ => ⟨S4096x2816, .f32⟩
  | .hbm, ⟨37, _⟩ => ⟨S4096x4x704, .bf16⟩
  | .hbm, ⟨38, _⟩ => ⟨S4096x2816, .bf16⟩
  | .hbm, ⟨39, _⟩ => ⟨S4096x2816, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== DwIn.lean ====
abbrev S4096x1024 : Shape := ⟨2, ![4096, 1024]⟩
abbrev S5x4096x1024 : Shape := ⟨3, ![5, 4096, 1024]⟩
abbrev S4x1024x1280 : Shape := ⟨3, ![4, 1024, 1280]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S5x4096x1024, .bf16⟩
  | .hbm, ⟨2, _⟩ => ⟨S4x1024x1280, .bf16⟩
  | .local _ .vmem, ⟨0, _⟩ => ⟨S4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi v16 c2_i32
  let c5_i32 : BitVec 32 := 5#32
  let c0_i32_4 : BitVec 32 := 0#32
  let v18 : BitVec 1 := Scalar.cmpi .eq c5_i32 c0_i32_4
  let c1_i32_5 : BitVec 32 := 1#32
  let v19 : BitVec 32 := Scalar.select v18 c1_i32_5 c5_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32_9 : BitVec 32 := 4#32
  let c0_i32_10 : BitVec 32 := 0#32
  let v28 : BitVec 1 := Scalar.cmpi .eq c4_i32_9 c0_i32_10
  let c1_i32_11 : BitVec 32 := 1#32
  let v29 : BitVec 32 := Scalar.select v28 c1_i32_11 c4_i32_9
  let v30 : BitVec 32 := Scalar.remsi arg0 v29
  let c0_i32_12 : BitVec 32 := 0#32
  let v31 : BitVec 1 := Scalar.cmpi .ne v30 c0_i32_12
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let v35 : BitVec 1 := Scalar.andi v34 v31
  let v36 : BitVec 32 := Scalar.addi v30 v29
  let v37 : BitVec 32 := Scalar.select v35 v36 v30
  let c0_i32_15 : BitVec 32 := 0#32
  let c0_i32_16 : BitVec 32 := 0#32
  ![v27.toNat, c0_i32_15.toNat, v37.toNat]

def cc0_transform_2 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInRefIdeal.lean ====
abbrev S4096x1024 : Shape := ⟨2, ![4096, 1024]⟩
abbrev S5x4096x1024 : Shape := ⟨3, ![5, 4096, 1024]⟩
abbrev S_ : Shape := ⟨0, ![]⟩
abbrev S1024x5120 : Shape := ⟨2, ![1024, 5120]⟩
abbrev S1x4096x1024 : Shape := ⟨3, ![1, 4096, 1024]⟩
abbrev S4096x5120 : Shape := ⟨2, ![4096, 5120]⟩
abbrev S5120x1024 : Shape := ⟨2, ![5120, 1024]⟩
abbrev S1024x4x1280 : Shape := ⟨3, ![1024, 4, 1280]⟩
abbrev S4x1024x1280 : Shape := ⟨3, ![4, 1024, 1280]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5x4096x1024, .bf16⟩
  | .hbm, ⟨2, _⟩ => ⟨S4096x1024, .f32⟩
  | .hbm, ⟨3, _⟩ => ⟨S_, .f32⟩
  | .hbm, ⟨4, _⟩ => ⟨S1024x5120, .f32⟩
  | .hbm, ⟨5, _⟩ => ⟨S1x4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S1x4096x1024, .bf16⟩
  | .hbm, ⟨10, _⟩ => ⟨S4096x1024, .bf16⟩
  | .hbm, ⟨11, _⟩ => ⟨S1x4096x1024, .bf16⟩
  | .hbm, ⟨12, _⟩ => ⟨S4096x1024, .bf16⟩
  | .hbm, ⟨13, _⟩ => ⟨S1x4096x1024, .bf16⟩
  | .hbm, ⟨14, _⟩ => ⟨S4096x1024, .bf16⟩
  | .hbm, ⟨15, _⟩ => ⟨S4096x5120, .bf16⟩
  | .hbm, ⟨16, _⟩ => ⟨S4096x5120, .f32⟩
  | .hbm, ⟨17, _⟩ => ⟨S4096x5120, .f32⟩
  | .hbm, ⟨18, _⟩ => ⟨S5120x1024, .f32⟩
  | .hbm, ⟨19, _⟩ => ⟨S1024x5120, .f32⟩
  | .hbm, ⟨20, _⟩ => ⟨S1024x5120, .bf16⟩
  | .hbm, ⟨21, _⟩ => ⟨S1024x4x1280, .bf16⟩
  | .hbm, ⟨22, _⟩ => ⟨S4x1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== MixerIn.lean ====
abbrev S4096x1024 : Shape := ⟨2, ![4096, 1024]⟩
abbrev S4x1024x1280 : Shape := ⟨3, ![4, 1024, 1280]⟩
abbrev S4096x5120 : Shape := ⟨2, ![4096, 5120]⟩
abbrev S512x1024 : Shape := ⟨2, ![512, 1024]⟩
abbrev S1x1024x1280 : Shape := ⟨3, ![1, 1024, 1280]⟩
abbrev S512x1280 : Shape := ⟨2, ![512, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1280, .bf16⟩
  | .hbm, ⟨2, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S512x1280, .bf16⟩
  | .local _ .vmem, ⟨5, _⟩ => ⟨S512x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixerInRefIdeal.lean ====
abbrev S4096x1024 : Shape := ⟨2, ![4096, 1024]⟩
abbrev S4x1024x1280 : Shape := ⟨3, ![4, 1024, 1280]⟩
abbrev S1024x4x1280 : Shape := ⟨3, ![1024, 4, 1280]⟩
abbrev S1024x5120 : Shape := ⟨2, ![1024, 5120]⟩
abbrev S4096x5120 : Shape := ⟨2, ![4096, 5120]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1280, .bf16⟩
  | .hbm, ⟨2, _⟩ => ⟨S4096x1024, .f32⟩
  | .hbm, ⟨3, _⟩ => ⟨S1024x4x1280, .bf16⟩
  | .hbm, ⟨4, _⟩ => ⟨S1024x5120, .bf16⟩
  | .hbm, ⟨5, _⟩ => ⟨S1024x5120, .f32⟩
  | .hbm, ⟨6, _⟩ => ⟨S4096x5120, .f32⟩
  | .hbm, ⟨7, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnGu.lean ====
abbrev S4096x1024 : Shape := ⟨2, ![4096, 1024]⟩
abbrev S4x704x1024 : Shape := ⟨3, ![4, 704, 1024]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnGuRefIdeal.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4096x1024, .f32⟩
  | .hbm, ⟨4, _⟩ => ⟨S2816x1024, .bf16⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S2816x1024, .bf16⟩
  | .hbm, ⟨9, _⟩ => ⟨S1024x2816, .bf16⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x4x704, .bf16⟩
  | .hbm, ⟨28, _⟩ => ⟨S4x4096x704, .bf16⟩
  | .hbm, ⟨29, _⟩ => ⟨S4096x2816, .bf16⟩
  | .hbm, ⟨30, _⟩ => ⟨S4096x4x704, .bf16⟩
  | .hbm, ⟨31, _⟩ => ⟨S4x4096x704, .bf16⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .bf16⟩
  | .hbm, ⟨37, _⟩ => ⟨S4096x4x704, .bf16⟩
  | .hbm, ⟨38, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== FfnBwdA.lean ====
abbrev S4096x1024 : Shape := ⟨2, ![4096, 1024]⟩
abbrev S1x1024 : Shape := ⟨2, ![1, 1024]⟩
abbrev S4x704x1024 : Shape := ⟨3, ![4, 704, 1024]⟩
abbrev S4x4096x704 : Shape := ⟨3, ![4, 4096, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1024 : Shape := ⟨1, ![1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4x704x1024, .bf16⟩
  | .hbm, ⟨4, _⟩ => ⟨S4x4096x704, .bf16⟩
  | .hbm, ⟨5, _⟩ => ⟨S4x4096x704, .bf16⟩
  | .hbm, ⟨6, _⟩ => ⟨S4096x1024, .bf16⟩
  | .hbm, ⟨7, _⟩ => ⟨S4x4096x704, .bf16⟩
  | .hbm, ⟨8, _⟩ => ⟨S4x4096x704, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S4x704x1024, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S256x1024, .bf16⟩
  | .local _ .vmem, ⟨11, _⟩ => ⟨S256x1024, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBwdARefIdeal.lean ====
abbrev S4096x1024 : Shape := ⟨2, ![4096, 1024]⟩
abbrev S1x1024 : Shape := ⟨2, ![1, 1024]⟩
abbrev S4x704x1024 : Shape := ⟨3, ![4, 704, 1024]⟩
abbrev S4x4096x704 : Shape := ⟨3, ![4, 4096, 704]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2816x1024 : Shape := ⟨2, ![2816, 1024]⟩
abbrev S4096x2816 : Shape := ⟨2, ![4096, 2816]⟩
abbrev S4096x4x704 : Shape := ⟨3, ![4096, 4, 704]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4x704x1024, .bf16⟩
  | .hbm, ⟨4, _⟩ => ⟨S4x4096x704, .bf16⟩
  | .hbm, ⟨5, _⟩ => ⟨S4x4096x704, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S2816x1024, .bf16⟩
  | .hbm, ⟨56, _⟩ => ⟨S2816x1024, .f32⟩
  | .hbm, ⟨57, _⟩ => ⟨S_, .f32⟩
  | .hbm, ⟨58, _⟩ => ⟨S4096x2816, .f32⟩
  | .hbm, ⟨59, _⟩ => ⟨S4096x1024, .f32⟩
  | .hbm, ⟨60, _⟩ => ⟨S4096x2816, .f32⟩
  | .hbm, ⟨61, _⟩ => ⟨S4096x1024, .bf16⟩
  | .hbm, ⟨62, _⟩ => ⟨S4096x4x704, .bf16⟩
  | .hbm, ⟨63, _⟩ => ⟨S4096x2816, .bf16⟩
  | .hbm, ⟨64, _⟩ => ⟨S4096x2816, .f32⟩
  | .hbm, ⟨65, _⟩ => ⟨S4096x2816, .f32⟩
  | .hbm, ⟨66, _⟩ => ⟨S4096x2816, .bf16⟩
  | .hbm, ⟨67, _⟩ => ⟨S4096x4x704, .bf16⟩
  | .hbm, ⟨68, _⟩ => ⟨S4x4096x704, .bf16⟩
  | .hbm, ⟨69, _⟩ => ⟨S4096x4x704, .bf16⟩
  | .hbm, ⟨70, _⟩ => ⟨S4096x2816, .bf16⟩
  | .hbm, ⟨71, _⟩ => ⟨S4096x2816, .f32⟩
  | .hbm, ⟨72, _⟩ => ⟨S4096x2816, .f32⟩
  | .hbm, ⟨73, _⟩ => ⟨S4096x2816, .bf16⟩
  | .hbm, ⟨74, _⟩ => ⟨S4096x4x704, .bf16⟩
  | .hbm, ⟨75, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== MmNorm.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x256x704 : Shape := ⟨3, ![4, 256, 704]⟩
abbrev S256x1024 : Shape := ⟨2, ![256, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .local _ .vmem, ⟨0, _⟩ => ⟨S4x256x704, .bf16⟩
  | .local _ .vmem, ⟨1, _⟩ => ⟨S4x256x704, .bf16⟩
  | .local _ .vmem, ⟨2, _⟩ => ⟨S4x704x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MmNormRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4x704, .bf16⟩
  | .hbm, ⟨6, _⟩ => ⟨S4096x2816, .bf16⟩
  | .hbm, ⟨7, _⟩ => ⟨S4096x2816, .f32⟩
  | .hbm, ⟨8, _⟩ => ⟨S2816x1024, .bf16⟩
  | .hbm, ⟨9, _⟩ => ⟨S2816x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== DwSq.lean ====
abbrev S4096x1024 : Shape := ⟨2, ![4096, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .bf16⟩
  | .local _ .vmem, ⟨3, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwSqRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DxMixer.lean ====
abbrev S5x4096x1024 : Shape := ⟨3, ![5, 4096, 1024]⟩
abbrev S4x1024x1280 : Shape := ⟨3, ![4, 1024, 1280]⟩
abbrev S4096x1024 : Shape := ⟨2, ![4096, 1024]⟩
abbrev S1x1024 : Shape := ⟨2, ![1, 1024]⟩
abbrev S5x256x1024 : Shape := ⟨3, ![5, 256, 1024]⟩
abbrev S256x1024 : Shape := ⟨2, ![256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S1x256x256 : Shape := ⟨3, ![1, 256, 256]⟩
abbrev S256x256 : Shape := ⟨2, ![256, 256]⟩
abbrev S1x1024x256 : Shape := ⟨3, ![1, 1024, 256]⟩
abbrev S1024x256 : Shape := ⟨2, ![1024, 256]⟩
abbrev S1x256x768 : Shape := ⟨3, ![1, 256, 768]⟩
abbrev S256x768 : Shape := ⟨2, ![256, 768]⟩
abbrev S1x1024x768 : Shape := ⟨3, ![1, 1024, 768]⟩
abbrev S1024x768 : Shape := ⟨2, ![1024, 768]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S5x4096x1024, .bf16⟩
  | .hbm, ⟨1, _⟩ => ⟨S4x1024x1280, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S5x256x1024, .bf16⟩
  | .local _ .vmem, ⟨1, _⟩ => ⟨S5x256x1024, .bf16⟩
  | .local _ .vmem, ⟨2, _⟩ => ⟨S4x1024x1280, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S5x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxMixerRefIdeal.lean ====
abbrev S5x4096x1024 : Shape := ⟨3, ![5, 4096, 1024]⟩
abbrev S4x1024x1280 : Shape := ⟨3, ![4, 1024, 1280]⟩
abbrev S4096x1024 : Shape := ⟨2, ![4096, 1024]⟩
abbrev S1x1024 : Shape := ⟨2, ![1, 1024]⟩
abbrev S1024x4x1280 : Shape := ⟨3, ![1024, 4, 1280]⟩
abbrev S1024x5120 : Shape := ⟨2, ![1024, 5120]⟩
abbrev S1x4096x1024 : Shape := ⟨3, ![1, 4096, 1024]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S5x4096x1024, .bf16⟩
  | .hbm, ⟨1, _⟩ => ⟨S4x1024x1280, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1280, .bf16⟩
  | .hbm, ⟨6, _⟩ => ⟨S1024x5120, .bf16⟩
  | .hbm, ⟨7, _⟩ => ⟨S1024x5120, .f32⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S1x4096x1024, .bf16⟩
  | .hbm, ⟨15, _⟩ => ⟨S4096x1024, .bf16⟩
  | .hbm, ⟨16, _⟩ => ⟨S1x4096x1024, .bf16⟩
  | .hbm, ⟨17, _⟩ => ⟨S4096x1024, .bf16⟩
  | .hbm, ⟨18, _⟩ => ⟨S4096x5120, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x5120, .f32⟩
  | .hbm, ⟨39, _⟩ => ⟨S4096x5120, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S5x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== MixerOut.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x4096x1024, .bf16⟩
  | .hbm, ⟨6, _⟩ => ⟨S1x1024x1024, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MixerY.lean ====
abbrev S4096x1024 : Shape := ⟨2, ![4096, 1024]⟩
abbrev S4096x5120 : Shape := ⟨2, ![4096, 5120]⟩
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5120, .bf16⟩
  | .hbm, ⟨3, _⟩ => ⟨S1024x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixerYRefIdeal.lean ====
abbrev S4096x1024 : Shape := ⟨2, ![4096, 1024]⟩
abbrev S4096x5120 : Shape := ⟨2, ![4096, 5120]⟩
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x5120, .bf16⟩
  | .hbm, ⟨3, _⟩ => ⟨S1024x1024, .bf16⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .bf16⟩
  | .hbm, ⟨36, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MixerBwdY.lean ====
abbrev S4096x1024 : Shape := ⟨2, ![4096, 1024]⟩
abbrev S1x1024 : Shape := ⟨2, ![1, 1024]⟩
abbrev S1024x1024 : Shape := ⟨2, ![1024, 1024]⟩
abbrev S4096x5120 : Shape := ⟨2, ![4096, 5120]⟩
abbrev S5x4096x1024 : Shape := ⟨3, ![5, 4096, 1024]⟩
abbrev S256x1024 : Shape := ⟨2, ![256, 1024]⟩
abbrev S2x256x1024 : Shape := ⟨3, ![2, 256, 1024]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩

abbrev nBuf : Space → Nat
  | .hbm => 16
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S4096x1024, .bf16⟩
  | .hbm, ⟨6, _⟩ => ⟨S4096x5120, .bf16⟩
  | .hbm, ⟨7, _⟩ => ⟨S1024x1024, .bf16⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S5x4096x1024, .bf16⟩
  | .hbm, ⟨13, _⟩ => ⟨S4096x1024, .bf16⟩
  | .hbm, ⟨14, _⟩ => ⟨S4096x1024, .bf16⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S2x256x1024, .bf16⟩
  | .local _ .vmem, ⟨23, _⟩ => ⟨S2x256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixerBwdYRefIdeal.lean ====
abbrev S4096x1024 : Shape := ⟨2, ![4096, 1024]⟩
abbrev S1x1024 : Shape := ⟨2, ![1, 1024]⟩
abbrev S1024x1024 : Shape := ⟨2, ![1024, 1024]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S4096x1024, .bf16⟩
  | .hbm, ⟨6, _⟩ => ⟨S4096x5120, .bf16⟩
  | .hbm, ⟨7, _⟩ => ⟨S1024x1024, .bf16⟩
  | .hbm, ⟨8, _⟩ => ⟨S1024x1024, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1024x1024, .f32⟩
  | .hbm, ⟨85, _⟩ => ⟨S4096x1024, .f32⟩
  | .hbm, ⟨86, _⟩ => ⟨S4096x1024, .f32⟩
  | .hbm, ⟨87, _⟩ => ⟨S1024x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | .hbm, ⟨91, _⟩ => ⟨S4096x1024, .bf16⟩
  | .hbm, ⟨92, _⟩ => ⟨S4096x1024, .bf16⟩
  | .hbm, ⟨93, _⟩ => ⟨S4096x1024, .bf16⟩
  | .hbm, ⟨94, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== PleLoss.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S8x128 : Shape := ⟨2, ![8, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x1024, .bf16⟩
  | .hbm, ⟨3, _⟩ => ⟨S256x1024, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleLossRefIdeal.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 144
  | .vmem => 0
  | .smem => 0
  | _ => 0

abbrev hbmTy0_0 (i : Nat) : BufTy := match i % 128 with
  | 0 => ⟨S4096x1024, .bf16⟩
  | 1 => ⟨S4096x256, .bf16⟩
  | 2 => ⟨S1024x1024, .bf16⟩
  | 3 => ⟨S256x1024, .bf16⟩
  | 4 => ⟨S4096x1024, .f32⟩
  | 5 => ⟨S1x1024, .f32⟩
  | 6 => ⟨S1x1024, .f32⟩
  | 7 => ⟨S4096x1024, .f32⟩
  | 8 => ⟨S4096x1024, .f32⟩
  | 9 => ⟨S1024x1024, .f32⟩
  | 10 => ⟨S4096x1024, .f32⟩
  | 11 => ⟨S4096x256, .f32⟩
  | 12 => ⟨S256x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096, .f32⟩
  | 54 => ⟨S_, .f32⟩
  | 55 => ⟨S4096, .f32⟩
  | 56 => ⟨S4096, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1024, .f32⟩
  | 69 => ⟨S4096x1024, .f32⟩
  | 70 => ⟨S4096x1024, .f32⟩
  | 71 => ⟨S_, .f32⟩
  | 72 => ⟨S1024, .f32⟩
  | 73 => ⟨S1x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S4096x1024, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .bf16⟩
  | 13 => ⟨S4096x1024, .bf16⟩
  | 14 => ⟨S4096x1024, .f32⟩
  | 15 => ⟨S8x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]
-- ==== DwPle.lean ====
abbrev S4096x256 : Shape := ⟨2, ![4096, 256]⟩
abbrev S4096x1024 : Shape := ⟨2, ![4096, 1024]⟩
abbrev S4x256x256 : Shape := ⟨3, ![4, 256, 256]⟩
abbrev S1x256x256 : Shape := ⟨3, ![1, 256, 256]⟩
abbrev S8x128 : Shape := ⟨2, ![8, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | .local _ .vmem, ⟨5, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwPleRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S_, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x4x256, .bf16⟩
  | .hbm, ⟨11, _⟩ => ⟨S4x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Reals.lean ====
/- Arrays of extended reals that hold real numbers. `Re2 v f` says that the rank-2 array `v` holds at (i, j) the real number
   `f i j`, with the coordinates read as natural numbers. Each lemma follows one array operation. -/
module

public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws
public import Idealize.ShloMosaic.Lib.Pipeline.FrameBody
public import Idealize.ShloMosaic.Lib.Pipeline.ValueKit.Tiles

@[expose] public section

noncomputable section

namespace Cert.Reals

open Idealize.ShloMosaic Idealize.ShloMosaic.ValueIdx
open scoped BigOperators

/-- A sum of real numbers is the same sum in the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

def Re1 {φ : FTy} {a : ℕ} (v : FVec Ideal ⟨1, ![a]⟩ φ) (f : ℕ → ℝ) : Prop :=
  ∀ i : Fin a, v (ix1 i) = ((f i.val : ℝ) : EReal)

def Re2 {φ : FTy} {a b : ℕ} (v : FVec Ideal ⟨2, ![a, b]⟩ φ) (f : ℕ → ℕ → ℝ) : Prop :=
  ∀ (i : Fin a) (j : Fin b), v (ix2 i j) = ((f i.val j.val : ℝ) : EReal)

def Re3 {φ : FTy} {a b c : ℕ} (v : FVec Ideal ⟨3, ![a, b, c]⟩ φ) (f : ℕ → ℕ → ℕ → ℝ) : Prop :=
  ∀ (i : Fin a) (j : Fin b) (k : Fin c), v (ix3 i j k) = ((f i.val j.val k.val : ℝ) : EReal)

variable {φ ψ : FTy} {a b c : ℕ}

theorem Re2.congr {v : FVec Ideal ⟨2, ![a, b]⟩ φ} {f g : ℕ → ℕ → ℝ} (h : Re2 v f) (e : ∀ i j, i < a → j < b → f i j = g i j) : Re2 v g :=
  fun i j => by rw [h i j, e _ _ i.isLt j.isLt]

theorem Re3.congr {v : FVec Ideal ⟨3, ![a, b, c]⟩ φ} {f g : ℕ → ℕ → ℕ → ℝ} (h : Re3 v f)
    (e : ∀ i j k, i < a → j < b → k < c → f i j k = g i j k) : Re3 v g :=
  fun i j k => by rw [h i j k, e _ _ _ i.isLt j.isLt k.isLt]

/-! ## Operations at one index -/

theorem Re2.addf {x y : FVec Ideal ⟨2, ![a, b]⟩ φ} {f g : ℕ → ℕ → ℝ} (hx : Re2 x f) (hy : Re2 y g) :
    Re2 (addf x y) (fun i j => f i j + g i j) := fun i j => by rw [addf_apply, hx, hy, ← EReal.coe_add]

theorem Re2.subf {x y : FVec Ideal ⟨2, ![a, b]⟩ φ} {f g : ℕ → ℕ → ℝ} (hx : Re2 x f) (hy : Re2 y g) :
    Re2 (subf x y) (fun i j => f i j - g i j) := fun i j => by rw [subf_apply, hx, hy, ← EReal.coe_sub]

theorem Re2.mulf {x y : FVec Ideal ⟨2, ![a, b]⟩ φ} {f g : ℕ → ℕ → ℝ} (hx : Re2 x f) (hy : Re2 y g) :
    Re2 (mulf x y) (fun i j => f i j * g i j) := fun i j => by rw [mulf_apply, hx, hy, ← EReal.coe_mul]

theorem Re2.divConst {x : FVec Ideal ⟨2, ![a, b]⟩ φ} {f : ℕ → ℕ → ℝ} {w : Ideal φ} {r : ℝ} (hx : Re2 x f)
    (hw : w = ((r : ℝ) : EReal)) (hr : r ≠ 0) : Re2 (divf x (broadcast ⟨2, ![a, b]⟩ w)) (fun i j => f i j / r) := fun i j => by
  rw [divf_apply, hx, broadcast_apply, hw, Ideal.div_coe hr, ← EReal.coe_mul, mul_one_div]

theorem Re2.broadcast {w : Ideal φ} {r : ℝ} (hw : w = ((r : ℝ) : EReal)) :
    Re2 (broadcast ⟨2, ![a, b]⟩ w : FVec Ideal ⟨2, ![a, b]⟩ φ) (fun _ _ => r) := fun i j => by rw [broadcast_apply, hw]

theorem Re2.extf {x : FVec Ideal ⟨2, ![a, b]⟩ φ} {f : ℕ → ℕ → ℝ} (h : φ.bits < ψ.bits) (hx : Re2 x f) :
    Re2 (extf ψ x h : FVec Ideal ⟨2, ![a, b]⟩ ψ) f := fun i j => by rw [extf_apply]; exact hx i j

theorem Re2.truncf {x : FVec Ideal ⟨2, ![a, b]⟩ φ} {f : ℕ → ℕ → ℝ} (h : ψ.bits < φ.bits) (hx : Re2 x f) :
    Re2 (truncf ψ x h : FVec Ideal ⟨2, ![a, b]⟩ ψ) f := fun i j => by rw [truncf_apply]; exact hx i j

theorem Re2.tanh {x : FVec Ideal ⟨2, ![a, b]⟩ φ} {f : ℕ → ℕ → ℝ} (hx : Re2 x f) :
    Re2 (tanh x) (fun i j => Real.tanh (f i j)) := fun i j => by
  show FloatOps.tanh (x (ix2 i j)) = _
  rw [hx i j]; simp

theorem rsqrt_pos {x : Ideal φ} {r : ℝ} (hx : x = ((r : ℝ) : EReal)) (hr : 0 < r) :
    FloatOps.rsqrt x = (((Real.sqrt r)⁻¹ : ℝ) : EReal) := by
  rw [hx]
  show Ideal.rsqrt _ = _
  rw [Ideal.rsqrt_coe, if_neg (not_lt.mpr hr.le), if_neg hr.ne']

theorem Re2.rsqrt {x : FVec Ideal ⟨2, ![a, b]⟩ φ} {f : ℕ → ℕ → ℝ} (hx : Re2 x f) (hp : ∀ i j, 0 < f i j) :
    Re2 (rsqrt x) (fun i j => (Real.sqrt (f i j))⁻¹) := fun i j => rsqrt_pos (hx i j) (hp _ _)

/-! ## Layout -/

theorem Re2.slice {a' b' : ℕ} {x : FVec Ideal ⟨2, ![a', b']⟩ φ} {f : ℕ → ℕ → ℝ} (hx : Re2 x f) (o p : ℕ)
    (h : (⟨2, ![a', b']⟩ : Shape).Slices ![o, p] ⟨2, ![a, b]⟩) :
    Re2 (extractStridedSlice ⟨2, ![a, b]⟩ ![o, p] x h : FVec Ideal ⟨2, ![a, b]⟩ φ) (fun i j => f (o + i) (p + j)) := fun i j => by
  have h0 : o + i.val < a' := lt_of_lt_of_le (Nat.add_lt_add_left i.isLt o) (h.2 (0 : Fin 2))
  have h1 : p + j.val < b' := lt_of_lt_of_le (Nat.add_lt_add_left j.isLt p) (h.2 (1 : Fin 2))
  rw [extractStridedSlice_apply _ x h (ix2 i j) (ix2 ⟨o + i.val, h0⟩ ⟨p + j.val, h1⟩) (fun d => by
    match d with | ⟨0, _⟩ => rfl | ⟨1, _⟩ => rfl)]
  exact hx _ _

theorem Re2.castSelf {x : FVec Ideal ⟨2, ![a, b]⟩ φ} {f : ℕ → ℕ → ℝ} (hx : Re2 x f)
    (h : (⟨2, ![a, b]⟩ : Shape).ShapeCasts ⟨2, ![a, b]⟩) :
    Re2 (shapeCast ⟨2, ![a, b]⟩ x h : FVec Ideal ⟨2, ![a, b]⟩ φ) f := fun i j => by rw [shapeCast_self]; exact hx i j

theorem Re3.dropUnit {x : FVec Ideal ⟨3, ![1, a, b]⟩ φ} {f : ℕ → ℕ → ℕ → ℝ} (hx : Re3 x f)
    (h : (⟨3, ![1, a, b]⟩ : Shape).ShapeCasts ⟨2, ![a, b]⟩) :
    Re2 (shapeCast ⟨2, ![a, b]⟩ x h : FVec Ideal ⟨2, ![a, b]⟩ φ) (fun i j => f 0 i j) := fun i j => by
  rw [shapeCast_1ab_ab_apply]; exact hx _ _ _

theorem Re2.addUnit {x : FVec Ideal ⟨2, ![a, b]⟩ φ} {f : ℕ → ℕ → ℝ} (hx : Re2 x f)
    (h : (⟨2, ![a, b]⟩ : Shape).ShapeCasts ⟨3, ![1, a, b]⟩) :
    Re3 (shapeCast ⟨3, ![1, a, b]⟩ x h : FVec Ideal ⟨3, ![1, a, b]⟩ φ) (fun _ i j => f i j) := fun u i j => by
  rw [shapeCast_ab_1ab_apply]; exact hx _ _

/-- One column spread over the lanes. -/
theorem Re2.col {x : FVec Ideal ⟨2, ![a, 1]⟩ φ} {f : ℕ → ℕ → ℝ} (hx : Re2 x f)
    (h : (⟨2, ![a, 1]⟩ : Shape).Broadcasts ⟨2, ![a, b]⟩) :
    Re2 (broadcastTo ⟨2, ![a, b]⟩ x h : FVec Ideal ⟨2, ![a, b]⟩ φ) (fun i _ => f i 0) := fun i j => by
  rw [broadcastTo_apply x h (ix2 i j) (ix2 i (0 : Fin 1)) (fun d => by
    match d with
    | ⟨0, _⟩ =>
      show i.val = if a = 1 then 0 else i.val
      split
      · have := i.isLt; omega
      · rfl
    | ⟨1, _⟩ => rfl)]
  exact hx _ _

/-- One row spread over the rows. -/
theorem Re2.row {x : FVec Ideal ⟨2, ![1, b]⟩ φ} {f : ℕ → ℕ → ℝ} (hx : Re2 x f)
    (h : (⟨2, ![1, b]⟩ : Shape).Broadcasts ⟨2, ![a, b]⟩) :
    Re2 (broadcastTo ⟨2, ![a, b]⟩ x h : FVec Ideal ⟨2, ![a, b]⟩ φ) (fun _ j => f 0 j) := fun i j => by
  rw [broadcastTo_1b_ab_apply]; exact hx _ _

/-! ## Sums -/

/-- The sums of the rows, kept as one column. -/
theorem Re2.rowSum {x : FVec Ideal ⟨2, ![a, b]⟩ φ} {f : ℕ → ℕ → ℝ} (hx : Re2 x f) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) :
    Re2 (shapeCast ⟨2, ![a, 1]⟩ (multiReduction .add [1] ⟨1, ![a]⟩ x acc h hφ hacc) hc : FVec Ideal ⟨2, ![a, 1]⟩ φ)
      (fun i _ => ∑ k : Fin b, f i k.val) := fun i j => by
  rw [shapeCast_a_a1_apply, Ideal.multiReduction_add_single, ← coe_sum]
  refine Finset.sum_congr rfl fun k _ => ?_
  have e : h.lift (ix1 i) k = ix2 i k := funext fun d => by
    match d with
    | ⟨0, _⟩ => exact Fin.ext (by simp [Shape.Reduces.lift]; rfl)
    | ⟨1, _⟩ => exact Fin.ext (by simp [Shape.Reduces.lift]; rfl)
  rw [e]; exact hx i k

/-- The sums of the columns, kept as one row. -/
theorem Re2.colSum {x : FVec Ideal ⟨2, ![a, b]⟩ φ} {f : ℕ → ℕ → ℝ} (hx : Re2 x f) (acc : BitVec φ.bits)
    (h : (⟨2, ![a, b]⟩ : Shape).Reduces [0] ⟨1, ![b]⟩) (hφ : FKind.Formats φ) (hacc : acc = FKind.add.neutral φ hφ)
    (hc : (⟨1, ![b]⟩ : Shape).ShapeCasts ⟨2, ![1, b]⟩) :
    Re2 (shapeCast ⟨2, ![1, b]⟩ (multiReduction .add [0] ⟨1, ![b]⟩ x acc h hφ hacc) hc : FVec Ideal ⟨2, ![1, b]⟩ φ)
      (fun _ j => ∑ k : Fin a, f k.val j) := fun i j => by
  rw [shapeCast_a_1a_apply, Ideal.multiReduction_add_single, ← coe_sum]
  refine Finset.sum_congr rfl fun k _ => ?_
  have e : h.lift (ix1 j) k = ix2 k j := funext fun d => by
    match d with
    | ⟨0, _⟩ => exact Fin.ext (by simp [Shape.Reduces.lift]; rfl)
    | ⟨1, _⟩ => exact Fin.ext (by simp [Shape.Reduces.lift]; rfl)
  rw [e]; exact hx k j

/-- A product into a zero accumulator, its two operands read at `l i j k` and `r i j k` for the k-th term. -/
theorem Re2.matmulAt {m n p q : ℕ} {x : FVec Ideal ⟨2, ![m, n]⟩ φ} {y : FVec Ideal ⟨2, ![p, q]⟩ ψ} {f g : ℕ → ℕ → ℝ}
    (hx : Re2 x f) (hy : Re2 y g) (D : DotDims ⟨2, ![m, n]⟩ ⟨2, ![p, q]⟩ ⟨2, ![a, b]⟩) (prec : Option ContractPrecision) (K : ℕ)
    (hr : D.contr.rank = 1) (hs : D.contr.size ⟨0, by omega⟩ = K)
    (l0 l1 r0 r1 : ℕ → ℕ → ℕ → ℕ)
    (hl : ∀ (i : Fin a) (j : Fin b) (k : D.contr.Idx), (D.lhsIdx (ix2 i j) k 0).val = l0 i.val j.val (k ⟨0, by omega⟩).val
      ∧ (D.lhsIdx (ix2 i j) k 1).val = l1 i.val j.val (k ⟨0, by omega⟩).val
      ∧ (D.rhsIdx (ix2 i j) k 0).val = r0 i.val j.val (k ⟨0, by omega⟩).val
      ∧ (D.rhsIdx (ix2 i j) k 1).val = r1 i.val j.val (k ⟨0, by omega⟩).val) :
    Re2 (matmul D prec x y (constant ⟨2, ![a, b]⟩ .f32 0x00000000#32) : FVec Ideal ⟨2, ![a, b]⟩ .f32)
      (fun i j => ∑ k : Fin K, f (l0 i j k.val) (l1 i j k.val) * g (r0 i j k.val) (r1 i j k.val)) := fun i j => by
  show FloatOps.matmul D prec x y (constant ⟨2, ![a, b]⟩ .f32 0x00000000#32) (ix2 i j) = _
  rw [Ideal.matmul_constant_zero_apply, ← Equiv.sum_comp (contrEquiv1 D K hr hs).symm, ← coe_sum]
  refine Finset.sum_congr rfl fun k _ => ?_
  obtain ⟨h0, h1, h2, h3⟩ := hl i j ((contrEquiv1 D K hr hs).symm k)
  rw [contrEquiv1_symm_val D K hr hs k] at h0 h1 h2 h3
  have ex := (congrArg x (eq_ix2 _)).trans <| hx (D.lhsIdx (ix2 i j) ((contrEquiv1 D K hr hs).symm k) 0) (D.lhsIdx (ix2 i j) ((contrEquiv1 D K hr hs).symm k) 1)
  have ey := (congrArg y (eq_ix2 _)).trans <| hy (D.rhsIdx (ix2 i j) ((contrEquiv1 D K hr hs).symm k) 0) (D.rhsIdx (ix2 i j) ((contrEquiv1 D K hr hs).symm k) 1)
  rw [ex, ey, h0, h1, h2, h3, ← EReal.coe_mul]

/-- Rows times columns. -/
theorem Re2.matmulNN {K : ℕ} {x : FVec Ideal ⟨2, ![a, K]⟩ φ} {y : FVec Ideal ⟨2, ![K, b]⟩ ψ} {f g : ℕ → ℕ → ℝ} (hx : Re2 x f) (hy : Re2 y g)
    (wf) (prec : Option ContractPrecision) :
    Re2 (matmul (⟨[1], [0], [0], [1], [], [], wf⟩ : DotDims ⟨2, ![a, K]⟩ ⟨2, ![K, b]⟩ ⟨2, ![a, b]⟩) prec x y (constant ⟨2, ![a, b]⟩ .f32 0x00000000#32)
        : FVec Ideal ⟨2, ![a, b]⟩ .f32) (fun i j => ∑ k : Fin K, f i k.val * g k.val j) :=
  Re2.matmulAt hx hy _ prec K rfl rfl (fun i _ _ => i) (fun _ _ k => k) (fun _ _ k => k) (fun _ j _ => j) fun i j k =>
    ⟨by unfold DotDims.lhsIdx; rw [dif_neg (by simp), dif_pos (by simp)]; rfl, DotDims.lhsIdx_val_of_single _ rfl _ _,
      DotDims.rhsIdx_val_of_single _ rfl _ _, by unfold DotDims.rhsIdx; rw [dif_neg (by simp), dif_pos (by simp)]; rfl⟩

/-- Rows times rows. -/
theorem Re2.matmulNT {K : ℕ} {x : FVec Ideal ⟨2, ![a, K]⟩ φ} {y : FVec Ideal ⟨2, ![b, K]⟩ ψ} {f g : ℕ → ℕ → ℝ} (hx : Re2 x f) (hy : Re2 y g)
    (wf) (prec : Option ContractPrecision) :
    Re2 (matmul (⟨[1], [1], [0], [0], [], [], wf⟩ : DotDims ⟨2, ![a, K]⟩ ⟨2, ![b, K]⟩ ⟨2, ![a, b]⟩) prec x y (constant ⟨2, ![a, b]⟩ .f32 0x00000000#32)
        : FVec Ideal ⟨2, ![a, b]⟩ .f32) (fun i j => ∑ k : Fin K, f i k.val * g j k.val) :=
  Re2.matmulAt hx hy _ prec K rfl rfl (fun i _ _ => i) (fun _ _ k => k) (fun _ j _ => j) (fun _ _ k => k) fun i j k =>
    ⟨by unfold DotDims.lhsIdx; rw [dif_neg (by simp), dif_pos (by simp)]; rfl, DotDims.lhsIdx_val_of_single _ rfl _ _,
      by unfold DotDims.rhsIdx; rw [dif_neg (by simp), dif_pos (by simp)]; rfl, DotDims.rhsIdx_val_of_single _ rfl _ _⟩

/-- Columns times columns. -/
theorem Re2.matmulTN {K : ℕ} {x : FVec Ideal ⟨2, ![K, a]⟩ φ} {y : FVec Ideal ⟨2, ![K, b]⟩ ψ} {f g : ℕ → ℕ → ℝ} (hx : Re2 x f) (hy : Re2 y g)
    (wf) (prec : Option ContractPrecision) :
    Re2 (matmul (⟨[0], [0], [1], [1], [], [], wf⟩ : DotDims ⟨2, ![K, a]⟩ ⟨2, ![K, b]⟩ ⟨2, ![a, b]⟩) prec x y (constant ⟨2, ![a, b]⟩ .f32 0x00000000#32)
        : FVec Ideal ⟨2, ![a, b]⟩ .f32) (fun i j => ∑ k : Fin K, f k.val i * g k.val j) :=
  Re2.matmulAt hx hy _ prec K rfl rfl (fun _ _ k => k) (fun i _ _ => i) (fun _ _ k => k) (fun _ j _ => j) fun i j k =>
    ⟨DotDims.lhsIdx_val_of_single _ rfl _ _, by unfold DotDims.lhsIdx; rw [dif_neg (by simp), dif_pos (by simp)]; rfl,
      DotDims.rhsIdx_val_of_single _ rfl _ _, by unfold DotDims.rhsIdx; rw [dif_neg (by simp), dif_pos (by simp)]; rfl⟩

/-- A choice between two arrays by a condition on the coordinates. -/
theorem Re2.select {x y : FVec Ideal ⟨2, ![a, b]⟩ φ} {f g : ℕ → ℕ → ℝ} {m : IVec ⟨2, ![a, b]⟩ 1} {p : ℕ → ℕ → Prop}
    [∀ i j, Decidable (p i j)] (hm : ∀ (i : Fin a) (j : Fin b), m (ix2 i j) = 1#1 ↔ p i.val j.val) (hx : Re2 x f) (hy : Re2 y g) :
    Re2 (select m x y : FVec Ideal ⟨2, ![a, b]⟩ φ) (fun i j => if p i j then f i j else g i j) := fun i j => by
  rw [select_apply]
  show (if m (ix2 i j) = 1#1 then _ else _) = _
  by_cases h : p i.val j.val
  · rw [if_pos ((hm i j).2 h)]; simp only [if_pos h]; exact hx i j
  · rw [if_neg (fun e => h ((hm i j).1 e))]; simp only [if_neg h]; exact hy i j

/-! ## Loads and stores through rectangles -/

theorem Re2.ld {a' b' o p : ℕ} {x : FVec Ideal ⟨2, ![a', b']⟩ .f32} {f : ℕ → ℕ → ℝ} (hx : Re2 x f)
    (inb : ∀ d, (![o, p] : Fin 2 → ℕ) d + (![a, b] : Fin 2 → ℕ) d ≤ (⟨2, ![a', b']⟩ : Shape).size d) :
    Re2 (φ := .f32) (View.ld (Val := Elt Ideal) (e' := .f32) x (Rect.unit (s := ⟨2, ![a', b']⟩) ![o, p] ![a, b] inb) : FVec Ideal ⟨2, ![a, b]⟩ .f32)
      (fun i j => f (o + i) (p + j)) := fun i j => by
  have h0 : o + i.val < a' := lt_of_lt_of_le (Nat.add_lt_add_left i.isLt o) (inb (0 : Fin 2))
  have h1 : p + j.val < b' := lt_of_lt_of_le (Nat.add_lt_add_left j.isLt p) (inb (1 : Fin 2))
  refine Eq.trans (congrArg x (funext fun d => ?_)) (hx ⟨o + i.val, h0⟩ ⟨p + j.val, h1⟩)
  match d with
  | ⟨0, _⟩ => exact Fin.ext (Rect.idx_unit_val (s := ⟨2, ![a', b']⟩) ![o, p] ![a, b] inb (ix2 i j) (0 : Fin 2))
  | ⟨1, _⟩ => exact Fin.ext (Rect.idx_unit_val (s := ⟨2, ![a', b']⟩) ![o, p] ![a, b] inb (ix2 i j) (1 : Fin 2))

theorem Re3.ld {a' b' c' o p q : ℕ} {x : FVec Ideal ⟨3, ![a', b', c']⟩ .f32} {f : ℕ → ℕ → ℕ → ℝ} (hx : Re3 x f)
    (inb : ∀ d, (![o, p, q] : Fin 3 → ℕ) d + (![a, b, c] : Fin 3 → ℕ) d ≤ (⟨3, ![a', b', c']⟩ : Shape).size d) :
    Re3 (φ := .f32) (View.ld (Val := Elt Ideal) (e' := .f32) x (Rect.unit (s := ⟨3, ![a', b', c']⟩) ![o, p, q] ![a, b, c] inb) : FVec Ideal ⟨3, ![a, b, c]⟩ .f32)
      (fun i j k => f (o + i) (p + j) (q + k)) := fun i j k => by
  have h0 : o + i.val < a' := lt_of_lt_of_le (Nat.add_lt_add_left i.isLt o) (inb (0 : Fin 3))
  have h1 : p + j.val < b' := lt_of_lt_of_le (Nat.add_lt_add_left j.isLt p) (inb (1 : Fin 3))
  have h2 : q + k.val < c' := lt_of_lt_of_le (Nat.add_lt_add_left k.isLt q) (inb (2 : Fin 3))
  refine Eq.trans (congrArg x (funext fun d => ?_)) (hx ⟨o + i.val, h0⟩ ⟨p + j.val, h1⟩ ⟨q + k.val, h2⟩)
  match d with
  | ⟨0, _⟩ => exact Fin.ext (Rect.idx_unit_val (s := ⟨3, ![a', b', c']⟩) ![o, p, q] ![a, b, c] inb (ix3 i j k) (0 : Fin 3))
  | ⟨1, _⟩ => exact Fin.ext (Rect.idx_unit_val (s := ⟨3, ![a', b', c']⟩) ![o, p, q] ![a, b, c] inb (ix3 i j k) (1 : Fin 3))
  | ⟨2, _⟩ => exact Fin.ext (Rect.idx_unit_val (s := ⟨3, ![a', b', c']⟩) ![o, p, q] ![a, b, c] inb (ix3 i j k) (2 : Fin 3))

/-- Every stored piece holds the real numbers of one function of the index. -/
def Ps2 (f : ℕ → ℕ → ℝ) (L : List (View.Piece (Elt Ideal) ⟨2, ![a, b]⟩ (.f32))) : Prop :=
  ∀ p ∈ L, ∀ x : p.1.shape.Idx, p.2 x = ((f (p.1.emb x (0 : Fin 2)).val (p.1.emb x (1 : Fin 2)).val : ℝ) : EReal)

def Ps3 (f : ℕ → ℕ → ℕ → ℝ) (L : List (View.Piece (Elt Ideal) ⟨3, ![a, b, c]⟩ (.f32))) : Prop :=
  ∀ p ∈ L, ∀ x : p.1.shape.Idx,
    p.2 x = ((f (p.1.emb x (0 : Fin 3)).val (p.1.emb x (1 : Fin 3)).val (p.1.emb x (2 : Fin 3)).val : ℝ) : EReal)

theorem Ps2.nil (f : ℕ → ℕ → ℝ) : Ps2 f ([] : List (View.Piece (Elt Ideal) ⟨2, ![a, b]⟩ (.f32))) :=
  fun _ h => absurd h List.not_mem_nil

theorem Ps3.nil (f : ℕ → ℕ → ℕ → ℝ) : Ps3 f ([] : List (View.Piece (Elt Ideal) ⟨3, ![a, b, c]⟩ (.f32))) :=
  fun _ h => absurd h List.not_mem_nil

theorem Ps2.cons {f g : ℕ → ℕ → ℝ} {a' b' o p : ℕ} {w : FVec Ideal ⟨2, ![a', b']⟩ .f32}
    {inb : ∀ d, (![o, p] : Fin 2 → ℕ) d + (![a', b'] : Fin 2 → ℕ) d ≤ (⟨2, ![a, b]⟩ : Shape).size d}
    {L : List (View.Piece (Elt Ideal) ⟨2, ![a, b]⟩ (.f32))} (hw : Re2 w g)
    (e : ∀ i j, i < a' → j < b' → g i j = f (o + i) (p + j)) (hL : Ps2 f L) :
    Ps2 f ((⟨Rect.unit (s := ⟨2, ![a, b]⟩) ![o, p] ![a', b'] inb, w⟩ : View.Piece (Elt Ideal) ⟨2, ![a, b]⟩ (.f32)) :: L) := by
  intro q hq
  rcases List.mem_cons.mp hq with rfl | hq
  · intro x
    obtain ⟨i, j, rfl⟩ : ∃ (i : Fin a') (j : Fin b'), x = ix2 i j := ⟨x (0 : Fin 2), x (1 : Fin 2), eq_ix2 (n0 := a') (n1 := b') x⟩
    have h0 : ((Rect.unit (s := ⟨2, ![a, b]⟩) ![o, p] ![a', b'] inb).emb (ix2 i j) (0 : Fin 2)).val = o + i.val := Rect.idx_unit_val (s := ⟨2, ![a, b]⟩) _ _ inb _ (0 : Fin 2)
    have h1 : ((Rect.unit (s := ⟨2, ![a, b]⟩) ![o, p] ![a', b'] inb).emb (ix2 i j) (1 : Fin 2)).val = p + j.val := Rect.idx_unit_val (s := ⟨2, ![a, b]⟩) _ _ inb _ (1 : Fin 2)
    rw [h0, h1, ← e _ _ i.isLt j.isLt]
    exact hw i j
  · exact hL q hq

theorem Ps3.cons {f g : ℕ → ℕ → ℕ → ℝ} {a' b' c' o p r : ℕ} {w : FVec Ideal ⟨3, ![a', b', c']⟩ .f32}
    {inb : ∀ d, (![o, p, r] : Fin 3 → ℕ) d + (![a', b', c'] : Fin 3 → ℕ) d ≤ (⟨3, ![a, b, c]⟩ : Shape).size d}
    {L : List (View.Piece (Elt Ideal) ⟨3, ![a, b, c]⟩ (.f32))} (hw : Re3 w g)
    (e : ∀ i j k, i < a' → j < b' → k < c' → g i j k = f (o + i) (p + j) (r + k)) (hL : Ps3 f L) :
    Ps3 f ((⟨Rect.unit (s := ⟨3, ![a, b, c]⟩) ![o, p, r] ![a', b', c'] inb, w⟩ : View.Piece (Elt Ideal) ⟨3, ![a, b, c]⟩ (.f32)) :: L) := by
  intro q hq
  rcases List.mem_cons.mp hq with rfl | hq
  · intro x
    obtain ⟨i, j, k, rfl⟩ : ∃ (i : Fin a') (j : Fin b') (k : Fin c'), x = ix3 i j k :=
      ⟨x (0 : Fin 3), x (1 : Fin 3), x (2 : Fin 3), eq_ix3 (n0 := a') (n1 := b') (n2 := c') x⟩
    have h0 : ((Rect.unit (s := ⟨3, ![a, b, c]⟩) ![o, p, r] ![a', b', c'] inb).emb (ix3 i j k) (0 : Fin 3)).val = o + i.val := Rect.idx_unit_val (s := ⟨3, ![a, b, c]⟩) _ _ inb _ (0 : Fin 3)
    have h1 : ((Rect.unit (s := ⟨3, ![a, b, c]⟩) ![o, p, r] ![a', b', c'] inb).emb (ix3 i j k) (1 : Fin 3)).val = p + j.val := Rect.idx_unit_val (s := ⟨3, ![a, b, c]⟩) _ _ inb _ (1 : Fin 3)
    have h2 : ((Rect.unit (s := ⟨3, ![a, b, c]⟩) ![o, p, r] ![a', b', c'] inb).emb (ix3 i j k) (2 : Fin 3)).val = r + k.val := Rect.idx_unit_val (s := ⟨3, ![a, b, c]⟩) _ _ inb _ (2 : Fin 3)
    rw [h0, h1, h2, ← e _ _ _ i.isLt j.isLt k.isLt]
    exact hw i j k
  · exact hL q hq

theorem Re2.canon {f : ℕ → ℕ → ℝ} {L : List (View.Piece (Elt Ideal) ⟨2, ![a, b]⟩ (.f32))} (hL : Ps2 f L)
    (hc : ∀ y, ∃ p ∈ L, y ∈ p.1.set) : Re2 (φ := .f32) (View.canon L : FVec Ideal ⟨2, ![a, b]⟩ .f32) f := fun i j =>
  View.canon_apply_of_pieces (Val := Elt Ideal) (e := .f32) (fun y : (⟨2, ![a, b]⟩ : Shape).Idx => ((f (y (0 : Fin 2)).val (y (1 : Fin 2)).val : ℝ) : EReal)) L hL (ix2 i j) (hc _)

theorem Re3.canon {f : ℕ → ℕ → ℕ → ℝ} {L : List (View.Piece (Elt Ideal) ⟨3, ![a, b, c]⟩ (.f32))} (hL : Ps3 f L)
    (hc : ∀ y, ∃ p ∈ L, y ∈ p.1.set) : Re3 (φ := .f32) (View.canon L : FVec Ideal ⟨3, ![a, b, c]⟩ .f32) f := fun i j k =>
  View.canon_apply_of_pieces (Val := Elt Ideal) (e := .f32) (fun y : (⟨3, ![a, b, c]⟩ : Shape).Idx => ((f (y (0 : Fin 3)).val (y (1 : Fin 3)).val (y (2 : Fin 3)).val : ℝ) : EReal)) L hL (ix3 i j k) (hc _)

/-- What a load reads back of covering stores. -/
theorem Re2.readCov {sig : RefSig} {κ : Kind} {sp : Space} {a' b' o p : ℕ} (v : View sig κ sp ⟨2, ![a', b']⟩ (.f32)) {f : ℕ → ℕ → ℝ}
    {L : List (View.Piece (Elt Ideal) ⟨2, ![a', b']⟩ (.f32))} (hL : Ps2 f L) (hc : ∀ y, ∃ q ∈ L, y ∈ q.1.set)
    (inb : ∀ d, (![o, p] : Fin 2 → ℕ) d + (![a, b] : Fin 2 → ℕ) d ≤ (⟨2, ![a', b']⟩ : Shape).size d) :
    Re2 (φ := .f32) (v.readCov L (Rect.unit (s := ⟨2, ![a', b']⟩) ![o, p] ![a, b] inb).toLoadRect : FVec Ideal ⟨2, ![a, b]⟩ .f32)
      (fun i j => f (o + i) (p + j)) := by
  rw [View.readCov_eq_canon_ld _ _ _ hc]
  exact (Re2.canon hL hc).ld inb

theorem Re3.readCov {sig : RefSig} {κ : Kind} {sp : Space} {a' b' c' o p q : ℕ} (v : View sig κ sp ⟨3, ![a', b', c']⟩ (.f32))
    {f : ℕ → ℕ → ℕ → ℝ} {L : List (View.Piece (Elt Ideal) ⟨3, ![a', b', c']⟩ (.f32))} (hL : Ps3 f L) (hc : ∀ y, ∃ r ∈ L, y ∈ r.1.set)
    (inb : ∀ d, (![o, p, q] : Fin 3 → ℕ) d + (![a, b, c] : Fin 3 → ℕ) d ≤ (⟨3, ![a', b', c']⟩ : Shape).size d) :
    Re3 (φ := .f32) (v.readCov L (Rect.unit (s := ⟨3, ![a', b', c']⟩) ![o, p, q] ![a, b, c] inb).toLoadRect : FVec Ideal ⟨3, ![a, b, c]⟩ .f32)
      (fun i j k => f (o + i) (p + j) (q + k)) := by
  rw [View.readCov_eq_canon_ld _ _ _ hc]
  exact (Re3.canon hL hc).ld inb

theorem Re2.ldb {a' b' o p : ℕ} {x : FVec Ideal ⟨2, ![a', b']⟩ .bf16} {f : ℕ → ℕ → ℝ} (hx : Re2 x f)
    (inb : ∀ d, (![o, p] : Fin 2 → ℕ) d + (![a, b] : Fin 2 → ℕ) d ≤ (⟨2, ![a', b']⟩ : Shape).size d) :
    Re2 (φ := .bf16) (View.ld (Val := Elt Ideal) (e' := .bf16) x (Rect.unit (s := ⟨2, ![a', b']⟩) ![o, p] ![a, b] inb) : FVec Ideal ⟨2, ![a, b]⟩ .bf16)
      (fun i j => f (o + i) (p + j)) := fun i j => by
  have h0 : o + i.val < a' := lt_of_lt_of_le (Nat.add_lt_add_left i.isLt o) (inb (0 : Fin 2))
  have h1 : p + j.val < b' := lt_of_lt_of_le (Nat.add_lt_add_left j.isLt p) (inb (1 : Fin 2))
  refine Eq.trans (congrArg x (funext fun d => ?_)) (hx ⟨o + i.val, h0⟩ ⟨p + j.val, h1⟩)
  match d with
  | ⟨0, _⟩ => exact Fin.ext (Rect.idx_unit_val (s := ⟨2, ![a', b']⟩) ![o, p] ![a, b] inb (ix2 i j) (0 : Fin 2))
  | ⟨1, _⟩ => exact Fin.ext (Rect.idx_unit_val (s := ⟨2, ![a', b']⟩) ![o, p] ![a, b] inb (ix2 i j) (1 : Fin 2))

theorem Re3.ldb {a' b' c' o p q : ℕ} {x : FVec Ideal ⟨3, ![a', b', c']⟩ .bf16} {f : ℕ → ℕ → ℕ → ℝ} (hx : Re3 x f)
    (inb : ∀ d, (![o, p, q] : Fin 3 → ℕ) d + (![a, b, c] : Fin 3 → ℕ) d ≤ (⟨3, ![a', b', c']⟩ : Shape).size d) :
    Re3 (φ := .bf16) (View.ld (Val := Elt Ideal) (e' := .bf16) x (Rect.unit (s := ⟨3, ![a', b', c']⟩) ![o, p, q] ![a, b, c] inb) : FVec Ideal ⟨3, ![a, b, c]⟩ .bf16)
      (fun i j k => f (o + i) (p + j) (q + k)) := fun i j k => by
  have h0 : o + i.val < a' := lt_of_lt_of_le (Nat.add_lt_add_left i.isLt o) (inb (0 : Fin 3))
  have h1 : p + j.val < b' := lt_of_lt_of_le (Nat.add_lt_add_left j.isLt p) (inb (1 : Fin 3))
  have h2 : q + k.val < c' := lt_of_lt_of_le (Nat.add_lt_add_left k.isLt q) (inb (2 : Fin 3))
  refine Eq.trans (congrArg x (funext fun d => ?_)) (hx ⟨o + i.val, h0⟩ ⟨p + j.val, h1⟩ ⟨q + k.val, h2⟩)
  match d with
  | ⟨0, _⟩ => exact Fin.ext (Rect.idx_unit_val (s := ⟨3, ![a', b', c']⟩) ![o, p, q] ![a, b, c] inb (ix3 i j k) (0 : Fin 3))
  | ⟨1, _⟩ => exact Fin.ext (Rect.idx_unit_val (s := ⟨3, ![a', b', c']⟩) ![o, p, q] ![a, b, c] inb (ix3 i j k) (1 : Fin 3))
  | ⟨2, _⟩ => exact Fin.ext (Rect.idx_unit_val (s := ⟨3, ![a', b', c']⟩) ![o, p, q] ![a, b, c] inb (ix3 i j k) (2 : Fin 3))

/-- Every stored piece holds the real numbers of one function of the index. -/
def Ps2b (f : ℕ → ℕ → ℝ) (L : List (View.Piece (Elt Ideal) ⟨2, ![a, b]⟩ (.bf16))) : Prop :=
  ∀ p ∈ L, ∀ x : p.1.shape.Idx, p.2 x = ((f (p.1.emb x (0 : Fin 2)).val (p.1.emb x (1 : Fin 2)).val : ℝ) : EReal)

def Ps3b (f : ℕ → ℕ → ℕ → ℝ) (L : List (View.Piece (Elt Ideal) ⟨3, ![a, b, c]⟩ (.bf16))) : Prop :=
  ∀ p ∈ L, ∀ x : p.1.shape.Idx,
    p.2 x = ((f (p.1.emb x (0 : Fin 3)).val (p.1.emb x (1 : Fin 3)).val (p.1.emb x (2 : Fin 3)).val : ℝ) : EReal)

theorem Ps2b.nil (f : ℕ → ℕ → ℝ) : Ps2b f ([] : List (View.Piece (Elt Ideal) ⟨2, ![a, b]⟩ (.bf16))) :=
  fun _ h => absurd h List.not_mem_nil

theorem Ps3b.nil (f : ℕ → ℕ → ℕ → ℝ) : Ps3b f ([] : List (View.Piece (Elt Ideal) ⟨3, ![a, b, c]⟩ (.bf16))) :=
  fun _ h => absurd h List.not_mem_nil

theorem Ps2b.cons {f g : ℕ → ℕ → ℝ} {a' b' o p : ℕ} {w : FVec Ideal ⟨2, ![a', b']⟩ .bf16}
    {inb : ∀ d, (![o, p] : Fin 2 → ℕ) d + (![a', b'] : Fin 2 → ℕ) d ≤ (⟨2, ![a, b]⟩ : Shape).size d}
    {L : List (View.Piece (Elt Ideal) ⟨2, ![a, b]⟩ (.bf16))} (hw : Re2 w g)
    (e : ∀ i j, i < a' → j < b' → g i j = f (o + i) (p + j)) (hL : Ps2b f L) :
    Ps2b f ((⟨Rect.unit (s := ⟨2, ![a, b]⟩) ![o, p] ![a', b'] inb, w⟩ : View.Piece (Elt Ideal) ⟨2, ![a, b]⟩ (.bf16)) :: L) := by
  intro q hq
  rcases List.mem_cons.mp hq with rfl | hq
  · intro x
    obtain ⟨i, j, rfl⟩ : ∃ (i : Fin a') (j : Fin b'), x = ix2 i j := ⟨x (0 : Fin 2), x (1 : Fin 2), eq_ix2 (n0 := a') (n1 := b') x⟩
    have h0 : ((Rect.unit (s := ⟨2, ![a, b]⟩) ![o, p] ![a', b'] inb).emb (ix2 i j) (0 : Fin 2)).val = o + i.val := Rect.idx_unit_val (s := ⟨2, ![a, b]⟩) _ _ inb _ (0 : Fin 2)
    have h1 : ((Rect.unit (s := ⟨2, ![a, b]⟩) ![o, p] ![a', b'] inb).emb (ix2 i j) (1 : Fin 2)).val = p + j.val := Rect.idx_unit_val (s := ⟨2, ![a, b]⟩) _ _ inb _ (1 : Fin 2)
    rw [h0, h1, ← e _ _ i.isLt j.isLt]
    exact hw i j
  · exact hL q hq

theorem Ps3b.cons {f g : ℕ → ℕ → ℕ → ℝ} {a' b' c' o p r : ℕ} {w : FVec Ideal ⟨3, ![a', b', c']⟩ .bf16}
    {inb : ∀ d, (![o, p, r] : Fin 3 → ℕ) d + (![a', b', c'] : Fin 3 → ℕ) d ≤ (⟨3, ![a, b, c]⟩ : Shape).size d}
    {L : List (View.Piece (Elt Ideal) ⟨3, ![a, b, c]⟩ (.bf16))} (hw : Re3 w g)
    (e : ∀ i j k, i < a' → j < b' → k < c' → g i j k = f (o + i) (p + j) (r + k)) (hL : Ps3b f L) :
    Ps3b f ((⟨Rect.unit (s := ⟨3, ![a, b, c]⟩) ![o, p, r] ![a', b', c'] inb, w⟩ : View.Piece (Elt Ideal) ⟨3, ![a, b, c]⟩ (.bf16)) :: L) := by
  intro q hq
  rcases List.mem_cons.mp hq with rfl | hq
  · intro x
    obtain ⟨i, j, k, rfl⟩ : ∃ (i : Fin a') (j : Fin b') (k : Fin c'), x = ix3 i j k :=
      ⟨x (0 : Fin 3), x (1 : Fin 3), x (2 : Fin 3), eq_ix3 (n0 := a') (n1 := b') (n2 := c') x⟩
    have h0 : ((Rect.unit (s := ⟨3, ![a, b, c]⟩) ![o, p, r] ![a', b', c'] inb).emb (ix3 i j k) (0 : Fin 3)).val = o + i.val := Rect.idx_unit_val (s := ⟨3, ![a, b, c]⟩) _ _ inb _ (0 : Fin 3)
    have h1 : ((Rect.unit (s := ⟨3, ![a, b, c]⟩) ![o, p, r] ![a', b', c'] inb).emb (ix3 i j k) (1 : Fin 3)).val = p + j.val := Rect.idx_unit_val (s := ⟨3, ![a, b, c]⟩) _ _ inb _ (1 : Fin 3)
    have h2 : ((Rect.unit (s := ⟨3, ![a, b, c]⟩) ![o, p, r] ![a', b', c'] inb).emb (ix3 i j k) (2 : Fin 3)).val = r + k.val := Rect.idx_unit_val (s := ⟨3, ![a, b, c]⟩) _ _ inb _ (2 : Fin 3)
    rw [h0, h1, h2, ← e _ _ _ i.isLt j.isLt k.isLt]
    exact hw i j k
  · exact hL q hq

theorem Re2.canonb {f : ℕ → ℕ → ℝ} {L : List (View.Piece (Elt Ideal) ⟨2, ![a, b]⟩ (.bf16))} (hL : Ps2b f L)
    (hc : ∀ y, ∃ p ∈ L, y ∈ p.1.set) : Re2 (φ := .bf16) (View.canon L : FVec Ideal ⟨2, ![a, b]⟩ .bf16) f := fun i j =>
  View.canon_apply_of_pieces (Val := Elt Ideal) (e := .bf16) (fun y : (⟨2, ![a, b]⟩ : Shape).Idx => ((f (y (0 : Fin 2)).val (y (1 : Fin 2)).val : ℝ) : EReal)) L hL (ix2 i j) (hc _)

theorem Re3.canonb {f : ℕ → ℕ → ℕ → ℝ} {L : List (View.Piece (Elt Ideal) ⟨3, ![a, b, c]⟩ (.bf16))} (hL : Ps3b f L)
    (hc : ∀ y, ∃ p ∈ L, y ∈ p.1.set) : Re3 (φ := .bf16) (View.canon L : FVec Ideal ⟨3, ![a, b, c]⟩ .bf16) f := fun i j k =>
  View.canon_apply_of_pieces (Val := Elt Ideal) (e := .bf16) (fun y : (⟨3, ![a, b, c]⟩ : Shape).Idx => ((f (y (0 : Fin 3)).val (y (1 : Fin 3)).val (y (2 : Fin 3)).val : ℝ) : EReal)) L hL (ix3 i j k) (hc _)

/-- What a load reads back of covering stores. -/
theorem Re2.readCovb {sig : RefSig} {κ : Kind} {sp : Space} {a' b' o p : ℕ} (v : View sig κ sp ⟨2, ![a', b']⟩ (.bf16)) {f : ℕ → ℕ → ℝ}
    {L : List (View.Piece (Elt Ideal) ⟨2, ![a', b']⟩ (.bf16))} (hL : Ps2b f L) (hc : ∀ y, ∃ q ∈ L, y ∈ q.1.set)
    (inb : ∀ d, (![o, p] : Fin 2 → ℕ) d + (![a, b] : Fin 2 → ℕ) d ≤ (⟨2, ![a', b']⟩ : Shape).size d) :
    Re2 (φ := .bf16) (v.readCov L (Rect.unit (s := ⟨2, ![a', b']⟩) ![o, p] ![a, b] inb).toLoadRect : FVec Ideal ⟨2, ![a, b]⟩ .bf16)
      (fun i j => f (o + i) (p + j)) := by
  rw [View.readCov_eq_canon_ld _ _ _ hc]
  exact (Re2.canonb hL hc).ldb inb

theorem Re3.readCovb {sig : RefSig} {κ : Kind} {sp : Space} {a' b' c' o p q : ℕ} (v : View sig κ sp ⟨3, ![a', b', c']⟩ (.bf16))
    {f : ℕ → ℕ → ℕ → ℝ} {L : List (View.Piece (Elt Ideal) ⟨3, ![a', b', c']⟩ (.bf16))} (hL : Ps3b f L) (hc : ∀ y, ∃ r ∈ L, y ∈ r.1.set)
    (inb : ∀ d, (![o, p, q] : Fin 3 → ℕ) d + (![a, b, c] : Fin 3 → ℕ) d ≤ (⟨3, ![a', b', c']⟩ : Shape).size d) :
    Re3 (φ := .bf16) (v.readCov L (Rect.unit (s := ⟨3, ![a', b', c']⟩) ![o, p, q] ![a, b, c] inb).toLoadRect : FVec Ideal ⟨3, ![a, b, c]⟩ .bf16)
      (fun i j k => f (o + i) (p + j) (q + k)) := by
  rw [View.readCov_eq_canon_ld _ _ _ hc]
  exact (Re3.canonb hL hc).ldb inb

end Cert.Reals

end
-- ==== Proof.Sgu.lean ====
/- The mathematics of the gating unit's backward pass over the real numbers, indexed by natural numbers: rows are tokens,
   columns are features, a chunk is 128 rows, a group is 256 columns. -/
module

public import proofs.«01_k».proof.Proof.Reals

@[expose] public section

noncomputable section

namespace Cert.Sgu

open Idealize.ShloMosaic Cert.Reals
open scoped BigOperators

/-- The factor of tanh's argument in the approximate gelu. -/
def kR : ℝ := 13386282 / 16777216
/-- The coefficient of the cube. -/
def cR : ℝ := 12003091 / 268435456
/-- The term added to the variance. -/
def epsR : ℝ := 8796093 / 8796093022208

theorem ofBits_k : Ideal.ofBits .f32 0x3F4C422A#32 = ((kR : ℝ) : EReal) := by
  simp [Ideal.ofBits, Ideal.ieee, -EReal.coe_mul, kR]; norm_num
theorem ofBits_c : Ideal.ofBits .f32 0x3D372713#32 = ((cR : ℝ) : EReal) := by
  simp [Ideal.ofBits, Ideal.ieee, -EReal.coe_mul, cR]; norm_num
theorem ofBits_eps : Ideal.ofBits .f32 0x358637BD#32 = ((epsR : ℝ) : EReal) := by
  simp [Ideal.ofBits, Ideal.ieee, -EReal.coe_mul, epsR]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

theorem epsR_pos : 0 < epsR := by unfold epsR; norm_num

/-- tanh of the approximate gelu. -/
def th (x : ℝ) : ℝ := Real.tanh (x * (kR + kR * cR * (x * x)))
def cdf (x : ℝ) : ℝ := 1 / 2 + 1 / 2 * th x
def gelu (x : ℝ) : ℝ := x * cdf x
/-- gelu's derivative. -/
def dgelu (x : ℝ) : ℝ := cdf x + x * (1 / 2 - 1 / 2 * th x * th x) * (kR + 3 * (kR * cR) * (x * x))

section rows
variable (zu zv da : ℕ → ℕ → ℝ) (g : ℕ → ℝ) (w : ℕ → ℕ → ℕ → ℝ) (b : ℕ → ℕ → ℝ)

/-- The gate's features less their mean over the row. -/
def xc (r e : ℕ) : ℝ := gelu (zv r e) - (∑ k : Fin 1024, gelu (zv r k.val)) / 1024
def vareps (r : ℕ) : ℝ := (∑ k : Fin 1024, xc zv r k.val * xc zv r k.val) / 1024 + epsR
def rs (r : ℕ) : ℝ := (Real.sqrt (vareps zv r))⁻¹
def vh (r e : ℕ) : ℝ := xc zv r e * rs zv r
def vn (r e : ℕ) : ℝ := vh zv r e * g e
/-- The causal weights. -/
def wm (q t s : ℕ) : ℝ := if s ≤ t then w q t s else 0
def sv (r e : ℕ) : ℝ := (∑ s : Fin 128, wm w (e / 256) (r % 128) s.val * vn zv g (128 * (r / 128) + s.val) e) + b (e / 256) (r % 128)
def dsv (r e : ℕ) : ℝ := da r e * gelu (zu r e)
def dvn (r e : ℕ) : ℝ := ∑ t : Fin 128, wm w (e / 256) t.val (r % 128) * dsv zu da (128 * (r / 128) + t.val) e
def dzu (r e : ℕ) : ℝ := da r e * sv zv g w b r e * dgelu (zu r e)
def dvh (r e : ℕ) : ℝ := dvn zu da w r e * g e
def dv (r e : ℕ) : ℝ := rs zv r * (dvh zu da g w r e - (∑ k : Fin 1024, dvh zu da g w r k.val) / 1024
  - vh zv r e * ((∑ k : Fin 1024, dvh zu da g w r k.val * vh zv r k.val) / 1024))
def dzv (r e : ℕ) : ℝ := dv zu zv da g w r e * dgelu (zv r e)
/-- One chunk's part of the weights' gradient. -/
def dwOne (q t s c : ℕ) : ℝ := ∑ d : Fin 256, dsv zu da (128 * c + t) (256 * q + d.val) * vn zv g (128 * c + s) (256 * q + d.val)
def dwSum (n q t s : ℕ) : ℝ := ∑ c ∈ Finset.range n, dwOne zu zv da g q t s c
def dsvSum (n t e : ℕ) : ℝ := ∑ c ∈ Finset.range n, dsv zu da (128 * c + t) e
def dbSum (n q t : ℕ) : ℝ := ∑ d : Fin 256, dsvSum zu da n t (256 * q + d.val)
def dngSum (n e : ℕ) : ℝ := ∑ r ∈ Finset.range n, dvn zu da w r e * vh zv r e

theorem vareps_pos (r : ℕ) : 0 < vareps zv r := by
  have h : 0 ≤ ∑ k : Fin 1024, xc zv r k.val * xc zv r k.val := Finset.sum_nonneg fun k _ => mul_self_nonneg _
  have := epsR_pos
  unfold vareps; positivity

end rows

/-! ## Blocks: the same at rows 256·n and on -/

section shift
variable (Zu Zv Da : ℕ → ℕ → ℝ) (g : ℕ → ℝ) (w : ℕ → ℕ → ℕ → ℝ) (b : ℕ → ℕ → ℝ) (n : ℕ)

/-- The rows of block n. -/
def sh (Z : ℕ → ℕ → ℝ) (n r e : ℕ) : ℝ := Z (256 * n + r) e

theorem xc_sh (r e : ℕ) : xc (sh Zv n) r e = xc Zv (256 * n + r) e := rfl
theorem vareps_sh (r : ℕ) : vareps (sh Zv n) r = vareps Zv (256 * n + r) := rfl
theorem rs_sh (r : ℕ) : rs (sh Zv n) r = rs Zv (256 * n + r) := rfl
theorem vh_sh (r e : ℕ) : vh (sh Zv n) r e = vh Zv (256 * n + r) e := rfl
theorem vn_sh (r e : ℕ) : vn (sh Zv n) g r e = vn Zv g (256 * n + r) e := rfl
theorem dsv_sh (r e : ℕ) : dsv (sh Zu n) (sh Da n) r e = dsv Zu Da (256 * n + r) e := rfl

theorem row_split (n r k : ℕ) : 256 * n + (128 * (r / 128) + k) = 128 * ((256 * n + r) / 128) + k := by omega
theorem row_mod (n r : ℕ) : r % 128 = (256 * n + r) % 128 := by omega

theorem sv_sh (r e : ℕ) : sv (sh Zv n) g w b r e = sv Zv g w b (256 * n + r) e := by
  unfold sv
  simp only [vn_sh, row_split, row_mod n r]
theorem dvn_sh (r e : ℕ) : dvn (sh Zu n) (sh Da n) w r e = dvn Zu Da w (256 * n + r) e := by
  unfold dvn
  simp only [dsv_sh, row_split, row_mod n r]
theorem dzu_sh (r e : ℕ) : dzu (sh Zu n) (sh Zv n) (sh Da n) g w b r e = dzu Zu Zv Da g w b (256 * n + r) e := by
  unfold dzu; rw [sv_sh]; rfl
theorem dvh_sh (r e : ℕ) : dvh (sh Zu n) (sh Da n) g w r e = dvh Zu Da g w (256 * n + r) e := by
  unfold dvh; rw [dvn_sh]
theorem dzv_sh (r e : ℕ) : dzv (sh Zu n) (sh Zv n) (sh Da n) g w r e = dzv Zu Zv Da g w (256 * n + r) e := by
  unfold dzv dv; simp only [dvh_sh, vh_sh, rs_sh]; rfl

theorem dwOne_sh (q t s c : ℕ) : dwOne (sh Zu n) (sh Zv n) (sh Da n) g q t s c = dwOne Zu Zv Da g q t s (2 * n + c) := by
  unfold dwOne
  have h : ∀ k, 256 * n + (128 * c + k) = 128 * (2 * n + c) + k := fun k => by omega
  simp only [dsv_sh, vn_sh, h]

theorem dwSum_succ (q t s : ℕ) : dwSum Zu Zv Da g (2 * (n + 1)) q t s
    = dwSum Zu Zv Da g (2 * n) q t s + dwSum (sh Zu n) (sh Zv n) (sh Da n) g 2 q t s := by
  unfold dwSum
  rw [show 2 * (n + 1) = 2 * n + 1 + 1 by ring, Finset.sum_range_succ, Finset.sum_range_succ, Finset.sum_range_succ, Finset.sum_range_succ,
    Finset.sum_range_zero, dwOne_sh, dwOne_sh, add_zero, zero_add, add_assoc]

theorem dsvSum_succ (t e : ℕ) : dsvSum Zu Da (2 * (n + 1)) t e = dsvSum Zu Da (2 * n) t e + dsvSum (sh Zu n) (sh Da n) 2 t e := by
  unfold dsvSum
  have h : ∀ c k, 256 * n + (128 * c + k) = 128 * (2 * n + c) + k := fun c k => by omega
  rw [show 2 * (n + 1) = 2 * n + 1 + 1 by ring, Finset.sum_range_succ, Finset.sum_range_succ, Finset.sum_range_succ, Finset.sum_range_succ,
    Finset.sum_range_zero, dsv_sh, dsv_sh, h, h, add_zero, zero_add, add_assoc]

theorem dngSum_succ (e : ℕ) : dngSum Zu Zv Da w (256 * (n + 1)) e
    = dngSum Zu Zv Da w (256 * n) e + dngSum (sh Zu n) (sh Zv n) (sh Da n) w 256 e := by
  unfold dngSum
  rw [show 256 * (n + 1) = 256 * n + 256 by ring, Finset.sum_range_add]
  simp only [dvn_sh, vh_sh]

end shift

end Cert.Sgu

end
-- ==== Proof.Blocks.lean ====
/- The blocks the gating kernel reads at each grid point, as real numbers: rows 256·n and on of the value-gate halves and of the
   incoming gradient, and the weights whole. -/
module

public import proofs.«01_k».proof.Proof.Sgu
public import proofs.«01_k».proof.Proof.Reals
public import proofs.«01_k».proof.Proof.Gen.KernelIdeal.Value
public import Idealize.ShloMosaic.Lib.StableHlo.Run
public import Idealize.ShloMosaic.Lib.Tactic

@[expose] public section

noncomputable section

namespace Cert.Blocks

open Idealize.ShloMosaic Idealize.ShloMosaic.TcCoe Idealize.SL.Sem Idealize.ShloMosaic.ValueIdx
open Cert.Reals Cert.Sgu Cert.KernelIdeal Cert.KernelIdeal.Gen

variable (m : (ℓ : Loc nD τ sig) → Buf (Elt Ideal) ℓ) (c : Dev nD)

/-- The bias as the kernel gets it: with a third axis of length one. -/
theorem V_main_v0 : V m c main_v0 = broadcastInDim S4x128x1 ![0, 1] bcast_S4x128_S4x128x1_0_1 (m ((c : Thread nD τ).loc main_arg5)) := by
  show StableHlo.after hostOps0 _ (Proc.devRef .tc main_v0) = _
  after_results
  try rfl

/-- The first result starts as a copy of the third argument. -/
theorem V_main_v1_0 : V m c main_v1_0 = m ((c : Thread nD τ).loc main_arg2) := by
  show StableHlo.after hostOps0 _ (Proc.devRef .tc main_v1_0) = _
  after_results
  try rfl

theorem index0 : ∀ t : Fin grid0.N, win0_0.index t 0 = t.val ∧ win0_0.index t 1 = 0 := by decide +kernel
theorem index1 : ∀ t : Fin grid0.N, win0_1.index t 0 = t.val ∧ win0_1.index t 1 = 1 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = 0 ∧ win0_5.index t 1 = 0 ∧ win0_5.index t 2 = 0 := by decide +kernel

variable {Z Da B : ℕ → ℕ → ℝ} {G : ℕ → ℝ} {W : ℕ → ℕ → ℕ → ℝ} (t : Fin cfg0.N)

theorem row_lt (i : Fin 256) : 256 * t.val + i.val < 4096 := by
  have := i.isLt; have := lt_of_lt_of_eq t.isLt (show cfg0.N = 16 from N_0); omega

theorem block0 (h : Re2 (φ := .bf16) (a := 4096) (b := 5120) (m ((c : Thread nD τ).loc main_arg0)) Z) :
    Re2 (φ := .bf16) (a := 256) (b := 1024) (iblk m c 0 t) (sh Z t.val) := fun i j => by
  unfold iblk
  rw [View.read_apply]
  show V m c main_arg0 _ = _
  rw [V_main_arg0]
  refine Eq.trans (congrArg _ ?_) (h ⟨256 * t.val + i.val, row_lt t i⟩ ⟨j.val, by omega⟩)
  funext a
  apply Fin.ext
  match a with
  | ⟨0, _⟩ => show win0_0.index t 0 * 256 + 1 * i.val = 256 * t.val + i.val; rw [(index0 t).1]; omega
  | ⟨1, _⟩ => show win0_0.index t 1 * 1024 + 1 * j.val = j.val; rw [(index0 t).2]; omega

theorem block1 (h : Re2 (φ := .bf16) (a := 4096) (b := 5120) (m ((c : Thread nD τ).loc main_arg0)) Z) :
    Re2 (φ := .bf16) (a := 256) (b := 1024) (iblk m c 1 t) (sh (fun r e => Z r (1024 + e)) t.val) := fun i j => by
  unfold iblk
  rw [View.read_apply]
  show V m c main_arg0 _ = _
  rw [V_main_arg0]
  refine Eq.trans (congrArg _ ?_) (h ⟨256 * t.val + i.val, row_lt t i⟩ ⟨1024 + j.val, by omega⟩)
  funext a
  apply Fin.ext
  match a with
  | ⟨0, _⟩ => show win0_1.index t 0 * 256 + 1 * i.val = 256 * t.val + i.val; rw [(index1 t).1]; omega
  | ⟨1, _⟩ => show win0_1.index t 1 * 1024 + 1 * j.val = 1024 + j.val; rw [(index1 t).2]; omega

theorem block2 (h : Re2 (φ := .bf16) (a := 4096) (b := 1024) (m ((c : Thread nD τ).loc main_arg1)) Da) :
    Re2 (φ := .bf16) (a := 256) (b := 1024) (iblk m c 2 t) (sh Da t.val) := fun i j => by
  unfold iblk
  rw [View.read_apply]
  show V m c main_arg1 _ = _
  rw [V_main_arg1]
  refine Eq.trans (congrArg _ ?_) (h ⟨256 * t.val + i.val, row_lt t i⟩ j)
  funext a
  apply Fin.ext
  match a with
  | ⟨0, _⟩ => show win0_2.index t 0 * 256 + 1 * i.val = 256 * t.val + i.val; rw [(index2 t).1]; omega
  | ⟨1, _⟩ => show win0_2.index t 1 * 1024 + 1 * j.val = j.val; rw [(index2 t).2]; omega

theorem block3 (h : Re2 (φ := .f32) (a := 1) (b := 1024) (m ((c : Thread nD τ).loc main_arg3)) (fun _ j => G j)) :
    Re2 (φ := .f32) (a := 1) (b := 1024) (iblk m c 3 t) (fun _ j => G j) := fun i j => by
  unfold iblk
  rw [View.read_apply]
  show V m c main_arg3 _ = _
  rw [V_main_arg3]
  refine Eq.trans (congrArg _ ?_) (h i j)
  funext a
  apply Fin.ext
  match a with
  | ⟨0, _⟩ => show win0_3.index t 0 * 1 + 1 * i.val = i.val; rw [(index3 t).1]; omega
  | ⟨1, _⟩ => show win0_3.index t 1 * 1024 + 1 * j.val = j.val; rw [(index3 t).2]; omega

theorem block4 (h : Re3 (φ := .f32) (a := 4) (b := 128) (c := 128) (m ((c : Thread nD τ).loc main_arg4)) W) :
    Re3 (φ := .f32) (a := 4) (b := 128) (c := 128) (iblk m c 4 t) W := fun i j k => by
  unfold iblk
  rw [View.read_apply]
  show V m c main_arg4 _ = _
  rw [V_main_arg4]
  refine Eq.trans (congrArg _ ?_) (h i j k)
  funext a
  apply Fin.ext
  match a with
  | ⟨0, _⟩ => show win0_4.index t 0 * 4 + 1 * i.val = i.val; rw [(index4 t).1]; omega
  | ⟨1, _⟩ => show win0_4.index t 1 * 128 + 1 * j.val = j.val; rw [(index4 t).2.1]; omega
  | ⟨2, _⟩ => show win0_4.index t 2 * 128 + 1 * k.val = k.val; rw [(index4 t).2.2]; omega

theorem block5 (h : Re2 (φ := .f32) (a := 4) (b := 128) (m ((c : Thread nD τ).loc main_arg5)) B) :
    Re3 (φ := .f32) (a := 4) (b := 128) (c := 1) (iblk m c 5 t) (fun q s _ => B q s) := fun i j k => by
  unfold iblk
  rw [View.read_apply]
  show V m c main_v0 _ = _
  rw [V_main_v0]
  refine Eq.trans (congrArg (m ((c : Thread nD τ).loc main_arg5)) ?_) (h i j)
  funext a
  apply Fin.ext
  match a with
  | ⟨0, _⟩ => show win0_5.index t 0 * 4 + 1 * i.val = i.val; rw [(index5 t).1]; omega
  | ⟨1, _⟩ => show win0_5.index t 1 * 128 + 1 * j.val = j.val; rw [(index5 t).2.1]; omega

end Cert.Blocks

end
-- ==== Proof.Regions.lean ====
/- What a list of stores leaves on a region of an array: the last store that holds an index decides it. `Cn2 L P f` says that
   on the indices with `P` the stores `L` (last first) leave the real numbers `f`. -/
module

public import proofs.«01_k».proof.Proof.Reals

@[expose] public section

noncomputable section

namespace Cert.Reals

open Idealize.ShloMosaic Idealize.ShloMosaic.ValueIdx
open scoped BigOperators

variable {a b c : ℕ}

def Cn2 (L : List (View.Piece (Elt Ideal) ⟨2, ![a, b]⟩ .f32)) (P : ℕ → ℕ → Prop) (f : ℕ → ℕ → ℝ) : Prop :=
  ∀ (i : Fin a) (j : Fin b), P i.val j.val → (View.canon L : FVec Ideal ⟨2, ![a, b]⟩ .f32) (ix2 i j) = ((f i.val j.val : ℝ) : EReal)

def Cn3 (L : List (View.Piece (Elt Ideal) ⟨3, ![a, b, c]⟩ .f32)) (P : ℕ → ℕ → ℕ → Prop) (f : ℕ → ℕ → ℕ → ℝ) : Prop :=
  ∀ (i : Fin a) (j : Fin b) (k : Fin c), P i.val j.val k.val →
    (View.canon L : FVec Ideal ⟨3, ![a, b, c]⟩ .f32) (ix3 i j k) = ((f i.val j.val k.val : ℝ) : EReal)

theorem Cn2.nil {P : ℕ → ℕ → Prop} {f : ℕ → ℕ → ℝ} (h : ∀ i j, i < a → j < b → ¬P i j) :
    Cn2 ([] : List (View.Piece (Elt Ideal) ⟨2, ![a, b]⟩ .f32)) P f := fun i j hp => absurd hp (h _ _ i.isLt j.isLt)

theorem Cn3.nil {P : ℕ → ℕ → ℕ → Prop} {f : ℕ → ℕ → ℕ → ℝ} (h : ∀ i j k, i < a → j < b → k < c → ¬P i j k) :
    Cn3 ([] : List (View.Piece (Elt Ideal) ⟨3, ![a, b, c]⟩ .f32)) P f := fun i j k hp => absurd hp (h _ _ _ i.isLt j.isLt k.isLt)

theorem Cn2.cons {P : ℕ → ℕ → Prop} {f g : ℕ → ℕ → ℝ} {a' b' o p : ℕ} {w : FVec Ideal ⟨2, ![a', b']⟩ .f32}
    {inb : ∀ d, (![o, p] : Fin 2 → ℕ) d + (![a', b'] : Fin 2 → ℕ) d ≤ (⟨2, ![a, b]⟩ : Shape).size d}
    {L : List (View.Piece (Elt Ideal) ⟨2, ![a, b]⟩ .f32)} (hw : Re2 w g)
    (e : ∀ i j, i < a' → j < b' → P (o + i) (p + j) → g i j = f (o + i) (p + j))
    (hL : Cn2 L (fun i j => P i j ∧ ¬(o ≤ i ∧ i < o + a' ∧ p ≤ j ∧ j < p + b')) f) :
    Cn2 ((⟨Rect.unit (s := ⟨2, ![a, b]⟩) ![o, p] ![a', b'] inb, w⟩ : View.Piece (Elt Ideal) ⟨2, ![a, b]⟩ .f32) :: L) P f := fun i j hp => by
  have v0 : ∀ x : (Rect.unit (s := ⟨2, ![a, b]⟩) ![o, p] ![a', b'] inb).shape.Idx,
      ((Rect.unit (s := ⟨2, ![a, b]⟩) ![o, p] ![a', b'] inb).emb x (0 : Fin 2)).val = o + (x (0 : Fin 2)).val :=
    fun x => Rect.idx_unit_val (s := ⟨2, ![a, b]⟩) _ _ inb x (0 : Fin 2)
  have v1 : ∀ x : (Rect.unit (s := ⟨2, ![a, b]⟩) ![o, p] ![a', b'] inb).shape.Idx,
      ((Rect.unit (s := ⟨2, ![a, b]⟩) ![o, p] ![a', b'] inb).emb x (1 : Fin 2)).val = p + (x (1 : Fin 2)).val :=
    fun x => Rect.idx_unit_val (s := ⟨2, ![a, b]⟩) _ _ inb x (1 : Fin 2)
  by_cases h : o ≤ i.val ∧ i.val < o + a' ∧ p ≤ j.val ∧ j.val < p + b'
  · obtain ⟨h0, h1, h2, h3⟩ := h
    have q0 : i.val - o < a' := by omega
    have q1 : j.val - p < b' := by omega
    have hi : o + (i.val - o) = i.val := by omega
    have hj : p + (j.val - p) = j.val := by omega
    have hx : (ix2 i j : (⟨2, ![a, b]⟩ : Shape).Idx)
        = (Rect.unit (s := ⟨2, ![a, b]⟩) ![o, p] ![a', b'] inb).emb (ix2 (⟨i.val - o, q0⟩ : Fin a') (⟨j.val - p, q1⟩ : Fin b')) := by
      funext d
      match d with
      | ⟨0, _⟩ => exact Fin.ext (hi.symm.trans (v0 (ix2 (⟨i.val - o, q0⟩ : Fin a') (⟨j.val - p, q1⟩ : Fin b'))).symm)
      | ⟨1, _⟩ => exact Fin.ext (hj.symm.trans (v1 (ix2 (⟨i.val - o, q0⟩ : Fin a') (⟨j.val - p, q1⟩ : Fin b'))).symm)
    rw [hx]
    refine Eq.trans (b := w (ix2 (⟨i.val - o, q0⟩ : Fin a') (⟨j.val - p, q1⟩ : Fin b'))) (View.canon_cons_emb (Rect.unit (s := ⟨2, ![a, b]⟩) ![o, p] ![a', b'] inb) w L _) ((hw _ _).trans ?_)
    have := e (i.val - o) (j.val - p) q0 q1 (by rw [hi, hj]; exact hp)
    rw [hi, hj] at this
    exact congrArg _ this
  · rw [View.canon_cons_of_not_mem _ L (fun hm => h ?_)]
    · exact hL i j ⟨hp, h⟩
    · have hm' := (Rect.mem_set_unit (inb := inb)).mp hm
      have e0 : o ≤ i.val ∧ i.val < o + a' := hm' (0 : Fin 2)
      have e1 : p ≤ j.val ∧ j.val < p + b' := hm' (1 : Fin 2)
      omega

theorem Cn3.cons {P : ℕ → ℕ → ℕ → Prop} {f g : ℕ → ℕ → ℕ → ℝ} {a' b' c' o p r : ℕ} {w : FVec Ideal ⟨3, ![a', b', c']⟩ .f32}
    {inb : ∀ d, (![o, p, r] : Fin 3 → ℕ) d + (![a', b', c'] : Fin 3 → ℕ) d ≤ (⟨3, ![a, b, c]⟩ : Shape).size d}
    {L : List (View.Piece (Elt Ideal) ⟨3, ![a, b, c]⟩ .f32)} (hw : Re3 w g)
    (e : ∀ i j k, i < a' → j < b' → k < c' → P (o + i) (p + j) (r + k) → g i j k = f (o + i) (p + j) (r + k))
    (hL : Cn3 L (fun i j k => P i j k ∧ ¬(o ≤ i ∧ i < o + a' ∧ p ≤ j ∧ j < p + b' ∧ r ≤ k ∧ k < r + c')) f) :
    Cn3 ((⟨Rect.unit (s := ⟨3, ![a, b, c]⟩) ![o, p, r] ![a', b', c'] inb, w⟩ : View.Piece (Elt Ideal) ⟨3, ![a, b, c]⟩ .f32) :: L) P f := fun i j k hp => by
  have v0 : ∀ x : (Rect.unit (s := ⟨3, ![a, b, c]⟩) ![o, p, r] ![a', b', c'] inb).shape.Idx,
      ((Rect.unit (s := ⟨3, ![a, b, c]⟩) ![o, p, r] ![a', b', c'] inb).emb x (0 : Fin 3)).val = o + (x (0 : Fin 3)).val :=
    fun x => Rect.idx_unit_val (s := ⟨3, ![a, b, c]⟩) _ _ inb x (0 : Fin 3)
  have v1 : ∀ x : (Rect.unit (s := ⟨3, ![a, b, c]⟩) ![o, p, r] ![a', b', c'] inb).shape.Idx,
      ((Rect.unit (s := ⟨3, ![a, b, c]⟩) ![o, p, r] ![a', b', c'] inb).emb x (1 : Fin 3)).val = p + (x (1 : Fin 3)).val :=
    fun x => Rect.idx_unit_val (s := ⟨3, ![a, b, c]⟩) _ _ inb x (1 : Fin 3)
  have v2 : ∀ x : (Rect.unit (s := ⟨3, ![a, b, c]⟩) ![o, p, r] ![a', b', c'] inb).shape.Idx,
      ((Rect.unit (s := ⟨3, ![a, b, c]⟩) ![o, p, r] ![a', b', c'] inb).emb x (2 : Fin 3)).val = r + (x (2 : Fin 3)).val :=
    fun x => Rect.idx_unit_val (s := ⟨3, ![a, b, c]⟩) _ _ inb x (2 : Fin 3)
  by_cases h : o ≤ i.val ∧ i.val < o + a' ∧ p ≤ j.val ∧ j.val < p + b' ∧ r ≤ k.val ∧ k.val < r + c'
  · obtain ⟨h0, h1, h2, h3, h4, h5⟩ := h
    have q0 : i.val - o < a' := by omega
    have q1 : j.val - p < b' := by omega
    have q2 : k.val - r < c' := by omega
    have hi : o + (i.val - o) = i.val := by omega
    have hj : p + (j.val - p) = j.val := by omega
    have hk : r + (k.val - r) = k.val := by omega
    have hx : (ix3 i j k : (⟨3, ![a, b, c]⟩ : Shape).Idx) = (Rect.unit (s := ⟨3, ![a, b, c]⟩) ![o, p, r] ![a', b', c'] inb).emb
        (ix3 (⟨i.val - o, q0⟩ : Fin a') (⟨j.val - p, q1⟩ : Fin b') (⟨k.val - r, q2⟩ : Fin c')) := by
      funext d
      match d with
      | ⟨0, _⟩ => exact Fin.ext (hi.symm.trans (v0 (ix3 (⟨i.val - o, q0⟩ : Fin a') (⟨j.val - p, q1⟩ : Fin b') (⟨k.val - r, q2⟩ : Fin c'))).symm)
      | ⟨1, _⟩ => exact Fin.ext (hj.symm.trans (v1 (ix3 (⟨i.val - o, q0⟩ : Fin a') (⟨j.val - p, q1⟩ : Fin b') (⟨k.val - r, q2⟩ : Fin c'))).symm)
      | ⟨2, _⟩ => exact Fin.ext (hk.symm.trans (v2 (ix3 (⟨i.val - o, q0⟩ : Fin a') (⟨j.val - p, q1⟩ : Fin b') (⟨k.val - r, q2⟩ : Fin c'))).symm)
    rw [hx]
    refine Eq.trans (b := w (ix3 (⟨i.val - o, q0⟩ : Fin a') (⟨j.val - p, q1⟩ : Fin b') (⟨k.val - r, q2⟩ : Fin c'))) (View.canon_cons_emb (Rect.unit (s := ⟨3, ![a, b, c]⟩) ![o, p, r] ![a', b', c'] inb) w L _) ((hw _ _ _).trans ?_)
    have := e (i.val - o) (j.val - p) (k.val - r) q0 q1 q2 (by rw [hi, hj, hk]; exact hp)
    rw [hi, hj, hk] at this
    exact congrArg _ this
  · rw [View.canon_cons_of_not_mem _ L (fun hm => h ?_)]
    · exact hL i j k ⟨hp, h⟩
    · have hm' := (Rect.mem_set_unit (inb := inb)).mp hm
      have e0 : o ≤ i.val ∧ i.val < o + a' := hm' (0 : Fin 3)
      have e1 : p ≤ j.val ∧ j.val < p + b' := hm' (1 : Fin 3)
      have e2 : r ≤ k.val ∧ k.val < r + c' := hm' (2 : Fin 3)
      omega

/-- A store off the region leaves it. -/
theorem Cn3.skip {P : ℕ → ℕ → ℕ → Prop} {f : ℕ → ℕ → ℕ → ℝ} {a' b' c' o p r : ℕ} {w : FVec Ideal ⟨3, ![a', b', c']⟩ .f32}
    {inb : ∀ d, (![o, p, r] : Fin 3 → ℕ) d + (![a', b', c'] : Fin 3 → ℕ) d ≤ (⟨3, ![a, b, c]⟩ : Shape).size d}
    {L : List (View.Piece (Elt Ideal) ⟨3, ![a, b, c]⟩ .f32)}
    (e : ∀ i j k, P i j k → ¬(o ≤ i ∧ i < o + a' ∧ p ≤ j ∧ j < p + b' ∧ r ≤ k ∧ k < r + c')) (hL : Cn3 L P f) :
    Cn3 ((⟨Rect.unit (s := ⟨3, ![a, b, c]⟩) ![o, p, r] ![a', b', c'] inb, w⟩ : View.Piece (Elt Ideal) ⟨3, ![a, b, c]⟩ .f32) :: L) P f := fun i j k hp => by
  rw [View.canon_cons_of_not_mem _ L (fun hm => e _ _ _ hp ?_)]
  · exact hL i j k hp
  · have hm' := (Rect.mem_set_unit (inb := inb)).mp hm
    have e0 : o ≤ i.val ∧ i.val < o + a' := hm' (0 : Fin 3)
    have e1 : p ≤ j.val ∧ j.val < p + b' := hm' (1 : Fin 3)
    have e2 : r ≤ k.val ∧ k.val < r + c' := hm' (2 : Fin 3)
    omega

theorem Cn2.skip {P : ℕ → ℕ → Prop} {f : ℕ → ℕ → ℝ} {a' b' o p : ℕ} {w : FVec Ideal ⟨2, ![a', b']⟩ .f32}
    {inb : ∀ d, (![o, p] : Fin 2 → ℕ) d + (![a', b'] : Fin 2 → ℕ) d ≤ (⟨2, ![a, b]⟩ : Shape).size d}
    {L : List (View.Piece (Elt Ideal) ⟨2, ![a, b]⟩ .f32)}
    (e : ∀ i j, P i j → ¬(o ≤ i ∧ i < o + a' ∧ p ≤ j ∧ j < p + b')) (hL : Cn2 L P f) :
    Cn2 ((⟨Rect.unit (s := ⟨2, ![a, b]⟩) ![o, p] ![a', b'] inb, w⟩ : View.Piece (Elt Ideal) ⟨2, ![a, b]⟩ .f32) :: L) P f := fun i j hp => by
  rw [View.canon_cons_of_not_mem _ L (fun hm => e _ _ hp ?_)]
  · exact hL i j hp
  · have hm' := (Rect.mem_set_unit (inb := inb)).mp hm
    have e0 : o ≤ i.val ∧ i.val < o + a' := hm' (0 : Fin 2)
    have e1 : p ≤ j.val ∧ j.val < p + b' := hm' (1 : Fin 2)
    omega

theorem Cn2.none {L : List (View.Piece (Elt Ideal) ⟨2, ![a, b]⟩ .f32)} {P : ℕ → ℕ → Prop} {f : ℕ → ℕ → ℝ} (h : ∀ i j, i < a → j < b → ¬P i j) :
    Cn2 L P f := fun i j hp => absurd hp (h _ _ i.isLt j.isLt)

theorem Cn3.none {L : List (View.Piece (Elt Ideal) ⟨3, ![a, b, c]⟩ .f32)} {P : ℕ → ℕ → ℕ → Prop} {f : ℕ → ℕ → ℕ → ℝ}
    (h : ∀ i j k, i < a → j < b → k < c → ¬P i j k) : Cn3 L P f := fun i j k hp => absurd hp (h _ _ _ i.isLt j.isLt k.isLt)

/-- The whole array loaded. -/
theorem Re2.ldWhole {x : FVec Ideal ⟨2, ![a, b]⟩ .f32} {f : ℕ → ℕ → ℝ} (hx : Re2 x f)
    (inb : ∀ d, (![0, 0] : Fin 2 → ℕ) d + (![a, b] : Fin 2 → ℕ) d ≤ (⟨2, ![a, b]⟩ : Shape).size d) :
    Re2 (φ := .f32) (View.ld (Val := Elt Ideal) (e' := .f32) x (Rect.unit (s := ⟨2, ![a, b]⟩) ![0, 0] ![a, b] inb) : FVec Ideal ⟨2, ![a, b]⟩ .f32) f :=
  (hx.ld inb).congr fun i j _ _ => by rw [zero_add, zero_add]

theorem Re2.ldbWhole {x : FVec Ideal ⟨2, ![a, b]⟩ .bf16} {f : ℕ → ℕ → ℝ} (hx : Re2 x f)
    (inb : ∀ d, (![0, 0] : Fin 2 → ℕ) d + (![a, b] : Fin 2 → ℕ) d ≤ (⟨2, ![a, b]⟩ : Shape).size d) :
    Re2 (φ := .bf16) (View.ld (Val := Elt Ideal) (e' := .bf16) x (Rect.unit (s := ⟨2, ![a, b]⟩) ![0, 0] ![a, b] inb) : FVec Ideal ⟨2, ![a, b]⟩ .bf16) f :=
  (hx.ldb inb).congr fun i j _ _ => by rw [zero_add, zero_add]

/-- One slab loaded. -/
theorem Re3.ldSlab {a' q : ℕ} {x : FVec Ideal ⟨3, ![a', b, c]⟩ .f32} {f : ℕ → ℕ → ℕ → ℝ} (hx : Re3 x f)
    (inb : ∀ d, (![q, 0, 0] : Fin 3 → ℕ) d + (![1, b, c] : Fin 3 → ℕ) d ≤ (⟨3, ![a', b, c]⟩ : Shape).size d) :
    Re3 (φ := .f32) (View.ld (Val := Elt Ideal) (e' := .f32) x (Rect.unit (s := ⟨3, ![a', b, c]⟩) ![q, 0, 0] ![1, b, c] inb) : FVec Ideal ⟨3, ![1, b, c]⟩ .f32)
      (fun _ t s => f q t s) :=
  (hx.ld inb).congr fun i j k hi _ _ => by rw [zero_add, zero_add, show q + i = q by omega]

theorem Cn2.re {L : List (View.Piece (Elt Ideal) ⟨2, ![a, b]⟩ .f32)} {f : ℕ → ℕ → ℝ} (h : Cn2 L (fun _ _ => True) f) :
    Re2 (φ := .f32) (View.canon L : FVec Ideal ⟨2, ![a, b]⟩ .f32) f := fun i j => h i j trivial

theorem Cn3.re {L : List (View.Piece (Elt Ideal) ⟨3, ![a, b, c]⟩ .f32)} {f : ℕ → ℕ → ℕ → ℝ} (h : Cn3 L (fun _ _ _ => True) f) :
    Re3 (φ := .f32) (View.canon L : FVec Ideal ⟨3, ![a, b, c]⟩ .f32) f := fun i j k => h i j k trivial

/-- What a load reads back of earlier stores. -/
theorem Cn2.load {sig : RefSig} {κ : Kind} {sp : Space} {a' b' o p : ℕ} (v : View sig κ sp ⟨2, ![a', b']⟩ .f32) {f : ℕ → ℕ → ℝ}
    {L : List (View.Piece (Elt Ideal) ⟨2, ![a', b']⟩ .f32)}
    (hL : Cn2 L (fun i j => o ≤ i ∧ i < o + a ∧ p ≤ j ∧ j < p + b) f)
    (inb : ∀ d, (![o, p] : Fin 2 → ℕ) d + (![a, b] : Fin 2 → ℕ) d ≤ (⟨2, ![a', b']⟩ : Shape).size d) :
    Re2 (φ := .f32) (v.readCov L (Rect.unit (s := ⟨2, ![a', b']⟩) ![o, p] ![a, b] inb).toLoadRect : FVec Ideal ⟨2, ![a, b]⟩ .f32)
      (fun i j => f (o + i) (p + j)) := fun i j => by
  have h0 : o + i.val < a' := lt_of_lt_of_le (Nat.add_lt_add_left i.isLt o) (inb (0 : Fin 2))
  have h1 : p + j.val < b' := lt_of_lt_of_le (Nat.add_lt_add_left j.isLt p) (inb (1 : Fin 2))
  rw [View.readCov_eq_canon']
  refine Eq.trans (congrArg (View.canon L) (funext fun d => ?_)) (hL ⟨o + i.val, h0⟩ ⟨p + j.val, h1⟩
    ⟨Nat.le_add_right _ _, Nat.add_lt_add_left i.isLt o, Nat.le_add_right _ _, Nat.add_lt_add_left j.isLt p⟩)
  match d with
  | ⟨0, _⟩ => exact Fin.ext (Rect.idx_unit_val (s := ⟨2, ![a', b']⟩) ![o, p] ![a, b] inb (ix2 i j) (0 : Fin 2))
  | ⟨1, _⟩ => exact Fin.ext (Rect.idx_unit_val (s := ⟨2, ![a', b']⟩) ![o, p] ![a, b] inb (ix2 i j) (1 : Fin 2))

theorem Cn3.load {sig : RefSig} {κ : Kind} {sp : Space} {a' b' c' o p q : ℕ} (v : View sig κ sp ⟨3, ![a', b', c']⟩ .f32)
    {f : ℕ → ℕ → ℕ → ℝ} {L : List (View.Piece (Elt Ideal) ⟨3, ![a', b', c']⟩ .f32)}
    (hL : Cn3 L (fun i j k => o ≤ i ∧ i < o + a ∧ p ≤ j ∧ j < p + b ∧ q ≤ k ∧ k < q + c) f)
    (inb : ∀ d, (![o, p, q] : Fin 3 → ℕ) d + (![a, b, c] : Fin 3 → ℕ) d ≤ (⟨3, ![a', b', c']⟩ : Shape).size d) :
    Re3 (φ := .f32) (v.readCov L (Rect.unit (s := ⟨3, ![a', b', c']⟩) ![o, p, q] ![a, b, c] inb).toLoadRect : FVec Ideal ⟨3, ![a, b, c]⟩ .f32)
      (fun i j k => f (o + i) (p + j) (q + k)) := fun i j k => by
  have h0 : o + i.val < a' := lt_of_lt_of_le (Nat.add_lt_add_left i.isLt o) (inb (0 : Fin 3))
  have h1 : p + j.val < b' := lt_of_lt_of_le (Nat.add_lt_add_left j.isLt p) (inb (1 : Fin 3))
  have h2 : q + k.val < c' := lt_of_lt_of_le (Nat.add_lt_add_left k.isLt q) (inb (2 : Fin 3))
  rw [View.readCov_eq_canon']
  refine Eq.trans (congrArg (View.canon L) (funext fun d => ?_)) (hL ⟨o + i.val, h0⟩ ⟨p + j.val, h1⟩ ⟨q + k.val, h2⟩
    ⟨Nat.le_add_right _ _, Nat.add_lt_add_left i.isLt o, Nat.le_add_right _ _, Nat.add_lt_add_left j.isLt p, Nat.le_add_right _ _, Nat.add_lt_add_left k.isLt q⟩)
  match d with
  | ⟨0, _⟩ => exact Fin.ext (Rect.idx_unit_val (s := ⟨3, ![a', b', c']⟩) ![o, p, q] ![a, b, c] inb (ix3 i j k) (0 : Fin 3))
  | ⟨1, _⟩ => exact Fin.ext (Rect.idx_unit_val (s := ⟨3, ![a', b', c']⟩) ![o, p, q] ![a, b, c] inb (ix3 i j k) (1 : Fin 3))
  | ⟨2, _⟩ => exact Fin.ext (Rect.idx_unit_val (s := ⟨3, ![a', b', c']⟩) ![o, p, q] ![a, b, c] inb (ix3 i j k) (2 : Fin 3))

/-! ## The same for the half-width arrays -/

def Cn3b (L : List (View.Piece (Elt Ideal) ⟨3, ![a, b, c]⟩ .bf16)) (P : ℕ → ℕ → ℕ → Prop) (f : ℕ → ℕ → ℕ → ℝ) : Prop :=
  ∀ (i : Fin a) (j : Fin b) (k : Fin c), P i.val j.val k.val →
    (View.canon L : FVec Ideal ⟨3, ![a, b, c]⟩ .bf16) (ix3 i j k) = ((f i.val j.val k.val : ℝ) : EReal)

theorem Cn3b.cons {P : ℕ → ℕ → ℕ → Prop} {f g : ℕ → ℕ → ℕ → ℝ} {a' b' c' o p r : ℕ} {w : FVec Ideal ⟨3, ![a', b', c']⟩ .bf16}
    {inb : ∀ d, (![o, p, r] : Fin 3 → ℕ) d + (![a', b', c'] : Fin 3 → ℕ) d ≤ (⟨3, ![a, b, c]⟩ : Shape).size d}
    {L : List (View.Piece (Elt Ideal) ⟨3, ![a, b, c]⟩ .bf16)} (hw : Re3 w g)
    (e : ∀ i j k, i < a' → j < b' → k < c' → P (o + i) (p + j) (r + k) → g i j k = f (o + i) (p + j) (r + k))
    (hL : Cn3b L (fun i j k => P i j k ∧ ¬(o ≤ i ∧ i < o + a' ∧ p ≤ j ∧ j < p + b' ∧ r ≤ k ∧ k < r + c')) f) :
    Cn3b ((⟨Rect.unit (s := ⟨3, ![a, b, c]⟩) ![o, p, r] ![a', b', c'] inb, w⟩ : View.Piece (Elt Ideal) ⟨3, ![a, b, c]⟩ .bf16) :: L) P f := fun i j k hp => by
  have v0 : ∀ x : (Rect.unit (s := ⟨3, ![a, b, c]⟩) ![o, p, r] ![a', b', c'] inb).shape.Idx,
      ((Rect.unit (s := ⟨3, ![a, b, c]⟩) ![o, p, r] ![a', b', c'] inb).emb x (0 : Fin 3)).val = o + (x (0 : Fin 3)).val :=
    fun x => Rect.idx_unit_val (s := ⟨3, ![a, b, c]⟩) _ _ inb x (0 : Fin 3)
  have v1 : ∀ x : (Rect.unit (s := ⟨3, ![a, b, c]⟩) ![o, p, r] ![a', b', c'] inb).shape.Idx,
      ((Rect.unit (s := ⟨3, ![a, b, c]⟩) ![o, p, r] ![a', b', c'] inb).emb x (1 : Fin 3)).val = p + (x (1 : Fin 3)).val :=
    fun x => Rect.idx_unit_val (s := ⟨3, ![a, b, c]⟩) _ _ inb x (1 : Fin 3)
  have v2 : ∀ x : (Rect.unit (s := ⟨3, ![a, b, c]⟩) ![o, p, r] ![a', b', c'] inb).shape.Idx,
      ((Rect.unit (s := ⟨3, ![a, b, c]⟩) ![o, p, r] ![a', b', c'] inb).emb x (2 : Fin 3)).val = r + (x (2 : Fin 3)).val :=
    fun x => Rect.idx_unit_val (s := ⟨3, ![a, b, c]⟩) _ _ inb x (2 : Fin 3)
  by_cases h : o ≤ i.val ∧ i.val < o + a' ∧ p ≤ j.val ∧ j.val < p + b' ∧ r ≤ k.val ∧ k.val < r + c'
  · obtain ⟨h0, h1, h2, h3, h4, h5⟩ := h
    have q0 : i.val - o < a' := by omega
    have q1 : j.val - p < b' := by omega
    have q2 : k.val - r < c' := by omega
    have hi : o + (i.val - o) = i.val := by omega
    have hj : p + (j.val - p) = j.val := by omega
    have hk : r + (k.val - r) = k.val := by omega
    have hx : (ix3 i j k : (⟨3, ![a, b, c]⟩ : Shape).Idx) = (Rect.unit (s := ⟨3, ![a, b, c]⟩) ![o, p, r] ![a', b', c'] inb).emb
        (ix3 (⟨i.val - o, q0⟩ : Fin a') (⟨j.val - p, q1⟩ : Fin b') (⟨k.val - r, q2⟩ : Fin c')) := by
      funext d
      match d with
      | ⟨0, _⟩ => exact Fin.ext (hi.symm.trans (v0 (ix3 (⟨i.val - o, q0⟩ : Fin a') (⟨j.val - p, q1⟩ : Fin b') (⟨k.val - r, q2⟩ : Fin c'))).symm)
      | ⟨1, _⟩ => exact Fin.ext (hj.symm.trans (v1 (ix3 (⟨i.val - o, q0⟩ : Fin a') (⟨j.val - p, q1⟩ : Fin b') (⟨k.val - r, q2⟩ : Fin c'))).symm)
      | ⟨2, _⟩ => exact Fin.ext (hk.symm.trans (v2 (ix3 (⟨i.val - o, q0⟩ : Fin a') (⟨j.val - p, q1⟩ : Fin b') (⟨k.val - r, q2⟩ : Fin c'))).symm)
    rw [hx]
    refine Eq.trans (b := w (ix3 (⟨i.val - o, q0⟩ : Fin a') (⟨j.val - p, q1⟩ : Fin b') (⟨k.val - r, q2⟩ : Fin c'))) (View.canon_cons_emb (Rect.unit (s := ⟨3, ![a, b, c]⟩) ![o, p, r] ![a', b', c'] inb) w L _) ((hw _ _ _).trans ?_)
    have := e (i.val - o) (j.val - p) (k.val - r) q0 q1 q2 (by rw [hi, hj, hk]; exact hp)
    rw [hi, hj, hk] at this
    exact congrArg _ this
  · rw [View.canon_cons_of_not_mem _ L (fun hm => h ?_)]
    · exact hL i j k ⟨hp, h⟩
    · have hm' := (Rect.mem_set_unit (inb := inb)).mp hm
      have e0 : o ≤ i.val ∧ i.val < o + a' := hm' (0 : Fin 3)
      have e1 : p ≤ j.val ∧ j.val < p + b' := hm' (1 : Fin 3)
      have e2 : r ≤ k.val ∧ k.val < r + c' := hm' (2 : Fin 3)
      omega

theorem Cn3b.none {L : List (View.Piece (Elt Ideal) ⟨3, ![a, b, c]⟩ .bf16)} {P : ℕ → ℕ → ℕ → Prop} {f : ℕ → ℕ → ℕ → ℝ}
    (h : ∀ i j k, i < a → j < b → k < c → ¬P i j k) : Cn3b L P f := fun i j k hp => absurd hp (h _ _ _ i.isLt j.isLt k.isLt)

theorem Cn3b.re {L : List (View.Piece (Elt Ideal) ⟨3, ![a, b, c]⟩ .bf16)} {f : ℕ → ℕ → ℕ → ℝ} (h : Cn3b L (fun _ _ _ => True) f) :
    Re3 (φ := .bf16) (View.canon L : FVec Ideal ⟨3, ![a, b, c]⟩ .bf16) f := fun i j k => h i j k trivial

theorem Cn3b.mono {L : List (View.Piece (Elt Ideal) ⟨3, ![a, b, c]⟩ .bf16)} {P Q : ℕ → ℕ → ℕ → Prop} {f : ℕ → ℕ → ℕ → ℝ}
    (h : ∀ i j k, i < a → j < b → k < c → Q i j k → P i j k) (hL : Cn3b L P f) : Cn3b L Q f :=
  fun i j k hq => hL i j k (h _ _ _ i.isLt j.isLt k.isLt hq)

end Cert.Reals

end
-- ==== Proof.Pay.lean ====
/- The values the gating kernel's stores write, as real numbers. -/
module

public import proofs.«01_k».proof.Proof.Sgu
public import proofs.«01_k».proof.Proof.Regions
public import Idealize.ShloMosaic.Lib.WordCmp
public import proofs.«01_k».proof.Proof.Gen.KernelIdeal.Skeleton

@[expose] public section

noncomputable section

namespace Cert.Pay

open Idealize.ShloMosaic Idealize.ShloMosaic.ValueIdx Cert.Reals Cert.Sgu Cert.KernelIdeal Cert.KernelIdeal.Gen
open scoped BigOperators

theorem named_kc : (Named.named κ "gelu_kc" 0x3D122279#32 : Ideal .f32) = ((kR * cR : ℝ) : EReal) := by
  rw [IdealRules.named_const.ideal_named_scalar _ _ _ _ rfl]
  simp only [kR, cR]; norm_num

theorem named_3kc : (Named.named κ "gelu_3kc" 0x3DDB33B6#32 : Ideal .f32) = ((3 * (kR * cR) : ℝ) : EReal) := by
  rw [IdealRules.named_const.ideal_named_scalar _ _ _ _ rfl]
  simp only [kR, cR]; norm_num

/-! ## The gelu of the gate and of the gated half -/

section gelu
variable {x : FVec Ideal S256x1024 .bf16} {y : FVec Ideal S256x1024 .f32} {f : ℕ → ℕ → ℝ}

theorem pay10 (hx : Re2 x f) : Re2 (k0_pay10 x) f := hx.extf _
theorem pay11 (hx : Re2 x f) : Re2 (k0_pay11 x) f := hx.extf _
theorem pay12 (hx : Re2 x f) : Re2 (k0_pay12 x) (fun i j => f i j * f i j) := (pay10 hx).mulf (pay10 hx)
theorem pay13 (hx : Re2 x f) : Re2 (k0_pay13 x) (fun i j => th (f i j)) :=
  ((pay10 hx).mulf ((Re2.broadcast ofBits_k).addf ((Re2.broadcast named_kc).mulf (pay12 hx)))).tanh
theorem pay14 (hx : Re2 x f) : Re2 (k0_pay14 x) (fun i j => cdf (f i j)) :=
  (Re2.broadcast ofBits_half).addf ((Re2.broadcast ofBits_half).mulf (pay13 hx))
theorem pay15 (hx : Re2 x f) : Re2 (k0_pay15 x) (fun i j => dgelu (f i j)) :=
  (pay14 hx).addf (((pay10 hx).mulf ((Re2.broadcast ofBits_half).subf (((Re2.broadcast ofBits_half).mulf (pay13 hx)).mulf (pay13 hx)))).mulf
    ((Re2.broadcast ofBits_k).addf ((Re2.broadcast named_3kc).mulf (pay12 hx))))
theorem pay16 (hx : Re2 x f) : Re2 (k0_pay16 x) (xc f) :=
  have h := (pay10 hx).mulf (pay14 hx)
  h.subf (((h.rowSum _ _ _ _ _).divConst ofBits_1024 (by norm_num)).col _)
theorem pay17 (hx : Re2 x f) : Re2 (k0_pay17 x) (fun i _ => rs f i) :=
  ((((((pay16 hx).mulf (pay16 hx)).rowSum _ _ _ _ _).divConst ofBits_1024 (by norm_num)).addf (Re2.broadcast ofBits_eps)).rsqrt
    fun i _ => vareps_pos f i)
theorem pay18 (hx : Re2 x f) : Re2 (k0_pay18 (k0_pay16 x) (k0_pay17 x)) (vh f) := (pay16 hx).mulf ((pay17 hx).col _)
theorem pay19 (hx : Re2 x f) {r : FVec Ideal S1x1024 .f32} {g : ℕ → ℝ} (hr : Re2 r (fun _ j => g j)) :
    Re2 (k0_pay19 (k0_pay16 x) (k0_pay17 x) r) (vn f g) := ((pay18 hx).mulf (hr.row _)).truncf _

theorem pay20 (hy : Re2 y f) : Re2 (k0_pay20 y) (fun i j => f i j * f i j) := hy.mulf hy
theorem pay21 (hy : Re2 y f) : Re2 (k0_pay21 y) (fun i j => th (f i j)) :=
  (hy.mulf ((Re2.broadcast ofBits_k).addf ((Re2.broadcast named_kc).mulf (pay20 hy)))).tanh
theorem pay22 (hy : Re2 y f) : Re2 (k0_pay22 y) (fun i j => cdf (f i j)) :=
  (Re2.broadcast ofBits_half).addf ((Re2.broadcast ofBits_half).mulf (pay21 hy))
theorem pay23 (hy : Re2 y f) : Re2 (k0_pay23 y) (fun i j => gelu (f i j)) := hy.mulf (pay22 hy)
theorem pay24 (hy : Re2 y f) : Re2 (k0_pay24 y) (fun i j => dgelu (f i j)) :=
  (pay22 hy).addf ((hy.mulf ((Re2.broadcast ofBits_half).subf (((Re2.broadcast ofBits_half).mulf (pay21 hy)).mulf (pay21 hy)))).mulf
    ((Re2.broadcast ofBits_k).addf ((Re2.broadcast named_3kc).mulf (pay20 hy))))
theorem pay25 (hx : Re2 x f) : Re2 (k0_pay25 x) f := hx.extf _

end gelu

/-! ## The causal mask -/

theorem pay26 (i j : Fin 128) : k0_pay26 (ix2 i j) = 1#1 ↔ j.val ≤ i.val := by
  have hi := i.isLt
  have hj := j.isLt
  show IntOp.cmpi .sge (BitVec.ofNat 32 (0 * 128 + i.val)) (BitVec.ofNat 32 (0 * 128 + j.val)) = 1#1 ↔ _
  rw [zero_mul, zero_add, zero_add]
  exact WordCmp.cmpi_sge_ofNat_eq_one_iff (by omega) (by omega)

theorem masked {x : FVec Ideal S128x128 .f32} {f : ℕ → ℕ → ℝ} (hx : Re2 x f) :
    Re2 (select k0_pay26 x (broadcast S128x128 (Scalar.ofBits .f32 0x00000000#32)) : FVec Ideal S128x128 .f32)
      (fun t s => if s ≤ t then f t s else 0) :=
  Re2.select (p := fun t s => s ≤ t) pay26 hx (Re2.broadcast ofBits_zero)

/-! ## The three products -/

section products
variable {x z : FVec Ideal S128x128 .bf16} {y y' : FVec Ideal S128x256 .bf16} {f g : ℕ → ℕ → ℝ}

theorem nn (hx : Re2 x f) (hy : Re2 y g) : Re2 (matmul dot_S128x128_S128x256_S128x256_1_0_0_1_n_n none x y (constant S128x256 .f32 0x00000000#32)
    : FVec Ideal S128x256 .f32) (fun i j => ∑ k : Fin 128, f i k.val * g k.val j) := Re2.matmulNN hx hy _ _
theorem tn (hx : Re2 x f) (hy : Re2 y g) : Re2 (matmul dot_S128x128_S128x256_S128x256_0_0_1_1_n_n none x y (constant S128x256 .f32 0x00000000#32)
    : FVec Ideal S128x256 .f32) (fun i j => ∑ k : Fin 128, f k.val i * g k.val j) := Re2.matmulTN hx hy _ _
theorem nt (hx : Re2 y f) (hy : Re2 y' g) : Re2 (matmul dot_S128x256_S128x256_S128x128_1_1_0_0_n_n none y y' (constant S128x128 .f32 0x00000000#32)
    : FVec Ideal S128x128 .f32) (fun i j => ∑ k : Fin 256, f i k.val * g j k.val) := Re2.matmulNT hx hy _ _

end products

/-! ## The pieces the stores write, over one block of 256 rows -/

section pieces
variable {zu zv da : ℕ → ℕ → ℝ} {g : ℕ → ℝ} {w : ℕ → ℕ → ℕ → ℝ} {b : ℕ → ℕ → ℝ}
  {n : FVec Ideal S256x1024 .bf16} {dg ge d : FVec Ideal S256x1024 .f32} {wg : FVec Ideal S128x128 .bf16}

theorem weights {v : FVec Ideal S1x128x128 .f32} {q : ℕ} (hv : Re3 v (fun _ t s => w q t s)) :
    Re2 (truncf .bf16 (select k0_pay26 (shapeCast S128x128 v shapeCasts_S1x128x128_S128x128)
      (broadcast S128x128 (Scalar.ofBits .f32 0x00000000#32))) bitsLt_bf16_f32 : FVec Ideal S128x128 .bf16) (wm w q) :=
  (masked (hv.dropUnit _)).truncf _

/-- The gated half's gradient on one chunk and one group. -/
theorem dzPiece (hn : Re2 n (vn zv g)) (hdg : Re2 dg (fun i j => dgelu (zu i j))) (hd : Re2 d da) {q : ℕ} (hw : Re2 wg (wm w q))
    {b' : FVec Ideal S1x128x1 .f32} (hb : Re3 b' (fun _ t _ => b q t)) (o p c : ℕ) (ho : o = 128 * c) (hp : p = 256 * q)
    (hs : S256x1024.Slices ![o, p] S128x256) :
    Re3 (shapeCast S1x128x256 (truncf .bf16 (mulf (mulf (extractStridedSlice S128x256 ![o, p] d hs)
      (addf (matmul dot_S128x128_S128x256_S128x256_1_0_0_1_n_n none wg (extractStridedSlice S128x256 ![o, p] n hs) (constant S128x256 .f32 0x00000000#32))
        (broadcastTo S128x256 (shapeCast S128x1 b' shapeCasts_S1x128x1_S128x1) broadcasts_S128x1_S128x256)))
      (extractStridedSlice S128x256 ![o, p] dg hs)) bitsLt_bf16_f32) shapeCasts_S128x256_S1x128x256 : FVec Ideal S1x128x256 .bf16)
      (fun _ i j => dzu zu zv da g w b (o + i) (p + j)) := by
  refine Re3.congr (((((hd.slice o p hs).mulf ((nn hw (hn.slice o p hs)).addf ((hb.dropUnit _).col _))).mulf (hdg.slice o p hs)).truncf _).addUnit _)
    fun _ i j _ hi hj => ?_
  have e1 : (p + j) / 256 = q := by omega
  have e2 : (o + i) % 128 = i := by omega
  have e3 : 128 * ((o + i) / 128) = o := by omega
  simp only [dzu, sv, e1, e2, e3]

/-- One chunk's gradient of the scaled gate. -/
theorem dsvPiece (hge : Re2 ge (fun i j => gelu (zu i j))) (hd : Re2 d da) (o p : ℕ) (hs : S256x1024.Slices ![o, p] S128x256) :
    Re2 (mulf (extractStridedSlice S128x256 ![o, p] d hs) (extractStridedSlice S128x256 ![o, p] ge hs) : FVec Ideal S128x256 .f32)
      (fun i j => dsv zu da (o + i) (p + j)) := (hd.slice o p hs).mulf (hge.slice o p hs)

theorem dvnPiece (hge : Re2 ge (fun i j => gelu (zu i j))) (hd : Re2 d da) {q : ℕ} (hw : Re2 wg (wm w q))
    (o p c : ℕ) (ho : o = 128 * c) (hp : p = 256 * q) (hs : S256x1024.Slices ![o, p] S128x256) :
    Re2 (shapeCast S128x256 (matmul dot_S128x128_S128x256_S128x256_0_0_1_1_n_n none wg (truncf .bf16
      (mulf (extractStridedSlice S128x256 ![o, p] d hs) (extractStridedSlice S128x256 ![o, p] ge hs)) bitsLt_bf16_f32) (constant S128x256 .f32 0x00000000#32))
      shapeCasts_S128x256_S128x256 : FVec Ideal S128x256 .f32) (fun i j => dvn zu da w (o + i) (p + j)) := by
  refine Re2.congr ((tn hw ((dsvPiece hge hd o p hs).truncf _)).castSelf _) fun i j hi hj => ?_
  have e1 : (p + j) / 256 = q := by omega
  have e2 : (o + i) % 128 = i := by omega
  have e3 : 128 * ((o + i) / 128) = o := by omega
  simp only [dvn, e1, e2, e3]

/-- The two chunks' addition to one group's weight gradient. -/
theorem dwPiece (hn : Re2 n (vn zv g)) (hge : Re2 ge (fun i j => gelu (zu i j))) (hd : Re2 d da) {v : FVec Ideal S1x128x128 .f32}
    {u : ℕ → ℕ → ℕ → ℝ} (hv : Re3 v u) (p q : ℕ) (hp : p = 256 * q) (hs : S256x1024.Slices ![0, p] S128x256) (hs' : S256x1024.Slices ![128, p] S128x256) :
    Re3 (shapeCast S1x128x128 (addf (shapeCast S128x128 v shapeCasts_S1x128x128_S128x128) (addf (addf (broadcast S128x128 (Scalar.ofBits .f32 0x00000000#32))
      (matmul dot_S128x256_S128x256_S128x128_1_1_0_0_n_n none (truncf .bf16
        (mulf (extractStridedSlice S128x256 ![0, p] d hs) (extractStridedSlice S128x256 ![0, p] ge hs)) bitsLt_bf16_f32)
        (extractStridedSlice S128x256 ![0, p] n hs) (constant S128x128 .f32 0x00000000#32)))
      (matmul dot_S128x256_S128x256_S128x128_1_1_0_0_n_n none (truncf .bf16
        (mulf (extractStridedSlice S128x256 ![128, p] d hs') (extractStridedSlice S128x256 ![128, p] ge hs')) bitsLt_bf16_f32)
        (extractStridedSlice S128x256 ![128, p] n hs') (constant S128x128 .f32 0x00000000#32)))) shapeCasts_S128x128_S1x128x128 : FVec Ideal S1x128x128 .f32)
      (fun _ t s => u 0 t s + dwSum zu zv da g 2 q t s) := by
  refine Re3.congr (((hv.dropUnit _).addf (((Re2.broadcast ofBits_zero).addf (nt ((dsvPiece hge hd 0 p hs).truncf _) (hn.slice 0 p hs))).addf
    (nt ((dsvPiece hge hd 128 p hs').truncf _) (hn.slice 128 p hs')))).addUnit _) fun _ i j _ hi hj => ?_
  simp only [dwSum, Finset.sum_range_succ, Finset.sum_range_zero, zero_add, dwOne, hp, mul_zero, mul_one]

/-- The two chunks' addition to one group's sums. -/
theorem sumPiece (hge : Re2 ge (fun i j => gelu (zu i j))) (hd : Re2 d da) {v : FVec Ideal S128x256 .f32}
    {u : ℕ → ℕ → ℝ} (hv : Re2 v u) (p : ℕ) (hs : S256x1024.Slices ![0, p] S128x256) (hs' : S256x1024.Slices ![128, p] S128x256) :
    Re2 (shapeCast S128x256 (addf v (addf (addf (broadcast S128x256 (Scalar.ofBits .f32 0x00000000#32))
      (mulf (extractStridedSlice S128x256 ![0, p] d hs) (extractStridedSlice S128x256 ![0, p] ge hs)))
      (mulf (extractStridedSlice S128x256 ![128, p] d hs') (extractStridedSlice S128x256 ![128, p] ge hs')))) shapeCasts_S128x256_S128x256
      : FVec Ideal S128x256 .f32) (fun i j => u i j + dsvSum zu da 2 i (p + j)) := by
  refine Re2.congr ((hv.addf (((Re2.broadcast ofBits_zero).addf (dsvPiece hge hd 0 p hs)).addf (dsvPiece hge hd 128 p hs'))).castSelf _) fun i j hi hj => ?_
  simp only [dsvSum, Finset.sum_range_succ, Finset.sum_range_zero, zero_add, mul_zero, mul_one]

/-- The addition to the gain's gradient. -/
theorem gainPiece {x : FVec Ideal S256x1024 .bf16} (hx : Re2 x zv) {m : FVec Ideal S256x1024 .f32} (hm : Re2 m (dvn zu da w))
    {v : FVec Ideal S1x1024 .f32} {u : ℕ → ℕ → ℝ} (hv : Re2 v u) :
    Re2 (k0_pay104 (k0_pay18 (k0_pay16 x) (k0_pay17 x)) m v) (fun i j => u i j + dngSum zu zv da w 256 j) := by
  refine Re2.congr ((hv.castSelf _).addf ((hm.mulf (pay18 hx)).colSum _ _ _ _ _)) fun i j hi hj => ?_
  simp only [dngSum, Finset.sum_range]

/-- The gate's gradient on the block. -/
theorem gatePiece {x : FVec Ideal S256x1024 .bf16} (hx : Re2 x zv) {m : FVec Ideal S256x1024 .f32} (hm : Re2 m (dvn zu da w))
    {r : FVec Ideal S1x1024 .f32} (hr : Re2 r (fun _ j => g j)) :
    Re3 (k0_pay1 (k0_pay15 x) (k0_pay17 x) (k0_pay18 (k0_pay16 x) (k0_pay17 x)) (k0_pay106 r m)
      (k0_pay107 (k0_pay18 (k0_pay16 x) (k0_pay17 x)) r m)) (fun _ i j => dzv zu zv da g w i j) := by
  have h105 : Re2 (k0_pay105 r m) (dvh zu da g w) := hm.mulf (hr.row _)
  have h106 : Re2 (k0_pay106 r m) (fun i j => dvh zu da g w i j - (∑ k : Fin 1024, dvh zu da g w i k.val) / 1024) :=
    h105.subf (((h105.rowSum _ _ _ _ _).divConst ofBits_1024 (by norm_num)).col _)
  have h107 : Re2 (k0_pay107 (k0_pay18 (k0_pay16 x) (k0_pay17 x)) r m) (fun i _ => (∑ k : Fin 1024, dvh zu da g w i k.val * vh zv i k.val) / 1024) :=
    ((h105.mulf (pay18 hx)).rowSum _ _ _ _ _).divConst ofBits_1024 (by norm_num)
  exact (((((pay17 hx).col _).mulf (h106.subf ((pay18 hx).mulf (h107.col _)))).mulf (pay15 hx)).truncf _).addUnit _

/-- The last point's masking of one group's weight gradient. -/
theorem maskPiece {v : FVec Ideal S1x128x128 .f32} {u : ℕ → ℕ → ℕ → ℝ} (hv : Re3 v u) :
    Re3 (k0_pay2 k0_pay26 v) (fun _ t s => if s ≤ t then u 0 t s else 0) := (masked (hv.dropUnit _)).addUnit _

/-- The last point's sums over one group's lanes. -/
theorem lanePiece {v : FVec Ideal S128x256 .f32} {u : ℕ → ℕ → ℝ} (hv : Re2 v u) :
    Re3 (k0_pay3 v) (fun _ t _ => ∑ k : Fin 256, u t k.val) := (((hv.rowSum _ _ _ _ _).castSelf _).col broadcasts_S128x1_S128x128).addUnit _

theorem zero3 : Re3 (k0_pay27 : FVec Ideal S4x128x128 .f32) (fun _ _ _ => 0) := fun _ _ _ => ofBits_zero
theorem zero2 : Re2 (k0_pay28 : FVec Ideal S128x1024 .f32) (fun _ _ => 0) := (Re2.broadcast ofBits_zero).castSelf _
theorem zero1 : Re2 (k0_pay103 : FVec Ideal S1x1024 .f32) (fun _ _ => 0) := fun _ _ => ofBits_zero

end pieces

end Cert.Pay

end
-- ==== Proof.CaseA.lean ====
/- What the gating kernel's body leaves at one grid point, as real numbers: the first point. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_A_7 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : cond0_0 i) (hc1 : cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) :
    Re3 (φ := .f32) (Gen.out0_A_7 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5) (fun q t s => dwSum zu zv da g 2 q t s) := by
  unfold Gen.out0_A_7
  rw [View.read_writes_eq_canon _ _ _ (cover0_A_7 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3.re (Cn3.cons (dwPiece hn hge hd (Cn3.load _ (Cn3.skip (fun i j k hp => by omega) (Cn3.skip (fun i j k hp => by omega) (Cn3.skip (fun i j k hp => by omega) (Cn3.cons zero3 (f := fun _ _ _ => 0) (fun _ _ _ _ _ _ _ => rfl) (Cn3.nil (fun i j k hi hj hk hp => by omega)))))) _) 768 3 rfl slices_S256x1024_o0_768_S128x256 slices_S256x1024_o128_768_S128x256) (fun i j k hi hj hk _ => by simp [show i = 0 by omega]) (Cn3.cons (dwPiece hn hge hd (Cn3.load _ (Cn3.skip (fun i j k hp => by omega) (Cn3.skip (fun i j k hp => by omega) (Cn3.cons zero3 (f := fun _ _ _ => 0) (fun _ _ _ _ _ _ _ => rfl) (Cn3.nil (fun i j k hi hj hk hp => by omega))))) _) 512 2 rfl slices_S256x1024_o0_512_S128x256 slices_S256x1024_o128_512_S128x256) (fun i j k hi hj hk _ => by simp [show i = 0 by omega]) (Cn3.cons (dwPiece hn hge hd (Cn3.load _ (Cn3.skip (fun i j k hp => by omega) (Cn3.cons zero3 (f := fun _ _ _ => 0) (fun _ _ _ _ _ _ _ => rfl) (Cn3.nil (fun i j k hi hj hk hp => by omega)))) _) 256 1 rfl slices_S256x1024_o0_256_S128x256 slices_S256x1024_o128_256_S128x256) (fun i j k hi hj hk _ => by simp [show i = 0 by omega]) (Cn3.cons (dwPiece hn hge hd (Cn3.load _ (Cn3.cons zero3 (f := fun _ _ _ => 0) (fun _ _ _ _ _ _ _ => rfl) (Cn3.nil (fun i j k hi hj hk hp => by omega))) _) 0 0 rfl slices_S256x1024_o0_0_S128x256 slices_S256x1024_o128_0_S128x256) (fun i j k hi hj hk _ => by simp [show i = 0 by omega]) (Cn3.none (fun i j k hi hj hk hp => by omega))))))

theorem out0_A_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : cond0_0 i) (hc1 : cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) :
    Re2 (φ := .f32) (Gen.out0_A_9 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5) (fun i j => dngSum zu zv da w 256 j) := by
  unfold Gen.out0_A_9
  rw [View.read_writes_eq_canon _ _ _ (cover0_A_9 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (gainPiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (Cn2.load (f := fun _ _ => 0) _ (Cn2.cons zero1 (fun _ _ _ _ _ => rfl) (Cn2.nil (fun i j hi hj hp => by omega))) _)) (fun i j hi hj _ => by simp) (Cn2.none (fun i j hi hj hp => by omega)))

theorem sout0_A_1 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : cond0_0 i) (hc1 : cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) :
    Re2 (φ := .f32) (Gen.sout0_A_1 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5) (fun t e => dsvSum zu da 2 t e) := by
  unfold Gen.sout0_A_1
  rw [View.read_writes_eq_canon _ _ _ (scover0_A_1 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (sumPiece hge hd (Cn2.load _ (Cn2.skip (fun i j hp => by omega) (Cn2.skip (fun i j hp => by omega) (Cn2.skip (fun i j hp => by omega) (Cn2.cons zero2 (f := fun _ _ => 0) (fun _ _ _ _ _ => rfl) (Cn2.nil (fun i j hi hj hp => by omega)))))) _) 768 slices_S256x1024_o0_768_S128x256 slices_S256x1024_o128_768_S128x256) (fun i j hi hj _ => by simp) (Cn2.cons (sumPiece hge hd (Cn2.load _ (Cn2.skip (fun i j hp => by omega) (Cn2.skip (fun i j hp => by omega) (Cn2.cons zero2 (f := fun _ _ => 0) (fun _ _ _ _ _ => rfl) (Cn2.nil (fun i j hi hj hp => by omega))))) _) 512 slices_S256x1024_o0_512_S128x256 slices_S256x1024_o128_512_S128x256) (fun i j hi hj _ => by simp) (Cn2.cons (sumPiece hge hd (Cn2.load _ (Cn2.skip (fun i j hp => by omega) (Cn2.cons zero2 (f := fun _ _ => 0) (fun _ _ _ _ _ => rfl) (Cn2.nil (fun i j hi hj hp => by omega)))) _) 256 slices_S256x1024_o0_256_S128x256 slices_S256x1024_o128_256_S128x256) (fun i j hi hj _ => by simp) (Cn2.cons (sumPiece hge hd (Cn2.load _ (Cn2.cons zero2 (f := fun _ _ => 0) (fun _ _ _ _ _ => rfl) (Cn2.nil (fun i j hi hj hp => by omega))) _) 0 slices_S256x1024_o0_0_S128x256 slices_S256x1024_o128_0_S128x256) (fun i j hi hj _ => by simp) (Cn2.none (fun i j hi hj hp => by omega))))))

end Cert.Case

end
-- ==== Proof.CaseB.lean ====
/- What the gating kernel's body leaves at one grid point, as real numbers: a middle point. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_B_7 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re3 (φ := .f32) (Gen.out0_B_7 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun q t s => u7 q t s + dwSum zu zv da g 2 q t s) := by
  unfold Gen.out0_B_7
  rw [View.read_writes_eq_canon _ _ _ (cover0_B_7 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3.re (Cn3.cons (dwPiece hn hge hd (o7.ldSlab _) 768 3 rfl slices_S256x1024_o0_768_S128x256 slices_S256x1024_o128_768_S128x256) (fun i j k hi hj hk _ => by simp [show i = 0 by omega]) (Cn3.cons (dwPiece hn hge hd (o7.ldSlab _) 512 2 rfl slices_S256x1024_o0_512_S128x256 slices_S256x1024_o128_512_S128x256) (fun i j k hi hj hk _ => by simp [show i = 0 by omega]) (Cn3.cons (dwPiece hn hge hd (o7.ldSlab _) 256 1 rfl slices_S256x1024_o0_256_S128x256 slices_S256x1024_o128_256_S128x256) (fun i j k hi hj hk _ => by simp [show i = 0 by omega]) (Cn3.cons (dwPiece hn hge hd (o7.ldSlab _) 0 0 rfl slices_S256x1024_o0_0_S128x256 slices_S256x1024_o128_0_S128x256) (fun i j k hi hj hk _ => by simp [show i = 0 by omega]) (Cn3.none (fun i j k hi hj hk hp => by omega))))))

theorem out0_B_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re2 (φ := .f32) (Gen.out0_B_9 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun i j => u9 i j + dngSum zu zv da w 256 j) := by
  unfold Gen.out0_B_9
  rw [View.read_writes_eq_canon _ _ _ (cover0_B_9 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (gainPiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (o9.ldWhole _)) (fun i j hi hj _ => by simp) (Cn2.none (fun i j hi hj hp => by omega)))

theorem sout0_B_1 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re2 (φ := .f32) (Gen.sout0_B_1 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun t e => us t e + dsvSum zu da 2 t e) := by
  unfold Gen.sout0_B_1
  rw [View.read_writes_eq_canon _ _ _ (scover0_B_1 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega))))))

end Cert.Case

end
-- ==== Proof.CaseC.lean ====
/- What the gating kernel's body leaves at one grid point, as real numbers: the last point. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_C_7 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re3 (φ := .f32) (Gen.out0_C_7 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun q t s => if s ≤ t then u7 q t s + dwSum zu zv da g 2 q t s else 0) := by
  unfold Gen.out0_C_7
  rw [View.read_writes_eq_canon _ _ _ (cover0_C_7 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_C
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3.re (Cn3.cons (maskPiece (Cn3.load (f := fun q t s => u7 q t s + dwSum zu zv da g 2 q t s) _ (Cn3.skip (fun i j k hp => by omega) (Cn3.skip (fun i j k hp => by omega) (Cn3.skip (fun i j k hp => by omega) (Cn3.cons (dwPiece hn hge hd (o7.ldSlab _) 768 3 rfl slices_S256x1024_o0_768_S128x256 slices_S256x1024_o128_768_S128x256) (fun i j k hi hj hk _ => by simp [show i = 0 by omega]) (Cn3.cons (dwPiece hn hge hd (o7.ldSlab _) 512 2 rfl slices_S256x1024_o0_512_S128x256 slices_S256x1024_o128_512_S128x256) (fun i j k hi hj hk _ => by simp [show i = 0 by omega]) (Cn3.cons (dwPiece hn hge hd (o7.ldSlab _) 256 1 rfl slices_S256x1024_o0_256_S128x256 slices_S256x1024_o128_256_S128x256) (fun i j k hi hj hk _ => by simp [show i = 0 by omega]) (Cn3.cons (dwPiece hn hge hd (o7.ldSlab _) 0 0 rfl slices_S256x1024_o0_0_S128x256 slices_S256x1024_o128_0_S128x256) (fun i j k hi hj hk _ => by simp [show i = 0 by omega]) (Cn3.none (fun i j k hi hj hk hp => by omega))))))))) _)) (fun i j k hi hj hk _ => by simp [show i = 0 by omega]) (Cn3.cons (maskPiece (Cn3.load (f := fun q t s => u7 q t s + dwSum zu zv da g 2 q t s) _ (Cn3.skip (fun i j k hp => by omega) (Cn3.skip (fun i j k hp => by omega) (Cn3.cons (dwPiece hn hge hd (o7.ldSlab _) 768 3 rfl slices_S256x1024_o0_768_S128x256 slices_S256x1024_o128_768_S128x256) (fun i j k hi hj hk _ => by simp [show i = 0 by omega]) (Cn3.cons (dwPiece hn hge hd (o7.ldSlab _) 512 2 rfl slices_S256x1024_o0_512_S128x256 slices_S256x1024_o128_512_S128x256) (fun i j k hi hj hk _ => by simp [show i = 0 by omega]) (Cn3.cons (dwPiece hn hge hd (o7.ldSlab _) 256 1 rfl slices_S256x1024_o0_256_S128x256 slices_S256x1024_o128_256_S128x256) (fun i j k hi hj hk _ => by simp [show i = 0 by omega]) (Cn3.cons (dwPiece hn hge hd (o7.ldSlab _) 0 0 rfl slices_S256x1024_o0_0_S128x256 slices_S256x1024_o128_0_S128x256) (fun i j k hi hj hk _ => by simp [show i = 0 by omega]) (Cn3.none (fun i j k hi hj hk hp => by omega)))))))) _)) (fun i j k hi hj hk _ => by simp [show i = 0 by omega]) (Cn3.cons (maskPiece (Cn3.load (f := fun q t s => u7 q t s + dwSum zu zv da g 2 q t s) _ (Cn3.skip (fun i j k hp => by omega) (Cn3.cons (dwPiece hn hge hd (o7.ldSlab _) 768 3 rfl slices_S256x1024_o0_768_S128x256 slices_S256x1024_o128_768_S128x256) (fun i j k hi hj hk _ => by simp [show i = 0 by omega]) (Cn3.cons (dwPiece hn hge hd (o7.ldSlab _) 512 2 rfl slices_S256x1024_o0_512_S128x256 slices_S256x1024_o128_512_S128x256) (fun i j k hi hj hk _ => by simp [show i = 0 by omega]) (Cn3.cons (dwPiece hn hge hd (o7.ldSlab _) 256 1 rfl slices_S256x1024_o0_256_S128x256 slices_S256x1024_o128_256_S128x256) (fun i j k hi hj hk _ => by simp [show i = 0 by omega]) (Cn3.cons (dwPiece hn hge hd (o7.ldSlab _) 0 0 rfl slices_S256x1024_o0_0_S128x256 slices_S256x1024_o128_0_S128x256) (fun i j k hi hj hk _ => by simp [show i = 0 by omega]) (Cn3.none (fun i j k hi hj hk hp => by omega))))))) _)) (fun i j k hi hj hk _ => by simp [show i = 0 by omega]) (Cn3.cons (maskPiece (Cn3.load (f := fun q t s => u7 q t s + dwSum zu zv da g 2 q t s) _ (Cn3.cons (dwPiece hn hge hd (o7.ldSlab _) 768 3 rfl slices_S256x1024_o0_768_S128x256 slices_S256x1024_o128_768_S128x256) (fun i j k hi hj hk _ => by simp [show i = 0 by omega]) (Cn3.cons (dwPiece hn hge hd (o7.ldSlab _) 512 2 rfl slices_S256x1024_o0_512_S128x256 slices_S256x1024_o128_512_S128x256) (fun i j k hi hj hk _ => by simp [show i = 0 by omega]) (Cn3.cons (dwPiece hn hge hd (o7.ldSlab _) 256 1 rfl slices_S256x1024_o0_256_S128x256 slices_S256x1024_o128_256_S128x256) (fun i j k hi hj hk _ => by simp [show i = 0 by omega]) (Cn3.cons (dwPiece hn hge hd (o7.ldSlab _) 0 0 rfl slices_S256x1024_o0_0_S128x256 slices_S256x1024_o128_0_S128x256) (fun i j k hi hj hk _ => by simp [show i = 0 by omega]) (Cn3.none (fun i j k hi hj hk hp => by omega)))))) _)) (fun i j k hi hj hk _ => by simp [show i = 0 by omega]) (Cn3.none (fun i j k hi hj hk hp => by omega))))))

theorem out0_C_8 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re3 (φ := .f32) (Gen.out0_C_8 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun q t _ => ∑ k : Fin 256, (us t (256 * q + k.val) + dsvSum zu da 2 t (256 * q + k.val))) := by
  unfold Gen.out0_C_8
  rw [View.read_writes_eq_canon _ _ _ (cover0_C_8 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_C
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3.re (Cn3.cons (lanePiece (Cn2.load (f := fun t e => us t e + dsvSum zu da 2 t e) _ (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega)))))) _)) (fun i j k hi hj hk _ => by simp [show i = 0 by omega]) (Cn3.cons (lanePiece (Cn2.load (f := fun t e => us t e + dsvSum zu da 2 t e) _ (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega)))))) _)) (fun i j k hi hj hk _ => by simp [show i = 0 by omega]) (Cn3.cons (lanePiece (Cn2.load (f := fun t e => us t e + dsvSum zu da 2 t e) _ (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega)))))) _)) (fun i j k hi hj hk _ => by simp [show i = 0 by omega]) (Cn3.cons (lanePiece (Cn2.load (f := fun t e => us t e + dsvSum zu da 2 t e) _ (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega)))))) _)) (fun i j k hi hj hk _ => by simp [show i = 0 by omega]) (Cn3.none (fun i j k hi hj hk hp => by omega))))))

theorem out0_C_9 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re2 (φ := .f32) (Gen.out0_C_9 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun i j => u9 i j + dngSum zu zv da w 256 j) := by
  unfold Gen.out0_C_9
  rw [View.read_writes_eq_canon _ _ _ (cover0_C_9 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_C
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (gainPiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (o9.ldWhole _)) (fun i j hi hj _ => by simp) (Cn2.none (fun i j hi hj hp => by omega)))

theorem sout0_C_1 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re2 (φ := .f32) (Gen.sout0_C_1 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun t e => us t e + dsvSum zu da 2 t e) := by
  unfold Gen.sout0_C_1
  rw [View.read_writes_eq_canon _ _ _ (scover0_C_1 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_C
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn2.re (Cn2.cons (sumPiece hge hd (s1.ld _) 768 slices_S256x1024_o0_768_S128x256 slices_S256x1024_o128_768_S128x256) (fun i j hi hj _ => by simp) (Cn2.cons (sumPiece hge hd (s1.ld _) 512 slices_S256x1024_o0_512_S128x256 slices_S256x1024_o128_512_S128x256) (fun i j hi hj _ => by simp) (Cn2.cons (sumPiece hge hd (s1.ld _) 256 slices_S256x1024_o0_256_S128x256 slices_S256x1024_o128_256_S128x256) (fun i j hi hj _ => by simp) (Cn2.cons (sumPiece hge hd (s1.ld _) 0 slices_S256x1024_o0_0_S128x256 slices_S256x1024_o128_0_S128x256) (fun i j hi hj _ => by simp) (Cn2.none (fun i j hi hj hp => by omega))))))

end Cert.Case

end
-- ==== Proof.CaseA6.lean ====
/- What the gating kernel's body leaves at one grid point, as real numbers: the projection gradient of case A. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_A_6 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : cond0_0 i) (hc1 : cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) :
    Re3 (φ := .bf16) (Gen.out0_A_6 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5) (fun s i j => if s = 0 then dzu zu zv da g w b i j else dzv zu zv da g w i j) := by
  unfold Gen.out0_A_6
  rw [View.read_writes_eq_canon _ _ _ (cover0_A_6 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3b.re (Cn3b.cons (gatePiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (e3.ldWhole inb_S1x1024_S1x1024_0_0)) (fun i j k hi hj hk _ => by simp) (Cn3b.mono (P := fun i j k => i = 0 ∧ k < 1024) (fun i j k hi hj hk hp => by omega)
    (Cn3b.cons (dzPiece hn hdg hd (weights (e4.ldSlab _)) (e5.ldSlab _) 128 768 1 rfl rfl slices_S256x1024_o128_768_S128x256) (fun i j k hi hj hk _ => by simp [show i = 0 by omega]) (Cn3b.mono (P := fun i j k => i = 0 ∧ k < 1024 ∧ (k < 768 ∨ j < 128)) (fun i j k hi hj hk hp => by omega)
    (Cn3b.cons (dzPiece hn hdg hd (weights (e4.ldSlab _)) (e5.ldSlab _) 0 768 0 rfl rfl slices_S256x1024_o0_768_S128x256) (fun i j k hi hj hk _ => by simp [show i = 0 by omega]) (Cn3b.mono (P := fun i j k => i = 0 ∧ k < 768) (fun i j k hi hj hk hp => by omega)
    (Cn3b.cons (dzPiece hn hdg hd (weights (e4.ldSlab _)) (e5.ldSlab _) 128 512 1 rfl rfl slices_S256x1024_o128_512_S128x256) (fun i j k hi hj hk _ => by simp [show i = 0 by omega]) (Cn3b.mono (P := fun i j k => i = 0 ∧ k < 768 ∧ (k < 512 ∨ j < 128)) (fun i j k hi hj hk hp => by omega)
    (Cn3b.cons (dzPiece hn hdg hd (weights (e4.ldSlab _)) (e5.ldSlab _) 0 512 0 rfl rfl slices_S256x1024_o0_512_S128x256) (fun i j k hi hj hk _ => by simp [show i = 0 by omega]) (Cn3b.mono (P := fun i j k => i = 0 ∧ k < 512) (fun i j k hi hj hk hp => by omega)
    (Cn3b.cons (dzPiece hn hdg hd (weights (e4.ldSlab _)) (e5.ldSlab _) 128 256 1 rfl rfl slices_S256x1024_o128_256_S128x256) (fun i j k hi hj hk _ => by simp [show i = 0 by omega]) (Cn3b.mono (P := fun i j k => i = 0 ∧ k < 512 ∧ (k < 256 ∨ j < 128)) (fun i j k hi hj hk hp => by omega)
    (Cn3b.cons (dzPiece hn hdg hd (weights (e4.ldSlab _)) (e5.ldSlab _) 0 256 0 rfl rfl slices_S256x1024_o0_256_S128x256) (fun i j k hi hj hk _ => by simp [show i = 0 by omega]) (Cn3b.mono (P := fun i j k => i = 0 ∧ k < 256) (fun i j k hi hj hk hp => by omega)
    (Cn3b.cons (dzPiece hn hdg hd (weights (e4.ldSlab _)) (e5.ldSlab _) 128 0 1 rfl rfl slices_S256x1024_o128_0_S128x256) (fun i j k hi hj hk _ => by simp [show i = 0 by omega]) (Cn3b.mono (P := fun i j k => i = 0 ∧ k < 256 ∧ (k < 0 ∨ j < 128)) (fun i j k hi hj hk hp => by omega)
    (Cn3b.cons (dzPiece hn hdg hd (weights (e4.ldSlab _)) (e5.ldSlab _) 0 0 0 rfl rfl slices_S256x1024_o0_0_S128x256) (fun i j k hi hj hk _ => by simp [show i = 0 by omega]) (Cn3b.none (fun i j k hi hj hk hp => by omega)))))))))))))))))))

end Cert.Case

end
-- ==== Proof.CaseB6.lean ====
/- What the gating kernel's body leaves at one grid point, as real numbers: the projection gradient of case B. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_B_6 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : ¬cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re3 (φ := .bf16) (Gen.out0_B_6 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun s i j => if s = 0 then dzu zu zv da g w b i j else dzv zu zv da g w i j) := by
  unfold Gen.out0_B_6
  rw [View.read_writes_eq_canon _ _ _ (cover0_B_6 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_B
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3b.re (Cn3b.cons (gatePiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (e3.ldWhole inb_S1x1024_S1x1024_0_0)) (fun i j k hi hj hk _ => by simp) (Cn3b.mono (P := fun i j k => i = 0 ∧ k < 1024) (fun i j k hi hj hk hp => by omega)
    (Cn3b.cons (dzPiece hn hdg hd (weights (e4.ldSlab _)) (e5.ldSlab _) 128 768 1 rfl rfl slices_S256x1024_o128_768_S128x256) (fun i j k hi hj hk _ => by simp [show i = 0 by omega]) (Cn3b.mono (P := fun i j k => i = 0 ∧ k < 1024 ∧ (k < 768 ∨ j < 128)) (fun i j k hi hj hk hp => by omega)
    (Cn3b.cons (dzPiece hn hdg hd (weights (e4.ldSlab _)) (e5.ldSlab _) 0 768 0 rfl rfl slices_S256x1024_o0_768_S128x256) (fun i j k hi hj hk _ => by simp [show i = 0 by omega]) (Cn3b.mono (P := fun i j k => i = 0 ∧ k < 768) (fun i j k hi hj hk hp => by omega)
    (Cn3b.cons (dzPiece hn hdg hd (weights (e4.ldSlab _)) (e5.ldSlab _) 128 512 1 rfl rfl slices_S256x1024_o128_512_S128x256) (fun i j k hi hj hk _ => by simp [show i = 0 by omega]) (Cn3b.mono (P := fun i j k => i = 0 ∧ k < 768 ∧ (k < 512 ∨ j < 128)) (fun i j k hi hj hk hp => by omega)
    (Cn3b.cons (dzPiece hn hdg hd (weights (e4.ldSlab _)) (e5.ldSlab _) 0 512 0 rfl rfl slices_S256x1024_o0_512_S128x256) (fun i j k hi hj hk _ => by simp [show i = 0 by omega]) (Cn3b.mono (P := fun i j k => i = 0 ∧ k < 512) (fun i j k hi hj hk hp => by omega)
    (Cn3b.cons (dzPiece hn hdg hd (weights (e4.ldSlab _)) (e5.ldSlab _) 128 256 1 rfl rfl slices_S256x1024_o128_256_S128x256) (fun i j k hi hj hk _ => by simp [show i = 0 by omega]) (Cn3b.mono (P := fun i j k => i = 0 ∧ k < 512 ∧ (k < 256 ∨ j < 128)) (fun i j k hi hj hk hp => by omega)
    (Cn3b.cons (dzPiece hn hdg hd (weights (e4.ldSlab _)) (e5.ldSlab _) 0 256 0 rfl rfl slices_S256x1024_o0_256_S128x256) (fun i j k hi hj hk _ => by simp [show i = 0 by omega]) (Cn3b.mono (P := fun i j k => i = 0 ∧ k < 256) (fun i j k hi hj hk hp => by omega)
    (Cn3b.cons (dzPiece hn hdg hd (weights (e4.ldSlab _)) (e5.ldSlab _) 128 0 1 rfl rfl slices_S256x1024_o128_0_S128x256) (fun i j k hi hj hk _ => by simp [show i = 0 by omega]) (Cn3b.mono (P := fun i j k => i = 0 ∧ k < 256 ∧ (k < 0 ∨ j < 128)) (fun i j k hi hj hk hp => by omega)
    (Cn3b.cons (dzPiece hn hdg hd (weights (e4.ldSlab _)) (e5.ldSlab _) 0 0 0 rfl rfl slices_S256x1024_o0_0_S128x256) (fun i j k hi hj hk _ => by simp [show i = 0 by omega]) (Cn3b.none (fun i j k hi hj hk hp => by omega)))))))))))))))))))

end Cert.Case

end
-- ==== Proof.CaseC6.lean ====
/- What the gating kernel's body leaves at one grid point, as real numbers: the projection gradient of case C. -/
module

public import proofs.«01_k».proof.Proof.Pay
public import proofs.«01_k».proof.Proof.Gen.KernelIdeal.Frame
public import Idealize.ShloMosaic.Lib.Tactic.ValueTie

@[expose] public section

noncomputable section

namespace Cert.Case

open Idealize.ShloMosaic Idealize.ShloMosaic.ValueIdx Cert.Reals Cert.Sgu Cert.Pay Cert.KernelIdeal Cert.KernelIdeal.Gen
open scoped BigOperators

variable {zu zv da : ℕ → ℕ → ℝ} {g : ℕ → ℝ} {w : ℕ → ℕ → ℕ → ℝ} {b : ℕ → ℕ → ℝ} {u7 : ℕ → ℕ → ℕ → ℝ} {u9 us : ℕ → ℕ → ℝ}

theorem out0_C_6 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S4x128x128 .f32) (harg5 : arg5.IsWhole) (arg6 : Memref sig .tc .vmem S4x128x1 .f32) (harg6 : arg6.IsWhole) (arg8 : Memref sig .tc .vmem S2x256x1024 .bf16) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S128x1024 .f32) (harg13 : arg13.IsWhole) (hc0 : ¬cond0_0 i) (hc1 : ¬cond0_1 i) (hc2 : cond0_2 i)
    (x0 : Vec Ideal S256x1024 .bf16) (x1 : Vec Ideal S256x1024 .bf16) (x2 : Vec Ideal S256x1024 .bf16) (x3 : Vec Ideal S1x1024 .f32) (x4 : Vec Ideal S4x128x128 .f32) (x5 : Vec Ideal S4x128x1 .f32) (xo7 : Vec Ideal S4x128x128 .f32) (xo9 : Vec Ideal S1x1024 .f32) (xs1 : Vec Ideal S128x1024 .f32)
    (e0 : Re2 (φ := .bf16) x0 zu) (e1 : Re2 (φ := .bf16) x1 zv) (e2 : Re2 (φ := .bf16) x2 da) (e3 : Re2 (φ := .f32) x3 (fun _ j => g j))
    (e4 : Re3 (φ := .f32) x4 w) (e5 : Re3 (φ := .f32) x5 (fun q t _ => b q t)) (o7 : Re3 (φ := .f32) xo7 u7) (o9 : Re2 (φ := .f32) xo9 u9) (s1 : Re2 (φ := .f32) xs1 us) :
    Re3 (φ := .bf16) (Gen.out0_C_6 (F := Ideal) c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1) (fun s i j => if s = 0 then dzu zu zv da g w b i j else dzv zu zv da g w i j) := by
  unfold Gen.out0_C_6
  rw [View.read_writes_eq_canon _ _ _ (cover0_C_6 c i arg1 harg1 arg2 harg2 arg3 harg3 arg4 harg4 arg5 harg5 arg6 harg6 arg8 harg8 arg9 harg9 arg10 harg10 arg11 harg11 arg12 harg12 arg13 harg13 hc0 hc1 hc2 x0 x1 x2 x3 x4 x5 xo7 xo9 xs1)]
  unfold kernelRun0_C
  dsimp only
  sl_unfold_words
  simp only [View.readAt_eq_ld, harg1.read_unread, harg2.read_unread, harg3.read_unread, harg4.read_unread, harg5.read_unread, harg6.read_unread, harg8.read_unread, harg9.read_unread, harg10.read_unread, harg11.read_unread, harg12.read_unread, harg13.read_unread]
  have hn := pay19 (e1.ldbWhole inb_S256x1024_S256x1024_0_0) (e3.ldWhole inb_S1x1024_S1x1024_0_0)
  have hge := pay23 (pay11 (e0.ldbWhole inb_S256x1024_S256x1024_0_0))
  have hdg := pay24 (pay11 (e0.ldbWhole inb_S256x1024_S256x1024_0_0))
  have hd := pay25 (e2.ldbWhole inb_S256x1024_S256x1024_0_0)
  exact Cn3b.re (Cn3b.cons (gatePiece (e1.ldbWhole inb_S256x1024_S256x1024_0_0) ((Cn2.load (f := dvn zu da w) _ (Cn2.cons (dvnPiece hge hd (weights (e4.ldSlab _)) 128 768 1 rfl rfl slices_S256x1024_o128_768_S128x256) (fun _ _ _ _ _ => rfl) (Cn2.cons (dvnPiece hge hd (weights (e4.ldSlab _)) 0 768 0 rfl rfl slices_S256x1024_o0_768_S128x256) (fun _ _ _ _ _ => rfl) (Cn2.cons (dvnPiece hge hd (weights (e4.ldSlab _)) 128 512 1 rfl rfl slices_S256x1024_o128_512_S128x256) (fun _ _ _ _ _ => rfl) (Cn2.cons (dvnPiece hge hd (weights (e4.ldSlab _)) 0 512 0 rfl rfl slices_S256x1024_o0_512_S128x256) (fun _ _ _ _ _ => rfl) (Cn2.cons (dvnPiece hge hd (weights (e4.ldSlab _)) 128 256 1 rfl rfl slices_S256x1024_o128_256_S128x256) (fun _ _ _ _ _ => rfl) (Cn2.cons (dvnPiece hge hd (weights (e4.ldSlab _)) 0 256 0 rfl rfl slices_S256x1024_o0_256_S128x256) (fun _ _ _ _ _ => rfl) (Cn2.cons (dvnPiece hge hd (weights (e4.ldSlab _)) 128 0 1 rfl rfl slices_S256x1024_o128_0_S128x256) (fun _ _ _ _ _ => rfl) (Cn2.cons (dvnPiece hge hd (weights (e4.ldSlab _)) 0 0 0 rfl rfl slices_S256x1024_o0_0_S128x256) (fun _ _ _ _ _ => rfl) (Cn2.none (fun i j hi hj hp => by omega)))))))))) _).congr fun i j _ _ => by rw [zero_add, zero_add]) (e3.ldWhole inb_S1x1024_S1x1024_0_0)) (fun i j k hi hj hk _ => by simp) (Cn3b.mono (P := fun i j k => i = 0 ∧ k < 1024) (fun i j k hi hj hk hp => by omega)
    (Cn3b.cons (dzPiece hn hdg hd (weights (e4.ldSlab _)) (e5.ldSlab _) 128 768 1 rfl rfl slices_S256x1024_o128_768_S128x256) (fun i j k hi hj hk _ => by simp [show i = 0 by omega]) (Cn3b.mono (P := fun i j k => i = 0 ∧ k < 1024 ∧ (k < 768 ∨ j < 128)) (fun i j k hi hj hk hp => by omega)
    (Cn3b.cons (dzPiece hn hdg hd (weights (e4.ldSlab _)) (e5.ldSlab _) 0 768 0 rfl rfl slices_S256x1024_o0_768_S128x256) (fun i j k hi hj hk _ => by simp [show i = 0 by omega]) (Cn3b.mono (P := fun i j k => i = 0 ∧ k < 768) (fun i j k hi hj hk hp => by omega)
    (Cn3b.cons (dzPiece hn hdg hd (weights (e4.ldSlab _)) (e5.ldSlab _) 128 512 1 rfl rfl slices_S256x1024_o128_512_S128x256) (fun i j k hi hj hk _ => by simp [show i = 0 by omega]) (Cn3b.mono (P := fun i j k => i = 0 ∧ k < 768 ∧ (k < 512 ∨ j < 128)) (fun i j k hi hj hk hp => by omega)
    (Cn3b.cons (dzPiece hn hdg hd (weights (e4.ldSlab _)) (e5.ldSlab _) 0 512 0 rfl rfl slices_S256x1024_o0_512_S128x256) (fun i j k hi hj hk _ => by simp [show i = 0 by omega]) (Cn3b.mono (P := fun i j k => i = 0 ∧ k < 512) (fun i j k hi hj hk hp => by omega)
    (Cn3b.cons (dzPiece hn hdg hd (weights (e4.ldSlab _)) (e5.ldSlab _) 128 256 1 rfl rfl slices_S256x1024_o128_256_S128x256) (fun i j k hi hj hk _ => by simp [show i = 0 by omega]) (Cn3b.mono (P := fun i j k => i = 0 ∧ k < 512 ∧ (k < 256 ∨ j < 128)) (fun i j k hi hj hk hp => by omega)
    (Cn3b.cons (dzPiece hn hdg hd (weights (e4.ldSlab _)) (e5.ldSlab _) 0 256 0 rfl rfl slices_S256x1024_o0_256_S128x256) (fun i j k hi hj hk _ => by simp [show i = 0 by omega]) (Cn3b.mono (P := fun i j k => i = 0 ∧ k < 256) (fun i j k hi hj hk hp => by omega)
    (Cn3b.cons (dzPiece hn hdg hd (weights (e4.ldSlab _)) (e5.ldSlab _) 128 0 1 rfl rfl slices_S256x1024_o128_0_S128x256) (fun i j k hi hj hk _ => by simp [show i = 0 by omega]) (Cn3b.mono (P := fun i j k => i = 0 ∧ k < 256 ∧ (k < 0 ∨ j < 128)) (fun i j k hi hj hk hp => by omega)
    (Cn3b.cons (dzPiece hn hdg hd (weights (e4.ldSlab _)) (e5.ldSlab _) 0 0 0 rfl rfl slices_S256x1024_o0_0_S128x256) (fun i j k hi hj hk _ => by simp [show i = 0 by omega]) (Cn3b.none (fun i j k hi hj hk hp => by omega)))))))))))))))))))

end Cert.Case

end
-- ==== Proof.Sums.lean ====
/- What the gating kernel leaves after each grid point, by induction on the point: the gradients of its own rows, and the running
   sums of the parameter gradients over all rows so far. -/
module

public import proofs.«01_k».proof.Proof.Blocks
public import proofs.«01_k».proof.Proof.CaseA
public import proofs.«01_k».proof.Proof.CaseB
public import proofs.«01_k».proof.Proof.CaseC
public import proofs.«01_k».proof.Proof.CaseA6
public import proofs.«01_k».proof.Proof.CaseB6
public import proofs.«01_k».proof.Proof.CaseC6

@[expose] public section

noncomputable section

namespace Cert.Sums

open Idealize.ShloMosaic Idealize.ShloMosaic.TcCoe Idealize.SL.Sem Idealize.ShloMosaic.ValueIdx
open Cert.Reals Cert.Sgu Cert.Blocks Cert.KernelIdeal Cert.KernelIdeal.Gen

variable (m : (ℓ : Loc nD τ sig) → Buf (Elt Ideal) ℓ) (c : Dev nD)
variable {Z Da B : ℕ → ℕ → ℝ} {G : ℕ → ℝ} {W : ℕ → ℕ → ℕ → ℝ}

/-- The columns of the value half. -/
def right (Z : ℕ → ℕ → ℝ) (r e : ℕ) : ℝ := Z r (1024 + e)

/-- The arguments hold these real numbers. -/
structure Args (Z Da B : ℕ → ℕ → ℝ) (G : ℕ → ℝ) (W : ℕ → ℕ → ℕ → ℝ) : Prop where
  z : Re2 (φ := .bf16) (a := 4096) (b := 5120) (m ((c : Thread nD τ).loc main_arg0)) Z
  da : Re2 (φ := .bf16) (a := 4096) (b := 1024) (m ((c : Thread nD τ).loc main_arg1)) Da
  g : Re2 (φ := .f32) (a := 1) (b := 1024) (m ((c : Thread nD τ).loc main_arg3)) (fun _ j => G j)
  w : Re3 (φ := .f32) (a := 4) (b := 128) (c := 128) (m ((c : Thread nD τ).loc main_arg4)) W
  b : Re2 (φ := .f32) (a := 4) (b := 128) (m ((c : Thread nD τ).loc main_arg5)) B

variable {m c}

theorem slab (n : ℕ) {v : FVec Ideal ⟨3, ![2, 256, 1024]⟩ .bf16}
    (h : Re3 v (fun s i j => if s = 0 then dzu (sh Z n) (sh (right Z) n) (sh Da n) G W B i j else dzv (sh Z n) (sh (right Z) n) (sh Da n) G W i j)) :
    Re3 v (fun s i j => if s = 0 then dzu Z (right Z) Da G W B (256 * n + i) j else dzv Z (right Z) Da G W (256 * n + i) j) :=
  h.congr fun s i j _ _ _ => by rw [dzu_sh, dzv_sh]

/-- What the buffers hold after point `n`. -/
structure Left (Z Da B : ℕ → ℕ → ℝ) (G : ℕ → ℝ) (W : ℕ → ℕ → ℕ → ℝ) (n : ℕ)
    (o : Vec Ideal S2x256x1024 .bf16 × Vec Ideal S4x128x128 .f32 × Vec Ideal S4x128x128 .f32 × Vec Ideal S1x1024 .f32 × Vec Ideal S128x1024 .f32) : Prop where
  dz : Re3 (φ := .bf16) (a := 2) (b := 256) (c := 1024) o.1
      (fun s i j => if s = 0 then dzu Z (right Z) Da G W B (256 * n + i) j else dzv Z (right Z) Da G W (256 * n + i) j)
  dw : Re3 (φ := .f32) (a := 4) (b := 128) (c := 128) o.2.1
      (fun q t s => if n = 15 then (if s ≤ t then dwSum Z (right Z) Da G 32 q t s else 0) else dwSum Z (right Z) Da G (2 * (n + 1)) q t s)
  dng : Re2 (φ := .f32) (a := 1) (b := 1024) o.2.2.2.1 (fun _ j => dngSum Z (right Z) Da W (256 * (n + 1)) j)
  db : n = 15 → Re3 (φ := .f32) (a := 4) (b := 128) (c := 128) o.2.2.1 (fun q t _ => dbSum Z Da 32 q t)
  rest : n ≠ 15 → Re2 (φ := .f32) (a := 128) (b := 1024) o.2.2.2.2 (dsvSum Z Da (2 * (n + 1)))

theorem pointA (A : Args m c Z Da B G W) (t : Fin cfg0.N) (ht : t.val = 0) : Left Z Da B G W t.val (outsAt0 m c t.val t.isLt) := by
  have b0 := block0 m c t A.z
  have b1 := block1 m c t A.z
  have b2 := block2 m c t A.da
  have b3 := block3 m c t A.g
  have b4 := block4 m c t A.w
  have b5 := block5 m c t A.b
  rw [outsAt0_A m c t (by omega) (by omega) (by omega)]
  refine ⟨?_, ?_, ?_, ?_, ?_⟩ <;> dsimp only
  · exact slab t.val (Case.out0_A_6 c _ _ _ _ _ _ _ _ _ _ _ _ _ _ _ _ _ _ _ _ _ _ _ _ _ _ _ _ _ _ _ _ _ _ b0 b1 b2 b3 b4 b5)
  · refine Re3.congr (Case.out0_A_7 c _ _ _ _ _ _ _ _ _ _ _ _ _ _ _ _ _ _ _ _ _ _ _ _ _ _ _ _ _ _ _ _ _ _ b0 b1 b2 b3 b4 b5) ?_
    intro q r s _ _ _
    rw [if_neg (by omega), dwSum_succ, ht]
    exact (zero_add _).symm
  · refine Re2.congr (Case.out0_A_9 c _ _ _ _ _ _ _ _ _ _ _ _ _ _ _ _ _ _ _ _ _ _ _ _ _ _ _ _ _ _ _ _ _ _ b0 b1 b2 b3 b4 b5) ?_
    intro i j _ _
    rw [dngSum_succ, ht]
    exact (zero_add _).symm
  · exact fun e => absurd e (by omega)
  · refine fun _ => Re2.congr (Case.sout0_A_1 c _ _ _ _ _ _ _ _ _ _ _ _ _ _ _ _ _ _ _ _ _ _ _ _ _ _ _ _ _ _ _ _ _ _ b0 b1 b2 b3 b4 b5) ?_
    intro i j _ _
    rw [dsvSum_succ, ht]
    exact (zero_add _).symm

theorem pointB (A : Args m c Z Da B G W) (t : Fin cfg0.N) (h0 : t.val ≠ 0) (h15 : t.val ≠ 15)
    (P : Left Z Da B G W (t.val - 1) (outsAt0 m c (t.val - 1) (Nat.lt_of_le_of_lt (Nat.sub_le _ _) t.isLt))) :
    Left Z Da B G W t.val (outsAt0 m c t.val t.isLt) := by
  have hN : t.val < 16 := lt_of_lt_of_eq t.isLt (show cfg0.N = 16 from N_0)
  have b0 := block0 m c t A.z
  have b1 := block1 m c t A.z
  have b2 := block2 m c t A.da
  have b3 := block3 m c t A.g
  have b4 := block4 m c t A.w
  have b5 := block5 m c t A.b
  have p7 := P.dw.congr (g := dwSum Z (right Z) Da G (2 * t.val)) fun q r s _ _ _ => by rw [if_neg (by omega), Nat.sub_add_cancel (by omega)]
  have p9 := P.dng.congr (g := fun _ j => dngSum Z (right Z) Da W (256 * t.val) j) fun i j _ _ => by rw [Nat.sub_add_cancel (by omega)]
  have ps := (P.rest (by omega)).congr (g := dsvSum Z Da (2 * t.val)) fun i j _ _ => by rw [Nat.sub_add_cancel (by omega)]
  rw [outsAt0_B m c t (by omega) (by omega) (by omega)]
  refine ⟨?_, ?_, ?_, ?_, ?_⟩ <;> dsimp only
  · exact slab t.val (Case.out0_B_6 c _ _ _ _ _ _ _ _ _ _ _ _ _ _ _ _ _ _ _ _ _ _ _ _ _ _ _ _ _ _ _ _ _ _ _ _ _ b0 b1 b2 b3 b4 b5 p7 p9 ps)
  · refine Re3.congr (Case.out0_B_7 c _ _ _ _ _ _ _ _ _ _ _ _ _ _ _ _ _ _ _ _ _ _ _ _ _ _ _ _ _ _ _ _ _ _ _ _ _ b0 b1 b2 b3 b4 b5 p7 p9 ps) ?_
    intro q r s _ _ _
    rw [if_neg (by omega), dwSum_succ]
    rfl
  · refine Re2.congr (Case.out0_B_9 c _ _ _ _ _ _ _ _ _ _ _ _ _ _ _ _ _ _ _ _ _ _ _ _ _ _ _ _ _ _ _ _ _ _ _ _ _ b0 b1 b2 b3 b4 b5 p7 p9 ps) ?_
    intro i j _ _
    rw [dngSum_succ]
    rfl
  · exact fun e => absurd e (by omega)
  · refine fun _ => Re2.congr (Case.sout0_B_1 c _ _ _ _ _ _ _ _ _ _ _ _ _ _ _ _ _ _ _ _ _ _ _ _ _ _ _ _ _ _ _ _ _ _ _ _ _ b0 b1 b2 b3 b4 b5 p7 p9 ps) ?_
    intro i j _ _
    rw [dsvSum_succ]

theorem pointC (A : Args m c Z Da B G W) (t : Fin cfg0.N) (h15 : t.val = 15)
    (P : Left Z Da B G W (t.val - 1) (outsAt0 m c (t.val - 1) (Nat.lt_of_le_of_lt (Nat.sub_le _ _) t.isLt))) :
    Left Z Da B G W t.val (outsAt0 m c t.val t.isLt) := by
  have b0 := block0 m c t A.z
  have b1 := block1 m c t A.z
  have b2 := block2 m c t A.da
  have b3 := block3 m c t A.g
  have b4 := block4 m c t A.w
  have b5 := block5 m c t A.b
  have p7 := P.dw.congr (g := dwSum Z (right Z) Da G (2 * t.val)) fun q r s _ _ _ => by rw [if_neg (by omega), Nat.sub_add_cancel (by omega)]
  have p9 := P.dng.congr (g := fun _ j => dngSum Z (right Z) Da W (256 * t.val) j) fun i j _ _ => by rw [Nat.sub_add_cancel (by omega)]
  have ps := (P.rest (by omega)).congr (g := dsvSum Z Da (2 * t.val)) fun i j _ _ => by rw [Nat.sub_add_cancel (by omega)]
  rw [outsAt0_C m c t (by omega) (by omega) (by omega)]
  refine ⟨?_, ?_, ?_, ?_, ?_⟩ <;> dsimp only
  · exact slab t.val (Case.out0_C_6 c _ _ _ _ _ _ _ _ _ _ _ _ _ _ _ _ _ _ _ _ _ _ _ _ _ _ _ _ _ _ _ _ _ _ _ _ _ b0 b1 b2 b3 b4 b5 p7 p9 ps)
  · refine Re3.congr (Case.out0_C_7 c _ _ _ _ _ _ _ _ _ _ _ _ _ _ _ _ _ _ _ _ _ _ _ _ _ _ _ _ _ _ _ _ _ _ _ _ _ b0 b1 b2 b3 b4 b5 p7 p9 ps) ?_
    intro q r s _ _ _
    rw [if_pos h15, show 32 = 2 * (t.val + 1) by omega, dwSum_succ]
    rfl
  · refine Re2.congr (Case.out0_C_9 c _ _ _ _ _ _ _ _ _ _ _ _ _ _ _ _ _ _ _ _ _ _ _ _ _ _ _ _ _ _ _ _ _ _ _ _ _ b0 b1 b2 b3 b4 b5 p7 p9 ps) ?_
    intro i j _ _
    rw [dngSum_succ]
    rfl
  · refine fun _ => Re3.congr (Case.out0_C_8 c _ _ _ _ _ _ _ _ _ _ _ _ _ _ _ _ _ _ _ _ _ _ _ _ _ _ _ _ _ _ _ _ _ _ _ _ _ b0 b1 b2 b3 b4 b5 p7 p9 ps) ?_
    intro q r k _ _ _
    unfold dbSum
    rw [show 32 = 2 * (t.val + 1) by omega]
    exact Finset.sum_congr rfl fun k _ => (dsvSum_succ _ _ _ _ _).symm
  · exact fun e => absurd h15 e

theorem points (A : Args m c Z Da B G W) (n : ℕ) : ∀ h : n < cfg0.N, Left Z Da B G W n (outsAt0 m c n h) := by
  induction n with
  | zero => exact fun h => pointA A ⟨0, h⟩ rfl
  | succ n ih =>
    intro h
    have P := ih (Nat.lt_of_succ_lt h)
    by_cases h2 : n + 1 = 15
    · exact pointC A ⟨n + 1, h⟩ h2 P
    · exact pointB A ⟨n + 1, h⟩ (Nat.succ_ne_zero n) h2 P

end Cert.Sums

end
-- ==== Proof.Finite.lean ====
/- What the precondition says: every entry of the five arrays it names is a real number. -/
module

public import proofs.«01_k».proof.Defs
public import proofs.«01_k».proof.Proof.Sums

@[expose] public section

noncomputable section

namespace Cert.Finite

open Idealize.ShloMosaic Idealize.ShloMosaic.TcCoe Idealize.SL.Sem Idealize.ShloMosaic.ValueIdx
open Cert.Reals Cert.Sums

/-- The side conditions of the precondition's own operations. -/
theorem facts : Cert.Pre_finite_inputs.Facts :=
  ⟨by decide, by decide, by decide, by decide, by decide, by decide⟩

theorem top_bits : Ideal.ofBits .f32 0x7F800000#32 = ⊤ := by simp [Ideal.ofBits, Ideal.ieee]

/-- An extended real whose absolute value is below the greatest one is real. -/
theorem real_of_lt {x : EReal} (h : Ideal.cmp .olt (max x (-x)) ⊤ = 1#1) : x = ((x.toReal : ℝ) : EReal) := by
  have hlt : max x (-x) < ⊤ := by
    by_contra hn
    simp [Ideal.cmp, hn] at h
  refine (EReal.coe_toReal ?_ ?_).symm
  · rintro rfl; simp at hlt
  · rintro rfl; simp at hlt

/-- The real parts of a matrix of extended reals, zero outside it. -/
def part2 {φ : FTy} {a b : ℕ} (v : FVec Ideal ⟨2, ![a, b]⟩ φ) (i j : ℕ) : ℝ :=
  if h : i < a ∧ j < b then (v (ValueIdx.ix2 ⟨i, h.1⟩ ⟨j, h.2⟩) : EReal).toReal else 0

def part3 {φ : FTy} {a b c : ℕ} (v : FVec Ideal ⟨3, ![a, b, c]⟩ φ) (i j k : ℕ) : ℝ :=
  if h : i < a ∧ j < b ∧ k < c then (v (ValueIdx.ix3 ⟨i, h.1⟩ ⟨j, h.2.1⟩ ⟨k, h.2.2⟩) : EReal).toReal else 0

theorem re2 {φ : FTy} {a b : ℕ} {v : FVec Ideal ⟨2, ![a, b]⟩ φ}
    (h : ∀ i, Ideal.cmp .olt (max (v i : EReal) (-(v i : EReal))) ⊤ = 1#1) : Re2 v (part2 v) := fun i j => by
  rw [part2, dif_pos ⟨i.isLt, j.isLt⟩]
  exact real_of_lt (h _)

theorem re3 {φ : FTy} {a b c : ℕ} {v : FVec Ideal ⟨3, ![a, b, c]⟩ φ}
    (h : ∀ i, Ideal.cmp .olt (max (v i : EReal) (-(v i : EReal))) ⊤ = 1#1) : Re3 v (part3 v) := fun i j k => by
  rw [part3, dif_pos ⟨i.isLt, j.isLt, k.isLt⟩]
  exact real_of_lt (h _)

variable [Cert.Pre_finite_inputs.Facts] {m : (ℓ : Loc Cert.KernelIdeal.nD Cert.KernelIdeal.τ Cert.KernelIdeal.sig) → Buf (Elt Ideal) ℓ}

/-- Under the precondition the arguments are arrays of real numbers. -/
theorem args (h : Cert.Pre_KernelIdeal_finite_inputs m) (c : Dev Cert.KernelIdeal.nD) :
    Args m c
      (part2 (φ := .bf16) (a := 4096) (b := 5120) (m ((c : Thread Cert.KernelIdeal.nD Cert.KernelIdeal.τ).loc Cert.KernelIdeal.main_arg0)))
      (part2 (φ := .bf16) (a := 4096) (b := 1024) (m ((c : Thread Cert.KernelIdeal.nD Cert.KernelIdeal.τ).loc Cert.KernelIdeal.main_arg1)))
      (part2 (φ := .f32) (a := 4) (b := 128) (m ((c : Thread Cert.KernelIdeal.nD Cert.KernelIdeal.τ).loc Cert.KernelIdeal.main_arg5)))
      (part2 (φ := .f32) (a := 1) (b := 1024) (m ((c : Thread Cert.KernelIdeal.nD Cert.KernelIdeal.τ).loc Cert.KernelIdeal.main_arg3)) 0)
      (part3 (φ := .f32) (a := 4) (b := 128) (c := 128) (m ((c : Thread Cert.KernelIdeal.nD Cert.KernelIdeal.τ).loc Cert.KernelIdeal.main_arg4))) := by
  obtain ⟨h0, h1, h3, h4, h5⟩ := h c
  refine ⟨re2 fun i => ?_, re2 fun i => ?_, ?_, re3 fun i => ?_, re2 fun i => ?_⟩
  · rw [← top_bits]; exact congrFun h0 i
  · rw [← top_bits]; exact congrFun h1 i
  · have k : Re2 (φ := .f32) (a := 1) (b := 1024) (m ((c : Thread Cert.KernelIdeal.nD Cert.KernelIdeal.τ).loc Cert.KernelIdeal.main_arg3)) _ :=
      re2 fun i => by rw [← top_bits]; exact congrFun h3 i
    exact k.congr fun i j hi _ => by rw [Nat.lt_one_iff.mp hi]
  · rw [← top_bits]; exact congrFun h4 i
  · rw [← top_bits]; exact congrFun h5 i

end Cert.Finite

end
-- ==== Proof.Arrays.lean ====
/- What the gating kernel's four result arrays hold when it has run. -/
module

public import proofs.«01_k».proof.Proof.Sums

@[expose] public section

noncomputable section

namespace Cert.Arrays

open Idealize.ShloMosaic Idealize.ShloMosaic.TcCoe Idealize.SL.Sem Idealize.ShloMosaic.ValueIdx
open Cert.Reals Cert.Sgu Cert.Blocks Cert.Sums Cert.KernelIdeal Cert.KernelIdeal.Gen Cert.KernelIdeal.Value

variable {m : (ℓ : Loc nD τ sig) → Buf (Elt Ideal) ℓ} {c : Dev nD}
variable {Z Da B : ℕ → ℕ → ℝ} {G : ℕ → ℝ} {W : ℕ → ℕ → ℕ → ℝ}

theorem last_lt : 15 < cfg0.N := by rw [show cfg0.N = 16 from N_0]; decide

theorem final7 : (dats m 0 c).arrAt 7 cfg0.N = (outsAt0 m c 15 last_lt).2.1 :=
  (dats m 0 c).arrAt_eq_of_cover 7 (outsAt0 m c 15 last_lt).2.1 (fun t hf => by
    have hN : t.val < 16 := lt_of_lt_of_eq t.isLt (show cfg0.N = 16 from N_0)
    have h3 : t.val = 15 := by have := (flush0_7 t).mp hf; omega
    obtain rfl : t = t0_15 := Fin.ext h3
    rw [flushed7]
    have hz' : (fun a => win0_7.index t0_15 a * main_v1_1.ty.shape.size a) = fun _ => 0 := funext fun a => by fin_cases a <;> decide
    exact (Memref.read_access_unit_zero (Elt Ideal) main_v1_1 hz' (fun a => by rw [congrFun hz' a]; simp) (outsAt0 m c 15 last_lt).2.1).symm)
    fun i => ⟨t0_15, (flush0_7 t0_15).mpr rfl, by
      show i ∈ ((View.whole main_v1_1).slice (win0_7.rect t0_15)).set
      rw [View.set_slice_whole, Rect.mem_set_unit]
      intro a
      have h0 : (i 0 : Nat) < 4 := (i 0).isLt
      have h1 : (i 1 : Nat) < 128 := (i 1).isLt
      have h2 : (i 2 : Nat) < 128 := (i 2).isLt
      match a with
      | ⟨0, _⟩ => show 0 ≤ (i 0 : Nat) ∧ (i 0 : Nat) < 0 + 4; omega
      | ⟨1, _⟩ => show 0 ≤ (i 1 : Nat) ∧ (i 1 : Nat) < 0 + 128; omega
      | ⟨2, _⟩ => show 0 ≤ (i 2 : Nat) ∧ (i 2 : Nat) < 0 + 128; omega⟩

theorem final8 : (dats m 0 c).arrAt 8 cfg0.N = (outsAt0 m c 15 last_lt).2.2.1 :=
  (dats m 0 c).arrAt_eq_of_cover 8 (outsAt0 m c 15 last_lt).2.2.1 (fun t hf => by
    have hN : t.val < 16 := lt_of_lt_of_eq t.isLt (show cfg0.N = 16 from N_0)
    have h3 : t.val = 15 := by have := (flush0_8 t).mp hf; omega
    obtain rfl : t = t0_15 := Fin.ext h3
    rw [flushed8]
    have hz' : (fun a => win0_8.index t0_15 a * main_v1_2.ty.shape.size a) = fun _ => 0 := funext fun a => by fin_cases a <;> decide
    exact (Memref.read_access_unit_zero (Elt Ideal) main_v1_2 hz' (fun a => by rw [congrFun hz' a]; simp) (outsAt0 m c 15 last_lt).2.2.1).symm)
    fun i => ⟨t0_15, (flush0_8 t0_15).mpr rfl, by
      show i ∈ ((View.whole main_v1_2).slice (win0_8.rect t0_15)).set
      rw [View.set_slice_whole, Rect.mem_set_unit]
      intro a
      have h0 : (i 0 : Nat) < 4 := (i 0).isLt
      have h1 : (i 1 : Nat) < 128 := (i 1).isLt
      have h2 : (i 2 : Nat) < 128 := (i 2).isLt
      match a with
      | ⟨0, _⟩ => show 0 ≤ (i 0 : Nat) ∧ (i 0 : Nat) < 0 + 4; omega
      | ⟨1, _⟩ => show 0 ≤ (i 1 : Nat) ∧ (i 1 : Nat) < 0 + 128; omega
      | ⟨2, _⟩ => show 0 ≤ (i 2 : Nat) ∧ (i 2 : Nat) < 0 + 128; omega⟩

theorem final9 : (dats m 0 c).arrAt 9 cfg0.N = (outsAt0 m c 15 last_lt).2.2.2.1 :=
  (dats m 0 c).arrAt_eq_of_cover 9 (outsAt0 m c 15 last_lt).2.2.2.1 (fun t hf => by
    have hN : t.val < 16 := lt_of_lt_of_eq t.isLt (show cfg0.N = 16 from N_0)
    have h3 : t.val = 15 := by have := (flush0_9 t).mp hf; omega
    obtain rfl : t = t0_15 := Fin.ext h3
    rw [flushed9]
    have hz' : (fun a => win0_9.index t0_15 a * main_v1_3.ty.shape.size a) = fun _ => 0 := funext fun a => by fin_cases a <;> decide
    exact (Memref.read_access_unit_zero (Elt Ideal) main_v1_3 hz' (fun a => by rw [congrFun hz' a]; simp) (outsAt0 m c 15 last_lt).2.2.2.1).symm)
    fun i => ⟨t0_15, (flush0_9 t0_15).mpr rfl, by
      show i ∈ ((View.whole main_v1_3).slice (win0_9.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

theorem index6 : ∀ t : Fin grid0.N, win0_6.index t 0 = 1 ∧ win0_6.index t 1 = t.val ∧ win0_6.index t 2 = 0 := by decide +kernel

theorem xsize6 : ∀ (t : Fin grid0.N) (a : Fin 3), S2x256x1024.size a = win0_6.xsize (grid0.coords t) a := by decide +kernel

/-- Slots 2 and 3 of the first result are the gradients the kernel wrote. -/
theorem final6 (A : Args m c Z Da B G W) (s : Fin 2) (r : Fin 4096) (e : Fin 1024) :
    (dats m 0 c).arrAt 6 cfg0.N (ValueIdx.ix3 (⟨2 + s.val, by omega⟩ : Fin 5) r e)
      = (((if s.val = 0 then dzu Z (right Z) Da G W B r.val e.val else dzv Z (right Z) Da G W r.val e.val : ℝ)) : EReal) := by
  have ht : r.val / 256 < cfg0.N := by rw [show cfg0.N = 16 from N_0]; have := r.isLt; omega
  have hq : r.val % 256 < 256 := Nat.mod_lt _ (by decide)
  let x : S2x256x1024.Idx := ValueIdx.ix3 s (⟨r.val % 256, hq⟩ : Fin 256) e
  let k : (win0_6.xblock (grid0.coords ⟨r.val / 256, ht⟩)).Idx := fun a => ⟨(x a).val, lt_of_lt_of_eq (x a).isLt (xsize6 _ a)⟩
  have h := congrFun (blocks6 m c ⟨r.val / 256, ht⟩ (flush0_6 _)) k
  rw [flushed6, View.read_apply] at h
  have hv : (((if s.val = 0 then dzu Z (right Z) Da G W B (256 * (r.val / 256) + r.val % 256) e.val
      else dzv Z (right Z) Da G W (256 * (r.val / 256) + r.val % 256) e.val : ℝ)) : EReal)
      = (((if s.val = 0 then dzu Z (right Z) Da G W B r.val e.val else dzv Z (right Z) Da G W r.val e.val : ℝ)) : EReal) := by
    rw [Nat.div_add_mod]
  refine Eq.trans (congrArg _ ?_) (h.trans (Eq.trans (((points A (r.val / 256) ht).dz s (⟨r.val % 256, hq⟩ : Fin 256) e)) hv))
  funext a
  apply Fin.ext
  match a with
  | ⟨0, _⟩ => show 2 + s.val = win0_6.index ⟨r.val / 256, ht⟩ 0 * 2 + 1 * s.val; rw [(index6 _).1]; omega
  | ⟨1, _⟩ => show r.val = win0_6.index ⟨r.val / 256, ht⟩ 1 * 256 + 1 * (r.val % 256); rw [(index6 _).2.1]; show r.val = r.val / 256 * 256 + _; omega
  | ⟨2, _⟩ => show e.val = win0_6.index ⟨r.val / 256, ht⟩ 2 * 1024 + 1 * e.val; rw [(index6 _).2.2]; omega

/-- The other slots of the first result keep the third argument. -/
theorem kept6 (s : Fin 5) (r : Fin 4096) (e : Fin 1024) (hs : s.val < 2 ∨ 4 ≤ s.val) :
    (dats m 0 c).arrAt 6 cfg0.N (ValueIdx.ix3 s r e) = m ((c : Thread nD τ).loc main_arg2) (ValueIdx.ix3 s r e) := by
  rw [entry6 m c (ValueIdx.ix3 s r e) (fun t _ hm => ?_)]
  · exact congrFun (V_main_v1_0 m c) _
  · have hm' : (ValueIdx.ix3 s r e : S5x4096x1024.Idx) ∈ ((View.whole main_v1_0).slice (win0_6.rect t)).set := hm
    rw [View.set_slice_whole, Rect.mem_set_unit] at hm'
    have h0 : win0_6.index t 0 * 2 ≤ s.val ∧ s.val < win0_6.index t 0 * 2 + win0_6.xsize (grid0.coords t) 0 := hm' 0
    rw [(index6 t).1, ← xsize6 t 0] at h0
    have h1 : 1 * 2 ≤ s.val ∧ s.val < 1 * 2 + 2 := h0
    omega

end Cert.Arrays

end
-- ==== Proof.RefNorm.lean ====
/- The reference's values over real arguments, first part: the approximate gelu of both halves, and the row normalisation of the
   value half. Each theorem `rN` says which real numbers the reference's operation N holds. -/
module

public import proofs.«01_k».proof.Proof.Sgu
public import proofs.«01_k».proof.Proof.Gen.ReferenceIdeal.Read

@[expose] public section

noncomputable section

namespace Cert.Ref

open Idealize.ShloMosaic Idealize.ShloMosaic.ValueIdx
open Cert.Reals Cert.Sgu Cert.ReferenceIdeal Cert.ReferenceIdeal.Gen Cert.ReferenceIdeal.Read
open scoped BigOperators

/-! ## Reading at a whole index -/

section generic
variable {φ ψ : FTy} {a b c d : ℕ}

theorem at2 {v : FVec Ideal ⟨2, ![a, b]⟩ φ} {f : ℕ → ℕ → ℝ} (h : Re2 v f) (i : (⟨2, ![a, b]⟩ : Shape).Idx) :
    v i = ((f (i 0).val (i 1).val : ℝ) : EReal) := (congrArg v (eq_ix2 i)).trans (h (i 0) (i 1))

theorem of2 {v : FVec Ideal ⟨2, ![a, b]⟩ φ} {f : ℕ → ℕ → ℝ}
    (h : ∀ i : (⟨2, ![a, b]⟩ : Shape).Idx, v i = ((f (i 0).val (i 1).val : ℝ) : EReal)) : Re2 v f := fun i j => h (ix2 i j)

/-- A sum from zero of real numbers. -/
theorem sum0 {n : ℕ} {z : EReal} {g : Fin n → EReal} {f : Fin n → ℝ} (hz : z = ((0 : ℝ) : EReal)) (h : ∀ k, g k = ((f k : ℝ) : EReal)) :
    z + ∑ k, g k = ((∑ k, f k : ℝ) : EReal) := by
  rw [hz, EReal.coe_zero, zero_add, ← coe_sum]
  exact Finset.sum_congr rfl fun k _ => h k

theorem hostDiv {x y : FVec Ideal ⟨2, ![a, b]⟩ φ} {f g : ℕ → ℕ → ℝ} (hx : Re2 x f) (hy : Re2 y g) (hg : ∀ i j, g i j ≠ 0) :
    Re2 (Host.divf x y) (fun i j => f i j / g i j) := fun i j => by
  show Ideal.div (x _) (y _) = _
  rw [hx, hy, Ideal.div_coe (hg _ _), ← EReal.coe_mul, mul_one_div]

theorem hostTanh {x : FVec Ideal ⟨2, ![a, b]⟩ φ} {f : ℕ → ℕ → ℝ} (hx : Re2 x f) :
    Re2 (Host.tanh x) (fun i j => Real.tanh (f i j)) := Re2.tanh hx

theorem hostRsqrt {x : FVec Ideal ⟨2, ![a, b]⟩ φ} {f : ℕ → ℕ → ℝ} (hx : Re2 x f) (hp : ∀ i j, 0 < f i j) :
    Re2 (Host.rsqrt x) (fun i j => (Real.sqrt (f i j))⁻¹) := Re2.rsqrt hx hp

theorem hostNeg {x : FVec Ideal ⟨2, ![a, b]⟩ φ} {f : ℕ → ℕ → ℝ} (hx : Re2 x f) :
    Re2 (Host.negf x) (fun i j => -f i j) := fun i j => by
  show -(x _) = _
  rw [hx, ← EReal.coe_neg]

/-- The gelu's tanh from its factors. -/
theorem thOf {x K C : FVec Ideal ⟨2, ![a, b]⟩ φ} {f : ℕ → ℕ → ℝ} (hx : Re2 x f) (hK : Re2 K fun _ _ => kR) (hC : Re2 C fun _ _ => cR) :
    Re2 (Host.tanh (mulf K (addf x (mulf C (mulf (mulf x x) x))))) (fun i j => th (f i j)) :=
  Re2.congr (hostTanh (hK.mulf (hx.addf (hC.mulf ((hx.mulf hx).mulf hx))))) fun i j _ _ => by
    unfold th; congr 1; ring

end generic

/-! ## The two halves -/

variable {x0 : (⟨S4096x5120, .bf16⟩ : BufTy).Contents (Elt Ideal)} {x1 : (⟨S4096x1024, .bf16⟩ : BufTy).Contents (Elt Ideal)}
  {x3 : (⟨S1x1024, .f32⟩ : BufTy).Contents (Elt Ideal)} {x4 : (⟨S4x128x128, .f32⟩ : BufTy).Contents (Elt Ideal)}
  {x5 : (⟨S4x128, .f32⟩ : BufTy).Contents (Elt Ideal)}
variable {Z Da B : ℕ → ℕ → ℝ} {G : ℕ → ℝ} {W : ℕ → ℕ → ℕ → ℝ}

/-- The columns of the value half. -/
def rt (Z : ℕ → ℕ → ℝ) (r e : ℕ) : ℝ := Z r (1024 + e)

/-- A number at every place of an array. -/
theorem splat {a b : ℕ} {v : FVec Ideal ⟨2, ![a, b]⟩ .f32} {w : BitVec 32} {r : ℝ} (h : ∀ i, v i = Ideal.ofBits .f32 w)
    (hw : Ideal.ofBits .f32 w = ((r : ℝ) : EReal)) : Re2 v fun _ _ => r := fun i j => (h _).trans hw

theorem r1 (hz : Re2 (φ := .bf16) (a := 4096) (b := 5120) x0 Z) : Re2 (φ := .f32) (a := 4096) (b := 1024) (val_main_v1 x0) Z :=
  Re2.congr (Re2.slice (Re2.extf (ψ := .f32) bitsLt_bf16_f32 hz) 0 0 slices_S4096x5120_S4096x1024_0_0) fun i j _ _ => by
    rw [zero_add, zero_add]
theorem r2 (hz : Re2 (φ := .bf16) (a := 4096) (b := 5120) x0 Z) : Re2 (φ := .f32) (a := 4096) (b := 1024) (val_main_v2 x0) (rt Z) :=
  Re2.congr (Re2.slice (Re2.extf (ψ := .f32) bitsLt_bf16_f32 hz) 0 1024 slices_S4096x5120_S4096x1024_0_1024) fun i j _ _ => by
    rw [zero_add]; rfl

theorem r13 (hz : Re2 (φ := .bf16) (a := 4096) (b := 5120) x0 Z) :
    Re2 (φ := .f32) (a := 4096) (b := 1024) (val_main_v13 x0) (fun i j => th (Z i j)) :=
  thOf (r1 hz) (splat (v := val_main_v11 (F := Ideal)) (fun i => val_main_v11_apply i) ofBits_k) (splat (v := val_main_v8 (F := Ideal)) (fun i => val_main_v8_apply i) ofBits_c)
theorem r34 (hz : Re2 (φ := .bf16) (a := 4096) (b := 5120) x0 Z) :
    Re2 (φ := .f32) (a := 4096) (b := 1024) (val_main_v34 x0) (fun i j => th (rt Z i j)) :=
  thOf (r2 hz) (splat (v := val_main_v32 (F := Ideal)) (fun i => val_main_v32_apply i) ofBits_k) (splat (v := val_main_v29 (F := Ideal)) (fun i => val_main_v29_apply i) ofBits_c)

theorem r7 (hz : Re2 (φ := .bf16) (a := 4096) (b := 5120) x0 Z) :
    Re2 (φ := .f32) (a := 4096) (b := 1024) (val_main_v7 x0) (fun i j => 3 * (Z i j * Z i j)) :=
  Re2.mulf (splat (v := val_main_v6 (F := Ideal)) (fun i => val_main_v6_apply i) ofBits_three) ((r1 hz).mulf (r1 hz))
theorem r28 (hz : Re2 (φ := .bf16) (a := 4096) (b := 5120) x0 Z) :
    Re2 (φ := .f32) (a := 4096) (b := 1024) (val_main_v28 x0) (fun i j => 3 * (rt Z i j * rt Z i j)) :=
  Re2.mulf (splat (v := val_main_v27 (F := Ideal)) (fun i => val_main_v27_apply i) ofBits_three) ((r2 hz).mulf (r2 hz))

theorem r18 (hz : Re2 (φ := .bf16) (a := 4096) (b := 5120) x0 Z) :
    Re2 (φ := .f32) (a := 4096) (b := 1024) (val_main_v18 x0) (fun i j => (1 + th (Z i j)) * (1 - th (Z i j))) :=
  Re2.mulf (Re2.addf (splat (v := val_main_v14 (F := Ideal)) (fun i => val_main_v14_apply i) ofBits_one) (r13 hz))
    (Re2.subf (splat (v := val_main_v16 (F := Ideal)) (fun i => val_main_v16_apply i) ofBits_one) (r13 hz))
theorem r39 (hz : Re2 (φ := .bf16) (a := 4096) (b := 5120) x0 Z) :
    Re2 (φ := .f32) (a := 4096) (b := 1024) (val_main_v39 x0) (fun i j => (1 + th (rt Z i j)) * (1 - th (rt Z i j))) :=
  Re2.mulf (Re2.addf (splat (v := val_main_v35 (F := Ideal)) (fun i => val_main_v35_apply i) ofBits_one) (r34 hz))
    (Re2.subf (splat (v := val_main_v37 (F := Ideal)) (fun i => val_main_v37_apply i) ofBits_one) (r34 hz))

theorem r22 (hz : Re2 (φ := .bf16) (a := 4096) (b := 5120) x0 Z) :
    Re2 (φ := .f32) (a := 4096) (b := 1024) (val_main_v22 x0) (fun i j => cdf (Z i j)) :=
  Re2.congr (Re2.mulf (splat (v := val_main_v21 (F := Ideal)) (fun i => val_main_v21_apply i) ofBits_half)
    (Re2.addf (splat (v := val_main_v19 (F := Ideal)) (fun i => val_main_v19_apply i) ofBits_one) (r13 hz))) fun i j _ _ => by unfold cdf; ring
theorem r43 (hz : Re2 (φ := .bf16) (a := 4096) (b := 5120) x0 Z) :
    Re2 (φ := .f32) (a := 4096) (b := 1024) (val_main_v43 x0) (fun i j => cdf (rt Z i j)) :=
  Re2.congr (Re2.mulf (splat (v := val_main_v42 (F := Ideal)) (fun i => val_main_v42_apply i) ofBits_half)
    (Re2.addf (splat (v := val_main_v40 (F := Ideal)) (fun i => val_main_v40_apply i) ofBits_one) (r34 hz))) fun i j _ _ => by unfold cdf; ring
theorem r23 (hz : Re2 (φ := .bf16) (a := 4096) (b := 5120) x0 Z) :
    Re2 (φ := .f32) (a := 4096) (b := 1024) (val_main_v23 x0) (fun i j => gelu (Z i j)) := (r1 hz).mulf (r22 hz)
theorem r44 (hz : Re2 (φ := .bf16) (a := 4096) (b := 5120) x0 Z) :
    Re2 (φ := .f32) (a := 4096) (b := 1024) (val_main_v44 x0) (fun i j => gelu (rt Z i j)) := (r2 hz).mulf (r43 hz)

/-! ## The normalisation -/

theorem r45 (hz : Re2 (φ := .bf16) (a := 4096) (b := 5120) x0 Z) (i : S4096.Idx) :
    val_main_v45 x0 i = ((∑ k : Fin 1024, gelu (rt Z (i 0).val k.val) : ℝ) : EReal) :=
  (val_main_v45_apply x0 i).trans (sum0 ofBits_zero fun k => at2 (r44 hz) (idx_main_v45 i k))
theorem r48 (hz : Re2 (φ := .bf16) (a := 4096) (b := 5120) x0 Z) :
    Re2 (φ := .f32) (a := 4096) (b := 1) (val_main_v48 x0) (fun i _ => (∑ k : Fin 1024, gelu (rt Z i k.val)) / 1024) :=
  hostDiv (of2 (v := val_main_v46 x0) (f := fun i _ => ∑ k : Fin 1024, gelu (rt Z i k.val))
      fun i => (val_main_v46_apply x0 i).trans (r45 hz _))
    (splat (v := val_main_v47 (F := Ideal)) (fun i => val_main_v47_apply i) ofBits_1024) fun _ _ => by norm_num
theorem r50 (hz : Re2 (φ := .bf16) (a := 4096) (b := 5120) x0 Z) :
    Re2 (φ := .f32) (a := 4096) (b := 1024) (val_main_v50 x0) (xc (rt Z)) :=
  Re2.subf (r44 hz) (of2 (v := val_main_v49 x0) (f := fun i _ => (∑ k : Fin 1024, gelu (rt Z i k.val)) / 1024)
    fun i => (val_main_v49_apply x0 i).trans (at2 (r48 hz) _))
theorem r52 (hz : Re2 (φ := .bf16) (a := 4096) (b := 5120) x0 Z) (i : S4096.Idx) :
    val_main_v52 x0 i = ((∑ k : Fin 1024, xc (rt Z) (i 0).val k.val * xc (rt Z) (i 0).val k.val : ℝ) : EReal) :=
  (val_main_v52_apply x0 i).trans (sum0 ofBits_zero fun k => at2 ((r50 hz).mulf (r50 hz)) (idx_main_v52 i k))
theorem r57 (hz : Re2 (φ := .bf16) (a := 4096) (b := 5120) x0 Z) :
    Re2 (φ := .f32) (a := 4096) (b := 1) (val_main_v57 x0) (fun i _ => vareps (rt Z) i) :=
  Re2.addf (hostDiv (of2 (v := val_main_v53 x0) (f := fun i _ => ∑ k : Fin 1024, xc (rt Z) i k.val * xc (rt Z) i k.val)
      fun i => (val_main_v53_apply x0 i).trans (r52 hz _))
    (splat (v := val_main_v54 (F := Ideal)) (fun i => val_main_v54_apply i) ofBits_1024) fun _ _ => by norm_num)
    (splat (v := val_main_v56 (F := Ideal)) (fun i => val_main_v56_apply i) ofBits_eps)
theorem r58 (hz : Re2 (φ := .bf16) (a := 4096) (b := 5120) x0 Z) :
    Re2 (φ := .f32) (a := 4096) (b := 1) (val_main_v58 x0) (fun i _ => rs (rt Z) i) :=
  hostRsqrt (r57 hz) fun i _ => vareps_pos _ i
theorem r61 (hz : Re2 (φ := .bf16) (a := 4096) (b := 5120) x0 Z) :
    Re2 (φ := .f32) (a := 4096) (b := 1) (val_main_v61 x0) (fun i _ => -(1 / 2) * (rs (rt Z) i / vareps (rt Z) i)) :=
  Re2.mulf (splat (v := val_main_v60 (F := Ideal)) (fun i => val_main_v60_apply i) ofBits_neg_half)
    (hostDiv (r58 hz) (r57 hz) fun i _ => (vareps_pos _ i).ne')
theorem r63 (hz : Re2 (φ := .bf16) (a := 4096) (b := 5120) x0 Z) :
    Re2 (φ := .f32) (a := 4096) (b := 1024) (val_main_v63 x0) (vh (rt Z)) :=
  Re2.mulf (r50 hz) (of2 (v := val_main_v62 x0) (f := fun i _ => rs (rt Z) i) fun i => (val_main_v62_apply x0 i).trans (at2 (r58 hz) _))
theorem r64 (hg : Re2 (φ := .f32) (a := 1) (b := 1024) x3 fun _ j => G j) :
    Re2 (φ := .f32) (a := 4096) (b := 1024) (val_main_v64 x3) (fun _ j => G j) :=
  of2 (v := val_main_v64 x3) (f := fun _ j => G j) fun i => (val_main_v64_apply x3 i).trans (at2 hg _)
theorem r65 (hz : Re2 (φ := .bf16) (a := 4096) (b := 5120) x0 Z) (hg : Re2 (φ := .f32) (a := 1) (b := 1024) x3 fun _ j => G j) :
    Re2 (φ := .f32) (a := 4096) (b := 1024) (val_main_v65 x0 x3) (vn (rt Z) G) := (r63 hz).mulf (r64 hg)

end Cert.Ref

end
-- ==== Proof.RefMix.lean ====
/- The reference's values over real arguments, second part: the mixing of the tokens of one chunk, its transpose, and the
   gradients of the mixing weights, of their bias and of the normalisation's factor. -/
module

public import proofs.«01_k».proof.Proof.RefNorm
public import Idealize.ShloMosaic.Lib.TwoAxisContraction
public import Idealize.ShloMosaic.Lib.WordCmp
public import Idealize.ShloMosaic.Lib.Pointwise.Reduce

@[expose] public section

noncomputable section

namespace Cert.Ref

open Idealize.ShloMosaic Idealize.ShloMosaic.ValueIdx
open Cert.Reals Cert.Sgu Cert.ReferenceIdeal Cert.ReferenceIdeal.Gen Cert.ReferenceIdeal.Read
open scoped BigOperators

variable {x0 : (⟨S4096x5120, .bf16⟩ : BufTy).Contents (Elt Ideal)} {x1 : (⟨S4096x1024, .bf16⟩ : BufTy).Contents (Elt Ideal)}
  {x3 : (⟨S1x1024, .f32⟩ : BufTy).Contents (Elt Ideal)} {x4 : (⟨S4x128x128, .f32⟩ : BufTy).Contents (Elt Ideal)}
  {x5 : (⟨S4x128, .f32⟩ : BufTy).Contents (Elt Ideal)}
variable {Z Da B : ℕ → ℕ → ℝ} {G : ℕ → ℝ} {W : ℕ → ℕ → ℕ → ℝ}

theorem at3 {φ : FTy} {a b c : ℕ} {v : FVec Ideal ⟨3, ![a, b, c]⟩ φ} {f : ℕ → ℕ → ℕ → ℝ} (h : Re3 v f) (i : (⟨3, ![a, b, c]⟩ : Shape).Idx) :
    v i = ((f (i 0).val (i 1).val (i 2).val : ℝ) : EReal) := (congrArg v (ValueIdx.eq_ix3 i)).trans (h (i 0) (i 1) (i 2))

/-- A product of two real numbers in the extended reals. -/
theorem mul2 {x y : EReal} {p q : ℝ} (hx : x = ((p : ℝ) : EReal)) (hy : y = ((q : ℝ) : EReal)) : x * y = ((p * q : ℝ) : EReal) := by
  rw [hx, hy, EReal.coe_mul]

theorem sel_one {α : Type} {b : BitVec 1} (h : b = 1#1) (x y : α) : Scalar.select b x y = x := if_pos h
theorem sel_ne {α : Type} {b : BitVec 1} (h : ¬b = 1#1) (x y : α) : Scalar.select b x y = y := if_neg h

/-! ## The causal weights -/

theorem mask (i : S4x128x128.Idx) : val_main_v70_1 (F := Ideal) i = 1#1 ↔ (i 2).val ≤ (i 1).val := by
  have h1 : (i 1).val < 128 := (i 1).isLt
  have h2 : (i 2).val < 128 := (i 2).isLt
  rw [val_main_v70_1_apply, val_main_v69_apply, val_main_v68_apply]
  have hc : ∀ j : S128x128.Idx, val_main_call0_v4 (F := Ideal) j = 1#1 ↔ (j 1).val ≤ (j 0).val := fun j => by
    have h0 : (j 0).val < 128 := (j 0).isLt
    have h1 : (j 1).val < 128 := (j 1).isLt
    rw [val_main_call0_v4_apply, val_main_call0_v2_apply, val_main_call0_v1_apply, val_main_call0_v3_apply]
    have e : IntOp.addi (val_main_call0_v0 (F := Ideal) j) (val_main_call0_c (F := Ideal) (idx_main_call0_v1 j)) = BitVec.ofNat 32 (j 0).val := by
      show BitVec.ofNat 32 (j 0).val + 0#32 = _
      simp
    rw [e]
    exact WordCmp.cmpi_sge_ofNat_eq_one_iff (by omega) (by omega)
  have ht : ∀ j, val_main_v67 (F := Ideal) j = 1#1 := fun j => (val_main_v67_apply j).trans rfl
  have hf : ∀ j, val_main_call0_v5 (F := Ideal) j = 0#1 := fun j => (val_main_call0_v5_apply j).trans rfl
  rw [ht, hf]
  have hi := hc (idx_main_v69 (idx_main_v70_1 i))
  by_cases h : (i 2).val ≤ (i 1).val
  · rw [sel_one (hi.2 h)]; simp [h]
  · rw [sel_ne fun e => h (hi.1 e)]; simp [h]

/-- A choice by the causal mask. -/
theorem pick {x y : EReal} (i : S4x128x128.Idx) {p : ℝ} (hx : x = ((p : ℝ) : EReal)) (hy : y = ((0 : ℝ) : EReal)) :
    Scalar.select (val_main_v70_1 (F := Ideal) i) x y = ((if (i 2).val ≤ (i 1).val then p else 0 : ℝ) : EReal) := by
  by_cases h : (i 2).val ≤ (i 1).val
  · rw [sel_one ((mask i).2 h), if_pos h, hx]
  · rw [sel_ne fun e => h ((mask i).1 e), if_neg h, hy]

theorem r70 (hw : Re3 (φ := .f32) (a := 4) (b := 128) (c := 128) x4 W) (i : S4x128x128.Idx) :
    val_main_v70_0 x4 i = ((wm W (i 0).val (i 1).val (i 2).val : ℝ) : EReal) :=
  (val_main_v70_0_apply x4 i).trans (pick i (at3 hw i) ((val_main_call1_v2_apply i).trans ofBits_zero))

/-! ## Mixing -/

theorem r66 (hz : Re2 (φ := .bf16) (a := 4096) (b := 5120) x0 Z) (hg : Re2 (φ := .f32) (a := 1) (b := 1024) x3 fun _ j => G j)
    (i : S32x128x4x256.Idx) :
    val_main_v66 x0 x3 i = ((vn (rt Z) G (128 * (i 0).val + (i 1).val) (256 * (i 2).val + (i 3).val) : ℝ) : EReal) := by
  have h1 : (i 1).val < 128 := (i 1).isLt
  have h2 : (i 2).val < 4 := (i 2).isLt
  have h3 : (i 3).val < 256 := (i 3).isLt
  rw [val_main_v66_apply, at2 (r65 hz hg)]
  have e0 : (idx_main_v66 i 0).val = 128 * (i 0).val + (i 1).val := by
    show ((((i 0).val * 128 + (i 1).val) * 4 + (i 2).val) * 256 + (i 3).val) / 1024 = _
    omega
  have e1 : (idx_main_v66 i 1).val = 256 * (i 2).val + (i 3).val := by
    show ((((i 0).val * 128 + (i 1).val) * 4 + (i 2).val) * 256 + (i 3).val) % 1024 = _
    omega
  rw [e0, e1]

theorem r77 (hz : Re2 (φ := .bf16) (a := 4096) (b := 5120) x0 Z) (hg : Re2 (φ := .f32) (a := 1) (b := 1024) x3 fun _ j => G j)
    (hw : Re3 (φ := .f32) (a := 4) (b := 128) (c := 128) x4 W) (hb : Re2 (φ := .f32) (a := 4) (b := 128) x5 B) (i : S32x128x4x256.Idx) :
    val_main_v77 x0 x3 x4 x5 i = (((∑ s : Fin 128, wm W (i 2).val (i 1).val s.val * vn (rt Z) G (128 * (i 0).val + s.val) (256 * (i 2).val + (i 3).val))
      + B (i 2).val (i 1).val : ℝ) : EReal) := by
  have e : val_main_v72 x0 x3 x4 i
      = ((∑ s : Fin 128, wm W (i 2).val (i 1).val s.val * vn (rt Z) G (128 * (i 0).val + s.val) (256 * (i 2).val + (i 3).val) : ℝ) : EReal) := by
    rw [val_main_v72_apply, val_main_v71_apply, ← coe_sum]
    refine Finset.sum_congr rfl fun s _ => ?_
    refine (mul2 (r66 hz hg _) (r70 hw _)).trans ?_
    exact congrArg _ (mul_comm _ _)
  have f : val_main_v76 x5 i = ((B (i 2).val (i 1).val : ℝ) : EReal) := by
    rw [val_main_v76_apply, val_main_v75_apply, val_main_v74_apply, val_main_v73_apply]
    exact at2 hb _
  rw [val_main_v77_apply, e, f, EReal.coe_add]
  rfl

theorem r78 (hz : Re2 (φ := .bf16) (a := 4096) (b := 5120) x0 Z) (hg : Re2 (φ := .f32) (a := 1) (b := 1024) x3 fun _ j => G j)
    (hw : Re3 (φ := .f32) (a := 4) (b := 128) (c := 128) x4 W) (hb : Re2 (φ := .f32) (a := 4) (b := 128) x5 B) :
    Re2 (φ := .f32) (a := 4096) (b := 1024) (val_main_v78 x0 x3 x4 x5) (sv (rt Z) G W B) :=
  of2 (v := val_main_v78 x0 x3 x4 x5) fun i => by
    have h1 : (i 1).val < 1024 := (i 1).isLt
    rw [val_main_v78_apply, r77 hz hg hw hb]
    have e0 : (idx_main_v78 i 0).val = (i 0).val / 128 := by
      show ((i 0).val * 1024 + (i 1).val) / 131072 = _
      omega
    have e1 : (idx_main_v78 i 1).val = (i 0).val % 128 := by
      show ((i 0).val * 1024 + (i 1).val) / 1024 % 128 = _
      omega
    have e2 : (idx_main_v78 i 2).val = (i 1).val / 256 := by
      show ((i 0).val * 1024 + (i 1).val) / 256 % 4 = _
      omega
    have e3 : 256 * ((i 1).val / 256) + (idx_main_v78 i 3).val = (i 1).val := by
      show 256 * ((i 1).val / 256) + ((i 0).val * 1024 + (i 1).val) % 256 = _
      omega
    rw [e0, e1, e2, e3]
    rfl

/-! ## The gradients through the mixing -/

theorem r80 (hd : Re2 (φ := .bf16) (a := 4096) (b := 1024) x1 Da) : Re2 (φ := .f32) (a := 4096) (b := 1024) (val_main_v80 x1) Da :=
  Re2.extf (ψ := .f32) bitsLt_bf16_f32 hd
theorem r81 (hz : Re2 (φ := .bf16) (a := 4096) (b := 5120) x0 Z) (hd : Re2 (φ := .bf16) (a := 4096) (b := 1024) x1 Da) :
    Re2 (φ := .f32) (a := 4096) (b := 1024) (val_main_v81 x0 x1) (dsv Z Da) :=
  Re2.congr ((r23 hz).mulf (r80 hd)) fun i j _ _ => mul_comm _ _

theorem r83 (hz : Re2 (φ := .bf16) (a := 4096) (b := 5120) x0 Z) (hd : Re2 (φ := .bf16) (a := 4096) (b := 1024) x1 Da)
    (i : S32x128x4x256.Idx) :
    val_main_v83 x0 x1 i = ((dsv Z Da (128 * (i 0).val + (i 1).val) (256 * (i 2).val + (i 3).val) : ℝ) : EReal) := by
  have h1 : (i 1).val < 128 := (i 1).isLt
  have h2 : (i 2).val < 4 := (i 2).isLt
  have h3 : (i 3).val < 256 := (i 3).isLt
  rw [val_main_v83_apply, at2 (r81 hz hd)]
  have e0 : (idx_main_v83 i 0).val = 128 * (i 0).val + (i 1).val := by
    show ((((i 0).val * 128 + (i 1).val) * 4 + (i 2).val) * 256 + (i 3).val) / 1024 = _
    omega
  have e1 : (idx_main_v83 i 1).val = 256 * (i 2).val + (i 3).val := by
    show ((((i 0).val * 128 + (i 1).val) * 4 + (i 2).val) * 256 + (i 3).val) % 1024 = _
    omega
  rw [e0, e1]

/-- A sum over the first and the last axis. -/
theorem sumOuter {n0 n1 n2 n3 : ℕ} (h : (⟨4, ![n0, n1, n2, n3]⟩ : Shape).ReducesTo [0, 3] ⟨2, ![n1, n2]⟩)
    (x : (⟨4, ![n0, n1, n2, n3]⟩ : Shape).Idx → EReal) (z : EReal) (j : (⟨2, ![n1, n2]⟩ : Shape).Idx) :
    Ideal.hostReduceAdd h x z j = z + ∑ p : Fin n0 × Fin n3, x (ValueIdx.ix4 p.1 (j 0) (j 1) p.2) := by
  unfold Ideal.hostReduceAdd
  refine congrArg (z + ·) (Finset.sum_filter_eq_sum_of_fiber _ (fun p : Fin n0 × Fin n3 => (ValueIdx.ix4 p.1 (j 0) (j 1) p.2 : (⟨4, ![n0, n1, n2, n3]⟩ : Shape).Idx)) ?_ ?_ x)
  · intro p q e
    exact Prod.ext (congrFun e 0) (congrFun e 3)
  · intro i
    constructor
    · rintro rfl
      refine ⟨(i 0, i 3), ?_⟩
      funext a
      match a with
      | ⟨0, _⟩ => rfl
      | ⟨1, _⟩ => rfl
      | ⟨2, _⟩ => rfl
      | ⟨3, _⟩ => rfl
    · rintro ⟨p, rfl⟩
      funext b
      match b with
      | ⟨0, _⟩ => rfl
      | ⟨1, _⟩ => rfl

theorem r84 (hz : Re2 (φ := .bf16) (a := 4096) (b := 5120) x0 Z) (hd : Re2 (φ := .bf16) (a := 4096) (b := 1024) x1 Da) (i : S128x4.Idx) :
    val_main_v84 x0 x1 i = ((dbSum Z Da 32 (i 1).val (i 0).val : ℝ) : EReal) := by
  unfold val_main_v84
  simp only [Host.reduceAdd, Ideal.hostReduceAdd_def]
  rw [show val_main_cst_20 (F := Ideal) (Shape.Idx.first h_S_) = ((0 : ℝ) : EReal) from ofBits_zero, EReal.coe_zero]
  refine (sumOuter reducesTo_S32x128x4x256_S128x4_d0_3 (val_main_v83 x0 x1) 0 i).trans ?_
  rw [zero_add, Finset.sum_congr rfl fun p _ => r83 hz hd _, coe_sum, Fintype.sum_prod_type, Finset.sum_comm]
  unfold dbSum dsvSum
  refine congrArg _ (Finset.sum_congr rfl fun d _ => ?_)
  rw [Finset.sum_range]

theorem r89 (hz : Re2 (φ := .bf16) (a := 4096) (b := 5120) x0 Z) (hd : Re2 (φ := .bf16) (a := 4096) (b := 1024) x1 Da) (i : S4x128.Idx) :
    val_main_v89 x0 x1 i = ((dbSum Z Da 32 (i 0).val (i 1).val : ℝ) : EReal) := by
  have e86 : ∀ j : S128x4.Idx, val_main_v86 x0 x1 j = ((dbSum Z Da 32 (j 1).val (j 0).val : ℝ) : EReal) := fun j => by
    have h0 : (j 0).val < 128 := (j 0).isLt
    have h1 : (j 1).val < 4 := (j 1).isLt
    unfold val_main_v86
    simp only [Host.reduceAdd, Ideal.hostReduceAdd_def]
    rw [show val_main_cst_21 (F := Ideal) (Shape.Idx.first h_S_) = ((0 : ℝ) : EReal) from ofBits_zero, EReal.coe_zero]
    refine (sumOuter reducesTo_S1x128x4x1_S128x4_d0_3 (val_main_v85 x0 x1) 0 j).trans ?_
    rw [zero_add, Fintype.sum_prod_type, Fin.sum_univ_one, Fin.sum_univ_one, val_main_v85_apply, r84 hz hd]
    have e0 : (idx_main_v85 (ValueIdx.ix4 (0 : Fin 1) (j 0) (j 1) (0 : Fin 1)) 0).val = (j 0).val := by
      show (((0 * 128 + (j 0).val) * 4 + (j 1).val) * 1 + 0) / 4 = _
      omega
    have e1 : (idx_main_v85 (ValueIdx.ix4 (0 : Fin 1) (j 0) (j 1) (0 : Fin 1)) 1).val = (j 1).val := by
      show (((0 * 128 + (j 0).val) * 4 + (j 1).val) * 1 + 0) % 4 = _
      omega
    exact congrArg _ (congrArg₂ (dbSum Z Da 32) e1 e0)
  rw [val_main_v89_apply, val_main_v88_apply, Fin.sum_univ_one, val_main_v87_apply, e86,
    show val_main_cst_22 (F := Ideal) (Shape.Idx.first h_S_) = ((0 : ℝ) : EReal) from ofBits_zero, EReal.coe_zero, zero_add]

theorem r90 (hz : Re2 (φ := .bf16) (a := 4096) (b := 5120) x0 Z) (hd : Re2 (φ := .bf16) (a := 4096) (b := 1024) x1 Da)
    (i : S4x32x256x128.Idx) :
    val_main_v90 x0 x1 i = ((dsv Z Da (128 * (i 1).val + (i 3).val) (256 * (i 0).val + (i 2).val) : ℝ) : EReal) :=
  (val_main_v90_apply x0 x1 i).trans (r83 hz hd _)

theorem r91 (hz : Re2 (φ := .bf16) (a := 4096) (b := 5120) x0 Z) (hg : Re2 (φ := .f32) (a := 1) (b := 1024) x3 fun _ j => G j)
    (hd : Re2 (φ := .bf16) (a := 4096) (b := 1024) x1 Da) (i : S4x128x128.Idx) :
    val_main_v91 x0 x1 x3 i = ((dwSum Z (rt Z) Da G 32 (i 0).val (i 1).val (i 2).val : ℝ) : EReal) := by
  unfold val_main_v91
  simp only [Host.dotGeneral]
  rw [Ideal.dotGeneral_apply, sum_contr2 dot_S4x32x256x128_S32x128x4x256_S4x128x128_12_03_3_1_0_2 32 256 rfl rfl rfl]
  unfold dwSum
  rw [Finset.sum_range, ← coe_sum]
  refine Finset.sum_congr rfl fun c _ => ?_
  unfold dwOne
  rw [← coe_sum]
  refine Finset.sum_congr rfl fun d _ => ?_
  have k0 := contrEquiv2_symm_val0 dot_S4x32x256x128_S32x128x4x256_S4x128x128_12_03_3_1_0_2 32 256 rfl rfl rfl (c, d)
  have k1 := contrEquiv2_symm_val1 dot_S4x32x256x128_S32x128x4x256_S4x128x128_12_03_3_1_0_2 32 256 rfl rfl rfl (c, d)
  generalize (contrEquiv2 dot_S4x32x256x128_S32x128x4x256_S4x128x128_12_03_3_1_0_2 32 256 rfl rfl rfl).symm (c, d) = q at k0 k1 ⊢
  have l0 : (dot_S4x32x256x128_S32x128x4x256_S4x128x128_12_03_3_1_0_2.lhsIdx i q 0).val = (i 0).val := by
    unfold DotDims.lhsIdx; rw [dif_pos (by decide)]; rfl
  have l1 : (dot_S4x32x256x128_S32x128x4x256_S4x128x128_12_03_3_1_0_2.lhsIdx i q 1).val = c.val := by
    unfold DotDims.lhsIdx; rw [dif_neg (by decide), dif_neg (by decide)]; exact k0
  have l2 : (dot_S4x32x256x128_S32x128x4x256_S4x128x128_12_03_3_1_0_2.lhsIdx i q 2).val = d.val := by
    unfold DotDims.lhsIdx; rw [dif_neg (by decide), dif_neg (by decide)]; exact k1
  have l3 : (dot_S4x32x256x128_S32x128x4x256_S4x128x128_12_03_3_1_0_2.lhsIdx i q 3).val = (i 1).val := by
    unfold DotDims.lhsIdx; rw [dif_neg (by decide), dif_pos (by decide)]; rfl
  have t0 : (dot_S4x32x256x128_S32x128x4x256_S4x128x128_12_03_3_1_0_2.rhsIdx i q 0).val = c.val := by
    unfold DotDims.rhsIdx; rw [dif_neg (by decide), dif_neg (by decide)]; exact k0
  have t1 : (dot_S4x32x256x128_S32x128x4x256_S4x128x128_12_03_3_1_0_2.rhsIdx i q 1).val = (i 2).val := by
    unfold DotDims.rhsIdx; rw [dif_neg (by decide), dif_pos (by decide)]; rfl
  have t2 : (dot_S4x32x256x128_S32x128x4x256_S4x128x128_12_03_3_1_0_2.rhsIdx i q 2).val = (i 0).val := by
    unfold DotDims.rhsIdx; rw [dif_pos (by decide)]; rfl
  have t3 : (dot_S4x32x256x128_S32x128x4x256_S4x128x128_12_03_3_1_0_2.rhsIdx i q 3).val = d.val := by
    unfold DotDims.rhsIdx; rw [dif_neg (by decide), dif_neg (by decide)]; exact k1
  rw [mul2 (r90 hz hd _) (r66 hz hg _), l0, l1, l2, l3, t0, t1, t2, t3]

theorem r94 (hz : Re2 (φ := .bf16) (a := 4096) (b := 5120) x0 Z) (hg : Re2 (φ := .f32) (a := 1) (b := 1024) x3 fun _ j => G j)
    (hd : Re2 (φ := .bf16) (a := 4096) (b := 1024) x1 Da) (i : S4x128x128.Idx) :
    val_main_v94 x0 x1 x3 i = ((if (i 2).val ≤ (i 1).val then dwSum Z (rt Z) Da G 32 (i 0).val (i 1).val (i 2).val else 0 : ℝ) : EReal) :=
  (val_main_v94_apply x0 x1 x3 i).trans (pick i (r91 hz hg hd i) ((val_main_call2_v0_apply i).trans ofBits_zero))

theorem r95 (hz : Re2 (φ := .bf16) (a := 4096) (b := 5120) x0 Z) (hd : Re2 (φ := .bf16) (a := 4096) (b := 1024) x1 Da)
    (hw : Re3 (φ := .f32) (a := 4) (b := 128) (c := 128) x4 W) :
    Re2 (φ := .f32) (a := 4096) (b := 1024) (val_main_v95 x0 x1 x4) (dvn Z Da W) :=
  of2 (v := val_main_v95 x0 x1 x4) fun i => by
    have h1 : (i 1).val < 1024 := (i 1).isLt
    have e93 : ∀ j : S32x128x4x256.Idx, val_main_v93 x0 x1 x4 j
        = ((∑ t : Fin 128, wm W (j 2).val t.val (j 1).val * dsv Z Da (128 * (j 0).val + t.val) (256 * (j 2).val + (j 3).val) : ℝ) : EReal) := fun j => by
      rw [val_main_v93_apply, val_main_v92_apply, ← coe_sum]
      refine Finset.sum_congr rfl fun s _ => ?_
      refine (mul2 (r90 hz hd _) (r70 hw _)).trans ?_
      exact congrArg _ (mul_comm _ _)
    rw [val_main_v95_apply, e93]
    have e0 : (idx_main_v95 i 0).val = (i 0).val / 128 := by
      show ((i 0).val * 1024 + (i 1).val) / 131072 = _
      omega
    have e1 : (idx_main_v95 i 1).val = (i 0).val % 128 := by
      show ((i 0).val * 1024 + (i 1).val) / 1024 % 128 = _
      omega
    have e2 : (idx_main_v95 i 2).val = (i 1).val / 256 := by
      show ((i 0).val * 1024 + (i 1).val) / 256 % 4 = _
      omega
    have e3 : 256 * ((i 1).val / 256) + (idx_main_v95 i 3).val = (i 1).val := by
      show 256 * ((i 1).val / 256) + ((i 0).val * 1024 + (i 1).val) % 256 = _
      omega
    rw [e0, e1, e2, e3]
    rfl

theorem r98 (hz : Re2 (φ := .bf16) (a := 4096) (b := 5120) x0 Z) (hd : Re2 (φ := .bf16) (a := 4096) (b := 1024) x1 Da)
    (hw : Re3 (φ := .f32) (a := 4) (b := 128) (c := 128) x4 W) (i : S1x1024.Idx) :
    val_main_v98 x0 x1 x4 i = ((dngSum Z (rt Z) Da W 4096 (i 1).val : ℝ) : EReal) := by
  have h0 : (i 0).val < 1 := (i 0).isLt
  rw [val_main_v98_apply, val_main_v97_apply]
  refine (sum0 ofBits_zero fun k => at2 ((r63 hz).mulf (r95 hz hd hw)) _).trans ?_
  unfold dngSum
  rw [Finset.sum_range]
  refine congrArg _ (Finset.sum_congr rfl fun k _ => ?_)
  have e1 : (idx_main_v98 i 0).val = (i 1).val := by
    first
      | (show (i 0).val * 1024 + (i 1).val = _; omega)
      | (show ((i 0).val * 1024 + (i 1).val) % 1024 = _; have := (i 1).isLt; omega)
      | rfl
  show vh (rt Z) k.val (idx_main_v98 i 0).val * dvn Z Da W k.val (idx_main_v98 i 0).val = _
  rw [e1, mul_comm]

theorem r159 (hz : Re2 (φ := .bf16) (a := 4096) (b := 5120) x0 Z) (hd : Re2 (φ := .bf16) (a := 4096) (b := 1024) x1 Da)
    (i : S4x128x128.Idx) : val_main_v159 x0 x1 i = ((dbSum Z Da 32 (i 0).val (i 1).val : ℝ) : EReal) := by
  rw [val_main_v159_apply, val_main_v158_apply, r89 hz hd]

end Cert.Ref

end
-- ==== Proof.RefGrad.lean ====
/- The reference's values over real arguments, last part: the gradients of the two halves, through the normalisation and the
   approximate gelu, and their places in the output array. -/
module

public import proofs.«01_k».proof.Proof.RefMix

@[expose] public section

noncomputable section

namespace Cert.Ref

open Idealize.ShloMosaic Idealize.ShloMosaic.ValueIdx
open Cert.Reals Cert.Sgu Cert.ReferenceIdeal Cert.ReferenceIdeal.Gen Cert.ReferenceIdeal.Read
open scoped BigOperators

variable {x0 : (⟨S4096x5120, .bf16⟩ : BufTy).Contents (Elt Ideal)} {x1 : (⟨S4096x1024, .bf16⟩ : BufTy).Contents (Elt Ideal)}
  {x2 : (⟨S5x4096x1024, .bf16⟩ : BufTy).Contents (Elt Ideal)}
  {x3 : (⟨S1x1024, .f32⟩ : BufTy).Contents (Elt Ideal)} {x4 : (⟨S4x128x128, .f32⟩ : BufTy).Contents (Elt Ideal)}
  {x5 : (⟨S4x128, .f32⟩ : BufTy).Contents (Elt Ideal)}
variable {Z Da B : ℕ → ℕ → ℝ} {G : ℕ → ℝ} {W : ℕ → ℕ → ℕ → ℝ}

/-! ## The mathematics -/

theorem rs_sq (zv : ℕ → ℕ → ℝ) (r : ℕ) : rs zv r * rs zv r * vareps zv r = 1 := by
  have h := vareps_pos zv r
  have hs : Real.sqrt (vareps zv r) ≠ 0 := (Real.sqrt_pos.mpr h).ne'
  have e : Real.sqrt (vareps zv r) * Real.sqrt (vareps zv r) = vareps zv r := Real.mul_self_sqrt h.le
  unfold rs
  calc _ = (Real.sqrt (vareps zv r))⁻¹ * (Real.sqrt (vareps zv r))⁻¹ * (Real.sqrt (vareps zv r) * Real.sqrt (vareps zv r)) := by rw [e]
    _ = 1 := by field_simp

theorem sum_xc (zv : ℕ → ℕ → ℝ) (r : ℕ) : ∑ k : Fin 1024, xc zv r k.val = 0 := by
  unfold xc
  rw [Finset.sum_sub_distrib, Finset.sum_const, Finset.card_univ, Fintype.card_fin, nsmul_eq_mul]
  push_cast
  ring

/-- The step the normalisation's backward takes through the variance. -/
def tv (zu zv da : ℕ → ℕ → ℝ) (g : ℕ → ℝ) (w : ℕ → ℕ → ℕ → ℝ) (r : ℕ) : ℝ :=
  (∑ k : Fin 1024, xc zv r k.val * (dvn zu da w r k.val * g k.val)) * (-(1 / 2) * (rs zv r / vareps zv r)) / 1024

/-- The gradient of a row less its mean. -/
def dxc (zu zv da : ℕ → ℕ → ℝ) (g : ℕ → ℝ) (w : ℕ → ℕ → ℕ → ℝ) (r e : ℕ) : ℝ :=
  dvn zu da w r e * g e * rs zv r + xc zv r e * tv zu zv da g w r + tv zu zv da g w r * xc zv r e

theorem dv_eq (zu zv da : ℕ → ℕ → ℝ) (g : ℕ → ℝ) (w : ℕ → ℕ → ℕ → ℝ) (r e : ℕ) :
    dxc zu zv da g w r e + (∑ k : Fin 1024, -dxc zu zv da g w r k.val) / 1024 = dv zu zv da g w r e := by
  have hv := (vareps_pos zv r).ne'
  have hx := sum_xc zv r
  have hq : rs zv r / vareps zv r = rs zv r * (rs zv r * rs zv r) := by
    rw [div_eq_iff hv, mul_assoc, rs_sq, mul_one]
  have hm : ∑ k : Fin 1024, -dxc zu zv da g w r k.val = -(rs zv r * ∑ k : Fin 1024, dvh zu da g w r k.val) := by
    rw [Finset.sum_neg_distrib, Finset.mul_sum]
    have : ∑ k : Fin 1024, dxc zu zv da g w r k.val
        = ∑ k : Fin 1024, rs zv r * dvh zu da g w r k.val + 2 * tv zu zv da g w r * ∑ k : Fin 1024, xc zv r k.val := by
      rw [Finset.mul_sum, ← Finset.sum_add_distrib]
      refine Finset.sum_congr rfl fun k _ => ?_
      unfold dxc dvh; ring
    rw [this, hx, mul_zero, add_zero]
  have hs : ∑ k : Fin 1024, dvh zu da g w r k.val * vh zv r k.val
      = rs zv r * ∑ k : Fin 1024, xc zv r k.val * (dvn zu da w r k.val * g k.val) := by
    rw [Finset.mul_sum]
    refine Finset.sum_congr rfl fun k _ => ?_
    unfold dvh vh; ring
  rw [hm]
  unfold dv
  rw [hs]
  unfold dxc tv dvh vh
  rw [hq]
  ring

/-! ## The normalisation's gradient -/

section norm
variable (hz : Re2 (φ := .bf16) (a := 4096) (b := 5120) x0 Z) (hd : Re2 (φ := .bf16) (a := 4096) (b := 1024) x1 Da)
  (hg : Re2 (φ := .f32) (a := 1) (b := 1024) x3 fun _ j => G j) (hw : Re3 (φ := .f32) (a := 4) (b := 128) (c := 128) x4 W)
include hz hd hg hw

theorem r100 : Re2 (φ := .f32) (a := 4096) (b := 1024) (val_main_v100 x0 x1 x3 x4) (fun r e => dvn Z Da W r e * G e) :=
  Re2.mulf (r95 hz hd hw) (of2 (v := val_main_v99 x3) (f := fun _ j => G j) fun i => (val_main_v99_apply x3 i).trans (at2 hg _))

theorem r106 : Re2 (φ := .f32) (a := 4096) (b := 1) (val_main_v106 x0 x1 x3 x4)
    (fun r _ => (∑ k : Fin 1024, xc (rt Z) r k.val * (dvn Z Da W r k.val * G k.val)) * (-(1 / 2) * (rs (rt Z) r / vareps (rt Z) r))) := by
  refine Re2.mulf (of2 (v := val_main_v103 x0 x1 x3 x4)
    (f := fun r _ => ∑ k : Fin 1024, xc (rt Z) r k.val * (dvn Z Da W r k.val * G k.val)) fun i => ?_) (r61 hz)
  have h1 : (i 1).val < 1 := (i 1).isLt
  have e : (idx_main_v103 i 0).val = (i 0).val := by
    first
      | rfl
      | (show (i 0).val * 1 + (i 1).val = _; omega)
      | (show ((i 0).val * 1 + (i 1).val) % 4096 = _; have := (i 0).isLt; omega)
  rw [val_main_v103_apply, val_main_v102_apply]
  refine (sum0 ofBits_zero fun k => at2 ((r50 hz).mulf (r100 hz hd hg hw)) _).trans ?_
  show ((∑ k : Fin 1024, xc (rt Z) (idx_main_v103 i 0).val k.val * (dvn Z Da W (idx_main_v103 i 0).val k.val * G k.val) : ℝ) : EReal) = _
  rw [e]

theorem r110 : Re2 (φ := .f32) (a := 4096) (b := 1024) (val_main_v110 x0 x1 x3 x4) (fun r _ => tv Z (rt Z) Da G W r) :=
  of2 (v := val_main_v110 x0 x1 x3 x4) (f := fun r _ => tv Z (rt Z) Da G W r) fun i => by
    rw [val_main_v110_apply, val_main_v109_apply]
    refine (sum0 ofBits_zero fun k => at2 (hostDiv (r106 hz hd hg hw)
      (splat (v := val_main_v107 (F := Ideal)) (fun i => val_main_v107_apply i) ofBits_1024) fun _ _ => by norm_num) _).trans ?_
    rw [Fin.sum_univ_one]
    rfl

theorem r114 : Re2 (φ := .f32) (a := 4096) (b := 1024) (val_main_v114 x0 x1 x3 x4) (dxc Z (rt Z) Da G W) :=
  Re2.addf (Re2.addf (Re2.mulf (r100 hz hd hg hw)
        (of2 (v := val_main_v104 x0) (f := fun i _ => rs (rt Z) i) fun i => (val_main_v104_apply x0 i).trans (at2 (r58 hz) _)))
      (Re2.mulf (r50 hz) (r110 hz hd hg hw)))
    (Re2.mulf (r110 hz hd hg hw) (r50 hz))

theorem r121 : Re2 (φ := .f32) (a := 4096) (b := 1024) (val_main_v121 x0 x1 x3 x4)
    (fun r _ => (∑ k : Fin 1024, -dxc Z (rt Z) Da G W r k.val) / 1024) :=
  of2 (v := val_main_v121 x0 x1 x3 x4) (f := fun r _ => (∑ k : Fin 1024, -dxc Z (rt Z) Da G W r k.val) / 1024) fun i => by
    have e117 : Re2 (φ := .f32) (a := 4096) (b := 1) (val_main_v117 x0 x1 x3 x4) (fun r _ => ∑ k : Fin 1024, -dxc Z (rt Z) Da G W r k.val) :=
      of2 (v := val_main_v117 x0 x1 x3 x4) (f := fun r _ => ∑ k : Fin 1024, -dxc Z (rt Z) Da G W r k.val) fun i => by
        have h1 : (i 1).val < 1 := (i 1).isLt
        have e : (idx_main_v117 i 0).val = (i 0).val := by
          first
            | rfl
            | (show (i 0).val * 1 + (i 1).val = _; omega)
            | (show ((i 0).val * 1 + (i 1).val) % 4096 = _; have := (i 0).isLt; omega)
        rw [val_main_v117_apply, val_main_v116_apply]
        refine (sum0 ofBits_zero fun k => at2 (hostNeg (r114 hz hd hg hw)) _).trans ?_
        show ((∑ k : Fin 1024, -dxc Z (rt Z) Da G W (idx_main_v117 i 0).val k.val : ℝ) : EReal) = _
        rw [e]
    rw [val_main_v121_apply, val_main_v120_apply]
    refine (sum0 ofBits_zero fun k => at2 (hostDiv e117
      (splat (v := val_main_v118 (F := Ideal)) (fun i => val_main_v118_apply i) ofBits_1024) fun _ _ => by norm_num) _).trans ?_
    rw [Fin.sum_univ_one]

theorem r122 : Re2 (φ := .f32) (a := 4096) (b := 1024) (val_main_v122 x0 x1 x3 x4) (dv Z (rt Z) Da G W) :=
  Re2.congr (Re2.addf (r114 hz hd hg hw) (r121 hz hd hg hw)) fun r e _ _ => dv_eq Z (rt Z) Da G W r e

/-! ## The gelus' gradients -/

theorem r129 : Re2 (φ := .f32) (a := 4096) (b := 1024) (val_main_v129 x0 x1 x3 x4)
    (fun r e => kR * (1 / 2 * (rt Z r e * dv Z (rt Z) Da G W r e) * ((1 + th (rt Z r e)) * (1 - th (rt Z r e))))) :=
  Re2.mulf (splat (v := val_main_v128 (F := Ideal)) (fun i => val_main_v128_apply i) ofBits_k)
    (Re2.mulf (Re2.mulf (splat (v := val_main_v125 (F := Ideal)) (fun i => val_main_v125_apply i) ofBits_half)
      (Re2.mulf (r2 hz) (r122 hz hd hg hw))) (r39 hz))

theorem r134 : Re2 (φ := .f32) (a := 4096) (b := 1024) (val_main_v134 x0 x1 x3 x4) (dzv Z (rt Z) Da G W) :=
  Re2.congr (Re2.addf (Re2.addf (Re2.mulf (r122 hz hd hg hw) (r43 hz)) (r129 hz hd hg hw))
    (Re2.mulf (Re2.mulf (splat (v := val_main_v131 (F := Ideal)) (fun i => val_main_v131_apply i) ofBits_c) (r129 hz hd hg hw)) (r28 hz)))
    fun r e _ _ => by unfold dzv dgelu; ring

variable (hb : Re2 (φ := .f32) (a := 4) (b := 128) x5 B)
include hb

theorem r82 : Re2 (φ := .f32) (a := 4096) (b := 1024) (val_main_v82 x0 x1 x3 x4 x5) (fun r e => Da r e * sv (rt Z) G W B r e) :=
  Re2.mulf (r80 hd) (r78 hz hg hw hb)

theorem r141 : Re2 (φ := .f32) (a := 4096) (b := 1024) (val_main_v141 x0 x1 x3 x4 x5)
    (fun r e => kR * (1 / 2 * (Z r e * (Da r e * sv (rt Z) G W B r e)) * ((1 + th (Z r e)) * (1 - th (Z r e))))) :=
  Re2.mulf (splat (v := val_main_v140 (F := Ideal)) (fun i => val_main_v140_apply i) ofBits_k)
    (Re2.mulf (Re2.mulf (splat (v := val_main_v137 (F := Ideal)) (fun i => val_main_v137_apply i) ofBits_half)
      (Re2.mulf (r1 hz) (r82 hz hd hg hw hb))) (r18 hz))

theorem r146 : Re2 (φ := .f32) (a := 4096) (b := 1024) (val_main_v146 x0 x1 x3 x4 x5) (dzu Z (rt Z) Da G W B) :=
  Re2.congr (Re2.addf (Re2.addf (Re2.mulf (r82 hz hd hg hw hb) (r22 hz)) (r141 hz hd hg hw hb))
    (Re2.mulf (Re2.mulf (splat (v := val_main_v143 (F := Ideal)) (fun i => val_main_v143_apply i) ofBits_c) (r141 hz hd hg hw hb)) (r7 hz)))
    fun r e _ _ => by unfold dzu dgelu; ring

/-! ## The output array -/

omit hz hd hg hw hb in
theorem slot (n : ℕ) (hn : n < 5) (i : S5x4096x1024.Idx) :
    IntOp.cmpi .eq (val_main_v147 (F := Ideal) i) (BitVec.ofNat 32 n) = 1#1 ↔ (i 0).val = n := by
  have h0 : (i 0).val < 5 := (i 0).isLt
  exact WordCmp.cmpi_eq_ofNat_eq_one_iff (a := (i 0).val) (by omega) (by omega)

theorem r157 (i : S5x4096x1024.Idx) : val_main_v157 x0 x1 x2 x3 x4 x5 i
    = if (i 0).val = 2 then ((dzu Z (rt Z) Da G W B (i 1).val (i 2).val : ℝ) : EReal)
      else if (i 0).val = 3 then ((dzv Z (rt Z) Da G W (i 1).val (i 2).val : ℝ) : EReal) else x2 i := by
  have s2 : val_main_v149 (F := Ideal) i = 1#1 ↔ (i 0).val = 2 := by
    rw [val_main_v149_apply, val_main_v148_apply]; exact slot 2 (by omega) i
  have s3 : val_main_v153 (F := Ideal) i = 1#1 ↔ (i 0).val = 3 := by
    rw [val_main_v153_apply, val_main_v152_apply]; exact slot 3 (by omega) i
  have a : val_main_call4_v0 x0 x1 x3 x4 x5 i = ((dzu Z (rt Z) Da G W B (i 1).val (i 2).val : ℝ) : EReal) := by
    rw [val_main_call4_v0_apply, val_main_v151_apply]
    exact at2 (Re2.truncf (ψ := .bf16) bitsLt_bf16_f32 (r146 hz hd hg hw hb)) _
  have b : val_main_call3_v0 x0 x1 x3 x4 i = ((dzv Z (rt Z) Da G W (i 1).val (i 2).val : ℝ) : EReal) := by
    rw [val_main_call3_v0_apply, val_main_v155_apply]
    exact at2 (Re2.truncf (ψ := .bf16) bitsLt_bf16_f32 (r134 hz hd hg hw)) _
  rw [val_main_v157_apply, val_main_v156_apply, a, b]
  by_cases h2 : (i 0).val = 2
  · rw [sel_one (s2.2 h2), if_pos h2]
  · rw [sel_ne fun e => h2 (s2.1 e), if_neg h2]
    by_cases h3 : (i 0).val = 3
    · rw [sel_one (s3.2 h3), if_pos h3]
    · rw [sel_ne fun e => h3 (s3.1 e), if_neg h3]

end norm

end Cert.Ref

end
-- ==== Proof.Conforms.lean ====
/- The gating kernel and the reference leave the same four arrays. -/
module

public import proofs.«01_k».proof.Proof.Finite
public import proofs.«01_k».proof.Proof.Arrays
public import proofs.«01_k».proof.Proof.RefGrad
public import proofs.«01_k».proof.Proof.Gen.ReferenceIdeal.Run

@[expose] public section

noncomputable section

namespace Cert.Conforms

open Idealize.ShloMosaic Idealize.ShloMosaic.TcCoe Idealize.SL.Sem
open Cert.Reals Cert.Sgu Cert.Sums Cert.KernelIdeal Cert.KernelIdeal.Gen Cert.KernelIdeal.Value

variable {m : (ℓ : Loc nD τ sig) → Buf (Elt Ideal) ℓ} {c : Dev nD}
variable {Z Da B : ℕ → ℕ → ℝ} {G : ℕ → ℝ} {W : ℕ → ℕ → ℕ → ℝ}

theorem same6 (A : Args m c Z Da B G W) :
    Cert.ReferenceIdeal.Read.val_main_v157 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      = (dats m 0 c).arrAt 6 cfg0.N := by
  refine funext fun i => ?_
  obtain ⟨s, r, e, rfl⟩ : ∃ (s : Fin 5) (r : Fin 4096) (e : Fin 1024), i = ValueIdx.ix3 s r e := ⟨i 0, i 1, i 2, ValueIdx.eq_ix3 i⟩
  refine (Cert.Ref.r157 A.z A.da A.g A.w A.b _).trans ?_
  show (if s.val = 2 then ((dzu Z (right Z) Da G W B r.val e.val : ℝ) : EReal)
    else if s.val = 3 then ((dzv Z (right Z) Da G W r.val e.val : ℝ) : EReal) else _) = _
  by_cases h2 : s.val = 2
  · rw [if_pos h2]
    obtain rfl : s = 2 := Fin.ext h2
    exact ((Cert.Arrays.final6 A 0 r e).trans (congrArg _ (if_pos rfl))).symm
  · rw [if_neg h2]
    by_cases h3 : s.val = 3
    · rw [if_pos h3]
      obtain rfl : s = 3 := Fin.ext h3
      exact ((Cert.Arrays.final6 A 1 r e).trans (congrArg _ (if_neg (by decide)))).symm
    · rw [if_neg h3]
      exact (Cert.Arrays.kept6 s r e (by omega)).symm

theorem same7 (A : Args m c Z Da B G W) :
    Cert.ReferenceIdeal.Read.val_main_v94 (F := Ideal) (m ((c : Thread nD τ).loc main_arg0)) (m ((c : Thread nD τ).loc main_arg1)) (m ((c : Thread nD τ).loc main_arg3))
      = (dats m 0 c).arrAt 7 cfg0.N := by
  refine Eq.trans ?_ Cert.Arrays.final7.symm
  refine funext fun i => ?_
  obtain ⟨q, t, s, rfl⟩ : ∃ (q : Fin 4) (t s : Fin 128), i = ValueIdx.ix3 q t s := ⟨i 0, i 1, i 2, ValueIdx.eq_ix3 i⟩
  refine (Cert.Ref.r94 A.z A.g A.da _).trans (Eq.trans ?_ ((points A 15 Cert.Arrays.last_lt).dw q t s).symm)
  exact congrArg _ (if_pos rfl).symm

theorem same8 (A : Args m c Z Da B G W) :
    Cert.ReferenceIdeal.Read.val_main_v159 (F := Ideal) (m ((c : Thread nD τ).loc main_arg0)) (m ((c : Thread nD τ).loc main_arg1))
      = (dats m 0 c).arrAt 8 cfg0.N := by
  refine Eq.trans ?_ Cert.Arrays.final8.symm
  refine funext fun i => ?_
  obtain ⟨q, t, s, rfl⟩ : ∃ (q : Fin 4) (t s : Fin 128), i = ValueIdx.ix3 q t s := ⟨i 0, i 1, i 2, ValueIdx.eq_ix3 i⟩
  exact (Cert.Ref.r159 A.z A.da _).trans ((points A 15 Cert.Arrays.last_lt).db rfl q t s).symm

theorem same9 (A : Args m c Z Da B G W) :
    Cert.ReferenceIdeal.Read.val_main_v98 (F := Ideal) (m ((c : Thread nD τ).loc main_arg0)) (m ((c : Thread nD τ).loc main_arg1)) (m ((c : Thread nD τ).loc main_arg4))
      = (dats m 0 c).arrAt 9 cfg0.N := by
  refine Eq.trans ?_ Cert.Arrays.final9.symm
  refine funext fun i => ?_
  obtain ⟨z, j, rfl⟩ : ∃ (z : Fin 1) (j : Fin 1024), i = ValueIdx.ix2 z j := ⟨i 0, i 1, ValueIdx.eq_ix2 i⟩
  exact (Cert.Ref.r98 A.z A.da A.w _).trans ((points A 15 Cert.Arrays.last_lt).dng z j).symm

theorem algebraic : @Cert.algebraic_KernelIdeal_ReferenceIdeal_pre_finite_inputs Cert.KernelIdeal.Gen.facts Cert.ReferenceIdeal.Gen.facts Cert.Finite.facts := by
  haveI := Cert.Finite.facts
  intro m g m' g' hp ha
  refine ⟨fun c => (dats m 0 c).arrAt 6 cfg0.N, fun c => (dats m 0 c).arrAt 7 cfg0.N, fun c => (dats m 0 c).arrAt 8 cfg0.N,
    fun c => (dats m 0 c).arrAt 9 cfg0.N, run_blocks m g, ?_⟩
  refine (θ_run Cert.ReferenceIdeal.defs _ _).mono (fun r h c => ?_) (Cert.ReferenceIdeal.Value.run (F := Ideal) m' g')
  obtain ⟨h157, h94, h159, h98, hk⟩ := h c
  obtain ⟨a0, a1, a2, a3, a4, a5⟩ := ha c
  have A := Cert.Finite.args hp c
  refine ⟨?_, ?_, ?_, ?_, hk⟩
  · refine h157.trans ((Cert.ReferenceIdeal.Read.val_main_v157_eq (StableHlo.launchContents m' c)).trans (Eq.trans ?_ (same6 A)))
    show Cert.ReferenceIdeal.Read.val_main_v157 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) = Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    rw [a0, a1, a2, a3, a4, a5]
  · refine h94.trans ((Cert.ReferenceIdeal.Read.val_main_v94_eq (StableHlo.launchContents m' c)).trans (Eq.trans ?_ (same7 A)))
    show Cert.ReferenceIdeal.Read.val_main_v94 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) = Cert.ReferenceIdeal.Read.val_main_v94 (F := Ideal) (m ((c : Thread nD τ).loc main_arg0)) (m ((c : Thread nD τ).loc main_arg1)) (m ((c : Thread nD τ).loc main_arg3))
    rw [a0, a1, a3]
  · refine h159.trans ((Cert.ReferenceIdeal.Read.val_main_v159_eq (StableHlo.launchContents m' c)).trans (Eq.trans ?_ (same8 A)))
    show Cert.ReferenceIdeal.Read.val_main_v159 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) = Cert.ReferenceIdeal.Read.val_main_v159 (F := Ideal) (m ((c : Thread nD τ).loc main_arg0)) (m ((c : Thread nD τ).loc main_arg1))
    rw [a0, a1]
  · refine h98.trans ((Cert.ReferenceIdeal.Read.val_main_v98_eq (StableHlo.launchContents m' c)).trans (Eq.trans ?_ (same9 A)))
    show Cert.ReferenceIdeal.Read.val_main_v98 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) = Cert.ReferenceIdeal.Read.val_main_v98 (F := Ideal) (m ((c : Thread nD τ).loc main_arg0)) (m ((c : Thread nD τ).loc main_arg1)) (m ((c : Thread nD τ).loc main_arg4))
    rw [a0, a1, a4]

/-- The reference keeps its arguments. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono (fun r h => ⟨fun c => (h c).2.2.2.2, sem_eq_zero_of_no_sems (by decide) r.2⟩) (Cert.ReferenceIdeal.Value.run (F := Ideal) m g)

end Cert.Conforms

end
-- ==== Proof.Prods.lean ====
/- Matrix products on extended reals, entry by entry: each is the sum over the shared axis. -/
module

public import proofs.«01_k».proof.Proof.Reals

@[expose] public section

noncomputable section

namespace Cert.Prods

open Idealize.ShloMosaic Idealize.ShloMosaic.ValueIdx
open scoped BigOperators

variable {φ ψ : FTy} {a b : ℕ}

theorem whole (n x : ℕ) : 0 * n + 1 * x = x := by omega

theorem step {a p r : ℕ} (h : a + p = r) : a + 1 * p = r := by omega

theorem unit {a k : ℕ} (h : a = k) : a * 1 + 1 * 0 = k := by omega

/-- A product with one shared axis, given where each factor's entry sits. -/
theorem entry {m n p q : ℕ} (x : FVec Ideal ⟨2, ![m, n]⟩ φ) (y : FVec Ideal ⟨2, ![p, q]⟩ ψ)
    (D : DotDims ⟨2, ![m, n]⟩ ⟨2, ![p, q]⟩ ⟨2, ![a, b]⟩) (prec : Option ContractPrecision) (K : ℕ)
    (hr : D.contr.rank = 1) (hs : D.contr.size ⟨0, by omega⟩ = K) (i : Fin a) (j : Fin b)
    (l : Fin K → (⟨2, ![m, n]⟩ : Shape).Idx) (r : Fin K → (⟨2, ![p, q]⟩ : Shape).Idx)
    (hl : ∀ k : Fin K, D.lhsIdx (ix2 i j) ((contrEquiv1 D K hr hs).symm k) = l k)
    (hR : ∀ k : Fin K, D.rhsIdx (ix2 i j) ((contrEquiv1 D K hr hs).symm k) = r k) :
    (matmul D prec x y (constant ⟨2, ![a, b]⟩ .f32 0x00000000#32) : FVec Ideal ⟨2, ![a, b]⟩ .f32) (ix2 i j)
      = ∑ k : Fin K, (x (l k) : EReal) * (y (r k) : EReal) := by
  show FloatOps.matmul D prec x y (constant ⟨2, ![a, b]⟩ .f32 0x00000000#32) (ix2 i j) = _
  rw [Ideal.matmul_constant_zero_apply, ← Equiv.sum_comp (contrEquiv1 D K hr hs).symm]
  exact Finset.sum_congr rfl fun k _ => by rw [hl k, hR k]

/-- Rows times columns. -/
theorem nn {K : ℕ} (x : FVec Ideal ⟨2, ![a, K]⟩ φ) (y : FVec Ideal ⟨2, ![K, b]⟩ ψ) (wf) (prec : Option ContractPrecision) (i : Fin a) (j : Fin b) :
    (matmul (⟨[1], [0], [0], [1], [], [], wf⟩ : DotDims ⟨2, ![a, K]⟩ ⟨2, ![K, b]⟩ ⟨2, ![a, b]⟩) prec x y (constant ⟨2, ![a, b]⟩ .f32 0x00000000#32)
        : FVec Ideal ⟨2, ![a, b]⟩ .f32) (ix2 i j) = ∑ k : Fin K, (x (ix2 i k) : EReal) * (y (ix2 k j) : EReal) :=
  entry x y _ prec K rfl rfl i j (fun k => ix2 i k) (fun k => ix2 k j)
    (fun k => funext fun d => Fin.ext (by
      match d with
      | ⟨0, _⟩ => show (DotDims.lhsIdx _ _ _ 0).val = i.val; unfold DotDims.lhsIdx; rw [dif_neg (by simp), dif_pos (by simp)]; rfl
      | ⟨1, _⟩ => exact (DotDims.lhsIdx_val_of_single _ rfl _ _).trans (contrEquiv1_symm_val _ K rfl rfl k)))
    (fun k => funext fun d => Fin.ext (by
      match d with
      | ⟨0, _⟩ => exact (DotDims.rhsIdx_val_of_single _ rfl _ _).trans (contrEquiv1_symm_val _ K rfl rfl k)
      | ⟨1, _⟩ => show (DotDims.rhsIdx _ _ _ 1).val = j.val; unfold DotDims.rhsIdx; rw [dif_neg (by simp), dif_pos (by simp)]; rfl))

/-- Rows times rows. -/
theorem nt {K : ℕ} (x : FVec Ideal ⟨2, ![a, K]⟩ φ) (y : FVec Ideal ⟨2, ![b, K]⟩ ψ) (wf) (prec : Option ContractPrecision) (i : Fin a) (j : Fin b) :
    (matmul (⟨[1], [1], [0], [0], [], [], wf⟩ : DotDims ⟨2, ![a, K]⟩ ⟨2, ![b, K]⟩ ⟨2, ![a, b]⟩) prec x y (constant ⟨2, ![a, b]⟩ .f32 0x00000000#32)
        : FVec Ideal ⟨2, ![a, b]⟩ .f32) (ix2 i j) = ∑ k : Fin K, (x (ix2 i k) : EReal) * (y (ix2 j k) : EReal) :=
  entry x y _ prec K rfl rfl i j (fun k => ix2 i k) (fun k => ix2 j k)
    (fun k => funext fun d => Fin.ext (by
      match d with
      | ⟨0, _⟩ => show (DotDims.lhsIdx _ _ _ 0).val = i.val; unfold DotDims.lhsIdx; rw [dif_neg (by simp), dif_pos (by simp)]; rfl
      | ⟨1, _⟩ => exact (DotDims.lhsIdx_val_of_single _ rfl _ _).trans (contrEquiv1_symm_val _ K rfl rfl k)))
    (fun k => funext fun d => Fin.ext (by
      match d with
      | ⟨1, _⟩ => exact (DotDims.rhsIdx_val_of_single _ rfl _ _).trans (contrEquiv1_symm_val _ K rfl rfl k)
      | ⟨0, _⟩ => show (DotDims.rhsIdx _ _ _ 0).val = j.val; unfold DotDims.rhsIdx; rw [dif_neg (by simp), dif_pos (by simp)]; rfl))

/-- Columns times columns. -/
theorem tn {K : ℕ} (x : FVec Ideal ⟨2, ![K, a]⟩ φ) (y : FVec Ideal ⟨2, ![K, b]⟩ ψ) (wf) (prec : Option ContractPrecision) (i : Fin a) (j : Fin b) :
    (matmul (⟨[0], [0], [1], [1], [], [], wf⟩ : DotDims ⟨2, ![K, a]⟩ ⟨2, ![K, b]⟩ ⟨2, ![a, b]⟩) prec x y (constant ⟨2, ![a, b]⟩ .f32 0x00000000#32)
        : FVec Ideal ⟨2, ![a, b]⟩ .f32) (ix2 i j) = ∑ k : Fin K, (x (ix2 k i) : EReal) * (y (ix2 k j) : EReal) :=
  entry x y _ prec K rfl rfl i j (fun k => ix2 k i) (fun k => ix2 k j)
    (fun k => funext fun d => Fin.ext (by
      match d with
      | ⟨1, _⟩ => show (DotDims.lhsIdx _ _ _ 1).val = i.val; unfold DotDims.lhsIdx; rw [dif_neg (by simp), dif_pos (by simp)]; rfl
      | ⟨0, _⟩ => exact (DotDims.lhsIdx_val_of_single _ rfl _ _).trans (contrEquiv1_symm_val _ K rfl rfl k)))
    (fun k => funext fun d => Fin.ext (by
      match d with
      | ⟨0, _⟩ => exact (DotDims.rhsIdx_val_of_single _ rfl _ _).trans (contrEquiv1_symm_val _ K rfl rfl k)
      | ⟨1, _⟩ => show (DotDims.rhsIdx _ _ _ 1).val = j.val; unfold DotDims.rhsIdx; rw [dif_neg (by simp), dif_pos (by simp)]; rfl))

end Cert.Prods

end
-- ==== Proof.DwFfn.lean ====
/- The weight gradient of the feed-forward products: block k of the result is the transpose of slab k of the first argument times the second. -/
module

public import proofs.«01_k».proof.Proof.Prods
public import proofs.«01_k».proof.Defs
public import proofs.«01_k».proof.Proof.Gen.DwFfnIdeal.Value
public import proofs.«01_k».proof.Proof.Gen.DwFfnRefIdeal.Run
public import proofs.«01_k».proof.Proof.Gen.DwFfnRefIdeal.Read
public import Idealize.ShloMosaic.Lib.Tactic.ValueTie

@[expose] public section

noncomputable section

namespace Cert.DwFfnTie

open Idealize.ShloMosaic Idealize.ShloMosaic.TcCoe Idealize.SL.Sem
open Cert.DwFfnIdeal Cert.DwFfnIdeal.Gen Cert.DwFfnIdeal.Value
open scoped BigOperators

/-- Entry (k, j, d) of the gradient. -/
def grad (x0 : Vec Ideal S4x4096x704 .bf16) (x1 : Vec Ideal S4096x1024 .bf16) (k : Fin 4) (j : Fin 704) (d : Fin 1024) : EReal :=
  ∑ s : Fin 4096, (x0 (ValueIdx.ix3 k s j) : EReal) * (x1 (ValueIdx.ix2 s d) : EReal)

/-- What the kernel writes at one grid point. -/
theorem written (x0 : Vec Ideal S1x4096x704 .bf16) (x1 : Vec Ideal S4096x1024 .bf16) (j : Fin 704) (d : Fin 1024) :
    (k0_pay1 (F := Ideal) x0 x1) (ValueIdx.ix3 0 j d)
      = ∑ s : Fin 4096, (x0 (ValueIdx.ix3 0 s j) : EReal) * (x1 (ValueIdx.ix2 s d) : EReal) := by
  unfold k0_pay1
  refine (ValueIdx.shapeCast_ab_1ab_apply _ _ _ _ _).trans ?_
  refine Eq.trans (Cert.Prods.tn (φ := .bf16) (ψ := .bf16) (shapeCast S4096x704 x0 shapeCasts_S1x4096x704_S4096x704) x1 _ none j d) ?_
  exact Finset.sum_congr rfl fun s _ => congrArg (· * (x1 (ValueIdx.ix2 s d) : EReal)) (ValueIdx.shapeCast_1ab_ab_apply _ _ _ _)

theorem left (c : Dev nD) (i : grid0.Coords) (arg2 : Memref sig .tc .vmem S1x4096x704 .bf16) (harg2 : arg2.IsWhole) (arg3 : Memref sig .tc .vmem S4096x1024 .bf16) (harg3 : arg3.IsWhole)
    (arg4 : Memref sig .tc .vmem S1x704x1024 .bf16) (harg4 : arg4.IsWhole) (arg5 : Memref sig .tc .vmem S8x128 .f32) (harg5 : arg5.IsWhole)
    (x0 : Vec Ideal S1x4096x704 .bf16) (x1 : Vec Ideal S4096x1024 .bf16) :
    out0_A_2 (F := Ideal) c i arg2 harg2 arg3 harg3 arg4 harg4 arg5 harg5 x0 x1 = k0_pay1 (F := Ideal) x0 x1 := by
  unfold out0_A_2
  rw [View.read_writes_eq_canon _ _ _ (cover0_A_2 c i arg2 harg2 arg3 harg3 arg4 harg4 arg5 harg5 x0 x1)]
  unfold kernelRun0_A
  dsimp only
  sl_unfold_words
  simp only [View.readAt_eq_ld, harg2.read_unread, harg3.read_unread]
  refine (View.canon_unit_zero (by funext a; fin_cases a <;> rfl) _ _).trans ?_
  rw [View.ld_unit_zero (by funext a; fin_cases a <;> rfl) _ x0, View.ld_unit_zero (by funext a; fin_cases a <;> rfl) _ x1]

variable (m : (ℓ : Loc nD τ sig) → Buf (Elt Ideal) ℓ) (c : Dev nD)

theorem index0 : ∀ t : Fin grid0.N, win0_0.index t 0 = t.val ∧ win0_0.index t 1 = 0 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 ∧ win0_2.index t 2 = 0 := by decide +kernel

theorem block0 (t : Fin cfg0.N) (k : Fin 4) (hk : k.val = t.val) (s : Fin 4096) (j : Fin 704) :
    (iblk m c 0 t : Vec Ideal S1x4096x704 .bf16) (ValueIdx.ix3 0 s j) = m ((c : Thread nD τ).loc main_arg0) (ValueIdx.ix3 k s j) := by
  unfold iblk
  rw [View.read_apply]
  show V m c main_arg0 _ = _
  rw [V_main_arg0]
  refine congrArg _ ?_
  funext a
  apply Fin.ext
  match a with
  | ⟨0, _⟩ => show win0_0.index t 0 * 1 + 1 * 0 = k.val; rw [(index0 t).1]; omega
  | ⟨1, _⟩ => show win0_0.index t 1 * 4096 + 1 * s.val = s.val; rw [(index0 t).2.1]; omega
  | ⟨2, _⟩ => show win0_0.index t 2 * 704 + 1 * j.val = j.val; rw [(index0 t).2.2]; omega

theorem block1 (t : Fin cfg0.N) (s : Fin 4096) (d : Fin 1024) :
    (iblk m c 1 t : Vec Ideal S4096x1024 .bf16) (ValueIdx.ix2 s d) = m ((c : Thread nD τ).loc main_arg1) (ValueIdx.ix2 s d) := by
  unfold iblk
  rw [View.read_apply]
  show V m c main_arg1 _ = _
  rw [V_main_arg1]
  refine congrArg _ ?_
  funext a
  apply Fin.ext
  match a with
  | ⟨0, _⟩ => show win0_1.index t 0 * 4096 + 1 * s.val = s.val; rw [(index1 t).1]; omega
  | ⟨1, _⟩ => show win0_1.index t 1 * 1024 + 1 * d.val = d.val; rw [(index1 t).2]; omega

/-- The result the call leaves. -/
theorem final (k : Fin 4) (j : Fin 704) (d : Fin 1024) :
    (dats m 0 c).arrAt 2 cfg0.N (ValueIdx.ix3 k j d)
      = grad (m ((c : Thread nD τ).loc main_arg0)) (m ((c : Thread nD τ).loc main_arg1)) k j d := by
  have ht : k.val < cfg0.N := by rw [show cfg0.N = 4 from N_0]; exact k.isLt
  have h := congrFun (blocks2 m c ⟨k.val, ht⟩ (flush0_2 _)) (ValueIdx.ix3 (0 : Fin 1) j d)
  rw [flushed2_A, left] at h
  rw [View.read_apply] at h
  refine Eq.trans (congrArg _ ?_) (h.trans ?_)
  · funext a
    apply Fin.ext
    match a with
    | ⟨0, _⟩ => show k.val = win0_2.index ⟨k.val, ht⟩ 0 * 1 + 1 * 0; rw [(index2 ⟨k.val, ht⟩).1]; show k.val = k.val * 1 + 1 * 0; omega
    | ⟨1, _⟩ => show j.val = win0_2.index ⟨k.val, ht⟩ 1 * 704 + 1 * j.val; rw [(index2 ⟨k.val, ht⟩).2.1]; omega
    | ⟨2, _⟩ => show d.val = win0_2.index ⟨k.val, ht⟩ 2 * 1024 + 1 * d.val; rw [(index2 ⟨k.val, ht⟩).2.2]; omega
  · refine (written _ _ j d).trans ?_
    exact Finset.sum_congr rfl fun s _ => congrArg₂ (fun p q : EReal => p * q) (block0 m c ⟨k.val, ht⟩ k rfl s j) (block1 m c ⟨k.val, ht⟩ s d)

open Cert.DwFfnRefIdeal.Read in
/-- The reference's result. -/
theorem ref (x0 : Vec Ideal S4x4096x704 .bf16) (x1 : Vec Ideal S4096x1024 .bf16) (k : Fin 4) (j : Fin 704) (d : Fin 1024) :
    val_main_v9 (F := Ideal) x0 x1 (ValueIdx.ix3 k j d) = grad x0 x1 k j d := by
  rw [val_main_v9_apply, val_main_v8_apply, val_main_v7_apply]
  refine (val_main_v6_apply _ _ _).trans ?_
  refine Finset.sum_congr rfl fun s _ => ?_
  rw [val_main_v5_apply, val_main_v2_apply, val_main_v1_apply, val_main_v0_apply]
  refine (mul_comm _ _).trans ?_
  have hk := k.isLt
  have hj := j.isLt
  have hd := d.isLt
  have hs := s.isLt
  refine congrArg₂ (fun p q : EReal => p * q) (congrArg x0 ?_) (congrArg x1 ?_)
  · funext a
    apply Fin.ext
    match a with
    | ⟨0, _⟩ => show (s.val * 2816 + ((k.val * 704 + j.val) * 1024 + d.val) / 1024) / 704 % 4 = k.val; omega
    | ⟨1, _⟩ => show (s.val * 2816 + ((k.val * 704 + j.val) * 1024 + d.val) / 1024) / 2816 = s.val; omega
    | ⟨2, _⟩ => show (s.val * 2816 + ((k.val * 704 + j.val) * 1024 + d.val) / 1024) % 704 = j.val; omega
  · funext a
    apply Fin.ext
    match a with
    | ⟨0, _⟩ => rfl
    | ⟨1, _⟩ => show ((k.val * 704 + j.val) * 1024 + d.val) % 1024 = d.val; omega

theorem algebraic : @Cert.algebraic_DwFfnIdeal_DwFfnRefIdeal Cert.DwFfnIdeal.Gen.facts Cert.DwFfnRefIdeal.Gen.facts := by
  intro m g m' g' _ ha
  refine ⟨fun c => (dats m 0 c).arrAt 2 cfg0.N, run_blocks m g, ?_⟩
  refine (θ_run Cert.DwFfnRefIdeal.defs _ _).mono (fun r h c => ?_) (Cert.DwFfnRefIdeal.Value.run (F := Ideal) m' g')
  obtain ⟨hv, hk⟩ := h c
  obtain ⟨a0, a1⟩ := ha c
  refine ⟨hv.trans ((Cert.DwFfnRefIdeal.Read.val_main_v9_eq _ _).trans ?_), hk⟩
  rw [a0, a1]
  refine funext fun i => ?_
  obtain ⟨k, j, d, rfl⟩ : ∃ (k : Fin 4) (j : Fin 704) (d : Fin 1024), i = ValueIdx.ix3 k j d := ⟨i 0, i 1, i 2, ValueIdx.eq_ix3 i⟩
  exact (ref _ _ k j d).trans (final m c k j d).symm

/-- The reference keeps its arguments. -/
theorem refFrame : @Cert.quiescent_DwFfnRefIdeal Cert.DwFfnRefIdeal.Gen.facts := fun m g _ =>
  (θ_run Cert.DwFfnRefIdeal.defs _ _).mono (fun r h => ⟨fun c => (h c).2, sem_eq_zero_of_no_sems (by decide) r.2⟩) (Cert.DwFfnRefIdeal.Value.run (F := Ideal) m g)

end Cert.DwFfnTie

end
-- ==== Proof.Rows.lean ====
/- Rows of extended reals: a row over the root of its mean square, long sums cut into equal parts, and slabs of a stack of matrices. -/
module

public import proofs.«01_k».proof.Proof.Prods

@[expose] public section

noncomputable section

namespace Cert.Rows

open Idealize.ShloMosaic Idealize.ShloMosaic.ValueIdx
open scoped BigOperators

variable {φ : FTy} {a b n : ℕ}

/-! ## Small facts shared by the calls -/

theorem rowAt {r t : ℕ} (h : t = r / 256) : r = t * 256 + 1 * (r % 256) := by omega
theorem rowFrom {r t : ℕ} (h : t = r / 256) : t * 256 + r % 256 = r := by omega
theorem wholeAt (n x : ℕ) : x = 0 * n + 1 * x := by omega
theorem last_of {t : ℕ} (h : t % 16 = 15) (hN : t < 16) : t = 15 := by omega
theorem succ_mod {k : ℕ} (h : k + 1 < 16) : ¬(k + 1) % 16 = 0 := by omega

theorem zero2 : (![0, 0] : Fin 2 → ℕ) = fun _ => 0 := by funext a; fin_cases a <;> rfl

theorem ld2 {e : EltTy} (h : ∀ d, (![0, 0] : Fin 2 → ℕ) d + (![a, b] : Fin 2 → ℕ) d ≤ (![a, b] : Fin 2 → ℕ) d) (x : Vec Ideal ⟨2, ![a, b]⟩ e) :
    View.ld (Val := Elt Ideal) (S := ⟨2, ![a, b]⟩) x (Rect.unit ![0, 0] ![a, b] h) = x := View.ld_unit_zero (S := ⟨2, ![a, b]⟩) zero2 h x

theorem mul2 {p q r s : EReal} (h : p = q) (k : r = s) : p * r = q * s := congrArg₂ (fun x y : EReal => x * y) h k
theorem add2 {p q r s : EReal} (h : p = q) (k : r = s) : p + r = q + s := congrArg₂ (fun x y : EReal => x + y) h k

theorem idx2 {i j : (⟨2, ![a, b]⟩ : Shape).Idx} (h : (i 0).val = (j 0).val) (k : (i 1).val = (j 1).val) : i = j := by
  funext d
  apply Fin.ext
  match d with
  | ⟨0, _⟩ => exact h
  | ⟨1, _⟩ => exact k

theorem zero_plus {n : ℕ} (z : EReal) (hz : z = 0) (f g : Fin n → EReal) (h : ∀ k, f k = g k) : z + ∑ k, f k = ∑ k, g k := by
  rw [hz, zero_add]; exact Finset.sum_congr rfl fun k _ => h k

theorem zero_one (z : EReal) (hz : z = 0) (f : Fin 1 → EReal) (w : EReal) (h : f 0 = w) : z + ∑ k, f k = w := by
  rw [hz, zero_add, Fin.sum_univ_one, h]

/-- The sum of the squares of a row. -/
def squares (v : Fin n → EReal) : EReal := ∑ k, v k * v k

/-- A row times the inverse root of its mean square, the length and the small term given. -/
def unitRow (cn ce : EReal) (v : Fin n → EReal) (j : Fin n) : EReal := v j * Ideal.rsqrt (Ideal.div (squares v) cn + ce)

theorem rowSum (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (i : Fin a) (u : Fin 1) :
    (shapeCast ⟨2, ![a, 1]⟩ (multiReduction .add [1] ⟨1, ![a]⟩ x acc h hφ hacc) hc : FVec Ideal ⟨2, ![a, 1]⟩ φ) (ix2 i u)
      = ∑ k : Fin b, (x (ix2 i k) : EReal) := by
  rw [shapeCast_a_a1_apply, Ideal.multiReduction_add_single]
  refine Finset.sum_congr rfl fun k _ => ?_
  have e : h.lift (ix1 i) k = ix2 i k := funext fun d => by
    match d with
    | ⟨0, _⟩ => exact Fin.ext (by simp [Shape.Reduces.lift]; rfl)
    | ⟨1, _⟩ => exact Fin.ext (by simp [Shape.Reduces.lift]; rfl)
  exact congrArg (fun z => (x z : EReal)) e

/-- One column spread over the lanes. -/
theorem col (x : FVec Ideal ⟨2, ![a, 1]⟩ φ) (h : (⟨2, ![a, 1]⟩ : Shape).Broadcasts ⟨2, ![a, b]⟩) (i : Fin a) (j : Fin b) :
    (broadcastTo ⟨2, ![a, b]⟩ x h : FVec Ideal ⟨2, ![a, b]⟩ φ) (ix2 i j) = x (ix2 i (0 : Fin 1)) := by
  rw [broadcastTo_apply x h (ix2 i j) (ix2 i (0 : Fin 1)) (fun d => by
    match d with
    | ⟨0, _⟩ =>
      show i.val = if a = 1 then 0 else i.val
      split
      · have := i.isLt; omega
      · rfl
    | ⟨1, _⟩ => rfl)]

/-- The normalisation of a tile, row by row. -/
theorem unitTile (x : FVec Ideal ⟨2, ![a, b]⟩ .f32) (cn ce : Ideal .f32) (acc : BitVec (FTy.f32).bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (i : Fin a) (j : Fin b) :
    (mulf x (broadcastTo ⟨2, ![a, b]⟩ (rsqrt (addf (divf (shapeCast ⟨2, ![a, 1]⟩ (multiReduction .add [1] ⟨1, ![a]⟩ (mulf x x) acc h hφ hacc) hc)
        (broadcast ⟨2, ![a, 1]⟩ cn)) (broadcast ⟨2, ![a, 1]⟩ ce))) hb) : FVec Ideal ⟨2, ![a, b]⟩ .f32) (ix2 i j)
      = unitRow cn ce (fun k => x (ix2 i k)) j := by
  refine congrArg (fun w : EReal => (x (ix2 i j) : EReal) * w) ?_
  refine (col _ hb i j).trans ?_
  refine congrArg (fun w : EReal => Ideal.rsqrt (Ideal.div w cn + ce)) ?_
  exact rowSum (mulf x x) acc h hφ hacc hc i 0

/-- A sum over n · m terms, as n sums of m terms. -/
theorem sum_parts {N n m : ℕ} (hN : N = n * m) (f : Fin N → EReal) :
    ∑ k, f k = ∑ p : Fin n, ∑ s : Fin m, f ⟨p.val * m + s.val, by
      subst hN; exact lt_of_lt_of_le (Nat.add_lt_add_left s.isLt _) (by rw [← Nat.succ_mul]; exact Nat.mul_le_mul_right _ p.isLt)⟩ := by
  subst hN
  rw [← Equiv.sum_comp finProdFinEquiv, Fintype.sum_prod_type]
  refine Finset.sum_congr rfl fun p _ => Finset.sum_congr rfl fun s _ => congrArg f (Fin.ext ?_)
  show s.val + m * p.val = p.val * m + s.val
  ring

/-- Slab o of a stack of matrices. -/
theorem slab {n o : ℕ} (x : FVec Ideal ⟨3, ![n, a, b]⟩ .bf16)
    (inb : ∀ d, (![o, 0, 0] : Fin 3 → ℕ) d + (![1, a, b] : Fin 3 → ℕ) d ≤ (⟨3, ![n, a, b]⟩ : Shape).size d) (k : Fin n) (hk : k.val = o) (i : Fin a) (j : Fin b) :
    (View.ld (Val := Elt Ideal) (e' := .bf16) x (Rect.unit (s := ⟨3, ![n, a, b]⟩) ![o, 0, 0] ![1, a, b] inb) : FVec Ideal ⟨3, ![1, a, b]⟩ .bf16) (ix3 (0 : Fin 1) i j)
      = x (ix3 k i j) := by
  refine congrArg x (funext fun d => ?_)
  match d with
  | ⟨0, _⟩ => exact Fin.ext ((Rect.idx_unit_val (s := ⟨3, ![n, a, b]⟩) ![o, 0, 0] ![1, a, b] inb (ix3 (0 : Fin 1) i j) (0 : Fin 3)).trans (by
      show o + 0 = k.val; omega))
  | ⟨1, _⟩ => exact Fin.ext ((Rect.idx_unit_val (s := ⟨3, ![n, a, b]⟩) ![o, 0, 0] ![1, a, b] inb (ix3 (0 : Fin 1) i j) (1 : Fin 3)).trans (by
      show 0 + i.val = i.val; omega))
  | ⟨2, _⟩ => exact Fin.ext ((Rect.idx_unit_val (s := ⟨3, ![n, a, b]⟩) ![o, 0, 0] ![1, a, b] inb (ix3 (0 : Fin 1) i j) (2 : Fin 3)).trans (by
      show 0 + j.val = j.val; omega))

end Cert.Rows

end
-- ==== Proof.RmsBack.lean ====
/- The gradient of a row over the root of its mean square, on extended reals: the closed form that a kernel computes, the sum of three
   terms that a reference computes, and that the two are equal for every row, infinite entries and all. -/
module

public import proofs.«01_k».proof.Proof.Rows
public import proofs.«01_k».proof.Proof.Sgu

@[expose] public section

noncomputable section

namespace Cert.RmsBack

open Idealize.ShloMosaic Idealize.ShloMosaic.ValueIdx
open Cert.Rows
open scoped BigOperators

variable {a b n : ℕ}

/-- The row length, the small term, minus a half and a half, as the programs write them. -/
def cn : EReal := Ideal.ofBits .f32 0x44800000#32
def ce : EReal := Ideal.ofBits .f32 0x358637BD#32
def cm : EReal := Ideal.ofBits .f32 0xBF000000#32
def ch : EReal := Ideal.ofBits .f32 0x3F000000#32

theorem cn_eq : cn = ((1024 : ℝ) : EReal) := Cert.Sgu.ofBits_1024
theorem ce_eq : ce = ((Cert.Sgu.epsR : ℝ) : EReal) := Cert.Sgu.ofBits_eps
theorem cm_eq : cm = ((-(1 / 2) : ℝ) : EReal) := Cert.Sgu.ofBits_neg_half
theorem ch_eq : ch = ((1 / 2 : ℝ) : EReal) := Cert.Sgu.ofBits_half
theorem zeroBits : Ideal.ofBits .f32 0x00000000#32 = 0 := Cert.Sgu.ofBits_zero.trans EReal.coe_zero

/-- A row's mean square with the small term, and the inverse root of that. -/
def ms (v : Fin n → EReal) : EReal := Ideal.div (squares v) cn + ce
def inv (v : Fin n → EReal) : EReal := Ideal.rsqrt (ms v)

/-- The inner product of two rows. -/
def inner (v t : Fin n → EReal) : EReal := ∑ k, v k * t k

/-- The gradient in closed form: `v` the row, `t` the gradient of the unit row. -/
def back (v t : Fin n → EReal) (j : Fin n) : EReal :=
  inv v * t j - v j * ((inv v * inv v) * inv v) * Ideal.div (inner v t) cn

/-- What the mean square's gradient adds to the row, per unit of the row. -/
def pull (v t : Fin n → EReal) : EReal := Ideal.div (inner v t * (cm * Ideal.div (inv v) (ms v))) cn

theorem div_cn (x : EReal) : Ideal.div x cn = x * ((1 / 1024 : ℝ) : EReal) := by
  rw [cn_eq, Ideal.div_coe (by norm_num)]

theorem square_nonneg (x : EReal) : 0 ≤ x * x := by
  induction x with
  | bot => simp
  | top => simp
  | coe r => rw [← EReal.coe_mul, ← EReal.coe_zero]; exact EReal.coe_le_coe_iff.mpr (mul_self_nonneg r)

/-- The mean square is infinite or a positive number. -/
theorem ms_cases (v : Fin n → EReal) : ms v = ⊤ ∨ ∃ m : ℝ, 0 < m ∧ ms v = ((m : ℝ) : EReal) := by
  have h : 0 ≤ squares v := Finset.sum_nonneg fun k _ => square_nonneg (v k)
  unfold ms
  rw [div_cn, ce_eq]
  generalize squares v = s at h
  induction s with
  | bot => exact absurd h (by simp)
  | top =>
    left
    rw [EReal.top_mul_coe_of_pos (by norm_num)]
    rfl
  | coe r =>
    right
    have hr : 0 ≤ r := by rw [← EReal.coe_zero] at h; exact EReal.coe_le_coe_iff.mp h
    refine ⟨r * (1 / 1024) + Cert.Sgu.epsR, ?_, ?_⟩
    · have := Cert.Sgu.epsR_pos; positivity
    · rw [← EReal.coe_mul, ← EReal.coe_add]

/-- A term counted twice with half its weight. -/
theorem halves (p x : EReal) {d : ℝ} (hd : 0 < d) :
    p - x * ((2 * d : ℝ) : EReal) = p + x * ((-d : ℝ) : EReal) + x * ((-d : ℝ) : EReal) := by
  have e : x * ((-d : ℝ) : EReal) = -(x * ((d : ℝ) : EReal)) := by rw [EReal.coe_neg, mul_neg]
  rw [e, sub_eq_add_neg, add_assoc]
  refine congrArg (fun w : EReal => p + w) ?_
  induction x with
  | bot => rw [EReal.bot_mul_coe_of_pos hd, EReal.bot_mul_coe_of_pos (by positivity)]; simp
  | top => rw [EReal.top_mul_coe_of_pos hd, EReal.top_mul_coe_of_pos (by positivity)]; simp
  | coe r =>
    rw [← EReal.coe_mul, ← EReal.coe_mul, ← EReal.coe_neg, ← EReal.coe_neg, ← EReal.coe_add]
    congr 1; ring

/-- The closed form is the sum of the three terms. -/
theorem back_eq (v t : Fin n → EReal) (j : Fin n) : back v t j = t j * inv v + v j * pull v t + pull v t * v j := by
  unfold back pull
  rcases ms_cases v with h | ⟨m, hm, h⟩
  · have hi : inv v = 0 := by unfold inv; rw [h, Ideal.rsqrt_top]
    have hd : Ideal.div 0 (⊤ : EReal) = 0 := by simp [Ideal.div]
    rw [hi, h, hd]
    simp only [mul_zero, zero_mul, div_cn, sub_zero, add_zero]
  · have hs : 0 < Real.sqrt m := Real.sqrt_pos.mpr hm
    have hi : inv v = (((Real.sqrt m)⁻¹ : ℝ) : EReal) := by
      unfold inv; rw [h, Ideal.rsqrt_coe, if_neg (not_lt.mpr hm.le), if_neg hm.ne']
    rw [hi, h, Ideal.div_coe hm.ne', div_cn, div_cn, cm_eq, ← EReal.coe_mul, ← EReal.coe_mul, ← EReal.coe_mul, ← EReal.coe_mul]
    have e1 : v j * (((Real.sqrt m)⁻¹ * (Real.sqrt m)⁻¹ * (Real.sqrt m)⁻¹ : ℝ) : EReal) * (inner v t * ((1 / 1024 : ℝ) : EReal))
        = v j * inner v t * ((2 * ((Real.sqrt m)⁻¹ * (1 / m) * (1 / 2048)) : ℝ) : EReal) := by
      rw [mul_mul_mul_comm, ← EReal.coe_mul]
      congr 2
      have : (Real.sqrt m)⁻¹ * (Real.sqrt m)⁻¹ = 1 / m := by rw [← mul_inv, Real.mul_self_sqrt hm.le, one_div]
      rw [this]; ring
    have e2 : inner v t * ((-(1 / 2) * ((Real.sqrt m)⁻¹ * (1 / m)) : ℝ) : EReal) * ((1 / 1024 : ℝ) : EReal)
        = inner v t * ((-((Real.sqrt m)⁻¹ * (1 / m) * (1 / 2048)) : ℝ) : EReal) := by
      rw [mul_assoc, ← EReal.coe_mul]
      congr 2
      ring
    rw [e1, e2, mul_comm (inner v t * _) (v j), ← mul_assoc (v j) (inner v t), mul_comm (t j)]
    exact halves _ _ (by positivity)

/-- A half goes through a sum of two. -/
theorem half_add (p q : EReal) : ch * (p + q) = ch * p + ch * q := by
  have h2 : (0 : ℝ) < 1 / 2 := by norm_num
  rw [ch_eq]
  induction p with
  | bot => rw [EReal.bot_add, EReal.coe_mul_bot_of_pos h2, EReal.bot_add]
  | top =>
    induction q with
    | bot => rw [EReal.add_bot, EReal.coe_mul_bot_of_pos h2, EReal.add_bot]
    | top => rw [EReal.top_add_top, EReal.coe_mul_top_of_pos h2, EReal.top_add_top]
    | coe r => rw [EReal.top_add_coe, EReal.coe_mul_top_of_pos h2, ← EReal.coe_mul, EReal.top_add_coe]
  | coe x =>
    induction q with
    | bot => rw [EReal.add_bot, EReal.coe_mul_bot_of_pos h2, EReal.add_bot]
    | top => rw [EReal.coe_add_top, EReal.coe_mul_top_of_pos h2, ← EReal.coe_mul, EReal.coe_add_top]
    | coe r => rw [← EReal.coe_add, ← EReal.coe_mul, ← EReal.coe_mul, ← EReal.coe_mul, ← EReal.coe_add, mul_add]

/-- And through a sum of many. -/
theorem half_sum {N : ℕ} (f : Fin N → EReal) : ch * ∑ k, f k = ∑ k, ch * f k := by
  induction (Finset.univ : Finset (Fin N)) using Finset.induction_on with
  | empty => simp
  | insert i s hi ih => rw [Finset.sum_insert hi, Finset.sum_insert hi, half_add, ih]

/-- Half the gradient is the gradient of the half. -/
theorem half_back (v t : Fin n → EReal) (j : Fin n) : ch * back v t j = back v (fun k => ch * t k) j := by
  have e : inner v (fun k => ch * t k) = ch * inner v t := by
    unfold inner
    rw [half_sum]
    exact Finset.sum_congr rfl fun k _ => mul_left_comm _ _ _
  unfold back
  rw [e, div_cn, div_cn, sub_eq_add_neg, sub_eq_add_neg]
  have d : ∀ p q : EReal, ch * (p + -q) = ch * p + -(ch * q) := fun p q => by
    rw [half_add, mul_neg]
  rw [d]
  refine congrArg₂ (fun p q : EReal => p + -q) (mul_left_comm _ _ _) ?_
  rw [mul_assoc ch, mul_left_comm ch]

/-! ## Tiles -/

/-- The inverse roots of a tile's rows, as one column. -/
theorem msTile (x : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (i : Fin a) (u : Fin 1) :
    (addf (divf (shapeCast ⟨2, ![a, 1]⟩ (multiReduction .add [1] ⟨1, ![a]⟩ (mulf x x) acc h hφ hacc) hc) (broadcast ⟨2, ![a, 1]⟩ cn))
        (broadcast ⟨2, ![a, 1]⟩ ce) : FVec Ideal ⟨2, ![a, 1]⟩ .f32) (ix2 i u) = ms (fun k => x (ix2 i k)) :=
  congrArg (fun w : EReal => Ideal.div w cn + ce) (rowSum (mulf x x) acc h hφ hacc hc i u)

/-- The closed form on a tile: `r` the column of inverse roots. -/
theorem backTile (x t : FVec Ideal ⟨2, ![a, b]⟩ .f32) (r : FVec Ideal ⟨2, ![a, 1]⟩ .f32) (acc : BitVec FTy.f32.bits)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (i : Fin a) (j : Fin b)
    (hr : r (ix2 i (0 : Fin 1)) = inv (fun k => x (ix2 i k))) :
    (subf (mulf (broadcastTo ⟨2, ![a, b]⟩ r hb) t) (mulf (mulf x (broadcastTo ⟨2, ![a, b]⟩ (mulf (mulf r r) r) hb))
        (broadcastTo ⟨2, ![a, b]⟩ (divf (shapeCast ⟨2, ![a, 1]⟩ (multiReduction .add [1] ⟨1, ![a]⟩ (mulf x t) acc h hφ hacc) hc) (broadcast ⟨2, ![a, 1]⟩ cn)) hb))
        : FVec Ideal ⟨2, ![a, b]⟩ .f32) (ix2 i j) = back (fun k => x (ix2 i k)) (fun k => t (ix2 i k)) j := by
  unfold back
  refine congrArg₂ (fun p q : EReal => p - q) (congrArg (fun w : EReal => w * t (ix2 i j)) ((col r hb i j).trans hr)) ?_
  refine congrArg₂ (fun p q : EReal => p * q) (congrArg (fun w : EReal => x (ix2 i j) * w) ((col _ hb i j).trans ?_)) ((col _ hb i j).trans ?_)
  · exact congrArg (fun w : EReal => (w * w) * w) hr
  · exact congrArg (fun w : EReal => Ideal.div w cn) (rowSum (mulf x t) acc h hφ hacc hc i 0)

/-- The column sums of a tile, as one row. -/
theorem colSum (x : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (hc : (⟨1, ![b]⟩ : Shape).ShapeCasts ⟨2, ![1, b]⟩) (u : Fin 1) (j : Fin b) :
    (shapeCast ⟨2, ![1, b]⟩ (multiReduction .add [0] ⟨1, ![b]⟩ x acc h hφ hacc) hc : FVec Ideal ⟨2, ![1, b]⟩ .f32) (ix2 u j)
      = ∑ k : Fin a, (x (ix2 k j) : EReal) := by
  rw [shapeCast_a_1a_apply, Ideal.multiReduction_add_single]
  refine Finset.sum_congr rfl fun k _ => ?_
  have e : h.lift (ix1 j) k = ix2 k j := funext fun d => by
    match d with
    | ⟨0, _⟩ => exact Fin.ext (by simp [Shape.Reduces.lift]; rfl)
    | ⟨1, _⟩ => exact Fin.ext (by simp [Shape.Reduces.lift]; rfl)
  exact congrArg (fun z => (x z : EReal)) e

/-- A cast of a shape to itself. -/
theorem castSelf (x : FVec Ideal ⟨2, ![a, b]⟩ .f32) (h : (⟨2, ![a, b]⟩ : Shape).ShapeCasts ⟨2, ![a, b]⟩) (i : Fin a) (j : Fin b) :
    (shapeCast ⟨2, ![a, b]⟩ x h : FVec Ideal ⟨2, ![a, b]⟩ .f32) (ix2 i j) = x (ix2 i j) :=
  shapeCast_apply x h (ix2 i j) (ix2 i j) rfl

/-! ## Running sums over the grid points -/

theorem running {N : ℕ} (f : ℕ → EReal) (o : (k : ℕ) → k < N → EReal) (h0 : ∀ h, o 0 h = 0 + f 0)
    (hs : ∀ k h h', o (k + 1) h = o k h' + f (k + 1)) : ∀ k h, o k h = ∑ p ∈ Finset.range (k + 1), f p
  | 0, h => by rw [h0, Finset.sum_range_one, zero_add]
  | k + 1, h => by rw [hs k h (Nat.lt_of_succ_lt h), running f o h0 hs k _, Finset.sum_range_succ _ (k + 1)]

/-- The rows of a tall matrix, tile after tile. -/
theorem tiles {f : Fin 4096 → EReal} {g : ℕ → EReal} (h : ∀ p : Fin 16, g p.val = ∑ s : Fin 256, f ⟨p.val * 256 + s.val, by have := p.isLt; have := s.isLt; omega⟩) :
    ∑ p ∈ Finset.range 16, g p = ∑ r, f r := by
  rw [sum_parts (N := 4096) (n := 16) (m := 256) rfl f, Finset.sum_range]
  exact Finset.sum_congr rfl fun p _ => h p

end Cert.RmsBack

end
-- ==== Proof.DxFfn.lean ====
/- The gradient of the feed-forward layer's input: the two products back to the normalised row, the normalisation's gradient added to the
   gradient passing by, and the gradient of the normalisation's factors. -/
module

public import proofs.«01_k».proof.Proof.RmsBack
public import proofs.«01_k».proof.Defs
public import proofs.«01_k».proof.Proof.Gen.DxFfnIdeal.Value
public import proofs.«01_k».proof.Proof.Gen.DxFfnRefIdeal.Run
public import proofs.«01_k».proof.Proof.Gen.DxFfnRefIdeal.Read
public import Idealize.ShloMosaic.Lib.Tactic.ValueTie

@[expose] public section

noncomputable section

namespace Cert.DxFfnTie

open Idealize.ShloMosaic Idealize.ShloMosaic.TcCoe Idealize.SL.Sem
open Cert.DxFfnIdeal Cert.DxFfnIdeal.Gen Cert.DxFfnIdeal.Value
open Cert.Rows Cert.RmsBack
open scoped BigOperators

/-- Row r of one product, over the four shards. -/
def fRow {n : ℕ} (x : Vec Ideal ⟨3, ![4, n, 704]⟩ .bf16) (w : Vec Ideal S4x704x1024 .bf16) (r : Fin n) (d : Fin 1024) : EReal :=
  ∑ k : Fin 4, ∑ s : Fin 704, (x (ValueIdx.ix3 k r s) : EReal) * (w (ValueIdx.ix3 k s d) : EReal)

/-- Row r of the gradient of the normalised row. -/
def dyRow {n : ℕ} (x0 x1 : Vec Ideal ⟨3, ![4, n, 704]⟩ .bf16) (x2 x3 : Vec Ideal S4x704x1024 .bf16) (r : Fin n) (d : Fin 1024) : EReal :=
  fRow x0 x2 r d + fRow x1 x3 r d

/-- Row r of a matrix. -/
def row {n : ℕ} (x : Vec Ideal ⟨2, ![n, 1024]⟩ .f32) (r : Fin n) (d : Fin 1024) : EReal := (x (ValueIdx.ix2 r d) : EReal)

/-- A row times the factors. -/
def scaled (v : Fin 1024 → EReal) (x5 : Vec Ideal S1x1024 .f32) (d : Fin 1024) : EReal := v d * (x5 (ValueIdx.ix2 0 d) : EReal)

/-- Row r of the gradient of the layer's input. -/
def dhRow {n : ℕ} (x0 x1 : Vec Ideal ⟨3, ![4, n, 704]⟩ .bf16) (x2 x3 : Vec Ideal S4x704x1024 .bf16) (x4 : Vec Ideal ⟨2, ![n, 1024]⟩ .f32) (x5 : Vec Ideal S1x1024 .f32)
    (x6 : Vec Ideal ⟨2, ![n, 1024]⟩ .f32) (r : Fin n) (d : Fin 1024) : EReal :=
  row x6 r d + back (row x4 r) (scaled (dyRow x0 x1 x2 x3 r) x5) d

/-- What row r adds to the gradient of the factors. -/
def dgPart {n : ℕ} (x0 x1 : Vec Ideal ⟨3, ![4, n, 704]⟩ .bf16) (x2 x3 : Vec Ideal S4x704x1024 .bf16) (x4 : Vec Ideal ⟨2, ![n, 1024]⟩ .f32) (r : Fin n) (d : Fin 1024) : EReal :=
  (dyRow x0 x1 x2 x3 r d * row x4 r d) * inv (row x4 r)

/-! ## The kernel's tile -/

theorem slabDot (x0 : Vec Ideal S4x256x704 .bf16) (x1 : Vec Ideal S4x704x1024 .bf16) {o : ℕ} (k : Fin 4) (hk : k.val = o)
    (i0 : ∀ d, (![o, 0, 0] : Fin 3 → ℕ) d + (![1, 256, 704] : Fin 3 → ℕ) d ≤ (S4x256x704).size d)
    (i1 : ∀ d, (![o, 0, 0] : Fin 3 → ℕ) d + (![1, 704, 1024] : Fin 3 → ℕ) d ≤ (S4x704x1024).size d)
    (h0 : S1x256x704.ShapeCasts S256x704) (h1 : S1x704x1024.ShapeCasts S704x1024) (p : Fin 256) (d : Fin 1024) :
    (matmul (φ₁ := .bf16) (φ₂ := .bf16) dot_S256x704_S704x1024_S256x1024_1_0_0_1_n_n none
        (shapeCast S256x704 (View.ld (Val := Elt Ideal) (e' := .bf16) x0 (Rect.unit (s := S4x256x704) ![o, 0, 0] ![1, 256, 704] i0) : FVec Ideal S1x256x704 .bf16) h0 : FVec Ideal S256x704 .bf16)
        (shapeCast S704x1024 (View.ld (Val := Elt Ideal) (e' := .bf16) x1 (Rect.unit (s := S4x704x1024) ![o, 0, 0] ![1, 704, 1024] i1) : FVec Ideal S1x704x1024 .bf16) h1 : FVec Ideal S704x1024 .bf16)
        (constant S256x1024 .f32 0x00000000#32) : FVec Ideal S256x1024 .f32) (ValueIdx.ix2 p d)
      = ∑ s : Fin 704, (x0 (ValueIdx.ix3 k p s) : EReal) * (x1 (ValueIdx.ix3 k s d) : EReal) := by
  refine Eq.trans (Cert.Prods.nn (φ := .bf16) (ψ := .bf16) (shapeCast S256x704 _ h0) (shapeCast S704x1024 _ h1) _ none p d) ?_
  refine Finset.sum_congr rfl fun s _ => mul2 ?_ ?_
  · exact (ValueIdx.shapeCast_1ab_ab_apply _ _ _ _).trans (slab x0 i0 k hk p s)
  · exact (ValueIdx.shapeCast_1ab_ab_apply _ _ _ _).trans (slab x1 i1 k hk s d)

/-- The tile of the normalised row's gradient. -/
def dyT (x0 x1 : Vec Ideal S4x256x704 .bf16) (x2 x3 : Vec Ideal S4x704x1024 .bf16) : FVec Ideal S256x1024 .f32 :=
  k0_pay7 (F := Ideal) (k0_pay5 (F := Ideal) (View.ld (Val := Elt Ideal) (e' := .bf16) x0 (Rect.unit (s := S4x256x704) ![0, 0, 0] S1x256x704.size inb_S4x256x704_S1x256x704_0_0_0)) (View.ld (Val := Elt Ideal) (e' := .bf16) x2 (Rect.unit (s := S4x704x1024) ![0, 0, 0] S1x704x1024.size inb_S4x704x1024_S1x704x1024_0_0_0)) (View.ld (Val := Elt Ideal) (e' := .bf16) x0 (Rect.unit (s := S4x256x704) ![1, 0, 0] S1x256x704.size inb_S4x256x704_S1x256x704_1_0_0)) (View.ld (Val := Elt Ideal) (e' := .bf16) x2 (Rect.unit (s := S4x704x1024) ![1, 0, 0] S1x704x1024.size inb_S4x704x1024_S1x704x1024_1_0_0)) (View.ld (Val := Elt Ideal) (e' := .bf16) x0 (Rect.unit (s := S4x256x704) ![2, 0, 0] S1x256x704.size inb_S4x256x704_S1x256x704_2_0_0)) (View.ld (Val := Elt Ideal) (e' := .bf16) x2 (Rect.unit (s := S4x704x1024) ![2, 0, 0] S1x704x1024.size inb_S4x704x1024_S1x704x1024_2_0_0)) (View.ld (Val := Elt Ideal) (e' := .bf16) x0 (Rect.unit (s := S4x256x704) ![3, 0, 0] S1x256x704.size inb_S4x256x704_S1x256x704_3_0_0)) (View.ld (Val := Elt Ideal) (e' := .bf16) x2 (Rect.unit (s := S4x704x1024) ![3, 0, 0] S1x704x1024.size inb_S4x704x1024_S1x704x1024_3_0_0))) (k0_pay6 (F := Ideal) (View.ld (Val := Elt Ideal) (e' := .bf16) x1 (Rect.unit (s := S4x256x704) ![0, 0, 0] S1x256x704.size inb_S4x256x704_S1x256x704_0_0_0))) (View.ld (Val := Elt Ideal) (e' := .bf16) x3 (Rect.unit (s := S4x704x1024) ![0, 0, 0] S1x704x1024.size inb_S4x704x1024_S1x704x1024_0_0_0)) (View.ld (Val := Elt Ideal) (e' := .bf16) x1 (Rect.unit (s := S4x256x704) ![1, 0, 0] S1x256x704.size inb_S4x256x704_S1x256x704_1_0_0)) (View.ld (Val := Elt Ideal) (e' := .bf16) x3 (Rect.unit (s := S4x704x1024) ![1, 0, 0] S1x704x1024.size inb_S4x704x1024_S1x704x1024_1_0_0)) (View.ld (Val := Elt Ideal) (e' := .bf16) x1 (Rect.unit (s := S4x256x704) ![2, 0, 0] S1x256x704.size inb_S4x256x704_S1x256x704_2_0_0)) (View.ld (Val := Elt Ideal) (e' := .bf16) x3 (Rect.unit (s := S4x704x1024) ![2, 0, 0] S1x704x1024.size inb_S4x704x1024_S1x704x1024_2_0_0)) (View.ld (Val := Elt Ideal) (e' := .bf16) x1 (Rect.unit (s := S4x256x704) ![3, 0, 0] S1x256x704.size inb_S4x256x704_S1x256x704_3_0_0)) (View.ld (Val := Elt Ideal) (e' := .bf16) x3 (Rect.unit (s := S4x704x1024) ![3, 0, 0] S1x704x1024.size inb_S4x704x1024_S1x704x1024_3_0_0))

/-- The tile of the input's gradient, and the factors' gradient after one more tile. -/
def dhT (x0 x1 : Vec Ideal S4x256x704 .bf16) (x2 x3 : Vec Ideal S4x704x1024 .bf16) (x4 : Vec Ideal S256x1024 .f32) (x5 : Vec Ideal S1x1024 .f32) (x6 : Vec Ideal S256x1024 .f32) : FVec Ideal S256x1024 .f32 :=
  k0_pay2 (F := Ideal) (dyT x0 x1 x2 x3) x4 x5 (k0_pay8 (F := Ideal) x4) x6

def dgT (x0 x1 : Vec Ideal S4x256x704 .bf16) (x2 x3 : Vec Ideal S4x704x1024 .bf16) (x4 : Vec Ideal S256x1024 .f32) (acc : Vec Ideal S1x1024 .f32) : FVec Ideal S1x1024 .f32 :=
  k0_pay4 (F := Ideal) (dyT x0 x1 x2 x3) x4 (k0_pay8 (F := Ideal) x4) acc

theorem four (z a b c d : EReal) : z + a + b + c + d = z + (a + b + c + d) := by
  rw [add_assoc, add_assoc, add_assoc, ← add_assoc b, ← add_assoc a, ← add_assoc a]

theorem dyT_apply (x0 x1 : Vec Ideal S4x256x704 .bf16) (x2 x3 : Vec Ideal S4x704x1024 .bf16) (p : Fin 256) (d : Fin 1024) :
    dyT x0 x1 x2 x3 (ValueIdx.ix2 p d) = dyRow x0 x1 x2 x3 p d := by
  unfold dyT k0_pay7 k0_pay5 k0_pay6 dyRow fRow
  rw [Fin.sum_univ_four, Fin.sum_univ_four]
  refine Eq.trans ?_ (four _ _ _ _ _)
  refine add2 (add2 (add2 (add2
    (add2 (add2 (add2 ?_ ?_) ?_) ?_) ?_) ?_) ?_) ?_
  · exact slabDot x0 x2 0 rfl _ _ _ _ p d
  · exact slabDot x0 x2 1 rfl _ _ _ _ p d
  · exact slabDot x0 x2 2 rfl _ _ _ _ p d
  · exact slabDot x0 x2 3 rfl _ _ _ _ p d
  · exact slabDot x1 x3 0 rfl _ _ _ _ p d
  · exact slabDot x1 x3 1 rfl _ _ _ _ p d
  · exact slabDot x1 x3 2 rfl _ _ _ _ p d
  · exact slabDot x1 x3 3 rfl _ _ _ _ p d

theorem rT (x4 : Vec Ideal S256x1024 .f32) (p : Fin 256) : k0_pay1 (F := Ideal) (k0_pay8 (F := Ideal) x4) (ValueIdx.ix2 p (0 : Fin 1)) = inv (row x4 p) :=
  congrArg Ideal.rsqrt (msTile x4 _ _ _ _ _ p 0)

theorem dhT_apply (x0 x1 : Vec Ideal S4x256x704 .bf16) (x2 x3 : Vec Ideal S4x704x1024 .bf16) (x4 : Vec Ideal S256x1024 .f32) (x5 : Vec Ideal S1x1024 .f32) (x6 : Vec Ideal S256x1024 .f32) (p : Fin 256) (d : Fin 1024) :
    dhT x0 x1 x2 x3 x4 x5 x6 (ValueIdx.ix2 p d) = dhRow x0 x1 x2 x3 x4 x5 x6 p d := by
  unfold dhT k0_pay2 dhRow
  refine congrArg (fun w : EReal => row x6 p d + w) ?_
  refine (backTile x4 _ _ _ _ _ _ _ _ p d (rT x4 p)).trans ?_
  refine congrArg (fun t => back (row x4 p) t d) (funext fun k => ?_)
  exact mul2 (dyT_apply x0 x1 x2 x3 p k) (ValueIdx.broadcastTo_1b_ab_apply _ _ _ _)

theorem dgT_apply (x0 x1 : Vec Ideal S4x256x704 .bf16) (x2 x3 : Vec Ideal S4x704x1024 .bf16) (x4 : Vec Ideal S256x1024 .f32) (acc : Vec Ideal S1x1024 .f32) (d : Fin 1024) :
    dgT x0 x1 x2 x3 x4 acc (ValueIdx.ix2 (0 : Fin 1) d) = (acc (ValueIdx.ix2 0 d) : EReal) + ∑ p : Fin 256, dgPart x0 x1 x2 x3 x4 p d := by
  unfold dgT k0_pay4
  refine add2 (castSelf acc _ 0 d) ((colSum _ _ _ _ _ _ 0 d).trans ?_)
  refine Finset.sum_congr rfl fun p _ => ?_
  exact mul2 (congrArg (fun u : EReal => u * row x4 p d) (dyT_apply x0 x1 x2 x3 p d)) ((col _ _ p d).trans (rT x4 p))

section leaves
variable (c : Dev nD) (i : grid0.Coords) (arg1 : Memref sig .tc .vmem S4x256x704 .bf16) (harg1 : arg1.IsWhole) (arg2 : Memref sig .tc .vmem S4x256x704 .bf16) (harg2 : arg2.IsWhole) (arg3 : Memref sig .tc .vmem S4x704x1024 .bf16) (harg3 : arg3.IsWhole) (arg4 : Memref sig .tc .vmem S4x704x1024 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole)

theorem leftA7 (hc0 : cond0_0 i) (x0 x1 : Vec Ideal S4x256x704 .bf16) (x2 x3 : Vec Ideal S4x704x1024 .bf16) (x4 : Vec Ideal S256x1024 .f32) (x5 : Vec Ideal S1x1024 .f32) (x6 : Vec Ideal S256x1024 .f32) :
    out0_A_7 (F := Ideal) c i arg1 harg1 arg2 harg2 arg3 harg3 arg4 harg4 arg5 harg5 arg6 harg6 arg7 harg7 arg8 harg8 arg9 harg9 hc0 x0 x1 x2 x3 x4 x5 x6 = dhT x0 x1 x2 x3 x4 x5 x6 := by
  unfold out0_A_7
  rw [View.read_writes_eq_canon _ _ _ (cover0_A_7 _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg7.read_unread, ld2]
  refine (View.canon_unit_zero zero2 _ _).trans ?_
  rfl

theorem leftB7 (hc0 : ¬cond0_0 i) (x0 x1 : Vec Ideal S4x256x704 .bf16) (x2 x3 : Vec Ideal S4x704x1024 .bf16) (x4 : Vec Ideal S256x1024 .f32) (x5 : Vec Ideal S1x1024 .f32) (x6 : Vec Ideal S256x1024 .f32) (xo8 : Vec Ideal S1x1024 .f32) :
    out0_B_7 (F := Ideal) c i arg1 harg1 arg2 harg2 arg3 harg3 arg4 harg4 arg5 harg5 arg6 harg6 arg7 harg7 arg8 harg8 arg9 harg9 hc0 x0 x1 x2 x3 x4 x5 x6 xo8 = dhT x0 x1 x2 x3 x4 x5 x6 := by
  unfold out0_B_7
  rw [View.read_writes_eq_canon _ _ _ (cover0_B_7 _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg7.read_unread, ld2]
  refine (View.canon_unit_zero zero2 _ _).trans ?_
  rfl

theorem leftA8 (hc0 : cond0_0 i) (x0 x1 : Vec Ideal S4x256x704 .bf16) (x2 x3 : Vec Ideal S4x704x1024 .bf16) (x4 : Vec Ideal S256x1024 .f32) (x5 : Vec Ideal S1x1024 .f32) (x6 : Vec Ideal S256x1024 .f32) :
    out0_A_8 (F := Ideal) c i arg1 harg1 arg2 harg2 arg3 harg3 arg4 harg4 arg5 harg5 arg6 harg6 arg7 harg7 arg8 harg8 arg9 harg9 hc0 x0 x1 x2 x3 x4 x5 x6 = dgT x0 x1 x2 x3 x4 (k0_pay3 (F := Ideal)) := by
  unfold out0_A_8
  rw [View.read_writes_eq_canon _ _ _ (cover0_A_8 _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg7.read_unread, ld2]
  refine (View.canon_cons_unit_zero zero2 _ _ _).trans ?_
  exact congrArg (dgT x0 x1 x2 x3 x4) (View.readCov_unit_lit _ _ _ (by intro a; fin_cases a <;> rfl))

theorem leftB8 (hc0 : ¬cond0_0 i) (x0 x1 : Vec Ideal S4x256x704 .bf16) (x2 x3 : Vec Ideal S4x704x1024 .bf16) (x4 : Vec Ideal S256x1024 .f32) (x5 : Vec Ideal S1x1024 .f32) (x6 : Vec Ideal S256x1024 .f32) (xo8 : Vec Ideal S1x1024 .f32) :
    out0_B_8 (F := Ideal) c i arg1 harg1 arg2 harg2 arg3 harg3 arg4 harg4 arg5 harg5 arg6 harg6 arg7 harg7 arg8 harg8 arg9 harg9 hc0 x0 x1 x2 x3 x4 x5 x6 xo8 = dgT x0 x1 x2 x3 x4 xo8 := by
  unfold out0_B_8
  rw [View.read_writes_eq_canon _ _ _ (cover0_B_8 _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg7.read_unread, harg9.read_unread, ld2]
  refine (View.canon_unit_zero zero2 _ _).trans ?_
  rfl

end leaves

/-! ## The blocks -/

variable (m : (ℓ : Loc nD τ sig) → Buf (Elt Ideal) ℓ) (c : Dev nD)

theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

theorem block0 (t : Fin cfg0.N) (k : Fin 4) (r : Fin 4096) (p : Fin 256) (h : t.val * 256 + p.val = r.val) (s : Fin 704) :
    (iblk m c 0 t : Vec Ideal S4x256x704 .bf16) (ValueIdx.ix3 k p s) = m ((c : Thread nD τ).loc main_arg0) (ValueIdx.ix3 k r s) := by
  unfold iblk
  rw [View.read_apply]
  show V m c main_arg0 _ = _
  rw [V_main_arg0]
  refine congrArg _ ?_
  funext a
  apply Fin.ext
  match a with
  | ⟨0, _⟩ => show win0_0.index t 0 * 4 + 1 * k.val = k.val; rw [(index0 t).1]; exact Cert.Prods.whole _ _
  | ⟨1, _⟩ => show win0_0.index t 1 * 256 + 1 * p.val = r.val; rw [(index0 t).2.1]; exact Cert.Prods.step h
  | ⟨2, _⟩ => show win0_0.index t 2 * 704 + 1 * s.val = s.val; rw [(index0 t).2.2]; exact Cert.Prods.whole _ _

theorem block1 (t : Fin cfg0.N) (k : Fin 4) (r : Fin 4096) (p : Fin 256) (h : t.val * 256 + p.val = r.val) (s : Fin 704) :
    (iblk m c 1 t : Vec Ideal S4x256x704 .bf16) (ValueIdx.ix3 k p s) = m ((c : Thread nD τ).loc main_arg1) (ValueIdx.ix3 k r s) := by
  unfold iblk
  rw [View.read_apply]
  show V m c main_arg1 _ = _
  rw [V_main_arg1]
  refine congrArg _ ?_
  funext a
  apply Fin.ext
  match a with
  | ⟨0, _⟩ => show win0_1.index t 0 * 4 + 1 * k.val = k.val; rw [(index1 t).1]; exact Cert.Prods.whole _ _
  | ⟨1, _⟩ => show win0_1.index t 1 * 256 + 1 * p.val = r.val; rw [(index1 t).2.1]; exact Cert.Prods.step h
  | ⟨2, _⟩ => show win0_1.index t 2 * 704 + 1 * s.val = s.val; rw [(index1 t).2.2]; exact Cert.Prods.whole _ _

theorem block2 (t : Fin cfg0.N) (k : Fin 4) (p : Fin 704) (s : Fin 1024) :
    (iblk m c 2 t : Vec Ideal S4x704x1024 .bf16) (ValueIdx.ix3 k p s) = m ((c : Thread nD τ).loc main_arg2) (ValueIdx.ix3 k p s) := by
  unfold iblk
  rw [View.read_apply]
  show V m c main_arg2 _ = _
  rw [V_main_arg2]
  refine congrArg _ ?_
  funext a
  apply Fin.ext
  match a with
  | ⟨0, _⟩ => show win0_2.index t 0 * 4 + 1 * k.val = k.val; rw [(index2 t).1]; exact Cert.Prods.whole _ _
  | ⟨1, _⟩ => show win0_2.index t 1 * 704 + 1 * p.val = p.val; rw [(index2 t).2.1]; exact Cert.Prods.whole _ _
  | ⟨2, _⟩ => show win0_2.index t 2 * 1024 + 1 * s.val = s.val; rw [(index2 t).2.2]; exact Cert.Prods.whole _ _

theorem block3 (t : Fin cfg0.N) (k : Fin 4) (p : Fin 704) (s : Fin 1024) :
    (iblk m c 3 t : Vec Ideal S4x704x1024 .bf16) (ValueIdx.ix3 k p s) = m ((c : Thread nD τ).loc main_arg3) (ValueIdx.ix3 k p s) := by
  unfold iblk
  rw [View.read_apply]
  show V m c main_arg3 _ = _
  rw [V_main_arg3]
  refine congrArg _ ?_
  funext a
  apply Fin.ext
  match a with
  | ⟨0, _⟩ => show win0_3.index t 0 * 4 + 1 * k.val = k.val; rw [(index3 t).1]; exact Cert.Prods.whole _ _
  | ⟨1, _⟩ => show win0_3.index t 1 * 704 + 1 * p.val = p.val; rw [(index3 t).2.1]; exact Cert.Prods.whole _ _
  | ⟨2, _⟩ => show win0_3.index t 2 * 1024 + 1 * s.val = s.val; rw [(index3 t).2.2]; exact Cert.Prods.whole _ _

theorem block4 (t : Fin cfg0.N) (r : Fin 4096) (p : Fin 256) (h : t.val * 256 + p.val = r.val) (d : Fin 1024) :
    (iblk m c 4 t : Vec Ideal S256x1024 .f32) (ValueIdx.ix2 p d) = m ((c : Thread nD τ).loc main_arg4) (ValueIdx.ix2 r d) := by
  unfold iblk
  rw [View.read_apply]
  show V m c main_arg4 _ = _
  rw [V_main_arg4]
  refine congrArg _ ?_
  refine idx2 ?_ ?_
  · show win0_4.index t 0 * 256 + 1 * p.val = r.val; rw [(index4 t).1]; exact Cert.Prods.step h
  · show win0_4.index t 1 * 1024 + 1 * d.val = d.val; rw [(index4 t).2]; exact Cert.Prods.whole _ _

theorem block5 (t : Fin cfg0.N) (d : Fin 1024) :
    (iblk m c 5 t : Vec Ideal S1x1024 .f32) (ValueIdx.ix2 0 d) = m ((c : Thread nD τ).loc main_arg5) (ValueIdx.ix2 0 d) := by
  unfold iblk
  rw [View.read_apply]
  show V m c main_arg5 _ = _
  rw [V_main_arg5]
  refine congrArg _ ?_
  refine idx2 ?_ ?_
  · show win0_5.index t 0 * 1 + 1 * 0 = 0; rw [(index5 t).1]
  · show win0_5.index t 1 * 1024 + 1 * d.val = d.val; rw [(index5 t).2]; exact Cert.Prods.whole _ _

theorem block6 (t : Fin cfg0.N) (r : Fin 4096) (p : Fin 256) (h : t.val * 256 + p.val = r.val) (d : Fin 1024) :
    (iblk m c 6 t : Vec Ideal S256x1024 .f32) (ValueIdx.ix2 p d) = m ((c : Thread nD τ).loc main_arg6) (ValueIdx.ix2 r d) := by
  unfold iblk
  rw [View.read_apply]
  show V m c main_arg6 _ = _
  rw [V_main_arg6]
  refine congrArg _ ?_
  refine idx2 ?_ ?_
  · show win0_6.index t 0 * 256 + 1 * p.val = r.val; rw [(index6 t).1]; exact Cert.Prods.step h
  · show win0_6.index t 1 * 1024 + 1 * d.val = d.val; rw [(index6 t).2]; exact Cert.Prods.whole _ _

theorem dyBlock (t : Fin cfg0.N) (r : Fin 4096) (p : Fin 256) (h : t.val * 256 + p.val = r.val) :
    dyRow (iblk m c 0 t : Vec Ideal S4x256x704 .bf16) (iblk m c 1 t) (iblk m c 2 t) (iblk m c 3 t) p = dyRow (n := 4096) (m ((c : Thread nD τ).loc main_arg0)) (m ((c : Thread nD τ).loc main_arg1)) (m ((c : Thread nD τ).loc main_arg2)) (m ((c : Thread nD τ).loc main_arg3)) r :=
  funext fun d => add2
    (Finset.sum_congr rfl fun k _ => Finset.sum_congr rfl fun s _ => mul2 (block0 m c t k r p h s) (block2 m c t k s d))
    (Finset.sum_congr rfl fun k _ => Finset.sum_congr rfl fun s _ => mul2 (block1 m c t k r p h s) (block3 m c t k s d))

theorem rowBlock4 (t : Fin cfg0.N) (r : Fin 4096) (p : Fin 256) (h : t.val * 256 + p.val = r.val) :
    row (iblk m c 4 t : Vec Ideal S256x1024 .f32) p = row (n := 4096) (m ((c : Thread nD τ).loc main_arg4)) r := funext fun d => block4 m c t r p h d

theorem scaledBlock (t : Fin cfg0.N) (v : Fin 1024 → EReal) : scaled v (iblk m c 5 t : Vec Ideal S1x1024 .f32) = scaled v (m ((c : Thread nD τ).loc main_arg5)) :=
  funext fun d => congrArg (fun w : EReal => v d * w) (block5 m c t d)

theorem dhBlock (t : Fin cfg0.N) (r : Fin 4096) (p : Fin 256) (h : t.val * 256 + p.val = r.val) (d : Fin 1024) :
    dhRow (iblk m c 0 t : Vec Ideal S4x256x704 .bf16) (iblk m c 1 t) (iblk m c 2 t) (iblk m c 3 t) (iblk m c 4 t : Vec Ideal S256x1024 .f32) (iblk m c 5 t) (iblk m c 6 t : Vec Ideal S256x1024 .f32) p d
      = dhRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r d := by
  unfold dhRow
  rw [dyBlock m c t r p h, rowBlock4 m c t r p h, scaledBlock m c t]
  exact congrArg (fun w : EReal => w + back _ _ d) (block6 m c t r p h d)

theorem dgBlock (t : Fin cfg0.N) (r : Fin 4096) (p : Fin 256) (h : t.val * 256 + p.val = r.val) (d : Fin 1024) :
    dgPart (iblk m c 0 t : Vec Ideal S4x256x704 .bf16) (iblk m c 1 t) (iblk m c 2 t) (iblk m c 3 t) (iblk m c 4 t : Vec Ideal S256x1024 .f32) p d
      = dgPart (n := 4096) (m ((c : Thread nD τ).loc main_arg0)) (m ((c : Thread nD τ).loc main_arg1)) (m ((c : Thread nD τ).loc main_arg2)) (m ((c : Thread nD τ).loc main_arg3)) (m ((c : Thread nD τ).loc main_arg4)) r d := by
  unfold dgPart
  rw [dyBlock m c t r p h, rowBlock4 m c t r p h]

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

/-- What one point leaves in the first result's block. -/
theorem left7 (t : Fin cfg0.N) : (outsAt0 m c t.val t.isLt).1
    = dhT (iblk m c 0 t) (iblk m c 1 t) (iblk m c 2 t) (iblk m c 3 t) (iblk m c 4 t) (iblk m c 5 t) (iblk m c 6 t) := by
  by_cases h0 : t.val % 16 = 0
  · rw [outsAt0_A m c t h0]
    dsimp only
    exact leftA7 c (grid0.coords t) _ _ _ _ _ _ _ _ _ _ _ _ _ _ _ _ _ _ ((hcond0_0 t).mpr h0) _ _ _ _ _ _ _
  · rw [outsAt0_B m c t h0]
    dsimp only
    exact leftB7 c (grid0.coords t) _ _ _ _ _ _ _ _ _ _ _ _ _ _ _ _ _ _ (fun h => h0 ((hcond0_0 t).mp h)) _ _ _ _ _ _ _ _

/-- What the first point leaves in the second result's block. -/
theorem first8 (t : Fin cfg0.N) (h0 : t.val % 16 = 0) : (outsAt0 m c t.val t.isLt).2
    = dgT (iblk m c 0 t) (iblk m c 1 t) (iblk m c 2 t) (iblk m c 3 t) (iblk m c 4 t) (k0_pay3 (F := Ideal)) := by
  rw [outsAt0_A m c t h0]
  dsimp only
  exact leftA8 c (grid0.coords t) _ _ _ _ _ _ _ _ _ _ _ _ _ _ _ _ _ _ ((hcond0_0 t).mpr h0) _ _ _ _ _ _ _

/-- What a later point leaves in the second result's block. -/
theorem left8 (t : Fin cfg0.N) (h0 : ¬t.val % 16 = 0) : (outsAt0 m c t.val t.isLt).2
    = dgT (iblk m c 0 t) (iblk m c 1 t) (iblk m c 2 t) (iblk m c 3 t) (iblk m c 4 t) (outsAt0 m c (t.val - 1) (Nat.lt_of_le_of_lt (Nat.sub_le _ _) t.isLt)).2 := by
  rw [outsAt0_B m c t h0]
  dsimp only
  exact leftB8 c (grid0.coords t) _ _ _ _ _ _ _ _ _ _ _ _ _ _ _ _ _ _ (fun h => h0 ((hcond0_0 t).mp h)) _ _ _ _ _ _ _ _

/-- The gradient of the input that the call leaves. -/
theorem final7 (r : Fin 4096) (d : Fin 1024) :
    (dats m 0 c).arrAt 7 cfg0.N (ValueIdx.ix2 r d) = dhRow (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r d := by
  obtain ⟨t, ht0⟩ := pointOf r
  have hp : r.val % 256 < 256 := Nat.mod_lt _ (by decide)
  have h := congrFun (blocks7 m c t (flush0_7 _)) (ValueIdx.ix2 (⟨r.val % 256, hp⟩ : Fin 256) d)
  rw [flushed7, left7] at h
  rw [View.read_apply] at h
  refine Eq.trans (congrArg _ ?_) (h.trans ?_)
  · refine idx2 ?_ ?_
    · show r.val = win0_7.index t 0 * 256 + 1 * (r.val % 256); rw [(index7 t).1]; exact rowAt ht0
    · show d.val = win0_7.index t 1 * 1024 + 1 * d.val; rw [(index7 t).2]; exact wholeAt _ _
  · exact (dhT_apply _ _ _ _ _ _ _ _ _).trans (dhBlock m c t r ⟨r.val % 256, hp⟩ (rowFrom ht0) d)

/-- What one point adds to the gradient of the factors. -/
def part (d : Fin 1024) (k : ℕ) : EReal :=
  if h : k < cfg0.N then ∑ p : Fin 256, dgPart (iblk m c 0 ⟨k, h⟩ : Vec Ideal S4x256x704 .bf16) (iblk m c 1 ⟨k, h⟩) (iblk m c 2 ⟨k, h⟩) (iblk m c 3 ⟨k, h⟩)
    (iblk m c 4 ⟨k, h⟩ : Vec Ideal S256x1024 .f32) p d else 0

theorem start8 (d : Fin 1024) (h : 0 < cfg0.N) : ((outsAt0 m c 0 h).2 (ValueIdx.ix2 (0 : Fin 1) d) : EReal) = 0 + part m c d 0 := by
  refine (congrFun (first8 m c ⟨0, h⟩ rfl) _).trans ((dgT_apply _ _ _ _ _ _ d).trans ?_)
  refine add2 zeroBits ?_
  unfold part
  rw [dif_pos h]

theorem next8 (d : Fin 1024) (k : ℕ) (h : k + 1 < cfg0.N) (h' : k < cfg0.N) :
    ((outsAt0 m c (k + 1) h).2 (ValueIdx.ix2 (0 : Fin 1) d) : EReal) = ((outsAt0 m c k h').2 (ValueIdx.ix2 (0 : Fin 1) d) : EReal) + part m c d (k + 1) := by
  have h16 : k + 1 < 16 := lt_of_lt_of_eq h (show cfg0.N = 16 from N_0)
  refine (congrFun (left8 m c ⟨k + 1, h⟩ (succ_mod h16)) _).trans ((dgT_apply _ _ _ _ _ _ d).trans ?_)
  refine congrArg (fun q : EReal => ((outsAt0 m c k h').2 (ValueIdx.ix2 (0 : Fin 1) d) : EReal) + q) ?_
  unfold part
  rw [dif_pos h]

theorem last_lt : 15 < cfg0.N := by rw [show cfg0.N = 16 from N_0]; decide

theorem whole8 : (dats m 0 c).arrAt 8 cfg0.N = (outsAt0 m c 15 last_lt).2 :=
  (dats m 0 c).arrAt_eq_of_cover 8 (outsAt0 m c 15 last_lt).2 (fun t hf => by
    have hN : t.val < 16 := lt_of_lt_of_eq t.isLt (show cfg0.N = 16 from N_0)
    obtain rfl : t = t0_15 := Fin.ext (last_of ((flush0_8 t).mp hf) hN)
    rw [flushed8]
    have hz' : (fun a => win0_8.index t0_15 a * main_v0_1.ty.shape.size a) = fun _ => 0 := funext fun a => by fin_cases a <;> decide
    exact (Memref.read_access_unit_zero (Elt Ideal) main_v0_1 hz' (fun a => by rw [congrFun hz' a]; simp) (outsAt0 m c 15 last_lt).2).symm)
    fun i => ⟨t0_15, (flush0_8 t0_15).mpr rfl, by
      show i ∈ ((View.whole main_v0_1).slice (win0_8.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

/-- The gradient of the factors that the call leaves. -/
theorem final8 (d : Fin 1024) :
    (dats m 0 c).arrAt 8 cfg0.N (ValueIdx.ix2 (0 : Fin 1) d) = ∑ r : Fin 4096, dgPart (n := 4096) (m ((c : Thread nD τ).loc main_arg0)) (m ((c : Thread nD τ).loc main_arg1)) (m ((c : Thread nD τ).loc main_arg2)) (m ((c : Thread nD τ).loc main_arg3)) (m ((c : Thread nD τ).loc main_arg4)) r d := by
  rw [whole8]
  refine (running (part m c d) (fun k h => ((outsAt0 m c k h).2 (ValueIdx.ix2 (0 : Fin 1) d) : EReal)) (start8 m c d) (next8 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => dgBlock m c ⟨p.val, hp⟩ _ s rfl d

/-! ## The reference -/

section reference
open Cert.DxFfnRefIdeal.Read

variable (x0 x1 : Vec Ideal S4x4096x704 .bf16) (x2 x3 : Vec Ideal S4x704x1024 .bf16) (x4 : Vec Ideal S4096x1024 .f32) (x5 : Vec Ideal S1x1024 .f32) (x6 : Vec Ideal S4096x1024 .f32)

theorem ref29 (i : S4096x1024.Idx) : val_main_v29 (F := Ideal) x1 x3 i = fRow x1 x3 (i 0) (i 1) := by
  refine (val_main_v29_apply _ _ _).trans ?_
  refine (sum_parts (n := 4) (m := 704) rfl _).trans ?_
  refine Finset.sum_congr rfl fun k _ => Finset.sum_congr rfl fun s _ => ?_
  rw [val_main_v28_apply, val_main_v27_apply, val_main_v26_apply, val_main_v5_apply, val_main_v4_apply, val_main_v3_apply]
  have hk := k.isLt
  have hs := s.isLt
  have hr : (i 0).val < 4096 := (i 0).isLt
  have hd : (i 1).val < 1024 := (i 1).isLt
  refine mul2 (congrArg x1 ?_) (congrArg x3 ?_)
  · funext a
    apply Fin.ext
    match a with
    | ⟨0, _⟩ => show ((i 0).val * 2816 + (k.val * 704 + s.val)) / 704 % 4 = k.val; omega
    | ⟨1, _⟩ => show ((i 0).val * 2816 + (k.val * 704 + s.val)) / 2816 = (i 0).val; omega
    | ⟨2, _⟩ => show ((i 0).val * 2816 + (k.val * 704 + s.val)) % 704 = s.val; omega
  · funext a
    apply Fin.ext
    match a with
    | ⟨0, _⟩ => show ((k.val * 704 + s.val) * 1024 + (i 1).val) / 720896 = k.val; omega
    | ⟨1, _⟩ => show ((k.val * 704 + s.val) * 1024 + (i 1).val) / 1024 % 704 = s.val; omega
    | ⟨2, _⟩ => show ((k.val * 704 + s.val) * 1024 + (i 1).val) % 1024 = (i 1).val; omega

theorem ref30 (i : S4096x1024.Idx) : val_main_v30 (F := Ideal) x0 x2 i = fRow x0 x2 (i 0) (i 1) := by
  refine (val_main_v30_apply _ _ _).trans ?_
  refine (sum_parts (n := 4) (m := 704) rfl _).trans ?_
  refine Finset.sum_congr rfl fun k _ => Finset.sum_congr rfl fun s _ => ?_
  rw [val_main_v25_apply, val_main_v24_apply, val_main_v23_apply, val_main_v2_apply, val_main_v1_apply, val_main_v0_apply]
  have hk := k.isLt
  have hs := s.isLt
  have hr : (i 0).val < 4096 := (i 0).isLt
  have hd : (i 1).val < 1024 := (i 1).isLt
  refine mul2 (congrArg x0 ?_) (congrArg x2 ?_)
  · funext a
    apply Fin.ext
    match a with
    | ⟨0, _⟩ => show ((i 0).val * 2816 + (k.val * 704 + s.val)) / 704 % 4 = k.val; omega
    | ⟨1, _⟩ => show ((i 0).val * 2816 + (k.val * 704 + s.val)) / 2816 = (i 0).val; omega
    | ⟨2, _⟩ => show ((i 0).val * 2816 + (k.val * 704 + s.val)) % 704 = s.val; omega
  · funext a
    apply Fin.ext
    match a with
    | ⟨0, _⟩ => show ((k.val * 704 + s.val) * 1024 + (i 1).val) / 720896 = k.val; omega
    | ⟨1, _⟩ => show ((k.val * 704 + s.val) * 1024 + (i 1).val) / 1024 % 704 = s.val; omega
    | ⟨2, _⟩ => show ((k.val * 704 + s.val) * 1024 + (i 1).val) % 1024 = (i 1).val; omega

theorem refDy (i : S4096x1024.Idx) : val_main_v31 (F := Ideal) x0 x1 x2 x3 i = dyRow x0 x1 x2 x3 (i 0) (i 1) := by
  refine (val_main_v31_apply _ _ _ _ _).trans ?_
  exact (add2 (ref29 x1 x3 i) (ref30 x0 x2 i)).trans (add_comm _ _)

theorem refMs (i : (⟨2, ![4096, 1]⟩ : Shape).Idx) : val_main_v12 (F := Ideal) x4 i = ms (row x4 (i 0)) := by
  rw [val_main_v12_apply, val_main_v10_apply, val_main_v8_apply]
  refine congrArg (fun w : EReal => Ideal.div w cn + ce) ?_
  refine (val_main_v7_apply _ _).trans (zero_plus _ zeroBits _ _ fun k => ?_)
  refine (val_main_v6_apply _ _).trans ?_
  refine mul2 (congrArg x4 ?_) (congrArg x4 ?_)
  all_goals
    exact idx2 rfl rfl

theorem refInv (i : (⟨2, ![4096, 1]⟩ : Shape).Idx) : val_main_v13 (F := Ideal) x4 i = inv (row x4 (i 0)) :=
  (val_main_v13_apply _ _).trans (congrArg Ideal.rsqrt (refMs x4 i))

theorem refSlope (i : (⟨2, ![4096, 1]⟩ : Shape).Idx) : val_main_v16 (F := Ideal) x4 i = cm * Ideal.div (inv (row x4 (i 0))) (ms (row x4 (i 0))) := by
  rw [val_main_v16_apply, val_main_v14_apply]
  exact congrArg₂ (fun p q : EReal => cm * Ideal.div p q) (refInv x4 i) (refMs x4 i)

theorem refScaled (i : S4096x1024.Idx) : val_main_v36 (F := Ideal) x0 x1 x2 x3 x5 i = scaled (dyRow x0 x1 x2 x3 (i 0)) x5 (i 1) := by
  rw [val_main_v36_apply, val_main_v35_apply]
  refine mul2 (refDy x0 x1 x2 x3 i) (congrArg x5 ?_)
  exact idx2 rfl rfl

theorem refInner (i : (⟨1, ![4096]⟩ : Shape).Idx) : val_main_v38 (F := Ideal) x0 x1 x2 x3 x4 x5 i = inner (row x4 (i 0)) (scaled (dyRow x0 x1 x2 x3 (i 0)) x5) := by
  refine (val_main_v38_apply _ _ _ _ _ _ _).trans (zero_plus _ zeroBits _ _ fun k => ?_)
  refine (val_main_v37_apply _ _ _ _ _ _ _).trans ?_
  refine mul2 (congrArg x4 ?_) (refScaled x0 x1 x2 x3 x5 _)
  exact idx2 rfl rfl

theorem refPull (i : (⟨1, ![4096]⟩ : Shape).Idx) : val_main_v45 (F := Ideal) x0 x1 x2 x3 x4 x5 i = pull (row x4 (i 0)) (scaled (dyRow x0 x1 x2 x3 (i 0)) x5) := by
  refine (val_main_v45_apply _ _ _ _ _ _ _).trans (zero_one _ zeroBits _ _ ?_)
  rw [val_main_v44_apply, val_main_v42_apply, val_main_v39_apply]
  have e : idx_main_v39 (idx_main_v45 i 0) = i := funext fun d => by
    match d with
    | ⟨0, _⟩ => exact Fin.ext (by show (i 0).val * 1 + 0 = (i 0).val; omega)
  rw [e]
  exact congrArg₂ (fun p q : EReal => Ideal.div (p * q) cn) (refInner x0 x1 x2 x3 x4 x5 i) (refSlope x4 _)

theorem refBack (i : S4096x1024.Idx) : val_main_v50 (F := Ideal) x0 x1 x2 x3 x4 x5 i = back (row x4 (i 0)) (scaled (dyRow x0 x1 x2 x3 (i 0)) x5) (i 1) := by
  refine Eq.trans ?_ (back_eq _ _ _).symm
  rw [val_main_v50_apply, val_main_v48_apply, val_main_v49_apply, val_main_v47_apply, val_main_v46_apply,
    val_main_v41_apply, val_main_v40_apply]
  have hx : x4 i = row x4 (i 0) (i 1) := congrArg x4 (ValueIdx.eq_ix2 i)
  have hp := refPull x0 x1 x2 x3 x4 x5 (idx_main_v46 i)
  exact add2
    (add2 (mul2 (refScaled x0 x1 x2 x3 x5 i) (refInv x4 _)) (mul2 hx hp))
    (mul2 hp hx)

theorem refDh (i : S4096x1024.Idx) : val_main_v51 (F := Ideal) x0 x1 x2 x3 x4 x5 x6 i = dhRow x0 x1 x2 x3 x4 x5 x6 (i 0) (i 1) := by
  refine (val_main_v51_apply _ _ _ _ _ _ _ _).trans ?_
  exact add2 (congrArg x6 (ValueIdx.eq_ix2 i)) (refBack x0 x1 x2 x3 x4 x5 i)

theorem refDg (d : Fin 1024) : val_main_v34 (F := Ideal) x0 x1 x2 x3 x4 (ValueIdx.ix2 (0 : Fin 1) d) = ∑ r : Fin 4096, dgPart x0 x1 x2 x3 x4 r d := by
  refine (val_main_v34_apply _ _ _ _ _ _).trans ((val_main_v33_apply _ _ _ _ _ _).trans (zero_plus _ zeroBits _ _ fun k => ?_))
  have e : idx_main_v33 (idx_main_v34 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v32_apply, val_main_v18_apply, val_main_v17_apply]
  refine (congrArg₂ (fun p q : EReal => (row x4 k d * p) * q) (refInv x4 _) (refDy x0 x1 x2 x3 _)).trans ?_
  exact (mul_comm _ _).trans (mul_assoc _ _ _).symm

end reference

theorem algebraic : @Cert.algebraic_DxFfnIdeal_DxFfnRefIdeal Cert.DxFfnIdeal.Gen.facts Cert.DxFfnRefIdeal.Gen.facts := by
  intro m g m' g' _ ha
  refine ⟨fun c => (dats m 0 c).arrAt 7 cfg0.N, fun c => (dats m 0 c).arrAt 8 cfg0.N, run_blocks m g, ?_⟩
  refine (θ_run Cert.DxFfnRefIdeal.defs _ _).mono (fun r h c => ?_) (Cert.DxFfnRefIdeal.Value.run (F := Ideal) m' g')
  obtain ⟨h7, h8, hk⟩ := h c
  obtain ⟨a0, a1, a2, a3, a4, a5, a6⟩ := ha c
  refine ⟨h7.trans ((Cert.DxFfnRefIdeal.Read.val_main_v51_eq _ _).trans ?_), h8.trans ((Cert.DxFfnRefIdeal.Read.val_main_v34_eq _ _ _ _ _).trans ?_), hk⟩
  · rw [a0, a1, a2, a3, a4, a5, a6]
    refine funext fun i => ?_
    obtain ⟨r, d, rfl⟩ : ∃ (r : Fin 4096) (d : Fin 1024), i = ValueIdx.ix2 r d := ⟨i 0, i 1, ValueIdx.eq_ix2 i⟩
    exact (refDh _ _ _ _ _ _ _ _).trans (final7 m c r d).symm
  · rw [a0, a1, a2, a3, a4]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refDg _ _ _ _ _ d).trans (final8 m c d).symm

/-- The reference keeps its arguments. -/
theorem refFrame : @Cert.quiescent_DxFfnRefIdeal Cert.DxFfnRefIdeal.Gen.facts := fun m g _ =>
  (θ_run Cert.DxFfnRefIdeal.defs _ _).mono (fun r h => ⟨fun c => (h c).2.2, sem_eq_zero_of_no_sems (by decide) r.2⟩) (Cert.DxFfnRefIdeal.Value.run (F := Ideal) m g)

end Cert.DxFfnTie

end
-- ==== Proof.DwIn.lean ====
/- The weight gradient of the mixer's input product: the transpose of the rows times the five gradient sections laid side by side, kept by
   four shards of columns. -/
module

public import proofs.«01_k».proof.Proof.Prods
public import proofs.«01_k».proof.Defs
public import proofs.«01_k».proof.Proof.Gen.DwInIdeal.Value
public import proofs.«01_k».proof.Proof.Gen.DwInRefIdeal.Run
public import proofs.«01_k».proof.Proof.Gen.DwInRefIdeal.Read

@[expose] public section

noncomputable section

namespace Cert.DwInTie

open Idealize.ShloMosaic Idealize.ShloMosaic.TcCoe Idealize.SL.Sem
open Cert.DwInIdeal Cert.DwInIdeal.Gen Cert.DwInIdeal.Value
open scoped BigOperators

/-- Row s, column C of the gradient of the whole product: section C / 1024 is kept in slot (C / 1024 + 2) % 5. -/
def side (x1 : Vec Ideal S5x4096x1024 .bf16) (s : Fin 4096) (C : ℕ) : EReal :=
  x1 (ValueIdx.ix3 (⟨(C / 1024 + 2) % 5, Nat.mod_lt _ (by decide)⟩ : Fin 5) s (⟨C % 1024, Nat.mod_lt _ (by decide)⟩ : Fin 1024))

/-- Entry (k, i, e) of the weight gradient. -/
def grad (x0 : Vec Ideal S4096x1024 .bf16) (x1 : Vec Ideal S5x4096x1024 .bf16) (k : Fin 4) (i : Fin 1024) (e : Fin 1280) : EReal :=
  ∑ s : Fin 4096, (x0 (ValueIdx.ix2 s i) : EReal) * side x1 s (k.val * 1280 + e.val)

/-- What the kernel writes at one grid point. -/
theorem written (x0 : Vec Ideal S4096x1024 .bf16) (x1 : Vec Ideal S1x4096x256 .bf16) (i : Fin 1024) (q : Fin 256) :
    out0_2 (F := Ideal) x0 x1 (ValueIdx.ix3 0 i q)
      = ∑ s : Fin 4096, (x0 (ValueIdx.ix2 s i) : EReal) * (x1 (ValueIdx.ix3 0 s q) : EReal) := by
  unfold out0_2
  refine (congrFun (View.canon_unit_zero (by funext a; fin_cases a <;> rfl) _ _) _).trans ?_
  rw [View.ld_unit_zero (by funext a; fin_cases a <;> rfl) _ x0, View.ld_unit_zero (by funext a; fin_cases a <;> rfl) _ x1]
  unfold k0_pay1
  refine (ValueIdx.shapeCast_ab_1ab_apply _ _ _ _ _).trans ?_
  refine Eq.trans (Cert.Prods.tn (φ := .bf16) (ψ := .bf16) x0 (shapeCast S4096x256 x1 shapeCasts_S1x4096x256_S4096x256) _ none i q) ?_
  exact Finset.sum_congr rfl fun s _ => congrArg (fun w : EReal => (x0 (ValueIdx.ix2 s i) : EReal) * w) (ValueIdx.shapeCast_1ab_ab_apply _ _ _ _)

variable (m : (ℓ : Loc nD τ sig) → Buf (Elt Ideal) ℓ) (c : Dev nD)

theorem index0 : ∀ t : Fin grid0.N, win0_0.index t 0 = 0 ∧ win0_0.index t 1 = 0 := by decide +kernel
theorem index1 : ∀ t : Fin grid0.N, win0_1.index t 0 = (t.val / 4 + 2) % 5 ∧ win0_1.index t 1 = 0 ∧ win0_1.index t 2 = t.val % 4 := by decide +kernel
theorem index2 : ∀ t : Fin grid0.N, win0_2.index t 0 = t.val / 5 ∧ win0_2.index t 1 = 0 ∧ win0_2.index t 2 = t.val % 5 := by decide +kernel

theorem slotAt {C q t : ℕ} (h : t * 256 + q = C) (hq : q < 256) : (t / 4 + 2) % 5 * 1 + 1 * 0 = (C / 1024 + 2) % 5 := by omega
theorem laneAt {C q t : ℕ} (h : t * 256 + q = C) (hq : q < 256) : t % 4 * 256 + 1 * q = C % 1024 := by omega
theorem shardAt {k e t : ℕ} (h : t = k * 5 + e / 256) (he : e < 1280) : k = t / 5 * 1 + 1 * 0 := by omega
theorem colAt {k e t : ℕ} (h : t = k * 5 + e / 256) (he : e < 1280) : e = t % 5 * 256 + 1 * (e % 256) := by omega
theorem sideAt {k e t : ℕ} (h : t = k * 5 + e / 256) (he : e < 1280) : t * 256 + e % 256 = k * 1280 + e := by omega

theorem block0 (t : Fin cfg0.N) (s : Fin 4096) (i : Fin 1024) :
    (iblk m c 0 t : Vec Ideal S4096x1024 .bf16) (ValueIdx.ix2 s i) = m ((c : Thread nD τ).loc main_arg0) (ValueIdx.ix2 s i) := by
  unfold iblk
  rw [View.read_apply]
  show V m c main_arg0 _ = _
  rw [V_main_arg0]
  refine congrArg _ ?_
  funext a
  apply Fin.ext
  match a with
  | ⟨0, _⟩ => show win0_0.index t 0 * 4096 + 1 * s.val = s.val; rw [(index0 t).1]; exact Cert.Prods.whole _ _
  | ⟨1, _⟩ => show win0_0.index t 1 * 1024 + 1 * i.val = i.val; rw [(index0 t).2]; exact Cert.Prods.whole _ _

theorem block1 (t : Fin cfg0.N) (C : ℕ) (q : Fin 256) (h : t.val * 256 + q.val = C) (s : Fin 4096) :
    (iblk m c 1 t : Vec Ideal S1x4096x256 .bf16) (ValueIdx.ix3 0 s q) = side (m ((c : Thread nD τ).loc main_arg1)) s C := by
  unfold iblk side
  rw [View.read_apply]
  show V m c main_arg1 _ = _
  rw [V_main_arg1]
  refine congrArg _ ?_
  funext a
  apply Fin.ext
  match a with
  | ⟨0, _⟩ => show win0_1.index t 0 * 1 + 1 * 0 = (C / 1024 + 2) % 5; rw [(index1 t).1]; exact slotAt h q.isLt
  | ⟨1, _⟩ => show win0_1.index t 1 * 4096 + 1 * s.val = s.val; rw [(index1 t).2.1]; exact Cert.Prods.whole _ _
  | ⟨2, _⟩ => show win0_1.index t 2 * 256 + 1 * q.val = C % 1024; rw [(index1 t).2.2]; exact laneAt h q.isLt

/-- The result the call leaves. -/
theorem final (k : Fin 4) (i : Fin 1024) (e : Fin 1280) :
    (dats m 0 c).arrAt 2 cfg0.N (ValueIdx.ix3 k i e) = grad (m ((c : Thread nD τ).loc main_arg0)) (m ((c : Thread nD τ).loc main_arg1)) k i e := by
  have hk := k.isLt
  have he := e.isLt
  have ht : k.val * 5 + e.val / 256 < cfg0.N := by rw [show cfg0.N = 20 from N_0]; omega
  obtain ⟨t, ht0⟩ : ∃ t : Fin cfg0.N, t.val = k.val * 5 + e.val / 256 := ⟨⟨_, ht⟩, rfl⟩
  have hq : e.val % 256 < 256 := Nat.mod_lt _ (by decide)
  have h := congrFun (blocks2 m c t (flush0_2 _)) (ValueIdx.ix3 (0 : Fin 1) i (⟨e.val % 256, hq⟩ : Fin 256))
  rw [flushed2] at h
  rw [View.read_apply] at h
  refine Eq.trans (congrArg _ ?_) (h.trans ?_)
  · funext a
    apply Fin.ext
    match a with
    | ⟨0, _⟩ => show k.val = win0_2.index t 0 * 1 + 1 * 0; rw [(index2 t).1]; exact shardAt ht0 he
    | ⟨1, _⟩ => show i.val = win0_2.index t 1 * 1024 + 1 * i.val; rw [(index2 t).2.1]; exact (Cert.Prods.whole _ _).symm
    | ⟨2, _⟩ => show e.val = win0_2.index t 2 * 256 + 1 * (e.val % 256); rw [(index2 t).2.2]; exact colAt ht0 he
  · refine (written _ _ _ _).trans ?_
    exact Finset.sum_congr rfl fun s _ => congrArg₂ (fun p q : EReal => p * q)
      (block0 m c t s i) (block1 m c t _ ⟨e.val % 256, hq⟩ (sideAt ht0 he) s)

open Cert.DwInRefIdeal Cert.DwInRefIdeal.Gen Cert.DwInRefIdeal.Read in
/-- The five sections side by side. -/
theorem joined (x1 : Vec Ideal Cert.DwInRefIdeal.S5x4096x1024 .bf16) (s : Fin 4096) (C : Fin 5120) :
    val_main_v12 (F := Ideal) x1 (ValueIdx.ix2 s C) = side x1 s C.val := by
  have hC := C.isLt
  have hs := s.isLt
  have hn : C.val / 1024 < 5 := by omega
  have hj : C.val % 1024 < 1024 := Nat.mod_lt _ (by decide)
  unfold val_main_v12
  refine (concatenate_ofFn_apply (t := Cert.DwInRefIdeal.S4096x5120) (s₁ := Cert.DwInRefIdeal.S4096x1024) 1
    ![val_main_v3 (F := Ideal) x1, val_main_v5 (F := Ideal) x1, val_main_v7 (F := Ideal) x1, val_main_v9 (F := Ideal) x1, val_main_v11 (F := Ideal) x1]
    concatenates_S4096x1024_S4096x1024_S4096x1024_S4096x1024_S4096x1024_S4096x5120_d1 rfl 1024 rfl (ValueIdx.ix2 s C) ⟨C.val / 1024, hn⟩ rfl
    (ValueIdx.ix2 s (⟨C.val % 1024, hj⟩ : Fin 1024)) rfl (fun b hb => by
      match b with
      | ⟨0, _⟩ => rfl
      | ⟨1, _⟩ => exact absurd rfl hb)).trans ?_
  obtain h | h | h | h | h : C.val / 1024 = 0 ∨ C.val / 1024 = 1 ∨ C.val / 1024 = 2 ∨ C.val / 1024 = 3 ∨ C.val / 1024 = 4 := by omega
  · simp only [h]
    refine (val_main_v3_apply _ _).trans ((val_main_v2_apply _ _).trans (congrArg x1 (funext fun a => Fin.ext ?_)))
    match a with
    | ⟨0, _⟩ => show 2 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v5_apply _ _).trans ((val_main_v4_apply _ _).trans (congrArg x1 (funext fun a => Fin.ext ?_)))
    match a with
    | ⟨0, _⟩ => show 3 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v7_apply _ _).trans ((val_main_v6_apply _ _).trans (congrArg x1 (funext fun a => Fin.ext ?_)))
    match a with
    | ⟨0, _⟩ => show 4 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v9_apply _ _).trans ((val_main_v8_apply _ _).trans (congrArg x1 (funext fun a => Fin.ext ?_)))
    match a with
    | ⟨0, _⟩ => show 0 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v11_apply _ _).trans ((val_main_v10_apply _ _).trans (congrArg x1 (funext fun a => Fin.ext ?_)))
    match a with
    | ⟨0, _⟩ => show 1 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega

open Cert.DwInRefIdeal.Read in
/-- The reference's result. -/
theorem ref (x0 : Vec Ideal S4096x1024 .bf16) (x1 : Vec Ideal S5x4096x1024 .bf16) (k : Fin 4) (i : Fin 1024) (e : Fin 1280) :
    val_main_v19 (F := Ideal) x0 x1 (ValueIdx.ix3 k i e) = grad x0 x1 k i e := by
  have hk := k.isLt
  have hi := i.isLt
  have he := e.isLt
  rw [val_main_v19_apply, val_main_v18_apply, val_main_v17_apply, val_main_v16_apply]
  refine (val_main_v15_apply _ _ _).trans ?_
  refine Finset.sum_congr rfl fun s _ => ?_
  rw [val_main_v14_apply, val_main_v0_apply]
  refine (mul_comm _ _).trans ?_
  have hC : k.val * 1280 + e.val < 5120 := by omega
  refine congrArg₂ (fun p q : EReal => p * q) (congrArg x0 ?_) ((congrArg (val_main_v12 (F := Ideal) x1) ?_).trans (joined x1 s ⟨k.val * 1280 + e.val, hC⟩))
  · funext a
    apply Fin.ext
    match a with
    | ⟨0, _⟩ => rfl
    | ⟨1, _⟩ => show ((i.val * 4 + k.val) * 1280 + e.val) / 5120 = i.val; omega
  · funext a
    apply Fin.ext
    match a with
    | ⟨0, _⟩ => rfl
    | ⟨1, _⟩ => show ((i.val * 4 + k.val) * 1280 + e.val) % 5120 = k.val * 1280 + e.val; omega

theorem algebraic : @Cert.algebraic_DwInIdeal_DwInRefIdeal Cert.DwInIdeal.Gen.facts Cert.DwInRefIdeal.Gen.facts := by
  intro m g m' g' _ ha
  refine ⟨fun c => (dats m 0 c).arrAt 2 cfg0.N, run_blocks m g, ?_⟩
  refine (θ_run Cert.DwInRefIdeal.defs _ _).mono (fun r h c => ?_) (Cert.DwInRefIdeal.Value.run (F := Ideal) m' g')
  obtain ⟨hv, hk⟩ := h c
  obtain ⟨a0, a1⟩ := ha c
  refine ⟨hv.trans ((Cert.DwInRefIdeal.Read.val_main_v19_eq _ _).trans ?_), hk⟩
  rw [a0, a1]
  refine funext fun i => ?_
  obtain ⟨k, j, e, rfl⟩ : ∃ (k : Fin 4) (j : Fin 1024) (e : Fin 1280), i = ValueIdx.ix3 k j e := ⟨i 0, i 1, i 2, ValueIdx.eq_ix3 i⟩
  exact (ref _ _ k j e).trans (final m c k j e).symm

/-- The reference keeps its arguments. -/
theorem refFrame : @Cert.quiescent_DwInRefIdeal Cert.DwInRefIdeal.Gen.facts := fun m g _ =>
  (θ_run Cert.DwInRefIdeal.defs _ _).mono (fun r h => ⟨fun c => (h c).2, sem_eq_zero_of_no_sems (by decide) r.2⟩) (Cert.DwInRefIdeal.Value.run (F := Ideal) m g)

end Cert.DwInTie

end
-- ==== Proof.MixerIn.lean ====
/- The mixer's input product: rows times the whole matrix, whose columns are kept in four shards. -/
module

public import proofs.«01_k».proof.Proof.Prods
public import proofs.«01_k».proof.Defs
public import proofs.«01_k».proof.Proof.Gen.MixerInIdeal.Value
public import proofs.«01_k».proof.Proof.Gen.MixerInRefIdeal.Run
public import proofs.«01_k».proof.Proof.Gen.MixerInRefIdeal.Read

@[expose] public section

noncomputable section

namespace Cert.MixerInTie

open Idealize.ShloMosaic Idealize.ShloMosaic.TcCoe Idealize.SL.Sem
open Cert.MixerInIdeal Cert.MixerInIdeal.Gen Cert.MixerInIdeal.Value
open scoped BigOperators

/-- Entry (r, e) of the product: column e is column e % 1280 of shard e / 1280. -/
def entry (x0 : Vec Ideal S4096x1024 .bf16) (x1 : Vec Ideal S4x1024x1280 .bf16) (r : Fin 4096) (e : Fin 5120) : EReal :=
  ∑ s : Fin 1024, (x0 (ValueIdx.ix2 r s) : EReal)
    * (x1 (ValueIdx.ix3 (⟨e.val / 1280, by have := e.isLt; omega⟩ : Fin 4) s (⟨e.val % 1280, Nat.mod_lt _ (by decide)⟩ : Fin 1280)) : EReal)

/-- What the kernel writes at one grid point. -/
theorem written (x0 : Vec Ideal S512x1024 .bf16) (x1 : Vec Ideal S1x1024x1280 .bf16) (p : Fin 512) (q : Fin 1280) :
    out0_2 (F := Ideal) x0 x1 (ValueIdx.ix2 p q)
      = ∑ s : Fin 1024, (x0 (ValueIdx.ix2 p s) : EReal) * (x1 (ValueIdx.ix3 0 s q) : EReal) := by
  unfold out0_2
  refine (congrFun (View.canon_unit_zero (by funext a; fin_cases a <;> rfl) _ _) _).trans ?_
  rw [View.ld_unit_zero (by funext a; fin_cases a <;> rfl) _ x0, View.ld_unit_zero (by funext a; fin_cases a <;> rfl) _ x1]
  unfold k0_pay1
  refine Eq.trans (Cert.Prods.nn (φ := .bf16) (ψ := .bf16) x0 (shapeCast S1024x1280 x1 shapeCasts_S1x1024x1280_S1024x1280) _ none p q) ?_
  exact Finset.sum_congr rfl fun s _ => congrArg (fun w : EReal => (x0 (ValueIdx.ix2 p s) : EReal) * w) (ValueIdx.shapeCast_1ab_ab_apply _ _ _ _)

variable (m : (ℓ : Loc nD τ sig) → Buf (Elt Ideal) ℓ) (c : Dev nD)

theorem index0 : ∀ t : Fin grid0.N, win0_0.index t 0 = t.val % 8 ∧ win0_0.index t 1 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val % 8 ∧ win0_2.index t 1 = t.val / 8 := by decide +kernel

theorem block0 (t : Fin cfg0.N) (r : Fin 4096) (p : Fin 512) (h : t.val % 8 * 512 + p.val = r.val) (s : Fin 1024) :
    (iblk m c 0 t : Vec Ideal S512x1024 .bf16) (ValueIdx.ix2 p s) = m ((c : Thread nD τ).loc main_arg0) (ValueIdx.ix2 r s) := by
  unfold iblk
  rw [View.read_apply]
  show V m c main_arg0 _ = _
  rw [V_main_arg0]
  refine congrArg _ ?_
  funext a
  apply Fin.ext
  match a with
  | ⟨0, _⟩ => show win0_0.index t 0 * 512 + 1 * p.val = r.val; rw [(index0 t).1]; exact Cert.Prods.step h
  | ⟨1, _⟩ => show win0_0.index t 1 * 1024 + 1 * s.val = s.val; rw [(index0 t).2]; exact Cert.Prods.whole _ _

theorem block1 (t : Fin cfg0.N) (k : Fin 4) (h : t.val / 8 = k.val) (s : Fin 1024) (q : Fin 1280) :
    (iblk m c 1 t : Vec Ideal S1x1024x1280 .bf16) (ValueIdx.ix3 0 s q) = m ((c : Thread nD τ).loc main_arg1) (ValueIdx.ix3 k s q) := by
  unfold iblk
  rw [View.read_apply]
  show V m c main_arg1 _ = _
  rw [V_main_arg1]
  refine congrArg _ ?_
  funext a
  apply Fin.ext
  match a with
  | ⟨0, _⟩ => show win0_1.index t 0 * 1 + 1 * 0 = k.val; rw [(index1 t).1]; exact Cert.Prods.unit h
  | ⟨1, _⟩ => show win0_1.index t 1 * 1024 + 1 * s.val = s.val; rw [(index1 t).2.1]; exact Cert.Prods.whole _ _
  | ⟨2, _⟩ => show win0_1.index t 2 * 1280 + 1 * q.val = q.val; rw [(index1 t).2.2]; exact Cert.Prods.whole _ _

theorem rowAt {e r t : ℕ} (h : t = e / 1280 * 8 + r / 512) (hr : r < 4096) : r = t % 8 * 512 + 1 * (r % 512) := by omega
theorem colAt {e r t : ℕ} (h : t = e / 1280 * 8 + r / 512) (hr : r < 4096) : e = t / 8 * 1280 + 1 * (e % 1280) := by omega
theorem rowFrom {e r t : ℕ} (h : t = e / 1280 * 8 + r / 512) (hr : r < 4096) : t % 8 * 512 + r % 512 = r := by omega
theorem shard {e r t : ℕ} (h : t = e / 1280 * 8 + r / 512) (hr : r < 4096) : t / 8 = e / 1280 := by omega

/-- The result the call leaves. -/
theorem final (r : Fin 4096) (e : Fin 5120) :
    (dats m 0 c).arrAt 2 cfg0.N (ValueIdx.ix2 r e) = entry (m ((c : Thread nD τ).loc main_arg0)) (m ((c : Thread nD τ).loc main_arg1)) r e := by
  have hr := r.isLt
  have he := e.isLt
  have hk : e.val / 1280 < 4 := by omega
  have ht : e.val / 1280 * 8 + r.val / 512 < cfg0.N := by rw [show cfg0.N = 32 from N_0]; omega
  obtain ⟨t, ht0⟩ : ∃ t : Fin cfg0.N, t.val = e.val / 1280 * 8 + r.val / 512 := ⟨⟨_, ht⟩, rfl⟩
  have hp : r.val % 512 < 512 := Nat.mod_lt _ (by decide)
  have hq : e.val % 1280 < 1280 := Nat.mod_lt _ (by decide)
  have h := congrFun (blocks2 m c t (flush0_2 _)) (ValueIdx.ix2 (⟨r.val % 512, hp⟩ : Fin 512) (⟨e.val % 1280, hq⟩ : Fin 1280))
  rw [flushed2] at h
  rw [View.read_apply] at h
  refine Eq.trans (congrArg _ ?_) (h.trans ?_)
  · funext a
    apply Fin.ext
    match a with
    | ⟨0, _⟩ => show r.val = win0_2.index t 0 * 512 + 1 * (r.val % 512); rw [(index2 t).1]; exact rowAt ht0 hr
    | ⟨1, _⟩ => show e.val = win0_2.index t 1 * 1280 + 1 * (e.val % 1280); rw [(index2 t).2]; exact colAt ht0 hr
  · refine (written _ _ _ _).trans ?_
    exact Finset.sum_congr rfl fun s _ => congrArg₂ (fun p q : EReal => p * q)
      (block0 m c t r ⟨r.val % 512, hp⟩ (rowFrom ht0 hr) s)
      (block1 m c t ⟨e.val / 1280, hk⟩ (shard ht0 hr) s ⟨e.val % 1280, hq⟩)

open Cert.MixerInRefIdeal.Read in
/-- The reference's result. -/
theorem ref (x0 : Vec Ideal S4096x1024 .bf16) (x1 : Vec Ideal S4x1024x1280 .bf16) (r : Fin 4096) (e : Fin 5120) :
    val_main_v5 (F := Ideal) x0 x1 (ValueIdx.ix2 r e) = entry x0 x1 r e := by
  rw [val_main_v5_apply]
  refine (val_main_v4_apply _ _ _).trans ?_
  refine Finset.sum_congr rfl fun s _ => ?_
  rw [val_main_v0_apply, val_main_v3_apply, val_main_v2_apply, val_main_v1_apply]
  have he := e.isLt
  have hs := s.isLt
  refine congrArg₂ (fun p q : EReal => p * q) (congrArg x0 ?_) (congrArg x1 ?_)
  · funext a
    apply Fin.ext
    match a with
    | ⟨0, _⟩ => rfl
    | ⟨1, _⟩ => rfl
  · funext a
    apply Fin.ext
    match a with
    | ⟨0, _⟩ => show (s.val * 5120 + e.val) / 1280 % 4 = e.val / 1280; omega
    | ⟨1, _⟩ => show (s.val * 5120 + e.val) / 5120 = s.val; omega
    | ⟨2, _⟩ => show (s.val * 5120 + e.val) % 1280 = e.val % 1280; omega

theorem algebraic : @Cert.algebraic_MixerInIdeal_MixerInRefIdeal Cert.MixerInIdeal.Gen.facts Cert.MixerInRefIdeal.Gen.facts := by
  intro m g m' g' _ ha
  refine ⟨fun c => (dats m 0 c).arrAt 2 cfg0.N, run_blocks m g, ?_⟩
  refine (θ_run Cert.MixerInRefIdeal.defs _ _).mono (fun r h c => ?_) (Cert.MixerInRefIdeal.Value.run (F := Ideal) m' g')
  obtain ⟨hv, hk⟩ := h c
  obtain ⟨a0, a1⟩ := ha c
  refine ⟨hv.trans ((Cert.MixerInRefIdeal.Read.val_main_v5_eq _ _).trans ?_), hk⟩
  rw [a0, a1]
  refine funext fun i => ?_
  obtain ⟨r, e, rfl⟩ : ∃ (r : Fin 4096) (e : Fin 5120), i = ValueIdx.ix2 r e := ⟨i 0, i 1, ValueIdx.eq_ix2 i⟩
  exact (ref _ _ r e).trans (final m c r e).symm

/-- The reference keeps its arguments. -/
theorem refFrame : @Cert.quiescent_MixerInRefIdeal Cert.MixerInRefIdeal.Gen.facts := fun m g _ =>
  (θ_run Cert.MixerInRefIdeal.defs _ _).mono (fun r h => ⟨fun c => (h c).2, sem_eq_zero_of_no_sems (by decide) r.2⟩) (Cert.MixerInRefIdeal.Value.run (F := Ideal) m g)

end Cert.MixerInTie

end
-- ==== Proof.FfnGu.lean ====
/- The gated up products of the feed-forward layer: g and u, the activation silu(g) · u, silu(g), and the factor that multiplies u's side of the
   gradient of g. -/
module

public import proofs.«01_k».proof.Proof.Finite
public import proofs.«01_k».proof.Proof.Prods
public import proofs.«01_k».proof.Proof.Sgu
public import proofs.«01_k».proof.Defs
public import proofs.«01_k».proof.Proof.Gen.FfnGuIdeal.Value
public import proofs.«01_k».proof.Proof.Gen.FfnGuRefIdeal.Run
public import proofs.«01_k».proof.Proof.Gen.FfnGuRefIdeal.Read

@[expose] public section

noncomputable section

namespace Cert.FfnGuTie

open Idealize.ShloMosaic Idealize.ShloMosaic.TcCoe Idealize.SL.Sem
open Cert.FfnGuIdeal Cert.FfnGuIdeal.Gen Cert.FfnGuIdeal.Value
open scoped BigOperators

/-! ## The activation, on extended reals -/

def one : EReal := Ideal.ofBits .f32 0x3F800000#32
def zero : EReal := Ideal.ofBits .f32 0x00000000#32

theorem one_eq : one = 1 := Cert.Sgu.ofBits_one.trans EReal.coe_one
theorem zero_eq : zero = 0 := Cert.Sgu.ofBits_zero.trans EReal.coe_zero

/-- The logistic function, by its quotient. -/
def sg (g : EReal) : EReal := Ideal.div one (one + Ideal.exp (-g))

theorem sg_logistic (g : EReal) : sg g = Ideal.logistic g := by unfold sg; rw [one_eq]; rfl

def silu (g : EReal) : EReal := g * sg g

/-- silu's derivative, as the kernel takes it. -/
def slope (g : EReal) : EReal := sg g * (one + g * (one - sg g))

/-- The kernel's factor is the derivative's two terms, for a real u. -/
theorem slope_eq (g : EReal) (u : ℝ) :
    (u : EReal) * sg g + g * (u : EReal) * (sg g * (one - sg g)) = (u : EReal) * slope g := by
  unfold slope
  rw [sg_logistic, one_eq]
  induction g with
  | bot => rw [Ideal.logistic_bot]; simp
  | top =>
    have h : (1 : EReal) - 1 = 0 := by rw [← EReal.coe_one, ← EReal.coe_sub, sub_self, EReal.coe_zero]
    rw [Ideal.logistic_top, h]; simp
  | coe x =>
    rw [Ideal.logistic_coe, ← EReal.coe_one]
    norm_cast
    ring

/-! ## The kernel's tile -/

/-- One entry of a product with the rows of shard k. -/
def prod {n q : ℕ} (x : Vec Ideal ⟨2, ![n, 1024]⟩ .bf16) (w : Vec Ideal ⟨3, ![q, 704, 1024]⟩ .bf16) (k : Fin q) (r : Fin n) (j : Fin 704) : EReal :=
  ∑ s : Fin 1024, (x (ValueIdx.ix2 r s) : EReal) * (w (ValueIdx.ix3 k j s) : EReal)

theorem dot (x : Vec Ideal S512x1024 .bf16) (w : Vec Ideal S1x704x1024 .bf16) (h : S1x704x1024.ShapeCasts S704x1024) (p : Fin 512) (j : Fin 704) :
    (matmul (φ₁ := .bf16) (φ₂ := .bf16) dot_S512x1024_S704x1024_S512x704_1_1_0_0_n_n none x (shapeCast S704x1024 w h : FVec Ideal S704x1024 .bf16) (constant S512x704 .f32 0x00000000#32)
      : FVec Ideal S512x704 .f32) (ValueIdx.ix2 p j) = prod x w 0 p j := by
  refine Eq.trans (Cert.Prods.nt (φ := .bf16) (ψ := .bf16) x (shapeCast S704x1024 w h) _ none p j) ?_
  exact Finset.sum_congr rfl fun s _ => congrArg (fun q : EReal => (x (ValueIdx.ix2 p s) : EReal) * q) (ValueIdx.shapeCast_1ab_ab_apply _ _ _ _)

theorem gate (x : Vec Ideal S512x1024 .bf16) (w : Vec Ideal S1x704x1024 .bf16) (p : Fin 512) (j : Fin 704) :
    k0_pay2 (F := Ideal) x w (ValueIdx.ix2 p j) = prod x w 0 p j := by
  unfold k0_pay2; exact dot x w _ p j

theorem up (x : Vec Ideal S512x1024 .bf16) (w : Vec Ideal S1x704x1024 .bf16) (p : Fin 512) (j : Fin 704) :
    k0_pay6 (F := Ideal) x w (ValueIdx.ix2 p j) = prod x w 0 p j := by
  unfold k0_pay6; exact dot x w _ p j

theorem sigmoid (x : Vec Ideal S512x1024 .bf16) (w : Vec Ideal S1x704x1024 .bf16) (p : Fin 512) (j : Fin 704) :
    k0_pay3 (F := Ideal) x w (ValueIdx.ix2 p j) = sg (prod x w 0 p j) := by
  unfold k0_pay3
  show Ideal.div one (one + Ideal.exp (zero - k0_pay2 (F := Ideal) x w (ValueIdx.ix2 p j))) = _
  rw [gate, zero_eq, zero_sub]
  rfl

theorem act (x : Vec Ideal S512x1024 .bf16) (w : Vec Ideal S1x704x1024 .bf16) (p : Fin 512) (j : Fin 704) :
    k0_pay4 (F := Ideal) x w (ValueIdx.ix2 p j) = silu (prod x w 0 p j) := by
  unfold k0_pay4
  exact congrArg₂ (fun p q : EReal => p * q) (gate x w p j) (sigmoid x w p j)

theorem written3 (x0 : Vec Ideal S512x1024 .bf16) (x1 x2 : Vec Ideal S1x704x1024 .bf16) (u : Fin 1) (p : Fin 512) (j : Fin 704) :
    out0_3 (F := Ideal) x0 x1 x2 (ValueIdx.ix3 u p j) = silu (prod x0 x1 0 p j) * prod x0 x2 0 p j := by
  unfold out0_3
  refine (congrFun (View.canon_unit_zero (by funext a; fin_cases a <;> rfl) _ _) _).trans ?_
  rw [View.ld_unit_zero (by funext a; fin_cases a <;> rfl) _ x0, View.ld_unit_zero (by funext a; fin_cases a <;> rfl) _ x1,
    View.ld_unit_zero (by funext a; fin_cases a <;> rfl) _ x2]
  unfold k0_pay7
  refine (ValueIdx.shapeCast_ab_1ab_apply _ _ _ _ _).trans ?_
  exact congrArg₂ (fun p q : EReal => p * q) (act x0 x1 p j) (up x0 x2 p j)

theorem written4 (x0 : Vec Ideal S512x1024 .bf16) (x1 x2 : Vec Ideal S1x704x1024 .bf16) (u : Fin 1) (p : Fin 512) (j : Fin 704) :
    out0_4 (F := Ideal) x0 x1 x2 (ValueIdx.ix3 u p j) = silu (prod x0 x1 0 p j) := by
  unfold out0_4
  refine (congrFun (View.canon_unit_zero (by funext a; fin_cases a <;> rfl) _ _) _).trans ?_
  rw [View.ld_unit_zero (by funext a; fin_cases a <;> rfl) _ x0, View.ld_unit_zero (by funext a; fin_cases a <;> rfl) _ x1]
  unfold k0_pay5
  refine (ValueIdx.shapeCast_ab_1ab_apply _ _ _ _ _).trans ?_
  exact act x0 x1 p j

theorem written5 (x0 : Vec Ideal S512x1024 .bf16) (x1 x2 : Vec Ideal S1x704x1024 .bf16) (u : Fin 1) (p : Fin 512) (j : Fin 704) :
    out0_5 (F := Ideal) x0 x1 x2 (ValueIdx.ix3 u p j) = prod x0 x2 0 p j * slope (prod x0 x1 0 p j) := by
  unfold out0_5
  refine (congrFun (View.canon_unit_zero (by funext a; fin_cases a <;> rfl) _ _) _).trans ?_
  rw [View.ld_unit_zero (by funext a; fin_cases a <;> rfl) _ x0, View.ld_unit_zero (by funext a; fin_cases a <;> rfl) _ x1,
    View.ld_unit_zero (by funext a; fin_cases a <;> rfl) _ x2]
  unfold k0_pay1
  refine (ValueIdx.shapeCast_ab_1ab_apply _ _ _ _ _).trans ?_
  unfold k0_pay8
  refine congrArg₂ (fun p q : EReal => p * q) (up x0 x2 p j) ?_
  show k0_pay3 (F := Ideal) x0 x1 (ValueIdx.ix2 p j) * (one + k0_pay2 (F := Ideal) x0 x1 (ValueIdx.ix2 p j) * (one - k0_pay3 (F := Ideal) x0 x1 (ValueIdx.ix2 p j))) = _
  rw [gate, sigmoid]
  rfl

/-! ## The blocks -/

variable (m : (ℓ : Loc nD τ sig) → Buf (Elt Ideal) ℓ) (c : Dev nD)

theorem index0 : ∀ t : Fin grid0.N, win0_0.index t 0 = t.val % 8 ∧ win0_0.index t 1 = 0 := by decide +kernel
theorem index1 : ∀ t : Fin grid0.N, win0_1.index t 0 = t.val / 8 ∧ win0_1.index t 1 = 0 ∧ win0_1.index t 2 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = t.val % 8 ∧ win0_3.index t 2 = 0 := by decide +kernel
theorem index4 : ∀ t : Fin grid0.N, win0_4.index t 0 = t.val / 8 ∧ win0_4.index t 1 = t.val % 8 ∧ win0_4.index t 2 = 0 := by decide +kernel
theorem index5 : ∀ t : Fin grid0.N, win0_5.index t 0 = t.val / 8 ∧ win0_5.index t 1 = t.val % 8 ∧ win0_5.index t 2 = 0 := by decide +kernel

theorem block0 (t : Fin cfg0.N) (r : Fin 4096) (p : Fin 512) (h : t.val % 8 * 512 + p.val = r.val) (s : Fin 1024) :
    (iblk m c 0 t : Vec Ideal S512x1024 .bf16) (ValueIdx.ix2 p s) = m ((c : Thread nD τ).loc main_arg0) (ValueIdx.ix2 r s) := by
  unfold iblk
  rw [View.read_apply]
  show V m c main_arg0 _ = _
  rw [V_main_arg0]
  refine congrArg _ ?_
  funext a
  apply Fin.ext
  match a with
  | ⟨0, _⟩ => show win0_0.index t 0 * 512 + 1 * p.val = r.val; rw [(index0 t).1]; exact Cert.Prods.step h
  | ⟨1, _⟩ => show win0_0.index t 1 * 1024 + 1 * s.val = s.val; rw [(index0 t).2]; exact Cert.Prods.whole _ _

theorem block1 (t : Fin cfg0.N) (k : Fin 4) (h : t.val / 8 = k.val) (j : Fin 704) (s : Fin 1024) :
    (iblk m c 1 t : Vec Ideal S1x704x1024 .bf16) (ValueIdx.ix3 0 j s) = m ((c : Thread nD τ).loc main_arg1) (ValueIdx.ix3 k j s) := by
  unfold iblk
  rw [View.read_apply]
  show V m c main_arg1 _ = _
  rw [V_main_arg1]
  refine congrArg _ ?_
  funext a
  apply Fin.ext
  match a with
  | ⟨0, _⟩ => show win0_1.index t 0 * 1 + 1 * 0 = k.val; rw [(index1 t).1]; exact Cert.Prods.unit h
  | ⟨1, _⟩ => show win0_1.index t 1 * 704 + 1 * j.val = j.val; rw [(index1 t).2.1]; exact Cert.Prods.whole _ _
  | ⟨2, _⟩ => show win0_1.index t 2 * 1024 + 1 * s.val = s.val; rw [(index1 t).2.2]; exact Cert.Prods.whole _ _

theorem block2 (t : Fin cfg0.N) (k : Fin 4) (h : t.val / 8 = k.val) (j : Fin 704) (s : Fin 1024) :
    (iblk m c 2 t : Vec Ideal S1x704x1024 .bf16) (ValueIdx.ix3 0 j s) = m ((c : Thread nD τ).loc main_arg2) (ValueIdx.ix3 k j s) := by
  unfold iblk
  rw [View.read_apply]
  show V m c main_arg2 _ = _
  rw [V_main_arg2]
  refine congrArg _ ?_
  funext a
  apply Fin.ext
  match a with
  | ⟨0, _⟩ => show win0_2.index t 0 * 1 + 1 * 0 = k.val; rw [(index2 t).1]; exact Cert.Prods.unit h
  | ⟨1, _⟩ => show win0_2.index t 1 * 704 + 1 * j.val = j.val; rw [(index2 t).2.1]; exact Cert.Prods.whole _ _
  | ⟨2, _⟩ => show win0_2.index t 2 * 1024 + 1 * s.val = s.val; rw [(index2 t).2.2]; exact Cert.Prods.whole _ _

/-- Entry (k, r, j) of g and of u, of the whole arrays. -/
def gAt (k : Fin 4) (r : Fin 4096) (j : Fin 704) : EReal := prod (n := 4096) (q := 4) (m ((c : Thread nD τ).loc main_arg0)) (m ((c : Thread nD τ).loc main_arg1)) k r j
def uAt (k : Fin 4) (r : Fin 4096) (j : Fin 704) : EReal := prod (n := 4096) (q := 4) (m ((c : Thread nD τ).loc main_arg0)) (m ((c : Thread nD τ).loc main_arg2)) k r j

theorem gBlock (t : Fin cfg0.N) (k : Fin 4) (r : Fin 4096) (p : Fin 512) (hk : t.val / 8 = k.val) (h : t.val % 8 * 512 + p.val = r.val) (j : Fin 704) :
    prod (iblk m c 0 t : Vec Ideal S512x1024 .bf16) (iblk m c 1 t : Vec Ideal S1x704x1024 .bf16) 0 p j = gAt m c k r j :=
  Finset.sum_congr rfl fun s _ => congrArg₂ (fun p q : EReal => p * q) (block0 m c t r p h s) (block1 m c t k hk j s)

theorem uBlock (t : Fin cfg0.N) (k : Fin 4) (r : Fin 4096) (p : Fin 512) (hk : t.val / 8 = k.val) (h : t.val % 8 * 512 + p.val = r.val) (j : Fin 704) :
    prod (iblk m c 0 t : Vec Ideal S512x1024 .bf16) (iblk m c 2 t : Vec Ideal S1x704x1024 .bf16) 0 p j = uAt m c k r j :=
  Finset.sum_congr rfl fun s _ => congrArg₂ (fun p q : EReal => p * q) (block0 m c t r p h s) (block2 m c t k hk j s)

theorem slabAt {k r t : ℕ} (h : t = k * 8 + r / 512) (hr : r < 4096) : k = t / 8 * 1 + 1 * 0 := by omega
theorem rowAt {k r t : ℕ} (h : t = k * 8 + r / 512) (hr : r < 4096) : r = t % 8 * 512 + 1 * (r % 512) := by omega
theorem slabFrom {k r t : ℕ} (h : t = k * 8 + r / 512) (hr : r < 4096) : t / 8 = k := by omega
theorem rowFrom {k r t : ℕ} (h : t = k * 8 + r / 512) (hr : r < 4096) : t % 8 * 512 + r % 512 = r := by omega
theorem wholeAt (n x : ℕ) : x = 0 * n + 1 * x := by omega

theorem pointOf (k : Fin 4) (r : Fin 4096) : ∃ t : Fin cfg0.N, t.val = k.val * 8 + r.val / 512 := by
  have hr := r.isLt
  have hk := k.isLt
  have ht : k.val * 8 + r.val / 512 < cfg0.N := by rw [show cfg0.N = 32 from N_0]; omega
  exact ⟨⟨_, ht⟩, rfl⟩

/-- The results the call leaves. -/
theorem final3 (k : Fin 4) (r : Fin 4096) (j : Fin 704) :
    (dats m 0 c).arrAt 3 cfg0.N (ValueIdx.ix3 k r j) = silu (gAt m c k r j) * uAt m c k r j := by
  have hr := r.isLt
  obtain ⟨t, ht0⟩ := pointOf k r
  have hp : r.val % 512 < 512 := Nat.mod_lt _ (by decide)
  have h := congrFun (blocks3 m c t (flush0_3 _)) (ValueIdx.ix3 (0 : Fin 1) (⟨r.val % 512, hp⟩ : Fin 512) j)
  rw [flushed3] at h
  rw [View.read_apply] at h
  refine Eq.trans (congrArg _ ?_) (h.trans ?_)
  · funext a
    apply Fin.ext
    match a with
    | ⟨0, _⟩ => show k.val = win0_3.index t 0 * 1 + 1 * 0; rw [(index3 t).1]; exact slabAt ht0 hr
    | ⟨1, _⟩ => show r.val = win0_3.index t 1 * 512 + 1 * (r.val % 512); rw [(index3 t).2.1]; exact rowAt ht0 hr
    | ⟨2, _⟩ => show j.val = win0_3.index t 2 * 704 + 1 * j.val; rw [(index3 t).2.2]; exact wholeAt _ _
  · exact (written3 _ _ _ _ _ _).trans (congrArg₂ (fun g u : EReal => silu g * u)
      (gBlock m c t k r ⟨r.val % 512, hp⟩ (slabFrom ht0 hr) (rowFrom ht0 hr) j) (uBlock m c t k r ⟨r.val % 512, hp⟩ (slabFrom ht0 hr) (rowFrom ht0 hr) j))

theorem final4 (k : Fin 4) (r : Fin 4096) (j : Fin 704) : (dats m 0 c).arrAt 4 cfg0.N (ValueIdx.ix3 k r j) = silu (gAt m c k r j) := by
  have hr := r.isLt
  obtain ⟨t, ht0⟩ := pointOf k r
  have hp : r.val % 512 < 512 := Nat.mod_lt _ (by decide)
  have h := congrFun (blocks4 m c t (flush0_4 _)) (ValueIdx.ix3 (0 : Fin 1) (⟨r.val % 512, hp⟩ : Fin 512) j)
  rw [flushed4] at h
  rw [View.read_apply] at h
  refine Eq.trans (congrArg _ ?_) (h.trans ?_)
  · funext a
    apply Fin.ext
    match a with
    | ⟨0, _⟩ => show k.val = win0_4.index t 0 * 1 + 1 * 0; rw [(index4 t).1]; exact slabAt ht0 hr
    | ⟨1, _⟩ => show r.val = win0_4.index t 1 * 512 + 1 * (r.val % 512); rw [(index4 t).2.1]; exact rowAt ht0 hr
    | ⟨2, _⟩ => show j.val = win0_4.index t 2 * 704 + 1 * j.val; rw [(index4 t).2.2]; exact wholeAt _ _
  · exact (written4 _ _ _ _ _ _).trans (congrArg silu (gBlock m c t k r ⟨r.val % 512, hp⟩ (slabFrom ht0 hr) (rowFrom ht0 hr) j))

theorem final5 (k : Fin 4) (r : Fin 4096) (j : Fin 704) :
    (dats m 0 c).arrAt 5 cfg0.N (ValueIdx.ix3 k r j) = uAt m c k r j * slope (gAt m c k r j) := by
  have hr := r.isLt
  obtain ⟨t, ht0⟩ := pointOf k r
  have hp : r.val % 512 < 512 := Nat.mod_lt _ (by decide)
  have h := congrFun (blocks5 m c t (flush0_5 _)) (ValueIdx.ix3 (0 : Fin 1) (⟨r.val % 512, hp⟩ : Fin 512) j)
  rw [flushed5] at h
  rw [View.read_apply] at h
  refine Eq.trans (congrArg _ ?_) (h.trans ?_)
  · funext a
    apply Fin.ext
    match a with
    | ⟨0, _⟩ => show k.val = win0_5.index t 0 * 1 + 1 * 0; rw [(index5 t).1]; exact slabAt ht0 hr
    | ⟨1, _⟩ => show r.val = win0_5.index t 1 * 512 + 1 * (r.val % 512); rw [(index5 t).2.1]; exact rowAt ht0 hr
    | ⟨2, _⟩ => show j.val = win0_5.index t 2 * 704 + 1 * j.val; rw [(index5 t).2.2]; exact wholeAt _ _
  · exact (written5 _ _ _ _ _ _).trans (congrArg₂ (fun g u : EReal => u * slope g)
      (gBlock m c t k r ⟨r.val % 512, hp⟩ (slabFrom ht0 hr) (rowFrom ht0 hr) j) (uBlock m c t k r ⟨r.val % 512, hp⟩ (slabFrom ht0 hr) (rowFrom ht0 hr) j))

/-! ## The reference -/

section reference
open Cert.FfnGuRefIdeal.Read

variable (x0 : Vec Ideal S4096x1024 .bf16) (x1 x2 : Vec Ideal S4x704x1024 .bf16)

/-- Where the reference keeps entry (k, r, j): row r, column 704 k + j. -/
theorem place (k : Fin 4) (j : Fin 704) : k.val * 704 + j.val < 2816 := by
  have hk := k.isLt
  have hj := j.isLt
  omega

theorem refG (k : Fin 4) (r : Fin 4096) (j : Fin 704) :
    val_main_v4 (F := Ideal) x0 x1 (ValueIdx.ix2 r (⟨k.val * 704 + j.val, place k j⟩ : Fin 2816)) = prod (n := 4096) (q := 4) x0 x1 k r j := by
  refine (val_main_v4_apply _ _ _).trans ?_
  refine Finset.sum_congr rfl fun s _ => ?_
  rw [val_main_v0_apply, val_main_v3_apply, val_main_v2_apply, val_main_v1_apply]
  have hk := k.isLt
  have hj := j.isLt
  have hs := s.isLt
  refine congrArg₂ (fun p q : EReal => p * q) (congrArg x0 ?_) (congrArg x1 ?_)
  · funext a
    apply Fin.ext
    match a with
    | ⟨0, _⟩ => rfl
    | ⟨1, _⟩ => rfl
  · funext a
    apply Fin.ext
    match a with
    | ⟨0, _⟩ => show ((k.val * 704 + j.val) * 1024 + s.val) / 720896 = k.val; omega
    | ⟨1, _⟩ => show ((k.val * 704 + j.val) * 1024 + s.val) / 1024 % 704 = j.val; omega
    | ⟨2, _⟩ => show ((k.val * 704 + j.val) * 1024 + s.val) % 1024 = s.val; omega

theorem refU (k : Fin 4) (r : Fin 4096) (j : Fin 704) :
    val_main_v8 (F := Ideal) x0 x2 (ValueIdx.ix2 r (⟨k.val * 704 + j.val, place k j⟩ : Fin 2816)) = prod (n := 4096) (q := 4) x0 x2 k r j := by
  refine (val_main_v8_apply _ _ _).trans ?_
  refine Finset.sum_congr rfl fun s _ => ?_
  rw [val_main_v0_apply, val_main_v7_apply, val_main_v6_apply, val_main_v5_apply]
  have hk := k.isLt
  have hj := j.isLt
  have hs := s.isLt
  refine congrArg₂ (fun p q : EReal => p * q) (congrArg x0 ?_) (congrArg x2 ?_)
  · funext a
    apply Fin.ext
    match a with
    | ⟨0, _⟩ => rfl
    | ⟨1, _⟩ => rfl
  · funext a
    apply Fin.ext
    match a with
    | ⟨0, _⟩ => show ((k.val * 704 + j.val) * 1024 + s.val) / 720896 = k.val; omega
    | ⟨1, _⟩ => show ((k.val * 704 + j.val) * 1024 + s.val) / 1024 % 704 = j.val; omega
    | ⟨2, _⟩ => show ((k.val * 704 + j.val) * 1024 + s.val) % 1024 = s.val; omega

theorem refSg (i : (⟨2, ![4096, 2816]⟩ : Shape).Idx) : val_main_v9_2 (F := Ideal) x0 x1 i = sg (val_main_v4 (F := Ideal) x0 x1 i) := by
  rw [val_main_v9_2_apply, val_main_call0_v4_apply, val_main_call0_v3_apply, val_main_call0_v2_apply, val_main_call0_v1_apply, val_main_call0_v0_apply]
  rfl

theorem ref13 (k : Fin 4) (r : Fin 4096) (j : Fin 704) :
    val_main_v13 (F := Ideal) x0 x1 x2 (ValueIdx.ix3 k r j) = silu (prod (n := 4096) (q := 4) x0 x1 k r j) * prod (n := 4096) (q := 4) x0 x2 k r j := by
  rw [val_main_v13_apply, val_main_v12_apply]
  have hk := k.isLt
  have hj := j.isLt
  have hr := r.isLt
  have e : idx_main_v12 (idx_main_v13 (ValueIdx.ix3 k r j)) = ValueIdx.ix2 r (⟨k.val * 704 + j.val, place k j⟩ : Fin 2816) := by
    funext a
    apply Fin.ext
    match a with
    | ⟨0, _⟩ => show ((r.val * 4 + k.val) * 704 + j.val) / 2816 = r.val; omega
    | ⟨1, _⟩ => show ((r.val * 4 + k.val) * 704 + j.val) % 2816 = k.val * 704 + j.val; omega
  rw [e, val_main_v11_apply, val_main_v10_apply, val_main_v9_0_apply, refSg, refG, refU]
  rfl

theorem ref16 (k : Fin 4) (r : Fin 4096) (j : Fin 704) :
    val_main_v16 (F := Ideal) x0 x1 (ValueIdx.ix3 k r j) = silu (prod (n := 4096) (q := 4) x0 x1 k r j) := by
  rw [val_main_v16_apply, val_main_v15_apply]
  have hk := k.isLt
  have hj := j.isLt
  have hr := r.isLt
  have e : idx_main_v15 (idx_main_v16 (ValueIdx.ix3 k r j)) = ValueIdx.ix2 r (⟨k.val * 704 + j.val, place k j⟩ : Fin 2816) := by
    funext a
    apply Fin.ext
    match a with
    | ⟨0, _⟩ => show ((r.val * 4 + k.val) * 704 + j.val) / 2816 = r.val; omega
    | ⟨1, _⟩ => show ((r.val * 4 + k.val) * 704 + j.val) % 2816 = k.val * 704 + j.val; omega
  rw [e, val_main_v14_apply, val_main_v9_0_apply, refSg, refG]
  rfl

theorem ref20 (k : Fin 4) (r : Fin 4096) (j : Fin 704) (hu : ∃ u : ℝ, prod (n := 4096) (q := 4) x0 x2 k r j = ((u : ℝ) : EReal)) :
    val_main_v20 (F := Ideal) x0 x1 x2 (ValueIdx.ix3 k r j) = prod (n := 4096) (q := 4) x0 x2 k r j * slope (prod (n := 4096) (q := 4) x0 x1 k r j) := by
  rw [val_main_v20_apply, val_main_v19_apply]
  have hk := k.isLt
  have hj := j.isLt
  have hr := r.isLt
  have e : idx_main_v19 (idx_main_v20 (ValueIdx.ix3 k r j)) = ValueIdx.ix2 r (⟨k.val * 704 + j.val, place k j⟩ : Fin 2816) := by
    funext a
    apply Fin.ext
    match a with
    | ⟨0, _⟩ => show ((r.val * 4 + k.val) * 704 + j.val) / 2816 = r.val; omega
    | ⟨1, _⟩ => show ((r.val * 4 + k.val) * 704 + j.val) % 2816 = k.val * 704 + j.val; omega
  rw [e, val_main_v18_apply, val_main_v17_apply, val_main_call1_v2_apply, val_main_call1_v1_apply, val_main_call1_v0_apply, val_main_v9_1_apply, val_main_call0_v7_apply,
    val_main_call0_v6_apply, refSg, refG, refU]
  obtain ⟨u, hu⟩ := hu
  rw [hu]
  exact slope_eq _ u

end reference

/-! ## The precondition -/

theorem preFacts : Cert.Pre_finite_ffn_up.Facts := ⟨by decide, by decide, by decide⟩

theorem real_sum {n : ℕ} (f g : Fin n → EReal) (hf : ∀ k, ∃ x : ℝ, f k = ((x : ℝ) : EReal)) (hg : ∀ k, ∃ x : ℝ, g k = ((x : ℝ) : EReal)) :
    ∃ x : ℝ, ∑ k, f k * g k = ((x : ℝ) : EReal) := by
  choose a ha using hf
  choose b hb using hg
  refine ⟨∑ k, a k * b k, ?_⟩
  rw [← Cert.Reals.coe_sum]
  exact Finset.sum_congr rfl fun k _ => by rw [ha, hb, EReal.coe_mul]

theorem uReal (h : @Cert.Pre_FfnGuIdeal_finite_ffn_up preFacts m) (k : Fin 4) (r : Fin 4096) (j : Fin 704) : ∃ u : ℝ, uAt m c k r j = ((u : ℝ) : EReal) := by
  obtain ⟨h0, h2⟩ := h c
  refine real_sum _ _ (fun s => ⟨_, Cert.Finite.real_of_lt ?_⟩) (fun s => ⟨_, Cert.Finite.real_of_lt ?_⟩)
  · rw [← Cert.Finite.top_bits]; exact congrFun h0 _
  · rw [← Cert.Finite.top_bits]; exact congrFun h2 _

theorem algebraic : @Cert.algebraic_FfnGuIdeal_FfnGuRefIdeal_pre_finite_ffn_up Cert.FfnGuIdeal.Gen.facts Cert.FfnGuRefIdeal.Gen.facts preFacts := by
  intro m g m' g' hp ha
  refine ⟨fun c => (dats m 0 c).arrAt 3 cfg0.N, fun c => (dats m 0 c).arrAt 4 cfg0.N, fun c => (dats m 0 c).arrAt 5 cfg0.N, run_blocks m g, ?_⟩
  refine (θ_run Cert.FfnGuRefIdeal.defs _ _).mono (fun r h c => ?_) (Cert.FfnGuRefIdeal.Value.run (F := Ideal) m' g')
  obtain ⟨h3, h4, h5, hk⟩ := h c
  obtain ⟨a0, a1, a2⟩ := ha c
  refine ⟨h3.trans ((Cert.FfnGuRefIdeal.Read.val_main_v13_eq _ _ _).trans ?_), h4.trans ((Cert.FfnGuRefIdeal.Read.val_main_v16_eq _ _).trans ?_),
    h5.trans ((Cert.FfnGuRefIdeal.Read.val_main_v20_eq _ _ _).trans ?_), hk⟩
  · rw [a0, a1, a2]
    refine funext fun i => ?_
    obtain ⟨k, r, j, rfl⟩ : ∃ (k : Fin 4) (r : Fin 4096) (j : Fin 704), i = ValueIdx.ix3 k r j := ⟨i 0, i 1, i 2, ValueIdx.eq_ix3 i⟩
    exact (ref13 _ _ _ k r j).trans (final3 m c k r j).symm
  · rw [a0, a1]
    refine funext fun i => ?_
    obtain ⟨k, r, j, rfl⟩ : ∃ (k : Fin 4) (r : Fin 4096) (j : Fin 704), i = ValueIdx.ix3 k r j := ⟨i 0, i 1, i 2, ValueIdx.eq_ix3 i⟩
    exact (ref16 _ _ k r j).trans (final4 m c k r j).symm
  · rw [a0, a1, a2]
    refine funext fun i => ?_
    obtain ⟨k, r, j, rfl⟩ : ∃ (k : Fin 4) (r : Fin 4096) (j : Fin 704), i = ValueIdx.ix3 k r j := ⟨i 0, i 1, i 2, ValueIdx.eq_ix3 i⟩
    exact (ref20 _ _ _ k r j (uReal m c hp k r j)).trans (final5 m c k r j).symm

/-- The reference keeps its arguments. -/
theorem refFrame : @Cert.quiescent_FfnGuRefIdeal Cert.FfnGuRefIdeal.Gen.facts := fun m g _ =>
  (θ_run Cert.FfnGuRefIdeal.defs _ _).mono (fun r h => ⟨fun c => (h c).2.2.2, sem_eq_zero_of_no_sems (by decide) r.2⟩) (Cert.FfnGuRefIdeal.Value.run (F := Ideal) m g)

end Cert.FfnGuTie

end
-- ==== Proof.FfnBwdA.lean ====
/- The backward pass of the feed-forward layer's last norm, last product and activation: half the gradient through the norm, its product with the
   weight's rows, the two gradients in front of the activation, and the gradient of the norm's factors. -/
module

public import proofs.«01_k».proof.Proof.RmsBack
public import proofs.«01_k».proof.Defs
public import proofs.«01_k».proof.Proof.Gen.FfnBwdAIdeal.Value
public import proofs.«01_k».proof.Proof.Gen.FfnBwdARefIdeal.Run
public import proofs.«01_k».proof.Proof.Gen.FfnBwdARefIdeal.Read
public import Idealize.ShloMosaic.Lib.Tactic.ValueTie

@[expose] public section

noncomputable section

namespace Cert.FfnBwdATie

open Idealize.ShloMosaic Idealize.ShloMosaic.TcCoe Idealize.SL.Sem
open Cert.FfnBwdAIdeal Cert.FfnBwdAIdeal.Gen Cert.FfnBwdAIdeal.Value
open Cert.Rows Cert.RmsBack
open scoped BigOperators

/-- Row r of the kept product, and of the incoming gradient. -/
def row {n : ℕ} (x : Vec Ideal ⟨2, ![n, 1024]⟩ .bf16) (r : Fin n) (d : Fin 1024) : EReal := (x (ValueIdx.ix2 r d) : EReal)
def rowF {n : ℕ} (x : Vec Ideal ⟨2, ![n, 1024]⟩ .f32) (r : Fin n) (d : Fin 1024) : EReal := (x (ValueIdx.ix2 r d) : EReal)

/-- A row times the factors. -/
def scaled (v : Fin 1024 → EReal) (x2 : Vec Ideal S1x1024 .f32) (d : Fin 1024) : EReal := v d * (x2 (ValueIdx.ix2 0 d) : EReal)

/-- Half of row r. -/
def dyRow {n : ℕ} (x0 : Vec Ideal ⟨2, ![n, 1024]⟩ .f32) (r : Fin n) (d : Fin 1024) : EReal := ch * rowF x0 r d

/-- Row r of the gradient of the product. -/
def dfRow {n : ℕ} (x0 : Vec Ideal ⟨2, ![n, 1024]⟩ .f32) (x1 : Vec Ideal ⟨2, ![n, 1024]⟩ .bf16) (x2 : Vec Ideal S1x1024 .f32) (r : Fin n) (d : Fin 1024) : EReal :=
  ch * back (row x1 r) (scaled (rowF x0 r) x2) d

/-- The half inside. -/
theorem dfRow_eq {n : ℕ} (x0 : Vec Ideal ⟨2, ![n, 1024]⟩ .f32) (x1 : Vec Ideal ⟨2, ![n, 1024]⟩ .bf16) (x2 : Vec Ideal S1x1024 .f32) (r : Fin n) (d : Fin 1024) :
    back (row x1 r) (scaled (dyRow x0 r) x2) d = dfRow x0 x1 x2 r d := by
  unfold dfRow
  refine Eq.trans ?_ (half_back _ _ _).symm
  exact congrArg (fun t => back (row x1 r) t d) (funext fun k => mul_assoc _ _ _)

/-- A row against row j of slab k of the weight. -/
def against (v : Fin 1024 → EReal) (x3 : Vec Ideal S4x704x1024 .bf16) (k : Fin 4) (j : Fin 704) : EReal :=
  ∑ s : Fin 1024, v s * (x3 (ValueIdx.ix3 k j s) : EReal)

/-- What row r adds to the gradient of the factors. -/
def dgPart {n : ℕ} (x0 : Vec Ideal ⟨2, ![n, 1024]⟩ .f32) (x1 : Vec Ideal ⟨2, ![n, 1024]⟩ .bf16) (r : Fin n) (d : Fin 1024) : EReal :=
  ch * ((rowF x0 r d * row x1 r d) * inv (row x1 r))

/-! ## The kernel's tile -/

theorem rT (x1 : Vec Ideal S256x1024 .bf16) (p : Fin 256) : k0_pay6 (F := Ideal) x1 (ValueIdx.ix2 p (0 : Fin 1)) = inv (row x1 p) :=
  congrArg Ideal.rsqrt (msTile (k0_pay5 (F := Ideal) x1) _ _ _ _ _ p 0)

def dfT (x0 : Vec Ideal S256x1024 .f32) (x1 : Vec Ideal S256x1024 .bf16) (x2 : Vec Ideal S1x1024 .f32) : FVec Ideal S256x1024 .bf16 := k0_pay7 (F := Ideal) x1 x2 x0

theorem dfT_apply (x0 : Vec Ideal S256x1024 .f32) (x1 : Vec Ideal S256x1024 .bf16) (x2 : Vec Ideal S1x1024 .f32) (p : Fin 256) (d : Fin 1024) : dfT x0 x1 x2 (ValueIdx.ix2 p d) = dfRow x0 x1 x2 p d := by
  unfold dfT k0_pay7 dfRow
  refine congrArg (fun w : EReal => ch * w) ?_
  refine (backTile (k0_pay5 (F := Ideal) x1) _ (k0_pay6 (F := Ideal) x1) _ _ _ _ _ _ p d (rT x1 p)).trans ?_
  refine congrArg (fun t => back (row x1 p) t d) (funext fun k => ?_)
  exact congrArg (fun q : EReal => rowF x0 p k * q) (ValueIdx.broadcastTo_1b_ab_apply _ _ _ _)

def dgT (x0 : Vec Ideal S256x1024 .f32) (x1 : Vec Ideal S256x1024 .bf16) (acc : Vec Ideal S1x1024 .f32) : FVec Ideal S1x1024 .f32 :=
  k0_pay10 (F := Ideal) (k0_pay8 (F := Ideal) x1 x0) acc

theorem dgT_apply (x0 : Vec Ideal S256x1024 .f32) (x1 : Vec Ideal S256x1024 .bf16) (acc : Vec Ideal S1x1024 .f32) (d : Fin 1024) :
    dgT x0 x1 acc (ValueIdx.ix2 (0 : Fin 1) d) = (acc (ValueIdx.ix2 0 d) : EReal) + ∑ p : Fin 256, dgPart x0 x1 p d := by
  unfold dgT k0_pay10
  refine add2 (castSelf acc _ 0 d) ?_
  unfold k0_pay8
  refine Eq.trans ?_ (half_sum _)
  refine congrArg (fun w : EReal => ch * w) ((colSum _ _ _ _ _ _ 0 d).trans ?_)
  refine Finset.sum_congr rfl fun p _ => ?_
  exact congrArg (fun v : EReal => (rowF x0 p d * row x1 p d) * v) ((col _ _ p d).trans (rT x1 p))

/-- The four slabs of a tile of the gradients in front of the activation. -/
def slabsT (y : FVec Ideal S256x1024 .bf16) (x3 : Vec Ideal S4x704x1024 .bf16) (x : Vec Ideal S4x256x704 .bf16) : Vec Ideal S4x256x704 .bf16 :=
  fun i => (show EReal from against (row y (i 1)) x3 (i 0) (i 2) * (x i : EReal))

theorem slabPay (y : FVec Ideal S256x1024 .bf16) (x3 : Vec Ideal S4x704x1024 .bf16) (x : Vec Ideal S4x256x704 .bf16) {o : ℕ} (k : Fin 4) (hk : k.val = o)
    (i0 : ∀ d, (![o, 0, 0] : Fin 3 → ℕ) d + (![1, 256, 704] : Fin 3 → ℕ) d ≤ (S4x256x704).size d)
    (i1 : ∀ d, (![o, 0, 0] : Fin 3 → ℕ) d + (![1, 704, 1024] : Fin 3 → ℕ) d ≤ (S4x704x1024).size d)
    (h0 : S1x256x704.ShapeCasts S256x704) (h1 : S1x704x1024.ShapeCasts S704x1024) (h2 : S256x704.ShapeCasts S1x256x704) (hb : FTy.bf16.bits < FTy.f32.bits) (i : S1x256x704.Idx) :
    (shapeCast S1x256x704 (truncf .bf16 (mulf (matmul (φ₁ := .bf16) (φ₂ := .bf16) dot_S256x1024_S704x1024_S256x704_1_1_0_0_n_n none y
        (shapeCast S704x1024 (View.ld (Val := Elt Ideal) (e' := .bf16) x3 (Rect.unit (s := S4x704x1024) ![o, 0, 0] ![1, 704, 1024] i1) : FVec Ideal S1x704x1024 .bf16) h1 : FVec Ideal S704x1024 .bf16)
        (constant S256x704 .f32 0x00000000#32) : FVec Ideal S256x704 .f32)
        (extf .f32 (shapeCast S256x704 (View.ld (Val := Elt Ideal) (e' := .bf16) x (Rect.unit (s := S4x256x704) ![o, 0, 0] ![1, 256, 704] i0) : FVec Ideal S1x256x704 .bf16) h0
          : FVec Ideal S256x704 .bf16) hb)) hb : FVec Ideal S256x704 .bf16) h2 : FVec Ideal S1x256x704 .bf16) i
      = slabsT y x3 x ((Rect.unit (s := S4x256x704) ![o, 0, 0] ![1, 256, 704] i0).emb i) := by
  obtain ⟨u, p, j, rfl⟩ : ∃ (u : Fin 1) (p : Fin 256) (j : Fin 704), i = ValueIdx.ix3 u p j := ⟨i 0, i 1, i 2, ValueIdx.eq_ix3 i⟩
  obtain rfl : u = 0 := Subsingleton.elim _ _
  have e : (Rect.unit (s := S4x256x704) ![o, 0, 0] ![1, 256, 704] i0).emb (ValueIdx.ix3 (0 : Fin 1) p j) = ValueIdx.ix3 k p j := funext fun d => by
    match d with
    | ⟨0, _⟩ => exact Fin.ext ((Rect.idx_unit_val (s := S4x256x704) ![o, 0, 0] ![1, 256, 704] i0 (ValueIdx.ix3 (0 : Fin 1) p j) (0 : Fin 3)).trans (by
        show o + 0 = k.val; omega))
    | ⟨1, _⟩ => exact Fin.ext ((Rect.idx_unit_val (s := S4x256x704) ![o, 0, 0] ![1, 256, 704] i0 (ValueIdx.ix3 (0 : Fin 1) p j) (1 : Fin 3)).trans (by
        show 0 + p.val = p.val; omega))
    | ⟨2, _⟩ => exact Fin.ext ((Rect.idx_unit_val (s := S4x256x704) ![o, 0, 0] ![1, 256, 704] i0 (ValueIdx.ix3 (0 : Fin 1) p j) (2 : Fin 3)).trans (by
        show 0 + j.val = j.val; omega))
  rw [e]
  refine (ValueIdx.shapeCast_ab_1ab_apply _ _ _ _ _).trans ?_
  refine mul2 ?_ ((ValueIdx.shapeCast_1ab_ab_apply _ _ _ _).trans (slab x i0 k hk p j))
  refine Eq.trans (Cert.Prods.nt (φ := .bf16) (ψ := .bf16) y (shapeCast S704x1024 _ h1) _ none p j) ?_
  exact Finset.sum_congr rfl fun s _ => congrArg (fun q : EReal => row y p s * q) ((ValueIdx.shapeCast_1ab_ab_apply _ _ _ _).trans (slab x3 i1 k hk j s))

section leaves
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S4x704x1024 .bf16) (harg4 : arg4.IsWhole) (arg5 : Memref sig .tc .vmem S4x256x704 .bf16) (harg5 : arg5.IsWhole) (arg6 : Memref sig .tc .vmem S4x256x704 .bf16) (harg6 : arg6.IsWhole) (arg7 : Memref sig .tc .vmem S256x1024 .bf16) (harg7 : arg7.IsWhole) (arg8 : Memref sig .tc .vmem S4x256x704 .bf16) (harg8 : arg8.IsWhole) (arg9 : Memref sig .tc .vmem S4x256x704 .bf16) (harg9 : arg9.IsWhole) (arg10 : Memref sig .tc .vmem S1x1024 .f32) (harg10 : arg10.IsWhole)

theorem leftA6 (hc0 : cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) :
    out0_A_6 (F := Ideal) c i arg1 harg1 arg2 harg2 arg3 harg3 arg4 harg4 arg5 harg5 arg6 harg6 arg7 harg7 arg8 harg8 arg9 harg9 arg10 harg10 hc0 x0 x1 x2 x3 x4 x5 = dfT x0 x1 x2 := by
  unfold out0_A_6
  rw [View.read_writes_eq_canon _ _ _ (cover0_A_6 _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, ld2]
  refine (View.canon_unit_zero zero2 _ _).trans ?_
  rfl

theorem leftB6 (hc0 : ¬cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) (xo9 : Vec Ideal S1x1024 .f32) :
    out0_B_6 (F := Ideal) c i arg1 harg1 arg2 harg2 arg3 harg3 arg4 harg4 arg5 harg5 arg6 harg6 arg7 harg7 arg8 harg8 arg9 harg9 arg10 harg10 hc0 x0 x1 x2 x3 x4 x5 xo9 = dfT x0 x1 x2 := by
  unfold out0_B_6
  rw [View.read_writes_eq_canon _ _ _ (cover0_B_6 _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, ld2]
  refine (View.canon_unit_zero zero2 _ _).trans ?_
  rfl

theorem leftA7 (hc0 : cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) :
    out0_A_7 (F := Ideal) c i arg1 harg1 arg2 harg2 arg3 harg3 arg4 harg4 arg5 harg5 arg6 harg6 arg7 harg7 arg8 harg8 arg9 harg9 arg10 harg10 hc0 x0 x1 x2 x3 x4 x5 = slabsT (dfT x0 x1 x2) x3 x5 := by
  unfold out0_A_7
  rw [View.read_writes_eq_canon _ _ _ (cover0_A_7 _ _ _ _ _ _ _ _ _ _ _ _ _ _ _ _ _ _ _ _ _ _ _ _ _ _ _ _ _)]
  refine funext fun y => View.canon_apply_of_pieces (slabsT (dfT x0 x1 x2) x3 x5) _ ?_ y (cover0_A_7 c i arg1 harg1 arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  simp only [View.readAt_eq_ld, harg1.read_unread, harg2.read_unread, harg3.read_unread, harg4.read_unread, harg5.read_unread, harg6.read_unread]
  rw [ld2 _ x0, ld2 _ x1, ld2 _ x2]
  intro p hp x
  simp only [List.mem_cons, List.not_mem_nil, or_false] at hp
  rcases hp with rfl | rfl | rfl | rfl
  · exact slabPay (dfT x0 x1 x2) x3 x5 3 rfl _ _ _ _ _ _ x
  · exact slabPay (dfT x0 x1 x2) x3 x5 2 rfl _ _ _ _ _ _ x
  · exact slabPay (dfT x0 x1 x2) x3 x5 1 rfl _ _ _ _ _ _ x
  · exact slabPay (dfT x0 x1 x2) x3 x5 0 rfl _ _ _ _ _ _ x

theorem leftB7 (hc0 : ¬cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) (xo9 : Vec Ideal S1x1024 .f32) :
    out0_B_7 (F := Ideal) c i arg1 harg1 arg2 harg2 arg3 harg3 arg4 harg4 arg5 harg5 arg6 harg6 arg7 harg7 arg8 harg8 arg9 harg9 arg10 harg10 hc0 x0 x1 x2 x3 x4 x5 xo9 = slabsT (dfT x0 x1 x2) x3 x5 := by
  unfold out0_B_7
  rw [View.read_writes_eq_canon _ _ _ (cover0_B_7 _ _ _ _ _ _ _ _ _ _ _ _ _ _ _ _ _ _ _ _ _ _ _ _ _ _ _ _ _ _)]
  refine funext fun y => View.canon_apply_of_pieces (slabsT (dfT x0 x1 x2) x3 x5) _ ?_ y (cover0_B_7 c i arg1 harg1 arg2 harg2 arg3 harg3 arg4 harg4 arg5 harg5 arg6 harg6 arg7 harg7 arg8 harg8 arg9 harg9 arg10 harg10 hc0 x0 x1 x2 x3 x4 x5 xo9 y)
  unfold kernelRun0_B
  dsimp only
  sl_unfold_words
  simp only [View.readAt_eq_ld, harg1.read_unread, harg2.read_unread, harg3.read_unread, harg4.read_unread, harg5.read_unread, harg6.read_unread]
  rw [ld2 _ x0, ld2 _ x1, ld2 _ x2]
  intro p hp x
  simp only [List.mem_cons, List.not_mem_nil, or_false] at hp
  rcases hp with rfl | rfl | rfl | rfl
  · exact slabPay (dfT x0 x1 x2) x3 x5 3 rfl _ _ _ _ _ _ x
  · exact slabPay (dfT x0 x1 x2) x3 x5 2 rfl _ _ _ _ _ _ x
  · exact slabPay (dfT x0 x1 x2) x3 x5 1 rfl _ _ _ _ _ _ x
  · exact slabPay (dfT x0 x1 x2) x3 x5 0 rfl _ _ _ _ _ _ x

theorem leftA8 (hc0 : cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) :
    out0_A_8 (F := Ideal) c i arg1 harg1 arg2 harg2 arg3 harg3 arg4 harg4 arg5 harg5 arg6 harg6 arg7 harg7 arg8 harg8 arg9 harg9 arg10 harg10 hc0 x0 x1 x2 x3 x4 x5 = slabsT (dfT x0 x1 x2) x3 x4 := by
  unfold out0_A_8
  rw [View.read_writes_eq_canon _ _ _ (cover0_A_8 _ _ _ _ _ _ _ _ _ _ _ _ _ _ _ _ _ _ _ _ _ _ _ _ _ _ _ _ _)]
  refine funext fun y => View.canon_apply_of_pieces (slabsT (dfT x0 x1 x2) x3 x4) _ ?_ y (cover0_A_8 c i arg1 harg1 arg2 harg2 arg3 harg3 arg4 harg4 arg5 harg5 arg6 harg6 arg7 harg7 arg8 harg8 arg9 harg9 arg10 harg10 hc0 x0 x1 x2 x3 x4 x5 y)
  unfold kernelRun0_A
  dsimp only
  sl_unfold_words
  simp only [View.readAt_eq_ld, harg1.read_unread, harg2.read_unread, harg3.read_unread, harg4.read_unread, harg5.read_unread, harg6.read_unread]
  rw [ld2 _ x0, ld2 _ x1, ld2 _ x2]
  intro p hp x
  simp only [List.mem_cons, List.not_mem_nil, or_false] at hp
  rcases hp with rfl | rfl | rfl | rfl
  · exact slabPay (dfT x0 x1 x2) x3 x4 3 rfl _ _ _ _ _ _ x
  · exact slabPay (dfT x0 x1 x2) x3 x4 2 rfl _ _ _ _ _ _ x
  · exact slabPay (dfT x0 x1 x2) x3 x4 1 rfl _ _ _ _ _ _ x
  · exact slabPay (dfT x0 x1 x2) x3 x4 0 rfl _ _ _ _ _ _ x

theorem leftB8 (hc0 : ¬cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) (xo9 : Vec Ideal S1x1024 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 xo9 = slabsT (dfT x0 x1 x2) x3 x4 := by
  unfold out0_B_8
  rw [View.read_writes_eq_canon _ _ _ (cover0_B_8 _ _ _ _ _ _ _ _ _ _ _ _ _ _ _ _ _ _ _ _ _ _ _ _ _ _ _ _ _ _)]
  refine funext fun y => View.canon_apply_of_pieces (slabsT (dfT x0 x1 x2) x3 x4) _ ?_ y (cover0_B_8 c i arg1 harg1 arg2 harg2 arg3 harg3 arg4 harg4 arg5 harg5 arg6 harg6 arg7 harg7 arg8 harg8 arg9 harg9 arg10 harg10 hc0 x0 x1 x2 x3 x4 x5 xo9 y)
  unfold kernelRun0_B
  dsimp only
  sl_unfold_words
  simp only [View.readAt_eq_ld, harg1.read_unread, harg2.read_unread, harg3.read_unread, harg4.read_unread, harg5.read_unread, harg6.read_unread]
  rw [ld2 _ x0, ld2 _ x1, ld2 _ x2]
  intro p hp x
  simp only [List.mem_cons, List.not_mem_nil, or_false] at hp
  rcases hp with rfl | rfl | rfl | rfl
  · exact slabPay (dfT x0 x1 x2) x3 x4 3 rfl _ _ _ _ _ _ x
  · exact slabPay (dfT x0 x1 x2) x3 x4 2 rfl _ _ _ _ _ _ x
  · exact slabPay (dfT x0 x1 x2) x3 x4 1 rfl _ _ _ _ _ _ x
  · exact slabPay (dfT x0 x1 x2) x3 x4 0 rfl _ _ _ _ _ _ x

theorem leftA9 (hc0 : cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) :
    out0_A_9 (F := Ideal) c i arg1 harg1 arg2 harg2 arg3 harg3 arg4 harg4 arg5 harg5 arg6 harg6 arg7 harg7 arg8 harg8 arg9 harg9 arg10 harg10 hc0 x0 x1 x2 x3 x4 x5 = dgT x0 x1 (k0_pay9 (F := Ideal)) := by
  unfold out0_A_9
  rw [View.read_writes_eq_canon _ _ _ (cover0_A_9 _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, ld2]
  refine (View.canon_cons_unit_zero zero2 _ _ _).trans ?_
  exact congrArg (dgT x0 x1) (View.readCov_unit_lit _ _ _ (by intro a; fin_cases a <;> rfl))

theorem leftB9 (hc0 : ¬cond0_0 i) (x0 : Vec Ideal S256x1024 .f32) (x1 : Vec Ideal S256x1024 .bf16) (x2 : Vec Ideal S1x1024 .f32) (x3 : Vec Ideal S4x704x1024 .bf16) (x4 x5 : Vec Ideal S4x256x704 .bf16) (xo9 : Vec Ideal S1x1024 .f32) :
    out0_B_9 (F := Ideal) c i arg1 harg1 arg2 harg2 arg3 harg3 arg4 harg4 arg5 harg5 arg6 harg6 arg7 harg7 arg8 harg8 arg9 harg9 arg10 harg10 hc0 x0 x1 x2 x3 x4 x5 xo9 = dgT x0 x1 xo9 := by
  unfold out0_B_9
  rw [View.read_writes_eq_canon _ _ _ (cover0_B_9 _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg10.read_unread, ld2]
  refine (View.canon_unit_zero zero2 _ _).trans ?_
  rfl

end leaves

/-! ## The blocks -/

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index6 : ∀ t : Fin grid0.N, win0_6.index t 0 = t.val ∧ win0_6.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = t.val ∧ win0_4.index t 2 = 0 := by decide +kernel
theorem index5 : ∀ t : Fin grid0.N, win0_5.index t 0 = 0 ∧ win0_5.index t 1 = t.val ∧ win0_5.index t 2 = 0 := by decide +kernel
theorem index7 : ∀ t : Fin grid0.N, win0_7.index t 0 = 0 ∧ win0_7.index t 1 = t.val ∧ win0_7.index t 2 = 0 := by decide +kernel
theorem index8 : ∀ t : Fin grid0.N, win0_8.index t 0 = 0 ∧ win0_8.index t 1 = t.val ∧ win0_8.index t 2 = 0 := by decide +kernel

theorem block0 (t : Fin cfg0.N) (r : Fin 4096) (p : Fin 256) (h : t.val * 256 + p.val = r.val) (d : Fin 1024) :
    (iblk m c 0 t : Vec Ideal S256x1024 .f32) (ValueIdx.ix2 p d) = m ((c : Thread nD τ).loc main_arg0) (ValueIdx.ix2 r d) := by
  unfold iblk
  rw [View.read_apply]
  show V m c main_arg0 _ = _
  rw [V_main_arg0]
  refine congrArg _ ?_
  refine idx2 ?_ ?_
  · show win0_0.index t 0 * 256 + 1 * p.val = r.val; rw [(index0 t).1]; exact Cert.Prods.step h
  · show win0_0.index t 1 * 1024 + 1 * d.val = d.val; rw [(index0 t).2]; exact Cert.Prods.whole _ _

theorem block1 (t : Fin cfg0.N) (r : Fin 4096) (p : Fin 256) (h : t.val * 256 + p.val = r.val) (d : Fin 1024) :
    (iblk m c 1 t : Vec Ideal S256x1024 .bf16) (ValueIdx.ix2 p d) = m ((c : Thread nD τ).loc main_arg1) (ValueIdx.ix2 r d) := by
  unfold iblk
  rw [View.read_apply]
  show V m c main_arg1 _ = _
  rw [V_main_arg1]
  refine congrArg _ ?_
  refine idx2 ?_ ?_
  · show win0_1.index t 0 * 256 + 1 * p.val = r.val; rw [(index1 t).1]; exact Cert.Prods.step h
  · show win0_1.index t 1 * 1024 + 1 * d.val = d.val; rw [(index1 t).2]; exact Cert.Prods.whole _ _

theorem block2 (t : Fin cfg0.N) (d : Fin 1024) :
    (iblk m c 2 t : Vec Ideal S1x1024 .f32) (ValueIdx.ix2 0 d) = m ((c : Thread nD τ).loc main_arg2) (ValueIdx.ix2 0 d) := by
  unfold iblk
  rw [View.read_apply]
  show V m c main_arg2 _ = _
  rw [V_main_arg2]
  refine congrArg _ ?_
  refine idx2 ?_ ?_
  · show win0_2.index t 0 * 1 + 1 * 0 = 0; rw [(index2 t).1]
  · show win0_2.index t 1 * 1024 + 1 * d.val = d.val; rw [(index2 t).2]; exact Cert.Prods.whole _ _

theorem block3 (t : Fin cfg0.N) (k : Fin 4) (p : Fin 704) (s : Fin 1024) :
    (iblk m c 3 t : Vec Ideal S4x704x1024 .bf16) (ValueIdx.ix3 k p s) = m ((c : Thread nD τ).loc main_arg3) (ValueIdx.ix3 k p s) := by
  unfold iblk
  rw [View.read_apply]
  show V m c main_arg3 _ = _
  rw [V_main_arg3]
  refine congrArg _ ?_
  funext a
  apply Fin.ext
  match a with
  | ⟨0, _⟩ => show win0_3.index t 0 * 4 + 1 * k.val = k.val; rw [(index3 t).1]; exact Cert.Prods.whole _ _
  | ⟨1, _⟩ => show win0_3.index t 1 * 704 + 1 * p.val = p.val; rw [(index3 t).2.1]; exact Cert.Prods.whole _ _
  | ⟨2, _⟩ => show win0_3.index t 2 * 1024 + 1 * s.val = s.val; rw [(index3 t).2.2]; exact Cert.Prods.whole _ _

theorem block4 (t : Fin cfg0.N) (k : Fin 4) (r : Fin 4096) (p : Fin 256) (h : t.val * 256 + p.val = r.val) (s : Fin 704) :
    (iblk m c 4 t : Vec Ideal S4x256x704 .bf16) (ValueIdx.ix3 k p s) = m ((c : Thread nD τ).loc main_arg4) (ValueIdx.ix3 k r s) := by
  unfold iblk
  rw [View.read_apply]
  show V m c main_arg4 _ = _
  rw [V_main_arg4]
  refine congrArg _ ?_
  funext a
  apply Fin.ext
  match a with
  | ⟨0, _⟩ => show win0_4.index t 0 * 4 + 1 * k.val = k.val; rw [(index4 t).1]; exact Cert.Prods.whole _ _
  | ⟨1, _⟩ => show win0_4.index t 1 * 256 + 1 * p.val = r.val; rw [(index4 t).2.1]; exact Cert.Prods.step h
  | ⟨2, _⟩ => show win0_4.index t 2 * 704 + 1 * s.val = s.val; rw [(index4 t).2.2]; exact Cert.Prods.whole _ _

theorem block5 (t : Fin cfg0.N) (k : Fin 4) (r : Fin 4096) (p : Fin 256) (h : t.val * 256 + p.val = r.val) (s : Fin 704) :
    (iblk m c 5 t : Vec Ideal S4x256x704 .bf16) (ValueIdx.ix3 k p s) = m ((c : Thread nD τ).loc main_arg5) (ValueIdx.ix3 k r s) := by
  unfold iblk
  rw [View.read_apply]
  show V m c main_arg5 _ = _
  rw [V_main_arg5]
  refine congrArg _ ?_
  funext a
  apply Fin.ext
  match a with
  | ⟨0, _⟩ => show win0_5.index t 0 * 4 + 1 * k.val = k.val; rw [(index5 t).1]; exact Cert.Prods.whole _ _
  | ⟨1, _⟩ => show win0_5.index t 1 * 256 + 1 * p.val = r.val; rw [(index5 t).2.1]; exact Cert.Prods.step h
  | ⟨2, _⟩ => show win0_5.index t 2 * 704 + 1 * s.val = s.val; rw [(index5 t).2.2]; exact Cert.Prods.whole _ _

theorem dfBlock (t : Fin cfg0.N) (r : Fin 4096) (p : Fin 256) (h : t.val * 256 + p.val = r.val) (d : Fin 1024) :
    dfRow (iblk m c 0 t : Vec Ideal S256x1024 .f32) (iblk m c 1 t : Vec Ideal S256x1024 .bf16) (iblk m c 2 t) p d = dfRow (n := 4096) (m ((c : Thread nD τ).loc main_arg0)) (m ((c : Thread nD τ).loc main_arg1)) (m ((c : Thread nD τ).loc main_arg2)) r d := by
  unfold dfRow
  have e1 : row (iblk m c 1 t : Vec Ideal S256x1024 .bf16) p = row (n := 4096) (m ((c : Thread nD τ).loc main_arg1)) r := funext fun d => block1 m c t r p h d
  have e0 : scaled (rowF (iblk m c 0 t : Vec Ideal S256x1024 .f32) p) (iblk m c 2 t) = scaled (rowF (n := 4096) (m ((c : Thread nD τ).loc main_arg0)) r) (m ((c : Thread nD τ).loc main_arg2)) :=
    funext fun d => mul2 (block0 m c t r p h d) (block2 m c t d)
  rw [e1, e0]

theorem dgBlock (t : Fin cfg0.N) (r : Fin 4096) (p : Fin 256) (h : t.val * 256 + p.val = r.val) (d : Fin 1024) :
    dgPart (iblk m c 0 t : Vec Ideal S256x1024 .f32) (iblk m c 1 t : Vec Ideal S256x1024 .bf16) p d = dgPart (n := 4096) (m ((c : Thread nD τ).loc main_arg0)) (m ((c : Thread nD τ).loc main_arg1)) r d := by
  unfold dgPart
  have e1 : row (iblk m c 1 t : Vec Ideal S256x1024 .bf16) p = row (n := 4096) (m ((c : Thread nD τ).loc main_arg1)) r := funext fun d => block1 m c t r p h d
  have e0 : rowF (iblk m c 0 t : Vec Ideal S256x1024 .f32) p = rowF (n := 4096) (m ((c : Thread nD τ).loc main_arg0)) r := funext fun d => block0 m c t r p h d
  rw [e1, e0]

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

/-! What one point leaves in the blocks of the first three results. -/

theorem left6 (t : Fin cfg0.N) : (outsAt0 m c t.val t.isLt).1 = dfT (iblk m c 0 t) (iblk m c 1 t) (iblk m c 2 t) := by
  by_cases h0 : t.val % 16 = 0
  · rw [outsAt0_A m c t h0]
    dsimp only
    exact leftA6 c (grid0.coords t) _ _ _ _ _ _ _ _ _ _ _ _ _ _ _ _ _ _ _ _ ((hcond0_0 t).mpr h0) _ _ _ _ _ _
  · rw [outsAt0_B m c t h0]
    dsimp only
    exact leftB6 c (grid0.coords t) _ _ _ _ _ _ _ _ _ _ _ _ _ _ _ _ _ _ _ _ (fun h => h0 ((hcond0_0 t).mp h)) _ _ _ _ _ _ _

theorem left7 (t : Fin cfg0.N) : (outsAt0 m c t.val t.isLt).2.1 = slabsT (dfT (iblk m c 0 t) (iblk m c 1 t) (iblk m c 2 t)) (iblk m c 3 t) (iblk m c 5 t) := by
  by_cases h0 : t.val % 16 = 0
  · rw [outsAt0_A m c t h0]
    dsimp only
    exact leftA7 c (grid0.coords t) _ _ _ _ _ _ _ _ _ _ _ _ _ _ _ _ _ _ _ _ ((hcond0_0 t).mpr h0) _ _ _ _ _ _
  · rw [outsAt0_B m c t h0]
    dsimp only
    exact leftB7 c (grid0.coords t) _ _ _ _ _ _ _ _ _ _ _ _ _ _ _ _ _ _ _ _ (fun h => h0 ((hcond0_0 t).mp h)) _ _ _ _ _ _ _

theorem left8 (t : Fin cfg0.N) : (outsAt0 m c t.val t.isLt).2.2.1 = slabsT (dfT (iblk m c 0 t) (iblk m c 1 t) (iblk m c 2 t)) (iblk m c 3 t) (iblk m c 4 t) := by
  by_cases h0 : t.val % 16 = 0
  · rw [outsAt0_A m c t h0]
    dsimp only
    exact leftA8 c (grid0.coords t) _ _ _ _ _ _ _ _ _ _ _ _ _ _ _ _ _ _ _ _ ((hcond0_0 t).mpr h0) _ _ _ _ _ _
  · rw [outsAt0_B m c t h0]
    dsimp only
    exact leftB8 c (grid0.coords t) _ _ _ _ _ _ _ _ _ _ _ _ _ _ _ _ _ _ _ _ (fun h => h0 ((hcond0_0 t).mp h)) _ _ _ _ _ _ _

/-- What the first point leaves in the last result's block. -/
theorem first9 (t : Fin cfg0.N) (h0 : t.val % 16 = 0) : (outsAt0 m c t.val t.isLt).2.2.2 = dgT (iblk m c 0 t) (iblk m c 1 t) (k0_pay9 (F := Ideal)) := by
  rw [outsAt0_A m c t h0]
  dsimp only
  exact leftA9 c (grid0.coords t) _ _ _ _ _ _ _ _ _ _ _ _ _ _ _ _ _ _ _ _ ((hcond0_0 t).mpr h0) _ _ _ _ _ _

/-- What a later point leaves there. -/
theorem left9 (t : Fin cfg0.N) (h0 : ¬t.val % 16 = 0) : (outsAt0 m c t.val t.isLt).2.2.2
    = dgT (iblk m c 0 t) (iblk m c 1 t) (outsAt0 m c (t.val - 1) (Nat.lt_of_le_of_lt (Nat.sub_le _ _) t.isLt)).2.2.2 := by
  rw [outsAt0_B m c t h0]
  dsimp only
  exact leftB9 c (grid0.coords t) _ _ _ _ _ _ _ _ _ _ _ _ _ _ _ _ _ _ _ _ (fun h => h0 ((hcond0_0 t).mp h)) _ _ _ _ _ _ _

/-- The gradient of the product that the call leaves. -/
theorem final6 (r : Fin 4096) (d : Fin 1024) :
    (dats m 0 c).arrAt 6 cfg0.N (ValueIdx.ix2 r d) = dfRow (n := 4096) (m ((c : Thread nD τ).loc main_arg0)) (m ((c : Thread nD τ).loc main_arg1)) (m ((c : Thread nD τ).loc main_arg2)) r d := by
  obtain ⟨t, ht0⟩ := pointOf r
  have hp : r.val % 256 < 256 := Nat.mod_lt _ (by decide)
  have h := congrFun (blocks6 m c t (flush0_6 _)) (ValueIdx.ix2 (⟨r.val % 256, hp⟩ : Fin 256) d)
  rw [flushed6, left6] at h
  rw [View.read_apply] at h
  refine Eq.trans (congrArg _ ?_) (h.trans ?_)
  · refine idx2 ?_ ?_
    · show r.val = win0_6.index t 0 * 256 + 1 * (r.val % 256); rw [(index6 t).1]; exact rowAt ht0
    · show d.val = win0_6.index t 1 * 1024 + 1 * d.val; rw [(index6 t).2]; exact wholeAt _ _
  · exact (dfT_apply _ _ _ _ _).trans (dfBlock m c t r ⟨r.val % 256, hp⟩ (rowFrom ht0) d)

theorem final7 (k : Fin 4) (r : Fin 4096) (j : Fin 704) :
    (dats m 0 c).arrAt 7 cfg0.N (ValueIdx.ix3 k r j)
      = against (dfRow (n := 4096) (m ((c : Thread nD τ).loc main_arg0)) (m ((c : Thread nD τ).loc main_arg1)) (m ((c : Thread nD τ).loc main_arg2)) r) (m ((c : Thread nD τ).loc main_arg3)) k j * (m ((c : Thread nD τ).loc main_arg5) (ValueIdx.ix3 k r j) : EReal) := by
  obtain ⟨t, ht0⟩ := pointOf r
  have hp : r.val % 256 < 256 := Nat.mod_lt _ (by decide)
  have h := congrFun (blocks7 m c t (flush0_7 _)) (ValueIdx.ix3 k (⟨r.val % 256, hp⟩ : Fin 256) j)
  rw [flushed7, left7] at h
  rw [View.read_apply] at h
  refine Eq.trans (congrArg _ ?_) (h.trans ?_)
  · funext a
    apply Fin.ext
    match a with
    | ⟨0, _⟩ => show k.val = win0_7.index t 0 * 4 + 1 * k.val; rw [(index7 t).1]; exact wholeAt _ _
    | ⟨1, _⟩ => show r.val = win0_7.index t 1 * 256 + 1 * (r.val % 256); rw [(index7 t).2.1]; exact rowAt ht0
    | ⟨2, _⟩ => show j.val = win0_7.index t 2 * 704 + 1 * j.val; rw [(index7 t).2.2]; exact wholeAt _ _
  · refine mul2 (Finset.sum_congr rfl fun s _ => mul2 ?_ (block3 m c t k j s)) (block5 m c t k r ⟨r.val % 256, hp⟩ (rowFrom ht0) j)
    exact (dfT_apply _ _ _ _ _).trans (dfBlock m c t r ⟨r.val % 256, hp⟩ (rowFrom ht0) s)

theorem final8 (k : Fin 4) (r : Fin 4096) (j : Fin 704) :
    (dats m 0 c).arrAt 8 cfg0.N (ValueIdx.ix3 k r j)
      = against (dfRow (n := 4096) (m ((c : Thread nD τ).loc main_arg0)) (m ((c : Thread nD τ).loc main_arg1)) (m ((c : Thread nD τ).loc main_arg2)) r) (m ((c : Thread nD τ).loc main_arg3)) k j * (m ((c : Thread nD τ).loc main_arg4) (ValueIdx.ix3 k r j) : EReal) := by
  obtain ⟨t, ht0⟩ := pointOf r
  have hp : r.val % 256 < 256 := Nat.mod_lt _ (by decide)
  have h := congrFun (blocks8 m c t (flush0_8 _)) (ValueIdx.ix3 k (⟨r.val % 256, hp⟩ : Fin 256) j)
  rw [flushed8, left8] at h
  rw [View.read_apply] at h
  refine Eq.trans (congrArg _ ?_) (h.trans ?_)
  · funext a
    apply Fin.ext
    match a with
    | ⟨0, _⟩ => show k.val = win0_8.index t 0 * 4 + 1 * k.val; rw [(index8 t).1]; exact wholeAt _ _
    | ⟨1, _⟩ => show r.val = win0_8.index t 1 * 256 + 1 * (r.val % 256); rw [(index8 t).2.1]; exact rowAt ht0
    | ⟨2, _⟩ => show j.val = win0_8.index t 2 * 704 + 1 * j.val; rw [(index8 t).2.2]; exact wholeAt _ _
  · refine mul2 (Finset.sum_congr rfl fun s _ => mul2 ?_ (block3 m c t k j s)) (block4 m c t k r ⟨r.val % 256, hp⟩ (rowFrom ht0) j)
    exact (dfT_apply _ _ _ _ _).trans (dfBlock m c t r ⟨r.val % 256, hp⟩ (rowFrom ht0) s)

/-- What one point adds to the gradient of the factors. -/
def part (d : Fin 1024) (k : ℕ) : EReal :=
  if h : k < cfg0.N then ∑ p : Fin 256, dgPart (iblk m c 0 ⟨k, h⟩ : Vec Ideal S256x1024 .f32) (iblk m c 1 ⟨k, h⟩ : Vec Ideal S256x1024 .bf16) p d else 0

theorem start9 (d : Fin 1024) (h : 0 < cfg0.N) : ((outsAt0 m c 0 h).2.2.2 (ValueIdx.ix2 (0 : Fin 1) d) : EReal) = 0 + part m c d 0 := by
  refine (congrFun (first9 m c ⟨0, h⟩ rfl) _).trans ((dgT_apply _ _ _ d).trans ?_)
  refine add2 zeroBits ?_
  unfold part
  rw [dif_pos h]

theorem next9 (d : Fin 1024) (k : ℕ) (h : k + 1 < cfg0.N) (h' : k < cfg0.N) :
    ((outsAt0 m c (k + 1) h).2.2.2 (ValueIdx.ix2 (0 : Fin 1) d) : EReal) = ((outsAt0 m c k h').2.2.2 (ValueIdx.ix2 (0 : Fin 1) d) : EReal) + part m c d (k + 1) := by
  have h16 : k + 1 < 16 := lt_of_lt_of_eq h (show cfg0.N = 16 from N_0)
  refine (congrFun (left9 m c ⟨k + 1, h⟩ (succ_mod h16)) _).trans ((dgT_apply _ _ _ d).trans ?_)
  refine congrArg (fun q : EReal => ((outsAt0 m c k h').2.2.2 (ValueIdx.ix2 (0 : Fin 1) d) : EReal) + q) ?_
  unfold part
  rw [dif_pos h]

theorem last_lt : 15 < cfg0.N := by rw [show cfg0.N = 16 from N_0]; decide

theorem whole9 : (dats m 0 c).arrAt 9 cfg0.N = (outsAt0 m c 15 last_lt).2.2.2 :=
  (dats m 0 c).arrAt_eq_of_cover 9 (outsAt0 m c 15 last_lt).2.2.2 (fun t hf => by
    have hN : t.val < 16 := lt_of_lt_of_eq t.isLt (show cfg0.N = 16 from N_0)
    obtain rfl : t = t0_15 := Fin.ext (last_of ((flush0_9 t).mp hf) hN)
    rw [flushed9]
    have hz' : (fun a => win0_9.index t0_15 a * main_v0_3.ty.shape.size a) = fun _ => 0 := funext fun a => by fin_cases a <;> decide
    exact (Memref.read_access_unit_zero (Elt Ideal) main_v0_3 hz' (fun a => by rw [congrFun hz' a]; simp) (outsAt0 m c 15 last_lt).2.2.2).symm)
    fun i => ⟨t0_15, (flush0_9 t0_15).mpr rfl, by
      show i ∈ ((View.whole main_v0_3).slice (win0_9.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

/-- The gradient of the factors that the call leaves. -/
theorem final9 (d : Fin 1024) :
    (dats m 0 c).arrAt 9 cfg0.N (ValueIdx.ix2 (0 : Fin 1) d) = ∑ r : Fin 4096, dgPart (n := 4096) (m ((c : Thread nD τ).loc main_arg0)) (m ((c : Thread nD τ).loc main_arg1)) r d := by
  rw [whole9]
  refine (running (part m c d) (fun k h => ((outsAt0 m c k h).2.2.2 (ValueIdx.ix2 (0 : Fin 1) d) : EReal)) (start9 m c d) (next9 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => dgBlock m c ⟨p.val, hp⟩ _ s rfl d

/-! ## The reference -/

section reference
open Cert.FfnBwdARefIdeal.Read

variable (x0 : Vec Ideal S4096x1024 .f32) (x1 : Vec Ideal S4096x1024 .bf16) (x2 : Vec Ideal S1x1024 .f32) (x3 : Vec Ideal S4x704x1024 .bf16) (x4 x5 : Vec Ideal S4x4096x704 .bf16)

theorem refDy (i : S4096x1024.Idx) : val_main_v19 (F := Ideal) x0 i = dyRow x0 (i 0) (i 1) :=
  (val_main_v19_apply _ _).trans (congrArg (fun w : EReal => ch * w) (congrArg x0 (ValueIdx.eq_ix2 i)))

theorem refMs (i : (⟨2, ![4096, 1]⟩ : Shape).Idx) : val_main_v7 (F := Ideal) x1 i = ms (row x1 (i 0)) := by
  rw [val_main_v7_apply, val_main_v5_apply, val_main_v3_apply]
  refine congrArg (fun w : EReal => Ideal.div w cn + ce) ?_
  refine (val_main_v2_apply _ _).trans (zero_plus _ zeroBits _ _ fun k => ?_)
  refine (val_main_v1_apply _ _).trans ?_
  refine mul2 (congrArg x1 ?_) (congrArg x1 ?_)
  all_goals
    exact idx2 rfl rfl

theorem refInv (i : (⟨2, ![4096, 1]⟩ : Shape).Idx) : val_main_v8 (F := Ideal) x1 i = inv (row x1 (i 0)) :=
  (val_main_v8_apply _ _).trans (congrArg Ideal.rsqrt (refMs x1 i))

theorem refSlope (i : (⟨2, ![4096, 1]⟩ : Shape).Idx) : val_main_v11 (F := Ideal) x1 i = cm * Ideal.div (inv (row x1 (i 0))) (ms (row x1 (i 0))) := by
  rw [val_main_v11_apply, val_main_v9_apply]
  exact congrArg₂ (fun p q : EReal => cm * Ideal.div p q) (refInv x1 i) (refMs x1 i)

theorem refScaled (i : S4096x1024.Idx) : val_main_v24 (F := Ideal) x0 x2 i = scaled (dyRow x0 (i 0)) x2 (i 1) := by
  rw [val_main_v24_apply, val_main_v23_apply]
  refine mul2 (refDy x0 i) (congrArg x2 ?_)
  exact idx2 rfl rfl

theorem refInner (i : (⟨1, ![4096]⟩ : Shape).Idx) : val_main_v26 (F := Ideal) x0 x1 x2 i = inner (row x1 (i 0)) (scaled (dyRow x0 (i 0)) x2) := by
  refine (val_main_v26_apply _ _ _ _).trans (zero_plus _ zeroBits _ _ fun k => ?_)
  refine (val_main_v25_apply _ _ _ _).trans ?_
  refine mul2 (congrArg x1 ?_) (refScaled x0 x2 _)
  exact idx2 rfl rfl

theorem refPull (i : (⟨1, ![4096]⟩ : Shape).Idx) : val_main_v33 (F := Ideal) x0 x1 x2 i = pull (row x1 (i 0)) (scaled (dyRow x0 (i 0)) x2) := by
  refine (val_main_v33_apply _ _ _ _).trans (zero_one _ zeroBits _ _ ?_)
  rw [val_main_v32_apply, val_main_v30_apply, val_main_v27_apply]
  have e : idx_main_v27 (idx_main_v33 i 0) = i := funext fun d => by
    match d with
    | ⟨0, _⟩ => exact Fin.ext (by show (i 0).val * 1 + 0 = (i 0).val; omega)
  rw [e]
  exact congrArg₂ (fun p q : EReal => Ideal.div (p * q) cn) (refInner x0 x1 x2 i) (refSlope x1 _)

theorem refBack (i : S4096x1024.Idx) : val_main_v38 (F := Ideal) x0 x1 x2 i = back (row x1 (i 0)) (scaled (dyRow x0 (i 0)) x2) (i 1) := by
  refine Eq.trans ?_ (back_eq _ _ _).symm
  rw [val_main_v38_apply, val_main_v36_apply, val_main_v37_apply, val_main_v35_apply, val_main_v34_apply,
    val_main_v29_apply, val_main_v28_apply]
  have hx : x1 i = row x1 (i 0) (i 1) := congrArg x1 (ValueIdx.eq_ix2 i)
  have hp := refPull x0 x1 x2 (idx_main_v34 i)
  exact add2
    (add2 (mul2 (refScaled x0 x2 i) (refInv x1 _)) (mul2 hx hp))
    (mul2 hp hx)

theorem refDf (i : S4096x1024.Idx) : val_main_v38 (F := Ideal) x0 x1 x2 i = dfRow x0 x1 x2 (i 0) (i 1) :=
  (refBack x0 x1 x2 i).trans (dfRow_eq _ _ _ _ _)

theorem place (k : Fin 4) (j : Fin 704) : k.val * 704 + j.val < 2816 := by
  have hk := k.isLt
  have hj := j.isLt
  omega

theorem refDa (k : Fin 4) (r : Fin 4096) (j : Fin 704) :
    val_main_v43 (F := Ideal) x0 x1 x2 x3 (ValueIdx.ix2 r (⟨k.val * 704 + j.val, place k j⟩ : Fin 2816)) = against (dfRow x0 x1 x2 r) x3 k j := by
  refine (val_main_v43_apply _ _ _ _ _).trans ?_
  refine Finset.sum_congr rfl fun s _ => ?_
  rw [val_main_v40_apply, val_main_v39_apply]
  have hk := k.isLt
  have hj := j.isLt
  have hs := s.isLt
  refine mul2 (refDf x0 x1 x2 _) (congrArg x3 ?_)
  funext a
  apply Fin.ext
  match a with
  | ⟨0, _⟩ => show ((k.val * 704 + j.val) * 1024 + s.val) / 720896 = k.val; omega
  | ⟨1, _⟩ => show ((k.val * 704 + j.val) * 1024 + s.val) / 1024 % 704 = j.val; omega
  | ⟨2, _⟩ => show ((k.val * 704 + j.val) * 1024 + s.val) % 1024 = s.val; omega

theorem refDg (k : Fin 4) (r : Fin 4096) (j : Fin 704) :
    val_main_v51 (F := Ideal) x0 x1 x2 x3 x5 (ValueIdx.ix3 k r j) = against (dfRow x0 x1 x2 r) x3 k j * (x5 (ValueIdx.ix3 k r j) : EReal) := by
  rw [val_main_v51_apply, val_main_v50_apply]
  have hk := k.isLt
  have hj := j.isLt
  have hr := r.isLt
  have e : idx_main_v50 (idx_main_v51 (ValueIdx.ix3 k r j)) = ValueIdx.ix2 r (⟨k.val * 704 + j.val, place k j⟩ : Fin 2816) := by
    refine idx2 ?_ ?_
    · show ((r.val * 4 + k.val) * 704 + j.val) / 2816 = r.val; omega
    · show ((r.val * 4 + k.val) * 704 + j.val) % 2816 = k.val * 704 + j.val; omega
  rw [e, val_main_v49_apply, val_main_v48_apply, val_main_v47_apply, val_main_v46_apply, val_main_v45_apply]
  refine mul2 (refDa x0 x1 x2 x3 k r j) (congrArg x5 ?_)
  funext a
  apply Fin.ext
  match a with
  | ⟨0, _⟩ => show (r.val * 2816 + (k.val * 704 + j.val)) / 704 % 4 = k.val; omega
  | ⟨1, _⟩ => show (r.val * 2816 + (k.val * 704 + j.val)) / 2816 = r.val; omega
  | ⟨2, _⟩ => show (r.val * 2816 + (k.val * 704 + j.val)) % 704 = j.val; omega

theorem refDu (k : Fin 4) (r : Fin 4096) (j : Fin 704) :
    val_main_v58 (F := Ideal) x0 x1 x2 x3 x4 (ValueIdx.ix3 k r j) = against (dfRow x0 x1 x2 r) x3 k j * (x4 (ValueIdx.ix3 k r j) : EReal) := by
  rw [val_main_v58_apply, val_main_v57_apply]
  have hk := k.isLt
  have hj := j.isLt
  have hr := r.isLt
  have e : idx_main_v57 (idx_main_v58 (ValueIdx.ix3 k r j)) = ValueIdx.ix2 r (⟨k.val * 704 + j.val, place k j⟩ : Fin 2816) := by
    refine idx2 ?_ ?_
    · show ((r.val * 4 + k.val) * 704 + j.val) / 2816 = r.val; omega
    · show ((r.val * 4 + k.val) * 704 + j.val) % 2816 = k.val * 704 + j.val; omega
  rw [e, val_main_v56_apply, val_main_v55_apply, val_main_v54_apply, val_main_v53_apply, val_main_v52_apply]
  refine mul2 (refDa x0 x1 x2 x3 k r j) (congrArg x4 ?_)
  funext a
  apply Fin.ext
  match a with
  | ⟨0, _⟩ => show (r.val * 2816 + (k.val * 704 + j.val)) / 704 % 4 = k.val; omega
  | ⟨1, _⟩ => show (r.val * 2816 + (k.val * 704 + j.val)) / 2816 = r.val; omega
  | ⟨2, _⟩ => show (r.val * 2816 + (k.val * 704 + j.val)) % 704 = j.val; omega

theorem refGain (d : Fin 1024) : val_main_v22 (F := Ideal) x0 x1 (ValueIdx.ix2 (0 : Fin 1) d) = ∑ r : Fin 4096, dgPart x0 x1 r d := by
  refine (val_main_v22_apply _ _ _).trans ((val_main_v21_apply _ _ _).trans (zero_plus _ zeroBits _ _ fun k => ?_))
  have e : idx_main_v21 (idx_main_v22 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v20_apply, val_main_v13_apply, val_main_v12_apply]
  refine (congrArg₂ (fun p q : EReal => (row x1 k d * p) * q) (refInv x1 _) (refDy x0 _)).trans ?_
  show (row x1 k d * inv (row x1 k)) * (ch * rowF x0 k d) = ch * ((rowF x0 k d * row x1 k d) * inv (row x1 k))
  rw [mul_left_comm, mul_comm (row x1 k d * inv (row x1 k)), mul_assoc (rowF x0 k d)]

end reference

theorem algebraic : @Cert.algebraic_FfnBwdAIdeal_FfnBwdARefIdeal Cert.FfnBwdAIdeal.Gen.facts Cert.FfnBwdARefIdeal.Gen.facts := by
  intro m g m' g' _ ha
  refine ⟨fun c => (dats m 0 c).arrAt 6 cfg0.N, fun c => (dats m 0 c).arrAt 7 cfg0.N, fun c => (dats m 0 c).arrAt 8 cfg0.N, fun c => (dats m 0 c).arrAt 9 cfg0.N, run_blocks m g, ?_⟩
  refine (θ_run Cert.FfnBwdARefIdeal.defs _ _).mono (fun r h c => ?_) (Cert.FfnBwdARefIdeal.Value.run (F := Ideal) m' g')
  obtain ⟨h6, h7, h8, h9, hk⟩ := h c
  obtain ⟨a0, a1, a2, a3, a4, a5⟩ := ha c
  refine ⟨h6.trans ((Cert.FfnBwdARefIdeal.Read.val_main_v44_eq _ _).trans ?_), h7.trans ((Cert.FfnBwdARefIdeal.Read.val_main_v51_eq _ _).trans ?_),
    h8.trans ((Cert.FfnBwdARefIdeal.Read.val_main_v58_eq _ _).trans ?_), h9.trans ((Cert.FfnBwdARefIdeal.Read.val_main_v22_eq _ _).trans ?_), hk⟩
  · rw [a0, a1, a2]
    refine funext fun i => ?_
    obtain ⟨r, d, rfl⟩ : ∃ (r : Fin 4096) (d : Fin 1024), i = ValueIdx.ix2 r d := ⟨i 0, i 1, ValueIdx.eq_ix2 i⟩
    exact (refDf _ _ _ _).trans (final6 m c r d).symm
  · rw [a0, a1, a2, a3, a5]
    refine funext fun i => ?_
    obtain ⟨k, r, j, rfl⟩ : ∃ (k : Fin 4) (r : Fin 4096) (j : Fin 704), i = ValueIdx.ix3 k r j := ⟨i 0, i 1, i 2, ValueIdx.eq_ix3 i⟩
    exact (refDg _ _ _ _ _ k r j).trans (final7 m c k r j).symm
  · rw [a0, a1, a2, a3, a4]
    refine funext fun i => ?_
    obtain ⟨k, r, j, rfl⟩ : ∃ (k : Fin 4) (r : Fin 4096) (j : Fin 704), i = ValueIdx.ix3 k r j := ⟨i 0, i 1, i 2, ValueIdx.eq_ix3 i⟩
    exact (refDu _ _ _ _ _ k r j).trans (final8 m c k r j).symm
  · rw [a0, a1]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refGain _ _ d).trans (final9 m c d).symm

/-- The reference keeps its arguments. -/
theorem refFrame : @Cert.quiescent_FfnBwdARefIdeal Cert.FfnBwdARefIdeal.Gen.facts := fun m g _ =>
  (θ_run Cert.FfnBwdARefIdeal.defs _ _).mono (fun r h => ⟨fun c => (h c).2.2.2.2, sem_eq_zero_of_no_sems (by decide) r.2⟩) (Cert.FfnBwdARefIdeal.Value.run (F := Ideal) m g)

end Cert.FfnBwdATie

end
-- ==== Proof.MmNorm.lean ====
/- The feed-forward down product with the two row normalisations after it: the product f, the residual h + 1/2 · norm(f), and the norm of that. -/
module

public import proofs.«01_k».proof.Proof.Rows
public import proofs.«01_k».proof.Proof.Sgu
public import proofs.«01_k».proof.Defs
public import proofs.«01_k».proof.Proof.Gen.MmNormIdeal.Value
public import proofs.«01_k».proof.Proof.Gen.MmNormRefIdeal.Run
public import proofs.«01_k».proof.Proof.Gen.MmNormRefIdeal.Read

@[expose] public section

noncomputable section

namespace Cert.MmNormTie

open Idealize.ShloMosaic Idealize.ShloMosaic.TcCoe Idealize.SL.Sem
open Cert.MmNormIdeal Cert.MmNormIdeal.Gen Cert.MmNormIdeal.Value
open Cert.Rows
open scoped BigOperators

/-- The row length, the small term and the residual's factor, as the program writes them. -/
def cn : EReal := Ideal.ofBits .f32 0x44800000#32
def ce : EReal := Ideal.ofBits .f32 0x358637BD#32
def ch : EReal := Ideal.ofBits .f32 0x3F000000#32

/-- Row r of the product, over the four shards. -/
def fRow {n : ℕ} (x0 : Vec Ideal ⟨3, ![4, n, 704]⟩ .bf16) (x1 : Vec Ideal S4x704x1024 .bf16) (r : Fin n) (d : Fin 1024) : EReal :=
  ∑ k : Fin 4, ∑ s : Fin 704, (x0 (ValueIdx.ix3 k r s) : EReal) * (x1 (ValueIdx.ix3 k s d) : EReal)

/-- Row r of the residual. -/
def hRow {n : ℕ} (x0 : Vec Ideal ⟨3, ![4, n, 704]⟩ .bf16) (x1 : Vec Ideal S4x704x1024 .bf16) (x2 : Vec Ideal ⟨2, ![n, 1024]⟩ .f32) (x3 : Vec Ideal S1x1024 .f32)
    (r : Fin n) (d : Fin 1024) : EReal :=
  (x2 (ValueIdx.ix2 r d) : EReal) + ch * (unitRow cn ce (fRow x0 x1 r) d * (x3 (ValueIdx.ix2 0 d) : EReal))

/-- Row r of the last normalisation. -/
def nRow {n : ℕ} (x0 : Vec Ideal ⟨3, ![4, n, 704]⟩ .bf16) (x1 : Vec Ideal S4x704x1024 .bf16) (x2 : Vec Ideal ⟨2, ![n, 1024]⟩ .f32) (x3 x4 : Vec Ideal S1x1024 .f32)
    (r : Fin n) (d : Fin 1024) : EReal :=
  unitRow cn ce (hRow x0 x1 x2 x3 r) d * (x4 (ValueIdx.ix2 0 d) : EReal)

/-! ## The kernel's tile -/

theorem slabDot (x0 : Vec Ideal S4x256x704 .bf16) (x1 : Vec Ideal S4x704x1024 .bf16) {o : ℕ} (k : Fin 4) (hk : k.val = o)
    (i0 : ∀ d, (![o, 0, 0] : Fin 3 → ℕ) d + (![1, 256, 704] : Fin 3 → ℕ) d ≤ (S4x256x704).size d)
    (i1 : ∀ d, (![o, 0, 0] : Fin 3 → ℕ) d + (![1, 704, 1024] : Fin 3 → ℕ) d ≤ (S4x704x1024).size d)
    (h0 : S1x256x704.ShapeCasts S256x704) (h1 : S1x704x1024.ShapeCasts S704x1024) (p : Fin 256) (d : Fin 1024) :
    (matmul (φ₁ := .bf16) (φ₂ := .bf16) dot_S256x704_S704x1024_S256x1024_1_0_0_1_n_n none
        (shapeCast S256x704 (View.ld (Val := Elt Ideal) (e' := .bf16) x0 (Rect.unit (s := S4x256x704) ![o, 0, 0] ![1, 256, 704] i0) : FVec Ideal S1x256x704 .bf16) h0 : FVec Ideal S256x704 .bf16)
        (shapeCast S704x1024 (View.ld (Val := Elt Ideal) (e' := .bf16) x1 (Rect.unit (s := S4x704x1024) ![o, 0, 0] ![1, 704, 1024] i1) : FVec Ideal S1x704x1024 .bf16) h1 : FVec Ideal S704x1024 .bf16)
        (constant S256x1024 .f32 0x00000000#32) : FVec Ideal S256x1024 .f32) (ValueIdx.ix2 p d)
      = ∑ s : Fin 704, (x0 (ValueIdx.ix3 k p s) : EReal) * (x1 (ValueIdx.ix3 k s d) : EReal) := by
  refine Eq.trans (Cert.Prods.nn (φ := .bf16) (ψ := .bf16) (shapeCast S256x704 _ h0) (shapeCast S704x1024 _ h1) _ none p d) ?_
  refine Finset.sum_congr rfl fun s _ => mul2 ?_ ?_
  · exact (ValueIdx.shapeCast_1ab_ab_apply _ _ _ _).trans (slab x0 i0 k hk p s)
  · exact (ValueIdx.shapeCast_1ab_ab_apply _ _ _ _).trans (slab x1 i1 k hk s d)

theorem acc (x0 : Vec Ideal S4x256x704 .bf16) (x1 : Vec Ideal S4x704x1024 .bf16) (x2 : Vec Ideal S256x1024 .f32) (x3 x4 : Vec Ideal S1x1024 .f32) (p : Fin 256) (d : Fin 1024) :
    k0_pay5 (F := Ideal) x0 x1 x2 x3 x4 (ValueIdx.ix2 p d) = fRow x0 x1 p d := by
  unfold k0_pay5 k0_pay3 fRow
  rw [Fin.sum_univ_four]
  refine add2 (add2 (add2 ?_ ?_) ?_) ?_
  · exact slabDot x0 x1 0 rfl _ _ _ _ p d
  · exact slabDot x0 x1 1 rfl _ _ _ _ p d
  · exact slabDot x0 x1 2 rfl _ _ _ _ p d
  · exact slabDot x0 x1 3 rfl _ _ _ _ p d

theorem hTile (f : FVec Ideal S256x1024 .f32) (x0 : Vec Ideal S4x256x704 .bf16) (x1 : Vec Ideal S4x704x1024 .bf16) (x2 : Vec Ideal S256x1024 .f32) (x3 : Vec Ideal S1x1024 .f32)
    (hf : ∀ p d, f (ValueIdx.ix2 p d) = fRow x0 x1 p d) (p : Fin 256) (d : Fin 1024) :
    k0_pay1 (F := Ideal) f x2 x3 (ValueIdx.ix2 p d) = hRow x0 x1 x2 x3 p d := by
  unfold k0_pay1 hRow
  refine congrArg (fun w : EReal => (x2 (ValueIdx.ix2 p d) : EReal) + ch * w) ?_
  refine mul2 ?_ (ValueIdx.broadcastTo_1b_ab_apply _ _ _ _)
  refine (unitTile f _ _ _ _ _ _ _ _ p d).trans ?_
  exact congrArg (fun v => unitRow cn ce v d) (funext fun k => hf p k)

theorem nTile (f : FVec Ideal S256x1024 .f32) (x0 : Vec Ideal S4x256x704 .bf16) (x1 : Vec Ideal S4x704x1024 .bf16) (x2 : Vec Ideal S256x1024 .f32) (x3 x4 : Vec Ideal S1x1024 .f32)
    (hf : ∀ p d, f (ValueIdx.ix2 p d) = fRow x0 x1 p d) (p : Fin 256) (d : Fin 1024) :
    k0_pay2 (F := Ideal) f x2 x3 x4 (ValueIdx.ix2 p d) = nRow x0 x1 x2 x3 x4 p d := by
  unfold k0_pay2 nRow
  refine mul2 ?_ (ValueIdx.broadcastTo_1b_ab_apply _ _ _ _)
  refine (unitTile (k0_pay1 (F := Ideal) f x2 x3) _ _ _ _ _ _ _ _ p d).trans ?_
  exact congrArg (fun v => unitRow cn ce v d) (funext fun k => hTile f x0 x1 x2 x3 hf p k)

theorem written5 (x0 : Vec Ideal S4x256x704 .bf16) (x1 : Vec Ideal S4x704x1024 .bf16) (x2 : Vec Ideal S256x1024 .f32) (x3 x4 : Vec Ideal S1x1024 .f32) (p : Fin 256) (d : Fin 1024) :
    out0_5 (F := Ideal) x0 x1 x2 x3 x4 (ValueIdx.ix2 p d) = fRow x0 x1 p d := by
  unfold out0_5
  refine (congrFun (View.canon_unit_zero zero2 _ _) _).trans ?_
  exact acc x0 x1 x2 x3 x4 p d

theorem written6 (x0 : Vec Ideal S4x256x704 .bf16) (x1 : Vec Ideal S4x704x1024 .bf16) (x2 : Vec Ideal S256x1024 .f32) (x3 x4 : Vec Ideal S1x1024 .f32) (p : Fin 256) (d : Fin 1024) :
    out0_6 (F := Ideal) x0 x1 x2 x3 x4 (ValueIdx.ix2 p d) = hRow x0 x1 x2 x3 p d := by
  unfold out0_6
  refine (congrFun (View.canon_unit_zero zero2 _ _) _).trans ?_
  rw [View.ld_unit_zero zero2 _ x2, View.ld_unit_zero zero2 _ x3]
  exact hTile _ x0 x1 x2 x3 (acc x0 x1 x2 x3 x4) p d

theorem written7 (x0 : Vec Ideal S4x256x704 .bf16) (x1 : Vec Ideal S4x704x1024 .bf16) (x2 : Vec Ideal S256x1024 .f32) (x3 x4 : Vec Ideal S1x1024 .f32) (p : Fin 256) (d : Fin 1024) :
    out0_7 (F := Ideal) x0 x1 x2 x3 x4 (ValueIdx.ix2 p d) = nRow x0 x1 x2 x3 x4 p d := by
  unfold out0_7
  refine (congrFun (View.canon_unit_zero zero2 _ _) _).trans ?_
  rw [View.ld_unit_zero zero2 _ x2, View.ld_unit_zero zero2 _ x3,
    View.ld_unit_zero zero2 _ x4]
  exact nTile _ x0 x1 x2 x3 x4 (acc x0 x1 x2 x3 x4) p d

/-! ## The blocks -/

variable (m : (ℓ : Loc nD τ sig) → Buf (Elt Ideal) ℓ) (c : Dev nD)

theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

theorem block0 (t : Fin cfg0.N) (k : Fin 4) (r : Fin 4096) (p : Fin 256) (h : t.val * 256 + p.val = r.val) (s : Fin 704) :
    (iblk m c 0 t : Vec Ideal S4x256x704 .bf16) (ValueIdx.ix3 k p s) = m ((c : Thread nD τ).loc main_arg0) (ValueIdx.ix3 k r s) := by
  unfold iblk
  rw [View.read_apply]
  show V m c main_arg0 _ = _
  rw [V_main_arg0]
  refine congrArg _ ?_
  funext a
  apply Fin.ext
  match a with
  | ⟨0, _⟩ => show win0_0.index t 0 * 4 + 1 * k.val = k.val; rw [(index0 t).1]; exact Cert.Prods.whole _ _
  | ⟨1, _⟩ => show win0_0.index t 1 * 256 + 1 * p.val = r.val; rw [(index0 t).2.1]; exact Cert.Prods.step h
  | ⟨2, _⟩ => show win0_0.index t 2 * 704 + 1 * s.val = s.val; rw [(index0 t).2.2]; exact Cert.Prods.whole _ _

theorem block1 (t : Fin cfg0.N) (k : Fin 4) (s : Fin 704) (d : Fin 1024) :
    (iblk m c 1 t : Vec Ideal S4x704x1024 .bf16) (ValueIdx.ix3 k s d) = m ((c : Thread nD τ).loc main_arg1) (ValueIdx.ix3 k s d) := by
  unfold iblk
  rw [View.read_apply]
  show V m c main_arg1 _ = _
  rw [V_main_arg1]
  refine congrArg _ ?_
  funext a
  apply Fin.ext
  match a with
  | ⟨0, _⟩ => show win0_1.index t 0 * 4 + 1 * k.val = k.val; rw [(index1 t).1]; exact Cert.Prods.whole _ _
  | ⟨1, _⟩ => show win0_1.index t 1 * 704 + 1 * s.val = s.val; rw [(index1 t).2.1]; exact Cert.Prods.whole _ _
  | ⟨2, _⟩ => show win0_1.index t 2 * 1024 + 1 * d.val = d.val; rw [(index1 t).2.2]; exact Cert.Prods.whole _ _

theorem block2 (t : Fin cfg0.N) (r : Fin 4096) (p : Fin 256) (h : t.val * 256 + p.val = r.val) (d : Fin 1024) :
    (iblk m c 2 t : Vec Ideal S256x1024 .f32) (ValueIdx.ix2 p d) = m ((c : Thread nD τ).loc main_arg2) (ValueIdx.ix2 r d) := by
  unfold iblk
  rw [View.read_apply]
  show V m c main_arg2 _ = _
  rw [V_main_arg2]
  refine congrArg _ ?_
  refine idx2 ?_ ?_
  · show win0_2.index t 0 * 256 + 1 * p.val = r.val; rw [(index2 t).1]; exact Cert.Prods.step h
  · show win0_2.index t 1 * 1024 + 1 * d.val = d.val; rw [(index2 t).2]; exact Cert.Prods.whole _ _

theorem block3 (t : Fin cfg0.N) (d : Fin 1024) :
    (iblk m c 3 t : Vec Ideal S1x1024 .f32) (ValueIdx.ix2 0 d) = m ((c : Thread nD τ).loc main_arg3) (ValueIdx.ix2 0 d) := by
  unfold iblk
  rw [View.read_apply]
  show V m c main_arg3 _ = _
  rw [V_main_arg3]
  refine congrArg _ ?_
  refine idx2 ?_ ?_
  · show win0_3.index t 0 * 1 + 1 * 0 = 0; rw [(index3 t).1]
  · show win0_3.index t 1 * 1024 + 1 * d.val = d.val; rw [(index3 t).2]; exact Cert.Prods.whole _ _

theorem block4 (t : Fin cfg0.N) (d : Fin 1024) :
    (iblk m c 4 t : Vec Ideal S1x1024 .f32) (ValueIdx.ix2 0 d) = m ((c : Thread nD τ).loc main_arg4) (ValueIdx.ix2 0 d) := by
  unfold iblk
  rw [View.read_apply]
  show V m c main_arg4 _ = _
  rw [V_main_arg4]
  refine congrArg _ ?_
  refine idx2 ?_ ?_
  · show win0_4.index t 0 * 1 + 1 * 0 = 0; rw [(index4 t).1]
  · show win0_4.index t 1 * 1024 + 1 * d.val = d.val; rw [(index4 t).2]; exact Cert.Prods.whole _ _

theorem fBlock (t : Fin cfg0.N) (r : Fin 4096) (p : Fin 256) (h : t.val * 256 + p.val = r.val) :
    fRow (iblk m c 0 t : Vec Ideal S4x256x704 .bf16) (iblk m c 1 t) p = fRow (n := 4096) (m ((c : Thread nD τ).loc main_arg0)) (m ((c : Thread nD τ).loc main_arg1)) r :=
  funext fun d => Finset.sum_congr rfl fun k _ => Finset.sum_congr rfl fun s _ => mul2 (block0 m c t k r p h s) (block1 m c t k s d)

theorem hBlock (t : Fin cfg0.N) (r : Fin 4096) (p : Fin 256) (h : t.val * 256 + p.val = r.val) :
    hRow (iblk m c 0 t : Vec Ideal S4x256x704 .bf16) (iblk m c 1 t) (iblk m c 2 t : Vec Ideal S256x1024 .f32) (iblk m c 3 t) p
      = hRow (n := 4096) (m ((c : Thread nD τ).loc main_arg0)) (m ((c : Thread nD τ).loc main_arg1)) (m ((c : Thread nD τ).loc main_arg2)) (m ((c : Thread nD τ).loc main_arg3)) r := by
  funext d
  unfold hRow
  rw [fBlock m c t r p h]
  exact congrArg₂ (fun a b : EReal => a + ch * (unitRow cn ce _ d * b)) (block2 m c t r p h d) (block3 m c t d)

theorem nBlock (t : Fin cfg0.N) (r : Fin 4096) (p : Fin 256) (h : t.val * 256 + p.val = r.val) (d : Fin 1024) :
    nRow (iblk m c 0 t : Vec Ideal S4x256x704 .bf16) (iblk m c 1 t) (iblk m c 2 t : Vec Ideal S256x1024 .f32) (iblk m c 3 t) (iblk m c 4 t) p d
      = nRow (n := 4096) (m ((c : Thread nD τ).loc main_arg0)) (m ((c : Thread nD τ).loc main_arg1)) (m ((c : Thread nD τ).loc main_arg2)) (m ((c : Thread nD τ).loc main_arg3))
        (m ((c : Thread nD τ).loc main_arg4)) r d := by
  unfold nRow
  rw [hBlock m c t r p h]
  exact congrArg (fun b : EReal => unitRow cn ce _ d * b) (block4 m c t d)

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

/-- The results the call leaves. -/
theorem final5 (r : Fin 4096) (d : Fin 1024) :
    (dats m 0 c).arrAt 5 cfg0.N (ValueIdx.ix2 r d) = fRow (n := 4096) (m ((c : Thread nD τ).loc main_arg0)) (m ((c : Thread nD τ).loc main_arg1)) r d := by
  obtain ⟨t, ht0⟩ := pointOf r
  have hp : r.val % 256 < 256 := Nat.mod_lt _ (by decide)
  have h := congrFun (blocks5 m c t (flush0_5 _)) (ValueIdx.ix2 (⟨r.val % 256, hp⟩ : Fin 256) d)
  rw [flushed5] at h
  rw [View.read_apply] at h
  refine Eq.trans (congrArg _ ?_) (h.trans ?_)
  · refine idx2 ?_ ?_
    · show r.val = win0_5.index t 0 * 256 + 1 * (r.val % 256); rw [(index5 t).1]; exact rowAt ht0
    · show d.val = win0_5.index t 1 * 1024 + 1 * d.val; rw [(index5 t).2]; exact wholeAt _ _
  · exact (written5 _ _ _ _ _ _ _).trans (congrFun (fBlock m c t r ⟨r.val % 256, hp⟩ (rowFrom ht0)) d)

theorem final6 (r : Fin 4096) (d : Fin 1024) :
    (dats m 0 c).arrAt 6 cfg0.N (ValueIdx.ix2 r d) = hRow (n := 4096) (m ((c : Thread nD τ).loc main_arg0)) (m ((c : Thread nD τ).loc main_arg1))
      (m ((c : Thread nD τ).loc main_arg2)) (m ((c : Thread nD τ).loc main_arg3)) r d := by
  obtain ⟨t, ht0⟩ := pointOf r
  have hp : r.val % 256 < 256 := Nat.mod_lt _ (by decide)
  have h := congrFun (blocks6 m c t (flush0_6 _)) (ValueIdx.ix2 (⟨r.val % 256, hp⟩ : Fin 256) d)
  rw [flushed6] at h
  rw [View.read_apply] at h
  refine Eq.trans (congrArg _ ?_) (h.trans ?_)
  · refine idx2 ?_ ?_
    · show r.val = win0_6.index t 0 * 256 + 1 * (r.val % 256); rw [(index6 t).1]; exact rowAt ht0
    · show d.val = win0_6.index t 1 * 1024 + 1 * d.val; rw [(index6 t).2]; exact wholeAt _ _
  · exact (written6 _ _ _ _ _ _ _).trans (congrFun (hBlock m c t r ⟨r.val % 256, hp⟩ (rowFrom ht0)) d)

theorem final7 (r : Fin 4096) (d : Fin 1024) :
    (dats m 0 c).arrAt 7 cfg0.N (ValueIdx.ix2 r d) = nRow (n := 4096) (m ((c : Thread nD τ).loc main_arg0)) (m ((c : Thread nD τ).loc main_arg1))
      (m ((c : Thread nD τ).loc main_arg2)) (m ((c : Thread nD τ).loc main_arg3)) (m ((c : Thread nD τ).loc main_arg4)) r d := by
  obtain ⟨t, ht0⟩ := pointOf r
  have hp : r.val % 256 < 256 := Nat.mod_lt _ (by decide)
  have h := congrFun (blocks7 m c t (flush0_7 _)) (ValueIdx.ix2 (⟨r.val % 256, hp⟩ : Fin 256) d)
  rw [flushed7] at h
  rw [View.read_apply] at h
  refine Eq.trans (congrArg _ ?_) (h.trans ?_)
  · refine idx2 ?_ ?_
    · show r.val = win0_7.index t 0 * 256 + 1 * (r.val % 256); rw [(index7 t).1]; exact rowAt ht0
    · show d.val = win0_7.index t 1 * 1024 + 1 * d.val; rw [(index7 t).2]; exact wholeAt _ _
  · exact (written7 _ _ _ _ _ _ _).trans (nBlock m c t r ⟨r.val % 256, hp⟩ (rowFrom ht0) d)

/-! ## The reference -/

section reference
open Cert.MmNormRefIdeal.Read

variable (x0 : Vec Ideal S4x4096x704 .bf16) (x1 : Vec Ideal S4x704x1024 .bf16) (x2 : Vec Ideal S4096x1024 .f32) (x3 x4 : Vec Ideal S1x1024 .f32)

theorem ref5 (i : S4096x1024.Idx) : val_main_v5 (F := Ideal) x0 x1 i = fRow x0 x1 (i 0) (i 1) := by
  refine (val_main_v5_apply _ _ _).trans ?_
  refine (sum_parts (n := 4) (m := 704) rfl _).trans ?_
  refine Finset.sum_congr rfl fun k _ => Finset.sum_congr rfl fun s _ => ?_
  rw [val_main_v2_apply, val_main_v1_apply, val_main_v0_apply, val_main_v4_apply, val_main_v3_apply]
  have hk := k.isLt
  have hs := s.isLt
  have hr : (i 0).val < 4096 := (i 0).isLt
  have hd : (i 1).val < 1024 := (i 1).isLt
  refine mul2 (congrArg x0 ?_) (congrArg x1 ?_)
  · funext a
    apply Fin.ext
    match a with
    | ⟨0, _⟩ => show ((i 0).val * 2816 + (k.val * 704 + s.val)) / 704 % 4 = k.val; omega
    | ⟨1, _⟩ => show ((i 0).val * 2816 + (k.val * 704 + s.val)) / 2816 = (i 0).val; omega
    | ⟨2, _⟩ => show ((i 0).val * 2816 + (k.val * 704 + s.val)) % 704 = s.val; omega
  · funext a
    apply Fin.ext
    match a with
    | ⟨0, _⟩ => show ((k.val * 704 + s.val) * 1024 + (i 1).val) / 720896 = k.val; omega
    | ⟨1, _⟩ => show ((k.val * 704 + s.val) * 1024 + (i 1).val) / 1024 % 704 = s.val; omega
    | ⟨2, _⟩ => show ((k.val * 704 + s.val) * 1024 + (i 1).val) % 1024 = (i 1).val; omega

theorem zeroBits : Ideal.ofBits .f32 0x00000000#32 = 0 := Cert.Sgu.ofBits_zero.trans EReal.coe_zero

theorem ref7 (i : (⟨1, ![4096]⟩ : Shape).Idx) : val_main_v7 (F := Ideal) x0 x1 i = squares (fRow x0 x1 (i 0)) := by
  refine (val_main_v7_apply _ _ _).trans (zero_plus _ zeroBits _ _ fun k => ?_)
  refine (val_main_v6_apply _ _ _).trans ?_
  exact mul2 (ref5 x0 x1 _) (ref5 x0 x1 _)

theorem ref15 (i : S4096x1024.Idx) : val_main_v15 (F := Ideal) x0 x1 i = unitRow cn ce (fRow x0 x1 (i 0)) (i 1) := by
  rw [val_main_v15_apply, val_main_v14_apply, val_main_v13_apply, val_main_v12_apply, val_main_v11_apply, val_main_v10_apply, val_main_v9_apply, val_main_v8_apply]
  refine congrArg₂ (fun p q : EReal => p * Ideal.rsqrt (Ideal.div q cn + ce)) (ref5 x0 x1 _) (ref7 x0 x1 _)

theorem ref20 (i : S4096x1024.Idx) : val_main_v20 (F := Ideal) x0 x1 x2 x3 i = hRow x0 x1 x2 x3 (i 0) (i 1) := by
  rw [val_main_v20_apply, val_main_v19_apply, val_main_v18_apply, val_main_v17_apply, val_main_v16_apply]
  unfold hRow
  refine add2 (congrArg x2 (ValueIdx.eq_ix2 i)) (congrArg (fun w : EReal => ch * w) ?_)
  refine mul2 (ref15 x0 x1 i) (congrArg x3 ?_)
  exact idx2 rfl rfl

theorem ref23 (i : (⟨1, ![4096]⟩ : Shape).Idx) : val_main_v23 (F := Ideal) x0 x1 x2 x3 i = squares (hRow x0 x1 x2 x3 (i 0)) := by
  refine (val_main_v23_apply _ _ _ _ _).trans (zero_plus _ zeroBits _ _ fun k => ?_)
  refine (val_main_v22_apply _ _ _ _ _).trans ?_
  exact mul2 (ref20 x0 x1 x2 x3 _) (ref20 x0 x1 x2 x3 _)

theorem ref34 (i : S4096x1024.Idx) : val_main_v34 (F := Ideal) x0 x1 x2 x3 x4 i = nRow x0 x1 x2 x3 x4 (i 0) (i 1) := by
  rw [val_main_v34_apply, val_main_v33_apply, val_main_v32_apply, val_main_v31_apply, val_main_v30_apply, val_main_v29_apply, val_main_v28_apply, val_main_v27_apply,
    val_main_v26_apply, val_main_v25_apply, val_main_v24_apply]
  unfold nRow
  refine mul2 ?_ (congrArg x4 ?_)
  · exact congrArg₂ (fun p q : EReal => p * Ideal.rsqrt (Ideal.div q cn + ce)) (ref20 x0 x1 x2 x3 _) (ref23 x0 x1 x2 x3 _)
  · refine idx2 ?_ ?_
    · rfl
    · rfl

end reference

theorem algebraic : @Cert.algebraic_MmNormIdeal_MmNormRefIdeal Cert.MmNormIdeal.Gen.facts Cert.MmNormRefIdeal.Gen.facts := by
  intro m g m' g' _ ha
  refine ⟨fun c => (dats m 0 c).arrAt 5 cfg0.N, fun c => (dats m 0 c).arrAt 6 cfg0.N, fun c => (dats m 0 c).arrAt 7 cfg0.N, run_blocks m g, ?_⟩
  refine (θ_run Cert.MmNormRefIdeal.defs _ _).mono (fun r h c => ?_) (Cert.MmNormRefIdeal.Value.run (F := Ideal) m' g')
  obtain ⟨h5, h6, h7, hk⟩ := h c
  obtain ⟨a0, a1, a2, a3, a4⟩ := ha c
  refine ⟨h5.trans ((Cert.MmNormRefIdeal.Read.val_main_v21_eq _ _).trans ?_), h6.trans ((Cert.MmNormRefIdeal.Read.val_main_v20_eq _ _ _ _).trans ?_),
    h7.trans ((Cert.MmNormRefIdeal.Read.val_main_v34_eq _ _).trans ?_), hk⟩
  · rw [a0, a1]
    refine funext fun i => ?_
    obtain ⟨r, d, rfl⟩ : ∃ (r : Fin 4096) (d : Fin 1024), i = ValueIdx.ix2 r d := ⟨i 0, i 1, ValueIdx.eq_ix2 i⟩
    exact (ref5 _ _ _).trans (final5 m c r d).symm
  · rw [a0, a1, a2, a3]
    refine funext fun i => ?_
    obtain ⟨r, d, rfl⟩ : ∃ (r : Fin 4096) (d : Fin 1024), i = ValueIdx.ix2 r d := ⟨i 0, i 1, ValueIdx.eq_ix2 i⟩
    exact (ref20 _ _ _ _ _).trans (final6 m c r d).symm
  · rw [a0, a1, a2, a3, a4]
    refine funext fun i => ?_
    obtain ⟨r, d, rfl⟩ : ∃ (r : Fin 4096) (d : Fin 1024), i = ValueIdx.ix2 r d := ⟨i 0, i 1, ValueIdx.eq_ix2 i⟩
    exact (ref34 _ _ _ _ _ _).trans (final7 m c r d).symm

/-- The reference keeps its arguments. -/
theorem refFrame : @Cert.quiescent_MmNormRefIdeal Cert.MmNormRefIdeal.Gen.facts := fun m g _ =>
  (θ_run Cert.MmNormRefIdeal.defs _ _).mono (fun r h => ⟨fun c => (h c).2.2.2, sem_eq_zero_of_no_sems (by decide) r.2⟩) (Cert.MmNormRefIdeal.Value.run (F := Ideal) m g)

end Cert.MmNormTie

end
-- ==== Proof.DwSq.lean ====
/- The square weight gradient: the transpose of the first argument times the second, with a leading axis of one. -/
module

public import proofs.«01_k».proof.Proof.Prods
public import proofs.«01_k».proof.Defs
public import proofs.«01_k».proof.Proof.Gen.DwSqIdeal.Value
public import proofs.«01_k».proof.Proof.Gen.DwSqRefIdeal.Run
public import proofs.«01_k».proof.Proof.Gen.DwSqRefIdeal.Read
public import Idealize.ShloMosaic.Lib.Tactic.ValueTie

@[expose] public section

noncomputable section

namespace Cert.DwSqTie

open Idealize.ShloMosaic Idealize.ShloMosaic.TcCoe Idealize.SL.Sem
open Cert.DwSqIdeal Cert.DwSqIdeal.Gen Cert.DwSqIdeal.Value
open scoped BigOperators

/-- Entry (j, d) of the gradient. -/
def grad (x0 x1 : Vec Ideal S4096x1024 .bf16) (j d : Fin 1024) : EReal :=
  ∑ s : Fin 4096, (x0 (ValueIdx.ix2 s j) : EReal) * (x1 (ValueIdx.ix2 s d) : EReal)

/-- What the kernel writes at its one grid point. -/
theorem written (x0 x1 : Vec Ideal S4096x1024 .bf16) (u : Fin 1) (j d : Fin 1024) :
    (k0_pay1 (F := Ideal) x0 x1) (ValueIdx.ix3 u j d) = grad x0 x1 j d := by
  unfold k0_pay1
  refine (ValueIdx.shapeCast_ab_1ab_apply _ _ _ _ _).trans ?_
  exact Cert.Prods.tn (φ := .bf16) (ψ := .bf16) x0 x1 _ none j d

theorem left (c : Dev nD) (i : grid0.Coords) (arg2 : Memref sig .tc .vmem S4096x1024 .bf16) (harg2 : arg2.IsWhole) (arg3 : Memref sig .tc .vmem S4096x1024 .bf16) (harg3 : arg3.IsWhole)
    (arg4 : Memref sig .tc .vmem S1x1024x1024 .bf16) (harg4 : arg4.IsWhole) (arg5 : Memref sig .tc .vmem S8x128 .f32) (harg5 : arg5.IsWhole)
    (x0 x1 : Vec Ideal S4096x1024 .bf16) :
    out0_A_2 (F := Ideal) c i arg2 harg2 arg3 harg3 arg4 harg4 arg5 harg5 x0 x1 = k0_pay1 (F := Ideal) x0 x1 := by
  unfold out0_A_2
  rw [View.read_writes_eq_canon _ _ _ (cover0_A_2 c i arg2 harg2 arg3 harg3 arg4 harg4 arg5 harg5 x0 x1)]
  unfold kernelRun0_A
  dsimp only
  sl_unfold_words
  simp only [View.readAt_eq_ld, harg2.read_unread, harg3.read_unread]
  refine (View.canon_unit_zero (by funext a; fin_cases a <;> rfl) _ _).trans ?_
  rw [View.ld_unit_zero (by funext a; fin_cases a <;> rfl) _ x0, View.ld_unit_zero (by funext a; fin_cases a <;> rfl) _ x1]

variable (m : (ℓ : Loc nD τ sig) → Buf (Elt Ideal) ℓ) (c : Dev nD)

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel

theorem block0 (t : Fin cfg0.N) (s : Fin 4096) (j : Fin 1024) :
    (iblk m c 0 t : Vec Ideal S4096x1024 .bf16) (ValueIdx.ix2 s j) = m ((c : Thread nD τ).loc main_arg0) (ValueIdx.ix2 s j) := by
  unfold iblk
  rw [View.read_apply]
  show V m c main_arg0 _ = _
  rw [V_main_arg0]
  refine congrArg _ ?_
  funext a
  apply Fin.ext
  match a with
  | ⟨0, _⟩ => show win0_0.index t 0 * 4096 + 1 * s.val = s.val; rw [(index0 t).1]; exact Cert.Prods.whole _ _
  | ⟨1, _⟩ => show win0_0.index t 1 * 1024 + 1 * j.val = j.val; rw [(index0 t).2]; exact Cert.Prods.whole _ _

theorem block1 (t : Fin cfg0.N) (s : Fin 4096) (d : Fin 1024) :
    (iblk m c 1 t : Vec Ideal S4096x1024 .bf16) (ValueIdx.ix2 s d) = m ((c : Thread nD τ).loc main_arg1) (ValueIdx.ix2 s d) := by
  unfold iblk
  rw [View.read_apply]
  show V m c main_arg1 _ = _
  rw [V_main_arg1]
  refine congrArg _ ?_
  funext a
  apply Fin.ext
  match a with
  | ⟨0, _⟩ => show win0_1.index t 0 * 4096 + 1 * s.val = s.val; rw [(index1 t).1]; exact Cert.Prods.whole _ _
  | ⟨1, _⟩ => show win0_1.index t 1 * 1024 + 1 * d.val = d.val; rw [(index1 t).2]; exact Cert.Prods.whole _ _

theorem wholeAt (n x : ℕ) : x = 0 * n + 1 * x := by omega

/-- The result the call leaves. -/
theorem final (u : Fin 1) (j d : Fin 1024) :
    (dats m 0 c).arrAt 2 cfg0.N (ValueIdx.ix3 u j d)
      = grad (m ((c : Thread nD τ).loc main_arg0)) (m ((c : Thread nD τ).loc main_arg1)) j d := by
  have h := congrFun (blocks2 m c t0_0 (flush0_2 _)) (ValueIdx.ix3 u j d)
  rw [flushed2_A, left] at h
  rw [View.read_apply] at h
  refine Eq.trans (congrArg _ ?_) (h.trans ?_)
  · funext a
    apply Fin.ext
    match a with
    | ⟨0, _⟩ => show u.val = win0_2.index t0_0 0 * 1 + 1 * u.val; rw [(index2 t0_0).1]; exact wholeAt _ _
    | ⟨1, _⟩ => show j.val = win0_2.index t0_0 1 * 1024 + 1 * j.val; rw [(index2 t0_0).2.1]; exact wholeAt _ _
    | ⟨2, _⟩ => show d.val = win0_2.index t0_0 2 * 1024 + 1 * d.val; rw [(index2 t0_0).2.2]; exact wholeAt _ _
  · refine (written _ _ u j d).trans ?_
    exact Finset.sum_congr rfl fun s _ => congrArg₂ (fun p q : EReal => p * q) (block0 m c t0_0 s j) (block1 m c t0_0 s d)

open Cert.DwSqRefIdeal.Read in
/-- The reference's result. -/
theorem ref (x0 x1 : Vec Ideal S4096x1024 .bf16) (u : Fin 1) (j d : Fin 1024) :
    val_main_v7 (F := Ideal) x0 x1 (ValueIdx.ix3 u j d) = grad x0 x1 j d := by
  rw [val_main_v7_apply, val_main_v6_apply, val_main_v5_apply]
  refine (val_main_v4_apply _ _ _).trans ?_
  refine Finset.sum_congr rfl fun s _ => ?_
  rw [val_main_v3_apply, val_main_v0_apply]
  refine (mul_comm _ _).trans ?_
  refine congrArg₂ (fun p q : EReal => p * q) (congrArg x0 ?_) (congrArg x1 ?_)
  · funext a
    apply Fin.ext
    match a with
    | ⟨0, _⟩ => rfl
    | ⟨1, _⟩ => rfl
  · funext a
    apply Fin.ext
    match a with
    | ⟨0, _⟩ => rfl
    | ⟨1, _⟩ => rfl

theorem algebraic : @Cert.algebraic_DwSqIdeal_DwSqRefIdeal Cert.DwSqIdeal.Gen.facts Cert.DwSqRefIdeal.Gen.facts := by
  intro m g m' g' _ ha
  refine ⟨fun c => (dats m 0 c).arrAt 2 cfg0.N, run_blocks m g, ?_⟩
  refine (θ_run Cert.DwSqRefIdeal.defs _ _).mono (fun r h c => ?_) (Cert.DwSqRefIdeal.Value.run (F := Ideal) m' g')
  obtain ⟨hv, hk⟩ := h c
  obtain ⟨a0, a1⟩ := ha c
  refine ⟨hv.trans ((Cert.DwSqRefIdeal.Read.val_main_v7_eq _ _).trans ?_), hk⟩
  rw [a0, a1]
  refine funext fun i => ?_
  obtain ⟨u, j, d, rfl⟩ : ∃ (u : Fin 1) (j d : Fin 1024), i = ValueIdx.ix3 u j d := ⟨i 0, i 1, i 2, ValueIdx.eq_ix3 i⟩
  exact (ref _ _ u j d).trans (final m c u j d).symm

/-- The reference keeps its arguments. -/
theorem refFrame : @Cert.quiescent_DwSqRefIdeal Cert.DwSqRefIdeal.Gen.facts := fun m g _ =>
  (θ_run Cert.DwSqRefIdeal.defs _ _).mono (fun r h => ⟨fun c => (h c).2, sem_eq_zero_of_no_sems (by decide) r.2⟩) (Cert.DwSqRefIdeal.Value.run (F := Ideal) m g)

end Cert.DwSqTie

end
-- ==== Proof.DxMixer.lean ====
/- The gradient of the mixer's input: the five gradient sections laid side by side against the weight's rows, the normalisation's gradient
   added to the gradient passing by, and the gradient of the normalisation's factors. -/
module

public import proofs.«01_k».proof.Proof.RmsBack
public import proofs.«01_k».proof.Defs
public import proofs.«01_k».proof.Proof.Gen.DxMixerIdeal.Value
public import proofs.«01_k».proof.Proof.Gen.DxMixerRefIdeal.Run
public import proofs.«01_k».proof.Proof.Gen.DxMixerRefIdeal.Read
public import Idealize.ShloMosaic.Lib.Tactic.ValueTie

@[expose] public section

noncomputable section

namespace Cert.DxMixerTie

open Idealize.ShloMosaic Idealize.ShloMosaic.TcCoe Idealize.SL.Sem
open Cert.DxMixerIdeal Cert.DxMixerIdeal.Gen Cert.DxMixerIdeal.Value
open Cert.Rows Cert.RmsBack
open scoped BigOperators

/-- Row r, column C of the sections side by side: section C / 1024 is kept in slot (C / 1024 + 2) % 5. -/
def side {n : ℕ} (x0 : Vec Ideal ⟨3, ![5, n, 1024]⟩ .bf16) (r : Fin n) (C : ℕ) : EReal :=
  (x0 (ValueIdx.ix3 (⟨(C / 1024 + 2) % 5, Nat.mod_lt _ (by decide)⟩ : Fin 5) r (⟨C % 1024, Nat.mod_lt _ (by decide)⟩ : Fin 1024)) : EReal)

/-- Row d, column C of the weight, whose columns lie in four shards. -/
def shards (x1 : Vec Ideal S4x1024x1280 .bf16) (d : Fin 1024) (C : ℕ) : EReal :=
  (x1 (ValueIdx.ix3 (⟨C / 1280 % 4, Nat.mod_lt _ (by decide)⟩ : Fin 4) d (⟨C % 1280, Nat.mod_lt _ (by decide)⟩ : Fin 1280)) : EReal)

/-- One summand of the product. -/
def term {n : ℕ} (x0 : Vec Ideal ⟨3, ![5, n, 1024]⟩ .bf16) (x1 : Vec Ideal S4x1024x1280 .bf16) (r : Fin n) (d : Fin 1024) (C : ℕ) : EReal :=
  side x0 r C * shards x1 d C

/-- Row r of the gradient of the normalised row. -/
def dyRow {n : ℕ} (x0 : Vec Ideal ⟨3, ![5, n, 1024]⟩ .bf16) (x1 : Vec Ideal S4x1024x1280 .bf16) (r : Fin n) (d : Fin 1024) : EReal :=
  ∑ C : Fin 5120, term x0 x1 r d C.val

/-- Row r of a matrix. -/
def row {n : ℕ} (x : Vec Ideal ⟨2, ![n, 1024]⟩ .f32) (r : Fin n) (d : Fin 1024) : EReal := (x (ValueIdx.ix2 r d) : EReal)

/-- A row times the factors. -/
def scaled (v : Fin 1024 → EReal) (x3 : Vec Ideal S1x1024 .f32) (d : Fin 1024) : EReal := v d * (x3 (ValueIdx.ix2 0 d) : EReal)

/-- Row r of the gradient of the mixer's input. -/
def dhRow {n : ℕ} (x0 : Vec Ideal ⟨3, ![5, n, 1024]⟩ .bf16) (x1 : Vec Ideal S4x1024x1280 .bf16) (x2 : Vec Ideal ⟨2, ![n, 1024]⟩ .f32) (x3 : Vec Ideal S1x1024 .f32)
    (x4 : Vec Ideal ⟨2, ![n, 1024]⟩ .f32) (r : Fin n) (d : Fin 1024) : EReal :=
  row x4 r d + back (row x2 r) (scaled (dyRow x0 x1 r) x3) d

/-- What row r adds to the gradient of the factors. -/
def dgPart {n : ℕ} (x0 : Vec Ideal ⟨3, ![5, n, 1024]⟩ .bf16) (x1 : Vec Ideal S4x1024x1280 .bf16) (x2 : Vec Ideal ⟨2, ![n, 1024]⟩ .f32) (r : Fin n) (d : Fin 1024) : EReal :=
  (dyRow x0 x1 r d * row x2 r d) * inv (row x2 r)

/-! ## The kernel's tile -/

/-- A window of one slab of a stack of matrices. -/
theorem window {n a b o q w : ℕ} (x : FVec Ideal ⟨3, ![n, a, b]⟩ .bf16)
    (inb : ∀ d, (![o, 0, q] : Fin 3 → ℕ) d + (![1, a, w] : Fin 3 → ℕ) d ≤ (⟨3, ![n, a, b]⟩ : Shape).size d) (k : Fin n) (hk : k.val = o) (i : Fin a)
    (e : Fin b) (j : Fin w) (he : e.val = q + j.val) :
    (View.ld (Val := Elt Ideal) (e' := .bf16) x (Rect.unit (s := ⟨3, ![n, a, b]⟩) ![o, 0, q] ![1, a, w] inb) : FVec Ideal ⟨3, ![1, a, w]⟩ .bf16) (ValueIdx.ix3 (0 : Fin 1) i j)
      = x (ValueIdx.ix3 k i e) := by
  refine congrArg x (funext fun d => ?_)
  match d with
  | ⟨0, _⟩ => exact Fin.ext ((Rect.idx_unit_val (s := ⟨3, ![n, a, b]⟩) ![o, 0, q] ![1, a, w] inb (ValueIdx.ix3 (0 : Fin 1) i j) (0 : Fin 3)).trans (by
      show o + 0 = k.val; omega))
  | ⟨1, _⟩ => exact Fin.ext ((Rect.idx_unit_val (s := ⟨3, ![n, a, b]⟩) ![o, 0, q] ![1, a, w] inb (ValueIdx.ix3 (0 : Fin 1) i j) (1 : Fin 3)).trans (by
      show 0 + i.val = i.val; omega))
  | ⟨2, _⟩ => exact Fin.ext ((Rect.idx_unit_val (s := ⟨3, ![n, a, b]⟩) ![o, 0, q] ![1, a, w] inb (ValueIdx.ix3 (0 : Fin 1) i j) (2 : Fin 3)).trans (by
      show q + j.val = e.val; omega))

theorem dot256 (x0 : Vec Ideal S5x256x1024 .bf16) (x1 : Vec Ideal S4x1024x1280 .bf16) {lo a ca b cb : ℕ}
    (h : ∀ j < 256, ((lo + j) / 1024 + 2) % 5 = a ∧ (lo + j) % 1024 = ca + j ∧ (lo + j) / 1280 % 4 = b ∧ (lo + j) % 1280 = cb + j)
    (i0 : ∀ d, (![a, 0, ca] : Fin 3 → ℕ) d + (![1, 256, 256] : Fin 3 → ℕ) d ≤ (S5x256x1024).size d)
    (i1 : ∀ d, (![b, 0, cb] : Fin 3 → ℕ) d + (![1, 1024, 256] : Fin 3 → ℕ) d ≤ (S4x1024x1280).size d)
    (h0 : S1x256x256.ShapeCasts S256x256) (h1 : S1x1024x256.ShapeCasts S1024x256) (p : Fin 256) (d : Fin 1024) :
    (matmul (φ₁ := .bf16) (φ₂ := .bf16) dot_S256x256_S1024x256_S256x1024_1_1_0_0_n_n none
        (shapeCast S256x256 (View.ld (Val := Elt Ideal) (e' := .bf16) x0 (Rect.unit (s := S5x256x1024) ![a, 0, ca] ![1, 256, 256] i0) : FVec Ideal S1x256x256 .bf16) h0 : FVec Ideal S256x256 .bf16)
        (shapeCast S1024x256 (View.ld (Val := Elt Ideal) (e' := .bf16) x1 (Rect.unit (s := S4x1024x1280) ![b, 0, cb] ![1, 1024, 256] i1) : FVec Ideal S1x1024x256 .bf16) h1 : FVec Ideal S1024x256 .bf16)
        (constant S256x1024 .f32 0x00000000#32) : FVec Ideal S256x1024 .f32) (ValueIdx.ix2 p d)
      = ∑ j : Fin 256, term x0 x1 p d (lo + j.val) := by
  refine Eq.trans (Cert.Prods.nt (φ := .bf16) (ψ := .bf16) (shapeCast S256x256 _ h0) (shapeCast S1024x256 _ h1) _ none p d) ?_
  refine Finset.sum_congr rfl fun j _ => mul2 ?_ ?_
  · exact (ValueIdx.shapeCast_1ab_ab_apply _ _ _ _).trans (window x0 i0 _ (h j.val j.isLt).1 p _ j (h j.val j.isLt).2.1)
  · exact (ValueIdx.shapeCast_1ab_ab_apply _ _ _ _).trans (window x1 i1 _ (h j.val j.isLt).2.2.1 d _ j (h j.val j.isLt).2.2.2)

theorem dot512 (x0 : Vec Ideal S5x256x1024 .bf16) (x1 : Vec Ideal S4x1024x1280 .bf16) {lo a ca b cb : ℕ}
    (h : ∀ j < 512, ((lo + j) / 1024 + 2) % 5 = a ∧ (lo + j) % 1024 = ca + j ∧ (lo + j) / 1280 % 4 = b ∧ (lo + j) % 1280 = cb + j)
    (i0 : ∀ d, (![a, 0, ca] : Fin 3 → ℕ) d + (![1, 256, 512] : Fin 3 → ℕ) d ≤ (S5x256x1024).size d)
    (i1 : ∀ d, (![b, 0, cb] : Fin 3 → ℕ) d + (![1, 1024, 512] : Fin 3 → ℕ) d ≤ (S4x1024x1280).size d)
    (h0 : S1x256x512.ShapeCasts S256x512) (h1 : S1x1024x512.ShapeCasts S1024x512) (p : Fin 256) (d : Fin 1024) :
    (matmul (φ₁ := .bf16) (φ₂ := .bf16) dot_S256x512_S1024x512_S256x1024_1_1_0_0_n_n none
        (shapeCast S256x512 (View.ld (Val := Elt Ideal) (e' := .bf16) x0 (Rect.unit (s := S5x256x1024) ![a, 0, ca] ![1, 256, 512] i0) : FVec Ideal S1x256x512 .bf16) h0 : FVec Ideal S256x512 .bf16)
        (shapeCast S1024x512 (View.ld (Val := Elt Ideal) (e' := .bf16) x1 (Rect.unit (s := S4x1024x1280) ![b, 0, cb] ![1, 1024, 512] i1) : FVec Ideal S1x1024x512 .bf16) h1 : FVec Ideal S1024x512 .bf16)
        (constant S256x1024 .f32 0x00000000#32) : FVec Ideal S256x1024 .f32) (ValueIdx.ix2 p d)
      = ∑ j : Fin 512, term x0 x1 p d (lo + j.val) := by
  refine Eq.trans (Cert.Prods.nt (φ := .bf16) (ψ := .bf16) (shapeCast S256x512 _ h0) (shapeCast S1024x512 _ h1) _ none p d) ?_
  refine Finset.sum_congr rfl fun j _ => mul2 ?_ ?_
  · exact (ValueIdx.shapeCast_1ab_ab_apply _ _ _ _).trans (window x0 i0 _ (h j.val j.isLt).1 p _ j (h j.val j.isLt).2.1)
  · exact (ValueIdx.shapeCast_1ab_ab_apply _ _ _ _).trans (window x1 i1 _ (h j.val j.isLt).2.2.1 d _ j (h j.val j.isLt).2.2.2)

theorem dot768 (x0 : Vec Ideal S5x256x1024 .bf16) (x1 : Vec Ideal S4x1024x1280 .bf16) {lo a ca b cb : ℕ}
    (h : ∀ j < 768, ((lo + j) / 1024 + 2) % 5 = a ∧ (lo + j) % 1024 = ca + j ∧ (lo + j) / 1280 % 4 = b ∧ (lo + j) % 1280 = cb + j)
    (i0 : ∀ d, (![a, 0, ca] : Fin 3 → ℕ) d + (![1, 256, 768] : Fin 3 → ℕ) d ≤ (S5x256x1024).size d)
    (i1 : ∀ d, (![b, 0, cb] : Fin 3 → ℕ) d + (![1, 1024, 768] : Fin 3 → ℕ) d ≤ (S4x1024x1280).size d)
    (h0 : S1x256x768.ShapeCasts S256x768) (h1 : S1x1024x768.ShapeCasts S1024x768) (p : Fin 256) (d : Fin 1024) :
    (matmul (φ₁ := .bf16) (φ₂ := .bf16) dot_S256x768_S1024x768_S256x1024_1_1_0_0_n_n none
        (shapeCast S256x768 (View.ld (Val := Elt Ideal) (e' := .bf16) x0 (Rect.unit (s := S5x256x1024) ![a, 0, ca] ![1, 256, 768] i0) : FVec Ideal S1x256x768 .bf16) h0 : FVec Ideal S256x768 .bf16)
        (shapeCast S1024x768 (View.ld (Val := Elt Ideal) (e' := .bf16) x1 (Rect.unit (s := S4x1024x1280) ![b, 0, cb] ![1, 1024, 768] i1) : FVec Ideal S1x1024x768 .bf16) h1 : FVec Ideal S1024x768 .bf16)
        (constant S256x1024 .f32 0x00000000#32) : FVec Ideal S256x1024 .f32) (ValueIdx.ix2 p d)
      = ∑ j : Fin 768, term x0 x1 p d (lo + j.val) := by
  refine Eq.trans (Cert.Prods.nt (φ := .bf16) (ψ := .bf16) (shapeCast S256x768 _ h0) (shapeCast S1024x768 _ h1) _ none p d) ?_
  refine Finset.sum_congr rfl fun j _ => mul2 ?_ ?_
  · exact (ValueIdx.shapeCast_1ab_ab_apply _ _ _ _).trans (window x0 i0 _ (h j.val j.isLt).1 p _ j (h j.val j.isLt).2.1)
  · exact (ValueIdx.shapeCast_1ab_ab_apply _ _ _ _).trans (window x1 i1 _ (h j.val j.isLt).2.2.1 d _ j (h j.val j.isLt).2.2.2)

theorem dot1024 (x0 : Vec Ideal S5x256x1024 .bf16) (x1 : Vec Ideal S4x1024x1280 .bf16) {lo a ca b cb : ℕ}
    (h : ∀ j < 1024, ((lo + j) / 1024 + 2) % 5 = a ∧ (lo + j) % 1024 = ca + j ∧ (lo + j) / 1280 % 4 = b ∧ (lo + j) % 1280 = cb + j)
    (i0 : ∀ d, (![a, 0, ca] : Fin 3 → ℕ) d + (![1, 256, 1024] : Fin 3 → ℕ) d ≤ (S5x256x1024).size d)
    (i1 : ∀ d, (![b, 0, cb] : Fin 3 → ℕ) d + (![1, 1024, 1024] : Fin 3 → ℕ) d ≤ (S4x1024x1280).size d)
    (h0 : S1x256x1024.ShapeCasts S256x1024) (h1 : S1x1024x1024.ShapeCasts S1024x1024) (p : Fin 256) (d : Fin 1024) :
    (matmul (φ₁ := .bf16) (φ₂ := .bf16) dot_S256x1024_S1024x1024_S256x1024_1_1_0_0_n_n none
        (shapeCast S256x1024 (View.ld (Val := Elt Ideal) (e' := .bf16) x0 (Rect.unit (s := S5x256x1024) ![a, 0, ca] ![1, 256, 1024] i0) : FVec Ideal S1x256x1024 .bf16) h0 : FVec Ideal S256x1024 .bf16)
        (shapeCast S1024x1024 (View.ld (Val := Elt Ideal) (e' := .bf16) x1 (Rect.unit (s := S4x1024x1280) ![b, 0, cb] ![1, 1024, 1024] i1) : FVec Ideal S1x1024x1024 .bf16) h1 : FVec Ideal S1024x1024 .bf16)
        (constant S256x1024 .f32 0x00000000#32) : FVec Ideal S256x1024 .f32) (ValueIdx.ix2 p d)
      = ∑ j : Fin 1024, term x0 x1 p d (lo + j.val) := by
  refine Eq.trans (Cert.Prods.nt (φ := .bf16) (ψ := .bf16) (shapeCast S256x1024 _ h0) (shapeCast S1024x1024 _ h1) _ none p d) ?_
  refine Finset.sum_congr rfl fun j _ => mul2 ?_ ?_
  · exact (ValueIdx.shapeCast_1ab_ab_apply _ _ _ _).trans (window x0 i0 _ (h j.val j.isLt).1 p _ j (h j.val j.isLt).2.1)
  · exact (ValueIdx.shapeCast_1ab_ab_apply _ _ _ _).trans (window x1 i1 _ (h j.val j.isLt).2.2.1 d _ j (h j.val j.isLt).2.2.2)

/-- A sum cut in two. -/
theorem cut (f : ℕ → EReal) (n k : ℕ) : ∑ x : Fin (n + k), f x.val = ∑ x : Fin n, f x.val + ∑ x : Fin k, f (n + x.val) :=
  Fin.sum_univ_add (fun x : Fin (n + k) => f x.val)

/-- The sum over all the columns by the eight pieces in which no section and no shard ends. -/
theorem pieces (f : ℕ → EReal) : ∑ C : Fin 5120, f C.val = ((((((((∑ j : Fin 1024, f (0 + j.val)) + ∑ j : Fin 256, f (1024 + j.val)) + ∑ j : Fin 768, f (1280 + j.val)) + ∑ j : Fin 512, f (2048 + j.val)) + ∑ j : Fin 512, f (2560 + j.val)) + ∑ j : Fin 768, f (3072 + j.val)) + ∑ j : Fin 256, f (3840 + j.val)) + ∑ j : Fin 1024, f (4096 + j.val)) := by
  refine (cut f 4096 1024).trans (congrArg (fun w : EReal => w + _) ?_)
  refine (cut f 3840 256).trans (congrArg (fun w : EReal => w + _) ?_)
  refine (cut f 3072 768).trans (congrArg (fun w : EReal => w + _) ?_)
  refine (cut f 2560 512).trans (congrArg (fun w : EReal => w + _) ?_)
  refine (cut f 2048 512).trans (congrArg (fun w : EReal => w + _) ?_)
  refine (cut f 1280 768).trans (congrArg (fun w : EReal => w + _) ?_)
  refine (cut f 1024 256).trans (congrArg (fun w : EReal => w + _) ?_)
  exact Finset.sum_congr rfl fun j _ => congrArg f (Nat.zero_add _).symm

/-- The tile of the normalised row's gradient. -/
def dyT (x0 : Vec Ideal S5x256x1024 .bf16) (x1 : Vec Ideal S4x1024x1280 .bf16) : FVec Ideal S256x1024 .f32 :=
  k0_pay11 (F := Ideal) (k0_pay5 (F := Ideal) (View.ld (Val := Elt Ideal) (e' := .bf16) x0 (Rect.unit (s := S5x256x1024) ![2, 0, 0] S1x256x1024.size inb_S5x256x1024_S1x256x1024_2_0_0)) (View.ld (Val := Elt Ideal) (e' := .bf16) x1 (Rect.unit (s := S4x1024x1280) ![0, 0, 0] S1x1024x1024.size inb_S4x1024x1280_S1x1024x1024_0_0_0))) (k0_pay6 (F := Ideal) (View.ld (Val := Elt Ideal) (e' := .bf16) x0 (Rect.unit (s := S5x256x1024) ![3, 0, 0] S1x256x256.size inb_S5x256x1024_S1x256x256_3_0_0)) (View.ld (Val := Elt Ideal) (e' := .bf16) x1 (Rect.unit (s := S4x1024x1280) ![0, 0, 1024] S1x1024x256.size inb_S4x1024x1280_S1x1024x256_0_0_1024))) (k0_pay7 (F := Ideal) (View.ld (Val := Elt Ideal) (e' := .bf16) x0 (Rect.unit (s := S5x256x1024) ![3, 0, 256] S1x256x768.size inb_S5x256x1024_S1x256x768_3_0_256)) (View.ld (Val := Elt Ideal) (e' := .bf16) x1 (Rect.unit (s := S4x1024x1280) ![1, 0, 0] S1x1024x768.size inb_S4x1024x1280_S1x1024x768_1_0_0))) (k0_pay8 (F := Ideal) (View.ld (Val := Elt Ideal) (e' := .bf16) x0 (Rect.unit (s := S5x256x1024) ![4, 0, 0] S1x256x512.size inb_S5x256x1024_S1x256x512_4_0_0)) (View.ld (Val := Elt Ideal) (e' := .bf16) x1 (Rect.unit (s := S4x1024x1280) ![1, 0, 768] S1x1024x512.size inb_S4x1024x1280_S1x1024x512_1_0_768)))
    (k0_pay9 (F := Ideal) (View.ld (Val := Elt Ideal) (e' := .bf16) x0 (Rect.unit (s := S5x256x1024) ![4, 0, 512] S1x256x512.size inb_S5x256x1024_S1x256x512_4_0_512))) (k0_pay10 (F := Ideal) (View.ld (Val := Elt Ideal) (e' := .bf16) x1 (Rect.unit (s := S4x1024x1280) ![2, 0, 0] S1x1024x512.size inb_S4x1024x1280_S1x1024x512_2_0_0))) (constant S256x1024 .f32 0x00000000#32)
    (View.ld (Val := Elt Ideal) (e' := .bf16) x0 (Rect.unit (s := S5x256x1024) ![0, 0, 0] S1x256x768.size inb_S5x256x1024_S1x256x768_0_0_0)) (View.ld (Val := Elt Ideal) (e' := .bf16) x1 (Rect.unit (s := S4x1024x1280) ![2, 0, 512] S1x1024x768.size inb_S4x1024x1280_S1x1024x768_2_0_512)) (View.ld (Val := Elt Ideal) (e' := .bf16) x0 (Rect.unit (s := S5x256x1024) ![0, 0, 768] S1x256x256.size inb_S5x256x1024_S1x256x256_0_0_768)) (View.ld (Val := Elt Ideal) (e' := .bf16) x1 (Rect.unit (s := S4x1024x1280) ![3, 0, 0] S1x1024x256.size inb_S4x1024x1280_S1x1024x256_3_0_0)) (View.ld (Val := Elt Ideal) (e' := .bf16) x0 (Rect.unit (s := S5x256x1024) ![1, 0, 0] S1x256x1024.size inb_S5x256x1024_S1x256x1024_1_0_0)) (View.ld (Val := Elt Ideal) (e' := .bf16) x1 (Rect.unit (s := S4x1024x1280) ![3, 0, 256] S1x1024x1024.size inb_S4x1024x1280_S1x1024x1024_3_0_256))

/-- The tile of the input's gradient, and the factors' gradient after one more tile. -/
def dhT (x0 : Vec Ideal S5x256x1024 .bf16) (x1 : Vec Ideal S4x1024x1280 .bf16) (x2 : Vec Ideal S256x1024 .f32) (x3 : Vec Ideal S1x1024 .f32) (x4 : Vec Ideal S256x1024 .f32) : FVec Ideal S256x1024 .f32 :=
  k0_pay2 (F := Ideal) (dyT x0 x1) x2 x3 (k0_pay12 (F := Ideal) x2) x4

def dgT (x0 : Vec Ideal S5x256x1024 .bf16) (x1 : Vec Ideal S4x1024x1280 .bf16) (x2 : Vec Ideal S256x1024 .f32) (acc : Vec Ideal S1x1024 .f32) : FVec Ideal S1x1024 .f32 :=
  k0_pay4 (F := Ideal) (dyT x0 x1) x2 (k0_pay12 (F := Ideal) x2) acc

theorem dyT_apply (x0 : Vec Ideal S5x256x1024 .bf16) (x1 : Vec Ideal S4x1024x1280 .bf16) (p : Fin 256) (d : Fin 1024) : dyT x0 x1 (ValueIdx.ix2 p d) = dyRow x0 x1 p d := by
  unfold dyT k0_pay11 k0_pay5 k0_pay6 k0_pay7 k0_pay8 k0_pay9 k0_pay10 dyRow
  rw [pieces]
  refine add2 (add2 (add2 (add2 (add2 (add2 (add2 ?_ ?_) ?_) ?_) ?_) ?_) ?_) ?_
  · exact dot1024 x0 x1 (lo := 0) (fun j hj => ⟨by omega, by omega, by omega, by omega⟩) _ _ _ _ p d
  · exact dot256 x0 x1 (lo := 1024) (fun j hj => ⟨by omega, by omega, by omega, by omega⟩) _ _ _ _ p d
  · exact dot768 x0 x1 (lo := 1280) (fun j hj => ⟨by omega, by omega, by omega, by omega⟩) _ _ _ _ p d
  · exact dot512 x0 x1 (lo := 2048) (fun j hj => ⟨by omega, by omega, by omega, by omega⟩) _ _ _ _ p d
  · exact dot512 x0 x1 (lo := 2560) (fun j hj => ⟨by omega, by omega, by omega, by omega⟩) _ _ _ _ p d
  · exact dot768 x0 x1 (lo := 3072) (fun j hj => ⟨by omega, by omega, by omega, by omega⟩) _ _ _ _ p d
  · exact dot256 x0 x1 (lo := 3840) (fun j hj => ⟨by omega, by omega, by omega, by omega⟩) _ _ _ _ p d
  · exact dot1024 x0 x1 (lo := 4096) (fun j hj => ⟨by omega, by omega, by omega, by omega⟩) _ _ _ _ p d

theorem rT (x2 : Vec Ideal S256x1024 .f32) (p : Fin 256) : k0_pay1 (F := Ideal) (k0_pay12 (F := Ideal) x2) (ValueIdx.ix2 p (0 : Fin 1)) = inv (row x2 p) :=
  congrArg Ideal.rsqrt (msTile x2 _ _ _ _ _ p 0)

theorem dhT_apply (x0 : Vec Ideal S5x256x1024 .bf16) (x1 : Vec Ideal S4x1024x1280 .bf16) (x2 : Vec Ideal S256x1024 .f32) (x3 : Vec Ideal S1x1024 .f32) (x4 : Vec Ideal S256x1024 .f32) (p : Fin 256) (d : Fin 1024) : dhT x0 x1 x2 x3 x4 (ValueIdx.ix2 p d) = dhRow x0 x1 x2 x3 x4 p d := by
  unfold dhT k0_pay2 dhRow
  refine congrArg (fun w : EReal => row x4 p d + w) ?_
  refine (backTile x2 _ _ _ _ _ _ _ _ p d (rT x2 p)).trans ?_
  refine congrArg (fun t => back (row x2 p) t d) (funext fun k => ?_)
  exact mul2 (dyT_apply x0 x1 p k) (ValueIdx.broadcastTo_1b_ab_apply _ _ _ _)

theorem dgT_apply (x0 : Vec Ideal S5x256x1024 .bf16) (x1 : Vec Ideal S4x1024x1280 .bf16) (x2 : Vec Ideal S256x1024 .f32) (acc : Vec Ideal S1x1024 .f32) (d : Fin 1024) :
    dgT x0 x1 x2 acc (ValueIdx.ix2 (0 : Fin 1) d) = (acc (ValueIdx.ix2 0 d) : EReal) + ∑ p : Fin 256, dgPart x0 x1 x2 p d := by
  unfold dgT k0_pay4
  refine add2 (castSelf acc _ 0 d) ((colSum _ _ _ _ _ _ 0 d).trans ?_)
  refine Finset.sum_congr rfl fun p _ => ?_
  exact mul2 (congrArg (fun u : EReal => u * row x2 p d) (dyT_apply x0 x1 p d)) ((col _ _ p d).trans (rT x2 p))

section leaves
variable (c : Dev nD) (i : grid0.Coords) (arg1 : Memref sig .tc .vmem S5x256x1024 .bf16) (harg1 : arg1.IsWhole) (arg2 : Memref sig .tc .vmem S4x1024x1280 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)

theorem leftA5 (hc0 : cond0_0 i) (x0 : Vec Ideal S5x256x1024 .bf16) (x1 : Vec Ideal S4x1024x1280 .bf16) (x2 : Vec Ideal S256x1024 .f32) (x3 : Vec Ideal S1x1024 .f32) (x4 : Vec Ideal S256x1024 .f32) :
    out0_A_5 (F := Ideal) c i arg1 harg1 arg2 harg2 arg3 harg3 arg4 harg4 arg5 harg5 arg6 harg6 arg7 harg7 hc0 x0 x1 x2 x3 x4 = dhT x0 x1 x2 x3 x4 := by
  unfold out0_A_5
  rw [View.read_writes_eq_canon _ _ _ (cover0_A_5 _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, ld2]
  refine (View.canon_unit_zero zero2 _ _).trans ?_
  rfl

theorem leftB5 (hc0 : ¬cond0_0 i) (x0 : Vec Ideal S5x256x1024 .bf16) (x1 : Vec Ideal S4x1024x1280 .bf16) (x2 : Vec Ideal S256x1024 .f32) (x3 : Vec Ideal S1x1024 .f32) (x4 : Vec Ideal S256x1024 .f32) (xo6 : Vec Ideal S1x1024 .f32) :
    out0_B_5 (F := Ideal) c i arg1 harg1 arg2 harg2 arg3 harg3 arg4 harg4 arg5 harg5 arg6 harg6 arg7 harg7 hc0 x0 x1 x2 x3 x4 xo6 = dhT x0 x1 x2 x3 x4 := by
  unfold out0_B_5
  rw [View.read_writes_eq_canon _ _ _ (cover0_B_5 _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, ld2]
  refine (View.canon_unit_zero zero2 _ _).trans ?_
  rfl

theorem leftA6 (hc0 : cond0_0 i) (x0 : Vec Ideal S5x256x1024 .bf16) (x1 : Vec Ideal S4x1024x1280 .bf16) (x2 : Vec Ideal S256x1024 .f32) (x3 : Vec Ideal S1x1024 .f32) (x4 : Vec Ideal S256x1024 .f32) :
    out0_A_6 (F := Ideal) c i arg1 harg1 arg2 harg2 arg3 harg3 arg4 harg4 arg5 harg5 arg6 harg6 arg7 harg7 hc0 x0 x1 x2 x3 x4 = dgT x0 x1 x2 (k0_pay3 (F := Ideal)) := by
  unfold out0_A_6
  rw [View.read_writes_eq_canon _ _ _ (cover0_A_6 _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, ld2]
  refine (View.canon_cons_unit_zero zero2 _ _ _).trans ?_
  exact congrArg (dgT x0 x1 x2) (View.readCov_unit_lit _ _ _ (by intro a; fin_cases a <;> rfl))

theorem leftB6 (hc0 : ¬cond0_0 i) (x0 : Vec Ideal S5x256x1024 .bf16) (x1 : Vec Ideal S4x1024x1280 .bf16) (x2 : Vec Ideal S256x1024 .f32) (x3 : Vec Ideal S1x1024 .f32) (x4 : Vec Ideal S256x1024 .f32) (xo6 : Vec Ideal S1x1024 .f32) :
    out0_B_6 (F := Ideal) c i arg1 harg1 arg2 harg2 arg3 harg3 arg4 harg4 arg5 harg5 arg6 harg6 arg7 harg7 hc0 x0 x1 x2 x3 x4 xo6 = dgT x0 x1 x2 xo6 := by
  unfold out0_B_6
  rw [View.read_writes_eq_canon _ _ _ (cover0_B_6 _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg7.read_unread, ld2]
  refine (View.canon_unit_zero zero2 _ _).trans ?_
  rfl

end leaves

/-! ## The blocks -/

variable (m : (ℓ : Loc nD τ sig) → Buf (Elt Ideal) ℓ) (c : Dev nD)

theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

theorem block0 (t : Fin cfg0.N) (k : Fin 5) (r : Fin 4096) (p : Fin 256) (h : t.val * 256 + p.val = r.val) (s : Fin 1024) :
    (iblk m c 0 t : Vec Ideal S5x256x1024 .bf16) (ValueIdx.ix3 k p s) = m ((c : Thread nD τ).loc main_arg0) (ValueIdx.ix3 k r s) := by
  unfold iblk
  rw [View.read_apply]
  show V m c main_arg0 _ = _
  rw [V_main_arg0]
  refine congrArg _ ?_
  funext a
  apply Fin.ext
  match a with
  | ⟨0, _⟩ => show win0_0.index t 0 * 5 + 1 * k.val = k.val; rw [(index0 t).1]; exact Cert.Prods.whole _ _
  | ⟨1, _⟩ => show win0_0.index t 1 * 256 + 1 * p.val = r.val; rw [(index0 t).2.1]; exact Cert.Prods.step h
  | ⟨2, _⟩ => show win0_0.index t 2 * 1024 + 1 * s.val = s.val; rw [(index0 t).2.2]; exact Cert.Prods.whole _ _

theorem block1 (t : Fin cfg0.N) (k : Fin 4) (p : Fin 1024) (s : Fin 1280) :
    (iblk m c 1 t : Vec Ideal S4x1024x1280 .bf16) (ValueIdx.ix3 k p s) = m ((c : Thread nD τ).loc main_arg1) (ValueIdx.ix3 k p s) := by
  unfold iblk
  rw [View.read_apply]
  show V m c main_arg1 _ = _
  rw [V_main_arg1]
  refine congrArg _ ?_
  funext a
  apply Fin.ext
  match a with
  | ⟨0, _⟩ => show win0_1.index t 0 * 4 + 1 * k.val = k.val; rw [(index1 t).1]; exact Cert.Prods.whole _ _
  | ⟨1, _⟩ => show win0_1.index t 1 * 1024 + 1 * p.val = p.val; rw [(index1 t).2.1]; exact Cert.Prods.whole _ _
  | ⟨2, _⟩ => show win0_1.index t 2 * 1280 + 1 * s.val = s.val; rw [(index1 t).2.2]; exact Cert.Prods.whole _ _

theorem block2 (t : Fin cfg0.N) (r : Fin 4096) (p : Fin 256) (h : t.val * 256 + p.val = r.val) (d : Fin 1024) :
    (iblk m c 2 t : Vec Ideal S256x1024 .f32) (ValueIdx.ix2 p d) = m ((c : Thread nD τ).loc main_arg2) (ValueIdx.ix2 r d) := by
  unfold iblk
  rw [View.read_apply]
  show V m c main_arg2 _ = _
  rw [V_main_arg2]
  refine congrArg _ ?_
  refine idx2 ?_ ?_
  · show win0_2.index t 0 * 256 + 1 * p.val = r.val; rw [(index2 t).1]; exact Cert.Prods.step h
  · show win0_2.index t 1 * 1024 + 1 * d.val = d.val; rw [(index2 t).2]; exact Cert.Prods.whole _ _

theorem block3 (t : Fin cfg0.N) (d : Fin 1024) :
    (iblk m c 3 t : Vec Ideal S1x1024 .f32) (ValueIdx.ix2 0 d) = m ((c : Thread nD τ).loc main_arg3) (ValueIdx.ix2 0 d) := by
  unfold iblk
  rw [View.read_apply]
  show V m c main_arg3 _ = _
  rw [V_main_arg3]
  refine congrArg _ ?_
  refine idx2 ?_ ?_
  · show win0_3.index t 0 * 1 + 1 * 0 = 0; rw [(index3 t).1]
  · show win0_3.index t 1 * 1024 + 1 * d.val = d.val; rw [(index3 t).2]; exact Cert.Prods.whole _ _

theorem block4 (t : Fin cfg0.N) (r : Fin 4096) (p : Fin 256) (h : t.val * 256 + p.val = r.val) (d : Fin 1024) :
    (iblk m c 4 t : Vec Ideal S256x1024 .f32) (ValueIdx.ix2 p d) = m ((c : Thread nD τ).loc main_arg4) (ValueIdx.ix2 r d) := by
  unfold iblk
  rw [View.read_apply]
  show V m c main_arg4 _ = _
  rw [V_main_arg4]
  refine congrArg _ ?_
  refine idx2 ?_ ?_
  · show win0_4.index t 0 * 256 + 1 * p.val = r.val; rw [(index4 t).1]; exact Cert.Prods.step h
  · show win0_4.index t 1 * 1024 + 1 * d.val = d.val; rw [(index4 t).2]; exact Cert.Prods.whole _ _

theorem dyBlock (t : Fin cfg0.N) (r : Fin 4096) (p : Fin 256) (h : t.val * 256 + p.val = r.val) :
    dyRow (iblk m c 0 t : Vec Ideal S5x256x1024 .bf16) (iblk m c 1 t) p = dyRow (n := 4096) (m ((c : Thread nD τ).loc main_arg0)) (m ((c : Thread nD τ).loc main_arg1)) r :=
  funext fun d => Finset.sum_congr rfl fun C _ => mul2 (block0 m c t _ r p h _) (block1 m c t _ d _)

theorem rowBlock2 (t : Fin cfg0.N) (r : Fin 4096) (p : Fin 256) (h : t.val * 256 + p.val = r.val) :
    row (iblk m c 2 t : Vec Ideal S256x1024 .f32) p = row (n := 4096) (m ((c : Thread nD τ).loc main_arg2)) r := funext fun d => block2 m c t r p h d

theorem scaledBlock (t : Fin cfg0.N) (v : Fin 1024 → EReal) : scaled v (iblk m c 3 t : Vec Ideal S1x1024 .f32) = scaled v (m ((c : Thread nD τ).loc main_arg3)) :=
  funext fun d => congrArg (fun w : EReal => v d * w) (block3 m c t d)

theorem dhBlock (t : Fin cfg0.N) (r : Fin 4096) (p : Fin 256) (h : t.val * 256 + p.val = r.val) (d : Fin 1024) :
    dhRow (iblk m c 0 t : Vec Ideal S5x256x1024 .bf16) (iblk m c 1 t) (iblk m c 2 t : Vec Ideal S256x1024 .f32) (iblk m c 3 t) (iblk m c 4 t : Vec Ideal S256x1024 .f32) p d
      = dhRow (n := 4096) (m ((c : Thread nD τ).loc main_arg0)) (m ((c : Thread nD τ).loc main_arg1)) (m ((c : Thread nD τ).loc main_arg2)) (m ((c : Thread nD τ).loc main_arg3)) (m ((c : Thread nD τ).loc main_arg4)) r d := by
  unfold dhRow
  rw [dyBlock m c t r p h, rowBlock2 m c t r p h, scaledBlock m c t]
  exact congrArg (fun w : EReal => w + back _ _ d) (block4 m c t r p h d)

theorem dgBlock (t : Fin cfg0.N) (r : Fin 4096) (p : Fin 256) (h : t.val * 256 + p.val = r.val) (d : Fin 1024) :
    dgPart (iblk m c 0 t : Vec Ideal S5x256x1024 .bf16) (iblk m c 1 t) (iblk m c 2 t : Vec Ideal S256x1024 .f32) p d = dgPart (n := 4096) (m ((c : Thread nD τ).loc main_arg0)) (m ((c : Thread nD τ).loc main_arg1)) (m ((c : Thread nD τ).loc main_arg2)) r d := by
  unfold dgPart
  rw [dyBlock m c t r p h, rowBlock2 m c t r p h]

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

/-- What one point leaves in the first result's block. -/
theorem left5 (t : Fin cfg0.N) : (outsAt0 m c t.val t.isLt).1 = dhT (iblk m c 0 t) (iblk m c 1 t) (iblk m c 2 t) (iblk m c 3 t) (iblk m c 4 t) := by
  by_cases h0 : t.val % 16 = 0
  · rw [outsAt0_A m c t h0]
    dsimp only
    exact leftA5 c (grid0.coords t) _ _ _ _ _ _ _ _ _ _ _ _ _ _ ((hcond0_0 t).mpr h0) _ _ _ _ _
  · rw [outsAt0_B m c t h0]
    dsimp only
    exact leftB5 c (grid0.coords t) _ _ _ _ _ _ _ _ _ _ _ _ _ _ (fun h => h0 ((hcond0_0 t).mp h)) _ _ _ _ _ _

/-- What the first point leaves in the second result's block. -/
theorem first6 (t : Fin cfg0.N) (h0 : t.val % 16 = 0) : (outsAt0 m c t.val t.isLt).2 = dgT (iblk m c 0 t) (iblk m c 1 t) (iblk m c 2 t) (k0_pay3 (F := Ideal)) := by
  rw [outsAt0_A m c t h0]
  dsimp only
  exact leftA6 c (grid0.coords t) _ _ _ _ _ _ _ _ _ _ _ _ _ _ ((hcond0_0 t).mpr h0) _ _ _ _ _

/-- What a later point leaves in the second result's block. -/
theorem left6 (t : Fin cfg0.N) (h0 : ¬t.val % 16 = 0) : (outsAt0 m c t.val t.isLt).2
    = dgT (iblk m c 0 t) (iblk m c 1 t) (iblk m c 2 t) (outsAt0 m c (t.val - 1) (Nat.lt_of_le_of_lt (Nat.sub_le _ _) t.isLt)).2 := by
  rw [outsAt0_B m c t h0]
  dsimp only
  exact leftB6 c (grid0.coords t) _ _ _ _ _ _ _ _ _ _ _ _ _ _ (fun h => h0 ((hcond0_0 t).mp h)) _ _ _ _ _ _

/-- The gradient of the input that the call leaves. -/
theorem final5 (r : Fin 4096) (d : Fin 1024) :
    (dats m 0 c).arrAt 5 cfg0.N (ValueIdx.ix2 r d) = dhRow (n := 4096) (m ((c : Thread nD τ).loc main_arg0)) (m ((c : Thread nD τ).loc main_arg1)) (m ((c : Thread nD τ).loc main_arg2)) (m ((c : Thread nD τ).loc main_arg3)) (m ((c : Thread nD τ).loc main_arg4)) r d := by
  obtain ⟨t, ht0⟩ := pointOf r
  have hp : r.val % 256 < 256 := Nat.mod_lt _ (by decide)
  have h := congrFun (blocks5 m c t (flush0_5 _)) (ValueIdx.ix2 (⟨r.val % 256, hp⟩ : Fin 256) d)
  rw [flushed5, left5] at h
  rw [View.read_apply] at h
  refine Eq.trans (congrArg _ ?_) (h.trans ?_)
  · refine idx2 ?_ ?_
    · show r.val = win0_5.index t 0 * 256 + 1 * (r.val % 256); rw [(index5 t).1]; exact rowAt ht0
    · show d.val = win0_5.index t 1 * 1024 + 1 * d.val; rw [(index5 t).2]; exact wholeAt _ _
  · exact (dhT_apply _ _ _ _ _ _ _).trans (dhBlock m c t r ⟨r.val % 256, hp⟩ (rowFrom ht0) d)

/-- What one point adds to the gradient of the factors. -/
def part (d : Fin 1024) (k : ℕ) : EReal :=
  if h : k < cfg0.N then ∑ p : Fin 256, dgPart (iblk m c 0 ⟨k, h⟩ : Vec Ideal S5x256x1024 .bf16) (iblk m c 1 ⟨k, h⟩) (iblk m c 2 ⟨k, h⟩ : Vec Ideal S256x1024 .f32) p d else 0

theorem start6 (d : Fin 1024) (h : 0 < cfg0.N) : ((outsAt0 m c 0 h).2 (ValueIdx.ix2 (0 : Fin 1) d) : EReal) = 0 + part m c d 0 := by
  refine (congrFun (first6 m c ⟨0, h⟩ rfl) _).trans ((dgT_apply _ _ _ _ d).trans ?_)
  refine add2 zeroBits ?_
  unfold part
  rw [dif_pos h]

theorem next6 (d : Fin 1024) (k : ℕ) (h : k + 1 < cfg0.N) (h' : k < cfg0.N) :
    ((outsAt0 m c (k + 1) h).2 (ValueIdx.ix2 (0 : Fin 1) d) : EReal) = ((outsAt0 m c k h').2 (ValueIdx.ix2 (0 : Fin 1) d) : EReal) + part m c d (k + 1) := by
  have h16 : k + 1 < 16 := lt_of_lt_of_eq h (show cfg0.N = 16 from N_0)
  refine (congrFun (left6 m c ⟨k + 1, h⟩ (succ_mod h16)) _).trans ((dgT_apply _ _ _ _ d).trans ?_)
  refine congrArg (fun q : EReal => ((outsAt0 m c k h').2 (ValueIdx.ix2 (0 : Fin 1) d) : EReal) + q) ?_
  unfold part
  rw [dif_pos h]

theorem last_lt : 15 < cfg0.N := by rw [show cfg0.N = 16 from N_0]; decide

theorem whole6 : (dats m 0 c).arrAt 6 cfg0.N = (outsAt0 m c 15 last_lt).2 :=
  (dats m 0 c).arrAt_eq_of_cover 6 (outsAt0 m c 15 last_lt).2 (fun t hf => by
    have hN : t.val < 16 := lt_of_lt_of_eq t.isLt (show cfg0.N = 16 from N_0)
    obtain rfl : t = t0_15 := Fin.ext (last_of ((flush0_6 t).mp hf) hN)
    rw [flushed6]
    have hz' : (fun a => win0_6.index t0_15 a * main_v0_1.ty.shape.size a) = fun _ => 0 := funext fun a => by fin_cases a <;> decide
    exact (Memref.read_access_unit_zero (Elt Ideal) main_v0_1 hz' (fun a => by rw [congrFun hz' a]; simp) (outsAt0 m c 15 last_lt).2).symm)
    fun i => ⟨t0_15, (flush0_6 t0_15).mpr rfl, by
      show i ∈ ((View.whole main_v0_1).slice (win0_6.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

/-- The gradient of the factors that the call leaves. -/
theorem final6 (d : Fin 1024) :
    (dats m 0 c).arrAt 6 cfg0.N (ValueIdx.ix2 (0 : Fin 1) d) = ∑ r : Fin 4096, dgPart (n := 4096) (m ((c : Thread nD τ).loc main_arg0)) (m ((c : Thread nD τ).loc main_arg1)) (m ((c : Thread nD τ).loc main_arg2)) r d := by
  rw [whole6]
  refine (running (part m c d) (fun k h => ((outsAt0 m c k h).2 (ValueIdx.ix2 (0 : Fin 1) d) : EReal)) (start6 m c d) (next6 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => dgBlock m c ⟨p.val, hp⟩ _ s rfl d

/-! ## The reference -/

section reference
open Cert.DxMixerRefIdeal.Read

open Cert.DxMixerRefIdeal Cert.DxMixerRefIdeal.Gen in
/-- The five sections side by side. -/
theorem joined (x0 : Vec Ideal Cert.DxMixerRefIdeal.S5x4096x1024 .bf16) (s : Fin 4096) (C : Fin 5120) :
    val_main_v13 (F := Ideal) x0 (ValueIdx.ix2 s C) = side (n := 4096) x0 s C.val := by
  have hC := C.isLt
  have hs := s.isLt
  have hn : C.val / 1024 < 5 := by omega
  have hj : C.val % 1024 < 1024 := Nat.mod_lt _ (by decide)
  unfold val_main_v13
  refine (concatenate_ofFn_apply (t := Cert.DxMixerRefIdeal.S4096x5120) (s₁ := Cert.DxMixerRefIdeal.S4096x1024) 1
    ![val_main_v4 (F := Ideal) x0, val_main_v6 (F := Ideal) x0, val_main_v8 (F := Ideal) x0, val_main_v10 (F := Ideal) x0, val_main_v12 (F := Ideal) x0]
    concatenates_S4096x1024_S4096x1024_S4096x1024_S4096x1024_S4096x1024_S4096x5120_d1 rfl 1024 rfl (ValueIdx.ix2 s C) ⟨C.val / 1024, hn⟩ rfl
    (ValueIdx.ix2 s (⟨C.val % 1024, hj⟩ : Fin 1024)) rfl (fun b hb => by
      match b with
      | ⟨0, _⟩ => rfl
      | ⟨1, _⟩ => exact absurd rfl hb)).trans ?_
  obtain h | h | h | h | h : C.val / 1024 = 0 ∨ C.val / 1024 = 1 ∨ C.val / 1024 = 2 ∨ C.val / 1024 = 3 ∨ C.val / 1024 = 4 := by omega
  · simp only [h]
    refine (val_main_v4_apply _ _).trans ((val_main_v3_apply _ _).trans (congrArg x0 (funext fun a => Fin.ext ?_)))
    match a with
    | ⟨0, _⟩ => show 2 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v6_apply _ _).trans ((val_main_v5_apply _ _).trans (congrArg x0 (funext fun a => Fin.ext ?_)))
    match a with
    | ⟨0, _⟩ => show 3 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v8_apply _ _).trans ((val_main_v7_apply _ _).trans (congrArg x0 (funext fun a => Fin.ext ?_)))
    match a with
    | ⟨0, _⟩ => show 4 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v10_apply _ _).trans ((val_main_v9_apply _ _).trans (congrArg x0 (funext fun a => Fin.ext ?_)))
    match a with
    | ⟨0, _⟩ => show 0 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega
  · simp only [h]
    refine (val_main_v12_apply _ _).trans ((val_main_v11_apply _ _).trans (congrArg x0 (funext fun a => Fin.ext ?_)))
    match a with
    | ⟨0, _⟩ => show 1 + 0 = (C.val / 1024 + 2) % 5; omega
    | ⟨1, _⟩ => show (s.val * 1024 + C.val % 1024) / 1024 % 4096 = s.val; omega
    | ⟨2, _⟩ => show (s.val * 1024 + C.val % 1024) % 1024 = C.val % 1024; omega

variable (x0 : Vec Ideal S5x4096x1024 .bf16) (x1 : Vec Ideal S4x1024x1280 .bf16) (x2 : Vec Ideal S4096x1024 .f32) (x3 : Vec Ideal S1x1024 .f32) (x4 : Vec Ideal S4096x1024 .f32)

theorem refDy (i : S4096x1024.Idx) : val_main_v31 (F := Ideal) x0 x1 i = dyRow x0 x1 (i 0) (i 1) := by
  refine (val_main_v31_apply _ _ _).trans ?_
  refine Finset.sum_congr rfl fun C _ => ?_
  rw [val_main_v30_apply, val_main_v2_apply, val_main_v1_apply, val_main_v0_apply]
  have hC := C.isLt
  have hd : (i 1).val < 1024 := (i 1).isLt
  refine mul2 ((congrArg (val_main_v13 (F := Ideal) x0) ?_).trans (joined x0 (i 0) C)) (congrArg x1 ?_)
  · refine idx2 ?_ ?_
    · rfl
    · rfl
  · funext a
    apply Fin.ext
    match a with
    | ⟨0, _⟩ => show ((i 1).val * 5120 + C.val) / 1280 % 4 = C.val / 1280 % 4; omega
    | ⟨1, _⟩ => show ((i 1).val * 5120 + C.val) / 5120 = (i 1).val; omega
    | ⟨2, _⟩ => show ((i 1).val * 5120 + C.val) % 1280 = C.val % 1280; omega

theorem refMs (i : (⟨2, ![4096, 1]⟩ : Shape).Idx) : val_main_v20 (F := Ideal) x2 i = ms (row x2 (i 0)) := by
  rw [val_main_v20_apply, val_main_v18_apply, val_main_v16_apply]
  refine congrArg (fun w : EReal => Ideal.div w cn + ce) ?_
  refine (val_main_v15_apply _ _).trans (zero_plus _ zeroBits _ _ fun k => ?_)
  refine (val_main_v14_apply _ _).trans ?_
  refine mul2 (congrArg x2 ?_) (congrArg x2 ?_)
  all_goals
    exact idx2 rfl rfl

theorem refInv (i : (⟨2, ![4096, 1]⟩ : Shape).Idx) : val_main_v21 (F := Ideal) x2 i = inv (row x2 (i 0)) :=
  (val_main_v21_apply _ _).trans (congrArg Ideal.rsqrt (refMs x2 i))

theorem refSlope (i : (⟨2, ![4096, 1]⟩ : Shape).Idx) : val_main_v24 (F := Ideal) x2 i = cm * Ideal.div (inv (row x2 (i 0))) (ms (row x2 (i 0))) := by
  rw [val_main_v24_apply, val_main_v22_apply]
  exact congrArg₂ (fun p q : EReal => cm * Ideal.div p q) (refInv x2 i) (refMs x2 i)

theorem refScaled (i : S4096x1024.Idx) : val_main_v36 (F := Ideal) x0 x1 x3 i = scaled (dyRow x0 x1 (i 0)) x3 (i 1) := by
  rw [val_main_v36_apply, val_main_v35_apply]
  refine mul2 (refDy x0 x1 i) (congrArg x3 ?_)
  exact idx2 rfl rfl

theorem refInner (i : (⟨1, ![4096]⟩ : Shape).Idx) : val_main_v38 (F := Ideal) x0 x1 x2 x3 i = inner (row x2 (i 0)) (scaled (dyRow x0 x1 (i 0)) x3) := by
  refine (val_main_v38_apply _ _ _ _ _).trans (zero_plus _ zeroBits _ _ fun k => ?_)
  refine (val_main_v37_apply _ _ _ _ _).trans ?_
  refine mul2 (congrArg x2 ?_) (refScaled x0 x1 x3 _)
  exact idx2 rfl rfl

theorem refPull (i : (⟨1, ![4096]⟩ : Shape).Idx) : val_main_v45 (F := Ideal) x0 x1 x2 x3 i = pull (row x2 (i 0)) (scaled (dyRow x0 x1 (i 0)) x3) := by
  refine (val_main_v45_apply _ _ _ _ _).trans (zero_one _ zeroBits _ _ ?_)
  rw [val_main_v44_apply, val_main_v42_apply, val_main_v39_apply]
  have e : idx_main_v39 (idx_main_v45 i 0) = i := funext fun d => by
    match d with
    | ⟨0, _⟩ => exact Fin.ext (by show (i 0).val * 1 + 0 = (i 0).val; omega)
  rw [e]
  exact congrArg₂ (fun p q : EReal => Ideal.div (p * q) cn) (refInner x0 x1 x2 x3 i) (refSlope x2 _)

theorem refBack (i : S4096x1024.Idx) : val_main_v50 (F := Ideal) x0 x1 x2 x3 i = back (row x2 (i 0)) (scaled (dyRow x0 x1 (i 0)) x3) (i 1) := by
  refine Eq.trans ?_ (back_eq _ _ _).symm
  rw [val_main_v50_apply, val_main_v48_apply, val_main_v49_apply, val_main_v47_apply, val_main_v46_apply,
    val_main_v41_apply, val_main_v40_apply]
  have hx : x2 i = row x2 (i 0) (i 1) := congrArg x2 (ValueIdx.eq_ix2 i)
  have hp := refPull x0 x1 x2 x3 (idx_main_v46 i)
  exact add2
    (add2 (mul2 (refScaled x0 x1 x3 i) (refInv x2 _)) (mul2 hx hp))
    (mul2 hp hx)

theorem refDh (i : S4096x1024.Idx) : val_main_v51 (F := Ideal) x0 x1 x2 x3 x4 i = dhRow x0 x1 x2 x3 x4 (i 0) (i 1) := by
  refine (val_main_v51_apply _ _ _ _ _ _).trans ?_
  exact add2 (congrArg x4 (ValueIdx.eq_ix2 i)) (refBack x0 x1 x2 x3 i)

theorem refDg (d : Fin 1024) : val_main_v34 (F := Ideal) x0 x1 x2 (ValueIdx.ix2 (0 : Fin 1) d) = ∑ r : Fin 4096, dgPart x0 x1 x2 r d := by
  refine (val_main_v34_apply _ _ _ _).trans ((val_main_v33_apply _ _ _ _).trans (zero_plus _ zeroBits _ _ fun k => ?_))
  have e : idx_main_v33 (idx_main_v34 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v32_apply, val_main_v26_apply, val_main_v25_apply]
  refine (congrArg₂ (fun p q : EReal => (row x2 k d * p) * q) (refInv x2 _) (refDy x0 x1 _)).trans ?_
  exact (mul_comm _ _).trans (mul_assoc _ _ _).symm

end reference

theorem algebraic : @Cert.algebraic_DxMixerIdeal_DxMixerRefIdeal Cert.DxMixerIdeal.Gen.facts Cert.DxMixerRefIdeal.Gen.facts := by
  intro m g m' g' _ ha
  refine ⟨fun c => (dats m 0 c).arrAt 5 cfg0.N, fun c => (dats m 0 c).arrAt 6 cfg0.N, run_blocks m g, ?_⟩
  refine (θ_run Cert.DxMixerRefIdeal.defs _ _).mono (fun r h c => ?_) (Cert.DxMixerRefIdeal.Value.run (F := Ideal) m' g')
  obtain ⟨h5, h6, hk⟩ := h c
  obtain ⟨a0, a1, a2, a3, a4⟩ := ha c
  refine ⟨h5.trans ((Cert.DxMixerRefIdeal.Read.val_main_v51_eq _ _).trans ?_), h6.trans ((Cert.DxMixerRefIdeal.Read.val_main_v34_eq _ _ _).trans ?_), hk⟩
  · rw [a0, a1, a2, a3, a4]
    refine funext fun i => ?_
    obtain ⟨r, d, rfl⟩ : ∃ (r : Fin 4096) (d : Fin 1024), i = ValueIdx.ix2 r d := ⟨i 0, i 1, ValueIdx.eq_ix2 i⟩
    exact (refDh _ _ _ _ _ _).trans (final5 m c r d).symm
  · rw [a0, a1, a2]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refDg _ _ _ d).trans (final6 m c d).symm

/-- The reference keeps its arguments. -/
theorem refFrame : @Cert.quiescent_DxMixerRefIdeal Cert.DxMixerRefIdeal.Gen.facts := fun m g _ =>
  (θ_run Cert.DxMixerRefIdeal.defs _ _).mono (fun r h => ⟨fun c => (h c).2.2, sem_eq_zero_of_no_sems (by decide) r.2⟩) (Cert.DxMixerRefIdeal.Value.run (F := Ideal) m g)

end Cert.DxMixerTie

end
-- ==== Proof.MixerOut.lean ====
/- The mixer's last product with the two row normalisations after it: the product f, the residual h + norm(f), and the norm of that. -/
module

public import proofs.«01_k».proof.Proof.Rows
public import proofs.«01_k».proof.Proof.Sgu
public import proofs.«01_k».proof.Proof.Prods
public import proofs.«01_k».proof.Defs
public import proofs.«01_k».proof.Proof.Gen.MixerOutIdeal.Value
public import proofs.«01_k».proof.Proof.Gen.MixerOutRefIdeal.Run
public import proofs.«01_k».proof.Proof.Gen.MixerOutRefIdeal.Read

@[expose] public section

noncomputable section

namespace Cert.MixerOutTie

open Idealize.ShloMosaic Idealize.ShloMosaic.TcCoe Idealize.SL.Sem
open Cert.MixerOutIdeal Cert.MixerOutIdeal.Gen Cert.MixerOutIdeal.Value
open Cert.Rows
open scoped BigOperators

/-- The row length and the small term, as the program writes them. -/
def cn : EReal := Ideal.ofBits .f32 0x44800000#32
def ce : EReal := Ideal.ofBits .f32 0x358637BD#32

theorem oneBits : Ideal.ofBits .f32 0x3F800000#32 = 1 := Cert.Sgu.ofBits_one.trans EReal.coe_one
theorem zeroBits : Ideal.ofBits .f32 0x00000000#32 = 0 := Cert.Sgu.ofBits_zero.trans EReal.coe_zero

/-- Row r of the product. -/
def fRow {n : ℕ} (y : Fin n → Fin 1024 → EReal) (w : Fin 1024 → Fin 1024 → EReal) (r : Fin n) (d : Fin 1024) : EReal :=
  ∑ s : Fin 1024, y r s * w s d

/-- Row r of the residual. -/
def hRow {n : ℕ} (y : Fin n → Fin 1024 → EReal) (w : Fin 1024 → Fin 1024 → EReal) (h : Fin n → Fin 1024 → EReal) (g : Fin 1024 → EReal)
    (r : Fin n) (d : Fin 1024) : EReal :=
  h r d + unitRow cn ce (fRow y w r) d * g d

/-- Row r of the last normalisation. -/
def nRow {n : ℕ} (y : Fin n → Fin 1024 → EReal) (w : Fin 1024 → Fin 1024 → EReal) (h : Fin n → Fin 1024 → EReal) (g g' : Fin 1024 → EReal)
    (r : Fin n) (d : Fin 1024) : EReal :=
  unitRow cn ce (hRow y w h g r) d * g' d

/-- The entries of a matrix, of a stack of one matrix, and of a row. -/
def ent {n k : ℕ} (x : Vec Ideal ⟨2, ![n, k]⟩ .bf16) (r : Fin n) (d : Fin k) : EReal := x (ValueIdx.ix2 r d)
def entF {n k : ℕ} (x : Vec Ideal ⟨2, ![n, k]⟩ .f32) (r : Fin n) (d : Fin k) : EReal := x (ValueIdx.ix2 r d)
def ent3 {n k : ℕ} (x : Vec Ideal ⟨3, ![1, n, k]⟩ .bf16) (r : Fin n) (d : Fin k) : EReal := x (ValueIdx.ix3 0 r d)
def gain {k : ℕ} (x : Vec Ideal ⟨2, ![1, k]⟩ .f32) (d : Fin k) : EReal := x (ValueIdx.ix2 0 d)

/-! ## The kernel's tile -/

variable (x0 : Vec Ideal S1x256x1024 .bf16) (x1 : Vec Ideal S1x1024x1024 .bf16) (x2 : Vec Ideal S256x1024 .f32) (x3 x4 : Vec Ideal S1x1024 .f32)

theorem acc (p : Fin 256) (d : Fin 1024) : k0_pay2 (F := Ideal) x0 x1 (ValueIdx.ix2 p d) = fRow (ent3 x0) (ent3 x1) p d := by
  unfold k0_pay2
  refine Eq.trans (Cert.Prods.nn (φ := .bf16) (ψ := .bf16) (shapeCast S256x1024 x0 _) (shapeCast S1024x1024 x1 _) _ none p d) ?_
  exact Finset.sum_congr rfl fun s _ => mul2 (ValueIdx.shapeCast_1ab_ab_apply _ _ _ _) (ValueIdx.shapeCast_1ab_ab_apply _ _ _ _)

theorem hTile (p : Fin 256) (d : Fin 1024) :
    k0_pay4 (F := Ideal) x0 x1 x2 x3 (ValueIdx.ix2 p d) = hRow (ent3 x0) (ent3 x1) (entF x2) (gain x3) p d := by
  unfold k0_pay4 hRow
  refine congrArg (fun w : EReal => (x2 (ValueIdx.ix2 p d) : EReal) + w) ?_
  refine Eq.trans (mul2 oneBits ?_) (one_mul _)
  refine mul2 ?_ (ValueIdx.broadcastTo_1b_ab_apply _ _ _ _)
  refine (unitTile (k0_pay2 (F := Ideal) x0 x1) _ _ _ _ _ _ _ _ p d).trans ?_
  exact congrArg (fun v => unitRow cn ce v d) (funext fun k => acc x0 x1 p k)

theorem nTile (p : Fin 256) (d : Fin 1024) :
    k0_pay1 (F := Ideal) (k0_pay5 (F := Ideal) x0 x1 x2 x3) x4 (ValueIdx.ix2 p d) = nRow (ent3 x0) (ent3 x1) (entF x2) (gain x3) (gain x4) p d := by
  unfold k0_pay1 nRow
  refine mul2 ?_ (ValueIdx.broadcastTo_1b_ab_apply _ _ _ _)
  unfold k0_pay5
  refine (unitTile (k0_pay4 (F := Ideal) x0 x1 x2 x3) _ _ _ _ _ _ _ _ p d).trans ?_
  exact congrArg (fun v => unitRow cn ce v d) (funext fun k => hTile x0 x1 x2 x3 p k)

theorem written5 (p : Fin 256) (d : Fin 1024) : out0_5 (F := Ideal) x0 x1 x2 x3 x4 (ValueIdx.ix2 p d) = fRow (ent3 x0) (ent3 x1) p d := by
  unfold out0_5
  refine (congrFun (View.canon_unit_zero zero2 _ _) _).trans ?_
  rw [View.ld_unit_zero (by funext a; fin_cases a <;> rfl) _ x0, View.ld_unit_zero (by funext a; fin_cases a <;> rfl) _ x1]
  exact acc x0 x1 p d

theorem written6 (p : Fin 256) (d : Fin 1024) : out0_6 (F := Ideal) x0 x1 x2 x3 x4 (ValueIdx.ix2 p d) = hRow (ent3 x0) (ent3 x1) (entF x2) (gain x3) p d := by
  unfold out0_6
  refine (congrFun (View.canon_unit_zero zero2 _ _) _).trans ?_
  rw [View.ld_unit_zero (by funext a; fin_cases a <;> rfl) _ x0, View.ld_unit_zero (by funext a; fin_cases a <;> rfl) _ x1, View.ld_unit_zero (by funext a; fin_cases a <;> rfl) _ x2, View.ld_unit_zero (by funext a; fin_cases a <;> rfl) _ x3]
  exact hTile x0 x1 x2 x3 p d

theorem written7 (p : Fin 256) (d : Fin 1024) : out0_7 (F := Ideal) x0 x1 x2 x3 x4 (ValueIdx.ix2 p d) = nRow (ent3 x0) (ent3 x1) (entF x2) (gain x3) (gain x4) p d := by
  unfold out0_7
  refine (congrFun (View.canon_unit_zero zero2 _ _) _).trans ?_
  rw [View.ld_unit_zero (by funext a; fin_cases a <;> rfl) _ x0, View.ld_unit_zero (by funext a; fin_cases a <;> rfl) _ x1, View.ld_unit_zero (by funext a; fin_cases a <;> rfl) _ x2, View.ld_unit_zero (by funext a; fin_cases a <;> rfl) _ x3, View.ld_unit_zero (by funext a; fin_cases a <;> rfl) _ x4]
  exact nTile x0 x1 x2 x3 x4 p d

/-! ## The blocks -/

variable (m : (ℓ : Loc nD τ sig) → Buf (Elt Ideal) ℓ) (c : Dev nD)

/-- The first two operands as the call gets them: with a leading axis of length one. -/
theorem V_main_v0 : V m c main_v0 = broadcastInDim S1x4096x1024 ![1, 2] bcast_S4096x1024_S1x4096x1024_1_2 (m ((c : Thread nD τ).loc main_arg0)) := by
  show StableHlo.after hostOps0 _ (Proc.devRef .tc main_v0) = _
  after_results
  try rfl

theorem V_main_v1 : V m c main_v1 = broadcastInDim S1x1024x1024 ![1, 2] bcast_S1024x1024_S1x1024x1024_1_2 (m ((c : Thread nD τ).loc main_arg1)) := by
  show StableHlo.after hostOps0 _ (Proc.devRef .tc main_v1) = _
  after_results
  try rfl

theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

theorem block0 (t : Fin cfg0.N) (r : Fin 4096) (p : Fin 256) (h : t.val * 256 + p.val = r.val) (s : Fin 1024) :
    (iblk m c 0 t : Vec Ideal S1x256x1024 .bf16) (ValueIdx.ix3 0 p s) = m ((c : Thread nD τ).loc main_arg0) (ValueIdx.ix2 r s) := by
  unfold iblk
  rw [View.read_apply]
  show V m c main_v0 _ = _
  rw [V_main_v0]
  refine broadcastInDim_apply _ _ _ _ (ValueIdx.ix2 r s) (fun a => ?_)
  match a with
  | ⟨0, _⟩ => show r.val = win0_0.index t 1 * 256 + 1 * p.val; rw [(index0 t).2.1]; exact (Cert.Prods.step h).symm
  | ⟨1, _⟩ => show s.val = win0_0.index t 2 * 1024 + 1 * s.val; rw [(index0 t).2.2]; exact (Cert.Prods.whole _ _).symm

theorem block1 (t : Fin cfg0.N) (p : Fin 1024) (s : Fin 1024) :
    (iblk m c 1 t : Vec Ideal S1x1024x1024 .bf16) (ValueIdx.ix3 0 p s) = m ((c : Thread nD τ).loc main_arg1) (ValueIdx.ix2 p s) := by
  unfold iblk
  rw [View.read_apply]
  show V m c main_v1 _ = _
  rw [V_main_v1]
  refine broadcastInDim_apply _ _ _ _ (ValueIdx.ix2 p s) (fun a => ?_)
  match a with
  | ⟨0, _⟩ => show p.val = win0_1.index t 1 * 1024 + 1 * p.val; rw [(index1 t).2.1]; exact (Cert.Prods.whole _ _).symm
  | ⟨1, _⟩ => show s.val = win0_1.index t 2 * 1024 + 1 * s.val; rw [(index1 t).2.2]; exact (Cert.Prods.whole _ _).symm

theorem block2 (t : Fin cfg0.N) (r : Fin 4096) (p : Fin 256) (h : t.val * 256 + p.val = r.val) (d : Fin 1024) :
    (iblk m c 2 t : Vec Ideal S256x1024 .f32) (ValueIdx.ix2 p d) = m ((c : Thread nD τ).loc main_arg2) (ValueIdx.ix2 r d) := by
  unfold iblk
  rw [View.read_apply]
  show V m c main_arg2 _ = _
  rw [V_main_arg2]
  refine congrArg _ ?_
  refine idx2 ?_ ?_
  · show win0_2.index t 0 * 256 + 1 * p.val = r.val; rw [(index2 t).1]; exact Cert.Prods.step h
  · show win0_2.index t 1 * 1024 + 1 * d.val = d.val; rw [(index2 t).2]; exact Cert.Prods.whole _ _

theorem block3 (t : Fin cfg0.N) (d : Fin 1024) :
    (iblk m c 3 t : Vec Ideal S1x1024 .f32) (ValueIdx.ix2 0 d) = m ((c : Thread nD τ).loc main_arg3) (ValueIdx.ix2 0 d) := by
  unfold iblk
  rw [View.read_apply]
  show V m c main_arg3 _ = _
  rw [V_main_arg3]
  refine congrArg _ ?_
  refine idx2 ?_ ?_
  · show win0_3.index t 0 * 1 + 1 * 0 = 0; rw [(index3 t).1]
  · show win0_3.index t 1 * 1024 + 1 * d.val = d.val; rw [(index3 t).2]; exact Cert.Prods.whole _ _

theorem block4 (t : Fin cfg0.N) (d : Fin 1024) :
    (iblk m c 4 t : Vec Ideal S1x1024 .f32) (ValueIdx.ix2 0 d) = m ((c : Thread nD τ).loc main_arg4) (ValueIdx.ix2 0 d) := by
  unfold iblk
  rw [View.read_apply]
  show V m c main_arg4 _ = _
  rw [V_main_arg4]
  refine congrArg _ ?_
  refine idx2 ?_ ?_
  · show win0_4.index t 0 * 1 + 1 * 0 = 0; rw [(index4 t).1]
  · show win0_4.index t 1 * 1024 + 1 * d.val = d.val; rw [(index4 t).2]; exact Cert.Prods.whole _ _

theorem fBlock (t : Fin cfg0.N) (r : Fin 4096) (p : Fin 256) (h : t.val * 256 + p.val = r.val) :
    fRow (ent3 (iblk m c 0 t : Vec Ideal S1x256x1024 .bf16)) (ent3 (iblk m c 1 t : Vec Ideal S1x1024x1024 .bf16)) p = fRow (ent (n := 4096) (k := 1024) (m ((c : Thread nD τ).loc main_arg0))) (ent (n := 1024) (k := 1024) (m ((c : Thread nD τ).loc main_arg1))) r :=
  funext fun d => Finset.sum_congr rfl fun s _ => mul2 (block0 m c t r p h s) (block1 m c t s d)

theorem hBlock (t : Fin cfg0.N) (r : Fin 4096) (p : Fin 256) (h : t.val * 256 + p.val = r.val) :
    hRow (ent3 (iblk m c 0 t : Vec Ideal S1x256x1024 .bf16)) (ent3 (iblk m c 1 t : Vec Ideal S1x1024x1024 .bf16)) (entF (iblk m c 2 t : Vec Ideal S256x1024 .f32)) (gain (iblk m c 3 t : Vec Ideal S1x1024 .f32)) p = hRow (ent (n := 4096) (k := 1024) (m ((c : Thread nD τ).loc main_arg0))) (ent (n := 1024) (k := 1024) (m ((c : Thread nD τ).loc main_arg1))) (entF (n := 4096) (k := 1024) (m ((c : Thread nD τ).loc main_arg2))) (gain (k := 1024) (m ((c : Thread nD τ).loc main_arg3))) r := by
  funext d
  unfold hRow
  rw [fBlock m c t r p h]
  exact congrArg₂ (fun a b : EReal => a + unitRow cn ce _ d * b) (block2 m c t r p h d) (block3 m c t d)

theorem nBlock (t : Fin cfg0.N) (r : Fin 4096) (p : Fin 256) (h : t.val * 256 + p.val = r.val) (d : Fin 1024) :
    nRow (ent3 (iblk m c 0 t : Vec Ideal S1x256x1024 .bf16)) (ent3 (iblk m c 1 t : Vec Ideal S1x1024x1024 .bf16)) (entF (iblk m c 2 t : Vec Ideal S256x1024 .f32)) (gain (iblk m c 3 t : Vec Ideal S1x1024 .f32)) (gain (iblk m c 4 t : Vec Ideal S1x1024 .f32)) p d = nRow (ent (n := 4096) (k := 1024) (m ((c : Thread nD τ).loc main_arg0))) (ent (n := 1024) (k := 1024) (m ((c : Thread nD τ).loc main_arg1))) (entF (n := 4096) (k := 1024) (m ((c : Thread nD τ).loc main_arg2))) (gain (k := 1024) (m ((c : Thread nD τ).loc main_arg3))) (gain (k := 1024) (m ((c : Thread nD τ).loc main_arg4))) r d := by
  unfold nRow
  rw [hBlock m c t r p h]
  exact congrArg (fun b : EReal => unitRow cn ce _ d * b) (block4 m c t d)

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

theorem final5 (r : Fin 4096) (d : Fin 1024) :
    (dats m 0 c).arrAt 5 cfg0.N (ValueIdx.ix2 r d) = fRow (ent (n := 4096) (k := 1024) (m ((c : Thread nD τ).loc main_arg0))) (ent (n := 1024) (k := 1024) (m ((c : Thread nD τ).loc main_arg1))) r d := by
  obtain ⟨t, ht0⟩ := pointOf r
  have hp : r.val % 256 < 256 := Nat.mod_lt _ (by decide)
  have h := congrFun (blocks5 m c t (flush0_5 _)) (ValueIdx.ix2 (⟨r.val % 256, hp⟩ : Fin 256) d)
  rw [flushed5] at h
  rw [View.read_apply] at h
  refine Eq.trans (congrArg _ ?_) (h.trans ?_)
  · refine idx2 ?_ ?_
    · show r.val = win0_5.index t 0 * 256 + 1 * (r.val % 256); rw [(index5 t).1]; exact rowAt ht0
    · show d.val = win0_5.index t 1 * 1024 + 1 * d.val; rw [(index5 t).2]; exact wholeAt _ _
  · exact (written5 _ _ _ _ _ _ _).trans (congrFun (fBlock m c t r ⟨r.val % 256, hp⟩ (rowFrom ht0)) d)

theorem final6 (r : Fin 4096) (d : Fin 1024) :
    (dats m 0 c).arrAt 6 cfg0.N (ValueIdx.ix2 r d) = hRow (ent (n := 4096) (k := 1024) (m ((c : Thread nD τ).loc main_arg0))) (ent (n := 1024) (k := 1024) (m ((c : Thread nD τ).loc main_arg1))) (entF (n := 4096) (k := 1024) (m ((c : Thread nD τ).loc main_arg2))) (gain (k := 1024) (m ((c : Thread nD τ).loc main_arg3))) r d := by
  obtain ⟨t, ht0⟩ := pointOf r
  have hp : r.val % 256 < 256 := Nat.mod_lt _ (by decide)
  have h := congrFun (blocks6 m c t (flush0_6 _)) (ValueIdx.ix2 (⟨r.val % 256, hp⟩ : Fin 256) d)
  rw [flushed6] at h
  rw [View.read_apply] at h
  refine Eq.trans (congrArg _ ?_) (h.trans ?_)
  · refine idx2 ?_ ?_
    · show r.val = win0_6.index t 0 * 256 + 1 * (r.val % 256); rw [(index6 t).1]; exact rowAt ht0
    · show d.val = win0_6.index t 1 * 1024 + 1 * d.val; rw [(index6 t).2]; exact wholeAt _ _
  · exact (written6 _ _ _ _ _ _ _).trans (congrFun (hBlock m c t r ⟨r.val % 256, hp⟩ (rowFrom ht0)) d)

theorem final7 (r : Fin 4096) (d : Fin 1024) :
    (dats m 0 c).arrAt 7 cfg0.N (ValueIdx.ix2 r d) = nRow (ent (n := 4096) (k := 1024) (m ((c : Thread nD τ).loc main_arg0))) (ent (n := 1024) (k := 1024) (m ((c : Thread nD τ).loc main_arg1))) (entF (n := 4096) (k := 1024) (m ((c : Thread nD τ).loc main_arg2))) (gain (k := 1024) (m ((c : Thread nD τ).loc main_arg3))) (gain (k := 1024) (m ((c : Thread nD τ).loc main_arg4))) r d := by
  obtain ⟨t, ht0⟩ := pointOf r
  have hp : r.val % 256 < 256 := Nat.mod_lt _ (by decide)
  have h := congrFun (blocks7 m c t (flush0_7 _)) (ValueIdx.ix2 (⟨r.val % 256, hp⟩ : Fin 256) d)
  rw [flushed7] at h
  rw [View.read_apply] at h
  refine Eq.trans (congrArg _ ?_) (h.trans ?_)
  · refine idx2 ?_ ?_
    · show r.val = win0_7.index t 0 * 256 + 1 * (r.val % 256); rw [(index7 t).1]; exact rowAt ht0
    · show d.val = win0_7.index t 1 * 1024 + 1 * d.val; rw [(index7 t).2]; exact wholeAt _ _
  · exact (written7 _ _ _ _ _ _ _).trans (nBlock m c t r ⟨r.val % 256, hp⟩ (rowFrom ht0) d)

/-! ## The reference -/

section reference
open Cert.MixerOutRefIdeal.Read

variable (y0 : Vec Ideal S4096x1024 .bf16) (y1 : Vec Ideal S1024x1024 .bf16) (y2 : Vec Ideal S4096x1024 .f32) (y3 y4 : Vec Ideal S1x1024 .f32)

theorem ref2 (i : S4096x1024.Idx) : val_main_v2 (F := Ideal) y0 y1 i = fRow (ent y0) (ent y1) (i 0) (i 1) := by
  refine (val_main_v2_apply _ _ _).trans (Finset.sum_congr rfl fun s _ => ?_)
  rw [val_main_v0_apply, val_main_v1_apply]
  refine mul2 (congrArg y0 ?_) (congrArg y1 ?_)
  · refine idx2 ?_ ?_
    · rfl
    · rfl
  · funext a
    apply Fin.ext
    match a with
    | ⟨0, _⟩ => rfl
    | ⟨1, _⟩ => rfl

theorem ref4 (i : (⟨1, ![4096]⟩ : Shape).Idx) : val_main_v4 (F := Ideal) y0 y1 i = squares (fRow (ent y0) (ent y1) (i 0)) := by
  refine (val_main_v4_apply _ _ _).trans (zero_plus _ zeroBits _ _ fun k => ?_)
  refine (val_main_v3_apply _ _ _).trans ?_
  exact mul2 (ref2 y0 y1 _) (ref2 y0 y1 _)

theorem ref12 (i : S4096x1024.Idx) : val_main_v12 (F := Ideal) y0 y1 i = unitRow cn ce (fRow (ent y0) (ent y1) (i 0)) (i 1) := by
  rw [val_main_v12_apply, val_main_v11_apply, val_main_v10_apply, val_main_v9_apply, val_main_v8_apply, val_main_v7_apply, val_main_v6_apply, val_main_v5_apply]
  refine congrArg₂ (fun p q : EReal => p * Ideal.rsqrt (Ideal.div q cn + ce)) (ref2 y0 y1 _) (ref4 y0 y1 _)

theorem ref15 (i : S4096x1024.Idx) : val_main_v15 (F := Ideal) y0 y1 y2 y3 i = hRow (ent y0) (ent y1) (entF y2) (gain y3) (i 0) (i 1) := by
  rw [val_main_v15_apply, val_main_v14_apply, val_main_v13_apply]
  unfold hRow
  refine add2 (congrArg y2 (ValueIdx.eq_ix2 i)) ?_
  refine mul2 (ref12 y0 y1 i) (congrArg y3 ?_)
  exact idx2 rfl rfl

theorem ref18 (i : (⟨1, ![4096]⟩ : Shape).Idx) : val_main_v18 (F := Ideal) y0 y1 y2 y3 i = squares (hRow (ent y0) (ent y1) (entF y2) (gain y3) (i 0)) := by
  refine (val_main_v18_apply _ _ _ _ _).trans (zero_plus _ zeroBits _ _ fun k => ?_)
  refine (val_main_v17_apply _ _ _ _ _).trans ?_
  exact mul2 (ref15 y0 y1 y2 y3 _) (ref15 y0 y1 y2 y3 _)

theorem ref29 (i : S4096x1024.Idx) : val_main_v29 (F := Ideal) y0 y1 y2 y3 y4 i = nRow (ent y0) (ent y1) (entF y2) (gain y3) (gain y4) (i 0) (i 1) := by
  rw [val_main_v29_apply, val_main_v28_apply, val_main_v27_apply, val_main_v26_apply, val_main_v25_apply, val_main_v24_apply, val_main_v23_apply, val_main_v22_apply,
    val_main_v21_apply, val_main_v20_apply, val_main_v19_apply]
  unfold nRow
  refine mul2 ?_ (congrArg y4 ?_)
  · exact congrArg₂ (fun p q : EReal => p * Ideal.rsqrt (Ideal.div q cn + ce)) (ref15 y0 y1 y2 y3 _) (ref18 y0 y1 y2 y3 _)
  · refine idx2 ?_ ?_
    · rfl
    · rfl

end reference

theorem algebraic : @Cert.algebraic_MixerOutIdeal_MixerOutRefIdeal Cert.MixerOutIdeal.Gen.facts Cert.MixerOutRefIdeal.Gen.facts := by
  intro m g m' g' _ ha
  refine ⟨fun c => (dats m 0 c).arrAt 5 cfg0.N, fun c => (dats m 0 c).arrAt 6 cfg0.N, fun c => (dats m 0 c).arrAt 7 cfg0.N, run_blocks m g, ?_⟩
  refine (θ_run Cert.MixerOutRefIdeal.defs _ _).mono (fun r h c => ?_) (Cert.MixerOutRefIdeal.Value.run (F := Ideal) m' g')
  obtain ⟨h5, h6, h7, hk⟩ := h c
  obtain ⟨a0, a1, a2, a3, a4⟩ := ha c
  refine ⟨h5.trans ((Cert.MixerOutRefIdeal.Read.val_main_v16_eq _ _).trans ?_), h6.trans ((Cert.MixerOutRefIdeal.Read.val_main_v15_eq _ _ _ _).trans ?_), h7.trans ((Cert.MixerOutRefIdeal.Read.val_main_v29_eq _ _).trans ?_), hk⟩
  · rw [a0, a1]
    refine funext fun i => ?_
    obtain ⟨r, d, rfl⟩ : ∃ (r : Fin 4096) (d : Fin 1024), i = ValueIdx.ix2 r d := ⟨i 0, i 1, ValueIdx.eq_ix2 i⟩
    exact (ref2 _ _ _).trans (final5 m c r d).symm
  · rw [a0, a1, a2, a3]
    refine funext fun i => ?_
    obtain ⟨r, d, rfl⟩ : ∃ (r : Fin 4096) (d : Fin 1024), i = ValueIdx.ix2 r d := ⟨i 0, i 1, ValueIdx.eq_ix2 i⟩
    exact (ref15 _ _ _ _ _).trans (final6 m c r d).symm
  · rw [a0, a1, a2, a3, a4]
    refine funext fun i => ?_
    obtain ⟨r, d, rfl⟩ : ∃ (r : Fin 4096) (d : Fin 1024), i = ValueIdx.ix2 r d := ⟨i 0, i 1, ValueIdx.eq_ix2 i⟩
    exact (ref29 _ _ _ _ _ _).trans (final7 m c r d).symm

/-- The reference keeps its arguments. -/
theorem refFrame : @Cert.quiescent_MixerOutRefIdeal Cert.MixerOutRefIdeal.Gen.facts := fun m g _ =>
  (θ_run Cert.MixerOutRefIdeal.defs _ _).mono (fun r h => ⟨fun c => (h c).2.2.2, sem_eq_zero_of_no_sems (by decide) r.2⟩) (Cert.MixerOutRefIdeal.Value.run (F := Ideal) m g)

end Cert.MixerOutTie

end
-- ==== Proof.MixerY.lean ====
/- The mixer's two products behind the gates, and their sum, each weighed by the logistic function of its gate. -/
module

public import proofs.«01_k».proof.Proof.Rows
public import proofs.«01_k».proof.Proof.Sgu
public import proofs.«01_k».proof.Proof.Prods
public import proofs.«01_k».proof.Defs
public import proofs.«01_k».proof.Proof.Gen.MixerYIdeal.Value
public import proofs.«01_k».proof.Proof.Gen.MixerYRefIdeal.Run
public import proofs.«01_k».proof.Proof.Gen.MixerYRefIdeal.Read

@[expose] public section

noncomputable section

namespace Cert.MixerYTie

open Idealize.ShloMosaic Idealize.ShloMosaic.TcCoe Idealize.SL.Sem
open Cert.MixerYIdeal Cert.MixerYIdeal.Gen Cert.MixerYIdeal.Value
open Cert.Rows
open scoped BigOperators

def one : EReal := Ideal.ofBits .f32 0x3F800000#32

theorem zeroBits : Ideal.ofBits .f32 0x00000000#32 = 0 := Cert.Sgu.ofBits_zero.trans EReal.coe_zero

/-- The logistic function, by its quotient. -/
def sg (g : EReal) : EReal := Ideal.div one (one + Ideal.exp (-g))

/-- Row r of a product. -/
def dot {n : ℕ} (a : Vec Ideal ⟨2, ![n, 1024]⟩ .bf16) (w : Vec Ideal ⟨2, ![1024, 1024]⟩ .bf16) (r : Fin n) (d : Fin 1024) : EReal :=
  ∑ s : Fin 1024, (a (ValueIdx.ix2 r s) : EReal) * (w (ValueIdx.ix2 s d) : EReal)

/-! ## The kernel's tile -/

variable (x0 x1 x2 x3 : Vec Ideal S256x1024 .bf16) (x4 x5 : Vec Ideal S1024x1024 .bf16)

theorem first (p : Fin 256) (d : Fin 1024) : k0_pay1 (F := Ideal) x0 x4 (ValueIdx.ix2 p d) = dot x0 x4 p d := by
  unfold k0_pay1
  exact Cert.Prods.nn (φ := .bf16) (ψ := .bf16) x0 x4 _ none p d

theorem second (p : Fin 256) (d : Fin 1024) : k0_pay2 (F := Ideal) x1 x5 (ValueIdx.ix2 p d) = dot x1 x5 p d := by
  unfold k0_pay2
  exact Cert.Prods.nn (φ := .bf16) (ψ := .bf16) x1 x5 _ none p d

theorem gated (p : Fin 256) (d : Fin 1024) :
    k0_pay5 (F := Ideal) x0 x4 x1 x5 x2 x3 (ValueIdx.ix2 p d)
      = sg (x2 (ValueIdx.ix2 p d)) * dot x0 x4 p d + sg (x3 (ValueIdx.ix2 p d)) * dot x1 x5 p d := by
  unfold k0_pay5
  show Ideal.div one (one + Ideal.exp (Ideal.ofBits .f32 0x00000000#32 - (x2 (ValueIdx.ix2 p d) : EReal))) * k0_pay1 (F := Ideal) x0 x4 (ValueIdx.ix2 p d)
    + Ideal.div one (one + Ideal.exp (Ideal.ofBits .f32 0x00000000#32 - (x3 (ValueIdx.ix2 p d) : EReal))) * k0_pay2 (F := Ideal) x1 x5 (ValueIdx.ix2 p d) = _
  rw [first, second, zeroBits, zero_sub, zero_sub]
  rfl

theorem written6 (p : Fin 256) (d : Fin 1024) : out0_6 (F := Ideal) x0 x1 x2 x3 x4 x5 (ValueIdx.ix2 p d) = dot x0 x4 p d := by
  unfold out0_6
  refine (congrFun (View.canon_unit_zero zero2 _ _) _).trans ?_
  rw [View.ld_unit_zero zero2 _ x0, View.ld_unit_zero zero2 _ x4]
  exact first x0 x4 p d

theorem written7 (p : Fin 256) (d : Fin 1024) : out0_7 (F := Ideal) x0 x1 x2 x3 x4 x5 (ValueIdx.ix2 p d) = dot x1 x5 p d := by
  unfold out0_7
  refine (congrFun (View.canon_unit_zero zero2 _ _) _).trans ?_
  rw [View.ld_unit_zero zero2 _ x1, View.ld_unit_zero zero2 _ x5]
  exact second x1 x5 p d

theorem written8 (p : Fin 256) (d : Fin 1024) : out0_8 (F := Ideal) x0 x1 x2 x3 x4 x5 (ValueIdx.ix2 p d) = sg (x2 (ValueIdx.ix2 p d)) * dot x0 x4 p d + sg (x3 (ValueIdx.ix2 p d)) * dot x1 x5 p d := by
  unfold out0_8
  refine (congrFun (View.canon_unit_zero zero2 _ _) _).trans ?_
  rw [View.ld_unit_zero zero2 _ x0, View.ld_unit_zero zero2 _ x1, View.ld_unit_zero zero2 _ x2, View.ld_unit_zero zero2 _ x3, View.ld_unit_zero zero2 _ x4, View.ld_unit_zero zero2 _ x5]
  exact gated x0 x1 x2 x3 x4 x5 p d

/-! ## The blocks -/

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 3 := by decide +kernel
theorem index3 : ∀ t : Fin grid0.N, win0_3.index t 0 = t.val ∧ win0_3.index t 1 = 4 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem block0 (t : Fin cfg0.N) (r : Fin 4096) (p : Fin 256) (h : t.val * 256 + p.val = r.val) (d : Fin 1024) :
    (iblk m c 0 t : Vec Ideal S256x1024 .bf16) (ValueIdx.ix2 p d) = m ((c : Thread nD τ).loc main_arg0) (ValueIdx.ix2 r d) := by
  unfold iblk
  rw [View.read_apply]
  show V m c main_arg0 _ = _
  rw [V_main_arg0]
  refine congrArg _ ?_
  refine idx2 ?_ ?_
  · show win0_0.index t 0 * 256 + 1 * p.val = r.val; rw [(index0 t).1]; exact Cert.Prods.step h
  · show win0_0.index t 1 * 1024 + 1 * d.val = d.val; rw [(index0 t).2]; exact Cert.Prods.whole _ _

theorem block1 (t : Fin cfg0.N) (r : Fin 4096) (p : Fin 256) (h : t.val * 256 + p.val = r.val) (d : Fin 1024) :
    (iblk m c 1 t : Vec Ideal S256x1024 .bf16) (ValueIdx.ix2 p d) = m ((c : Thread nD τ).loc main_arg1) (ValueIdx.ix2 r d) := by
  unfold iblk
  rw [View.read_apply]
  show V m c main_arg1 _ = _
  rw [V_main_arg1]
  refine congrArg _ ?_
  refine idx2 ?_ ?_
  · show win0_1.index t 0 * 256 + 1 * p.val = r.val; rw [(index1 t).1]; exact Cert.Prods.step h
  · show win0_1.index t 1 * 1024 + 1 * d.val = d.val; rw [(index1 t).2]; exact Cert.Prods.whole _ _

theorem block2 (t : Fin cfg0.N) (r : Fin 4096) (p : Fin 256) (h : t.val * 256 + p.val = r.val) (d : Fin 1024) (e : Fin 5120) (he : e.val = 3 * 1024 + d.val) :
    (iblk m c 2 t : Vec Ideal S256x1024 .bf16) (ValueIdx.ix2 p d) = m ((c : Thread nD τ).loc main_arg2) (ValueIdx.ix2 r e) := by
  unfold iblk
  rw [View.read_apply]
  show V m c main_arg2 _ = _
  rw [V_main_arg2]
  refine congrArg _ ?_
  refine idx2 ?_ ?_
  · show win0_2.index t 0 * 256 + 1 * p.val = r.val; rw [(index2 t).1]; exact Cert.Prods.step h
  · show win0_2.index t 1 * 1024 + 1 * d.val = e.val; rw [(index2 t).2]; exact Cert.Prods.step he.symm

theorem block3 (t : Fin cfg0.N) (r : Fin 4096) (p : Fin 256) (h : t.val * 256 + p.val = r.val) (d : Fin 1024) (e : Fin 5120) (he : e.val = 4 * 1024 + d.val) :
    (iblk m c 3 t : Vec Ideal S256x1024 .bf16) (ValueIdx.ix2 p d) = m ((c : Thread nD τ).loc main_arg2) (ValueIdx.ix2 r e) := by
  unfold iblk
  rw [View.read_apply]
  show V m c main_arg2 _ = _
  rw [V_main_arg2]
  refine congrArg _ ?_
  refine idx2 ?_ ?_
  · show win0_3.index t 0 * 256 + 1 * p.val = r.val; rw [(index3 t).1]; exact Cert.Prods.step h
  · show win0_3.index t 1 * 1024 + 1 * d.val = e.val; rw [(index3 t).2]; exact Cert.Prods.step he.symm

theorem block4 (t : Fin cfg0.N) (s d : Fin 1024) :
    (iblk m c 4 t : Vec Ideal S1024x1024 .bf16) (ValueIdx.ix2 s d) = m ((c : Thread nD τ).loc main_arg3) (ValueIdx.ix2 s d) := by
  unfold iblk
  rw [View.read_apply]
  show V m c main_arg3 _ = _
  rw [V_main_arg3]
  refine congrArg _ ?_
  refine idx2 ?_ ?_
  · show win0_4.index t 0 * 1024 + 1 * s.val = s.val; rw [(index4 t).1]; exact Cert.Prods.whole _ _
  · show win0_4.index t 1 * 1024 + 1 * d.val = d.val; rw [(index4 t).2]; exact Cert.Prods.whole _ _

theorem block5 (t : Fin cfg0.N) (s d : Fin 1024) :
    (iblk m c 5 t : Vec Ideal S1024x1024 .bf16) (ValueIdx.ix2 s d) = m ((c : Thread nD τ).loc main_arg4) (ValueIdx.ix2 s d) := by
  unfold iblk
  rw [View.read_apply]
  show V m c main_arg4 _ = _
  rw [V_main_arg4]
  refine congrArg _ ?_
  refine idx2 ?_ ?_
  · show win0_5.index t 0 * 1024 + 1 * s.val = s.val; rw [(index5 t).1]; exact Cert.Prods.whole _ _
  · show win0_5.index t 1 * 1024 + 1 * d.val = d.val; rw [(index5 t).2]; exact Cert.Prods.whole _ _

theorem firstBlock (t : Fin cfg0.N) (r : Fin 4096) (p : Fin 256) (h : t.val * 256 + p.val = r.val) (d : Fin 1024) :
    dot (iblk m c 0 t : Vec Ideal S256x1024 .bf16) (iblk m c 4 t) p d = dot (n := 4096) (m ((c : Thread nD τ).loc main_arg0)) (m ((c : Thread nD τ).loc main_arg3)) r d :=
  Finset.sum_congr rfl fun s _ => mul2 (block0 m c t r p h s) (block4 m c t s d)

theorem secondBlock (t : Fin cfg0.N) (r : Fin 4096) (p : Fin 256) (h : t.val * 256 + p.val = r.val) (d : Fin 1024) :
    dot (iblk m c 1 t : Vec Ideal S256x1024 .bf16) (iblk m c 5 t) p d = dot (n := 4096) (m ((c : Thread nD τ).loc main_arg1)) (m ((c : Thread nD τ).loc main_arg4)) r d :=
  Finset.sum_congr rfl fun s _ => mul2 (block1 m c t r p h s) (block5 m c t s d)

/-- The gates' columns of the wide array. -/
def colA (d : Fin 1024) : Fin 5120 := ⟨3 * 1024 + d.val, by have := d.isLt; omega⟩
def colB (d : Fin 1024) : Fin 5120 := ⟨4 * 1024 + d.val, by have := d.isLt; omega⟩

/-- The gated sum. -/
def mix (a b : Vec Ideal S4096x1024 .bf16) (z : Vec Ideal S4096x5120 .bf16) (wa wb : Vec Ideal S1024x1024 .bf16) (r : Fin 4096) (d : Fin 1024) : EReal :=
  sg (z (ValueIdx.ix2 r (colA d))) * dot a wa r d + sg (z (ValueIdx.ix2 r (colB d))) * dot b wb r d

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

theorem final6 (r : Fin 4096) (d : Fin 1024) :
    (dats m 0 c).arrAt 6 cfg0.N (ValueIdx.ix2 r d) = dot (n := 4096) (m ((c : Thread nD τ).loc main_arg0)) (m ((c : Thread nD τ).loc main_arg3)) r d := by
  obtain ⟨t, ht0⟩ := pointOf r
  have hp : r.val % 256 < 256 := Nat.mod_lt _ (by decide)
  have h := congrFun (blocks6 m c t (flush0_6 _)) (ValueIdx.ix2 (⟨r.val % 256, hp⟩ : Fin 256) d)
  rw [flushed6] at h
  rw [View.read_apply] at h
  refine Eq.trans (congrArg _ ?_) (h.trans ?_)
  · refine idx2 ?_ ?_
    · show r.val = win0_6.index t 0 * 256 + 1 * (r.val % 256); rw [(index6 t).1]; exact rowAt ht0
    · show d.val = win0_6.index t 1 * 1024 + 1 * d.val; rw [(index6 t).2]; exact wholeAt _ _
  · exact (written6 _ _ _ _ _ _ _ _).trans (firstBlock m c t r ⟨r.val % 256, hp⟩ (rowFrom ht0) d)

theorem final7 (r : Fin 4096) (d : Fin 1024) :
    (dats m 0 c).arrAt 7 cfg0.N (ValueIdx.ix2 r d) = dot (n := 4096) (m ((c : Thread nD τ).loc main_arg1)) (m ((c : Thread nD τ).loc main_arg4)) r d := by
  obtain ⟨t, ht0⟩ := pointOf r
  have hp : r.val % 256 < 256 := Nat.mod_lt _ (by decide)
  have h := congrFun (blocks7 m c t (flush0_7 _)) (ValueIdx.ix2 (⟨r.val % 256, hp⟩ : Fin 256) d)
  rw [flushed7] at h
  rw [View.read_apply] at h
  refine Eq.trans (congrArg _ ?_) (h.trans ?_)
  · refine idx2 ?_ ?_
    · show r.val = win0_7.index t 0 * 256 + 1 * (r.val % 256); rw [(index7 t).1]; exact rowAt ht0
    · show d.val = win0_7.index t 1 * 1024 + 1 * d.val; rw [(index7 t).2]; exact wholeAt _ _
  · exact (written7 _ _ _ _ _ _ _ _).trans (secondBlock m c t r ⟨r.val % 256, hp⟩ (rowFrom ht0) d)

theorem final8 (r : Fin 4096) (d : Fin 1024) :
    (dats m 0 c).arrAt 8 cfg0.N (ValueIdx.ix2 r d) = mix (m ((c : Thread nD τ).loc main_arg0)) (m ((c : Thread nD τ).loc main_arg1)) (m ((c : Thread nD τ).loc main_arg2)) (m ((c : Thread nD τ).loc main_arg3)) (m ((c : Thread nD τ).loc main_arg4)) r d := by
  obtain ⟨t, ht0⟩ := pointOf r
  have hp : r.val % 256 < 256 := Nat.mod_lt _ (by decide)
  have h := congrFun (blocks8 m c t (flush0_8 _)) (ValueIdx.ix2 (⟨r.val % 256, hp⟩ : Fin 256) d)
  rw [flushed8] at h
  rw [View.read_apply] at h
  refine Eq.trans (congrArg _ ?_) (h.trans ?_)
  · refine idx2 ?_ ?_
    · show r.val = win0_8.index t 0 * 256 + 1 * (r.val % 256); rw [(index8 t).1]; exact rowAt ht0
    · show d.val = win0_8.index t 1 * 1024 + 1 * d.val; rw [(index8 t).2]; exact wholeAt _ _
  · refine (written8 _ _ _ _ _ _ _ _).trans ?_
    unfold mix
    rw [firstBlock m c t r ⟨r.val % 256, hp⟩ (rowFrom ht0) d, secondBlock m c t r ⟨r.val % 256, hp⟩ (rowFrom ht0) d]
    exact congrArg₂ (fun p q : EReal => sg p * _ + sg q * _) (block2 m c t r ⟨r.val % 256, hp⟩ (rowFrom ht0) d (colA d) rfl) (block3 m c t r ⟨r.val % 256, hp⟩ (rowFrom ht0) d (colB d) rfl)

/-! ## The reference -/

section reference
open Cert.MixerYRefIdeal.Read

variable (y0 y1 : Vec Ideal S4096x1024 .bf16) (y2 : Vec Ideal S4096x5120 .bf16) (y3 y4 : Vec Ideal S1024x1024 .bf16)

theorem ref2 (i : S4096x1024.Idx) : val_main_v2 (F := Ideal) y0 y3 i = dot (n := 4096) y0 y3 (i 0) (i 1) := by
  refine (val_main_v2_apply _ _ _).trans (Finset.sum_congr rfl fun s _ => ?_)
  rw [val_main_v0_apply, val_main_v1_apply]
  refine mul2 (congrArg y0 ?_) (congrArg y3 ?_)
  · refine idx2 ?_ ?_
    · rfl
    · rfl
  · funext a
    apply Fin.ext
    match a with
    | ⟨0, _⟩ => rfl
    | ⟨1, _⟩ => rfl

theorem ref5 (i : S4096x1024.Idx) : val_main_v5 (F := Ideal) y1 y4 i = dot (n := 4096) y1 y4 (i 0) (i 1) := by
  refine (val_main_v5_apply _ _ _).trans (Finset.sum_congr rfl fun s _ => ?_)
  rw [val_main_v3_apply, val_main_v4_apply]
  refine mul2 (congrArg y1 ?_) (congrArg y4 ?_)
  · refine idx2 ?_ ?_
    · rfl
    · rfl
  · funext a
    apply Fin.ext
    match a with
    | ⟨0, _⟩ => rfl
    | ⟨1, _⟩ => rfl

theorem ref15 (i : S4096x1024.Idx) : val_main_v15 (F := Ideal) y2 i = sg (y2 (ValueIdx.ix2 (i 0) (colA (i 1)))) := by
  rw [val_main_v15_apply, val_main_v14_apply, val_main_v13_apply, val_main_v12_apply, val_main_v11_apply, val_main_v10_apply, val_main_v7_apply, val_main_v6_apply]
  refine congrArg (fun g : EReal => sg g) (congrArg y2 ?_)
  exact idx2 rfl rfl

theorem ref22 (i : S4096x1024.Idx) : val_main_v22 (F := Ideal) y2 i = sg (y2 (ValueIdx.ix2 (i 0) (colB (i 1)))) := by
  rw [val_main_v22_apply, val_main_v21_apply, val_main_v20_apply, val_main_v19_apply, val_main_v18_apply, val_main_v17_apply, val_main_v9_apply, val_main_v8_apply]
  refine congrArg (fun g : EReal => sg g) (congrArg y2 ?_)
  exact idx2 rfl rfl

theorem ref27 (i : S4096x1024.Idx) : val_main_v27 (F := Ideal) y0 y1 y2 y3 y4 i = mix y0 y1 y2 y3 y4 (i 0) (i 1) := by
  rw [val_main_v27_apply, val_main_v24_apply, val_main_v23_apply, val_main_v16_apply]
  exact add2 (mul2 (ref15 y2 i) (ref2 y0 y3 i)) (mul2 (ref22 y2 i) (ref5 y1 y4 i))

end reference

theorem algebraic : @Cert.algebraic_MixerYIdeal_MixerYRefIdeal Cert.MixerYIdeal.Gen.facts Cert.MixerYRefIdeal.Gen.facts := by
  intro m g m' g' _ ha
  refine ⟨fun c => (dats m 0 c).arrAt 6 cfg0.N, fun c => (dats m 0 c).arrAt 7 cfg0.N, fun c => (dats m 0 c).arrAt 8 cfg0.N, run_blocks m g, ?_⟩
  refine (θ_run Cert.MixerYRefIdeal.defs _ _).mono (fun r h c => ?_) (Cert.MixerYRefIdeal.Value.run (F := Ideal) m' g')
  obtain ⟨h6, h7, h8, hk⟩ := h c
  obtain ⟨a0, a1, a2, a3, a4⟩ := ha c
  refine ⟨h6.trans ((Cert.MixerYRefIdeal.Read.val_main_v25_eq _ _).trans ?_), h7.trans ((Cert.MixerYRefIdeal.Read.val_main_v26_eq _ _).trans ?_), h8.trans ((Cert.MixerYRefIdeal.Read.val_main_v27_eq _ _ _ _ _).trans ?_), hk⟩
  · rw [a0, a3]
    refine funext fun i => ?_
    obtain ⟨r, d, rfl⟩ : ∃ (r : Fin 4096) (d : Fin 1024), i = ValueIdx.ix2 r d := ⟨i 0, i 1, ValueIdx.eq_ix2 i⟩
    exact (ref2 _ _ _).trans (final6 m c r d).symm
  · rw [a1, a4]
    refine funext fun i => ?_
    obtain ⟨r, d, rfl⟩ : ∃ (r : Fin 4096) (d : Fin 1024), i = ValueIdx.ix2 r d := ⟨i 0, i 1, ValueIdx.eq_ix2 i⟩
    exact (ref5 _ _ _).trans (final7 m c r d).symm
  · rw [a0, a1, a2, a3, a4]
    refine funext fun i => ?_
    obtain ⟨r, d, rfl⟩ : ∃ (r : Fin 4096) (d : Fin 1024), i = ValueIdx.ix2 r d := ⟨i 0, i 1, ValueIdx.eq_ix2 i⟩
    exact (ref27 _ _ _ _ _ _).trans (final8 m c r d).symm

/-- The reference keeps its arguments. -/
theorem refFrame : @Cert.quiescent_MixerYRefIdeal Cert.MixerYRefIdeal.Gen.facts := fun m g _ =>
  (θ_run Cert.MixerYRefIdeal.defs _ _).mono (fun r h => ⟨fun c => (h c).2.2.2, sem_eq_zero_of_no_sems (by decide) r.2⟩) (Cert.MixerYRefIdeal.Value.run (F := Ideal) m g)

end Cert.MixerYTie

end
-- ==== Proof.MixerBwdY.lean ====
/- The backward pass of the mixer's last norm, its last product and its two gates: the gradient through the norm, its product with the weight's
   rows, that times each gate's logistic function, the two products with the weights behind the gates, and the gradient of the norm's factors. -/
module

public import proofs.«01_k».proof.Proof.RmsBack
public import proofs.«01_k».proof.Defs
public import proofs.«01_k».proof.Proof.Gen.MixerBwdYIdeal.Value
public import proofs.«01_k».proof.Proof.Gen.MixerBwdYRefIdeal.Run
public import proofs.«01_k».proof.Proof.Gen.MixerBwdYRefIdeal.Read
public import Idealize.ShloMosaic.Lib.Tactic.ValueTie

@[expose] public section

noncomputable section

namespace Cert.MixerBwdYTie

open Idealize.ShloMosaic Idealize.ShloMosaic.TcCoe Idealize.SL.Sem
open Cert.MixerBwdYIdeal Cert.MixerBwdYIdeal.Gen Cert.MixerBwdYIdeal.Value
open Cert.Rows Cert.RmsBack
open scoped BigOperators

/-- Row r of the kept product, and of the incoming gradient. -/
def row {n : ℕ} (x : Vec Ideal ⟨2, ![n, 1024]⟩ .bf16) (r : Fin n) (d : Fin 1024) : EReal := (x (ValueIdx.ix2 r d) : EReal)
def rowF {n : ℕ} (x : Vec Ideal ⟨2, ![n, 1024]⟩ .f32) (r : Fin n) (d : Fin 1024) : EReal := (x (ValueIdx.ix2 r d) : EReal)

/-- A row times the factors. -/
def scaled (v : Fin 1024 → EReal) (x2 : Vec Ideal S1x1024 .f32) (d : Fin 1024) : EReal := v d * (x2 (ValueIdx.ix2 0 d) : EReal)

/-- Row r of the gradient of the last product. -/
def dmRow {n : ℕ} (x0 : Vec Ideal ⟨2, ![n, 1024]⟩ .f32) (x1 : Vec Ideal ⟨2, ![n, 1024]⟩ .bf16) (x2 : Vec Ideal S1x1024 .f32) (r : Fin n) (d : Fin 1024) : EReal :=
  back (row x1 r) (scaled (rowF x0 r) x2) d

/-- A row against row j of a weight. -/
def against (v : Fin 1024 → EReal) (w : Vec Ideal S1024x1024 .bf16) (j : Fin 1024) : EReal :=
  ∑ s : Fin 1024, v s * (w (ValueIdx.ix2 j s) : EReal)

def one : EReal := Ideal.ofBits .f32 0x3F800000#32

/-- The logistic function, by its quotient. -/
def sg (g : EReal) : EReal := Ideal.div one (one + Ideal.exp (-g))

/-- What row r adds to the gradient of the factors. -/
def dgPart {n : ℕ} (x0 : Vec Ideal ⟨2, ![n, 1024]⟩ .f32) (x1 : Vec Ideal ⟨2, ![n, 1024]⟩ .bf16) (r : Fin n) (d : Fin 1024) : EReal :=
  (rowF x0 r d * row x1 r d) * inv (row x1 r)

/-! ## The kernel's tile -/

theorem rT (x1 : Vec Ideal S256x1024 .bf16) (p : Fin 256) : k0_pay6 (F := Ideal) x1 (ValueIdx.ix2 p (0 : Fin 1)) = inv (row x1 p) :=
  congrArg Ideal.rsqrt (msTile (k0_pay5 (F := Ideal) x1) _ _ _ _ _ p 0)

def dmT (x0 : Vec Ideal S256x1024 .f32) (x1 : Vec Ideal S256x1024 .bf16) (x2 : Vec Ideal S1x1024 .f32) : FVec Ideal S256x1024 .bf16 := k0_pay8 (F := Ideal) x1 x2 x0

theorem dmT_apply (x0 : Vec Ideal S256x1024 .f32) (x1 : Vec Ideal S256x1024 .bf16) (x2 : Vec Ideal S1x1024 .f32) (p : Fin 256) (d : Fin 1024) : dmT x0 x1 x2 (ValueIdx.ix2 p d) = dmRow x0 x1 x2 p d := by
  unfold dmT k0_pay8 dmRow
  refine (backTile (k0_pay5 (F := Ideal) x1) _ (k0_pay6 (F := Ideal) x1) _ _ _ _ _ _ p d (rT x1 p)).trans ?_
  refine congrArg (fun t => back (row x1 p) t d) (funext fun k => ?_)
  exact congrArg (fun q : EReal => rowF x0 p k * q) (ValueIdx.broadcastTo_1b_ab_apply _ _ _ _)

def dgT (x0 : Vec Ideal S256x1024 .f32) (x1 : Vec Ideal S256x1024 .bf16) (acc : Vec Ideal S1x1024 .f32) : FVec Ideal S1x1024 .f32 :=
  k0_pay10 (F := Ideal) (k0_pay7 (F := Ideal) x1 x0) acc

theorem dgT_apply (x0 : Vec Ideal S256x1024 .f32) (x1 : Vec Ideal S256x1024 .bf16) (acc : Vec Ideal S1x1024 .f32) (d : Fin 1024) :
    dgT x0 x1 acc (ValueIdx.ix2 (0 : Fin 1) d) = (acc (ValueIdx.ix2 0 d) : EReal) + ∑ p : Fin 256, dgPart x0 x1 p d := by
  unfold dgT k0_pay10
  refine add2 (castSelf acc _ 0 d) ?_
  unfold k0_pay7
  refine (colSum _ _ _ _ _ _ 0 d).trans ?_
  refine Finset.sum_congr rfl fun p _ => ?_
  exact congrArg (fun v : EReal => (rowF x0 p d * row x1 p d) * v) ((col _ _ p d).trans (rT x1 p))

/-- The two gradients in front of the gates, and the two behind them. -/
def dyaT (y : FVec Ideal S256x1024 .bf16) (w : Vec Ideal S1024x1024 .bf16) (g : Vec Ideal S256x1024 .bf16) : FVec Ideal S256x1024 .bf16 := k0_pay14 (F := Ideal) y w g
def dybT (y : FVec Ideal S256x1024 .bf16) (w : Vec Ideal S1024x1024 .bf16) (g : Vec Ideal S256x1024 .bf16) : FVec Ideal S256x1024 .bf16 := k0_pay15 (F := Ideal) y w g
def daT (y : FVec Ideal S256x1024 .bf16) (w : Vec Ideal S1024x1024 .bf16) : FVec Ideal S256x1024 .bf16 := k0_pay3 (F := Ideal) y w
def dbT (y : FVec Ideal S256x1024 .bf16) (w : Vec Ideal S1024x1024 .bf16) : FVec Ideal S256x1024 .bf16 := k0_pay4 (F := Ideal) y w

theorem gateA (g : Vec Ideal S256x1024 .bf16) (p : Fin 256) (d : Fin 1024) : k0_pay12 (F := Ideal) g (ValueIdx.ix2 p d) = sg (g (ValueIdx.ix2 p d)) := by
  unfold k0_pay12
  show Ideal.div one (one + Ideal.exp (Ideal.ofBits .f32 0x00000000#32 - (g (ValueIdx.ix2 p d) : EReal))) = _
  rw [zeroBits, zero_sub]
  rfl

theorem gateB (g : Vec Ideal S256x1024 .bf16) (p : Fin 256) (d : Fin 1024) : k0_pay13 (F := Ideal) g (ValueIdx.ix2 p d) = sg (g (ValueIdx.ix2 p d)) := by
  unfold k0_pay13
  show Ideal.div one (one + Ideal.exp (Ideal.ofBits .f32 0x00000000#32 - (g (ValueIdx.ix2 p d) : EReal))) = _
  rw [zeroBits, zero_sub]
  rfl

theorem dyTile (y : FVec Ideal S256x1024 .bf16) (w : Vec Ideal S1024x1024 .bf16) (p : Fin 256) (d : Fin 1024) :
    k0_pay11 (F := Ideal) y w (ValueIdx.ix2 p d) = against (row y p) w d := by
  unfold k0_pay11
  exact Cert.Prods.nt (φ := .bf16) (ψ := .bf16) y w _ none p d

theorem dyaT_apply (y : FVec Ideal S256x1024 .bf16) (w : Vec Ideal S1024x1024 .bf16) (g : Vec Ideal S256x1024 .bf16) (p : Fin 256) (d : Fin 1024) :
    dyaT y w g (ValueIdx.ix2 p d) = against (row y p) w d * sg (g (ValueIdx.ix2 p d)) :=
  mul2 (dyTile y w p d) (gateA g p d)

theorem dybT_apply (y : FVec Ideal S256x1024 .bf16) (w : Vec Ideal S1024x1024 .bf16) (g : Vec Ideal S256x1024 .bf16) (p : Fin 256) (d : Fin 1024) :
    dybT y w g (ValueIdx.ix2 p d) = against (row y p) w d * sg (g (ValueIdx.ix2 p d)) :=
  mul2 (dyTile y w p d) (gateB g p d)

theorem daT_apply (y : FVec Ideal S256x1024 .bf16) (w : Vec Ideal S1024x1024 .bf16) (p : Fin 256) (d : Fin 1024) : daT y w (ValueIdx.ix2 p d) = against (row y p) w d := by
  unfold daT k0_pay3
  exact Cert.Prods.nt (φ := .bf16) (ψ := .bf16) y w _ none p d

theorem dbT_apply (y : FVec Ideal S256x1024 .bf16) (w : Vec Ideal S1024x1024 .bf16) (p : Fin 256) (d : Fin 1024) : dbT y w (ValueIdx.ix2 p d) = against (row y p) w d := by
  unfold dbT k0_pay4
  exact Cert.Prods.nt (φ := .bf16) (ψ := .bf16) y w _ none p d

section leaves
variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S2x256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S1x1024 .f32) (harg17 : arg17.IsWhole)

theorem leftA10 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = dmT x0 x1 x2 := by
  unfold out0_A_10
  rw [View.read_writes_eq_canon _ _ _ (cover0_A_10 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, ld2]
  refine (View.canon_unit_zero zero2 _ _).trans ?_
  rfl

theorem leftB10 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = dmT x0 x1 x2 := by
  unfold out0_B_10
  rw [View.read_writes_eq_canon _ _ _ (cover0_B_10 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, ld2]
  refine (View.canon_unit_zero zero2 _ _).trans ?_
  rfl

theorem leftA11 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = dyaT (dmT x0 x1 x2) x3 x6 := by
  unfold out0_A_11
  rw [View.read_writes_eq_canon _ _ _ (cover0_A_11 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg7.read_unread, ld2]
  refine (View.canon_unit_zero zero2 _ _).trans ?_
  rfl

theorem leftB11 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = dyaT (dmT x0 x1 x2) x3 x6 := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg7.read_unread, ld2]
  refine (View.canon_unit_zero zero2 _ _).trans ?_
  rfl

theorem leftA12 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = dybT (dmT x0 x1 x2) x3 x7 := by
  unfold out0_A_12
  rw [View.read_writes_eq_canon _ _ _ (cover0_A_12 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg8.read_unread, ld2]
  refine (View.canon_unit_zero zero2 _ _).trans ?_
  rfl

theorem leftB12 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = dybT (dmT x0 x1 x2) x3 x7 := by
  unfold out0_B_12
  rw [View.read_writes_eq_canon _ _ _ (cover0_B_12 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg8.read_unread, ld2]
  refine (View.canon_unit_zero zero2 _ _).trans ?_
  rfl

theorem leftA14 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = daT (dyaT (dmT x0 x1 x2) x3 x6) x8 := by
  unfold out0_A_14
  rw [View.read_writes_eq_canon _ _ _ (cover0_A_14 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg7.read_unread, harg9.read_unread, ld2]
  refine (View.canon_unit_zero zero2 _ _).trans ?_
  rfl

theorem leftB14 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = daT (dyaT (dmT x0 x1 x2) x3 x6) x8 := by
  unfold out0_B_14
  rw [View.read_writes_eq_canon _ _ _ (cover0_B_14 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg7.read_unread, harg9.read_unread, ld2]
  refine (View.canon_unit_zero zero2 _ _).trans ?_
  rfl

theorem leftA15 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = dbT (dybT (dmT x0 x1 x2) x3 x7) x9 := by
  unfold out0_A_15
  rw [View.read_writes_eq_canon _ _ _ (cover0_A_15 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg8.read_unread, harg10.read_unread, ld2]
  refine (View.canon_unit_zero zero2 _ _).trans ?_
  rfl

theorem leftB15 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = dbT (dybT (dmT x0 x1 x2) x3 x7) x9 := by
  unfold out0_B_15
  rw [View.read_writes_eq_canon _ _ _ (cover0_B_15 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg8.read_unread, harg10.read_unread, ld2]
  refine (View.canon_unit_zero zero2 _ _).trans ?_
  rfl

theorem leftA16 (hc0 : cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = dgT x0 x1 (k0_pay9 (F := Ideal)) := by
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, ld2]
  refine (View.canon_cons_unit_zero zero2 _ _ _).trans ?_
  exact congrArg (dgT x0 x1) (View.readCov_unit_lit _ _ _ (by intro a; fin_cases a <;> rfl))

theorem leftB16 (hc0 : ¬cond0_0 i) (x0 : Vec Ideal S256x1024 .f32) (x1 : Vec Ideal S256x1024 .bf16) (x2 : Vec Ideal S1x1024 .f32) (x3 : Vec Ideal S1024x1024 .bf16) (x4 x5 x6 x7 : Vec Ideal S256x1024 .bf16) (x8 x9 : Vec Ideal S1024x1024 .bf16) (xo16 : Vec Ideal S1x1024 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo16 = dgT x0 x1 xo16 := by
  unfold out0_B_16
  rw [View.read_writes_eq_canon _ _ _ (cover0_B_16 _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg17.read_unread, ld2]
  refine (View.canon_unit_zero zero2 _ _).trans ?_
  rfl

end leaves

/-! ## The blocks -/

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = t.val ∧ win0_12.index t 1 = 0 := by decide +kernel
theorem index14 : ∀ t : Fin grid0.N, win0_14.index t 0 = t.val ∧ win0_14.index t 1 = 0 := by decide +kernel
theorem index15 : ∀ t : Fin grid0.N, win0_15.index t 0 = t.val ∧ win0_15.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index6 : ∀ t : Fin grid0.N, win0_6.index t 0 = t.val ∧ win0_6.index t 1 = 3 := by decide +kernel
theorem index7 : ∀ t : Fin grid0.N, win0_7.index t 0 = t.val ∧ win0_7.index t 1 = 4 := by decide +kernel

theorem block0 (t : Fin cfg0.N) (r : Fin 4096) (p : Fin 256) (h : t.val * 256 + p.val = r.val) (d : Fin 1024) :
    (iblk m c 0 t : Vec Ideal S256x1024 .f32) (ValueIdx.ix2 p d) = m ((c : Thread nD τ).loc main_arg0) (ValueIdx.ix2 r d) := by
  unfold iblk
  rw [View.read_apply]
  show V m c main_arg0 _ = _
  rw [V_main_arg0]
  refine congrArg _ ?_
  refine idx2 ?_ ?_
  · show win0_0.index t 0 * 256 + 1 * p.val = r.val; rw [(index0 t).1]; exact Cert.Prods.step h
  · show win0_0.index t 1 * 1024 + 1 * d.val = d.val; rw [(index0 t).2]; exact Cert.Prods.whole _ _

theorem block1 (t : Fin cfg0.N) (r : Fin 4096) (p : Fin 256) (h : t.val * 256 + p.val = r.val) (d : Fin 1024) :
    (iblk m c 1 t : Vec Ideal S256x1024 .bf16) (ValueIdx.ix2 p d) = m ((c : Thread nD τ).loc main_arg1) (ValueIdx.ix2 r d) := by
  unfold iblk
  rw [View.read_apply]
  show V m c main_arg1 _ = _
  rw [V_main_arg1]
  refine congrArg _ ?_
  refine idx2 ?_ ?_
  · show win0_1.index t 0 * 256 + 1 * p.val = r.val; rw [(index1 t).1]; exact Cert.Prods.step h
  · show win0_1.index t 1 * 1024 + 1 * d.val = d.val; rw [(index1 t).2]; exact Cert.Prods.whole _ _

theorem block2 (t : Fin cfg0.N) (d : Fin 1024) :
    (iblk m c 2 t : Vec Ideal S1x1024 .f32) (ValueIdx.ix2 0 d) = m ((c : Thread nD τ).loc main_arg2) (ValueIdx.ix2 0 d) := by
  unfold iblk
  rw [View.read_apply]
  show V m c main_arg2 _ = _
  rw [V_main_arg2]
  refine congrArg _ ?_
  refine idx2 ?_ ?_
  · show win0_2.index t 0 * 1 + 1 * 0 = 0; rw [(index2 t).1]
  · show win0_2.index t 1 * 1024 + 1 * d.val = d.val; rw [(index2 t).2]; exact Cert.Prods.whole _ _

theorem block6 (t : Fin cfg0.N) (r : Fin 4096) (p : Fin 256) (h : t.val * 256 + p.val = r.val) (d : Fin 1024) (e : Fin 5120) (he : e.val = 3 * 1024 + d.val) :
    (iblk m c 6 t : Vec Ideal S256x1024 .bf16) (ValueIdx.ix2 p d) = m ((c : Thread nD τ).loc main_arg6) (ValueIdx.ix2 r e) := by
  unfold iblk
  rw [View.read_apply]
  show V m c main_arg6 _ = _
  rw [V_main_arg6]
  refine congrArg _ ?_
  refine idx2 ?_ ?_
  · show win0_6.index t 0 * 256 + 1 * p.val = r.val; rw [(index6 t).1]; exact Cert.Prods.step h
  · show win0_6.index t 1 * 1024 + 1 * d.val = e.val; rw [(index6 t).2]; exact Cert.Prods.step he.symm

theorem block7 (t : Fin cfg0.N) (r : Fin 4096) (p : Fin 256) (h : t.val * 256 + p.val = r.val) (d : Fin 1024) (e : Fin 5120) (he : e.val = 4 * 1024 + d.val) :
    (iblk m c 7 t : Vec Ideal S256x1024 .bf16) (ValueIdx.ix2 p d) = m ((c : Thread nD τ).loc main_arg6) (ValueIdx.ix2 r e) := by
  unfold iblk
  rw [View.read_apply]
  show V m c main_arg6 _ = _
  rw [V_main_arg6]
  refine congrArg _ ?_
  refine idx2 ?_ ?_
  · show win0_7.index t 0 * 256 + 1 * p.val = r.val; rw [(index7 t).1]; exact Cert.Prods.step h
  · show win0_7.index t 1 * 1024 + 1 * d.val = e.val; rw [(index7 t).2]; exact Cert.Prods.step he.symm

theorem block3 (t : Fin cfg0.N) (s d : Fin 1024) :
    (iblk m c 3 t : Vec Ideal S1024x1024 .bf16) (ValueIdx.ix2 s d) = m ((c : Thread nD τ).loc main_arg3) (ValueIdx.ix2 s d) := by
  unfold iblk
  rw [View.read_apply]
  show V m c main_arg3 _ = _
  rw [V_main_arg3]
  refine congrArg _ ?_
  refine idx2 ?_ ?_
  · show win0_3.index t 0 * 1024 + 1 * s.val = s.val; rw [(index3 t).1]; exact Cert.Prods.whole _ _
  · show win0_3.index t 1 * 1024 + 1 * d.val = d.val; rw [(index3 t).2]; exact Cert.Prods.whole _ _

theorem block8 (t : Fin cfg0.N) (s d : Fin 1024) :
    (iblk m c 8 t : Vec Ideal S1024x1024 .bf16) (ValueIdx.ix2 s d) = m ((c : Thread nD τ).loc main_arg7) (ValueIdx.ix2 s d) := by
  unfold iblk
  rw [View.read_apply]
  show V m c main_arg7 _ = _
  rw [V_main_arg7]
  refine congrArg _ ?_
  refine idx2 ?_ ?_
  · show win0_8.index t 0 * 1024 + 1 * s.val = s.val; rw [(index8 t).1]; exact Cert.Prods.whole _ _
  · show win0_8.index t 1 * 1024 + 1 * d.val = d.val; rw [(index8 t).2]; exact Cert.Prods.whole _ _

theorem block9 (t : Fin cfg0.N) (s d : Fin 1024) :
    (iblk m c 9 t : Vec Ideal S1024x1024 .bf16) (ValueIdx.ix2 s d) = m ((c : Thread nD τ).loc main_arg8) (ValueIdx.ix2 s d) := by
  unfold iblk
  rw [View.read_apply]
  show V m c main_arg8 _ = _
  rw [V_main_arg8]
  refine congrArg _ ?_
  refine idx2 ?_ ?_
  · show win0_9.index t 0 * 1024 + 1 * s.val = s.val; rw [(index9 t).1]; exact Cert.Prods.whole _ _
  · show win0_9.index t 1 * 1024 + 1 * d.val = d.val; rw [(index9 t).2]; exact Cert.Prods.whole _ _

/-- The gates' columns of the wide array. -/
def colA (d : Fin 1024) : Fin 5120 := ⟨3 * 1024 + d.val, by have := d.isLt; omega⟩
def colB (d : Fin 1024) : Fin 5120 := ⟨4 * 1024 + d.val, by have := d.isLt; omega⟩

/-- Row r of a gradient in front of a gate whose columns are named by k. -/
def gRow (k : Fin 1024 → Fin 5120) (dm : Fin 1024 → EReal) (w : Vec Ideal S1024x1024 .bf16) (z : Vec Ideal S4096x5120 .bf16) (r : Fin 4096) (d : Fin 1024) : EReal :=
  against dm w d * sg (z (ValueIdx.ix2 r (k d)))

theorem dmBlock (t : Fin cfg0.N) (r : Fin 4096) (p : Fin 256) (h : t.val * 256 + p.val = r.val) : row (dmT (iblk m c 0 t : Vec Ideal S256x1024 .f32) (iblk m c 1 t : Vec Ideal S256x1024 .bf16) (iblk m c 2 t)) p = dmRow (n := 4096) (m ((c : Thread nD τ).loc main_arg0)) (m ((c : Thread nD τ).loc main_arg1)) (m ((c : Thread nD τ).loc main_arg2)) r := by
  funext d
  refine (dmT_apply _ _ _ p d).trans ?_
  unfold dmRow
  have e1 : row (iblk m c 1 t : Vec Ideal S256x1024 .bf16) p = row (n := 4096) (m ((c : Thread nD τ).loc main_arg1)) r := funext fun d => block1 m c t r p h d
  have e0 : scaled (rowF (iblk m c 0 t : Vec Ideal S256x1024 .f32) p) (iblk m c 2 t) = scaled (rowF (n := 4096) (m ((c : Thread nD τ).loc main_arg0)) r) (m ((c : Thread nD τ).loc main_arg2)) :=
    funext fun d => mul2 (block0 m c t r p h d) (block2 m c t d)
  rw [e1, e0]

theorem againstBlock (v : Fin 1024 → EReal) {w w' : Vec Ideal S1024x1024 .bf16} (h : ∀ s d : Fin 1024, w (ValueIdx.ix2 s d) = w' (ValueIdx.ix2 s d)) (d : Fin 1024) :
    against v w d = against v w' d :=
  Finset.sum_congr rfl fun s _ => congrArg (fun q : EReal => v s * q) (h d s)

theorem dyaBlock (t : Fin cfg0.N) (r : Fin 4096) (p : Fin 256) (h : t.val * 256 + p.val = r.val) :
    row (dyaT (dmT (iblk m c 0 t : Vec Ideal S256x1024 .f32) (iblk m c 1 t : Vec Ideal S256x1024 .bf16) (iblk m c 2 t)) (iblk m c 3 t) (iblk m c 6 t)) p = gRow colA (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r := by
  funext d
  refine (dyaT_apply _ _ _ p d).trans ?_
  rw [dmBlock m c t r p h]
  exact congrArg₂ (fun p q : EReal => p * sg q) (againstBlock _ (block3 m c t) d) (block6 m c t r p h d (colA d) rfl)

theorem dybBlock (t : Fin cfg0.N) (r : Fin 4096) (p : Fin 256) (h : t.val * 256 + p.val = r.val) :
    row (dybT (dmT (iblk m c 0 t : Vec Ideal S256x1024 .f32) (iblk m c 1 t : Vec Ideal S256x1024 .bf16) (iblk m c 2 t)) (iblk m c 3 t) (iblk m c 7 t)) p = gRow colB (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r := by
  funext d
  refine (dybT_apply _ _ _ p d).trans ?_
  rw [dmBlock m c t r p h]
  exact congrArg₂ (fun p q : EReal => p * sg q) (againstBlock _ (block3 m c t) d) (block7 m c t r p h d (colB d) rfl)

theorem dgBlock (t : Fin cfg0.N) (r : Fin 4096) (p : Fin 256) (h : t.val * 256 + p.val = r.val) (d : Fin 1024) :
    dgPart (iblk m c 0 t : Vec Ideal S256x1024 .f32) (iblk m c 1 t : Vec Ideal S256x1024 .bf16) p d = dgPart (n := 4096) (m ((c : Thread nD τ).loc main_arg0)) (m ((c : Thread nD τ).loc main_arg1)) r d := by
  unfold dgPart
  have e1 : row (iblk m c 1 t : Vec Ideal S256x1024 .bf16) p = row (n := 4096) (m ((c : Thread nD τ).loc main_arg1)) r := funext fun d => block1 m c t r p h d
  have e0 : rowF (iblk m c 0 t : Vec Ideal S256x1024 .f32) p = rowF (n := 4096) (m ((c : Thread nD τ).loc main_arg0)) r := funext fun d => block0 m c t r p h d
  rw [e1, e0]

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

/-! What one point leaves in the blocks of the results that are not summed over the points. -/

theorem left10 (t : Fin cfg0.N) : (outsAt0 m c t.val t.isLt).1 = dmT (iblk m c 0 t) (iblk m c 1 t) (iblk m c 2 t) := by
  by_cases h0 : t.val % 16 = 0
  · rw [outsAt0_A m c t h0]
    dsimp only
    exact leftA10 c (grid0.coords t) _ _ _ _ _ _ _ _ _ _ _ _ _ _ _ _ _ _ _ _ _ _ _ _ _ _ _ _ _ _ _ _ _ _ ((hcond0_0 t).mpr h0) _ _ _ _ _ _ _ _ _ _
  · rw [outsAt0_B m c t h0]
    dsimp only
    exact leftB10 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

theorem left11 (t : Fin cfg0.N) : (outsAt0 m c t.val t.isLt).2.1 = dyaT (dmT (iblk m c 0 t) (iblk m c 1 t) (iblk m c 2 t)) (iblk m c 3 t) (iblk m c 6 t) := by
  by_cases h0 : t.val % 16 = 0
  · rw [outsAt0_A m c t h0]
    dsimp only
    exact leftA11 c (grid0.coords t) _ _ _ _ _ _ _ _ _ _ _ _ _ _ _ _ _ _ _ _ _ _ _ _ _ _ _ _ _ _ _ _ _ _ ((hcond0_0 t).mpr h0) _ _ _ _ _ _ _ _ _ _
  · rw [outsAt0_B m c t h0]
    dsimp only
    exact leftB11 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

theorem left12 (t : Fin cfg0.N) : (outsAt0 m c t.val t.isLt).2.2.1 = dybT (dmT (iblk m c 0 t) (iblk m c 1 t) (iblk m c 2 t)) (iblk m c 3 t) (iblk m c 7 t) := by
  by_cases h0 : t.val % 16 = 0
  · rw [outsAt0_A m c t h0]
    dsimp only
    exact leftA12 c (grid0.coords t) _ _ _ _ _ _ _ _ _ _ _ _ _ _ _ _ _ _ _ _ _ _ _ _ _ _ _ _ _ _ _ _ _ _ ((hcond0_0 t).mpr h0) _ _ _ _ _ _ _ _ _ _
  · rw [outsAt0_B m c t h0]
    dsimp only
    exact leftB12 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

theorem left14 (t : Fin cfg0.N) : (outsAt0 m c t.val t.isLt).2.2.2.2.1 = daT (dyaT (dmT (iblk m c 0 t) (iblk m c 1 t) (iblk m c 2 t)) (iblk m c 3 t) (iblk m c 6 t)) (iblk m c 8 t) := by
  by_cases h0 : t.val % 16 = 0
  · rw [outsAt0_A m c t h0]
    dsimp only
    exact leftA14 c (grid0.coords t) _ _ _ _ _ _ _ _ _ _ _ _ _ _ _ _ _ _ _ _ _ _ _ _ _ _ _ _ _ _ _ _ _ _ ((hcond0_0 t).mpr h0) _ _ _ _ _ _ _ _ _ _
  · rw [outsAt0_B m c t h0]
    dsimp only
    exact leftB14 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

theorem left15 (t : Fin cfg0.N) : (outsAt0 m c t.val t.isLt).2.2.2.2.2.1 = dbT (dybT (dmT (iblk m c 0 t) (iblk m c 1 t) (iblk m c 2 t)) (iblk m c 3 t) (iblk m c 7 t)) (iblk m c 9 t) := by
  by_cases h0 : t.val % 16 = 0
  · rw [outsAt0_A m c t h0]
    dsimp only
    exact leftA15 c (grid0.coords t) _ _ _ _ _ _ _ _ _ _ _ _ _ _ _ _ _ _ _ _ _ _ _ _ _ _ _ _ _ _ _ _ _ _ ((hcond0_0 t).mpr h0) _ _ _ _ _ _ _ _ _ _
  · rw [outsAt0_B m c t h0]
    dsimp only
    exact leftB15 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

/-- What the first point leaves in the last result's block. -/
theorem first16 (t : Fin cfg0.N) (h0 : t.val % 16 = 0) : (outsAt0 m c t.val t.isLt).2.2.2.2.2.2 = dgT (iblk m c 0 t) (iblk m c 1 t) (k0_pay9 (F := Ideal)) := by
  rw [outsAt0_A m c t h0]
  dsimp only
  exact leftA16 c (grid0.coords t) _ _ _ _ _ _ _ _ _ _ _ _ _ _ _ _ _ _ _ _ _ _ _ _ _ _ _ _ _ _ _ _ _ _ ((hcond0_0 t).mpr h0) _ _ _ _ _ _ _ _ _ _

/-- What a later point leaves there. -/
theorem left16 (t : Fin cfg0.N) (h0 : ¬t.val % 16 = 0) : (outsAt0 m c t.val t.isLt).2.2.2.2.2.2
    = dgT (iblk m c 0 t) (iblk m c 1 t) (outsAt0 m c (t.val - 1) (Nat.lt_of_le_of_lt (Nat.sub_le _ _) t.isLt)).2.2.2.2.2.2 := by
  rw [outsAt0_B m c t h0]
  dsimp only
  exact leftB16 c (grid0.coords t) _ _ _ _ _ _ _ _ _ _ _ _ _ _ _ _ _ _ _ _ _ _ _ _ _ _ _ _ _ _ _ _ _ _ (fun h => h0 ((hcond0_0 t).mp h)) _ _ _ _ _ _ _ _ _ _ _

theorem final10 (r : Fin 4096) (d : Fin 1024) :
    (dats m 0 c).arrAt 10 cfg0.N (ValueIdx.ix2 r d) = dmRow (n := 4096) (m ((c : Thread nD τ).loc main_arg0)) (m ((c : Thread nD τ).loc main_arg1)) (m ((c : Thread nD τ).loc main_arg2)) r d := by
  obtain ⟨t, ht0⟩ := pointOf r
  have hp : r.val % 256 < 256 := Nat.mod_lt _ (by decide)
  have h := congrFun (blocks10 m c t (flush0_10 _)) (ValueIdx.ix2 (⟨r.val % 256, hp⟩ : Fin 256) d)
  rw [flushed10, left10] at h
  rw [View.read_apply] at h
  refine Eq.trans (congrArg _ ?_) (h.trans ?_)
  · refine idx2 ?_ ?_
    · show r.val = win0_10.index t 0 * 256 + 1 * (r.val % 256); rw [(index10 t).1]; exact rowAt ht0
    · show d.val = win0_10.index t 1 * 1024 + 1 * d.val; rw [(index10 t).2]; exact wholeAt _ _
  · exact congrFun (dmBlock m c t r ⟨r.val % 256, hp⟩ (rowFrom ht0)) d

theorem final11 (r : Fin 4096) (d : Fin 1024) :
    (dats m 0 c).arrAt 11 cfg0.N (ValueIdx.ix2 r d) = gRow colA (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r d := by
  obtain ⟨t, ht0⟩ := pointOf r
  have hp : r.val % 256 < 256 := Nat.mod_lt _ (by decide)
  have h := congrFun (blocks11 m c t (flush0_11 _)) (ValueIdx.ix2 (⟨r.val % 256, hp⟩ : Fin 256) d)
  rw [flushed11, left11] at h
  rw [View.read_apply] at h
  refine Eq.trans (congrArg _ ?_) (h.trans ?_)
  · refine idx2 ?_ ?_
    · show r.val = win0_11.index t 0 * 256 + 1 * (r.val % 256); rw [(index11 t).1]; exact rowAt ht0
    · show d.val = win0_11.index t 1 * 1024 + 1 * d.val; rw [(index11 t).2]; exact wholeAt _ _
  · exact congrFun (dyaBlock m c t r ⟨r.val % 256, hp⟩ (rowFrom ht0)) d

theorem final12 (r : Fin 4096) (d : Fin 1024) :
    (dats m 0 c).arrAt 12 cfg0.N (ValueIdx.ix2 r d) = gRow colB (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r d := by
  obtain ⟨t, ht0⟩ := pointOf r
  have hp : r.val % 256 < 256 := Nat.mod_lt _ (by decide)
  have h := congrFun (blocks12 m c t (flush0_12 _)) (ValueIdx.ix2 (⟨r.val % 256, hp⟩ : Fin 256) d)
  rw [flushed12, left12] at h
  rw [View.read_apply] at h
  refine Eq.trans (congrArg _ ?_) (h.trans ?_)
  · refine idx2 ?_ ?_
    · show r.val = win0_12.index t 0 * 256 + 1 * (r.val % 256); rw [(index12 t).1]; exact rowAt ht0
    · show d.val = win0_12.index t 1 * 1024 + 1 * d.val; rw [(index12 t).2]; exact wholeAt _ _
  · exact congrFun (dybBlock m c t r ⟨r.val % 256, hp⟩ (rowFrom ht0)) d

theorem final14 (r : Fin 4096) (d : Fin 1024) :
    (dats m 0 c).arrAt 14 cfg0.N (ValueIdx.ix2 r d) = against (gRow colA (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r) (m ((c : Thread nD τ).loc main_arg7)) d := by
  obtain ⟨t, ht0⟩ := pointOf r
  have hp : r.val % 256 < 256 := Nat.mod_lt _ (by decide)
  have h := congrFun (blocks14 m c t (flush0_14 _)) (ValueIdx.ix2 (⟨r.val % 256, hp⟩ : Fin 256) d)
  rw [flushed14, left14] at h
  rw [View.read_apply] at h
  refine Eq.trans (congrArg _ ?_) (h.trans ?_)
  · refine idx2 ?_ ?_
    · show r.val = win0_14.index t 0 * 256 + 1 * (r.val % 256); rw [(index14 t).1]; exact rowAt ht0
    · show d.val = win0_14.index t 1 * 1024 + 1 * d.val; rw [(index14 t).2]; exact wholeAt _ _
  · refine (daT_apply _ _ _ _).trans ?_
    rw [dyaBlock m c t r ⟨r.val % 256, hp⟩ (rowFrom ht0)]
    exact againstBlock _ (block8 m c t) d

theorem final15 (r : Fin 4096) (d : Fin 1024) :
    (dats m 0 c).arrAt 15 cfg0.N (ValueIdx.ix2 r d) = against (gRow colB (dmRow (n := 4096) (m ((c : Thread nD τ).loc main_arg0)) (m ((c : Thread nD τ).loc main_arg1)) (m ((c : Thread nD τ).loc main_arg2)) r) (m ((c : Thread nD τ).loc main_arg3)) (m ((c : Thread nD τ).loc main_arg6)) r) (m ((c : Thread nD τ).loc main_arg8)) d := by
  obtain ⟨t, ht0⟩ := pointOf r
  have hp : r.val % 256 < 256 := Nat.mod_lt _ (by decide)
  have h := congrFun (blocks15 m c t (flush0_15 _)) (ValueIdx.ix2 (⟨r.val % 256, hp⟩ : Fin 256) d)
  rw [flushed15, left15] at h
  rw [View.read_apply] at h
  refine Eq.trans (congrArg _ ?_) (h.trans ?_)
  · refine idx2 ?_ ?_
    · show r.val = win0_15.index t 0 * 256 + 1 * (r.val % 256); rw [(index15 t).1]; exact rowAt ht0
    · show d.val = win0_15.index t 1 * 1024 + 1 * d.val; rw [(index15 t).2]; exact wholeAt _ _
  · refine (dbT_apply _ _ _ _).trans ?_
    rw [dybBlock m c t r ⟨r.val % 256, hp⟩ (rowFrom ht0)]
    exact againstBlock _ (block9 m c t) d

/-- What one point adds to the gradient of the factors. -/
def part (d : Fin 1024) (k : ℕ) : EReal :=
  if h : k < cfg0.N then ∑ p : Fin 256, dgPart (iblk m c 0 ⟨k, h⟩ : Vec Ideal S256x1024 .f32) (iblk m c 1 ⟨k, h⟩ : Vec Ideal S256x1024 .bf16) p d else 0

theorem start16 (d : Fin 1024) (h : 0 < cfg0.N) : ((outsAt0 m c 0 h).2.2.2.2.2.2 (ValueIdx.ix2 (0 : Fin 1) d) : EReal) = 0 + part m c d 0 := by
  refine (congrFun (first16 m c ⟨0, h⟩ rfl) _).trans ((dgT_apply _ _ _ d).trans ?_)
  refine add2 zeroBits ?_
  unfold part
  rw [dif_pos h]

theorem next16 (d : Fin 1024) (k : ℕ) (h : k + 1 < cfg0.N) (h' : k < cfg0.N) :
    ((outsAt0 m c (k + 1) h).2.2.2.2.2.2 (ValueIdx.ix2 (0 : Fin 1) d) : EReal) = ((outsAt0 m c k h').2.2.2.2.2.2 (ValueIdx.ix2 (0 : Fin 1) d) : EReal) + part m c d (k + 1) := by
  have h16 : k + 1 < 16 := lt_of_lt_of_eq h (show cfg0.N = 16 from N_0)
  refine (congrFun (left16 m c ⟨k + 1, h⟩ (succ_mod h16)) _).trans ((dgT_apply _ _ _ d).trans ?_)
  refine congrArg (fun q : EReal => ((outsAt0 m c k h').2.2.2.2.2.2 (ValueIdx.ix2 (0 : Fin 1) d) : EReal) + q) ?_
  unfold part
  rw [dif_pos h]

theorem last_lt : 15 < cfg0.N := by rw [show cfg0.N = 16 from N_0]; decide

theorem whole16 : (dats m 0 c).arrAt 16 cfg0.N = (outsAt0 m c 15 last_lt).2.2.2.2.2.2 :=
  (dats m 0 c).arrAt_eq_of_cover 16 (outsAt0 m c 15 last_lt).2.2.2.2.2.2 (fun t hf => by
    have hN : t.val < 16 := lt_of_lt_of_eq t.isLt (show cfg0.N = 16 from N_0)
    obtain rfl : t = t0_15 := Fin.ext (last_of ((flush0_16 t).mp hf) hN)
    rw [flushed16]
    have hz' : (fun a => win0_16.index t0_15 a * main_v0_6.ty.shape.size a) = fun _ => 0 := funext fun a => by fin_cases a <;> decide
    exact (Memref.read_access_unit_zero (Elt Ideal) main_v0_6 hz' (fun a => by rw [congrFun hz' a]; simp) (outsAt0 m c 15 last_lt).2.2.2.2.2.2).symm)
    fun i => ⟨t0_15, (flush0_16 t0_15).mpr rfl, by
      show i ∈ ((View.whole main_v0_6).slice (win0_16.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

/-- The gradient of the factors that the call leaves. -/
theorem final16 (d : Fin 1024) :
    (dats m 0 c).arrAt 16 cfg0.N (ValueIdx.ix2 (0 : Fin 1) d) = ∑ r : Fin 4096, dgPart (n := 4096) (m ((c : Thread nD τ).loc main_arg0)) (m ((c : Thread nD τ).loc main_arg1)) r d := by
  rw [whole16]
  refine (running (part m c d) (fun k h => ((outsAt0 m c k h).2.2.2.2.2.2 (ValueIdx.ix2 (0 : Fin 1) d) : EReal)) (start16 m c d) (next16 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => dgBlock m c ⟨p.val, hp⟩ _ s rfl d

/-! ## The reference -/

section reference
open Cert.MixerBwdYRefIdeal.Read

variable (x0 : Vec Ideal S4096x1024 .f32) (x1 : Vec Ideal S4096x1024 .bf16) (x2 : Vec Ideal S1x1024 .f32) (x3 : Vec Ideal S1024x1024 .bf16)
  (x6 : Vec Ideal S4096x5120 .bf16) (x7 x8 : Vec Ideal S1024x1024 .bf16)

theorem refDy (i : S4096x1024.Idx) : x0 i = rowF x0 (i 0) (i 1) := congrArg x0 (ValueIdx.eq_ix2 i)

theorem refMs (i : (⟨2, ![4096, 1]⟩ : Shape).Idx) : val_main_v7 (F := Ideal) x1 i = ms (row x1 (i 0)) := by
  rw [val_main_v7_apply, val_main_v5_apply, val_main_v3_apply]
  refine congrArg (fun w : EReal => Ideal.div w cn + ce) ?_
  refine (val_main_v2_apply _ _).trans (zero_plus _ zeroBits _ _ fun k => ?_)
  refine (val_main_v1_apply _ _).trans ?_
  refine mul2 (congrArg x1 ?_) (congrArg x1 ?_)
  all_goals
    exact idx2 rfl rfl

theorem refInv (i : (⟨2, ![4096, 1]⟩ : Shape).Idx) : val_main_v8 (F := Ideal) x1 i = inv (row x1 (i 0)) :=
  (val_main_v8_apply _ _).trans (congrArg Ideal.rsqrt (refMs x1 i))

theorem refSlope (i : (⟨2, ![4096, 1]⟩ : Shape).Idx) : val_main_v11 (F := Ideal) x1 i = cm * Ideal.div (inv (row x1 (i 0))) (ms (row x1 (i 0))) := by
  rw [val_main_v11_apply, val_main_v9_apply]
  exact congrArg₂ (fun p q : EReal => cm * Ideal.div p q) (refInv x1 i) (refMs x1 i)

theorem refScaled (i : S4096x1024.Idx) : val_main_v20 (F := Ideal) x0 x2 i = scaled (rowF x0 (i 0)) x2 (i 1) := by
  rw [val_main_v20_apply, val_main_v19_apply]
  refine mul2 (refDy x0 i) (congrArg x2 ?_)
  exact idx2 rfl rfl

theorem refInner (i : (⟨1, ![4096]⟩ : Shape).Idx) : val_main_v22 (F := Ideal) x0 x1 x2 i = inner (row x1 (i 0)) (scaled (rowF x0 (i 0)) x2) := by
  refine (val_main_v22_apply _ _ _ _).trans (zero_plus _ zeroBits _ _ fun k => ?_)
  refine (val_main_v21_apply _ _ _ _).trans ?_
  refine mul2 (congrArg x1 ?_) (refScaled x0 x2 _)
  exact idx2 rfl rfl

theorem refPull (i : (⟨1, ![4096]⟩ : Shape).Idx) : val_main_v29 (F := Ideal) x0 x1 x2 i = pull (row x1 (i 0)) (scaled (rowF x0 (i 0)) x2) := by
  refine (val_main_v29_apply _ _ _ _).trans (zero_one _ zeroBits _ _ ?_)
  rw [val_main_v28_apply, val_main_v26_apply, val_main_v23_apply]
  have e : idx_main_v23 (idx_main_v29 i 0) = i := funext fun d => by
    match d with
    | ⟨0, _⟩ => exact Fin.ext (by show (i 0).val * 1 + 0 = (i 0).val; omega)
  rw [e]
  exact congrArg₂ (fun p q : EReal => Ideal.div (p * q) cn) (refInner x0 x1 x2 i) (refSlope x1 _)

theorem refBack (i : S4096x1024.Idx) : val_main_v34 (F := Ideal) x0 x1 x2 i = back (row x1 (i 0)) (scaled (rowF x0 (i 0)) x2) (i 1) := by
  refine Eq.trans ?_ (back_eq _ _ _).symm
  rw [val_main_v34_apply, val_main_v32_apply, val_main_v33_apply, val_main_v31_apply, val_main_v30_apply,
    val_main_v25_apply, val_main_v24_apply]
  have hx : x1 i = row x1 (i 0) (i 1) := congrArg x1 (ValueIdx.eq_ix2 i)
  have hp := refPull x0 x1 x2 (idx_main_v30 i)
  exact add2
    (add2 (mul2 (refScaled x0 x2 i) (refInv x1 _)) (mul2 hx hp))
    (mul2 hp hx)

theorem refDm (i : S4096x1024.Idx) : val_main_v38 (F := Ideal) x0 x1 x2 x3 i = against (dmRow x0 x1 x2 (i 0)) x3 (i 1) := by
  refine (val_main_v38_apply _ _ _ _ _).trans (Finset.sum_congr rfl fun s _ => ?_)
  rw [val_main_v36_apply]
  refine mul2 (refBack x0 x1 x2 _) (congrArg x3 ?_)
  exact idx2 rfl rfl

theorem refGateA (i : S4096x1024.Idx) : val_main_v46 (F := Ideal) x6 i = sg (x6 (ValueIdx.ix2 (i 0) (colA (i 1)))) := by
  rw [val_main_v46_apply, val_main_v45_apply, val_main_v44_apply, val_main_v43_apply, val_main_v42_apply, val_main_v41_apply, val_main_v40_apply, val_main_v39_apply]
  refine congrArg (fun g : EReal => sg g) (congrArg x6 ?_)
  exact idx2 rfl rfl

theorem refGateB (i : S4096x1024.Idx) : val_main_v54 (F := Ideal) x6 i = sg (x6 (ValueIdx.ix2 (i 0) (colB (i 1)))) := by
  rw [val_main_v54_apply, val_main_v53_apply, val_main_v52_apply, val_main_v51_apply, val_main_v50_apply, val_main_v49_apply, val_main_v48_apply, val_main_v47_apply]
  refine congrArg (fun g : EReal => sg g) (congrArg x6 ?_)
  exact idx2 rfl rfl

theorem refDya (i : S4096x1024.Idx) : val_main_v61 (F := Ideal) x0 x1 x2 x3 x6 i = gRow colA (dmRow x0 x1 x2 (i 0)) x3 x6 (i 0) (i 1) := by
  refine (val_main_v61_apply _ _ _ _ _ _).trans ?_
  exact (mul2 (refGateA x6 i) (refDm x0 x1 x2 x3 i)).trans (mul_comm _ _)

theorem refDyb (i : S4096x1024.Idx) : val_main_v60 (F := Ideal) x0 x1 x2 x3 x6 i = gRow colB (dmRow x0 x1 x2 (i 0)) x3 x6 (i 0) (i 1) := by
  refine (val_main_v60_apply _ _ _ _ _ _).trans ?_
  exact (mul2 (refGateB x6 i) (refDm x0 x1 x2 x3 i)).trans (mul_comm _ _)

theorem refDa (i : S4096x1024.Idx) : val_main_v64 (F := Ideal) x0 x1 x2 x3 x6 x7 i = against ((fun r => gRow colA (dmRow x0 x1 x2 r) x3 x6 r) (i 0)) x7 (i 1) := by
  refine (val_main_v64_apply _ _ _ _ _ _ _).trans (Finset.sum_congr rfl fun s _ => ?_)
  rw [val_main_v62_apply]
  refine mul2 (refDya x0 x1 x2 x3 x6 _) (congrArg x7 ?_)
  exact idx2 rfl rfl

theorem refDb (i : S4096x1024.Idx) : val_main_v67 (F := Ideal) x0 x1 x2 x3 x6 x8 i = against ((fun r => gRow colB (dmRow x0 x1 x2 r) x3 x6 r) (i 0)) x8 (i 1) := by
  refine (val_main_v67_apply _ _ _ _ _ _ _).trans (Finset.sum_congr rfl fun s _ => ?_)
  rw [val_main_v65_apply]
  refine mul2 (refDyb x0 x1 x2 x3 x6 _) (congrArg x8 ?_)
  exact idx2 rfl rfl

theorem refGain (d : Fin 1024) : val_main_v18 (F := Ideal) x0 x1 (ValueIdx.ix2 (0 : Fin 1) d) = ∑ r : Fin 4096, dgPart x0 x1 r d := by
  refine (val_main_v18_apply _ _ _).trans ((val_main_v17_apply _ _ _).trans (zero_plus _ zeroBits _ _ fun k => ?_))
  have e : idx_main_v17 (idx_main_v18 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v16_apply, val_main_v13_apply, val_main_v12_apply]
  refine (congrArg₂ (fun p q : EReal => (row x1 k d * p) * q) (refInv x1 _) (refDy x0 _)).trans ?_
  show (row x1 k d * inv (row x1 k)) * rowF x0 k d = (rowF x0 k d * row x1 k d) * inv (row x1 k)
  rw [mul_comm (row x1 k d * inv (row x1 k)), mul_assoc (rowF x0 k d)]

end reference

theorem algebraic : @Cert.algebraic_MixerBwdYIdeal_MixerBwdYRefIdeal Cert.MixerBwdYIdeal.Gen.facts Cert.MixerBwdYRefIdeal.Gen.facts := by
  intro m g m' g' _ ha
  refine ⟨fun c => (dats m 0 c).arrAt 10 cfg0.N, fun c => (dats m 0 c).arrAt 11 cfg0.N, fun c => (dats m 0 c).arrAt 12 cfg0.N, fun c => (dats m 0 c).arrAt 14 cfg0.N, fun c => (dats m 0 c).arrAt 15 cfg0.N, fun c => (dats m 0 c).arrAt 16 cfg0.N,
    (θ_run defs _ _).mono (fun r h c => ⟨(h c).1, (h c).2.1, (h c).2.2.1, (h c).2.2.2.2⟩) (run_blocks m g), ?_⟩
  refine (θ_run Cert.MixerBwdYRefIdeal.defs _ _).mono (fun r h c => ?_) (Cert.MixerBwdYRefIdeal.Value.run (F := Ideal) m' g')
  obtain ⟨h10, h11, h12, h14, h15, h16, hk⟩ := h c
  obtain ⟨a0, a1, a2, a3, a4, a5, a6, a7, a8⟩ := ha c
  refine ⟨h10.trans ((Cert.MixerBwdYRefIdeal.Read.val_main_v68_eq _ _).trans ?_), h11.trans ((Cert.MixerBwdYRefIdeal.Read.val_main_v69_eq _ _).trans ?_),
    h12.trans ((Cert.MixerBwdYRefIdeal.Read.val_main_v70_eq _ _).trans ?_), h14.trans ((Cert.MixerBwdYRefIdeal.Read.val_main_v71_eq _ _).trans ?_),
    h15.trans ((Cert.MixerBwdYRefIdeal.Read.val_main_v72_eq _ _).trans ?_), h16.trans ((Cert.MixerBwdYRefIdeal.Read.val_main_v18_eq _ _).trans ?_), hk⟩
  · rw [a0, a1, a2]
    refine funext fun i => ?_
    obtain ⟨r, d, rfl⟩ : ∃ (r : Fin 4096) (d : Fin 1024), i = ValueIdx.ix2 r d := ⟨i 0, i 1, ValueIdx.eq_ix2 i⟩
    exact (refBack _ _ _ _).trans (final10 m c r d).symm
  · rw [a0, a1, a2, a3, a6]
    refine funext fun i => ?_
    obtain ⟨r, d, rfl⟩ : ∃ (r : Fin 4096) (d : Fin 1024), i = ValueIdx.ix2 r d := ⟨i 0, i 1, ValueIdx.eq_ix2 i⟩
    exact (refDya _ _ _ _ _ _).trans (final11 m c r d).symm
  · rw [a0, a1, a2, a3, a6]
    refine funext fun i => ?_
    obtain ⟨r, d, rfl⟩ : ∃ (r : Fin 4096) (d : Fin 1024), i = ValueIdx.ix2 r d := ⟨i 0, i 1, ValueIdx.eq_ix2 i⟩
    exact (refDyb _ _ _ _ _ _).trans (final12 m c r d).symm
  · rw [a0, a1, a2, a3, a6, a7]
    refine funext fun i => ?_
    obtain ⟨r, d, rfl⟩ : ∃ (r : Fin 4096) (d : Fin 1024), i = ValueIdx.ix2 r d := ⟨i 0, i 1, ValueIdx.eq_ix2 i⟩
    exact (refDa _ _ _ _ _ _ _).trans (final14 m c r d).symm
  · rw [a0, a1, a2, a3, a6, a8]
    refine funext fun i => ?_
    obtain ⟨r, d, rfl⟩ : ∃ (r : Fin 4096) (d : Fin 1024), i = ValueIdx.ix2 r d := ⟨i 0, i 1, ValueIdx.eq_ix2 i⟩
    exact (refDb _ _ _ _ _ _ _).trans (final15 m c r d).symm
  · rw [a0, a1]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refGain _ _ d).trans (final16 m c d).symm

/-- The reference keeps its arguments. -/
theorem refFrame : @Cert.quiescent_MixerBwdYRefIdeal Cert.MixerBwdYRefIdeal.Gen.facts := fun m g _ =>
  (θ_run Cert.MixerBwdYRefIdeal.defs _ _).mono (fun r h => ⟨fun c => (h c).2.2.2.2.2.2, sem_eq_zero_of_no_sems (by decide) r.2⟩) (Cert.MixerBwdYRefIdeal.Value.run (F := Ideal) m g)

end Cert.MixerBwdYTie

end
-- ==== Proof.PleLoss.lean ====
/- The gated per-layer embedding, its norm, the squared distance from the target, and the gradients of that distance: those of the gate and
   of the product it multiplies, that of the row the norm in front of the gate reads, those of the two norms' factors, and the distance. -/
module

public import proofs.«01_k».proof.Proof.RmsBack
public import proofs.«01_k».proof.Defs
public import proofs.«01_k».proof.Proof.Gen.PleLossIdeal.Value
public import proofs.«01_k».proof.Proof.Gen.PleLossRefIdeal.Run
public import proofs.«01_k».proof.Proof.Gen.PleLossRefIdeal.Read
public import Idealize.ShloMosaic.Lib.Tactic.ValueTie

@[expose] public section

noncomputable section

namespace Cert.PleLossTie

open Idealize.ShloMosaic Idealize.ShloMosaic.TcCoe Idealize.SL.Sem
open Cert.PleLossIdeal Cert.PleLossIdeal.Gen Cert.PleLossIdeal.Value
open Cert.Rows Cert.RmsBack
open scoped BigOperators

/-- Row r of a matrix. -/
def row {n k : ℕ} (x : Vec Ideal ⟨2, ![n, k]⟩ .bf16) (r : Fin n) (d : Fin k) : EReal := (x (ValueIdx.ix2 r d) : EReal)
def rowF {n : ℕ} (x : Vec Ideal ⟨2, ![n, 1024]⟩ .f32) (r : Fin n) (d : Fin 1024) : EReal := (x (ValueIdx.ix2 r d) : EReal)

/-- A row times the factors. -/
def scaled (v : Fin 1024 → EReal) (x5 : Vec Ideal S1x1024 .f32) (d : Fin 1024) : EReal := v d * (x5 (ValueIdx.ix2 0 d) : EReal)

/-- A row against row j of a weight. -/
def against (v : Fin 1024 → EReal) (w : Vec Ideal S1024x1024 .bf16) (j : Fin 1024) : EReal :=
  ∑ s : Fin 1024, v s * (w (ValueIdx.ix2 j s) : EReal)

/-- One, two, one over the row length, and half of that, as the programs write them. -/
def one : EReal := Ideal.ofBits .f32 0x3F800000#32
def two : EReal := Ideal.ofBits .f32 0x40000000#32
def cr : EReal := Ideal.ofBits .f32 0x3A800000#32
def cl : EReal := Ideal.ofBits .f32 0x3A000000#32

theorem one_eq : one = ((1 : ℝ) : EReal) := Cert.Sgu.ofBits_one
theorem two_eq : two = ((2 : ℝ) : EReal) := by
  unfold two; simp [Ideal.ofBits, Ideal.ieee, -EReal.coe_mul]; norm_num
theorem cr_eq : cr = ((1 / 1024 : ℝ) : EReal) := by
  unfold cr; simp [Ideal.ofBits, Ideal.ieee, -EReal.coe_mul]; norm_num
theorem cl_eq : cl = ((1 / 2048 : ℝ) : EReal) := by
  unfold cl; simp [Ideal.ofBits, Ideal.ieee, -EReal.coe_mul]; norm_num

/-- The logistic function, by its quotient. -/
def sg (g : EReal) : EReal := Ideal.div one (one + Ideal.exp (-g))

/-! ## One row -/

section rows
variable (a : Fin 1024 → EReal) (b : Fin 256 → EReal) (x2 : Vec Ideal S1024x1024 .bf16) (x3 : Vec Ideal S256x1024 .bf16) (h tg : Fin 1024 → EReal)
  (x5 x6 : Vec Ideal S1x1024 .f32)

/-- The gate, the embedding's product, and the gated product. -/
def gv (d : Fin 1024) : EReal := sg (∑ s : Fin 1024, a s * (x2 (ValueIdx.ix2 s d) : EReal))
def ev (d : Fin 1024) : EReal := ∑ s : Fin 256, b s * (x3 (ValueIdx.ix2 s d) : EReal)
def qv (d : Fin 1024) : EReal := gv a x2 d * ev b x3 d

/-- The distance from the target, its squares, and the gradient that it sends back. -/
def erv (d : Fin 1024) : EReal := (h d + (qv a b x2 x3 d * inv (qv a b x2 x3)) * (x5 (ValueIdx.ix2 0 d) : EReal)) - tg d
def lov : EReal := ∑ d : Fin 1024, erv a b x2 x3 h tg x5 d * erv a b x2 x3 h tg x5 d
def dhv (d : Fin 1024) : EReal := erv a b x2 x3 h tg x5 d * cr

/-- The gradients of the gated product, of the gate's argument, of the embedding's product, and of the row in front of the gate's weight. -/
def dqv (d : Fin 1024) : EReal := back (qv a b x2 x3) (scaled (dhv a b x2 x3 h tg x5) x5) d
def dsv (d : Fin 1024) : EReal := ((dqv a b x2 x3 h tg x5 d * ev b x3 d) * gv a x2 d) * (one - gv a x2 d)
def dev (d : Fin 1024) : EReal := dqv a b x2 x3 h tg x5 d * gv a x2 d
def dyv (d : Fin 1024) : EReal := against (dsv a b x2 x3 h tg x5) x2 d

/-- The gradient of the layer's input, and what the row adds to those of the two norms' factors. -/
def dhpv (d : Fin 1024) : EReal := dhv a b x2 x3 h tg x5 d + back h (scaled (dyv a b x2 x3 h tg x5) x6) d
def gpv (d : Fin 1024) : EReal := (dhv a b x2 x3 h tg x5 d * qv a b x2 x3 d) * inv (qv a b x2 x3)
def gnv (d : Fin 1024) : EReal := (dyv a b x2 x3 h tg x5 d * h d) * inv h

theorem lov_nonneg : 0 ≤ lov a b x2 x3 h tg x5 := Finset.sum_nonneg fun _ _ => square_nonneg _

end rows

/-- A number goes through a sum of terms that are not negative. -/
theorem scale_sum {n : ℕ} (k : ℝ) (f : Fin n → EReal) (h : ∀ p, 0 ≤ f p) : ((k : ℝ) : EReal) * ∑ p, f p = ∑ p, ((k : ℝ) : EReal) * f p := by
  induction (Finset.univ : Finset (Fin n)) using Finset.induction_on with
  | empty => simp
  | insert i s hi ih => rw [Finset.sum_insert hi, Finset.sum_insert hi, EReal.left_distrib_of_nonneg (h i) (Finset.sum_nonneg fun p _ => h p), ih]

/-- The two ways to scale a distance, and its squares. -/
theorem scale_eq (e : EReal) : Ideal.div (ch * one) cn * (two * e) = e * cr := by
  rw [div_cn, ch_eq, one_eq, two_eq, cr_eq, ← mul_assoc, ← EReal.coe_mul, ← EReal.coe_mul, ← EReal.coe_mul, mul_comm e]
  congr 2
  norm_num

theorem scale_eq' (e : EReal) : ch * Ideal.div e cn = cl * e := by
  rw [div_cn, ch_eq, cl_eq, mul_comm e, ← mul_assoc, ← EReal.coe_mul]
  congr 2
  norm_num

/-! ## The kernel's tile -/

section tile
variable (x0 : Vec Ideal S256x1024 .bf16) (x1 : Vec Ideal S256x256 .bf16) (x2 : Vec Ideal S1024x1024 .bf16) (x3 : Vec Ideal S256x1024 .bf16) (x4 : Vec Ideal S256x1024 .f32) (x5 x6 : Vec Ideal S1x1024 .f32) (x7 : Vec Ideal S256x1024 .f32)

def gT : FVec Ideal S256x1024 .f32 := k0_pay5 (F := Ideal) x0 x2
def eT : FVec Ideal S256x1024 .f32 := k0_pay6 (F := Ideal) x1 x3
def qT : FVec Ideal S256x1024 .f32 := k0_pay7 (F := Ideal) x0 x2 x1 x3
def erT : FVec Ideal S256x1024 .f32 := k0_pay8 (F := Ideal) x0 x2 x1 x3 x4 x5 x7
def dqT : FVec Ideal S256x1024 .f32 := k0_pay14 (F := Ideal) (qT x0 x1 x2 x3) (erT x0 x1 x2 x3 x4 x5 x7) x5
def dqeT : FVec Ideal S256x1024 .f32 := k0_pay16 (F := Ideal) (eT x1 x3) (qT x0 x1 x2 x3) (erT x0 x1 x2 x3 x4 x5 x7) x5
def dsT : FVec Ideal S256x1024 .bf16 := k0_pay17 (F := Ideal) (gT x0 x2) (dqeT x0 x1 x2 x3 x4 x5 x7)
def deT : FVec Ideal S256x1024 .bf16 := k0_pay18 (F := Ideal) (gT x0 x2) (dqT x0 x1 x2 x3 x4 x5 x7)
def dyT : FVec Ideal S256x1024 .f32 := k0_pay19 (F := Ideal) (gT x0 x2) (dqeT x0 x1 x2 x3 x4 x5 x7) x2
def dhpT : FVec Ideal S256x1024 .f32 := k0_pay22 (F := Ideal) (gT x0 x2) x4 (k0_pay12 (F := Ideal) (erT x0 x1 x2 x3 x4 x5 x7)) (dqeT x0 x1 x2 x3 x4 x5 x7) x6 x2
def gpT (acc : Vec Ideal S1x1024 .f32) : FVec Ideal S1x1024 .f32 := k0_pay2 (F := Ideal) (k0_pay15 (F := Ideal) (qT x0 x1 x2 x3) (erT x0 x1 x2 x3 x4 x5 x7)) acc
def gnT (acc : Vec Ideal S1x1024 .f32) : FVec Ideal S1x1024 .f32 := k0_pay4 (F := Ideal) (k0_pay21 (F := Ideal) (gT x0 x2) x4 (dqeT x0 x1 x2 x3 x4 x5 x7) x2) acc
def loT (acc : Vec Ideal S8x128 .f32) : FVec Ideal S8x128 .f32 := k0_pay11 (F := Ideal) (k0_pay9 (F := Ideal) x0 x2 x1 x3 x4 x5 x7) acc

theorem gT_apply (p : Fin 256) (d : Fin 1024) : gT x0 x2 (ValueIdx.ix2 p d) = gv (row x0 p) x2 d := by
  unfold gT k0_pay5
  refine (congrArg (fun w : EReal => Ideal.div one (one + Ideal.exp (Ideal.ofBits .f32 0x00000000#32 - w)))
    (Cert.Prods.nn (φ := .bf16) (ψ := .bf16) x0 x2 _ none p d)).trans ?_
  rw [zeroBits, zero_sub]
  rfl

theorem eT_apply (p : Fin 256) (d : Fin 1024) : eT x1 x3 (ValueIdx.ix2 p d) = ev (row x1 p) x3 d := by
  unfold eT k0_pay6
  exact Cert.Prods.nn (φ := .bf16) (ψ := .bf16) x1 x3 _ none p d

theorem qT_apply (p : Fin 256) (d : Fin 1024) : qT x0 x1 x2 x3 (ValueIdx.ix2 p d) = qv (row x0 p) (row x1 p) x2 x3 d :=
  mul2 (gT_apply x0 x2 p d) (eT_apply x1 x3 p d)

theorem qRow (p : Fin 256) : (fun k => (qT x0 x1 x2 x3 (ValueIdx.ix2 p k) : EReal)) = qv (row x0 p) (row x1 p) x2 x3 := funext fun k => qT_apply x0 x1 x2 x3 p k

theorem rq (p : Fin 256) : k0_pay13 (F := Ideal) (qT x0 x1 x2 x3) (ValueIdx.ix2 p (0 : Fin 1)) = inv (fun k => (qT x0 x1 x2 x3 (ValueIdx.ix2 p k) : EReal)) :=
  congrArg Ideal.rsqrt (msTile (qT x0 x1 x2 x3) _ _ _ _ _ p 0)

theorem rq' (p : Fin 256) : k0_pay13 (F := Ideal) (qT x0 x1 x2 x3) (ValueIdx.ix2 p (0 : Fin 1)) = inv (qv (row x0 p) (row x1 p) x2 x3) :=
  (rq x0 x1 x2 x3 p).trans (congrArg inv (qRow x0 x1 x2 x3 p))

theorem rh (p : Fin 256) : k0_pay20 (F := Ideal) x4 (ValueIdx.ix2 p (0 : Fin 1)) = inv (rowF x4 p) :=
  congrArg Ideal.rsqrt (msTile x4 _ _ _ _ _ p 0)

theorem erT_apply (p : Fin 256) (d : Fin 1024) : erT x0 x1 x2 x3 x4 x5 x7 (ValueIdx.ix2 p d) = erv (row x0 p) (row x1 p) x2 x3 (rowF x4 p) (rowF x7 p) x5 d := by
  unfold erT k0_pay8
  refine congrArg (fun w : EReal => (rowF x4 p d + w) - rowF x7 p d) ?_
  refine mul2 ?_ (ValueIdx.broadcastTo_1b_ab_apply x5 _ p d)
  refine mul2 (qT_apply x0 x1 x2 x3 p d) ?_
  exact (col _ _ p d).trans (rq' x0 x1 x2 x3 p)

theorem dhT_apply (p : Fin 256) (d : Fin 1024) : k0_pay12 (F := Ideal) (erT x0 x1 x2 x3 x4 x5 x7) (ValueIdx.ix2 p d) = dhv (row x0 p) (row x1 p) x2 x3 (rowF x4 p) (rowF x7 p) x5 d :=
  congrArg (fun w : EReal => w * cr) (erT_apply x0 x1 x2 x3 x4 x5 x7 p d)

theorem dqT_apply (p : Fin 256) (d : Fin 1024) : dqT x0 x1 x2 x3 x4 x5 x7 (ValueIdx.ix2 p d) = dqv (row x0 p) (row x1 p) x2 x3 (rowF x4 p) (rowF x7 p) x5 d := by
  unfold dqT k0_pay14
  refine (backTile (qT x0 x1 x2 x3) _ (k0_pay13 (F := Ideal) (qT x0 x1 x2 x3)) _ _ _ _ _ _ p d (rq x0 x1 x2 x3 p)).trans ?_
  unfold dqv
  refine congrArg₂ (fun u t : Fin 1024 → EReal => back u t d) (qRow x0 x1 x2 x3 p) (funext fun k => ?_)
  exact mul2 (dhT_apply x0 x1 x2 x3 x4 x5 x7 p k) (ValueIdx.broadcastTo_1b_ab_apply x5 _ p k)

theorem dqeT_apply (p : Fin 256) (d : Fin 1024) : dqeT x0 x1 x2 x3 x4 x5 x7 (ValueIdx.ix2 p d) = dqv (row x0 p) (row x1 p) x2 x3 (rowF x4 p) (rowF x7 p) x5 d * ev (row x1 p) x3 d :=
  mul2 (dqT_apply x0 x1 x2 x3 x4 x5 x7 p d) (eT_apply x1 x3 p d)

theorem dsT_apply (p : Fin 256) (d : Fin 1024) : dsT x0 x1 x2 x3 x4 x5 x7 (ValueIdx.ix2 p d) = dsv (row x0 p) (row x1 p) x2 x3 (rowF x4 p) (rowF x7 p) x5 d :=
  congrArg₂ (fun u g : EReal => (u * g) * (one - g)) (dqeT_apply x0 x1 x2 x3 x4 x5 x7 p d) (gT_apply x0 x2 p d)

theorem deT_apply (p : Fin 256) (d : Fin 1024) : deT x0 x1 x2 x3 x4 x5 x7 (ValueIdx.ix2 p d) = dev (row x0 p) (row x1 p) x2 x3 (rowF x4 p) (rowF x7 p) x5 d :=
  congrArg₂ (fun u g : EReal => u * g) (dqT_apply x0 x1 x2 x3 x4 x5 x7 p d) (gT_apply x0 x2 p d)

theorem dyT_apply (p : Fin 256) (d : Fin 1024) : dyT x0 x1 x2 x3 x4 x5 x7 (ValueIdx.ix2 p d) = dyv (row x0 p) (row x1 p) x2 x3 (rowF x4 p) (rowF x7 p) x5 d := by
  unfold dyT k0_pay19
  refine (Cert.Prods.nt (φ := .bf16) (ψ := .bf16) (dsT x0 x1 x2 x3 x4 x5 x7) x2 _ none p d).trans ?_
  exact Finset.sum_congr rfl fun s _ => congrArg (fun w : EReal => w * (x2 (ValueIdx.ix2 d s) : EReal)) (dsT_apply x0 x1 x2 x3 x4 x5 x7 p s)

theorem dhpT_apply (p : Fin 256) (d : Fin 1024) : dhpT x0 x1 x2 x3 x4 x5 x6 x7 (ValueIdx.ix2 p d) = dhpv (row x0 p) (row x1 p) x2 x3 (rowF x4 p) (rowF x7 p) x5 x6 d := by
  unfold dhpT k0_pay22
  refine add2 (dhT_apply x0 x1 x2 x3 x4 x5 x7 p d) ?_
  refine (backTile x4 _ (k0_pay20 (F := Ideal) x4) _ _ _ _ _ _ p d (rh x4 p)).trans ?_
  refine congrArg (fun t => back (rowF x4 p) t d) (funext fun k => ?_)
  exact mul2 (dyT_apply x0 x1 x2 x3 x4 x5 x7 p k) (ValueIdx.broadcastTo_1b_ab_apply x6 _ p k)

theorem gpT_apply (acc : Vec Ideal S1x1024 .f32) (d : Fin 1024) :
    gpT x0 x1 x2 x3 x4 x5 x7 acc (ValueIdx.ix2 (0 : Fin 1) d) = (acc (ValueIdx.ix2 0 d) : EReal) + ∑ p : Fin 256, gpv (row x0 p) (row x1 p) x2 x3 (rowF x4 p) (rowF x7 p) x5 d := by
  unfold gpT k0_pay2
  refine add2 (castSelf acc _ 0 d) ?_
  unfold k0_pay15
  refine (colSum _ _ _ _ _ _ 0 d).trans ?_
  refine Finset.sum_congr rfl fun p _ => ?_
  exact mul2 (mul2 (dhT_apply x0 x1 x2 x3 x4 x5 x7 p d) (qT_apply x0 x1 x2 x3 p d)) ((col _ _ p d).trans (rq' x0 x1 x2 x3 p))

theorem gnT_apply (acc : Vec Ideal S1x1024 .f32) (d : Fin 1024) :
    gnT x0 x1 x2 x3 x4 x5 x7 acc (ValueIdx.ix2 (0 : Fin 1) d) = (acc (ValueIdx.ix2 0 d) : EReal) + ∑ p : Fin 256, gnv (row x0 p) (row x1 p) x2 x3 (rowF x4 p) (rowF x7 p) x5 d := by
  unfold gnT k0_pay4
  refine add2 (castSelf acc _ 0 d) ?_
  unfold k0_pay21
  refine (colSum _ _ _ _ _ _ 0 d).trans ?_
  refine Finset.sum_congr rfl fun p _ => ?_
  exact mul2 (congrArg (fun w : EReal => w * rowF x4 p d) (dyT_apply x0 x1 x2 x3 x4 x5 x7 p d)) ((col _ _ p d).trans (rh x4 p))

theorem grand (v : FVec Ideal S256x1024 .f32) : extractAt ![0, 0, 0] (shapeCast S1x1x1 (multiReduction .add [1, 2] S1
    (shapeCast S1x256x1024 v shapeCasts_S256x1024_S1x256x1024) 0x00000000#32 reduces_S1x256x1024_S1 (.inl rfl) rfl) shapeCasts_S1_S1x1x1) inpos_S1x1x1_p0_0_0
      = ∑ p : Fin 256, ∑ d : Fin 1024, (v (ValueIdx.ix2 p d) : EReal) := by
  have e : ∀ w : FVec Ideal S1 .f32, extractAt ![0, 0, 0] (shapeCast S1x1x1 w shapeCasts_S1_S1x1x1) inpos_S1x1x1_p0_0_0 = w (ValueIdx.ix1 (0 : Fin 1)) := fun w =>
    congrArg w (funext fun b => match b with | ⟨0, _⟩ => Subsingleton.elim (α := Fin 1) _ _)
  rw [e]
  refine (Ideal.multiReduction_add_total _ _ _ (by intro b; fin_cases b; rfl) _ _ _).trans ?_
  have s : (∑ i : S1x256x1024.Idx, (shapeCast S1x256x1024 v shapeCasts_S256x1024_S1x256x1024 i : EReal)) = ∑ i : S256x1024.Idx, (v i : EReal) :=
    Equiv.sum_comp (Shape.reshapeEquiv shapeCasts_S256x1024_S1x256x1024) (fun i => (v i : EReal))
  exact s.trans (ValueIdx.sum_idx2 _)

theorem lossTile : k0_pay9 (F := Ideal) x0 x2 x1 x3 x4 x5 x7 = ∑ p : Fin 256, lov (row x0 p) (row x1 p) x2 x3 (rowF x4 p) (rowF x7 p) x5 := by
  refine (grand (mulf (erT x0 x1 x2 x3 x4 x5 x7) (erT x0 x1 x2 x3 x4 x5 x7))).trans (Finset.sum_congr rfl fun p _ => Finset.sum_congr rfl fun d _ => ?_)
  exact congrArg (fun w : EReal => w * w) (erT_apply x0 x1 x2 x3 x4 x5 x7 p d)

theorem loT_apply (acc : Vec Ideal S8x128 .f32) (u : Fin 8) (v : Fin 128) :
    loT x0 x1 x2 x3 x4 x5 x7 acc (ValueIdx.ix2 u v) = (acc (ValueIdx.ix2 u v) : EReal) + ∑ p : Fin 256, cl * lov (row x0 p) (row x1 p) x2 x3 (rowF x4 p) (rowF x7 p) x5 := by
  unfold loT k0_pay11
  refine add2 (castSelf acc _ u v) ?_
  refine (congrArg (fun w : EReal => cl * w) (lossTile x0 x1 x2 x3 x4 x5 x7)).trans ?_
  rw [cl_eq]
  exact scale_sum _ _ fun p => lov_nonneg _ _ _ _ _ _ _

end tile

/-! ## What one point leaves -/

section leaves
variable (c : Dev nD) (i : grid0.Coords) (arg1 : Memref sig .tc .vmem S256x1024 .bf16) (harg1 : arg1.IsWhole) (arg2 : Memref sig .tc .vmem S256x256 .bf16) (harg2 : arg2.IsWhole) (arg3 : Memref sig .tc .vmem S1024x1024 .bf16) (harg3 : arg3.IsWhole) (arg4 : Memref sig .tc .vmem S256x1024 .bf16) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S8x128 .f32) (harg14 : arg14.IsWhole)
  (x0 : Vec Ideal S256x1024 .bf16) (x1 : Vec Ideal S256x256 .bf16) (x2 : Vec Ideal S1024x1024 .bf16) (x3 : Vec Ideal S256x1024 .bf16) (x4 : Vec Ideal S256x1024 .f32) (x5 x6 : Vec Ideal S1x1024 .f32) (x7 : Vec Ideal S256x1024 .f32)
  (xo11 xo12 : Vec Ideal S1x1024 .f32) (xo13 : Vec Ideal S8x128 .f32)

theorem leftA8 (hc0 : cond0_0 i) (hc1 : cond0_1 i) (hc2 : cond0_2 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = dsT x0 x1 x2 x3 x4 x5 x7 := by
  unfold out0_A_8
  rw [View.read_writes_eq_canon _ _ _ (cover0_A_8 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg8.read_unread, ld2]
  refine (View.canon_unit_zero zero2 _ _).trans ?_
  rfl

theorem leftB8 (hc0 : ¬cond0_0 i) (hc1 : ¬cond0_1 i) (hc2 : ¬cond0_2 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = dsT x0 x1 x2 x3 x4 x5 x7 := by
  unfold out0_B_8
  rw [View.read_writes_eq_canon _ _ _ (cover0_B_8 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg8.read_unread, ld2]
  refine (View.canon_unit_zero zero2 _ _).trans ?_
  rfl

theorem leftA9 (hc0 : cond0_0 i) (hc1 : cond0_1 i) (hc2 : cond0_2 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = deT x0 x1 x2 x3 x4 x5 x7 := by
  unfold out0_A_9
  rw [View.read_writes_eq_canon _ _ _ (cover0_A_9 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg8.read_unread, ld2]
  refine (View.canon_unit_zero zero2 _ _).trans ?_
  rfl

theorem leftB9 (hc0 : ¬cond0_0 i) (hc1 : ¬cond0_1 i) (hc2 : ¬cond0_2 i) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = deT x0 x1 x2 x3 x4 x5 x7 := by
  unfold out0_B_9
  rw [View.read_writes_eq_canon _ _ _ (cover0_B_9 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg8.read_unread, ld2]
  refine (View.canon_unit_zero zero2 _ _).trans ?_
  rfl

theorem leftA10 (hc0 : cond0_0 i) (hc1 : cond0_1 i) (hc2 : cond0_2 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = dhpT x0 x1 x2 x3 x4 x5 x6 x7 := by
  unfold out0_A_10
  rw [View.read_writes_eq_canon _ _ _ (cover0_A_10 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg7.read_unread, harg8.read_unread, ld2]
  refine (View.canon_unit_zero zero2 _ _).trans ?_
  rfl

theorem leftB10 (hc0 : ¬cond0_0 i) (hc1 : ¬cond0_1 i) (hc2 : ¬cond0_2 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = dhpT x0 x1 x2 x3 x4 x5 x6 x7 := by
  unfold out0_B_10
  rw [View.read_writes_eq_canon _ _ _ (cover0_B_10 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg7.read_unread, harg8.read_unread, ld2]
  refine (View.canon_unit_zero zero2 _ _).trans ?_
  rfl

theorem leftA11 (hc0 : cond0_0 i) (hc1 : cond0_1 i) (hc2 : cond0_2 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = gpT x0 x1 x2 x3 x4 x5 x7 (k0_pay1 (F := Ideal)) := by
  unfold out0_A_11
  rw [View.read_writes_eq_canon _ _ _ (cover0_A_11 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg8.read_unread, ld2]
  refine (View.canon_cons_unit_zero zero2 _ _ _).trans ?_
  exact congrArg (gpT x0 x1 x2 x3 x4 x5 x7) (View.readCov_unit_lit _ _ _ (by intro a; fin_cases a <;> rfl))

theorem leftB11 (hc0 : ¬cond0_0 i) (hc1 : ¬cond0_1 i) (hc2 : ¬cond0_2 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = gpT x0 x1 x2 x3 x4 x5 x7 xo11 := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg8.read_unread, harg12.read_unread, ld2]
  refine (View.canon_unit_zero zero2 _ _).trans ?_
  rfl

theorem leftA12 (hc0 : cond0_0 i) (hc1 : cond0_1 i) (hc2 : cond0_2 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = gnT x0 x1 x2 x3 x4 x5 x7 (k0_pay3 (F := Ideal)) := by
  unfold out0_A_12
  rw [View.read_writes_eq_canon _ _ _ (cover0_A_12 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg8.read_unread, ld2]
  refine (View.canon_cons_unit_zero zero2 _ _ _).trans ?_
  exact congrArg (gnT x0 x1 x2 x3 x4 x5 x7) (View.readCov_unit_lit _ _ _ (by intro a; fin_cases a <;> rfl))

theorem leftB12 (hc0 : ¬cond0_0 i) (hc1 : ¬cond0_1 i) (hc2 : ¬cond0_2 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = gnT x0 x1 x2 x3 x4 x5 x7 xo12 := by
  unfold out0_B_12
  rw [View.read_writes_eq_canon _ _ _ (cover0_B_12 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg8.read_unread, harg13.read_unread, ld2]
  refine (View.canon_unit_zero zero2 _ _).trans ?_
  rfl

theorem leftA13 (hc0 : cond0_0 i) (hc1 : cond0_1 i) (hc2 : cond0_2 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 = loT x0 x1 x2 x3 x4 x5 x7 (k0_pay10 (F := Ideal)) := by
  unfold out0_A_13
  rw [View.read_writes_eq_canon _ _ _ (cover0_A_13 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg8.read_unread, ld2]
  refine (View.canon_cons_unit_zero zero2 _ _ _).trans ?_
  exact congrArg (loT x0 x1 x2 x3 x4 x5 x7) (View.readCov_unit_lit _ _ _ (by intro a; fin_cases a <;> rfl))

theorem leftB13 (hc0 : ¬cond0_0 i) (hc1 : ¬cond0_1 i) (hc2 : ¬cond0_2 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 xo11 xo12 xo13 = loT x0 x1 x2 x3 x4 x5 x7 xo13 := by
  unfold out0_B_13
  rw [View.read_writes_eq_canon _ _ _ (cover0_B_13 _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg8.read_unread, harg14.read_unread, ld2]
  refine (View.canon_unit_zero zero2 _ _).trans ?_
  rfl

end leaves

/-! ## The blocks -/

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index4 : ∀ t : Fin grid0.N, win0_4.index t 0 = t.val ∧ win0_4.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

theorem block0 (t : Fin cfg0.N) (r : Fin 4096) (p : Fin 256) (h : t.val * 256 + p.val = r.val) (d : Fin 1024) :
    (iblk m c 0 t : Vec Ideal S256x1024 .bf16) (ValueIdx.ix2 p d) = m ((c : Thread nD τ).loc main_arg0) (ValueIdx.ix2 r d) := by
  unfold iblk
  rw [View.read_apply]
  show V m c main_arg0 _ = _
  rw [V_main_arg0]
  refine congrArg _ ?_
  refine idx2 ?_ ?_
  · show win0_0.index t 0 * 256 + 1 * p.val = r.val; rw [(index0 t).1]; exact Cert.Prods.step h
  · show win0_0.index t 1 * 1024 + 1 * d.val = d.val; rw [(index0 t).2]; exact Cert.Prods.whole _ _

theorem block1 (t : Fin cfg0.N) (r : Fin 4096) (p : Fin 256) (h : t.val * 256 + p.val = r.val) (d : Fin 256) :
    (iblk m c 1 t : Vec Ideal S256x256 .bf16) (ValueIdx.ix2 p d) = m ((c : Thread nD τ).loc main_arg1) (ValueIdx.ix2 r d) := by
  unfold iblk
  rw [View.read_apply]
  show V m c main_arg1 _ = _
  rw [V_main_arg1]
  refine congrArg _ ?_
  refine idx2 ?_ ?_
  · show win0_1.index t 0 * 256 + 1 * p.val = r.val; rw [(index1 t).1]; exact Cert.Prods.step h
  · show win0_1.index t 1 * 256 + 1 * d.val = d.val; rw [(index1 t).2]; exact Cert.Prods.whole _ _

theorem block4 (t : Fin cfg0.N) (r : Fin 4096) (p : Fin 256) (h : t.val * 256 + p.val = r.val) (d : Fin 1024) :
    (iblk m c 4 t : Vec Ideal S256x1024 .f32) (ValueIdx.ix2 p d) = m ((c : Thread nD τ).loc main_arg4) (ValueIdx.ix2 r d) := by
  unfold iblk
  rw [View.read_apply]
  show V m c main_arg4 _ = _
  rw [V_main_arg4]
  refine congrArg _ ?_
  refine idx2 ?_ ?_
  · show win0_4.index t 0 * 256 + 1 * p.val = r.val; rw [(index4 t).1]; exact Cert.Prods.step h
  · show win0_4.index t 1 * 1024 + 1 * d.val = d.val; rw [(index4 t).2]; exact Cert.Prods.whole _ _

theorem block7 (t : Fin cfg0.N) (r : Fin 4096) (p : Fin 256) (h : t.val * 256 + p.val = r.val) (d : Fin 1024) :
    (iblk m c 7 t : Vec Ideal S256x1024 .f32) (ValueIdx.ix2 p d) = m ((c : Thread nD τ).loc main_arg7) (ValueIdx.ix2 r d) := by
  unfold iblk
  rw [View.read_apply]
  show V m c main_arg7 _ = _
  rw [V_main_arg7]
  refine congrArg _ ?_
  refine idx2 ?_ ?_
  · show win0_7.index t 0 * 256 + 1 * p.val = r.val; rw [(index7 t).1]; exact Cert.Prods.step h
  · show win0_7.index t 1 * 1024 + 1 * d.val = d.val; rw [(index7 t).2]; exact Cert.Prods.whole _ _

theorem block2 (t : Fin cfg0.N) : (iblk m c 2 t : Vec Ideal S1024x1024 .bf16) = (m ((c : Thread nD τ).loc main_arg2)) := by
  refine funext fun j => ?_
  obtain ⟨s, d, rfl⟩ : ∃ (s : Fin 1024) (d : Fin 1024), j = ValueIdx.ix2 s d := ⟨j 0, j 1, ValueIdx.eq_ix2 j⟩
  unfold iblk
  rw [View.read_apply]
  show V m c main_arg2 _ = _
  rw [V_main_arg2]
  refine congrArg _ ?_
  refine idx2 ?_ ?_
  · show win0_2.index t 0 * 1024 + 1 * s.val = s.val; rw [(index2 t).1]; exact Cert.Prods.whole _ _
  · show win0_2.index t 1 * 1024 + 1 * d.val = d.val; rw [(index2 t).2]; exact Cert.Prods.whole _ _

theorem block3 (t : Fin cfg0.N) : (iblk m c 3 t : Vec Ideal S256x1024 .bf16) = (m ((c : Thread nD τ).loc main_arg3)) := by
  refine funext fun j => ?_
  obtain ⟨s, d, rfl⟩ : ∃ (s : Fin 256) (d : Fin 1024), j = ValueIdx.ix2 s d := ⟨j 0, j 1, ValueIdx.eq_ix2 j⟩
  unfold iblk
  rw [View.read_apply]
  show V m c main_arg3 _ = _
  rw [V_main_arg3]
  refine congrArg _ ?_
  refine idx2 ?_ ?_
  · show win0_3.index t 0 * 256 + 1 * s.val = s.val; rw [(index3 t).1]; exact Cert.Prods.whole _ _
  · show win0_3.index t 1 * 1024 + 1 * d.val = d.val; rw [(index3 t).2]; exact Cert.Prods.whole _ _

theorem block5 (t : Fin cfg0.N) : (iblk m c 5 t : Vec Ideal S1x1024 .f32) = (m ((c : Thread nD τ).loc main_arg5)) := by
  refine funext fun j => ?_
  obtain ⟨s, d, rfl⟩ : ∃ (s : Fin 1) (d : Fin 1024), j = ValueIdx.ix2 s d := ⟨j 0, j 1, ValueIdx.eq_ix2 j⟩
  unfold iblk
  rw [View.read_apply]
  show V m c main_arg5 _ = _
  rw [V_main_arg5]
  refine congrArg _ ?_
  refine idx2 ?_ ?_
  · show win0_5.index t 0 * 1 + 1 * s.val = s.val; rw [(index5 t).1]; exact Cert.Prods.whole _ _
  · show win0_5.index t 1 * 1024 + 1 * d.val = d.val; rw [(index5 t).2]; exact Cert.Prods.whole _ _

theorem block6 (t : Fin cfg0.N) : (iblk m c 6 t : Vec Ideal S1x1024 .f32) = (m ((c : Thread nD τ).loc main_arg6)) := by
  refine funext fun j => ?_
  obtain ⟨s, d, rfl⟩ : ∃ (s : Fin 1) (d : Fin 1024), j = ValueIdx.ix2 s d := ⟨j 0, j 1, ValueIdx.eq_ix2 j⟩
  unfold iblk
  rw [View.read_apply]
  show V m c main_arg6 _ = _
  rw [V_main_arg6]
  refine congrArg _ ?_
  refine idx2 ?_ ?_
  · show win0_6.index t 0 * 1 + 1 * s.val = s.val; rw [(index6 t).1]; exact Cert.Prods.whole _ _
  · show win0_6.index t 1 * 1024 + 1 * d.val = d.val; rw [(index6 t).2]; exact Cert.Prods.whole _ _

/-- What is read from the tiles at a point is what is read from the arrays at its row. -/
theorem atRow (F : (Fin 1024 → EReal) → (Fin 256 → EReal) → Vec Ideal S1024x1024 .bf16 → Vec Ideal S256x1024 .bf16 → (Fin 1024 → EReal) → (Fin 1024 → EReal) → Vec Ideal S1x1024 .f32 → Vec Ideal S1x1024 .f32 → EReal) (t : Fin cfg0.N) (r : Fin 4096) (p : Fin 256) (h : t.val * 256 + p.val = r.val) :
    F (row (iblk m c 0 t : Vec Ideal S256x1024 .bf16) p) (row (iblk m c 1 t : Vec Ideal S256x256 .bf16) p) (iblk m c 2 t : Vec Ideal S1024x1024 .bf16) (iblk m c 3 t : Vec Ideal S256x1024 .bf16) (rowF (iblk m c 4 t : Vec Ideal S256x1024 .f32) p) (rowF (iblk m c 7 t : Vec Ideal S256x1024 .f32) p) (iblk m c 5 t : Vec Ideal S1x1024 .f32) (iblk m c 6 t : Vec Ideal S1x1024 .f32) = F (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) (m ((c : Thread nD τ).loc main_arg6)) := by
  have e0 : row (iblk m c 0 t : Vec Ideal S256x1024 .bf16) p = row (n := 4096) (k := 1024) (m ((c : Thread nD τ).loc main_arg0)) r := funext fun d => block0 m c t r p h d
  have e1 : row (iblk m c 1 t : Vec Ideal S256x256 .bf16) p = row (n := 4096) (k := 256) (m ((c : Thread nD τ).loc main_arg1)) r := funext fun d => block1 m c t r p h d
  have e4 : rowF (iblk m c 4 t : Vec Ideal S256x1024 .f32) p = rowF (n := 4096) (m ((c : Thread nD τ).loc main_arg4)) r := funext fun d => block4 m c t r p h d
  have e7 : rowF (iblk m c 7 t : Vec Ideal S256x1024 .f32) p = rowF (n := 4096) (m ((c : Thread nD τ).loc main_arg7)) r := funext fun d => block7 m c t r p h d
  rw [e0, e1, e4, e7, block2 m c t, block3 m c t, block5 m c t, block6 m c t]

theorem pointOf (r : Fin 4096) : ∃ t : Fin cfg0.N, t.val = r.val / 256 := by
  have hr := r.isLt
  have ht : r.val / 256 < cfg0.N := by rw [show cfg0.N = 16 from N_0]; omega
  exact ⟨⟨_, ht⟩, rfl⟩

theorem left8 (t : Fin cfg0.N) : (outsAt0 m c t.val t.isLt).1 = dsT (iblk m c 0 t) (iblk m c 1 t) (iblk m c 2 t) (iblk m c 3 t) (iblk m c 4 t) (iblk m c 5 t) (iblk m c 7 t) := by
  by_cases h0 : t.val % 16 = 0
  · rw [outsAt0_A m c t h0 h0 h0]
    dsimp only
    exact leftA8 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)
  · rw [outsAt0_B m c t h0 h0 h0]
    dsimp only
    exact leftB8 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem left9 (t : Fin cfg0.N) : (outsAt0 m c t.val t.isLt).2.1 = deT (iblk m c 0 t) (iblk m c 1 t) (iblk m c 2 t) (iblk m c 3 t) (iblk m c 4 t) (iblk m c 5 t) (iblk m c 7 t) := by
  by_cases h0 : t.val % 16 = 0
  · rw [outsAt0_A m c t h0 h0 h0]
    dsimp only
    exact leftA9 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)
  · rw [outsAt0_B m c t h0 h0 h0]
    dsimp only
    exact leftB9 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem left10 (t : Fin cfg0.N) : (outsAt0 m c t.val t.isLt).2.2.1 = dhpT (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0 h0 h0]
    dsimp only
    exact leftA10 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)
  · rw [outsAt0_B m c t h0 h0 h0]
    dsimp only
    exact leftB10 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem first11 (t : Fin cfg0.N) (h0 : t.val % 16 = 0) : (outsAt0 m c t.val t.isLt).2.2.2.1 = gpT (iblk m c 0 t) (iblk m c 1 t) (iblk m c 2 t) (iblk m c 3 t) (iblk m c 4 t) (iblk m c 5 t) (iblk m c 7 t) (k0_pay1 (F := Ideal)) := by
  rw [outsAt0_A m c t h0 h0 h0]
  dsimp only
  exact leftA11 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)

theorem left11 (t : Fin cfg0.N) (h0 : ¬t.val % 16 = 0) : (outsAt0 m c t.val t.isLt).2.2.2.1 = gpT (iblk m c 0 t) (iblk m c 1 t) (iblk m c 2 t) (iblk m c 3 t) (iblk m c 4 t) (iblk m c 5 t) (iblk m c 7 t) (outsAt0 m c (t.val - 1) (Nat.lt_of_le_of_lt (Nat.sub_le _ _) t.isLt)).2.2.2.1 := by
  rw [outsAt0_B m c t h0 h0 h0]
  dsimp only
  exact leftB11 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem first12 (t : Fin cfg0.N) (h0 : t.val % 16 = 0) : (outsAt0 m c t.val t.isLt).2.2.2.2.1 = gnT (iblk m c 0 t) (iblk m c 1 t) (iblk m c 2 t) (iblk m c 3 t) (iblk m c 4 t) (iblk m c 5 t) (iblk m c 7 t) (k0_pay3 (F := Ideal)) := by
  rw [outsAt0_A m c t h0 h0 h0]
  dsimp only
  exact leftA12 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)

theorem left12 (t : Fin cfg0.N) (h0 : ¬t.val % 16 = 0) : (outsAt0 m c t.val t.isLt).2.2.2.2.1 = gnT (iblk m c 0 t) (iblk m c 1 t) (iblk m c 2 t) (iblk m c 3 t) (iblk m c 4 t) (iblk m c 5 t) (iblk m c 7 t) (outsAt0 m c (t.val - 1) (Nat.lt_of_le_of_lt (Nat.sub_le _ _) t.isLt)).2.2.2.2.1 := by
  rw [outsAt0_B m c t h0 h0 h0]
  dsimp only
  exact leftB12 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem first13 (t : Fin cfg0.N) (h0 : t.val % 16 = 0) : (outsAt0 m c t.val t.isLt).2.2.2.2.2 = loT (iblk m c 0 t) (iblk m c 1 t) (iblk m c 2 t) (iblk m c 3 t) (iblk m c 4 t) (iblk m c 5 t) (iblk m c 7 t) (k0_pay10 (F := Ideal)) := by
  rw [outsAt0_A m c t h0 h0 h0]
  dsimp only
  exact leftA13 c (grid0.coords t) _ _ _ _ _ _ _ _ _ _ _ _ _ _ _ _ _ _ _ _ _ _ _ _ _ _ _ _ _ _ _ _ _ _ _ _ ((hcond0_0 t).mpr h0) ((hcond0_1 t).mpr h0) ((hcond0_2 t).mpr h0)

theorem left13 (t : Fin cfg0.N) (h0 : ¬t.val % 16 = 0) : (outsAt0 m c t.val t.isLt).2.2.2.2.2 = loT (iblk m c 0 t) (iblk m c 1 t) (iblk m c 2 t) (iblk m c 3 t) (iblk m c 4 t) (iblk m c 5 t) (iblk m c 7 t) (outsAt0 m c (t.val - 1) (Nat.lt_of_le_of_lt (Nat.sub_le _ _) t.isLt)).2.2.2.2.2 := by
  rw [outsAt0_B m c t h0 h0 h0]
  dsimp only
  exact leftB13 c (grid0.coords t) _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h))

theorem final8 (r : Fin 4096) (d : Fin 1024) :
    (dats m 0 c).arrAt 8 cfg0.N (ValueIdx.ix2 r d) = dsv (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) d := by
  obtain ⟨t, ht0⟩ := pointOf r
  have hp : r.val % 256 < 256 := Nat.mod_lt _ (by decide)
  have h := congrFun (blocks8 m c t (flush0_8 _)) (ValueIdx.ix2 (⟨r.val % 256, hp⟩ : Fin 256) d)
  rw [flushed8, left8] at h
  rw [View.read_apply] at h
  refine Eq.trans (congrArg _ ?_) (h.trans ?_)
  · refine idx2 ?_ ?_
    · show r.val = win0_8.index t 0 * 256 + 1 * (r.val % 256); rw [(index8 t).1]; exact rowAt ht0
    · show d.val = win0_8.index t 1 * 1024 + 1 * d.val; rw [(index8 t).2]; exact wholeAt _ _
  · exact (dsT_apply _ _ _ _ _ _ _ _ d).trans (atRow m c (fun a b x2 x3 h tg x5 _ => dsv a b x2 x3 h tg x5 d) t r ⟨r.val % 256, hp⟩ (rowFrom ht0))

theorem final9 (r : Fin 4096) (d : Fin 1024) :
    (dats m 0 c).arrAt 9 cfg0.N (ValueIdx.ix2 r d) = dev (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) d := by
  obtain ⟨t, ht0⟩ := pointOf r
  have hp : r.val % 256 < 256 := Nat.mod_lt _ (by decide)
  have h := congrFun (blocks9 m c t (flush0_9 _)) (ValueIdx.ix2 (⟨r.val % 256, hp⟩ : Fin 256) d)
  rw [flushed9, left9] at h
  rw [View.read_apply] at h
  refine Eq.trans (congrArg _ ?_) (h.trans ?_)
  · refine idx2 ?_ ?_
    · show r.val = win0_9.index t 0 * 256 + 1 * (r.val % 256); rw [(index9 t).1]; exact rowAt ht0
    · show d.val = win0_9.index t 1 * 1024 + 1 * d.val; rw [(index9 t).2]; exact wholeAt _ _
  · exact (deT_apply _ _ _ _ _ _ _ _ d).trans (atRow m c (fun a b x2 x3 h tg x5 _ => dev a b x2 x3 h tg x5 d) t r ⟨r.val % 256, hp⟩ (rowFrom ht0))

theorem final10 (r : Fin 4096) (d : Fin 1024) :
    (dats m 0 c).arrAt 10 cfg0.N (ValueIdx.ix2 r d) = dhpv (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) (m ((c : Thread nD τ).loc main_arg6)) d := by
  obtain ⟨t, ht0⟩ := pointOf r
  have hp : r.val % 256 < 256 := Nat.mod_lt _ (by decide)
  have h := congrFun (blocks10 m c t (flush0_10 _)) (ValueIdx.ix2 (⟨r.val % 256, hp⟩ : Fin 256) d)
  rw [flushed10, left10] at h
  rw [View.read_apply] at h
  refine Eq.trans (congrArg _ ?_) (h.trans ?_)
  · refine idx2 ?_ ?_
    · show r.val = win0_10.index t 0 * 256 + 1 * (r.val % 256); rw [(index10 t).1]; exact rowAt ht0
    · show d.val = win0_10.index t 1 * 1024 + 1 * d.val; rw [(index10 t).2]; exact wholeAt _ _
  · exact (dhpT_apply _ _ _ _ _ _ _ _ _ d).trans (atRow m c (fun a b x2 x3 h tg x5 x6 => dhpv a b x2 x3 h tg x5 x6 d) t r ⟨r.val % 256, hp⟩ (rowFrom ht0))

theorem last_lt : 15 < cfg0.N := by rw [show cfg0.N = 16 from N_0]; decide

/-- What one point adds to result 11. -/
def part11 (d : Fin 1024) (k : ℕ) : EReal :=
  if h : k < cfg0.N then ∑ p : Fin 256, gpv (row (iblk m c 0 ⟨k, h⟩ : Vec Ideal S256x1024 .bf16) p) (row (iblk m c 1 ⟨k, h⟩ : Vec Ideal S256x256 .bf16) p) (iblk m c 2 ⟨k, h⟩ : Vec Ideal S1024x1024 .bf16) (iblk m c 3 ⟨k, h⟩ : Vec Ideal S256x1024 .bf16) (rowF (iblk m c 4 ⟨k, h⟩ : Vec Ideal S256x1024 .f32) p) (rowF (iblk m c 7 ⟨k, h⟩ : Vec Ideal S256x1024 .f32) p) (iblk m c 5 ⟨k, h⟩ : Vec Ideal S1x1024 .f32) d else 0

theorem start11 (d : Fin 1024) (h : 0 < cfg0.N) : ((outsAt0 m c 0 h).2.2.2.1 (ValueIdx.ix2 (0 : Fin 1) d) : EReal) = 0 + part11 m c d 0 := by
  refine (congrFun (first11 m c ⟨0, h⟩ rfl) _).trans ((gpT_apply _ _ _ _ _ _ _ _ d).trans ?_)
  refine add2 zeroBits ?_
  unfold part11
  rw [dif_pos h]

theorem next11 (d : Fin 1024) (k : ℕ) (h : k + 1 < cfg0.N) (h' : k < cfg0.N) :
    ((outsAt0 m c (k + 1) h).2.2.2.1 (ValueIdx.ix2 (0 : Fin 1) d) : EReal) = ((outsAt0 m c k h').2.2.2.1 (ValueIdx.ix2 (0 : Fin 1) d) : EReal) + part11 m c d (k + 1) := by
  have h16 : k + 1 < 16 := lt_of_lt_of_eq h (show cfg0.N = 16 from N_0)
  refine (congrFun (left11 m c ⟨k + 1, h⟩ (succ_mod h16)) _).trans ((gpT_apply _ _ _ _ _ _ _ _ d).trans ?_)
  refine congrArg (fun q : EReal => ((outsAt0 m c k h').2.2.2.1 (ValueIdx.ix2 (0 : Fin 1) d) : EReal) + q) ?_
  unfold part11
  rw [dif_pos h]

theorem whole11 : (dats m 0 c).arrAt 11 cfg0.N = (outsAt0 m c 15 last_lt).2.2.2.1 :=
  (dats m 0 c).arrAt_eq_of_cover 11 (outsAt0 m c 15 last_lt).2.2.2.1 (fun t hf => by
    have hN : t.val < 16 := lt_of_lt_of_eq t.isLt (show cfg0.N = 16 from N_0)
    obtain rfl : t = t0_15 := Fin.ext (last_of ((flush0_11 t).mp hf) hN)
    rw [flushed11]
    have hz' : (fun a => win0_11.index t0_15 a * main_v0_3.ty.shape.size a) = fun _ => 0 := funext fun a => by fin_cases a <;> decide
    exact (Memref.read_access_unit_zero (Elt Ideal) main_v0_3 hz' (fun a => by rw [congrFun hz' a]; simp) (outsAt0 m c 15 last_lt).2.2.2.1).symm)
    fun i => ⟨t0_15, (flush0_11 t0_15).mpr rfl, by
      show i ∈ ((View.whole main_v0_3).slice (win0_11.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

theorem final11 (d : Fin 1024) :
    (dats m 0 c).arrAt 11 cfg0.N (ValueIdx.ix2 (0 : Fin 1) d) = ∑ r : Fin 4096, gpv (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) d := by
  rw [whole11]
  refine (running (part11 m c d) (fun k h => ((outsAt0 m c k h).2.2.2.1 (ValueIdx.ix2 (0 : Fin 1) d) : EReal)) (start11 m c d) (next11 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => atRow m c (fun a b x2 x3 h tg x5 _ => gpv a b x2 x3 h tg x5 d) ⟨p.val, hp⟩ _ s rfl

/-- What one point adds to result 12. -/
def part12 (d : Fin 1024) (k : ℕ) : EReal :=
  if h : k < cfg0.N then ∑ p : Fin 256, gnv (row (iblk m c 0 ⟨k, h⟩ : Vec Ideal S256x1024 .bf16) p) (row (iblk m c 1 ⟨k, h⟩ : Vec Ideal S256x256 .bf16) p) (iblk m c 2 ⟨k, h⟩ : Vec Ideal S1024x1024 .bf16) (iblk m c 3 ⟨k, h⟩ : Vec Ideal S256x1024 .bf16) (rowF (iblk m c 4 ⟨k, h⟩ : Vec Ideal S256x1024 .f32) p) (rowF (iblk m c 7 ⟨k, h⟩ : Vec Ideal S256x1024 .f32) p) (iblk m c 5 ⟨k, h⟩ : Vec Ideal S1x1024 .f32) d else 0

theorem start12 (d : Fin 1024) (h : 0 < cfg0.N) : ((outsAt0 m c 0 h).2.2.2.2.1 (ValueIdx.ix2 (0 : Fin 1) d) : EReal) = 0 + part12 m c d 0 := by
  refine (congrFun (first12 m c ⟨0, h⟩ rfl) _).trans ((gnT_apply _ _ _ _ _ _ _ _ d).trans ?_)
  refine add2 zeroBits ?_
  unfold part12
  rw [dif_pos h]

theorem next12 (d : Fin 1024) (k : ℕ) (h : k + 1 < cfg0.N) (h' : k < cfg0.N) :
    ((outsAt0 m c (k + 1) h).2.2.2.2.1 (ValueIdx.ix2 (0 : Fin 1) d) : EReal) = ((outsAt0 m c k h').2.2.2.2.1 (ValueIdx.ix2 (0 : Fin 1) d) : EReal) + part12 m c d (k + 1) := by
  have h16 : k + 1 < 16 := lt_of_lt_of_eq h (show cfg0.N = 16 from N_0)
  refine (congrFun (left12 m c ⟨k + 1, h⟩ (succ_mod h16)) _).trans ((gnT_apply _ _ _ _ _ _ _ _ d).trans ?_)
  refine congrArg (fun q : EReal => ((outsAt0 m c k h').2.2.2.2.1 (ValueIdx.ix2 (0 : Fin 1) d) : EReal) + q) ?_
  unfold part12
  rw [dif_pos h]

theorem whole12 : (dats m 0 c).arrAt 12 cfg0.N = (outsAt0 m c 15 last_lt).2.2.2.2.1 :=
  (dats m 0 c).arrAt_eq_of_cover 12 (outsAt0 m c 15 last_lt).2.2.2.2.1 (fun t hf => by
    have hN : t.val < 16 := lt_of_lt_of_eq t.isLt (show cfg0.N = 16 from N_0)
    obtain rfl : t = t0_15 := Fin.ext (last_of ((flush0_12 t).mp hf) hN)
    rw [flushed12]
    have hz' : (fun a => win0_12.index t0_15 a * main_v0_4.ty.shape.size a) = fun _ => 0 := funext fun a => by fin_cases a <;> decide
    exact (Memref.read_access_unit_zero (Elt Ideal) main_v0_4 hz' (fun a => by rw [congrFun hz' a]; simp) (outsAt0 m c 15 last_lt).2.2.2.2.1).symm)
    fun i => ⟨t0_15, (flush0_12 t0_15).mpr rfl, by
      show i ∈ ((View.whole main_v0_4).slice (win0_12.rect t0_15)).set
      rw [View.set_slice_whole, Rect.mem_set_unit]
      intro a
      have h0 : (i 0 : Nat) < 1 := (i 0).isLt
      have h1 : (i 1 : Nat) < 1024 := (i 1).isLt
      match a with
      | ⟨0, _⟩ => show 0 ≤ (i 0 : Nat) ∧ (i 0 : Nat) < 0 + 1; omega
      | ⟨1, _⟩ => show 0 ≤ (i 1 : Nat) ∧ (i 1 : Nat) < 0 + 1024; omega⟩

theorem final12 (d : Fin 1024) :
    (dats m 0 c).arrAt 12 cfg0.N (ValueIdx.ix2 (0 : Fin 1) d) = ∑ r : Fin 4096, gnv (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) d := by
  rw [whole12]
  refine (running (part12 m c d) (fun k h => ((outsAt0 m c k h).2.2.2.2.1 (ValueIdx.ix2 (0 : Fin 1) d) : EReal)) (start12 m c d) (next12 m c d) 15 last_lt).trans ?_
  refine tiles fun p => ?_
  have hp : p.val < cfg0.N := lt_of_lt_of_eq p.isLt (show 16 = cfg0.N from N_0.symm)
  refine (dif_pos hp).trans ?_
  exact Finset.sum_congr rfl fun s _ => atRow m c (fun a b x2 x3 h tg x5 _ => gnv a b x2 x3 h tg x5 d) ⟨p.val, hp⟩ _ s rfl

/-- What one point adds to result 13. -/
def part13 (k : ℕ) : EReal :=
  if h : k < cfg0.N then ∑ p : Fin 256, cl * lov (row (iblk m c 0 ⟨k, h⟩ : Vec Ideal S256x1024 .bf16) p) (row (iblk m c 1 ⟨k, h⟩ : Vec Ideal S256x256 .bf16) p) (iblk m c 2 ⟨k, h⟩ : Vec Ideal S1024x1024 .bf16) (iblk m c 3 ⟨k, h⟩ : Vec Ideal S256x1024 .bf16) (rowF (iblk m c 4 ⟨k, h⟩ : Vec Ideal S256x1024 .f32) p) (rowF (iblk m c 7 ⟨k, h⟩ : Vec Ideal S256x1024 .f32) p) (iblk m c 5 ⟨k, h⟩ : Vec Ideal S1x1024 .f32) else 0

theorem start13 (u : Fin 8) (v : Fin 128) (h : 0 < cfg0.N) : ((outsAt0 m c 0 h).2.2.2.2.2 (ValueIdx.ix2 u v) : EReal) = 0 + part13 m c 0 := by
  refine (congrFun (first13 m c ⟨0, h⟩ rfl) _).trans ((loT_apply _ _ _ _ _ _ _ _ u v).trans ?_)
  refine add2 zeroBits ?_
  unfold part13
  rw [dif_pos h]

theorem next13 (u : Fin 8) (v : Fin 128) (k : ℕ) (h : k + 1 < cfg0.N) (h' : k < cfg0.N) :
    ((outsAt0 m c (k + 1) h).2.2.2.2.2 (ValueIdx.ix2 u v) : EReal) = ((outsAt0 m c k h').2.2.2.2.2 (ValueIdx.ix2 u v) : EReal) + part13 m c (k + 1) := by
  have h16 : k + 1 < 16 := lt_of_lt_of_eq h (show cfg0.N = 16 from N_0)
  refine (congrFun (left13 m c ⟨k + 1, h⟩ (succ_mod h16)) _).trans ((loT_apply _ _ _ _ _ _ _ _ u v).trans ?_)
  refine congrArg (fun q : EReal => ((outsAt0 m c k h').2.2.2.2.2 (ValueIdx.ix2 u v) : EReal) + q) ?_
  unfold part13
  rw [dif_pos h]

theorem whole13 : (dats m 0 c).arrAt 13 cfg0.N = (outsAt0 m c 15 last_lt).2.2.2.2.2 :=
  (dats m 0 c).arrAt_eq_of_cover 13 (outsAt0 m c 15 last_lt).2.2.2.2.2 (fun t hf => by
    have hN : t.val < 16 := lt_of_lt_of_eq t.isLt (show cfg0.N = 16 from N_0)
    obtain rfl : t = t0_15 := Fin.ext (last_of ((flush0_13 t).mp hf) hN)
    rw [flushed13]
    have hz' : (fun a => win0_13.index t0_15 a * main_v0_5.ty.shape.size a) = fun _ => 0 := funext fun a => by fin_cases a <;> decide
    exact (Memref.read_access_unit_zero (Elt Ideal) main_v0_5 hz' (fun a => by rw [congrFun hz' a]; simp) (outsAt0 m c 15 last_lt).2.2.2.2.2).symm)
    fun i => ⟨t0_15, (flush0_13 t0_15).mpr rfl, by
      show i ∈ ((View.whole main_v0_5).slice (win0_13.rect t0_15)).set
      rw [View.set_slice_whole, Rect.mem_set_unit]
      intro a
      have h0 : (i 0 : Nat) < 8 := (i 0).isLt
      have h1 : (i 1 : Nat) < 128 := (i 1).isLt
      match a with
      | ⟨0, _⟩ => show 0 ≤ (i 0 : Nat) ∧ (i 0 : Nat) < 0 + 8; omega
      | ⟨1, _⟩ => show 0 ≤ (i 1 : Nat) ∧ (i 1 : Nat) < 0 + 128; omega⟩

theorem final13 (u : Fin 8) (v : Fin 128) :
    (dats m 0 c).arrAt 13 cfg0.N (ValueIdx.ix2 u v) = ∑ r : Fin 4096, cl * lov (row (n := 4096) (k := 1024) (m ((c : Thread nD τ).loc main_arg0)) r) (row (n := 4096) (k := 256) (m ((c : Thread nD τ).loc main_arg1)) r) (m ((c : Thread nD τ).loc main_arg2)) (m ((c : Thread nD τ).loc main_arg3)) (rowF (n := 4096) (m ((c : Thread nD τ).loc main_arg4)) r) (rowF (n := 4096) (m ((c : Thread nD τ).loc main_arg7)) r) (m ((c : Thread nD τ).loc main_arg5)) := by
  rw [whole13]
  refine (running (part13 m c) (fun k h => ((outsAt0 m c k h).2.2.2.2.2 (ValueIdx.ix2 u v) : EReal)) (start13 m c u v) (next13 m c u v) 15 last_lt).trans ?_
  refine tiles fun p => ?_
  have hp : p.val < cfg0.N := lt_of_lt_of_eq p.isLt (show 16 = cfg0.N from N_0.symm)
  refine (dif_pos hp).trans ?_
  exact Finset.sum_congr rfl fun s _ => atRow m c (fun a b x2 x3 h tg x5 _ => cl * lov a b x2 x3 h tg x5) ⟨p.val, hp⟩ _ s rfl

/-! ## The reference -/

section reference
open Cert.PleLossRefIdeal.Read

variable (x0 : Vec Ideal S4096x1024 .bf16) (x1 : Vec Ideal S4096x256 .bf16) (x2 : Vec Ideal S1024x1024 .bf16) (x3 : Vec Ideal S256x1024 .bf16)
  (x4 : Vec Ideal S4096x1024 .f32) (x5 x6 : Vec Ideal S1x1024 .f32) (x7 : Vec Ideal S4096x1024 .f32)

theorem refH (i : S4096x1024.Idx) : x4 i = rowF x4 (i 0) (i 1) := congrArg x4 (ValueIdx.eq_ix2 i)

theorem refG (i : S4096x1024.Idx) : val_main_v11 (F := Ideal) x0 x2 i = gv (row x0 (i 0)) x2 (i 1) := by
  rw [val_main_v11_apply, val_main_v10_apply, val_main_v9_apply, val_main_v8_apply, val_main_v7_apply, val_main_v6_apply]
  refine congrArg (fun g : EReal => sg g) ((val_main_v2_apply _ _ _).trans (Finset.sum_congr rfl fun s _ => ?_))
  rw [val_main_v0_apply, val_main_v1_apply]
  refine mul2 (congrArg x0 ?_) (congrArg x2 ?_)
  all_goals
    exact idx2 rfl rfl

theorem refE (i : S4096x1024.Idx) : val_main_v5 (F := Ideal) x1 x3 i = ev (row x1 (i 0)) x3 (i 1) := by
  refine (val_main_v5_apply _ _ _).trans (Finset.sum_congr rfl fun s _ => ?_)
  rw [val_main_v3_apply, val_main_v4_apply]
  refine mul2 (congrArg x1 ?_) (congrArg x3 ?_)
  all_goals
    exact idx2 rfl rfl

theorem refQ (i : S4096x1024.Idx) : val_main_v15 (F := Ideal) x0 x1 x2 x3 i = qv (row x0 (i 0)) (row x1 (i 0)) x2 x3 (i 1) := by
  rw [val_main_v15_apply]
  exact mul2 (refG x0 x2 i) (refE x1 x3 i)

theorem refMsQ (i : (⟨2, ![4096, 1]⟩ : Shape).Idx) : val_main_v22 (F := Ideal) x0 x1 x2 x3 i = ms (qv (row x0 (i 0)) (row x1 (i 0)) x2 x3) := by
  rw [val_main_v22_apply, val_main_v20_apply, val_main_v18_apply]
  refine congrArg (fun w : EReal => Ideal.div w cn + ce) ?_
  refine (val_main_v17_apply _ _ _ _ _).trans (zero_plus _ zeroBits _ _ fun k => ?_)
  rw [val_main_v16_apply]
  exact congrArg (fun w : EReal => w * w) (refQ x0 x1 x2 x3 _)

theorem refInvQ (i : (⟨2, ![4096, 1]⟩ : Shape).Idx) : val_main_v23 (F := Ideal) x0 x1 x2 x3 i = inv (qv (row x0 (i 0)) (row x1 (i 0)) x2 x3) := by
  rw [val_main_v23_apply]
  exact congrArg Ideal.rsqrt (refMsQ x0 x1 x2 x3 i)

theorem refSlopeQ (i : (⟨2, ![4096, 1]⟩ : Shape).Idx) : val_main_v26 (F := Ideal) x0 x1 x2 x3 i = cm * Ideal.div (inv (qv (row x0 (i 0)) (row x1 (i 0)) x2 x3)) (ms (qv (row x0 (i 0)) (row x1 (i 0)) x2 x3)) := by
  rw [val_main_v26_apply, val_main_v24_apply]
  exact congrArg₂ (fun p q : EReal => cm * Ideal.div p q) (refInvQ x0 x1 x2 x3 i) (refMsQ x0 x1 x2 x3 i)

theorem refMsH (i : (⟨2, ![4096, 1]⟩ : Shape).Idx) : val_main_v77 (F := Ideal) x4 i = ms (rowF x4 (i 0)) := by
  rw [val_main_v77_apply, val_main_v75_apply, val_main_v73_apply]
  refine congrArg (fun w : EReal => Ideal.div w cn + ce) ?_
  refine (val_main_v72_apply _ _).trans (zero_plus _ zeroBits _ _ fun k => ?_)
  rw [val_main_v71_apply]
  exact congrArg (fun w : EReal => w * w) (refH x4 _)

theorem refInvH (i : (⟨2, ![4096, 1]⟩ : Shape).Idx) : val_main_v78 (F := Ideal) x4 i = inv (rowF x4 (i 0)) := by
  rw [val_main_v78_apply]
  exact congrArg Ideal.rsqrt (refMsH x4 i)

theorem refSlopeH (i : (⟨2, ![4096, 1]⟩ : Shape).Idx) : val_main_v81 (F := Ideal) x4 i = cm * Ideal.div (inv (rowF x4 (i 0))) (ms (rowF x4 (i 0))) := by
  rw [val_main_v81_apply, val_main_v79_apply]
  exact congrArg₂ (fun p q : EReal => cm * Ideal.div p q) (refInvH x4 i) (refMsH x4 i)

theorem refUnit (i : S4096x1024.Idx) : val_main_v28 (F := Ideal) x0 x1 x2 x3 i = qv (row x0 (i 0)) (row x1 (i 0)) x2 x3 (i 1) * inv (qv (row x0 (i 0)) (row x1 (i 0)) x2 x3) := by
  rw [val_main_v28_apply, val_main_v27_apply]
  exact mul2 (refQ x0 x1 x2 x3 i) (refInvQ x0 x1 x2 x3 _)

theorem refEr (i : S4096x1024.Idx) : val_main_v32 (F := Ideal) x0 x1 x2 x3 x4 x5 x7 i = erv (row x0 (i 0)) (row x1 (i 0)) x2 x3 (rowF x4 (i 0)) (rowF x7 (i 0)) x5 (i 1) := by
  rw [val_main_v32_apply, val_main_v31_apply, val_main_v30_apply, val_main_v29_apply]
  refine congrArg₂ (fun p q : EReal => p - q) (add2 (refH x4 i) (mul2 (refUnit x0 x1 x2 x3 i) (congrArg x5 ?_)))
    (congrArg x7 (ValueIdx.eq_ix2 i))
  exact idx2 rfl rfl

theorem refDh (i : S4096x1024.Idx) : val_main_v46 (F := Ideal) x0 x1 x2 x3 x4 x5 x7 i = dhv (row x0 (i 0)) (row x1 (i 0)) x2 x3 (rowF x4 (i 0)) (rowF x7 (i 0)) x5 (i 1) := by
  rw [val_main_v46_apply, val_main_v45_apply, val_main_v44_apply, val_main_v43_apply, val_main_v42_apply, val_main_v41_apply, val_main_v35_apply, val_main_v34_apply]
  refine (scale_eq _).trans ?_
  exact congrArg (fun w : EReal => w * cr) (refEr x0 x1 x2 x3 x4 x5 x7 i)

theorem refScaledQ (i : S4096x1024.Idx) : val_main_v51 (F := Ideal) x0 x1 x2 x3 x4 x5 x7 i = scaled (dhv (row x0 (i 0)) (row x1 (i 0)) x2 x3 (rowF x4 (i 0)) (rowF x7 (i 0)) x5) x5 (i 1) := by
  rw [val_main_v51_apply, val_main_v50_apply]
  refine mul2 (refDh x0 x1 x2 x3 x4 x5 x7 i) (congrArg x5 ?_)
  exact idx2 rfl rfl

theorem refInnerQ (i : (⟨1, ![4096]⟩ : Shape).Idx) : val_main_v53 (F := Ideal) x0 x1 x2 x3 x4 x5 x7 i = inner (qv (row x0 (i 0)) (row x1 (i 0)) x2 x3) (scaled (dhv (row x0 (i 0)) (row x1 (i 0)) x2 x3 (rowF x4 (i 0)) (rowF x7 (i 0)) x5) x5) := by
  refine (val_main_v53_apply _ _ _ _ _ _ _ _).trans (zero_plus _ zeroBits _ _ fun k => ?_)
  rw [val_main_v52_apply]
  exact mul2 (refQ x0 x1 x2 x3 _) (refScaledQ x0 x1 x2 x3 x4 x5 x7 _)

theorem refPullQ (i : (⟨1, ![4096]⟩ : Shape).Idx) : val_main_v60 (F := Ideal) x0 x1 x2 x3 x4 x5 x7 i = pull (qv (row x0 (i 0)) (row x1 (i 0)) x2 x3) (scaled (dhv (row x0 (i 0)) (row x1 (i 0)) x2 x3 (rowF x4 (i 0)) (rowF x7 (i 0)) x5) x5) := by
  refine (val_main_v60_apply _ _ _ _ _ _ _ _).trans (zero_one _ zeroBits _ _ ?_)
  rw [val_main_v59_apply, val_main_v57_apply, val_main_v54_apply]
  have e : idx_main_v54 (idx_main_v60 i 0) = i := funext fun d => by
    match d with
    | ⟨0, _⟩ => exact Fin.ext (by show (i 0).val * 1 + 0 = (i 0).val; omega)
  rw [e]
  exact congrArg₂ (fun p q : EReal => Ideal.div (p * q) cn) (refInnerQ x0 x1 x2 x3 x4 x5 x7 i) (refSlopeQ x0 x1 x2 x3 _)

theorem refBackQ (i : S4096x1024.Idx) : val_main_v65 (F := Ideal) x0 x1 x2 x3 x4 x5 x7 i = back (qv (row x0 (i 0)) (row x1 (i 0)) x2 x3) (scaled (dhv (row x0 (i 0)) (row x1 (i 0)) x2 x3 (rowF x4 (i 0)) (rowF x7 (i 0)) x5) x5) (i 1) := by
  refine Eq.trans ?_ (back_eq _ _ _).symm
  rw [val_main_v65_apply, val_main_v63_apply, val_main_v64_apply, val_main_v62_apply, val_main_v61_apply, val_main_v56_apply, val_main_v55_apply]
  have hp := refPullQ x0 x1 x2 x3 x4 x5 x7 (idx_main_v61 i)
  exact add2
    (add2 (mul2 (refScaledQ x0 x1 x2 x3 x4 x5 x7 i) (refInvQ x0 x1 x2 x3 _)) (mul2 (refQ x0 x1 x2 x3 i) hp))
    (mul2 hp (refQ x0 x1 x2 x3 i))

theorem refDe (i : S4096x1024.Idx) : val_main_v66 (F := Ideal) x0 x1 x2 x3 x4 x5 x7 i = dev (row x0 (i 0)) (row x1 (i 0)) x2 x3 (rowF x4 (i 0)) (rowF x7 (i 0)) x5 (i 1) := by
  rw [val_main_v66_apply]
  exact (mul2 (refG x0 x2 i) (refBackQ x0 x1 x2 x3 x4 x5 x7 i)).trans (mul_comm _ _)

theorem refDs (i : S4096x1024.Idx) : val_main_v68 (F := Ideal) x0 x1 x2 x3 x4 x5 x7 i = dsv (row x0 (i 0)) (row x1 (i 0)) x2 x3 (rowF x4 (i 0)) (rowF x7 (i 0)) x5 (i 1) := by
  rw [val_main_v68_apply, val_main_v67_apply, val_main_v14_apply, val_main_v13_apply, val_main_v12_apply]
  refine (congrArg₂ (fun u g : EReal => u * (g * (one - g))) (mul2 (refBackQ x0 x1 x2 x3 x4 x5 x7 i) (refE x1 x3 i)) (refG x0 x2 i)).trans ?_
  exact (mul_assoc _ _ _).symm

theorem refDy (i : S4096x1024.Idx) : val_main_v70 (F := Ideal) x0 x1 x2 x3 x4 x5 x7 i = dyv (row x0 (i 0)) (row x1 (i 0)) x2 x3 (rowF x4 (i 0)) (rowF x7 (i 0)) x5 (i 1) := by
  unfold dyv against
  refine (val_main_v70_apply _ _ _ _ _ _ _ _).trans (Finset.sum_congr rfl fun s _ => ?_)
  rw [val_main_v1_apply]
  refine mul2 (refDs x0 x1 x2 x3 x4 x5 x7 _) (congrArg x2 ?_)
  exact idx2 rfl rfl

theorem refScaledH (i : S4096x1024.Idx) : val_main_v90 (F := Ideal) x0 x1 x2 x3 x4 x5 x6 x7 i = scaled (dyv (row x0 (i 0)) (row x1 (i 0)) x2 x3 (rowF x4 (i 0)) (rowF x7 (i 0)) x5) x6 (i 1) := by
  rw [val_main_v90_apply, val_main_v89_apply]
  refine mul2 (refDy x0 x1 x2 x3 x4 x5 x7 i) (congrArg x6 ?_)
  exact idx2 rfl rfl

theorem refInnerH (i : (⟨1, ![4096]⟩ : Shape).Idx) : val_main_v92 (F := Ideal) x0 x1 x2 x3 x4 x5 x6 x7 i = inner (rowF x4 (i 0)) (scaled (dyv (row x0 (i 0)) (row x1 (i 0)) x2 x3 (rowF x4 (i 0)) (rowF x7 (i 0)) x5) x6) := by
  refine (val_main_v92_apply _ _ _ _ _ _ _ _ _).trans (zero_plus _ zeroBits _ _ fun k => ?_)
  rw [val_main_v91_apply]
  exact mul2 (refH x4 _) (refScaledH x0 x1 x2 x3 x4 x5 x6 x7 _)

theorem refPullH (i : (⟨1, ![4096]⟩ : Shape).Idx) : val_main_v99 (F := Ideal) x0 x1 x2 x3 x4 x5 x6 x7 i = pull (rowF x4 (i 0)) (scaled (dyv (row x0 (i 0)) (row x1 (i 0)) x2 x3 (rowF x4 (i 0)) (rowF x7 (i 0)) x5) x6) := by
  refine (val_main_v99_apply _ _ _ _ _ _ _ _ _).trans (zero_one _ zeroBits _ _ ?_)
  rw [val_main_v98_apply, val_main_v96_apply, val_main_v93_apply]
  have e : idx_main_v93 (idx_main_v99 i 0) = i := funext fun d => by
    match d with
    | ⟨0, _⟩ => exact Fin.ext (by show (i 0).val * 1 + 0 = (i 0).val; omega)
  rw [e]
  exact congrArg₂ (fun p q : EReal => Ideal.div (p * q) cn) (refInnerH x0 x1 x2 x3 x4 x5 x6 x7 i) (refSlopeH x4 _)

theorem refBackH (i : S4096x1024.Idx) : val_main_v104 (F := Ideal) x0 x1 x2 x3 x4 x5 x6 x7 i = back (rowF x4 (i 0)) (scaled (dyv (row x0 (i 0)) (row x1 (i 0)) x2 x3 (rowF x4 (i 0)) (rowF x7 (i 0)) x5) x6) (i 1) := by
  refine Eq.trans ?_ (back_eq _ _ _).symm
  rw [val_main_v104_apply, val_main_v102_apply, val_main_v103_apply, val_main_v101_apply, val_main_v100_apply, val_main_v95_apply, val_main_v94_apply]
  have hp := refPullH x0 x1 x2 x3 x4 x5 x6 x7 (idx_main_v100 i)
  exact add2
    (add2 (mul2 (refScaledH x0 x1 x2 x3 x4 x5 x6 x7 i) (refInvH x4 _)) (mul2 (refH x4 i) hp))
    (mul2 hp (refH x4 i))

theorem refDhp (i : S4096x1024.Idx) : val_main_v107 (F := Ideal) x0 x1 x2 x3 x4 x5 x6 x7 i = dhpv (row x0 (i 0)) (row x1 (i 0)) x2 x3 (rowF x4 (i 0)) (rowF x7 (i 0)) x5 x6 (i 1) := by
  rw [val_main_v107_apply]
  exact add2 (refDh x0 x1 x2 x3 x4 x5 x7 i) (refBackH x0 x1 x2 x3 x4 x5 x6 x7 i)

theorem refGp (d : Fin 1024) : val_main_v49 (F := Ideal) x0 x1 x2 x3 x4 x5 x7 (ValueIdx.ix2 (0 : Fin 1) d) = ∑ r : Fin 4096, gpv (row x0 r) (row x1 r) x2 x3 (rowF x4 r) (rowF x7 r) x5 d := by
  rw [val_main_v49_apply]
  refine (val_main_v48_apply _ _ _ _ _ _ _ _).trans (zero_plus _ zeroBits _ _ fun k => ?_)
  have e : idx_main_v48 (idx_main_v49 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v47_apply]
  refine (mul2 (refUnit x0 x1 x2 x3 _) (refDh x0 x1 x2 x3 x4 x5 x7 _)).trans ?_
  exact (mul_comm _ _).trans (mul_assoc _ _ _).symm

theorem refGn (d : Fin 1024) : val_main_v88 (F := Ideal) x0 x1 x2 x3 x4 x5 x7 (ValueIdx.ix2 (0 : Fin 1) d) = ∑ r : Fin 4096, gnv (row x0 r) (row x1 r) x2 x3 (rowF x4 r) (rowF x7 r) x5 d := by
  rw [val_main_v88_apply]
  refine (val_main_v87_apply _ _ _ _ _ _ _ _).trans (zero_plus _ zeroBits _ _ fun k => ?_)
  have e : idx_main_v87 (idx_main_v88 (ValueIdx.ix2 (0 : Fin 1) d)) k = ValueIdx.ix2 k d := by
    refine idx2 ?_ ?_
    · rfl
    · first | rfl | exact (by show 0 * 1024 + d.val = d.val; omega) | exact (by have := d.isLt; show (0 * 1024 + d.val) % 1024 = d.val; omega)
  rw [e, val_main_v86_apply, val_main_v83_apply, val_main_v82_apply]
  refine (mul2 (mul2 (refH x4 _) (refInvH x4 _)) (refDy x0 x1 x2 x3 x4 x5 x7 _)).trans ?_
  exact (mul_comm _ _).trans (mul_assoc _ _ _).symm

theorem refLoss (i : S8x128.Idx) : val_main_v108 (F := Ideal) x0 x1 x2 x3 x4 x5 x7 i = ∑ r : Fin 4096, cl * lov (row x0 r) (row x1 r) x2 x3 (rowF x4 r) (rowF x7 r) x5 := by
  rw [val_main_v108_apply, val_main_v40_apply, val_main_v39_apply]
  have e : ∀ r : Fin 4096, val_main_v38 (F := Ideal) x0 x1 x2 x3 x4 x5 x7 (ValueIdx.ix1 r) = Ideal.div (lov (row x0 r) (row x1 r) x2 x3 (rowF x4 r) (rowF x7 r) x5) cn := fun r => by
    rw [val_main_v38_apply, val_main_v37_apply]
    refine congrArg (fun w : EReal => Ideal.div w cn) ?_
    refine (val_main_v36_apply _ _ _ _ _ _ _ _).trans (zero_plus _ zeroBits _ _ fun k => ?_)
    rw [val_main_v33_apply]
    exact congrArg (fun w : EReal => w * w) (refEr x0 x1 x2 x3 x4 x5 x7 _)
  have s : (∑ j : (⟨1, ![4096]⟩ : Shape).Idx, (val_main_v38 (F := Ideal) x0 x1 x2 x3 x4 x5 x7 j : EReal)) = ∑ r : Fin 4096, Ideal.div (lov (row x0 r) (row x1 r) x2 x3 (rowF x4 r) (rowF x7 r) x5) cn := by
    refine (Fintype.sum_equiv ⟨fun r : Fin 4096 => (ValueIdx.ix1 r : (⟨1, ![4096]⟩ : Shape).Idx), fun j => j 0, fun _ => rfl, fun j => (ValueIdx.eq_ix1 j).symm⟩ _ _ fun r => ?_).symm
    exact (e r).symm
  refine (congrArg (fun w : EReal => ch * w) ((add2 zeroBits s).trans (zero_add _))).trans ?_
  rw [half_sum]
  exact Finset.sum_congr rfl fun r _ => scale_eq' _

end reference

theorem algebraic : @Cert.algebraic_PleLossIdeal_PleLossRefIdeal Cert.PleLossIdeal.Gen.facts Cert.PleLossRefIdeal.Gen.facts := by
  intro m g m' g' _ ha
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, run_blocks m g, ?_⟩
  refine (θ_run Cert.PleLossRefIdeal.defs _ _).mono (fun r h c => ?_) (Cert.PleLossRefIdeal.Value.run (F := Ideal) m' g')
  obtain ⟨h8, h9, h10, h11, h12, h13, hk⟩ := h c
  obtain ⟨a0, a1, a2, a3, a4, a5, a6, a7⟩ := ha c
  refine ⟨h8.trans ((Cert.PleLossRefIdeal.Read.val_main_v105_eq _ _).trans ?_), h9.trans ((Cert.PleLossRefIdeal.Read.val_main_v106_eq _ _).trans ?_),
    h10.trans ((Cert.PleLossRefIdeal.Read.val_main_v107_eq _ _).trans ?_), h11.trans ((Cert.PleLossRefIdeal.Read.val_main_v49_eq _ _).trans ?_),
    h12.trans ((Cert.PleLossRefIdeal.Read.val_main_v88_eq _ _).trans ?_), h13.trans ((Cert.PleLossRefIdeal.Read.val_main_v108_eq _ _).trans ?_), hk⟩
  · rw [a0, a1, a2, a3, a4, a5, a7]
    refine funext fun i => ?_
    obtain ⟨r, d, rfl⟩ : ∃ (r : Fin 4096) (d : Fin 1024), i = ValueIdx.ix2 r d := ⟨i 0, i 1, ValueIdx.eq_ix2 i⟩
    exact (refDs _ _ _ _ _ _ _ _).trans (final8 m c r d).symm
  · rw [a0, a1, a2, a3, a4, a5, a7]
    refine funext fun i => ?_
    obtain ⟨r, d, rfl⟩ : ∃ (r : Fin 4096) (d : Fin 1024), i = ValueIdx.ix2 r d := ⟨i 0, i 1, ValueIdx.eq_ix2 i⟩
    exact (refDe _ _ _ _ _ _ _ _).trans (final9 m c r d).symm
  · rw [a0, a1, a2, a3, a4, a5, a6, a7]
    refine funext fun i => ?_
    obtain ⟨r, d, rfl⟩ : ∃ (r : Fin 4096) (d : Fin 1024), i = ValueIdx.ix2 r d := ⟨i 0, i 1, ValueIdx.eq_ix2 i⟩
    exact (refDhp _ _ _ _ _ _ _ _ _).trans (final10 m c r d).symm
  · rw [a0, a1, a2, a3, a4, a5, a7]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refGp _ _ _ _ _ _ _ d).trans (final11 m c d).symm
  · rw [a0, a1, a2, a3, a4, a5, a7]
    refine funext fun i => ?_
    obtain ⟨u, d, rfl⟩ : ∃ (u : Fin 1) (d : Fin 1024), i = ValueIdx.ix2 u d := ⟨i 0, i 1, ValueIdx.eq_ix2 i⟩
    obtain rfl : u = 0 := Subsingleton.elim _ _
    exact (refGn _ _ _ _ _ _ _ d).trans (final12 m c d).symm
  · rw [a0, a1, a2, a3, a4, a5, a7]
    refine funext fun i => ?_
    obtain ⟨u, v, rfl⟩ : ∃ (u : Fin 8) (v : Fin 128), i = ValueIdx.ix2 u v := ⟨i 0, i 1, ValueIdx.eq_ix2 i⟩
    exact (refLoss _ _ _ _ _ _ _ _).trans (final13 m c u v).symm

/-- The reference keeps its arguments. -/
theorem refFrame : @Cert.quiescent_PleLossRefIdeal Cert.PleLossRefIdeal.Gen.facts := fun m g _ =>
  (θ_run Cert.PleLossRefIdeal.defs _ _).mono (fun r h => ⟨fun c => (h c).2.2.2.2.2.2, sem_eq_zero_of_no_sems (by decide) r.2⟩) (Cert.PleLossRefIdeal.Value.run (F := Ideal) m g)

end Cert.PleLossTie

end
-- ==== Proof.DwPle.lean ====
/- The weight gradient of the per-layer embedding: block k of the result is the transpose of the first argument times columns 256 k to
   256 k + 255 of the second. -/
module

public import proofs.«01_k».proof.Proof.Prods
public import proofs.«01_k».proof.Defs
public import proofs.«01_k».proof.Proof.Gen.DwPleIdeal.Value
public import proofs.«01_k».proof.Proof.Gen.DwPleRefIdeal.Run
public import proofs.«01_k».proof.Proof.Gen.DwPleRefIdeal.Read
public import Idealize.ShloMosaic.Lib.Tactic.ValueTie

@[expose] public section

noncomputable section

namespace Cert.DwPleTie

open Idealize.ShloMosaic Idealize.ShloMosaic.TcCoe Idealize.SL.Sem
open Cert.DwPleIdeal Cert.DwPleIdeal.Gen Cert.DwPleIdeal.Value
open scoped BigOperators

/-- Column d of block k. -/
def colOf (k : Fin 4) (d : Fin 256) : Fin 1024 := ⟨k.val * 256 + d.val, by have := k.isLt; have := d.isLt; omega⟩

/-- Entry (k, j, d) of the gradient. -/
def grad (x0 : Vec Ideal S4096x256 .bf16) (x1 : Vec Ideal S4096x1024 .bf16) (k : Fin 4) (j d : Fin 256) : EReal :=
  ∑ s : Fin 4096, (x0 (ValueIdx.ix2 s j) : EReal) * (x1 (ValueIdx.ix2 s (colOf k d)) : EReal)

/-- What the kernel writes at one grid point. -/
theorem written (x0 x1 : Vec Ideal S4096x256 .bf16) (j d : Fin 256) :
    (k0_pay1 (F := Ideal) x0 x1) (ValueIdx.ix3 0 j d) = ∑ s : Fin 4096, (x0 (ValueIdx.ix2 s j) : EReal) * (x1 (ValueIdx.ix2 s d) : EReal) := by
  unfold k0_pay1
  refine (ValueIdx.shapeCast_ab_1ab_apply _ _ _ _ _).trans ?_
  exact Cert.Prods.tn (φ := .bf16) (ψ := .bf16) x0 x1 _ none j d

theorem left (c : Dev nD) (i : grid0.Coords) (arg2 : Memref sig .tc .vmem S4096x256 .bf16) (harg2 : arg2.IsWhole) (arg3 : Memref sig .tc .vmem S4096x256 .bf16) (harg3 : arg3.IsWhole)
    (arg4 : Memref sig .tc .vmem S1x256x256 .bf16) (harg4 : arg4.IsWhole) (arg5 : Memref sig .tc .vmem S8x128 .f32) (harg5 : arg5.IsWhole)
    (x0 x1 : Vec Ideal S4096x256 .bf16) :
    out0_A_2 (F := Ideal) c i arg2 harg2 arg3 harg3 arg4 harg4 arg5 harg5 x0 x1 = k0_pay1 (F := Ideal) x0 x1 := by
  unfold out0_A_2
  rw [View.read_writes_eq_canon _ _ _ (cover0_A_2 c i arg2 harg2 arg3 harg3 arg4 harg4 arg5 harg5 x0 x1)]
  unfold kernelRun0_A
  dsimp only
  sl_unfold_words
  simp only [View.readAt_eq_ld, harg2.read_unread, harg3.read_unread]
  refine (View.canon_unit_zero (by funext a; fin_cases a <;> rfl) _ _).trans ?_
  rw [View.ld_unit_zero (by funext a; fin_cases a <;> rfl) _ x0, View.ld_unit_zero (by funext a; fin_cases a <;> rfl) _ x1]

variable (m : (ℓ : Loc nD τ sig) → Buf (Elt Ideal) ℓ) (c : Dev nD)

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = t.val ∧ win0_2.index t 1 = 0 ∧ win0_2.index t 2 = 0 := by decide +kernel

theorem block0 (t : Fin cfg0.N) (s : Fin 4096) (j : Fin 256) :
    (iblk m c 0 t : Vec Ideal S4096x256 .bf16) (ValueIdx.ix2 s j) = m ((c : Thread nD τ).loc main_arg0) (ValueIdx.ix2 s j) := by
  unfold iblk
  rw [View.read_apply]
  show V m c main_arg0 _ = _
  rw [V_main_arg0]
  refine congrArg _ ?_
  funext a
  apply Fin.ext
  match a with
  | ⟨0, _⟩ => show win0_0.index t 0 * 4096 + 1 * s.val = s.val; rw [(index0 t).1]; omega
  | ⟨1, _⟩ => show win0_0.index t 1 * 256 + 1 * j.val = j.val; rw [(index0 t).2]; omega

theorem block1 (t : Fin cfg0.N) (k : Fin 4) (hk : k.val = t.val) (s : Fin 4096) (d : Fin 256) :
    (iblk m c 1 t : Vec Ideal S4096x256 .bf16) (ValueIdx.ix2 s d) = m ((c : Thread nD τ).loc main_arg1) (ValueIdx.ix2 s (colOf k d)) := by
  unfold iblk
  rw [View.read_apply]
  show V m c main_arg1 _ = _
  rw [V_main_arg1]
  refine congrArg _ ?_
  funext a
  apply Fin.ext
  match a with
  | ⟨0, _⟩ => show win0_1.index t 0 * 4096 + 1 * s.val = s.val; rw [(index1 t).1]; omega
  | ⟨1, _⟩ => show win0_1.index t 1 * 256 + 1 * d.val = k.val * 256 + d.val; rw [(index1 t).2]; omega

/-- The result the call leaves. -/
theorem final (k : Fin 4) (j d : Fin 256) :
    (dats m 0 c).arrAt 2 cfg0.N (ValueIdx.ix3 k j d)
      = grad (m ((c : Thread nD τ).loc main_arg0)) (m ((c : Thread nD τ).loc main_arg1)) k j d := by
  have ht : k.val < cfg0.N := by rw [show cfg0.N = 4 from N_0]; exact k.isLt
  have h := congrFun (blocks2 m c ⟨k.val, ht⟩ (flush0_2 _)) (ValueIdx.ix3 (0 : Fin 1) j d)
  rw [flushed2_A, left] at h
  rw [View.read_apply] at h
  refine Eq.trans (congrArg _ ?_) (h.trans ?_)
  · funext a
    apply Fin.ext
    match a with
    | ⟨0, _⟩ => show k.val = win0_2.index ⟨k.val, ht⟩ 0 * 1 + 1 * 0; rw [(index2 ⟨k.val, ht⟩).1]; show k.val = k.val * 1 + 1 * 0; omega
    | ⟨1, _⟩ => show j.val = win0_2.index ⟨k.val, ht⟩ 1 * 256 + 1 * j.val; rw [(index2 ⟨k.val, ht⟩).2.1]; omega
    | ⟨2, _⟩ => show d.val = win0_2.index ⟨k.val, ht⟩ 2 * 256 + 1 * d.val; rw [(index2 ⟨k.val, ht⟩).2.2]; omega
  · refine (written _ _ j d).trans ?_
    exact Finset.sum_congr rfl fun s _ => congrArg₂ (fun p q : EReal => p * q) (block0 m c ⟨k.val, ht⟩ s j) (block1 m c ⟨k.val, ht⟩ k rfl s d)

open Cert.DwPleRefIdeal.Read in
/-- The reference's result. -/
theorem ref (x0 : Vec Ideal S4096x256 .bf16) (x1 : Vec Ideal S4096x1024 .bf16) (k : Fin 4) (j d : Fin 256) :
    val_main_v8 (F := Ideal) x0 x1 (ValueIdx.ix3 k j d) = grad x0 x1 k j d := by
  rw [val_main_v8_apply, val_main_v7_apply, val_main_v6_apply, val_main_v5_apply]
  refine (val_main_v4_apply _ _ _).trans ?_
  refine Finset.sum_congr rfl fun s _ => ?_
  rw [val_main_v3_apply, val_main_v0_apply]
  refine (mul_comm _ _).trans ?_
  have hk := k.isLt
  have hj := j.isLt
  have hd := d.isLt
  refine congrArg₂ (fun p q : EReal => p * q) (congrArg x0 ?_) (congrArg x1 ?_)
  · funext a
    apply Fin.ext
    match a with
    | ⟨0, _⟩ => rfl
    | ⟨1, _⟩ => show ((j.val * 4 + k.val) * 256 + d.val) / 1024 = j.val; omega
  · funext a
    apply Fin.ext
    match a with
    | ⟨0, _⟩ => rfl
    | ⟨1, _⟩ => show ((j.val * 4 + k.val) * 256 + d.val) % 1024 = k.val * 256 + d.val; omega

theorem algebraic : @Cert.algebraic_DwPleIdeal_DwPleRefIdeal Cert.DwPleIdeal.Gen.facts Cert.DwPleRefIdeal.Gen.facts := by
  intro m g m' g' _ ha
  refine ⟨fun c => (dats m 0 c).arrAt 2 cfg0.N, run_blocks m g, ?_⟩
  refine (θ_run Cert.DwPleRefIdeal.defs _ _).mono (fun r h c => ?_) (Cert.DwPleRefIdeal.Value.run (F := Ideal) m' g')
  obtain ⟨hv, hk⟩ := h c
  obtain ⟨a0, a1⟩ := ha c
  refine ⟨hv.trans ((Cert.DwPleRefIdeal.Read.val_main_v8_eq _ _).trans ?_), hk⟩
  rw [a0, a1]
  refine funext fun i => ?_
  obtain ⟨k, j, d, rfl⟩ : ∃ (k : Fin 4) (j d : Fin 256), i = ValueIdx.ix3 k j d := ⟨i 0, i 1, i 2, ValueIdx.eq_ix3 i⟩
  exact (ref _ _ k j d).trans (final m c k j d).symm

/-- The reference keeps its arguments. -/
theorem refFrame : @Cert.quiescent_DwPleRefIdeal Cert.DwPleRefIdeal.Gen.facts := fun m g _ =>
  (θ_run Cert.DwPleRefIdeal.defs _ _).mono (fun r h => ⟨fun c => (h c).2, sem_eq_zero_of_no_sems (by decide) r.2⟩) (Cert.DwPleRefIdeal.Value.run (F := Ideal) m g)

end Cert.DwPleTie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Conforms
public import proofs.«01_k».proof.Proof.Gen.DwFfn.Frame
public import proofs.«01_k».proof.Proof.Gen.DxFfn.Frame
public import proofs.«01_k».proof.Proof.Gen.DwIn.Frame
public import proofs.«01_k».proof.Proof.Gen.MixerIn.Frame
public import proofs.«01_k».proof.Proof.Gen.FfnGu.Frame
public import proofs.«01_k».proof.Proof.Gen.FfnBwdA.Frame
public import proofs.«01_k».proof.Proof.Gen.MmNorm.Frame
public import proofs.«01_k».proof.Proof.Gen.DwSq.Frame
public import proofs.«01_k».proof.Proof.Gen.DxMixer.Frame
public import proofs.«01_k».proof.Proof.Gen.MixerOut.Frame
public import proofs.«01_k».proof.Proof.Gen.MixerY.Frame
public import proofs.«01_k».proof.Proof.Gen.MixerBwdY.Frame
public import proofs.«01_k».proof.Proof.Gen.PleLoss.Frame
public import proofs.«01_k».proof.Proof.Gen.DwPle.Frame
public import proofs.«01_k».proof.Proof.DwFfn
public import proofs.«01_k».proof.Proof.DxFfn
public import proofs.«01_k».proof.Proof.DwIn
public import proofs.«01_k».proof.Proof.MixerIn
public import proofs.«01_k».proof.Proof.FfnGu
public import proofs.«01_k».proof.Proof.FfnBwdA
public import proofs.«01_k».proof.Proof.MmNorm
public import proofs.«01_k».proof.Proof.DwSq
public import proofs.«01_k».proof.Proof.DxMixer
public import proofs.«01_k».proof.Proof.MixerOut
public import proofs.«01_k».proof.Proof.MixerY
public import proofs.«01_k».proof.Proof.MixerBwdY
public import proofs.«01_k».proof.Proof.PleLoss
public import proofs.«01_k».proof.Proof.DwPle
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.DwFfn.Gen.facts,
    Cert.DwFfnIdeal.Gen.facts, Cert.DwFfnRefIdeal.Gen.facts, Cert.DxFfn.Gen.facts, Cert.DxFfnIdeal.Gen.facts,
    Cert.DxFfnRefIdeal.Gen.facts, Cert.DwIn.Gen.facts, Cert.DwInIdeal.Gen.facts, Cert.DwInRefIdeal.Gen.facts,
    Cert.MixerIn.Gen.facts, Cert.MixerInIdeal.Gen.facts, Cert.MixerInRefIdeal.Gen.facts, Cert.FfnGu.Gen.facts,
    Cert.FfnGuIdeal.Gen.facts, Cert.FfnGuRefIdeal.Gen.facts, Cert.FfnBwdA.Gen.facts, Cert.FfnBwdAIdeal.Gen.facts,
    Cert.FfnBwdARefIdeal.Gen.facts, Cert.MmNorm.Gen.facts, Cert.MmNormIdeal.Gen.facts, Cert.MmNormRefIdeal.Gen.facts,
    Cert.DwSq.Gen.facts, Cert.DwSqIdeal.Gen.facts, Cert.DwSqRefIdeal.Gen.facts, Cert.DxMixer.Gen.facts,
    Cert.DxMixerIdeal.Gen.facts, Cert.DxMixerRefIdeal.Gen.facts, Cert.MixerOut.Gen.facts, Cert.MixerOutIdeal.Gen.facts,
    Cert.MixerOutRefIdeal.Gen.facts, Cert.MixerY.Gen.facts, Cert.MixerYIdeal.Gen.facts, Cert.MixerYRefIdeal.Gen.facts,
    Cert.MixerBwdY.Gen.facts, Cert.MixerBwdYIdeal.Gen.facts, Cert.MixerBwdYRefIdeal.Gen.facts, Cert.PleLoss.Gen.facts,
    Cert.PleLossIdeal.Gen.facts, Cert.PleLossRefIdeal.Gen.facts, Cert.DwPle.Gen.facts, Cert.DwPleIdeal.Gen.facts,
    Cert.DwPleRefIdeal.Gen.facts, Cert.Finite.facts, Cert.FfnGuTie.preFacts,
    fun m ρ _ => Cert.Kernel.Gen.frame m ρ,
    fun m ρ _ => Cert.KernelIdeal.Gen.frame m ρ,
    fun m ρ _ => Cert.KernelIdeal.Gen.frame m ρ,
    fun m ρ _ => Cert.Conforms.refFrame m ρ,
    fun m ρ _ => Cert.Conforms.refFrame m ρ,
    fun m ρ _ => Cert.DwFfn.Gen.frame m ρ,
    fun m ρ _ => Cert.DwFfnIdeal.Gen.frame m ρ,
    Cert.DwFfnTie.refFrame,
    fun m ρ _ => Cert.DxFfn.Gen.frame m ρ,
    fun m ρ _ => Cert.DxFfnIdeal.Gen.frame m ρ,
    Cert.DxFfnTie.refFrame,
    fun m ρ _ => Cert.DwIn.Gen.frame m ρ,
    fun m ρ _ => Cert.DwInIdeal.Gen.frame m ρ,
    Cert.DwInTie.refFrame,
    fun m ρ _ => Cert.MixerIn.Gen.frame m ρ,
    fun m ρ _ => Cert.MixerInIdeal.Gen.frame m ρ,
    Cert.MixerInTie.refFrame,
    fun m ρ _ => Cert.FfnGu.Gen.frame m ρ,
    fun m ρ _ => Cert.FfnGuIdeal.Gen.frame m ρ,
    fun m ρ _ => Cert.FfnGuIdeal.Gen.frame m ρ,
    Cert.FfnGuTie.refFrame,
    fun m ρ _ => Cert.FfnGuTie.refFrame m ρ trivial,
    fun m ρ _ => Cert.FfnBwdA.Gen.frame m ρ,
    fun m ρ _ => Cert.FfnBwdAIdeal.Gen.frame m ρ,
    Cert.FfnBwdATie.refFrame,
    fun m ρ _ => Cert.MmNorm.Gen.frame m ρ,
    fun m ρ _ => Cert.MmNormIdeal.Gen.frame m ρ,
    Cert.MmNormTie.refFrame,
    fun m ρ _ => Cert.DwSq.Gen.frame m ρ,
    fun m ρ _ => Cert.DwSqIdeal.Gen.frame m ρ,
    Cert.DwSqTie.refFrame,
    fun m ρ _ => Cert.DxMixer.Gen.frame m ρ,
    fun m ρ _ => Cert.DxMixerIdeal.Gen.frame m ρ,
    Cert.DxMixerTie.refFrame,
    fun m ρ _ => Cert.MixerOut.Gen.frame m ρ,
    fun m ρ _ => Cert.MixerOutIdeal.Gen.frame m ρ,
    Cert.MixerOutTie.refFrame,
    fun m ρ _ => Cert.MixerY.Gen.frame m ρ,
    fun m ρ _ => Cert.MixerYIdeal.Gen.frame m ρ,
    Cert.MixerYTie.refFrame,
    fun m ρ _ => Cert.MixerBwdY.Gen.frame m ρ,
    fun m ρ _ => Cert.MixerBwdYIdeal.Gen.frame m ρ,
    Cert.MixerBwdYTie.refFrame,
    fun m ρ _ => Cert.PleLoss.Gen.frame m ρ,
    fun m ρ _ => Cert.PleLossIdeal.Gen.frame m ρ,
    Cert.PleLossTie.refFrame,
    fun m ρ _ => Cert.DwPle.Gen.frame m ρ,
    fun m ρ _ => Cert.DwPleIdeal.Gen.frame m ρ,
    Cert.DwPleTie.refFrame,
    ⟨IdealRules.named_const.statement Cert.KernelIdeal.κ "gelu_kc" .f32 0x3D122279#32 _ rfl,
      IdealRules.named_const.statement Cert.KernelIdeal.κ "gelu_3kc" .f32 0x3DDB33B6#32 _ rfl⟩,
    Cert.Conforms.algebraic,
    trivial, Cert.DwFfnTie.algebraic,
    trivial, Cert.DxFfnTie.algebraic,
    trivial, Cert.DwInTie.algebraic,
    trivial, Cert.MixerInTie.algebraic,
    trivial, Cert.FfnGuTie.algebraic,
    trivial, Cert.FfnBwdATie.algebraic,
    trivial, Cert.MmNormTie.algebraic,
    trivial, Cert.DwSqTie.algebraic,
    trivial, Cert.DxMixerTie.algebraic,
    trivial, Cert.MixerOutTie.algebraic,
    trivial, Cert.MixerYTie.algebraic,
    trivial, Cert.MixerBwdYTie.algebraic,
    trivial, Cert.PleLossTie.algebraic,
    trivial, Cert.DwPleTie.algebraic⟩

end Cert.Proof

end
